-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_v189) = v1 c
          ∧ r.2.mem ((c.tc : Thread Cert.ReferenceIdeal.nD Cert.ReferenceIdeal.τ).loc Cert.ReferenceIdeal.main_v190) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_v13) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S9216x4096 : Shape := ⟨2, ![9216, 4096]⟩
abbrev S8x128 : Shape := ⟨2, ![8, 128]⟩
abbrev S9216x2048 : Shape := ⟨2, ![9216, 2048]⟩
abbrev S9216x1024 : Shape := ⟨2, ![9216, 1024]⟩
abbrev S2304x256 : Shape := ⟨2, ![2304, 256]⟩
abbrev S2304x512 : Shape := ⟨2, ![2304, 512]⟩
abbrev S16x256x512 : Shape := ⟨3, ![16, 256, 512]⟩
abbrev S256x512 : Shape := ⟨2, ![256, 512]⟩
abbrev S1x1 : Shape := ⟨2, ![1, 1]⟩
abbrev S256x256 : Shape := ⟨2, ![256, 256]⟩
abbrev S256x1 : Shape := ⟨2, ![256, 1]⟩
abbrev S1x256x512 : Shape := ⟨3, ![1, 256, 512]⟩
abbrev S128x256 : Shape := ⟨2, ![128, 256]⟩
abbrev S128x512 : Shape := ⟨2, ![128, 512]⟩
abbrev S128x1 : Shape := ⟨2, ![128, 1]⟩
abbrev S1x128 : Shape := ⟨2, ![1, 128]⟩
abbrev S128x128 : Shape := ⟨2, ![128, 128]⟩
abbrev S128 : Shape := ⟨1, ![128]⟩
abbrev S1 : Shape := ⟨1, ![1]⟩
abbrev S1x1x1 : Shape := ⟨3, ![1, 1, 1]⟩
abbrev S1x128x128 : Shape := ⟨3, ![1, 128, 128]⟩
abbrev S256 : Shape := ⟨1, ![256]⟩

abbrev nBuf : Space → Nat
  | .hbm => 7
  | .vmem => 21
  | .smem => 0
  | _ => 0

abbrev bufTy : (tb : Table) → Fin (tcTables nBuf tb) → BufTy
  | .hbm, ⟨0, _⟩ => ⟨S9216x4096, .bf16⟩
  | .hbm, ⟨1, _⟩ => ⟨S8x128, .f32⟩
  | .hbm, ⟨2, _⟩ => ⟨S9216x2048, .bf16⟩
  | .hbm, ⟨3, _⟩ => ⟨S9216x1024, .bf16⟩
  | .hbm, ⟨4, _⟩ => ⟨S9216x1024, .bf16⟩
  | .hbm, ⟨5, _⟩ => ⟨S9216x2048, .bf16⟩
  | .hbm, ⟨6, _⟩ => ⟨S8x128, .f32⟩
  | .local _ .vmem, ⟨0, _⟩ => ⟨S8x128, .f32⟩
  | .local _ .vmem, ⟨1, _⟩ => ⟨S2304x256, .bf16⟩
  | .local _ .vmem, ⟨2, _⟩ => ⟨S2304x256, .bf16⟩
  | .local _ .vmem, ⟨3, _⟩ => ⟨S2304x256, .bf16⟩
  | .local _ .vmem, ⟨4, _⟩ => ⟨S2304x256, .bf16⟩
  | .local _ .vmem, ⟨5, _⟩ => ⟨S2304x512, .bf16⟩
  | .local _ .vmem, ⟨6, _⟩ => ⟨S2304x512, .bf16⟩
  | .local _ .vmem, ⟨7, _⟩ => ⟨S2304x512, .bf16⟩
  | .local _ .vmem, ⟨8, _⟩ => ⟨S2304x512, .bf16⟩
  | .local _ .vmem, ⟨9, _⟩ => ⟨S2304x256, .bf16⟩
  | .local _ .vmem, ⟨10, _⟩ => ⟨S2304x256, .bf16⟩
  | .local _ .vmem, ⟨11, _⟩ => ⟨S2304x256, .bf16⟩
  | .local _ .vmem, ⟨12, _⟩ => ⟨S2304x256, .bf16⟩
  | .local _ .vmem, ⟨13, _⟩ => ⟨S2304x512, .bf16⟩
  | .local _ .vmem, ⟨14, _⟩ => ⟨S2304x512, .bf16⟩
  | .local _ .vmem, ⟨15, _⟩ => ⟨S8x128, .f32⟩
  | .local _ .vmem, ⟨16, _⟩ => ⟨S16x256x512, .f32⟩
  | .local _ .vmem, ⟨17, _⟩ => ⟨S256x512, .f32⟩
  | .local _ .vmem, ⟨18, _⟩ => ⟨S2304x256, .f32⟩
  | .local _ .vmem, ⟨19, _⟩ => ⟨S2304x256, .f32⟩
  | .local _ .vmem, ⟨20, _⟩ => ⟨S2304x512, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![4, 4], ![false, false]⟩

def k0_off1 (i : grid0.Coords) (c0_i32_2 : BitVec 32) : Fin 2 → Nat :=
  let arg1 : BitVec 32 := BitVec.ofNat 32 (i 1).val
  let v5 : BitVec 32 := Scalar.addi c0_i32_2 arg1
  let v6 : Index := Scalar.indexCast v5
  let c0 : Index := 0#32
  ![v6.toNat, 0]
@[reducible] def k0_t1_loop : Scf.Loop 32 :=
  let c0_i32_10 : BitVec 32 := 0#32
  let c15_i32 : BitVec 32 := 15#32
  let v27 : BitVec 32 := Scalar.addi c0_i32_10 c15_i32
  let c1_i32 : BitVec 32 := 1#32
  ⟨c0_i32_10, v27, c1_i32⟩
def k0_off2 (k0_t1 : Fin k0_t1_loop.trips) : Fin 3 → Nat :=
  let c0_i32_10 : BitVec 32 := 0#32
  let c1_i32 : BitVec 32 := 1#32
  let arg16 : BitVec 32 := Scf.iv c0_i32_10 c1_i32 k0_t1
  let v145 : Index := Scalar.indexCast arg16
  let c0_72 : Index := 0#32
  let c0_73 : Index := 0#32
  ![v145.toNat, 0, 0]
def k0_mult1 (k0_t1 : Fin k0_t1_loop.trips) : BitVec 32 :=
  let c0_i32_10 : BitVec 32 := 0#32
  let c1_i32 : BitVec 32 := 1#32
  let arg16 : BitVec 32 := Scf.iv c0_i32_10 c1_i32 k0_t1
  let c128_i32 : BitVec 32 := 128#32
  let v148 : BitVec 32 := Scalar.muli arg16 c128_i32
  v148
def k0_off3 (k0_t1 : Fin k0_t1_loop.trips) : Fin 2 → Nat :=
  let c0_i32_10 : BitVec 32 := 0#32
  let c1_i32 : BitVec 32 := 1#32
  let arg16 : BitVec 32 := Scf.iv c0_i32_10 c1_i32 k0_t1
  let c128_i32 : BitVec 32 := 128#32
  let v148 : BitVec 32 := Scalar.muli arg16 c128_i32
  let v149 : BitVec 32 := v148
  let v150 : Index := Scalar.indexCast v149
  let c0_74 : Index := 0#32
  ![v150.toNat, 0]
def k0_off4 (k0_t1 : Fin k0_t1_loop.trips) : Fin 2 → Nat :=
  let c0_i32_10 : BitVec 32 := 0#32
  let c1_i32 : BitVec 32 := 1#32
  let arg16 : BitVec 32 := Scf.iv c0_i32_10 c1_i32 k0_t1
  let c128_i32 : BitVec 32 := 128#32
  let v148 : BitVec 32 := Scalar.muli arg16 c128_i32
  let v149 : BitVec 32 := v148
  let v153 : Index := Scalar.indexCast v149
  let c0_75 : Index := 0#32
  ![v153.toNat, 0]
def k0_off5 (k0_t1 : Fin k0_t1_loop.trips) : Fin 3 → Nat :=
  let c0_i32_10 : BitVec 32 := 0#32
  let c1_i32 : BitVec 32 := 1#32
  let arg16 : BitVec 32 := Scf.iv c0_i32_10 c1_i32 k0_t1
  let c1_i32_79 : BitVec 32 := 1#32
  let v174 : BitVec 32 := Scalar.addi arg16 c1_i32_79
  let v175 : Index := Scalar.indexCast v174
  let c0_80 : Index := 0#32
  let c0_81 : Index := 0#32
  ![v175.toNat, 0, 0]
@[reducible] def k0_t2_loop : Scf.Loop 32 :=
  let c0_i32_16 : BitVec 32 := 0#32
  let c16_i32 : BitVec 32 := 16#32
  let v33 : BitVec 32 := Scalar.addi c0_i32_16 c16_i32
  let c1_i32_17 : BitVec 32 := 1#32
  ⟨c0_i32_16, v33, c1_i32_17⟩
def k0_mult2 (k0_t2 : Fin k0_t2_loop.trips) : BitVec 32 :=
  let c15_i32_72 : BitVec 32 := 15#32
  let c0_i32_16 : BitVec 32 := 0#32
  let c1_i32_17 : BitVec 32 := 1#32
  let arg16 : BitVec 32 := Scf.iv c0_i32_16 c1_i32_17 k0_t2
  let v145 : BitVec 32 := Scalar.subi c15_i32_72 arg16
  let c128_i32 : BitVec 32 := 128#32
  let v146 : BitVec 32 := Scalar.muli v145 c128_i32
  v146
def k0_off6 (k0_t2 : Fin k0_t2_loop.trips) : Fin 3 → Nat :=
  let c15_i32_72 : BitVec 32 := 15#32
  let c0_i32_16 : BitVec 32 := 0#32
  let c1_i32_17 : BitVec 32 := 1#32
  let arg16 : BitVec 32 := Scf.iv c0_i32_16 c1_i32_17 k0_t2
  let v145 : BitVec 32 := Scalar.subi c15_i32_72 arg16
  let v148 : Index := Scalar.indexCast v145
  let c0_73 : Index := 0#32
  let c0_74 : Index := 0#32
  ![v148.toNat, 0, 0]
def k0_off7 (k0_t2 : Fin k0_t2_loop.trips) : Fin 2 → Nat :=
  let c15_i32_72 : BitVec 32 := 15#32
  let c0_i32_16 : BitVec 32 := 0#32
  let c1_i32_17 : BitVec 32 := 1#32
  let arg16 : BitVec 32 := Scf.iv c0_i32_16 c1_i32_17 k0_t2
  let v145 : BitVec 32 := Scalar.subi c15_i32_72 arg16
  let c128_i32 : BitVec 32 := 128#32
  let v146 : BitVec 32 := Scalar.muli v145 c128_i32
  let v147 : BitVec 32 := v146
  let v151 : Index := Scalar.indexCast v147
  let c0_75 : Index := 0#32
  ![v151.toNat, 0]
def k0_off8 (k0_t2 : Fin k0_t2_loop.trips) : Fin 2 → Nat :=
  let c15_i32_72 : BitVec 32 := 15#32
  let c0_i32_16 : BitVec 32 := 0#32
  let c1_i32_17 : BitVec 32 := 1#32
  let arg16 : BitVec 32 := Scf.iv c0_i32_16 c1_i32_17 k0_t2
  let v145 : BitVec 32 := Scalar.subi c15_i32_72 arg16
  let c128_i32 : BitVec 32 := 128#32
  let v146 : BitVec 32 := Scalar.muli v145 c128_i32
  let v147 : BitVec 32 := v146
  let v157 : Index := Scalar.indexCast v147
  let c0_77 : Index := 0#32
  ![v157.toNat, 0]
def k0_off9 (i : grid0.Coords) (c0_i32_2 : BitVec 32) : Fin 2 → Nat :=
  let arg1 : BitVec 32 := BitVec.ofNat 32 (i 1).val
  let v5 : BitVec 32 := Scalar.addi c0_i32_2 arg1
  let v66 : Index := Scalar.indexCast v5
  let c0_30 : Index := 0#32
  ![v66.toNat, 0]
@[reducible] def k0_t3_loop : Scf.Loop 32 :=
  let c0_i32_41 : BitVec 32 := 0#32
  let c15_i32_42 : BitVec 32 := 15#32
  let v95 : BitVec 32 := Scalar.addi c0_i32_41 c15_i32_42
  let c1_i32_43 : BitVec 32 := 1#32
  ⟨c0_i32_41, v95, c1_i32_43⟩
def k0_off10 (k0_t3 : Fin k0_t3_loop.trips) : Fin 3 → Nat :=
  let c0_i32_41 : BitVec 32 := 0#32
  let c1_i32_43 : BitVec 32 := 1#32
  let arg16 : BitVec 32 := Scf.iv c0_i32_41 c1_i32_43 k0_t3
  let v145 : Index := Scalar.indexCast arg16
  let c0_72 : Index := 0#32
  let c0_73 : Index := 0#32
  ![v145.toNat, 0, 0]
def k0_mult3 (k0_t3 : Fin k0_t3_loop.trips) : BitVec 32 :=
  let c15_i32_74 : BitVec 32 := 15#32
  let c0_i32_41 : BitVec 32 := 0#32
  let c1_i32_43 : BitVec 32 := 1#32
  let arg16 : BitVec 32 := Scf.iv c0_i32_41 c1_i32_43 k0_t3
  let v148 : BitVec 32 := Scalar.subi c15_i32_74 arg16
  let c128_i32 : BitVec 32 := 128#32
  let v149 : BitVec 32 := Scalar.muli v148 c128_i32
  v149
def k0_off11 (k0_t3 : Fin k0_t3_loop.trips) : Fin 2 → Nat :=
  let c15_i32_74 : BitVec 32 := 15#32
  let c0_i32_41 : BitVec 32 := 0#32
  let c1_i32_43 : BitVec 32 := 1#32
  let arg16 : BitVec 32 := Scf.iv c0_i32_41 c1_i32_43 k0_t3
  let v148 : BitVec 32 := Scalar.subi c15_i32_74 arg16
  let c128_i32 : BitVec 32 := 128#32
  let v149 : BitVec 32 := Scalar.muli v148 c128_i32
  let v150 : BitVec 32 := v149
  let v151 : Index := Scalar.indexCast v150
  let c0_75 : Index := 0#32
  ![v151.toNat, 0]
def k0_off12 (k0_t3 : Fin k0_t3_loop.trips) : Fin 2 → Nat :=
  let c15_i32_74 : BitVec 32 := 15#32
  let c0_i32_41 : BitVec 32 := 0#32
  let c1_i32_43 : BitVec 32 := 1#32
  let arg16 : BitVec 32 := Scf.iv c0_i32_41 c1_i32_43 k0_t3
  let v148 : BitVec 32 := Scalar.subi c15_i32_74 arg16
  let c128_i32 : BitVec 32 := 128#32
  let v149 : BitVec 32 := Scalar.muli v148 c128_i32
  let v150 : BitVec 32 := v149
  let v154 : Index := Scalar.indexCast v150
  let c0_76 : Index := 0#32
  ![v154.toNat, 0]
def k0_off13 (k0_t3 : Fin k0_t3_loop.trips) : Fin 3 → Nat :=
  let c0_i32_41 : BitVec 32 := 0#32
  let c1_i32_43 : BitVec 32 := 1#32
  let arg16 : BitVec 32 := Scf.iv c0_i32_41 c1_i32_43 k0_t3
  let c1_i32_79 : BitVec 32 := 1#32
  let v173 : BitVec 32 := Scalar.addi arg16 c1_i32_79
  let v174 : Index := Scalar.indexCast v173
  let c0_80 : Index := 0#32
  let c0_81 : Index := 0#32
  ![v174.toNat, 0, 0]
@[reducible] def k0_t4_loop : Scf.Loop 32 :=
  let c0_i32_49 : BitVec 32 := 0#32
  let c16_i32_50 : BitVec 32 := 16#32
  let v101 : BitVec 32 := Scalar.addi c0_i32_49 c16_i32_50
  let c1_i32_51 : BitVec 32 := 1#32
  ⟨c0_i32_49, v101, c1_i32_51⟩
def k0_mult4 (k0_t4 : Fin k0_t4_loop.trips) : BitVec 32 :=
  let c15_i32_73 : BitVec 32 := 15#32
  let c15_i32_72 : BitVec 32 := 15#32
  let c0_i32_49 : BitVec 32 := 0#32
  let c1_i32_51 : BitVec 32 := 1#32
  let arg16 : BitVec 32 := Scf.iv c0_i32_49 c1_i32_51 k0_t4
  let v145 : BitVec 32 := Scalar.subi c15_i32_72 arg16
  let v146 : BitVec 32 := Scalar.subi c15_i32_73 v145
  let c128_i32 : BitVec 32 := 128#32
  let v147 : BitVec 32 := Scalar.muli v146 c128_i32
  v147
def k0_off14 (k0_t4 : Fin k0_t4_loop.trips) : Fin 3 → Nat :=
  let c15_i32_72 : BitVec 32 := 15#32
  let c0_i32_49 : BitVec 32 := 0#32
  let c1_i32_51 : BitVec 32 := 1#32
  let arg16 : BitVec 32 := Scf.iv c0_i32_49 c1_i32_51 k0_t4
  let v145 : BitVec 32 := Scalar.subi c15_i32_72 arg16
  let v149 : Index := Scalar.indexCast v145
  let c0_74 : Index := 0#32
  let c0_75 : Index := 0#32
  ![v149.toNat, 0, 0]
def k0_off15 (k0_t4 : Fin k0_t4_loop.trips) : Fin 2 → Nat :=
  let c15_i32_73 : BitVec 32 := 15#32
  let c15_i32_72 : BitVec 32 := 15#32
  let c0_i32_49 : BitVec 32 := 0#32
  let c1_i32_51 : BitVec 32 := 1#32
  let arg16 : BitVec 32 := Scf.iv c0_i32_49 c1_i32_51 k0_t4
  let v145 : BitVec 32 := Scalar.subi c15_i32_72 arg16
  let v146 : BitVec 32 := Scalar.subi c15_i32_73 v145
  let c128_i32 : BitVec 32 := 128#32
  let v147 : BitVec 32 := Scalar.muli v146 c128_i32
  let v148 : BitVec 32 := v147
  let v152 : Index := Scalar.indexCast v148
  let c0_76 : Index := 0#32
  ![v152.toNat, 0]
def k0_off16 (k0_t4 : Fin k0_t4_loop.trips) : Fin 2 → Nat :=
  let c15_i32_73 : BitVec 32 := 15#32
  let c15_i32_72 : BitVec 32 := 15#32
  let c0_i32_49 : BitVec 32 := 0#32
  let c1_i32_51 : BitVec 32 := 1#32
  let arg16 : BitVec 32 := Scf.iv c0_i32_49 c1_i32_51 k0_t4
  let v145 : BitVec 32 := Scalar.subi c15_i32_72 arg16
  let v146 : BitVec 32 := Scalar.subi c15_i32_73 v145
  let c128_i32 : BitVec 32 := 128#32
  let v147 : BitVec 32 := Scalar.muli v146 c128_i32
  let v148 : BitVec 32 := v147
  let v158 : Index := Scalar.indexCast v148
  let c0_78 : Index := 0#32
  ![v158.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2304x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2304x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2304x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2304x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2304x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2304x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S9216x4096 : Shape := ⟨2, ![9216, 4096]⟩
abbrev S8x128 : Shape := ⟨2, ![8, 128]⟩
abbrev S9216x2048 : Shape := ⟨2, ![9216, 2048]⟩
abbrev S4x2304x4096 : Shape := ⟨3, ![4, 2304, 4096]⟩
abbrev S4x2048x1024 : Shape := ⟨3, ![4, 2048, 1024]⟩
abbrev S4x2048x4x256 : Shape := ⟨4, ![4, 2048, 4, 256]⟩
abbrev S4x2048x2048 : Shape := ⟨3, ![4, 2048, 2048]⟩
abbrev S4x2048x4x512 : Shape := ⟨4, ![4, 2048, 4, 512]⟩
abbrev S4x256x1024 : Shape := ⟨3, ![4, 256, 1024]⟩
abbrev S4x256x4x256 : Shape := ⟨4, ![4, 256, 4, 256]⟩
abbrev S4x256x2048 : Shape := ⟨3, ![4, 256, 2048]⟩
abbrev S4x256x4x512 : Shape := ⟨4, ![4, 256, 4, 512]⟩
abbrev S4x2304x2048 : Shape := ⟨3, ![4, 2304, 2048]⟩
abbrev S8x1 : Shape := ⟨2, ![8, 1]⟩
abbrev S8 : Shape := ⟨1, ![8]⟩
abbrev S2x4 : Shape := ⟨2, ![2, 4]⟩
abbrev S1x4x256x4x256 : Shape := ⟨5, ![1, 4, 256, 4, 256]⟩
abbrev S2x4x256x4x256 : Shape := ⟨5, ![2, 4, 256, 4, 256]⟩
abbrev S1x4x256x4x512 : Shape := ⟨5, ![1, 4, 256, 4, 512]⟩
abbrev S2x4x256x4x512 : Shape := ⟨5, ![2, 4, 256, 4, 512]⟩
abbrev S256 : Shape := ⟨1, ![256]⟩
abbrev S2x1x4 : Shape := ⟨3, ![2, 1, 4]⟩
abbrev S_ : Shape := ⟨0, ![]⟩
abbrev S256x1 : Shape := ⟨2, ![256, 1]⟩
abbrev S1x256x1 : Shape := ⟨3, ![1, 256, 1]⟩
abbrev S2x256x4 : Shape := ⟨3, ![2, 256, 4]⟩
abbrev S2x1x256x4x1 : Shape := ⟨5, ![2, 1, 256, 4, 1]⟩
abbrev S2x4x4x256x512 : Shape := ⟨5, ![2, 4, 4, 256, 512]⟩
abbrev S1x4x2048x4x256 : Shape := ⟨5, ![1, 4, 2048, 4, 256]⟩
abbrev S2x4x2048x4x256 : Shape := ⟨5, ![2, 4, 2048, 4, 256]⟩
abbrev S1x4x2048x4x512 : Shape := ⟨5, ![1, 4, 2048, 4, 512]⟩
abbrev S2x4x2048x4x512 : Shape := ⟨5, ![2, 4, 2048, 4, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S2x4x1x1 : Shape := ⟨4, ![2, 4, 1, 1]⟩
abbrev S1x128x128 : Shape := ⟨3, ![1, 128, 128]⟩
abbrev S1x1x128x128 : Shape := ⟨4, ![1, 1, 128, 128]⟩
abbrev S2x4x128x128 : Shape := ⟨4, ![2, 4, 128, 128]⟩
abbrev S4x128x128 : Shape := ⟨3, ![4, 128, 128]⟩
abbrev S1x128x1 : Shape := ⟨3, ![1, 128, 1]⟩
abbrev S2x128x4 : Shape := ⟨3, ![2, 128, 4]⟩
abbrev S2x1x128x4x1 : Shape := ⟨5, ![2, 1, 128, 4, 1]⟩
abbrev S2x1x4x1x1 : Shape := ⟨5, ![2, 1, 4, 1, 1]⟩
abbrev S2x4x16x128x4x256 : Shape := ⟨6, ![2, 4, 16, 128, 4, 256]⟩
abbrev S2x16x4x128x4x256 : Shape := ⟨6, ![2, 16, 4, 128, 4, 256]⟩
abbrev S2x4x16x128x4x512 : Shape := ⟨6, ![2, 4, 16, 128, 4, 512]⟩
abbrev S2x16x4x128x4x512 : Shape := ⟨6, ![2, 16, 4, 128, 4, 512]⟩
abbrev S16x2x4x128x4x256 : Shape := ⟨6, ![16, 2, 4, 128, 4, 256]⟩
abbrev S16x2x4x128x4x512 : Shape := ⟨6, ![16, 2, 4, 128, 4, 512]⟩
abbrev S2x1x4x128x128 : Shape := ⟨5, ![2, 1, 4, 128, 128]⟩
abbrev S16x2x4x4x128x128 : Shape := ⟨6, ![16, 2, 4, 4, 128, 128]⟩
abbrev S16x2x4x4x256x512 : Shape := ⟨6, ![16, 2, 4, 4, 256, 512]⟩
abbrev S1x2x4x128x4x256 : Shape := ⟨6, ![1, 2, 4, 128, 4, 256]⟩
abbrev S2x4x128x4x256 : Shape := ⟨5, ![2, 4, 128, 4, 256]⟩
abbrev S1x2x4x128x4x512 : Shape := ⟨6, ![1, 2, 4, 128, 4, 512]⟩
abbrev S2x4x128x4x512 : Shape := ⟨5, ![2, 4, 128, 4, 512]⟩
abbrev S2x4x4x128x128 : Shape := ⟨5, ![2, 4, 4, 128, 128]⟩
abbrev S2x4x4x512x128 : Shape := ⟨5, ![2, 4, 4, 512, 128]⟩
abbrev S1x2x4x4x128x128 : Shape := ⟨6, ![1, 2, 4, 4, 128, 128]⟩
abbrev S1x2x4x4x256x512 : Shape := ⟨6, ![1, 2, 4, 4, 256, 512]⟩
abbrev S2x4x4x256x128 : Shape := ⟨5, ![2, 4, 4, 256, 128]⟩
abbrev S2x4x4x128x256 : Shape := ⟨5, ![2, 4, 4, 128, 256]⟩
abbrev S2x4x4x512x256 : Shape := ⟨5, ![2, 4, 4, 512, 256]⟩
abbrev S2x4x4x256x256 : Shape := ⟨5, ![2, 4, 4, 256, 256]⟩
abbrev S4x2304x1024 : Shape := ⟨3, ![4, 2304, 1024]⟩
abbrev S9216x1024 : Shape := ⟨2, ![9216, 1024]⟩

abbrev nBuf : Space → Nat
  | .hbm => 422
  | .vmem => 0
  | .smem => 0
  | _ => 0

abbrev hbmTy0_0 (i : Nat) : BufTy := match i % 128 with
  | 0 => ⟨S9216x4096, .bf16⟩
  | 1 => ⟨S8x128, .f32⟩
  | 2 => ⟨S9216x2048, .bf16⟩
  | 3 => ⟨S9216x4096, .f32⟩
  | 4 => ⟨S4x2304x4096, .f32⟩
  | 5 => ⟨S4x2048x1024, .f32⟩
  | 6 => ⟨S4x2048x4x256, .f32⟩
  | 7 => ⟨S4x2048x1024, .f32⟩
  | 8 => ⟨S4x2048x4x256, .f32⟩
  | 9 => ⟨S4x2048x2048, .f32⟩
  | 10 => ⟨S4x2048x4x512, .f32⟩
  | 11 => ⟨S4x256x1024, .f32⟩
  | 12 => ⟨S4x256x4x256, .f32⟩
  | 13 => ⟨S4x256x2048, .f32⟩
  | 14 => ⟨S4x256x4x512, .f32⟩
  | 15 => ⟨S9216x2048, .f32⟩
  | 16 => ⟨S4x2304x2048, .f32⟩
  | 17 => ⟨S4x2048x2048, .f32⟩
  | 18 => ⟨S4x2048x4x512, .f32⟩
  | 19 => ⟨S8x1, .f32⟩
  | 20 => ⟨S8, .f32⟩
  | 21 => ⟨S2x4, .f32⟩
  | 22 => ⟨S4x256x4x256, .f32⟩
  | 23 => ⟨S1x4x256x4x256, .f32⟩
  | 24 => ⟨S1x4x256x4x256, .f32⟩
  | 25 => ⟨S2x4x256x4x256, .f32⟩
  | 26 => ⟨S4x256x4x512, .f32⟩
  | 27 => ⟨S1x4x256x4x512, .f32⟩
  | 28 => ⟨S1x4x256x4x512, .f32⟩
  | 29 => ⟨S2x4x256x4x512, .f32⟩
  | 30 => ⟨S256, .f32⟩
  | 31 => ⟨S2x1x4, .f32⟩
  | 32 => ⟨S_, .f32⟩
  | 33 => ⟨S256, .f32⟩
  | 34 => ⟨S256, .f32⟩
  | 35 => ⟨S256x1, .f32⟩
  | 36 => ⟨S1x256x1, .f32⟩
  | 37 => ⟨S2x256x4, .f32⟩
  | 38 => ⟨S2x256x4, .f32⟩
  | 39 => ⟨S2x256x4, .f32⟩
  | 40 => ⟨S2x256x4, .f32⟩
  | 41 => ⟨S2x1x256x4x1, .f32⟩
  | 42 => ⟨S2x4x256x4x256, .f32⟩
  | 43 => ⟨S2x4x256x4x256, .f32⟩
  | 44 => ⟨S2x4x4x256x512, .f32⟩
  | 45 => ⟨S4x2048x4x256, .f32⟩
  | 46 => ⟨S1x4x2048x4x256, .f32⟩
  | 47 => ⟨S1x4x2048x4x256, .f32⟩
  | 48 => ⟨S2x4x2048x4x256, .f32⟩
  | 49 => ⟨S4x2048x4x256, .f32⟩
  | 50 => ⟨S1x4x2048x4x256, .f32⟩
  | 51 => ⟨S1x4x2048x4x256, .f32⟩
  | 52 => ⟨S2x4x2048x4x256, .f32⟩
  | 53 => ⟨S4x2048x4x512, .f32⟩
  | 54 => ⟨S1x4x2048x4x512, .f32⟩
  | 55 => ⟨S1x4x2048x4x512, .f32⟩
  | 56 => ⟨S2x4x2048x4x512, .f32⟩
  | 57 => ⟨S128, .f32⟩
  | 58 => ⟨S128x1, .f32⟩
  | 59 => ⟨S1x128, .f32⟩
  | 60 => ⟨S128x128, .f32⟩
  | 61 => ⟨S128x128, .f32⟩
  | 62 => ⟨S128x128, .f32⟩
  | 63 => ⟨S_, .f32⟩
  | 64 => ⟨S128x128, .f32⟩
  | 65 => ⟨S128x128, .i1⟩
  | 66 => ⟨S2x4x1x1, .f32⟩
  | 67 => ⟨S_, .f32⟩
  | 68 => ⟨S128x128, .f32⟩
  | 69 => ⟨S128x128, .f32⟩
  | 70 => ⟨S1x128x128, .f32⟩
  | 71 => ⟨S1x1x128x128, .f32⟩
  | 72 => ⟨S2x4x128x128, .f32⟩
  | 73 => ⟨S2x4x128x128, .f32⟩
  | 74 => ⟨S2x4x128x128, .f32⟩
  | 75 => ⟨S2x4x128x128, .f32⟩
  | 76 => ⟨S_, .f32⟩
  | 77 => ⟨S_, .f32⟩
  | 78 => ⟨S4x128x128, .i1⟩
  | 79 => ⟨S4x128x128, .f32⟩
  | 80 => ⟨S2x4x128x128, .i1⟩
  | 81 => ⟨S2x4x128x128, .f32⟩
  | 82 => ⟨S2x4x128x128, .f32⟩
  | 83 => ⟨S2x1x4, .f32⟩
  | 84 => ⟨S_, .f32⟩
  | 85 => ⟨S128, .f32⟩
  | 86 => ⟨S128, .f32⟩
  | 87 => ⟨S128x1, .f32⟩
  | 88 => ⟨S1x128x1, .f32⟩
  | 89 => ⟨S2x128x4, .f32⟩
  | 90 => ⟨S2x128x4, .f32⟩
  | 91 => ⟨S2x128x4, .f32⟩
  | 92 => ⟨S2x128x4, .f32⟩
  | 93 => ⟨S2x1x128x4x1, .f32⟩
  | 94 => ⟨S2x1x4, .f32⟩
  | 95 => ⟨S_, .f32⟩
  | 96 => ⟨S128, .f32⟩
  | 97 => ⟨S128, .f32⟩
  | 98 => ⟨S128x1, .f32⟩
  | 99 => ⟨S1x128x1, .f32⟩
  | 100 => ⟨S2x128x4, .f32⟩
  | 101 => ⟨S2x128x4, .f32⟩
  | 102 => ⟨S2x128x4, .f32⟩
  | 103 => ⟨S2x128x4, .f32⟩
  | 104 => ⟨S2x1x128x4x1, .f32⟩
  | 105 => ⟨S_, .f32⟩
  | 106 => ⟨S2x4, .f32⟩
  | 107 => ⟨S2x4, .f32⟩
  | 108 => ⟨S2x4, .f32⟩
  | 109 => ⟨S2x1x4x1x1, .f32⟩
  | 110 => ⟨S2x4x16x128x4x256, .f32⟩
  | 111 => ⟨S2x16x4x128x4x256, .f32⟩
  | 112 => ⟨S2x4x16x128x4x256, .f32⟩
  | 113 => ⟨S2x16x4x128x4x256, .f32⟩
  | 114 => ⟨S2x4x16x128x4x512, .f32⟩
  | 115 => ⟨S2x16x4x128x4x512, .f32⟩
  | 116 => ⟨S16x2x4x128x4x256, .f32⟩
  | 117 => ⟨S16x2x4x128x4x256, .f32⟩
  | 118 => ⟨S16x2x4x128x4x512, .f32⟩
  | 119 => ⟨S2x1x4x128x128, .f32⟩
  | 120 => ⟨S_, .f32⟩
  | 121 => ⟨S16x2x4x128x4x512, .f32⟩
  | 122 => ⟨S_, .f32⟩
  | 123 => ⟨S16x2x4x4x128x128, .f32⟩
  | 124 => ⟨S_, .f32⟩
  | 125 => ⟨S16x2x4x4x256x512, .f32⟩
  | 126 => ⟨S_, .f32⟩
  | 127 => ⟨S16x2x4x128x4x256, .f32⟩
  | _ => ⟨S9216x4096, .bf16⟩

abbrev hbmTy0_1 (i : Nat) : BufTy := match i % 128 with
  | 0 => ⟨S_, .i32⟩
  | 1 => ⟨S16x2x4x128x4x256, .f32⟩
  | 2 => ⟨S16x2x4x128x4x256, .f32⟩
  | 3 => ⟨S16x2x4x128x4x512, .f32⟩
  | 4 => ⟨S2x1x4x1x1, .f32⟩
  | 5 => ⟨S2x1x128x4x1, .f32⟩
  | 6 => ⟨S2x1x4x128x128, .f32⟩
  | 7 => ⟨S2x1x128x4x1, .f32⟩
  | 8 => ⟨S_, .i32⟩
  | 9 => ⟨S2x4x4x256x512, .f32⟩
  | 10 => ⟨S16x2x4x128x4x512, .f32⟩
  | 11 => ⟨S16x2x4x4x128x128, .f32⟩
  | 12 => ⟨S16x2x4x4x256x512, .f32⟩
  | 13 => ⟨S16x2x4x128x4x256, .f32⟩
  | 14 => ⟨S_, .i32⟩
  | 15 => ⟨S_, .i1⟩
  | 16 => ⟨S_, .i32⟩
  | 17 => ⟨S_, .i32⟩
  | 18 => ⟨S_, .i32⟩
  | 19 => ⟨S_, .i32⟩
  | 20 => ⟨S_, .i32⟩
  | 21 => ⟨S1x2x4x128x4x256, .f32⟩
  | 22 => ⟨S2x4x128x4x256, .f32⟩
  | 23 => ⟨S_, .i32⟩
  | 24 => ⟨S_, .i32⟩
  | 25 => ⟨S_, .i32⟩
  | 26 => ⟨S_, .i32⟩
  | 27 => ⟨S_, .i32⟩
  | 28 => ⟨S1x2x4x128x4x256, .f32⟩
  | 29 => ⟨S2x4x128x4x256, .f32⟩
  | 30 => ⟨S_, .i32⟩
  | 31 => ⟨S_, .i32⟩
  | 32 => ⟨S_, .i32⟩
  | 33 => ⟨S_, .i32⟩
  | 34 => ⟨S_, .i32⟩
  | 35 => ⟨S1x2x4x128x4x512, .f32⟩
  | 36 => ⟨S2x4x128x4x512, .f32⟩
  | 37 => ⟨S2x4x4x128x128, .f32⟩
  | 38 => ⟨S2x4x4x128x128, .f32⟩
  | 39 => ⟨S2x4x4x128x128, .f32⟩
  | 40 => ⟨S2x4x4x512x128, .f32⟩
  | 41 => ⟨S2x4x128x4x512, .f32⟩
  | 42 => ⟨S2x4x4x512x128, .f32⟩
  | 43 => ⟨S2x4x128x4x512, .f32⟩
  | 44 => ⟨S2x4x128x4x512, .f32⟩
  | 45 => ⟨S2x4x128x4x512, .f32⟩
  | 46 => ⟨S2x4x4x256x512, .f32⟩
  | 47 => ⟨S2x4x4x256x512, .f32⟩
  | 48 => ⟨S2x4x128x4x256, .f32⟩
  | 49 => ⟨S2x4x128x4x256, .f32⟩
  | 50 => ⟨S2x4x4x256x512, .f32⟩
  | 51 => ⟨S2x4x4x256x512, .f32⟩
  | 52 => ⟨S2x4x128x4x512, .f32⟩
  | 53 => ⟨S1x2x4x128x4x512, .f32⟩
  | 54 => ⟨S_, .i32⟩
  | 55 => ⟨S_, .i32⟩
  | 56 => ⟨S_, .i32⟩
  | 57 => ⟨S_, .i32⟩
  | 58 => ⟨S_, .i32⟩
  | 59 => ⟨S16x2x4x128x4x512, .f32⟩
  | 60 => ⟨S1x2x4x4x128x128, .f32⟩
  | 61 => ⟨S_, .i32⟩
  | 62 => ⟨S_, .i32⟩
  | 63 => ⟨S_, .i32⟩
  | 64 => ⟨S_, .i32⟩
  | 65 => ⟨S_, .i32⟩
  | 66 => ⟨S16x2x4x4x128x128, .f32⟩
  | 67 => ⟨S1x2x4x4x256x512, .f32⟩
  | 68 => ⟨S_, .i32⟩
  | 69 => ⟨S_, .i32⟩
  | 70 => ⟨S_, .i32⟩
  | 71 => ⟨S_, .i32⟩
  | 72 => ⟨S_, .i32⟩
  | 73 => ⟨S16x2x4x4x256x512, .f32⟩
  | 74 => ⟨S1x2x4x128x4x256, .f32⟩
  | 75 => ⟨S_, .i32⟩
  | 76 => ⟨S_, .i32⟩
  | 77 => ⟨S_, .i32⟩
  | 78 => ⟨S_, .i32⟩
  | 79 => ⟨S_, .i32⟩
  | 80 => ⟨S16x2x4x128x4x256, .f32⟩
  | 81 => ⟨S_, .i32⟩
  | 82 => ⟨S_, .i32⟩
  | 83 => ⟨S2x4x16x128x4x512, .f32⟩
  | 84 => ⟨S2x4x2048x4x512, .f32⟩
  | 85 => ⟨S1x4x2048x4x512, .f32⟩
  | 86 => ⟨S4x2048x4x512, .f32⟩
  | 87 => ⟨S1x4x2048x4x512, .f32⟩
  | 88 => ⟨S4x2048x4x512, .f32⟩
  | 89 => ⟨S4x2048x4x512, .f32⟩
  | 90 => ⟨S4x2048x4x512, .f32⟩
  | 91 => ⟨S4x2048x4x512, .f32⟩
  | 92 => ⟨S1x4x2048x4x512, .f32⟩
  | 93 => ⟨S_, .f32⟩
  | 94 => ⟨S2x4x2048x4x512, .f32⟩
  | 95 => ⟨S1x4x2048x4x512, .f32⟩
  | 96 => ⟨S_, .f32⟩
  | 97 => ⟨S2x4x2048x4x512, .f32⟩
  | 98 => ⟨S2x4x2048x4x512, .f32⟩
  | 99 => ⟨S2x4x16x128x4x512, .f32⟩
  | 100 => ⟨S16x2x4x128x4x512, .f32⟩
  | 101 => ⟨S_, .f32⟩
  | 102 => ⟨S2x4x4x256x512, .f32⟩
  | 103 => ⟨S_, .f32⟩
  | 104 => ⟨S16x2x4x128x4x256, .f32⟩
  | 105 => ⟨S_, .f32⟩
  | 106 => ⟨S16x2x4x128x4x256, .f32⟩
  | 107 => ⟨S_, .f32⟩
  | 108 => ⟨S16x2x4x128x4x512, .f32⟩
  | 109 => ⟨S_, .i32⟩
  | 110 => ⟨S16x2x4x128x4x512, .f32⟩
  | 111 => ⟨S16x2x4x128x4x256, .f32⟩
  | 112 => ⟨S16x2x4x128x4x256, .f32⟩
  | 113 => ⟨S16x2x4x4x128x128, .f32⟩
  | 114 => ⟨S16x2x4x128x4x512, .f32⟩
  | 115 => ⟨S16x2x4x4x256x512, .f32⟩
  | 116 => ⟨S16x2x4x128x4x256, .f32⟩
  | 117 => ⟨S2x1x4x128x128, .f32⟩
  | 118 => ⟨S2x1x128x4x1, .f32⟩
  | 119 => ⟨S2x1x4x1x1, .f32⟩
  | 120 => ⟨S2x1x128x4x1, .f32⟩
  | 121 => ⟨S_, .i32⟩
  | 122 => ⟨S2x4x4x256x512, .f32⟩
  | 123 => ⟨S16x2x4x128x4x256, .f32⟩
  | 124 => ⟨S16x2x4x128x4x256, .f32⟩
  | 125 => ⟨S16x2x4x128x4x512, .f32⟩
  | 126 => ⟨S_, .i32⟩
  | 127 => ⟨S_, .i1⟩
  | _ => ⟨S9216x4096, .bf16⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S1x2x4x128x4x512, .f32⟩
  | 10 => ⟨S2x4x128x4x512, .f32⟩
  | 11 => ⟨S_, .i32⟩
  | 12 => ⟨S_, .i32⟩
  | 13 => ⟨S_, .i32⟩
  | 14 => ⟨S_, .i32⟩
  | 15 => ⟨S_, .i32⟩
  | 16 => ⟨S1x2x4x128x4x256, .f32⟩
  | 17 => ⟨S2x4x128x4x256, .f32⟩
  | 18 => ⟨S_, .i32⟩
  | 19 => ⟨S_, .i32⟩
  | 20 => ⟨S_, .i32⟩
  | 21 => ⟨S_, .i32⟩
  | 22 => ⟨S_, .i32⟩
  | 23 => ⟨S1x2x4x128x4x256, .f32⟩
  | 24 => ⟨S2x4x128x4x256, .f32⟩
  | 25 => ⟨S_, .i32⟩
  | 26 => ⟨S_, .i32⟩
  | 27 => ⟨S_, .i32⟩
  | 28 => ⟨S_, .i32⟩
  | 29 => ⟨S_, .i32⟩
  | 30 => ⟨S1x2x4x4x128x128, .f32⟩
  | 31 => ⟨S2x4x4x128x128, .f32⟩
  | 32 => ⟨S_, .i32⟩
  | 33 => ⟨S_, .i32⟩
  | 34 => ⟨S_, .i32⟩
  | 35 => ⟨S_, .i32⟩
  | 36 => ⟨S_, .i32⟩
  | 37 => ⟨S1x2x4x128x4x512, .f32⟩
  | 38 => ⟨S2x4x128x4x512, .f32⟩
  | 39 => ⟨S_, .i32⟩
  | 40 => ⟨S_, .i32⟩
  | 41 => ⟨S_, .i32⟩
  | 42 => ⟨S_, .i32⟩
  | 43 => ⟨S_, .i32⟩
  | 44 => ⟨S1x2x4x4x256x512, .f32⟩
  | 45 => ⟨S2x4x4x256x512, .f32⟩
  | 46 => ⟨S_, .i32⟩
  | 47 => ⟨S_, .i32⟩
  | 48 => ⟨S_, .i32⟩
  | 49 => ⟨S_, .i32⟩
  | 50 => ⟨S_, .i32⟩
  | 51 => ⟨S1x2x4x128x4x256, .f32⟩
  | 52 => ⟨S2x4x128x4x256, .f32⟩
  | 53 => ⟨S2x4x4x512x128, .f32⟩
  | 54 => ⟨S2x4x128x4x512, .f32⟩
  | 55 => ⟨S2x4x4x256x128, .f32⟩
  | 56 => ⟨S2x4x128x4x256, .f32⟩
  | 57 => ⟨S2x4x128x4x256, .f32⟩
  | 58 => ⟨S2x4x128x4x256, .f32⟩
  | 59 => ⟨S2x4x4x256x512, .f32⟩
  | 60 => ⟨S2x4x4x256x512, .f32⟩
  | 61 => ⟨S2x4x128x4x512, .f32⟩
  | 62 => ⟨S2x4x128x4x512, .f32⟩
  | 63 => ⟨S2x4x4x512x128, .f32⟩
  | 64 => ⟨S2x4x4x128x256, .f32⟩
  | 65 => ⟨S2x4x128x4x256, .f32⟩
  | 66 => ⟨S2x4x4x512x256, .f32⟩
  | 67 => ⟨S2x4x4x256x512, .f32⟩
  | 68 => ⟨S2x4x4x256x512, .f32⟩
  | 69 => ⟨S2x4x4x512x128, .f32⟩
  | 70 => ⟨S2x4x4x128x128, .f32⟩
  | 71 => ⟨S2x4x4x512x128, .f32⟩
  | 72 => ⟨S2x4x128x4x512, .f32⟩
  | 73 => ⟨S2x4x128x4x512, .f32⟩
  | 74 => ⟨S2x4x4x128x128, .f32⟩
  | 75 => ⟨S2x4x4x128x128, .f32⟩
  | 76 => ⟨S2x4x4x128x256, .f32⟩
  | 77 => ⟨S2x4x128x4x256, .f32⟩
  | 78 => ⟨S2x4x128x4x256, .f32⟩
  | 79 => ⟨S2x4x4x128x256, .f32⟩
  | 80 => ⟨S2x4x128x4x256, .f32⟩
  | 81 => ⟨S2x4x128x4x256, .f32⟩
  | 82 => ⟨S1x2x4x128x4x256, .f32⟩
  | 83 => ⟨S_, .i32⟩
  | 84 => ⟨S_, .i32⟩
  | 85 => ⟨S_, .i32⟩
  | 86 => ⟨S_, .i32⟩
  | 87 => ⟨S_, .i32⟩
  | 88 => ⟨S16x2x4x128x4x256, .f32⟩
  | 89 => ⟨S1x2x4x128x4x256, .f32⟩
  | 90 => ⟨S_, .i32⟩
  | 91 => ⟨S_, .i32⟩
  | 92 => ⟨S_, .i32⟩
  | 93 => ⟨S_, .i32⟩
  | 94 => ⟨S_, .i32⟩
  | 95 => ⟨S16x2x4x128x4x256, .f32⟩
  | 96 => ⟨S1x2x4x128x4x512, .f32⟩
  | 97 => ⟨S_, .i32⟩
  | 98 => ⟨S_, .i32⟩
  | 99 => ⟨S_, .i32⟩
  | 100 => ⟨S_, .i32⟩
  | 101 => ⟨S_, .i32⟩
  | 102 => ⟨S16x2x4x128x4x512, .f32⟩
  | 103 => ⟨S_, .i32⟩
  | 104 => ⟨S_, .i32⟩
  | 105 => ⟨S2x16x4x128x4x512, .f32⟩
  | 106 => ⟨S2x16x4x128x4x256, .f32⟩
  | 107 => ⟨S2x16x4x128x4x256, .f32⟩
  | 108 => ⟨S2x4x16x128x4x512, .f32⟩
  | 109 => ⟨S2x4x2048x4x512, .f32⟩
  | 110 => ⟨S2x4x16x128x4x256, .f32⟩
  | 111 => ⟨S2x4x2048x4x256, .f32⟩
  | 112 => ⟨S2x4x16x128x4x256, .f32⟩
  | 113 => ⟨S2x4x2048x4x256, .f32⟩
  | 114 => ⟨S1x4x2048x4x512, .f32⟩
  | 115 => ⟨S4x2048x4x512, .f32⟩
  | 116 => ⟨S1x4x2048x4x512, .f32⟩
  | 117 => ⟨S4x2048x4x512, .f32⟩
  | 118 => ⟨S4x2048x4x512, .f32⟩
  | 119 => ⟨S4x2048x4x512, .f32⟩
  | 120 => ⟨S1x4x2048x4x256, .f32⟩
  | 121 => ⟨S4x2048x4x256, .f32⟩
  | 122 => ⟨S1x4x2048x4x256, .f32⟩
  | 123 => ⟨S4x2048x4x256, .f32⟩
  | 124 => ⟨S4x2048x4x256, .f32⟩
  | 125 => ⟨S4x2048x4x256, .f32⟩
  | 126 => ⟨S1x4x2048x4x256, .f32⟩
  | 127 => ⟨S4x2048x4x256, .f32⟩
  | _ => ⟨S9216x4096, .bf16⟩

abbrev hbmTy0_3 (i : Nat) : BufTy := match i % 128 with
  | 0 => ⟨S1x4x2048x4x256, .f32⟩
  | 1 => ⟨S4x2048x4x256, .f32⟩
  | 2 => ⟨S4x2048x4x256, .f32⟩
  | 3 => ⟨S4x2048x4x256, .f32⟩
  | 4 => ⟨S2x4x4x512x256, .f32⟩
  | 5 => ⟨S2x4x256x4x512, .f32⟩
  | 6 => ⟨S2x4x4x256x256, .f32⟩
  | 7 => ⟨S2x4x256x4x256, .f32⟩
  | 8 => ⟨S2x4x256x4x256, .f32⟩
  | 9 => ⟨S2x4x256x4x256, .f32⟩
  | 10 => ⟨S1x4x256x4x512, .f32⟩
  | 11 => ⟨S4x256x4x512, .f32⟩
  | 12 => ⟨S1x4x256x4x512, .f32⟩
  | 13 => ⟨S4x256x4x512, .f32⟩
  | 14 => ⟨S4x256x4x512, .f32⟩
  | 15 => ⟨S4x256x4x512, .f32⟩
  | 16 => ⟨S1x4x256x4x256, .f32⟩
  | 17 => ⟨S4x256x4x256, .f32⟩
  | 18 => ⟨S1x4x256x4x256, .f32⟩
  | 19 => ⟨S4x256x4x256, .f32⟩
  | 20 => ⟨S4x256x4x256, .f32⟩
  | 21 => ⟨S4x256x4x256, .f32⟩
  | 22 => ⟨S_, .f32⟩
  | 23 => ⟨S4x256x1024, .f32⟩
  | 24 => ⟨S4x2048x1024, .f32⟩
  | 25 => ⟨S4x2304x1024, .f32⟩
  | 26 => ⟨S9216x1024, .f32⟩
  | 27 => ⟨S4x2048x1024, .f32⟩
  | 28 => ⟨S4x256x1024, .f32⟩
  | 29 => ⟨S4x2304x1024, .f32⟩
  | 30 => ⟨S9216x1024, .f32⟩
  | 31 => ⟨S4x2048x2048, .f32⟩
  | 32 => ⟨S4x256x2048, .f32⟩
  | 33 => ⟨S4x2304x2048, .f32⟩
  | 34 => ⟨S9216x2048, .f32⟩
  | 35 => ⟨S9216x1024, .bf16⟩
  | 36 => ⟨S9216x1024, .bf16⟩
  | 37 => ⟨S9216x2048, .bf16⟩
  | _ => ⟨S9216x4096, .bf16⟩

abbrev hbmTy (i : Nat) : BufTy := match i / 128 with
  | 0 => hbmTy0_0 i
  | 1 => hbmTy0_1 i
  | 2 => hbmTy0_2 i
  | 3 => hbmTy0_3 i
  | _ => ⟨S9216x4096, .bf16⟩

abbrev bufTy : (tb : Table) → Fin (tcTables nBuf tb) → BufTy
  | .hbm, ⟨i, _⟩ => hbmTy i
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_cst : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_cst_0 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_cst_1 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_cst_2 : Ref sig .tc := ⟨.hbm, 76, rfl⟩
abbrev main_call5_v0 : Ref sig .tc := ⟨.hbm, 77, rfl⟩
abbrev main_call5_v1 : Ref sig .tc := ⟨.hbm, 78, rfl⟩
abbrev main_call5_v2 : Ref sig .tc := ⟨.hbm, 79, rfl⟩
abbrev main_call5_v3 : Ref sig .tc := ⟨.hbm, 80, rfl⟩
abbrev main_call5_v4 : Ref sig .tc := ⟨.hbm, 81, rfl⟩
abbrev main_v70 : Ref sig .tc := ⟨.hbm, 82, rfl⟩
abbrev main_v71 : Ref sig .tc := ⟨.hbm, 83, rfl⟩
abbrev main_cst_3 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_cst_4 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_cst_5 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_cst_6 : Ref sig .tc := ⟨.hbm, 120, rfl⟩
abbrev main_v105 : Ref sig .tc := ⟨.hbm, 121, rfl⟩
abbrev main_cst_7 : Ref sig .tc := ⟨.hbm, 122, rfl⟩
abbrev main_v106 : Ref sig .tc := ⟨.hbm, 123, rfl⟩
abbrev main_cst_8 : Ref sig .tc := ⟨.hbm, 124, rfl⟩
abbrev main_v107 : Ref sig .tc := ⟨.hbm, 125, rfl⟩
abbrev main_cst_9 : Ref sig .tc := ⟨.hbm, 126, rfl⟩
abbrev main_v108 : Ref sig .tc := ⟨.hbm, 127, rfl⟩
abbrev main_c : Ref sig .tc := ⟨.hbm, 128, rfl⟩
abbrev main_v109_0 : Ref sig .tc := ⟨.hbm, 129, rfl⟩
abbrev main_v109_1 : Ref sig .tc := ⟨.hbm, 130, rfl⟩
abbrev main_v109_2 : Ref sig .tc := ⟨.hbm, 131, rfl⟩
abbrev main_v109_3 : Ref sig .tc := ⟨.hbm, 132, rfl⟩
abbrev main_v109_4 : Ref sig .tc := ⟨.hbm, 133, rfl⟩
abbrev main_v109_5 : Ref sig .tc := ⟨.hbm, 134, rfl⟩
abbrev main_v109_6 : Ref sig .tc := ⟨.hbm, 135, rfl⟩
abbrev main_v109_7 : Ref sig .tc := ⟨.hbm, 136, rfl⟩
abbrev main_v109_8 : Ref sig .tc := ⟨.hbm, 137, rfl⟩
abbrev main_v109_9 : Ref sig .tc := ⟨.hbm, 138, rfl⟩
abbrev main_v109_10 : Ref sig .tc := ⟨.hbm, 139, rfl⟩
abbrev main_v109_11 : Ref sig .tc := ⟨.hbm, 140, rfl⟩
abbrev main_v109_12 : Ref sig .tc := ⟨.hbm, 141, rfl⟩
abbrev main_while0c_c_30 : Ref sig .tc := ⟨.hbm, 142, rfl⟩
abbrev main_while0c_v191 : Ref sig .tc := ⟨.hbm, 143, rfl⟩
abbrev main_while0b_call6_c : Ref sig .tc := ⟨.hbm, 144, rfl⟩
abbrev main_while0b_call6_c_0 : Ref sig .tc := ⟨.hbm, 145, rfl⟩
abbrev main_while0b_call6_c_1 : Ref sig .tc := ⟨.hbm, 146, rfl⟩
abbrev main_while0b_call6_c_2 : Ref sig .tc := ⟨.hbm, 147, rfl⟩
abbrev main_while0b_call6_c_3 : Ref sig .tc := ⟨.hbm, 148, rfl⟩
abbrev main_while0b_call6_v0 : Ref sig .tc := ⟨.hbm, 149, rfl⟩
abbrev main_while0b_v191 : Ref sig .tc := ⟨.hbm, 150, rfl⟩
abbrev main_while0b_call7_c : Ref sig .tc := ⟨.hbm, 151, rfl⟩
abbrev main_while0b_call7_c_0 : Ref sig .tc := ⟨.hbm, 152, rfl⟩
abbrev main_while0b_call7_c_1 : Ref sig .tc := ⟨.hbm, 153, rfl⟩
abbrev main_while0b_call7_c_2 : Ref sig .tc := ⟨.hbm, 154, rfl⟩
abbrev main_while0b_call7_c_3 : Ref sig .tc := ⟨.hbm, 155, rfl⟩
abbrev main_while0b_call7_v0 : Ref sig .tc := ⟨.hbm, 156, rfl⟩
abbrev main_while0b_v192 : Ref sig .tc := ⟨.hbm, 157, rfl⟩
abbrev main_while0b_call8_c : Ref sig .tc := ⟨.hbm, 158, rfl⟩
abbrev main_while0b_call8_c_0 : Ref sig .tc := ⟨.hbm, 159, rfl⟩
abbrev main_while0b_call8_c_1 : Ref sig .tc := ⟨.hbm, 160, rfl⟩
abbrev main_while0b_call8_c_2 : Ref sig .tc := ⟨.hbm, 161, rfl⟩
abbrev main_while0b_call8_c_3 : Ref sig .tc := ⟨.hbm, 162, rfl⟩
abbrev main_while0b_call8_v0 : Ref sig .tc := ⟨.hbm, 163, rfl⟩
abbrev main_while0b_v193 : Ref sig .tc := ⟨.hbm, 164, rfl⟩
abbrev main_while0b_v194 : Ref sig .tc := ⟨.hbm, 165, rfl⟩
abbrev main_while0b_v195 : Ref sig .tc := ⟨.hbm, 166, rfl⟩
abbrev main_while0b_v196 : Ref sig .tc := ⟨.hbm, 167, rfl⟩
abbrev main_while0b_v197 : Ref sig .tc := ⟨.hbm, 168, rfl⟩
abbrev main_while0b_v198 : Ref sig .tc := ⟨.hbm, 169, rfl⟩
abbrev main_while0b_v199 : Ref sig .tc := ⟨.hbm, 170, rfl⟩
abbrev main_while0b_v200 : Ref sig .tc := ⟨.hbm, 171, rfl⟩
abbrev main_while0b_v201 : Ref sig .tc := ⟨.hbm, 172, rfl⟩
abbrev main_while0b_v202 : Ref sig .tc := ⟨.hbm, 173, rfl⟩
abbrev main_while0b_v203 : Ref sig .tc := ⟨.hbm, 174, rfl⟩
abbrev main_while0b_v204 : Ref sig .tc := ⟨.hbm, 175, rfl⟩
abbrev main_while0b_v205 : Ref sig .tc := ⟨.hbm, 176, rfl⟩
abbrev main_while0b_v206 : Ref sig .tc := ⟨.hbm, 177, rfl⟩
abbrev main_while0b_v207 : Ref sig .tc := ⟨.hbm, 178, rfl⟩
abbrev main_while0b_v208 : Ref sig .tc := ⟨.hbm, 179, rfl⟩
abbrev main_while0b_v209 : Ref sig .tc := ⟨.hbm, 180, rfl⟩
abbrev main_while0b_call9_v0 : Ref sig .tc := ⟨.hbm, 181, rfl⟩
abbrev main_while0b_call9_c : Ref sig .tc := ⟨.hbm, 182, rfl⟩
abbrev main_while0b_call9_c_0 : Ref sig .tc := ⟨.hbm, 183, rfl⟩
abbrev main_while0b_call9_c_1 : Ref sig .tc := ⟨.hbm, 184, rfl⟩
abbrev main_while0b_call9_c_2 : Ref sig .tc := ⟨.hbm, 185, rfl⟩
abbrev main_while0b_call9_c_3 : Ref sig .tc := ⟨.hbm, 186, rfl⟩
abbrev main_while0b_v210 : Ref sig .tc := ⟨.hbm, 187, rfl⟩
abbrev main_while0b_call10_v0 : Ref sig .tc := ⟨.hbm, 188, rfl⟩
abbrev main_while0b_call10_c : Ref sig .tc := ⟨.hbm, 189, rfl⟩
abbrev main_while0b_call10_c_0 : Ref sig .tc := ⟨.hbm, 190, rfl⟩
abbrev main_while0b_call10_c_1 : Ref sig .tc := ⟨.hbm, 191, rfl⟩
abbrev main_while0b_call10_c_2 : Ref sig .tc := ⟨.hbm, 192, rfl⟩
abbrev main_while0b_call10_c_3 : Ref sig .tc := ⟨.hbm, 193, rfl⟩
abbrev main_while0b_v211 : Ref sig .tc := ⟨.hbm, 194, rfl⟩
abbrev main_while0b_call11_v0 : Ref sig .tc := ⟨.hbm, 195, rfl⟩
abbrev main_while0b_call11_c : Ref sig .tc := ⟨.hbm, 196, rfl⟩
abbrev main_while0b_call11_c_0 : Ref sig .tc := ⟨.hbm, 197, rfl⟩
abbrev main_while0b_call11_c_1 : Ref sig .tc := ⟨.hbm, 198, rfl⟩
abbrev main_while0b_call11_c_2 : Ref sig .tc := ⟨.hbm, 199, rfl⟩
abbrev main_while0b_call11_c_3 : Ref sig .tc := ⟨.hbm, 200, rfl⟩
abbrev main_while0b_v212 : Ref sig .tc := ⟨.hbm, 201, rfl⟩
abbrev main_while0b_call12_v0 : Ref sig .tc := ⟨.hbm, 202, rfl⟩
abbrev main_while0b_call12_c : Ref sig .tc := ⟨.hbm, 203, rfl⟩
abbrev main_while0b_call12_c_0 : Ref sig .tc := ⟨.hbm, 204, rfl⟩
abbrev main_while0b_call12_c_1 : Ref sig .tc := ⟨.hbm, 205, rfl⟩
abbrev main_while0b_call12_c_2 : Ref sig .tc := ⟨.hbm, 206, rfl⟩
abbrev main_while0b_call12_c_3 : Ref sig .tc := ⟨.hbm, 207, rfl⟩
abbrev main_while0b_v213 : Ref sig .tc := ⟨.hbm, 208, rfl⟩
abbrev main_while0b_c_30 : Ref sig .tc := ⟨.hbm, 209, rfl⟩
abbrev main_while0b_v214 : Ref sig .tc := ⟨.hbm, 210, rfl⟩
abbrev main_v110 : Ref sig .tc := ⟨.hbm, 211, rfl⟩
abbrev main_v111 : Ref sig .tc := ⟨.hbm, 212, rfl⟩
abbrev main_v112 : Ref sig .tc := ⟨.hbm, 213, rfl⟩
abbrev main_v113 : Ref sig .tc := ⟨.hbm, 214, rfl⟩
abbrev main_v114 : Ref sig .tc := ⟨.hbm, 215, rfl⟩
abbrev main_v115 : Ref sig .tc := ⟨.hbm, 216, rfl⟩
abbrev main_v116 : Ref sig .tc := ⟨.hbm, 217, rfl⟩
abbrev main_v117 : Ref sig .tc := ⟨.hbm, 218, rfl⟩
abbrev main_v118 : Ref sig .tc := ⟨.hbm, 219, rfl⟩
abbrev main_v119 : Ref sig .tc := ⟨.hbm, 220, rfl⟩
abbrev main_cst_10 : Ref sig .tc := ⟨.hbm, 221, rfl⟩
abbrev main_v120 : Ref sig .tc := ⟨.hbm, 222, rfl⟩
abbrev main_v121 : Ref sig .tc := ⟨.hbm, 223, rfl⟩
abbrev main_cst_11 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩
abbrev main_cst_12 : Ref sig .tc := ⟨.hbm, 229, rfl⟩
abbrev main_v126 : Ref sig .tc := ⟨.hbm, 230, rfl⟩
abbrev main_cst_13 : Ref sig .tc := ⟨.hbm, 231, rfl⟩
abbrev main_v127 : Ref sig .tc := ⟨.hbm, 232, rfl⟩
abbrev main_cst_14 : Ref sig .tc := ⟨.hbm, 233, rfl⟩
abbrev main_v128 : Ref sig .tc := ⟨.hbm, 234, rfl⟩
abbrev main_cst_15 : Ref sig .tc := ⟨.hbm, 235, rfl⟩
abbrev main_v129 : Ref sig .tc := ⟨.hbm, 236, rfl⟩
abbrev main_c_16 : Ref sig .tc := ⟨.hbm, 237, rfl⟩
abbrev main_v130_0 : Ref sig .tc := ⟨.hbm, 238, rfl⟩
abbrev main_v130_1 : Ref sig .tc := ⟨.hbm, 239, rfl⟩
abbrev main_v130_2 : Ref sig .tc := ⟨.hbm, 240, rfl⟩
abbrev main_v130_3 : Ref sig .tc := ⟨.hbm, 241, rfl⟩
abbrev main_v130_4 : Ref sig .tc := ⟨.hbm, 242, rfl⟩
abbrev main_v130_5 : Ref sig .tc := ⟨.hbm, 243, rfl⟩
abbrev main_v130_6 : Ref sig .tc := ⟨.hbm, 244, rfl⟩
abbrev main_v130_7 : Ref sig .tc := ⟨.hbm, 245, rfl⟩
abbrev main_v130_8 : Ref sig .tc := ⟨.hbm, 246, rfl⟩
abbrev main_v130_9 : Ref sig .tc := ⟨.hbm, 247, rfl⟩
abbrev main_v130_10 : Ref sig .tc := ⟨.hbm, 248, rfl⟩
abbrev main_v130_11 : Ref sig .tc := ⟨.hbm, 249, rfl⟩
abbrev main_v130_12 : Ref sig .tc := ⟨.hbm, 250, rfl⟩
abbrev main_v130_13 : Ref sig .tc := ⟨.hbm, 251, rfl⟩
abbrev main_v130_14 : Ref sig .tc := ⟨.hbm, 252, rfl⟩
abbrev main_v130_15 : Ref sig .tc := ⟨.hbm, 253, rfl⟩
abbrev main_while1c_c_33 : Ref sig .tc := ⟨.hbm, 254, rfl⟩
abbrev main_while1c_v191 : Ref sig .tc := ⟨.hbm, 255, rfl⟩
abbrev main_while1b_c_33 : Ref sig .tc := ⟨.hbm, 256, rfl⟩
abbrev main_while1b_v191 : Ref sig .tc := ⟨.hbm, 257, rfl⟩
abbrev main_while1b_c_34 : Ref sig .tc := ⟨.hbm, 258, rfl⟩
abbrev main_while1b_v192 : Ref sig .tc := ⟨.hbm, 259, rfl⟩
abbrev main_while1b_call15_c : Ref sig .tc := ⟨.hbm, 260, rfl⟩
abbrev main_while1b_call15_c_0 : Ref sig .tc := ⟨.hbm, 261, rfl⟩
abbrev main_while1b_call15_c_1 : Ref sig .tc := ⟨.hbm, 262, rfl⟩
abbrev main_while1b_call15_c_2 : Ref sig .tc := ⟨.hbm, 263, rfl⟩
abbrev main_while1b_call15_c_3 : Ref sig .tc := ⟨.hbm, 264, rfl⟩
abbrev main_while1b_call15_v0 : Ref sig .tc := ⟨.hbm, 265, rfl⟩
abbrev main_while1b_v193 : Ref sig .tc := ⟨.hbm, 266, rfl⟩
abbrev main_while1b_call16_c : Ref sig .tc := ⟨.hbm, 267, rfl⟩
abbrev main_while1b_call16_c_0 : Ref sig .tc := ⟨.hbm, 268, rfl⟩
abbrev main_while1b_call16_c_1 : Ref sig .tc := ⟨.hbm, 269, rfl⟩
abbrev main_while1b_call16_c_2 : Ref sig .tc := ⟨.hbm, 270, rfl⟩
abbrev main_while1b_call16_c_3 : Ref sig .tc := ⟨.hbm, 271, rfl⟩
abbrev main_while1b_call16_v0 : Ref sig .tc := ⟨.hbm, 272, rfl⟩
abbrev main_while1b_v194 : Ref sig .tc := ⟨.hbm, 273, rfl⟩
abbrev main_while1b_call17_c : Ref sig .tc := ⟨.hbm, 274, rfl⟩
abbrev main_while1b_call17_c_0 : Ref sig .tc := ⟨.hbm, 275, rfl⟩
abbrev main_while1b_call17_c_1 : Ref sig .tc := ⟨.hbm, 276, rfl⟩
abbrev main_while1b_call17_c_2 : Ref sig .tc := ⟨.hbm, 277, rfl⟩
abbrev main_while1b_call17_c_3 : Ref sig .tc := ⟨.hbm, 278, rfl⟩
abbrev main_while1b_call17_v0 : Ref sig .tc := ⟨.hbm, 279, rfl⟩
abbrev main_while1b_v195 : Ref sig .tc := ⟨.hbm, 280, rfl⟩
abbrev main_while1b_call18_c : Ref sig .tc := ⟨.hbm, 281, rfl⟩
abbrev main_while1b_call18_c_0 : Ref sig .tc := ⟨.hbm, 282, rfl⟩
abbrev main_while1b_call18_c_1 : Ref sig .tc := ⟨.hbm, 283, rfl⟩
abbrev main_while1b_call18_c_2 : Ref sig .tc := ⟨.hbm, 284, rfl⟩
abbrev main_while1b_call18_c_3 : Ref sig .tc := ⟨.hbm, 285, rfl⟩
abbrev main_while1b_call18_v0 : Ref sig .tc := ⟨.hbm, 286, rfl⟩
abbrev main_while1b_v196 : Ref sig .tc := ⟨.hbm, 287, rfl⟩
abbrev main_while1b_call19_c : Ref sig .tc := ⟨.hbm, 288, rfl⟩
abbrev main_while1b_call19_c_0 : Ref sig .tc := ⟨.hbm, 289, rfl⟩
abbrev main_while1b_call19_c_1 : Ref sig .tc := ⟨.hbm, 290, rfl⟩
abbrev main_while1b_call19_c_2 : Ref sig .tc := ⟨.hbm, 291, rfl⟩
abbrev main_while1b_call19_c_3 : Ref sig .tc := ⟨.hbm, 292, rfl⟩
abbrev main_while1b_call19_v0 : Ref sig .tc := ⟨.hbm, 293, rfl⟩
abbrev main_while1b_v197 : Ref sig .tc := ⟨.hbm, 294, rfl⟩
abbrev main_while1b_call20_c : Ref sig .tc := ⟨.hbm, 295, rfl⟩
abbrev main_while1b_call20_c_0 : Ref sig .tc := ⟨.hbm, 296, rfl⟩
abbrev main_while1b_call20_c_1 : Ref sig .tc := ⟨.hbm, 297, rfl⟩
abbrev main_while1b_call20_c_2 : Ref sig .tc := ⟨.hbm, 298, rfl⟩
abbrev main_while1b_call20_c_3 : Ref sig .tc := ⟨.hbm, 299, rfl⟩
abbrev main_while1b_call20_v0 : Ref sig .tc := ⟨.hbm, 300, rfl⟩
abbrev main_while1b_v198 : Ref sig .tc := ⟨.hbm, 301, rfl⟩
abbrev main_while1b_call21_c : Ref sig .tc := ⟨.hbm, 302, rfl⟩
abbrev main_while1b_call21_c_0 : Ref sig .tc := ⟨.hbm, 303, rfl⟩
abbrev main_while1b_call21_c_1 : Ref sig .tc := ⟨.hbm, 304, rfl⟩
abbrev main_while1b_call21_c_2 : Ref sig .tc := ⟨.hbm, 305, rfl⟩
abbrev main_while1b_call21_c_3 : Ref sig .tc := ⟨.hbm, 306, rfl⟩
abbrev main_while1b_call21_v0 : Ref sig .tc := ⟨.hbm, 307, rfl⟩
abbrev main_while1b_v199 : Ref sig .tc := ⟨.hbm, 308, rfl⟩
abbrev main_while1b_v200 : Ref sig .tc := ⟨.hbm, 309, rfl⟩
abbrev main_while1b_v201 : Ref sig .tc := ⟨.hbm, 310, rfl⟩
abbrev main_while1b_v202 : Ref sig .tc := ⟨.hbm, 311, rfl⟩
abbrev main_while1b_v203 : Ref sig .tc := ⟨.hbm, 312, rfl⟩
abbrev main_while1b_v204 : Ref sig .tc := ⟨.hbm, 313, rfl⟩
abbrev main_while1b_v205 : Ref sig .tc := ⟨.hbm, 314, rfl⟩
abbrev main_while1b_v206 : Ref sig .tc := ⟨.hbm, 315, rfl⟩
abbrev main_while1b_v207 : Ref sig .tc := ⟨.hbm, 316, rfl⟩
abbrev main_while1b_v208 : Ref sig .tc := ⟨.hbm, 317, rfl⟩
abbrev main_while1b_v209 : Ref sig .tc := ⟨.hbm, 318, rfl⟩
abbrev main_while1b_v210 : Ref sig .tc := ⟨.hbm, 319, rfl⟩
abbrev main_while1b_v211 : Ref sig .tc := ⟨.hbm, 320, rfl⟩
abbrev main_while1b_v212 : Ref sig .tc := ⟨.hbm, 321, rfl⟩
abbrev main_while1b_v213 : Ref sig .tc := ⟨.hbm, 322, rfl⟩
abbrev main_while1b_v214 : Ref sig .tc := ⟨.hbm, 323, rfl⟩
abbrev main_while1b_v215 : Ref sig .tc := ⟨.hbm, 324, rfl⟩
abbrev main_while1b_v216 : Ref sig .tc := ⟨.hbm, 325, rfl⟩
abbrev main_while1b_v217 : Ref sig .tc := ⟨.hbm, 326, rfl⟩
abbrev main_while1b_v218 : Ref sig .tc := ⟨.hbm, 327, rfl⟩
abbrev main_while1b_v219 : Ref sig .tc := ⟨.hbm, 328, rfl⟩
abbrev main_while1b_v220 : Ref sig .tc := ⟨.hbm, 329, rfl⟩
abbrev main_while1b_v221 : Ref sig .tc := ⟨.hbm, 330, rfl⟩
abbrev main_while1b_v222 : Ref sig .tc := ⟨.hbm, 331, rfl⟩
abbrev main_while1b_v223 : Ref sig .tc := ⟨.hbm, 332, rfl⟩
abbrev main_while1b_v224 : Ref sig .tc := ⟨.hbm, 333, rfl⟩
abbrev main_while1b_v225 : Ref sig .tc := ⟨.hbm, 334, rfl⟩
abbrev main_while1b_v226 : Ref sig .tc := ⟨.hbm, 335, rfl⟩
abbrev main_while1b_v227 : Ref sig .tc := ⟨.hbm, 336, rfl⟩
abbrev main_while1b_v228 : Ref sig .tc := ⟨.hbm, 337, rfl⟩
abbrev main_while1b_call22_v0 : Ref sig .tc := ⟨.hbm, 338, rfl⟩
abbrev main_while1b_call22_c : Ref sig .tc := ⟨.hbm, 339, rfl⟩
abbrev main_while1b_call22_c_0 : Ref sig .tc := ⟨.hbm, 340, rfl⟩
abbrev main_while1b_call22_c_1 : Ref sig .tc := ⟨.hbm, 341, rfl⟩
abbrev main_while1b_call22_c_2 : Ref sig .tc := ⟨.hbm, 342, rfl⟩
abbrev main_while1b_call22_c_3 : Ref sig .tc := ⟨.hbm, 343, rfl⟩
abbrev main_while1b_v229 : Ref sig .tc := ⟨.hbm, 344, rfl⟩
abbrev main_while1b_call23_v0 : Ref sig .tc := ⟨.hbm, 345, rfl⟩
abbrev main_while1b_call23_c : Ref sig .tc := ⟨.hbm, 346, rfl⟩
abbrev main_while1b_call23_c_0 : Ref sig .tc := ⟨.hbm, 347, rfl⟩
abbrev main_while1b_call23_c_1 : Ref sig .tc := ⟨.hbm, 348, rfl⟩
abbrev main_while1b_call23_c_2 : Ref sig .tc := ⟨.hbm, 349, rfl⟩
abbrev main_while1b_call23_c_3 : Ref sig .tc := ⟨.hbm, 350, rfl⟩
abbrev main_while1b_v230 : Ref sig .tc := ⟨.hbm, 351, rfl⟩
abbrev main_while1b_call24_v0 : Ref sig .tc := ⟨.hbm, 352, rfl⟩
abbrev main_while1b_call24_c : Ref sig .tc := ⟨.hbm, 353, rfl⟩
abbrev main_while1b_call24_c_0 : Ref sig .tc := ⟨.hbm, 354, rfl⟩
abbrev main_while1b_call24_c_1 : Ref sig .tc := ⟨.hbm, 355, rfl⟩
abbrev main_while1b_call24_c_2 : Ref sig .tc := ⟨.hbm, 356, rfl⟩
abbrev main_while1b_call24_c_3 : Ref sig .tc := ⟨.hbm, 357, rfl⟩
abbrev main_while1b_v231 : Ref sig .tc := ⟨.hbm, 358, rfl⟩
abbrev main_while1b_c_35 : Ref sig .tc := ⟨.hbm, 359, rfl⟩
abbrev main_while1b_v232 : Ref sig .tc := ⟨.hbm, 360, rfl⟩
abbrev main_v131 : Ref sig .tc := ⟨.hbm, 361, rfl⟩
abbrev main_v132 : Ref sig .tc := ⟨.hbm, 362, rfl⟩
abbrev main_v133 : Ref sig .tc := ⟨.hbm, 363, rfl⟩
abbrev main_v134 : Ref sig .tc := ⟨.hbm, 364, rfl⟩
abbrev main_v135 : Ref sig .tc := ⟨.hbm, 365, rfl⟩
abbrev main_v136 : Ref sig .tc := ⟨.hbm, 366, rfl⟩
abbrev main_v137 : Ref sig .tc := ⟨.hbm, 367, rfl⟩
abbrev main_v138 : Ref sig .tc := ⟨.hbm, 368, rfl⟩
abbrev main_v139 : Ref sig .tc := ⟨.hbm, 369, rfl⟩
abbrev main_v140 : Ref sig .tc := ⟨.hbm, 370, rfl⟩
abbrev main_v141 : Ref sig .tc := ⟨.hbm, 371, rfl⟩
abbrev main_v142 : Ref sig .tc := ⟨.hbm, 372, rfl⟩
abbrev main_v143 : Ref sig .tc := ⟨.hbm, 373, rfl⟩
abbrev main_v144 : Ref sig .tc := ⟨.hbm, 374, rfl⟩
abbrev main_v145 : Ref sig .tc := ⟨.hbm, 375, rfl⟩
abbrev main_v146 : Ref sig .tc := ⟨.hbm, 376, rfl⟩
abbrev main_v147 : Ref sig .tc := ⟨.hbm, 377, rfl⟩
abbrev main_v148 : Ref sig .tc := ⟨.hbm, 378, rfl⟩
abbrev main_v149 : Ref sig .tc := ⟨.hbm, 379, rfl⟩
abbrev main_v150 : Ref sig .tc := ⟨.hbm, 380, rfl⟩
abbrev main_v151 : Ref sig .tc := ⟨.hbm, 381, rfl⟩
abbrev main_v152 : Ref sig .tc := ⟨.hbm, 382, rfl⟩
abbrev main_v153 : Ref sig .tc := ⟨.hbm, 383, rfl⟩
abbrev main_v154 : Ref sig .tc := ⟨.hbm, 384, rfl⟩
abbrev main_v155 : Ref sig .tc := ⟨.hbm, 385, rfl⟩
abbrev main_v156 : Ref sig .tc := ⟨.hbm, 386, rfl⟩
abbrev main_v157 : Ref sig .tc := ⟨.hbm, 387, rfl⟩
abbrev main_v158 : Ref sig .tc := ⟨.hbm, 388, rfl⟩
abbrev main_v159 : Ref sig .tc := ⟨.hbm, 389, rfl⟩
abbrev main_v160 : Ref sig .tc := ⟨.hbm, 390, rfl⟩
abbrev main_v161 : Ref sig .tc := ⟨.hbm, 391, rfl⟩
abbrev main_v162 : Ref sig .tc := ⟨.hbm, 392, rfl⟩
abbrev main_v163 : Ref sig .tc := ⟨.hbm, 393, rfl⟩
abbrev main_v164 : Ref sig .tc := ⟨.hbm, 394, rfl⟩
abbrev main_v165 : Ref sig .tc := ⟨.hbm, 395, rfl⟩
abbrev main_v166 : Ref sig .tc := ⟨.hbm, 396, rfl⟩
abbrev main_v167 : Ref sig .tc := ⟨.hbm, 397, rfl⟩
abbrev main_v168 : Ref sig .tc := ⟨.hbm, 398, rfl⟩
abbrev main_v169 : Ref sig .tc := ⟨.hbm, 399, rfl⟩
abbrev main_v170 : Ref sig .tc := ⟨.hbm, 400, rfl⟩
abbrev main_v171 : Ref sig .tc := ⟨.hbm, 401, rfl⟩
abbrev main_v172 : Ref sig .tc := ⟨.hbm, 402, rfl⟩
abbrev main_v173 : Ref sig .tc := ⟨.hbm, 403, rfl⟩
abbrev main_v174 : Ref sig .tc := ⟨.hbm, 404, rfl⟩
abbrev main_v175 : Ref sig .tc := ⟨.hbm, 405, rfl⟩
abbrev main_cst_17 : Ref sig .tc := ⟨.hbm, 406, rfl⟩
abbrev main_v176 : Ref sig .tc := ⟨.hbm, 407, rfl⟩
abbrev main_v177 : Ref sig .tc := ⟨.hbm, 408, rfl⟩
abbrev main_v178 : Ref sig .tc := ⟨.hbm, 409, rfl⟩
abbrev main_v179 : Ref sig .tc := ⟨.hbm, 410, rfl⟩
abbrev main_v180 : Ref sig .tc := ⟨.hbm, 411, rfl⟩
abbrev main_v181 : Ref sig .tc := ⟨.hbm, 412, rfl⟩
abbrev main_v182 : Ref sig .tc := ⟨.hbm, 413, rfl⟩
abbrev main_v183 : Ref sig .tc := ⟨.hbm, 414, rfl⟩
abbrev main_v184 : Ref sig .tc := ⟨.hbm, 415, rfl⟩
abbrev main_v185 : Ref sig .tc := ⟨.hbm, 416, rfl⟩
abbrev main_v186 : Ref sig .tc := ⟨.hbm, 417, rfl⟩
abbrev main_v187 : Ref sig .tc := ⟨.hbm, 418, rfl⟩
abbrev main_v188 : Ref sig .tc := ⟨.hbm, 419, rfl⟩
abbrev main_v189 : Ref sig .tc := ⟨.hbm, 420, rfl⟩
abbrev main_v190 : Ref sig .tc := ⟨.hbm, 421, rfl⟩

abbrev nD : Nat := 1
abbrev τ : Topo := Topo.v7x

variable {F : FTy → Type} [FloatOps F]

abbrev main_while0_count : Scf.Loop 32 := ⟨0#32, 16#32, 1#32⟩

abbrev main_while1_count : Scf.Loop 32 := ⟨0#32, 16#32, 1#32⟩
-- ==== Kernel2.lean ====
abbrev S9216x1024 : Shape := ⟨2, ![9216, 1024]⟩
abbrev S2x9216x2816 : Shape := ⟨3, ![2, 9216, 2816]⟩
abbrev S4x1024x1408 : Shape := ⟨3, ![4, 1024, 1408]⟩
abbrev S1536x1024 : Shape := ⟨2, ![1536, 1024]⟩
abbrev S1x1536x1408 : Shape := ⟨3, ![1, 1536, 1408]⟩
abbrev S1x1024x1408 : Shape := ⟨3, ![1, 1024, 1408]⟩
abbrev S1024x1408 : Shape := ⟨2, ![1024, 1408]⟩
abbrev S1536x1408 : Shape := ⟨2, ![1536, 1408]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S2x9216x2816, .bf16⟩
  | .hbm, ⟨2, _⟩ => ⟨S4x1024x1408, .bf16⟩
  | .local _ .vmem, ⟨0, _⟩ => ⟨S1536x1024, .bf16⟩
  | .local _ .vmem, ⟨1, _⟩ => ⟨S1536x1024, .bf16⟩
  | .local _ .vmem, ⟨2, _⟩ => ⟨S1x1536x1408, .bf16⟩
  | .local _ .vmem, ⟨3, _⟩ => ⟨S1x1536x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 6], ![false, false, false]⟩

def k0_cond2 (i : grid0.Coords) : BitVec 1 :=
  let arg2 : BitVec 32 := BitVec.ofNat 32 (i 2).val
  let c5_i32 : BitVec 32 := 5#32
  let v12 : BitVec 1 := Scalar.cmpi .eq arg2 c5_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1536x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S9216x1024 : Shape := ⟨2, ![9216, 1024]⟩
abbrev S2x9216x2816 : Shape := ⟨3, ![2, 9216, 2816]⟩
abbrev S_ : Shape := ⟨0, ![]⟩
abbrev S1024x5632 : Shape := ⟨2, ![1024, 5632]⟩
abbrev S9216x5632 : Shape := ⟨2, ![9216, 5632]⟩
abbrev S9216x2816 : Shape := ⟨2, ![9216, 2816]⟩
abbrev S1x9216x2816 : Shape := ⟨3, ![1, 9216, 2816]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 24
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S2x9216x2816, .bf16⟩
  | .hbm, ⟨2, _⟩ => ⟨S_, .f32⟩
  | .hbm, ⟨3, _⟩ => ⟨S1024x5632, .f32⟩
  | .hbm, ⟨4, _⟩ => ⟨S9216x1024, .f32⟩
  | .hbm, ⟨5, _⟩ => ⟨S9216x5632, .f32⟩
  | .hbm, ⟨6, _⟩ => ⟨S9216x2816, .f32⟩
  | .hbm, ⟨7, _⟩ => ⟨S9216x2816, .f32⟩
  | .hbm, ⟨8, _⟩ => ⟨S1x9216x2816, .bf16⟩
  | .hbm, ⟨9, _⟩ => ⟨S9216x2816, .bf16⟩
  | .hbm, ⟨10, _⟩ => ⟨S9216x2816, .f32⟩
  | .hbm, ⟨11, _⟩ => ⟨S1x9216x2816, .bf16⟩
  | .hbm, ⟨12, _⟩ => ⟨S9216x2816, .bf16⟩
  | .hbm, ⟨13, _⟩ => ⟨S9216x2816, .f32⟩
  | .hbm, ⟨14, _⟩ => ⟨S_, .f32⟩
  | .hbm, ⟨15, _⟩ => ⟨S9216x5632, .f32⟩
  | .hbm, ⟨16, _⟩ => ⟨S_, .f32⟩
  | .hbm, ⟨17, _⟩ => ⟨S9216x5632, .f32⟩
  | .hbm, ⟨18, _⟩ => ⟨S9216x5632, .f32⟩
  | .hbm, ⟨19, _⟩ => ⟨S5632x1024, .f32⟩
  | .hbm, ⟨20, _⟩ => ⟨S1024x5632, .f32⟩
  | .hbm, ⟨21, _⟩ => ⟨S1024x4x1408, .f32⟩
  | .hbm, ⟨22, _⟩ => ⟨S4x1024x1408, .f32⟩
  | .hbm, ⟨23, _⟩ => ⟨S4x1024x1408, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Kernel3.lean ====
abbrev S2x9216x2816 : Shape := ⟨3, ![2, 9216, 2816]⟩
abbrev S4x1024x1408 : Shape := ⟨3, ![4, 1024, 1408]⟩
abbrev S9216x1024 : Shape := ⟨2, ![9216, 1024]⟩
abbrev S1x1536x1408 : Shape := ⟨3, ![1, 1536, 1408]⟩
abbrev S1x1024x1408 : Shape := ⟨3, ![1, 1024, 1408]⟩
abbrev S1536x1024 : Shape := ⟨2, ![1536, 1024]⟩
abbrev S1536x1408 : Shape := ⟨2, ![1536, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x9216x2816, .bf16⟩
  | .hbm, ⟨1, _⟩ => ⟨S4x1024x1408, .bf16⟩
  | .hbm, ⟨2, _⟩ => ⟨S9216x1024, .bf16⟩
  | .local _ .vmem, ⟨0, _⟩ => ⟨S1x1536x1408, .bf16⟩
  | .local _ .vmem, ⟨1, _⟩ => ⟨S1x1536x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S2x9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1536x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x9216x2816 : Shape := ⟨3, ![2, 9216, 2816]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S_ : Shape := ⟨0, ![]⟩
abbrev S9216x1024 : Shape := ⟨2, ![9216, 1024]⟩
abbrev S9216x5632 : Shape := ⟨2, ![9216, 5632]⟩
abbrev S9216x2816 : Shape := ⟨2, ![9216, 2816]⟩
abbrev S1x9216x2816 : Shape := ⟨3, ![1, 9216, 2816]⟩

abbrev nBuf : Space → Nat
  | .hbm => 23
  | .vmem => 0
  | .smem => 0
  | _ => 0

abbrev bufTy : (tb : Table) → Fin (tcTables nBuf tb) → BufTy
  | .hbm, ⟨0, _⟩ => ⟨S2x9216x2816, .bf16⟩
  | .hbm, ⟨1, _⟩ => ⟨S4x1024x1408, .bf16⟩
  | .hbm, ⟨2, _⟩ => ⟨S4x1024x1408, .f32⟩
  | .hbm, ⟨3, _⟩ => ⟨S1024x4x1408, .f32⟩
  | .hbm, ⟨4, _⟩ => ⟨S1024x5632, .f32⟩
  | .hbm, ⟨5, _⟩ => ⟨S_, .f32⟩
  | .hbm, ⟨6, _⟩ => ⟨S9216x1024, .f32⟩
  | .hbm, ⟨7, _⟩ => ⟨S9216x5632, .f32⟩
  | .hbm, ⟨8, _⟩ => ⟨S9216x2816, .f32⟩
  | .hbm, ⟨9, _⟩ => ⟨S9216x2816, .f32⟩
  | .hbm, ⟨10, _⟩ => ⟨S1x9216x2816, .bf16⟩
  | .hbm, ⟨11, _⟩ => ⟨S9216x2816, .bf16⟩
  | .hbm, ⟨12, _⟩ => ⟨S9216x2816, .f32⟩
  | .hbm, ⟨13, _⟩ => ⟨S1x9216x2816, .bf16⟩
  | .hbm, ⟨14, _⟩ => ⟨S9216x2816, .bf16⟩
  | .hbm, ⟨15, _⟩ => ⟨S9216x2816, .f32⟩
  | .hbm, ⟨16, _⟩ => ⟨S_, .f32⟩
  | .hbm, ⟨17, _⟩ => ⟨S9216x5632, .f32⟩
  | .hbm, ⟨18, _⟩ => ⟨S_, .f32⟩
  | .hbm, ⟨19, _⟩ => ⟨S9216x5632, .f32⟩
  | .hbm, ⟨20, _⟩ => ⟨S9216x5632, .f32⟩
  | .hbm, ⟨21, _⟩ => ⟨S9216x1024, .f32⟩
  | .hbm, ⟨22, _⟩ => ⟨S9216x1024, .bf16⟩
  | _, _ => ⟨S2x9216x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Kernel4.lean ====
abbrev S9216x1024 : Shape := ⟨2, ![9216, 1024]⟩
abbrev S9216x6144 : Shape := ⟨2, ![9216, 6144]⟩
abbrev S4x1024x1536 : Shape := ⟨3, ![4, 1024, 1536]⟩
abbrev S1536x1024 : Shape := ⟨2, ![1536, 1024]⟩
abbrev S1536x1536 : Shape := ⟨2, ![1536, 1536]⟩
abbrev S1x1024x1536 : Shape := ⟨3, ![1, 1024, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S9216x6144, .bf16⟩
  | .hbm, ⟨2, _⟩ => ⟨S4x1024x1536, .bf16⟩
  | .local _ .vmem, ⟨0, _⟩ => ⟨S1536x1024, .bf16⟩
  | .local _ .vmem, ⟨1, _⟩ => ⟨S1536x1024, .bf16⟩
  | .local _ .vmem, ⟨2, _⟩ => ⟨S1536x1536, .bf16⟩
  | .local _ .vmem, ⟨3, _⟩ => ⟨S1536x1536, .bf16⟩
  | .local _ .vmem, ⟨4, _⟩ => ⟨S1x1024x1536, .bf16⟩
  | .local _ .vmem, ⟨5, _⟩ => ⟨S1x1024x1536, .bf16⟩
  | .local _ .vmem, ⟨6, _⟩ => ⟨S1024x1536, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S9216x1024 : Shape := ⟨2, ![9216, 1024]⟩
abbrev S9216x6144 : Shape := ⟨2, ![9216, 6144]⟩
abbrev S_ : Shape := ⟨0, ![]⟩
abbrev S1024x6144 : Shape := ⟨2, ![1024, 6144]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 12
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x6144, .bf16⟩
  | .hbm, ⟨2, _⟩ => ⟨S_, .f32⟩
  | .hbm, ⟨3, _⟩ => ⟨S1024x6144, .f32⟩
  | .hbm, ⟨4, _⟩ => ⟨S9216x1024, .f32⟩
  | .hbm, ⟨5, _⟩ => ⟨S9216x6144, .f32⟩
  | .hbm, ⟨6, _⟩ => ⟨S9216x6144, .f32⟩
  | .hbm, ⟨7, _⟩ => ⟨S6144x1024, .f32⟩
  | .hbm, ⟨8, _⟩ => ⟨S1024x6144, .f32⟩
  | .hbm, ⟨9, _⟩ => ⟨S1024x4x1536, .f32⟩
  | .hbm, ⟨10, _⟩ => ⟨S4x1024x1536, .f32⟩
  | .hbm, ⟨11, _⟩ => ⟨S4x1024x1536, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S9216x6144 : Shape := ⟨2, ![9216, 6144]⟩
abbrev S4x1024x1536 : Shape := ⟨3, ![4, 1024, 1536]⟩
abbrev S9216x1024 : Shape := ⟨2, ![9216, 1024]⟩
abbrev S1536x1536 : Shape := ⟨2, ![1536, 1536]⟩
abbrev S1x1024x1536 : Shape := ⟨3, ![1, 1024, 1536]⟩
abbrev S1536x1024 : Shape := ⟨2, ![1536, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S9216x6144, .bf16⟩
  | .hbm, ⟨1, _⟩ => ⟨S4x1024x1536, .bf16⟩
  | .hbm, ⟨2, _⟩ => ⟨S9216x1024, .bf16⟩
  | .local _ .vmem, ⟨0, _⟩ => ⟨S1536x1536, .bf16⟩
  | .local _ .vmem, ⟨1, _⟩ => ⟨S1536x1536, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S9216x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S9216x6144 : Shape := ⟨2, ![9216, 6144]⟩
abbrev S4x1024x1536 : Shape := ⟨3, ![4, 1024, 1536]⟩
abbrev S1024x4x1536 : Shape := ⟨3, ![1024, 4, 1536]⟩
abbrev S1024x6144 : Shape := ⟨2, ![1024, 6144]⟩
abbrev S_ : Shape := ⟨0, ![]⟩
abbrev S9216x1024 : Shape := ⟨2, ![9216, 1024]⟩

abbrev nBuf : Space → Nat
  | .hbm => 11
  | .vmem => 0
  | .smem => 0
  | _ => 0

abbrev bufTy : (tb : Table) → Fin (tcTables nBuf tb) → BufTy
  | .hbm, ⟨0, _⟩ => ⟨S9216x6144, .bf16⟩
  | .hbm, ⟨1, _⟩ => ⟨S4x1024x1536, .bf16⟩
  | .hbm, ⟨2, _⟩ => ⟨S4x1024x1536, .f32⟩
  | .hbm, ⟨3, _⟩ => ⟨S1024x4x1536, .f32⟩
  | .hbm, ⟨4, _⟩ => ⟨S1024x6144, .f32⟩
  | .hbm, ⟨5, _⟩ => ⟨S_, .f32⟩
  | .hbm, ⟨6, _⟩ => ⟨S9216x1024, .f32⟩
  | .hbm, ⟨7, _⟩ => ⟨S9216x6144, .f32⟩
  | .hbm, ⟨8, _⟩ => ⟨S9216x6144, .f32⟩
  | .hbm, ⟨9, _⟩ => ⟨S9216x1024, .f32⟩
  | .hbm, ⟨10, _⟩ => ⟨S9216x1024, .bf16⟩
  | _, _ => ⟨S9216x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S9216x1024 : Shape := ⟨2, ![9216, 1024]⟩
abbrev S4x1024x1536 : Shape := ⟨3, ![4, 1024, 1536]⟩
abbrev S9216x6144 : Shape := ⟨2, ![9216, 6144]⟩
abbrev S1536x1024 : Shape := ⟨2, ![1536, 1024]⟩
abbrev S1x1024x1536 : Shape := ⟨3, ![1, 1024, 1536]⟩
abbrev S1536x1536 : Shape := ⟨2, ![1536, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S4x1024x1536, .bf16⟩
  | .hbm, ⟨2, _⟩ => ⟨S9216x6144, .bf16⟩
  | .local _ .vmem, ⟨0, _⟩ => ⟨S1536x1024, .bf16⟩
  | .local _ .vmem, ⟨1, _⟩ => ⟨S1536x1024, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1536x1536, .bf16⟩
  | .local _ .vmem, ⟨5, _⟩ => ⟨S1536x1536, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S9216x1024 : Shape := ⟨2, ![9216, 1024]⟩
abbrev S4x1024x1536 : Shape := ⟨3, ![4, 1024, 1536]⟩
abbrev S1024x4x1536 : Shape := ⟨3, ![1024, 4, 1536]⟩
abbrev S1024x6144 : Shape := ⟨2, ![1024, 6144]⟩
abbrev S9216x6144 : Shape := ⟨2, ![9216, 6144]⟩

abbrev nBuf : Space → Nat
  | .hbm => 8
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S4x1024x1536, .bf16⟩
  | .hbm, ⟨2, _⟩ => ⟨S4x1024x1536, .f32⟩
  | .hbm, ⟨3, _⟩ => ⟨S1024x4x1536, .f32⟩
  | .hbm, ⟨4, _⟩ => ⟨S1024x6144, .f32⟩
  | .hbm, ⟨5, _⟩ => ⟨S9216x1024, .f32⟩
  | .hbm, ⟨6, _⟩ => ⟨S9216x6144, .f32⟩
  | .hbm, ⟨7, _⟩ => ⟨S9216x6144, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S9216x2816 : Shape := ⟨2, ![9216, 2816]⟩
abbrev S9216x1024 : Shape := ⟨2, ![9216, 1024]⟩
abbrev S2816x1024 : Shape := ⟨2, ![2816, 1024]⟩
abbrev S1536x1408 : Shape := ⟨2, ![1536, 1408]⟩
abbrev S1536x1024 : Shape := ⟨2, ![1536, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .bf16⟩
  | .hbm, ⟨2, _⟩ => ⟨S2816x1024, .bf16⟩
  | .local _ .vmem, ⟨0, _⟩ => ⟨S1536x1408, .bf16⟩
  | .local _ .vmem, ⟨1, _⟩ => ⟨S1536x1408, .bf16⟩
  | .local _ .vmem, ⟨2, _⟩ => ⟨S1536x1024, .bf16⟩
  | .local _ .vmem, ⟨3, _⟩ => ⟨S1536x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S9216x2816 : Shape := ⟨2, ![9216, 2816]⟩
abbrev S9216x1024 : Shape := ⟨2, ![9216, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .bf16⟩
  | .hbm, ⟨2, _⟩ => ⟨S_, .f32⟩
  | .hbm, ⟨3, _⟩ => ⟨S2816x1024, .f32⟩
  | .hbm, ⟨4, _⟩ => ⟨S9216x2816, .f32⟩
  | .hbm, ⟨5, _⟩ => ⟨S9216x1024, .f32⟩
  | .hbm, ⟨6, _⟩ => ⟨S9216x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S9216x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S9216x1024 : Shape := ⟨2, ![9216, 1024]⟩
abbrev S4x1024x1408 : Shape := ⟨3, ![4, 1024, 1408]⟩
abbrev S2x9216x2816 : Shape := ⟨3, ![2, 9216, 2816]⟩
abbrev S9216x2816 : Shape := ⟨2, ![9216, 2816]⟩
abbrev S768x1024 : Shape := ⟨2, ![768, 1024]⟩
abbrev S1x1024x1408 : Shape := ⟨3, ![1, 1024, 1408]⟩
abbrev S2x768x1408 : Shape := ⟨3, ![2, 768, 1408]⟩
abbrev S768x1408 : Shape := ⟨2, ![768, 1408]⟩
abbrev S1024x1408 : Shape := ⟨2, ![1024, 1408]⟩
abbrev S1x768x1408 : Shape := ⟨3, ![1, 768, 1408]⟩

abbrev nBuf : Space → Nat
  | .hbm => 4
  | .vmem => 10
  | .smem => 0
  | _ => 0

abbrev bufTy : (tb : Table) → Fin (tcTables nBuf tb) → BufTy
  | .hbm, ⟨0, _⟩ => ⟨S9216x1024, .bf16⟩
  | .hbm, ⟨1, _⟩ => ⟨S4x1024x1408, .bf16⟩
  | .hbm, ⟨2, _⟩ => ⟨S2x9216x2816, .bf16⟩
  | .hbm, ⟨3, _⟩ => ⟨S9216x2816, .bf16⟩
  | .local _ .vmem, ⟨0, _⟩ => ⟨S768x1024, .bf16⟩
  | .local _ .vmem, ⟨1, _⟩ => ⟨S768x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S2x768x1408, .bf16⟩
  | .local _ .vmem, ⟨7, _⟩ => ⟨S2x768x1408, .bf16⟩
  | .local _ .vmem, ⟨8, _⟩ => ⟨S768x1408, .bf16⟩
  | .local _ .vmem, ⟨9, _⟩ => ⟨S768x1408, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x768x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S9216x1024 : Shape := ⟨2, ![9216, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S9216x5632 : Shape := ⟨2, ![9216, 5632]⟩
abbrev S9216x2816 : Shape := ⟨2, ![9216, 2816]⟩
abbrev S1x9216x2816 : Shape := ⟨3, ![1, 9216, 2816]⟩
abbrev S2x9216x2816 : Shape := ⟨3, ![2, 9216, 2816]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S4x1024x1408, .bf16⟩
  | .hbm, ⟨2, _⟩ => ⟨S4x1024x1408, .f32⟩
  | .hbm, ⟨3, _⟩ => ⟨S1024x4x1408, .f32⟩
  | .hbm, ⟨4, _⟩ => ⟨S1024x5632, .f32⟩
  | .hbm, ⟨5, _⟩ => ⟨S9216x1024, .f32⟩
  | .hbm, ⟨6, _⟩ => ⟨S9216x5632, .f32⟩
  | .hbm, ⟨7, _⟩ => ⟨S9216x2816, .f32⟩
  | .hbm, ⟨8, _⟩ => ⟨S9216x2816, .f32⟩
  | .hbm, ⟨9, _⟩ => ⟨S1x9216x2816, .f32⟩
  | .hbm, ⟨10, _⟩ => ⟨S1x9216x2816, .f32⟩
  | .hbm, ⟨11, _⟩ => ⟨S2x9216x2816, .f32⟩
  | .hbm, ⟨12, _⟩ => ⟨S2x9216x2816, .bf16⟩
  | .hbm, ⟨13, _⟩ => ⟨S9216x2816, .f32⟩
  | .hbm, ⟨14, _⟩ => ⟨S9216x2816, .f32⟩
  | .hbm, ⟨15, _⟩ => ⟨S_, .f32⟩
  | .hbm, ⟨16, _⟩ => ⟨S9216x2816, .f32⟩
  | .hbm, ⟨17, _⟩ => ⟨S9216x2816, .f32⟩
  | .hbm, ⟨18, _⟩ => ⟨S_, .f32⟩
  | .hbm, ⟨19, _⟩ => ⟨S9216x2816, .f32⟩
  | .hbm, ⟨20, _⟩ => ⟨S9216x2816, .f32⟩
  | .hbm, ⟨21, _⟩ => ⟨S9216x2816, .f32⟩
  | .hbm, ⟨22, _⟩ => ⟨S9216x2816, .f32⟩
  | .hbm, ⟨23, _⟩ => ⟨S9216x2816, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Proof.Steps.lean ====
/-
  What one grid point of the retention backward computes, as pure functions of the blocks that it is handed: the
  states of the forward recursion (`fwd0`, `fwd1`, one per direction), the state gradients of the backward recursion
  (`dst0`, `dst1`), and the blocks of rows that each trip of the two backward loops leaves.  Chunk `j` of a block is
  its rows `128 j … 128 j + 127`; the context rows are `2048 … 2303`.
-/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.WritesUnit
public import Idealize.ShloMosaic.Lib.Pointwise

@[expose] public section

noncomputable section

namespace Cert.KernelIdeal.Steps

open Idealize.ShloMosaic Idealize.ShloMosaic.TcCoe
open Cert.KernelIdeal.Gen

variable {F : FTy → Type} [FloatOps F]

theorem inb256 (j : ℕ) : ∀ a, (![128 * (j % 16), 0] : Fin 2 → ℕ) a + S128x256.size a ≤ S2304x256.size a := by
  have := Nat.mod_lt j (show 0 < 16 by decide)
  intro a
  match a with
  | ⟨0, _⟩ => show 128 * (j % 16) + 128 ≤ 2304; omega
  | ⟨1, _⟩ => show 0 + 256 ≤ 256; omega

theorem inb512 (j : ℕ) : ∀ a, (![128 * (j % 16), 0] : Fin 2 → ℕ) a + S128x512.size a ≤ S2304x512.size a := by
  have := Nat.mod_lt j (show 0 < 16 by decide)
  intro a
  match a with
  | ⟨0, _⟩ => show 128 * (j % 16) + 128 ≤ 2304; omega
  | ⟨1, _⟩ => show 0 + 512 ≤ 512; omega

theorem inbSt (j : ℕ) : ∀ a, (![j % 16, 0, 0] : Fin 3 → ℕ) a + S1x256x512.size a ≤ S16x256x512.size a := by
  have := Nat.mod_lt j (show 0 < 16 by decide)
  intro a
  match a with
  | ⟨0, _⟩ => show j % 16 + 1 ≤ 16; omega
  | ⟨1, _⟩ => show 0 + 256 ≤ 256; omega
  | ⟨2, _⟩ => show 0 + 512 ≤ 512; omega

/-- The rectangle of chunk `j`, 256 columns. -/
abbrev r256 (j : ℕ) : Rect S2304x256 := Rect.unit ![128 * (j % 16), 0] S128x256.size (inb256 j)
/-- The rectangle of chunk `j`, 512 columns. -/
abbrev r512 (j : ℕ) : Rect S2304x512 := Rect.unit ![128 * (j % 16), 0] S128x512.size (inb512 j)
/-- The context rows, 256 columns. -/
abbrev rc256 : Rect S2304x256 := Rect.unit ![2048, 0] S256x256.size inb_S2304x256_S256x256_2048_0
/-- The context rows, 512 columns. -/
abbrev rc512 : Rect S2304x512 := Rect.unit ![2048, 0] S256x512.size inb_S2304x512_S256x512_2048_0
/-- Slot `j` of the saved states. -/
abbrev rSt (j : ℕ) : Rect S16x256x512 := Rect.unit ![j % 16, 0, 0] S1x256x512.size (inbSt j)

/-- Chunk `j` of a block, 256 columns. -/
def c256 {e : EltTy} (x : S2304x256.Idx → Elt F e) (j : ℕ) : S128x256.Idx → Elt F e := View.ld x (r256 j)
/-- Chunk `j` of a block, 512 columns. -/
def c512 {e : EltTy} (x : S2304x512.Idx → Elt F e) (j : ℕ) : S128x512.Idx → Elt F e := View.ld x (r512 j)
/-- The context rows of a block, 256 columns. -/
def x256 {e : EltTy} (x : S2304x256.Idx → Elt F e) : S256x256.Idx → Elt F e := View.ld x rc256
/-- The context rows of a block, 512 columns. -/
def x512 {e : EltTy} (x : S2304x512.Idx → Elt F e) : S256x512.Idx → Elt F e := View.ld x rc512
/-- Slot `j` of the saved states. -/
def slot (x : S16x256x512.Idx → Elt F .f32) (j : ℕ) : S1x256x512.Idx → Elt F .f32 := View.ld x (rSt j)

variable (lg : Vec F S1x1 .f32) (qb kb : Vec F S2304x256 .bf16) (vb gb : Vec F S2304x512 .bf16)

/-! ## The forward direction -/

/-- The state before chunk `j` of the forward direction: the context's, then one chunk's update each. -/
def fwd0 : ℕ → Vec F S1x256x512 .f32
  | 0 => k0_pay79 lg (x256 kb) (x512 vb)
  | j + 1 => k0_pay80 lg (fwd0 j) (c256 kb j) (c512 vb j)

/-- The gradient of the state before the backward loop's trip `t`, forward direction: trip `t` works chunk `15 - t`. -/
def dst0 : ℕ → Vec F S256x512 .f32
  | 0 => k0_pay81
  | t + 1 => k0_pay36 (k0_pay30 lg (k0_pay2 (c256 qb (15 - t))) (k0_pay8 lg) (dst0 t) (c512 gb (15 - t)))

/-- The rows of the query's gradient that chunk `15 - t` gets from the forward direction. -/
def aq (t : ℕ) : Vec F S128x256 .f32 :=
  k0_pay84 (k0_pay34 (k0_pay3 (c256 kb (15 - t))) (k0_pay4 (c512 vb (15 - t))) (k0_pay14 lg) (k0_pay19 (c512 gb (15 - t)))
    (k0_pay29 (k0_pay1 (fwd0 lg kb vb (15 - t))) (k0_pay8 lg) (c512 gb (15 - t))))

/-- The rows of the key's gradient that chunk `15 - t` gets from the forward direction. -/
def ak (t : ℕ) : Vec F S128x256 .f32 :=
  k0_pay37 (k0_pay2 (c256 qb (15 - t))) (k0_pay4 (c512 vb (15 - t))) (k0_pay14 lg) (k0_pay19 (c512 gb (15 - t)))
    (k0_pay25 (k0_pay4 (c512 vb (15 - t))) (k0_pay10 lg) (dst0 lg qb gb t))

/-- The rows of the value's gradient that chunk `15 - t` gets from the forward direction. -/
def av (t : ℕ) : Vec F S128x512 .f32 :=
  k0_pay83 (k0_pay32 (k0_pay16 lg (c256 qb (15 - t)) (c256 kb (15 - t))) (k0_pay19 (c512 gb (15 - t)))
    (k0_pay23 (k0_pay3 (c256 kb (15 - t))) (k0_pay10 lg) (dst0 lg qb gb t)))

/-- The context rows' share of the key's gradient, forward direction. -/
def akx : Vec F S256x256 .f32 := k0_pay89 lg (k0_pay78 (x512 vb)) (dst0 lg qb gb 16)
/-- The context rows' share of the value's gradient, forward direction. -/
def avx : Vec F S256x512 .f32 := k0_pay90 lg (k0_pay77 (x256 kb)) (dst0 lg qb gb 16)

/-! ## The reverse direction -/

/-- The state before step `j` of the reverse direction, which works chunk `15 - j`. -/
def fwd1 : ℕ → Vec F S1x256x512 .f32
  | 0 => k0_pay94 lg (x256 kb) (x512 vb)
  | j + 1 => k0_pay95 lg (fwd1 j) (c256 kb (15 - j)) (c512 vb (15 - j))

/-- The gradient of the state before the backward loop's trip `t`, reverse direction: trip `t` works chunk `t`. -/
def dst1 : ℕ → Vec F S256x512 .f32
  | 0 => k0_pay96
  | t + 1 => k0_pay74 (k0_pay67 lg (k0_pay39 (c256 qb t)) (k0_pay45 lg) (dst1 t) (c512 gb t))

/-- The rows of the query's gradient at chunk `t`: the reverse direction's, added to the forward direction's `a`. -/
def bq (a : Vec F S128x256 .f32) (t : ℕ) : Vec F S128x256 .bf16 :=
  k0_pay99 (k0_pay72 (k0_pay40 (c256 kb t)) (k0_pay41 (c512 vb t)) (k0_pay50 lg)
    (k0_pay66 (k0_pay38 (fwd1 lg kb vb (15 - t))) (k0_pay45 lg) (c512 gb t)) (k0_pay68 (c512 gb t))) a

/-- The rows of the key's gradient at chunk `t`, both directions. -/
def bk (a : Vec F S128x256 .f32) (t : ℕ) : Vec F S128x256 .bf16 :=
  k0_pay75 (k0_pay39 (c256 qb t)) (k0_pay41 (c512 vb t)) (k0_pay50 lg)
    (k0_pay62 (k0_pay41 (c512 vb t)) (k0_pay46 lg) (dst1 lg qb gb t)) (k0_pay68 (c512 gb t)) a

/-- The rows of the value's gradient at chunk `t`, both directions. -/
def bv (a : Vec F S128x512 .f32) (t : ℕ) : Vec F S128x512 .bf16 :=
  k0_pay98 (k0_pay70 (k0_pay52 lg (c256 qb t) (c256 kb t)) (k0_pay56 (c512 gb t))
    (k0_pay60 (k0_pay40 (c256 kb t)) (k0_pay46 lg) (dst1 lg qb gb t))) a

/-- The context rows of the key's gradient, both directions. -/
def bkx (a : Vec F S256x256 .f32) : Vec F S256x256 .bf16 :=
  k0_pay105 (k0_pay93 (x512 vb)) (k0_pay102 lg) (dst1 lg qb gb 16) a
/-- The context rows of the value's gradient, both directions. -/
def bvx (a : Vec F S256x512 .f32) : Vec F S256x512 .bf16 :=
  k0_pay106 (k0_pay92 (x256 kb)) (k0_pay102 lg) (dst1 lg qb gb 16) a

/-! ## A point's three result blocks -/

variable (lg' : Vec F S1x1 .f32)

/-- A block from its sixteen chunks and its context rows, 256 columns. -/
def glue256 {e : EltTy} (f : ℕ → S128x256.Idx → Elt F e) (g : S256x256.Idx → Elt F e) : S2304x256.Idx → Elt F e :=
  fun i => if h : (i 0).val < 2048 then f ((i 0).val / 128) (ix2 ⟨(i 0).val % 128, Nat.mod_lt _ (by decide)⟩ (i 1))
    else g (ix2 ⟨(i 0).val - 2048, by have : (i 0).val < 2304 := (i 0).isLt; omega⟩ (i 1))

/-- A block from its sixteen chunks and its context rows, 512 columns. -/
def glue512 {e : EltTy} (f : ℕ → S128x512.Idx → Elt F e) (g : S256x512.Idx → Elt F e) : S2304x512.Idx → Elt F e :=
  fun i => if h : (i 0).val < 2048 then f ((i 0).val / 128) (ix2 ⟨(i 0).val % 128, Nat.mod_lt _ (by decide)⟩ (i 1))
    else g (ix2 ⟨(i 0).val - 2048, by have : (i 0).val < 2304 := (i 0).isLt; omega⟩ (i 1))

/-- The query's gradient of a point: no context rows are read by the query, so those are zero. -/
def outQ : Vec F S2304x256 .bf16 := glue256 (fun t => bq lg' kb vb gb (aq lg kb vb gb (15 - t)) t) k0_pay108
/-- The key's gradient of a point. -/
def outK : Vec F S2304x256 .bf16 :=
  glue256 (fun t => bk lg' qb vb gb (ak lg qb vb gb (15 - t)) t) (bkx lg' qb vb gb (akx lg qb vb gb))
/-- The value's gradient of a point. -/
def outV : Vec F S2304x512 .bf16 :=
  glue512 (fun t => bv lg' qb kb gb (av lg qb kb gb (15 - t)) t) (bvx lg' qb kb gb (avx lg qb kb gb))

end Cert.KernelIdeal.Steps

end
-- ==== Proof.Blocks.lean ====
/-
  Reading a unit-stride rectangle back after writes of unit-stride rectangles: the newest write's payload if it went to
  the same rectangle, what was there before if it went to a disjoint one.
-/
module

public import proofs.«01_k».proof.Proof.Steps

@[expose] public section

noncomputable section

namespace Cert.KernelIdeal.Steps

open Idealize.ShloMosaic Idealize.ShloMosaic.TcCoe
open Cert.KernelIdeal.Gen

section
variable {sig : RefSig} {κ : Kind} {sp : Space} {s : Shape} {e : EltTy} {Val : EltTy → Type}
variable (v : View sig κ sp s e) (f : BufTy.Contents Val v.ty)

/-- Reading the rectangle that the newest write went to gives its payload. -/
theorem ld_writes_same {off off' size : Fin s.rank → ℕ} (inb : ∀ a, off a + size a ≤ s.size a)
    (inb' : ∀ a, off' a + size a ≤ s.size a)
    (w : (Rect.unit off size inb).shape.Idx → Val e) (L : List (View.Piece Val s e)) (heq : off = off') :
    View.ld (v.read Val (v.writes Val f ((⟨Rect.unit off size inb, w⟩ : View.Piece Val s e) :: L))) (Rect.unit off' size inb')
      = w := by
  subst heq
  funext x
  exact View.read_writes_cons_emb v f (Rect.unit off size inb) w L x

/-- Reading a rectangle that the newest write missed gives what was there before. -/
theorem ld_writes_other {off off' size off₁ size₁ : Fin s.rank → ℕ} (inb : ∀ a, off a + size a ≤ s.size a)
    (inb₁ : ∀ a, off₁ a + size₁ a ≤ s.size a)
    (w : (Rect.unit off size inb).shape.Idx → Val e) (L : List (View.Piece Val s e)) (heq : off = off')
    (a : Fin s.rank) (ha : off₁ a + size₁ a ≤ off' a ∨ off' a + size a ≤ off₁ a) :
    View.ld (v.read Val (v.writes Val f ((⟨Rect.unit off size inb, w⟩ : View.Piece Val s e) :: L))) (Rect.unit off₁ size₁ inb₁)
      = View.ld (v.read Val (v.writes Val f L)) (Rect.unit off₁ size₁ inb₁) := by
  funext x
  refine View.read_writes_cons_unit_of_not_mem v f inb w L _ heq a ?_
  have hx : (((Rect.unit off₁ size₁ inb₁).idx x) a).val = off₁ a + 1 * (x a).val := rfl
  have hlt : (x a).val < size₁ a := (x a).isLt
  rw [hx]
  omega
end

section
variable {F : FTy → Type} [FloatOps F] {κ : Kind} {sp : Space} {e : EltTy}

/-! ### Loads -/

theorem readAt_slot (v : View sig κ sp S16x256x512 .f32) (f : BufTy.Contents (Elt F) v.ty) {off : Fin 3 → ℕ} {o j : ℕ}
    (inb : ∀ a, off a + S1x256x512.size a ≤ S16x256x512.size a) (heq : off = ![o, 0, 0]) (ho : o = j % 16) :
    v.readAt (Elt F) (Rect.unit (s := S16x256x512) off S1x256x512.size inb).toLoadRect f = slot (v.read (Elt F) f) j := by
  subst ho; subst heq; rfl

theorem readAt_c256 (v : View sig κ sp S2304x256 e) (f : BufTy.Contents (Elt F) v.ty) {off : Fin 2 → ℕ} {o j : ℕ}
    (inb : ∀ a, off a + S128x256.size a ≤ S2304x256.size a) (heq : off = ![o, 0]) (ho : o = 128 * (j % 16)) :
    v.readAt (Elt F) (Rect.unit (s := S2304x256) off S128x256.size inb).toLoadRect f = c256 (v.read (Elt F) f) j := by
  subst ho; subst heq; rfl

theorem readAt_x256 (v : View sig κ sp S2304x256 e) (f : BufTy.Contents (Elt F) v.ty)
    (inb : ∀ a, (![2048, 0] : Fin 2 → ℕ) a + S256x256.size a ≤ S2304x256.size a) :
    v.readAt (Elt F) (Rect.unit (s := S2304x256) ![2048, 0] S256x256.size inb).toLoadRect f = x256 (v.read (Elt F) f) := rfl

theorem readAt_c512 (v : View sig κ sp S2304x512 e) (f : BufTy.Contents (Elt F) v.ty) {off : Fin 2 → ℕ} {o j : ℕ}
    (inb : ∀ a, off a + S128x512.size a ≤ S2304x512.size a) (heq : off = ![o, 0]) (ho : o = 128 * (j % 16)) :
    v.readAt (Elt F) (Rect.unit (s := S2304x512) off S128x512.size inb).toLoadRect f = c512 (v.read (Elt F) f) j := by
  subst ho; subst heq; rfl

theorem readAt_x512 (v : View sig κ sp S2304x512 e) (f : BufTy.Contents (Elt F) v.ty)
    (inb : ∀ a, (![2048, 0] : Fin 2 → ℕ) a + S256x512.size a ≤ S2304x512.size a) :
    v.readAt (Elt F) (Rect.unit (s := S2304x512) ![2048, 0] S256x512.size inb).toLoadRect f = x512 (v.read (Elt F) f) := rfl

theorem readAt_full (v : View sig κ sp S256x512 e) (f : BufTy.Contents (Elt F) v.ty)
    (inb : ∀ a, (![0, 0] : Fin 2 → ℕ) a + S256x512.size a ≤ S256x512.size a) :
    v.readAt (Elt F) (Rect.unit (s := S256x512) ![0, 0] S256x512.size inb).toLoadRect f = v.read (Elt F) f := by
  funext x
  refine congrArg (v.read (Elt F) f) (funext fun a => Fin.ext ?_)
  match a with
  | ⟨0, _⟩ => show 0 + 1 * (x 0).val = (x 0).val; omega
  | ⟨1, _⟩ => show 0 + 1 * (x 1).val = (x 1).val; omega

/-! ### Stores -/

theorem full_same (v : View sig κ sp S256x512 e) (f : BufTy.Contents (Elt F) v.ty)
    (inb : ∀ a, (![0, 0] : Fin 2 → ℕ) a + S256x512.size a ≤ S256x512.size a)
    (w : S256x512.Idx → Elt F e) (L : List (View.Piece (Elt F) S256x512 e)) :
    v.read (Elt F) (v.writes (Elt F) f (⟨Rect.unit (s := S256x512) ![0, 0] S256x512.size inb, w⟩ :: L)) = w :=
  (readAt_full v _ inb).symm.trans (ld_writes_same v f inb inb w L rfl)

theorem slot_same (v : View sig κ sp S16x256x512 .f32) (f : BufTy.Contents (Elt F) v.ty) {off : Fin 3 → ℕ} {o j : ℕ}
    (inb : ∀ a, off a + S1x256x512.size a ≤ S16x256x512.size a)
    (w : S1x256x512.Idx → Elt F .f32) (L : List (View.Piece (Elt F) S16x256x512 .f32))
    (heq : off = ![o, 0, 0]) (ho : o = j % 16) :
    slot (v.read (Elt F) (v.writes (Elt F) f (⟨Rect.unit (s := S16x256x512) off S1x256x512.size inb, w⟩ :: L))) j = w :=
  ld_writes_same v f inb (inbSt j) w L (by subst ho; exact heq)

theorem slot_other (v : View sig κ sp S16x256x512 .f32) (f : BufTy.Contents (Elt F) v.ty) {off : Fin 3 → ℕ} {o j : ℕ}
    (inb : ∀ a, off a + S1x256x512.size a ≤ S16x256x512.size a)
    (w : S1x256x512.Idx → Elt F .f32) (L : List (View.Piece (Elt F) S16x256x512 .f32))
    (heq : off = ![o, 0, 0]) (ho : o ≠ j % 16) :
    slot (v.read (Elt F) (v.writes (Elt F) f (⟨Rect.unit (s := S16x256x512) off S1x256x512.size inb, w⟩ :: L))) j
      = slot (v.read (Elt F) (v.writes (Elt F) f L)) j :=
  ld_writes_other v f inb (inbSt j) w L heq (0 : Fin 3)
    (by show j % 16 + 1 ≤ o ∨ o + 1 ≤ j % 16; omega)

theorem c256_same (v : View sig κ sp S2304x256 e) (f : BufTy.Contents (Elt F) v.ty) {off : Fin 2 → ℕ} {o j : ℕ}
    (inb : ∀ a, off a + S128x256.size a ≤ S2304x256.size a)
    (w : S128x256.Idx → Elt F e) (L : List (View.Piece (Elt F) S2304x256 e)) (heq : off = ![o, 0]) (ho : o = 128 * (j % 16)) :
    c256 (v.read (Elt F) (v.writes (Elt F) f (⟨Rect.unit (s := S2304x256) off S128x256.size inb, w⟩ :: L))) j = w :=
  ld_writes_same v f inb (inb256 j) w L (by subst ho; exact heq)

theorem c256_other (v : View sig κ sp S2304x256 e) (f : BufTy.Contents (Elt F) v.ty) {off size : Fin 2 → ℕ} {o m j : ℕ}
    (inb : ∀ a, off a + size a ≤ S2304x256.size a)
    (w : (Rect.unit (s := S2304x256) off size inb).shape.Idx → Elt F e) (L : List (View.Piece (Elt F) S2304x256 e))
    (heq : off = ![o, 0]) (hm : size 0 = m) (ho : 128 * (j % 16) + 128 ≤ o ∨ o + m ≤ 128 * (j % 16)) :
    c256 (v.read (Elt F) (v.writes (Elt F) f (⟨Rect.unit (s := S2304x256) off size inb, w⟩ :: L))) j
      = c256 (v.read (Elt F) (v.writes (Elt F) f L)) j :=
  ld_writes_other v f inb (inb256 j) w L heq (0 : Fin 2) (by subst hm; exact ho)

theorem x256_same (v : View sig κ sp S2304x256 e) (f : BufTy.Contents (Elt F) v.ty)
    (inb : ∀ a, (![2048, 0] : Fin 2 → ℕ) a + S256x256.size a ≤ S2304x256.size a)
    (w : S256x256.Idx → Elt F e) (L : List (View.Piece (Elt F) S2304x256 e)) :
    x256 (v.read (Elt F) (v.writes (Elt F) f (⟨Rect.unit (s := S2304x256) ![2048, 0] S256x256.size inb, w⟩ :: L))) = w :=
  ld_writes_same v f inb _ w L rfl

theorem x256_other (v : View sig κ sp S2304x256 e) (f : BufTy.Contents (Elt F) v.ty) {off : Fin 2 → ℕ} {o : ℕ}
    (inb : ∀ a, off a + S128x256.size a ≤ S2304x256.size a)
    (w : S128x256.Idx → Elt F e) (L : List (View.Piece (Elt F) S2304x256 e)) (heq : off = ![o, 0]) (ho : o + 128 ≤ 2048) :
    x256 (v.read (Elt F) (v.writes (Elt F) f (⟨Rect.unit (s := S2304x256) off S128x256.size inb, w⟩ :: L)))
      = x256 (v.read (Elt F) (v.writes (Elt F) f L)) :=
  ld_writes_other v f inb inb_S2304x256_S256x256_2048_0 w L heq (0 : Fin 2) (Or.inr ho)

/-- A block is its chunks and its context rows, glued. -/
theorem eq_glue256 (x : S2304x256.Idx → Elt F e) (f : ℕ → S128x256.Idx → Elt F e) (g : S256x256.Idx → Elt F e)
    (hf : ∀ j < 16, c256 x j = f j) (hg : x256 x = g) : x = glue256 f g := by
  funext i
  have h0 : (i 0).val < 2304 := (i 0).isLt
  unfold glue256
  split
  · rename_i h
    rw [← hf ((i 0).val / 128) (by omega)]
    refine congrArg x (funext fun a => Fin.ext ?_)
    match a with
    | ⟨0, _⟩ => show (i 0).val = 128 * ((i 0).val / 128 % 16) + 1 * ((i 0).val % 128); omega
    | ⟨1, _⟩ => show (i 1).val = 0 + 1 * (i 1).val; omega
  · rename_i h
    rw [← hg]
    refine congrArg x (funext fun a => Fin.ext ?_)
    match a with
    | ⟨0, _⟩ => show (i 0).val = 2048 + 1 * ((i 0).val - 2048); omega
    | ⟨1, _⟩ => show (i 1).val = 0 + 1 * (i 1).val; omega

theorem c512_same (v : View sig κ sp S2304x512 e) (f : BufTy.Contents (Elt F) v.ty) {off : Fin 2 → ℕ} {o j : ℕ}
    (inb : ∀ a, off a + S128x512.size a ≤ S2304x512.size a)
    (w : S128x512.Idx → Elt F e) (L : List (View.Piece (Elt F) S2304x512 e)) (heq : off = ![o, 0]) (ho : o = 128 * (j % 16)) :
    c512 (v.read (Elt F) (v.writes (Elt F) f (⟨Rect.unit (s := S2304x512) off S128x512.size inb, w⟩ :: L))) j = w :=
  ld_writes_same v f inb (inb512 j) w L (by subst ho; exact heq)

theorem c512_other (v : View sig κ sp S2304x512 e) (f : BufTy.Contents (Elt F) v.ty) {off size : Fin 2 → ℕ} {o m j : ℕ}
    (inb : ∀ a, off a + size a ≤ S2304x512.size a)
    (w : (Rect.unit (s := S2304x512) off size inb).shape.Idx → Elt F e) (L : List (View.Piece (Elt F) S2304x512 e))
    (heq : off = ![o, 0]) (hm : size 0 = m) (ho : 128 * (j % 16) + 128 ≤ o ∨ o + m ≤ 128 * (j % 16)) :
    c512 (v.read (Elt F) (v.writes (Elt F) f (⟨Rect.unit (s := S2304x512) off size inb, w⟩ :: L))) j
      = c512 (v.read (Elt F) (v.writes (Elt F) f L)) j :=
  ld_writes_other v f inb (inb512 j) w L heq (0 : Fin 2) (by subst hm; exact ho)

theorem x512_same (v : View sig κ sp S2304x512 e) (f : BufTy.Contents (Elt F) v.ty)
    (inb : ∀ a, (![2048, 0] : Fin 2 → ℕ) a + S256x512.size a ≤ S2304x512.size a)
    (w : S256x512.Idx → Elt F e) (L : List (View.Piece (Elt F) S2304x512 e)) :
    x512 (v.read (Elt F) (v.writes (Elt F) f (⟨Rect.unit (s := S2304x512) ![2048, 0] S256x512.size inb, w⟩ :: L))) = w :=
  ld_writes_same v f inb _ w L rfl

theorem x512_other (v : View sig κ sp S2304x512 e) (f : BufTy.Contents (Elt F) v.ty) {off : Fin 2 → ℕ} {o : ℕ}
    (inb : ∀ a, off a + S128x512.size a ≤ S2304x512.size a)
    (w : S128x512.Idx → Elt F e) (L : List (View.Piece (Elt F) S2304x512 e)) (heq : off = ![o, 0]) (ho : o + 128 ≤ 2048) :
    x512 (v.read (Elt F) (v.writes (Elt F) f (⟨Rect.unit (s := S2304x512) off S128x512.size inb, w⟩ :: L)))
      = x512 (v.read (Elt F) (v.writes (Elt F) f L)) :=
  ld_writes_other v f inb inb_S2304x512_S256x512_2048_0 w L heq (0 : Fin 2) (Or.inr ho)

/-- A block is its chunks and its context rows, glued. -/
theorem eq_glue512 (x : S2304x512.Idx → Elt F e) (f : ℕ → S128x512.Idx → Elt F e) (g : S256x512.Idx → Elt F e)
    (hf : ∀ j < 16, c512 x j = f j) (hg : x512 x = g) : x = glue512 f g := by
  funext i
  have h0 : (i 0).val < 2304 := (i 0).isLt
  unfold glue512
  split
  · rename_i h
    rw [← hf ((i 0).val / 128) (by omega)]
    refine congrArg x (funext fun a => Fin.ext ?_)
    match a with
    | ⟨0, _⟩ => show (i 0).val = 128 * ((i 0).val / 128 % 16) + 1 * ((i 0).val % 128); omega
    | ⟨1, _⟩ => show (i 1).val = 0 + 1 * (i 1).val; omega
  · rename_i h
    rw [← hg]
    refine congrArg x (funext fun a => Fin.ext ?_)
    match a with
    | ⟨0, _⟩ => show (i 0).val = 2048 + 1 * ((i 0).val - 2048); omega
    | ⟨1, _⟩ => show (i 1).val = 0 + 1 * (i 1).val; omega

end

end Cert.KernelIdeal.Steps

end
-- ==== Proof.Loop1.lean ====
module

public import proofs.«01_k».proof.Proof.Blocks

@[expose] public section

set_option maxRecDepth 8192

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

variable (𝒱 : Variants) (c : Dev nD) (bd : Option 𝒱.V) (E : Set ℕ)
variable (i : grid0.Coords)
variable (arg2 : Memref sig .tc .vmem S8x128 .f32) (harg2 : arg2.IsWhole)
variable (arg3 : Memref sig .tc .vmem S2304x256 .bf16) (harg3 : arg3.IsWhole)
variable (arg4 : Memref sig .tc .vmem S2304x256 .bf16) (harg4 : arg4.IsWhole)
variable (arg5 : Memref sig .tc .vmem S2304x512 .bf16) (harg5 : arg5.IsWhole)
variable (arg6 : Memref sig .tc .vmem S2304x512 .bf16) (harg6 : arg6.IsWhole)
variable (arg7 : Memref sig .tc .vmem S2304x256 .bf16) (harg7 : arg7.IsWhole)
variable (arg8 : Memref sig .tc .vmem S2304x256 .bf16) (harg8 : arg8.IsWhole)
variable (arg9 : Memref sig .tc .vmem S2304x512 .bf16) (harg9 : arg9.IsWhole)
variable (arg10 : Memref sig .tc .vmem S8x128 .f32) (harg10 : arg10.IsWhole)
variable (arg11 : Memref sig .tc .vmem S16x256x512 .f32) (harg11 : arg11.IsWhole)
variable (arg12 : Memref sig .tc .vmem S256x512 .f32) (harg12 : arg12.IsWhole)
variable (arg13 : Memref sig .tc .vmem S2304x256 .f32) (harg13 : arg13.IsWhole)
variable (arg14 : Memref sig .tc .vmem S2304x256 .f32) (harg14 : arg14.IsWhole)
variable (arg15 : Memref sig .tc .vmem S2304x512 .f32) (harg15 : arg15.IsWhole)
variable (v7 : Vec F S1x1 .f32) (K : S2304x256.Idx → Elt F .bf16) (V : S2304x512.Idx → Elt F .bf16)

/-- Before trip `k` of the forward recursion, forward direction: slots `0 … k` hold the states before those chunks. -/
abbrev inv1 (k : ℕ) : sProp 𝕄G :=
  iprop((∃ f4, (arg4.view.loc (c : Thread nD τ) ↦[arg4.view.set]{fullShare} f4) ∗ ⌜arg4.view.read (Elt F) f4 = K⌝)
    ∗ (∃ f5, (arg5.view.loc (c : Thread nD τ) ↦[arg5.view.set]{fullShare} f5) ∗ ⌜arg5.view.read (Elt F) f5 = V⌝)
    ∗ (∃ f11, (arg11.view.loc (c : Thread nD τ) ↦[arg11.view.set]{fullShare} f11)
        ∗ ⌜∀ j ≤ k, slot (arg11.view.read (Elt F) f11) j = fwd0 v7 K V j⌝))

set_option warn.classDefReducibility false in
def loop1 : Idealize.ShloMosaic.LoopInv (M := 𝕄G) Idealize.ShloMosaic.frame (wpE (defs₀ (F := F)) 𝒱 (c : Thread nD τ) bd) E
    k0_t1_loop.lb k0_t1_loop.ub k0_t1_loop.st k0_t1_ok (⟨⟩ : Unit) (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 v7) where
  inv k _ := inv1 c arg4 arg5 arg11 v7 K V k
  step k acc := by
    have hk : k.val < 15 := Nat.lt_of_lt_of_le k.isLt k0_t1_abs.2.1
    unfold k0_t1_body
    iintro ⟨⟨%f4, H4, %h4⟩, ⟨%f5, H5, %h5⟩, ⟨%f11, H11, %h11⟩⟩
    sl_exec
    sl_step
    isplitl [H4]
    · iexists _
      isplitl [H4]; · iexact H4
      ipureintro; exact h4
    isplitl [H5]
    · iexists _
      isplitl [H5]; · iexact H5
      ipureintro; exact h5
    iexists _; isplitl [H11]; · iexact H11
    ipureintro
    intro j hj
    by_cases hjk : j = k.val + 1
    · subst hjk
      rw [slot_same _ _ _ _ _ (k0_off5_eq k) (by omega), readAt_slot _ _ _ (k0_off2_eq k) (j := k.val) (by omega),
        readAt_c256 _ _ _ (k0_off3_eq k) (j := k.val) (by omega), readAt_c512 _ _ _ (k0_off4_eq k) (j := k.val) (by omega),
        h4, h5, h11 _ (Nat.le_refl _)]
      rfl
    · rw [slot_other _ _ _ _ _ (k0_off5_eq k) (by omega), View.writes_nil]
      exact h11 j (by omega)

/-- The loop at the head of a program: from the invariant at trip 0, with what follows run from the invariant at the end. -/
theorem rule1 {β : Type} {kk : Unit → Prog (TpuEff nD τ sig (Elt F) Λ₀ .tc) β} {R : β → sProp 𝕄G} :
    inv1 c arg4 arg5 arg11 v7 K V 0
    ⊢ iprop((∀ acc, inv1 c arg4 arg5 arg11 v7 K V 15 -∗ wp frame (wpE (defs₀ (F := F)) 𝒱 (c : Thread nD τ) bd) E (kk acc) R)
      -∗ wp frame (wpE (defs₀ (F := F)) 𝒱 (c : Thread nD τ) bd) E (Scf.Loop.for k0_t1_loop k0_t1_ok (⟨⟩ : Unit)
        (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 v7) >>= kk) R) := by
  have h : k0_t1_loop.trips = 15 := by decide
  have e := exec_loop (M := 𝕄G) frame (wpE (defs₀ (F := F)) 𝒱 (c : Thread nD τ) bd) E _ _ _ _ _ _
    (loop1 𝒱 c bd E i arg2 harg2 arg3 harg3 arg4 harg4 arg5 harg5 arg6 harg6 arg7 harg7 arg8 harg8 arg9 harg9 arg10 harg10 arg11 harg11 arg12 harg12 arg13 harg13 arg14 harg14 arg15 harg15 v7 K V) (kk := kk) (Q := R)
  rw [← h]
  exact e

end Cert.KernelIdeal.Steps

end
-- ==== Proof.Loop2.lean ====
module

public import proofs.«01_k».proof.Proof.Blocks

@[expose] public section

set_option maxRecDepth 8192

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

variable (𝒱 : Variants) (c : Dev nD) (bd : Option 𝒱.V) (E : Set ℕ)
variable (i : grid0.Coords)
variable (arg2 : Memref sig .tc .vmem S8x128 .f32) (harg2 : arg2.IsWhole)
variable (arg3 : Memref sig .tc .vmem S2304x256 .bf16) (harg3 : arg3.IsWhole)
variable (arg4 : Memref sig .tc .vmem S2304x256 .bf16) (harg4 : arg4.IsWhole)
variable (arg5 : Memref sig .tc .vmem S2304x512 .bf16) (harg5 : arg5.IsWhole)
variable (arg6 : Memref sig .tc .vmem S2304x512 .bf16) (harg6 : arg6.IsWhole)
variable (arg7 : Memref sig .tc .vmem S2304x256 .bf16) (harg7 : arg7.IsWhole)
variable (arg8 : Memref sig .tc .vmem S2304x256 .bf16) (harg8 : arg8.IsWhole)
variable (arg9 : Memref sig .tc .vmem S2304x512 .bf16) (harg9 : arg9.IsWhole)
variable (arg10 : Memref sig .tc .vmem S8x128 .f32) (harg10 : arg10.IsWhole)
variable (arg11 : Memref sig .tc .vmem S16x256x512 .f32) (harg11 : arg11.IsWhole)
variable (arg12 : Memref sig .tc .vmem S256x512 .f32) (harg12 : arg12.IsWhole)
variable (arg13 : Memref sig .tc .vmem S2304x256 .f32) (harg13 : arg13.IsWhole)
variable (arg14 : Memref sig .tc .vmem S2304x256 .f32) (harg14 : arg14.IsWhole)
variable (arg15 : Memref sig .tc .vmem S2304x512 .f32) (harg15 : arg15.IsWhole)
variable (v5 : BitVec 32) (v7 : Vec F S1x1 .f32) (v9 : FVec F S256x256 .f32) (v11 : FVec F S256x512 .f32) (cst_15 : F .f32)
variable (Q K : S2304x256.Idx → Elt F .bf16) (V G : S2304x512.Idx → Elt F .bf16)

/-- Before trip `k` of the backward recursion, forward direction: the state gradient of that trip, and the rows of the finished chunks. -/
abbrev inv2 (k : ℕ) : sProp 𝕄G :=
  iprop((∃ f3, (arg3.view.loc (c : Thread nD τ) ↦[arg3.view.set]{fullShare} f3) ∗ ⌜arg3.view.read (Elt F) f3 = Q⌝)
    ∗ (∃ f4, (arg4.view.loc (c : Thread nD τ) ↦[arg4.view.set]{fullShare} f4) ∗ ⌜arg4.view.read (Elt F) f4 = K⌝)
    ∗ (∃ f5, (arg5.view.loc (c : Thread nD τ) ↦[arg5.view.set]{fullShare} f5) ∗ ⌜arg5.view.read (Elt F) f5 = V⌝)
    ∗ (∃ f6, (arg6.view.loc (c : Thread nD τ) ↦[arg6.view.set]{fullShare} f6) ∗ ⌜arg6.view.read (Elt F) f6 = G⌝)
    ∗ (∃ f11, (arg11.view.loc (c : Thread nD τ) ↦[arg11.view.set]{fullShare} f11) ∗ ⌜∀ j ≤ 15, slot (arg11.view.read (Elt F) f11) j = fwd0 v7 K V j⌝)
    ∗ (∃ f12, (arg12.view.loc (c : Thread nD τ) ↦[arg12.view.set]{fullShare} f12) ∗ ⌜arg12.view.read (Elt F) f12 = dst0 v7 Q G k⌝)
    ∗ (∃ f13, (arg13.view.loc (c : Thread nD τ) ↦[arg13.view.set]{fullShare} f13) ∗ ⌜∀ t < k, c256 (arg13.view.read (Elt F) f13) (15 - t) = aq v7 K V G t⌝)
    ∗ (∃ f14, (arg14.view.loc (c : Thread nD τ) ↦[arg14.view.set]{fullShare} f14) ∗ ⌜∀ t < k, c256 (arg14.view.read (Elt F) f14) (15 - t) = ak v7 Q V G t⌝)
    ∗ (∃ f15, (arg15.view.loc (c : Thread nD τ) ↦[arg15.view.set]{fullShare} f15) ∗ ⌜∀ t < k, c512 (arg15.view.read (Elt F) f15) (15 - t) = av v7 Q K G t⌝))

set_option warn.classDefReducibility false in
def loop2 : Idealize.ShloMosaic.LoopInv (M := 𝕄G) Idealize.ShloMosaic.frame (wpE (defs₀ (F := F)) 𝒱 (c : Thread nD τ) bd) E
    k0_t2_loop.lb k0_t2_loop.ub k0_t2_loop.st k0_t2_ok (k0_pay82 cst_15) (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 v5 v7 v9 v11 cst_15) where
  inv k _ := inv2 c arg3 arg4 arg5 arg6 arg11 arg12 arg13 arg14 arg15 v7 Q K V G k
  step k acc := by
    have hk : k.val < 16 := Nat.lt_of_lt_of_le k.isLt k0_t2_abs.2.1
    unfold k0_t2_body
    iintro ⟨⟨%f3, H3, %h3⟩, ⟨%f4, H4, %h4⟩, ⟨%f5, H5, %h5⟩, ⟨%f6, H6, %h6⟩, ⟨%f11, H11, %h11⟩, ⟨%f12, H12, %h12⟩, ⟨%f13, H13, %h13⟩, ⟨%f14, H14, %h14⟩, ⟨%f15, H15, %h15⟩⟩
    sl_exec
    sl_step
    have e11 := (readAt_slot arg11.view f11 (k0_off6_inb k) (k0_off6_eq k) (j := 15 - k.val) (by omega)).trans (h11 _ (by omega))
    have e3 := readAt_c256 arg3.view f3 (k0_off7_inb k) (k0_off7_eq k) (j := 15 - k.val) (by omega)
    have e4 := readAt_c256 arg4.view f4 (k0_off7_inb k) (k0_off7_eq k) (j := 15 - k.val) (by omega)
    have e5 := readAt_c512 arg5.view f5 (k0_off8_inb k) (k0_off8_eq k) (j := 15 - k.val) (by omega)
    have e6 := readAt_c512 arg6.view f6 (k0_off8_inb k) (k0_off8_eq k) (j := 15 - k.val) (by omega)
    have e12 := readAt_full arg12.view f12 inb_S256x512_S256x512_0_0
    rw [h3] at e3
    rw [h4] at e4
    rw [h5] at e5
    rw [h6] at e6
    rw [h12] at e12
    have n12 : arg12.view.read (Elt F) (arg12.view.writes (Elt F) f12
        [⟨Rect.unit ![0, 0] S256x512.size inb_S256x512_S256x512_0_0, k0_pay36 (loop2.sl.r_14 c arg3 arg6 arg12 v7 k f3 f6 f12)⟩])
        = dst0 v7 Q G (k.val + 1) := by
      rw [full_same]
      delta loop2.sl.r loop2.sl.r_1 loop2.sl.r_2 loop2.sl.r_3 loop2.sl.r_4 loop2.sl.r_5 loop2.sl.r_6 loop2.sl.r_7 loop2.sl.r_8 loop2.sl.r_9 loop2.sl.r_10 loop2.sl.r_11 loop2.sl.r_12 loop2.sl.r_13 loop2.sl.r_14 loop2.sl.r_15 loop2.sl.r_16
      simp only [e3, e4, e5, e6, e11, e12]
      rfl
    have n13 : ∀ t < k.val + 1, c256 (arg13.view.read (Elt F) (arg13.view.writes (Elt F) f13
        [⟨Rect.unit (s := S2304x256) (k0_off7 k) S128x256.size (k0_off7_inb k), k0_pay84 (loop2.sl.r_16 c arg4 arg5 arg6 arg11 v7 k f4 f5 f6 f11)⟩])) (15 - t) = aq v7 K V G t := by
      intro t ht
      by_cases htk : t = k.val
      · subst htk
        rw [c256_same _ _ _ _ _ (k0_off7_eq k) (by omega)]
        delta loop2.sl.r loop2.sl.r_1 loop2.sl.r_2 loop2.sl.r_3 loop2.sl.r_4 loop2.sl.r_5 loop2.sl.r_6 loop2.sl.r_7 loop2.sl.r_8 loop2.sl.r_9 loop2.sl.r_10 loop2.sl.r_11 loop2.sl.r_12 loop2.sl.r_13 loop2.sl.r_14 loop2.sl.r_15 loop2.sl.r_16
        simp only [e3, e4, e5, e6, e11, e12]
        rfl
      · rw [c256_other _ _ _ _ _ (k0_off7_eq k) rfl (by show _ ∨ _ + 128 ≤ _; omega), View.writes_nil]
        exact h13 t (by omega)
    have n14 : ∀ t < k.val + 1, c256 (arg14.view.read (Elt F) (arg14.view.writes (Elt F) f14
        [⟨Rect.unit (s := S2304x256) (k0_off7 k) S128x256.size (k0_off7_inb k), k0_pay37 (loop2.sl.r_1 c arg3 k f3) (loop2.sl.r_3 c arg5 k f5) (k0_pay14 v7) (loop2.sl.r_7 c arg6 k f6)
            (loop2.sl.r_10 c arg5 arg12 v7 k f5 f12)⟩])) (15 - t) = ak v7 Q V G t := by
      intro t ht
      by_cases htk : t = k.val
      · subst htk
        rw [c256_same _ _ _ _ _ (k0_off7_eq k) (by omega)]
        delta loop2.sl.r loop2.sl.r_1 loop2.sl.r_2 loop2.sl.r_3 loop2.sl.r_4 loop2.sl.r_5 loop2.sl.r_6 loop2.sl.r_7 loop2.sl.r_8 loop2.sl.r_9 loop2.sl.r_10 loop2.sl.r_11 loop2.sl.r_12 loop2.sl.r_13 loop2.sl.r_14 loop2.sl.r_15 loop2.sl.r_16
        simp only [e3, e4, e5, e6, e11, e12]
        rfl
      · rw [c256_other _ _ _ _ _ (k0_off7_eq k) rfl (by show _ ∨ _ + 128 ≤ _; omega), View.writes_nil]
        exact h14 t (by omega)
    have n15 : ∀ t < k.val + 1, c512 (arg15.view.read (Elt F) (arg15.view.writes (Elt F) f15
        [⟨Rect.unit (s := S2304x512) (k0_off8 k) S128x512.size (k0_off8_inb k), k0_pay83 (loop2.sl.r_15 c arg3 arg4 arg6 arg12 v7 k f3 f4 f6 f12)⟩])) (15 - t) = av v7 Q K G t := by
      intro t ht
      by_cases htk : t = k.val
      · subst htk
        rw [c512_same _ _ _ _ _ (k0_off8_eq k) (by omega)]
        delta loop2.sl.r loop2.sl.r_1 loop2.sl.r_2 loop2.sl.r_3 loop2.sl.r_4 loop2.sl.r_5 loop2.sl.r_6 loop2.sl.r_7 loop2.sl.r_8 loop2.sl.r_9 loop2.sl.r_10 loop2.sl.r_11 loop2.sl.r_12 loop2.sl.r_13 loop2.sl.r_14 loop2.sl.r_15 loop2.sl.r_16
        simp only [e3, e4, e5, e6, e11, e12]
        rfl
      · rw [c512_other _ _ _ _ _ (k0_off8_eq k) rfl (by show _ ∨ _ + 128 ≤ _; omega), View.writes_nil]
        exact h15 t (by omega)
    isplitl [H3]
    · iexists _
      isplitl [H3]; · iexact H3
      ipureintro; exact h3
    isplitl [H4]
    · iexists _
      isplitl [H4]; · iexact H4
      ipureintro; exact h4
    isplitl [H5]
    · iexists _
      isplitl [H5]; · iexact H5
      ipureintro; exact h5
    isplitl [H6]
    · iexists _
      isplitl [H6]; · iexact H6
      ipureintro; exact h6
    isplitl [H11]
    · iexists _
      isplitl [H11]; · iexact H11
      ipureintro; exact h11
    isplitl [H12]
    · iexists _
      isplitl [H12]; · iexact H12
      ipureintro; exact n12
    isplitl [H13]
    · iexists _
      isplitl [H13]; · iexact H13
      ipureintro; exact n13
    isplitl [H14]
    · iexists _
      isplitl [H14]; · iexact H14
      ipureintro; exact n14
    iexists _; isplitl [H15]; · iexact H15
    ipureintro; exact n15

/-- The loop at the head of a program: from the invariant at trip 0, with what follows run from the invariant at the end. -/
theorem rule2 {β : Type} {kk : FVec F S1x1 .f32 → Prog (TpuEff nD τ sig (Elt F) Λ₀ .tc) β} {R : β → sProp 𝕄G} :
    inv2 c arg3 arg4 arg5 arg6 arg11 arg12 arg13 arg14 arg15 v7 Q K V G 0
    ⊢ iprop((∀ acc, inv2 c arg3 arg4 arg5 arg6 arg11 arg12 arg13 arg14 arg15 v7 Q K V G 16 -∗ wp frame (wpE (defs₀ (F := F)) 𝒱 (c : Thread nD τ) bd) E (kk acc) R)
      -∗ wp frame (wpE (defs₀ (F := F)) 𝒱 (c : Thread nD τ) bd) E (Scf.Loop.for k0_t2_loop k0_t2_ok (k0_pay82 cst_15)
        (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 v5 v7 v9 v11 cst_15) >>= kk) R) := by
  have h : k0_t2_loop.trips = 16 := by decide
  have e := exec_loop (M := 𝕄G) frame (wpE (defs₀ (F := F)) 𝒱 (c : Thread nD τ) bd) E _ _ _ _ _ _
    (loop2 𝒱 c bd E i arg2 harg2 arg3 harg3 arg4 harg4 arg5 harg5 arg6 harg6 arg7 harg7 arg8 harg8 arg9 harg9 arg10 harg10 arg11 harg11 arg12 harg12 arg13 harg13 arg14 harg14 arg15 harg15 v5 v7 v9 v11 cst_15 Q K V G) (kk := kk) (Q := R)
  rw [← h]
  exact e

end Cert.KernelIdeal.Steps

end
-- ==== Proof.Loop3.lean ====
module

public import proofs.«01_k».proof.Proof.Blocks

@[expose] public section

set_option maxRecDepth 8192

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

variable (𝒱 : Variants) (c : Dev nD) (bd : Option 𝒱.V) (E : Set ℕ)
variable (i : grid0.Coords)
variable (arg2 : Memref sig .tc .vmem S8x128 .f32) (harg2 : arg2.IsWhole)
variable (arg3 : Memref sig .tc .vmem S2304x256 .bf16) (harg3 : arg3.IsWhole)
variable (arg4 : Memref sig .tc .vmem S2304x256 .bf16) (harg4 : arg4.IsWhole)
variable (arg5 : Memref sig .tc .vmem S2304x512 .bf16) (harg5 : arg5.IsWhole)
variable (arg6 : Memref sig .tc .vmem S2304x512 .bf16) (harg6 : arg6.IsWhole)
variable (arg7 : Memref sig .tc .vmem S2304x256 .bf16) (harg7 : arg7.IsWhole)
variable (arg8 : Memref sig .tc .vmem S2304x256 .bf16) (harg8 : arg8.IsWhole)
variable (arg9 : Memref sig .tc .vmem S2304x512 .bf16) (harg9 : arg9.IsWhole)
variable (arg10 : Memref sig .tc .vmem S8x128 .f32) (harg10 : arg10.IsWhole)
variable (arg11 : Memref sig .tc .vmem S16x256x512 .f32) (harg11 : arg11.IsWhole)
variable (arg12 : Memref sig .tc .vmem S256x512 .f32) (harg12 : arg12.IsWhole)
variable (arg13 : Memref sig .tc .vmem S2304x256 .f32) (harg13 : arg13.IsWhole)
variable (arg14 : Memref sig .tc .vmem S2304x256 .f32) (harg14 : arg14.IsWhole)
variable (arg15 : Memref sig .tc .vmem S2304x512 .f32) (harg15 : arg15.IsWhole)
variable (arg1 : BitVec 32) (v72 : FVec F S1x128 .f32) (v77 : Vec F S1x1 .f32) (K : S2304x256.Idx → Elt F .bf16) (V : S2304x512.Idx → Elt F .bf16)

/-- Before trip `k` of the forward recursion, reverse direction: slots `0 … k` hold the states before those steps. -/
abbrev inv3 (k : ℕ) : sProp 𝕄G :=
  iprop((∃ f4, (arg4.view.loc (c : Thread nD τ) ↦[arg4.view.set]{fullShare} f4) ∗ ⌜arg4.view.read (Elt F) f4 = K⌝)
    ∗ (∃ f5, (arg5.view.loc (c : Thread nD τ) ↦[arg5.view.set]{fullShare} f5) ∗ ⌜arg5.view.read (Elt F) f5 = V⌝)
    ∗ (∃ f11, (arg11.view.loc (c : Thread nD τ) ↦[arg11.view.set]{fullShare} f11)
        ∗ ⌜∀ j ≤ k, slot (arg11.view.read (Elt F) f11) j = fwd1 v77 K V j⌝))

set_option warn.classDefReducibility false in
def loop3 : Idealize.ShloMosaic.LoopInv (M := 𝕄G) Idealize.ShloMosaic.frame (wpE (defs₀ (F := F)) 𝒱 (c : Thread nD τ) bd) E
    k0_t3_loop.lb k0_t3_loop.ub k0_t3_loop.st k0_t3_ok (⟨⟩ : Unit) (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v72 v77) where
  inv k _ := inv3 c arg4 arg5 arg11 v77 K V k
  step k acc := by
    have hk : k.val < 15 := Nat.lt_of_lt_of_le k.isLt k0_t3_abs.2.1
    unfold k0_t3_body
    iintro ⟨⟨%f4, H4, %h4⟩, ⟨%f5, H5, %h5⟩, ⟨%f11, H11, %h11⟩⟩
    sl_exec
    sl_step
    isplitl [H4]
    · iexists _
      isplitl [H4]; · iexact H4
      ipureintro; exact h4
    isplitl [H5]
    · iexists _
      isplitl [H5]; · iexact H5
      ipureintro; exact h5
    iexists _; isplitl [H11]; · iexact H11
    ipureintro
    intro j hj
    by_cases hjk : j = k.val + 1
    · subst hjk
      rw [slot_same _ _ _ _ _ (k0_off13_eq k) (by omega), readAt_slot _ _ _ (k0_off10_eq k) (j := k.val) (by omega),
        readAt_c256 _ _ _ (k0_off11_eq k) (j := 15 - k.val) (by omega), readAt_c512 _ _ _ (k0_off12_eq k) (j := 15 - k.val) (by omega),
        h4, h5, h11 _ (Nat.le_refl _)]
      rfl
    · rw [slot_other _ _ _ _ _ (k0_off13_eq k) (by omega), View.writes_nil]
      exact h11 j (by omega)

/-- The loop at the head of a program: from the invariant at trip 0, with what follows run from the invariant at the end. -/
theorem rule3 {β : Type} {kk : Unit → Prog (TpuEff nD τ sig (Elt F) Λ₀ .tc) β} {R : β → sProp 𝕄G} :
    inv3 c arg4 arg5 arg11 v77 K V 0
    ⊢ iprop((∀ acc, inv3 c arg4 arg5 arg11 v77 K V 15 -∗ wp frame (wpE (defs₀ (F := F)) 𝒱 (c : Thread nD τ) bd) E (kk acc) R)
      -∗ wp frame (wpE (defs₀ (F := F)) 𝒱 (c : Thread nD τ) bd) E (Scf.Loop.for k0_t3_loop k0_t3_ok (⟨⟩ : Unit)
        (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v72 v77) >>= kk) R) := by
  have h : k0_t3_loop.trips = 15 := by decide
  have e := exec_loop (M := 𝕄G) frame (wpE (defs₀ (F := F)) 𝒱 (c : Thread nD τ) bd) E _ _ _ _ _ _
    (loop3 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg1 v72 v77 K V) (kk := kk) (Q := R)
  rw [← h]
  exact e

end Cert.KernelIdeal.Steps

end
-- ==== Proof.Loop4.lean ====
module

public import proofs.«01_k».proof.Proof.Blocks

@[expose] public section

set_option maxRecDepth 8192

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

variable (𝒱 : Variants) (c : Dev nD) (bd : Option 𝒱.V) (E : Set ℕ)
variable (i : grid0.Coords)
variable (arg2 : Memref sig .tc .vmem S8x128 .f32) (harg2 : arg2.IsWhole)
variable (arg3 : Memref sig .tc .vmem S2304x256 .bf16) (harg3 : arg3.IsWhole)
variable (arg4 : Memref sig .tc .vmem S2304x256 .bf16) (harg4 : arg4.IsWhole)
variable (arg5 : Memref sig .tc .vmem S2304x512 .bf16) (harg5 : arg5.IsWhole)
variable (arg6 : Memref sig .tc .vmem S2304x512 .bf16) (harg6 : arg6.IsWhole)
variable (arg7 : Memref sig .tc .vmem S2304x256 .bf16) (harg7 : arg7.IsWhole)
variable (arg8 : Memref sig .tc .vmem S2304x256 .bf16) (harg8 : arg8.IsWhole)
variable (arg9 : Memref sig .tc .vmem S2304x512 .bf16) (harg9 : arg9.IsWhole)
variable (arg10 : Memref sig .tc .vmem S8x128 .f32) (harg10 : arg10.IsWhole)
variable (arg11 : Memref sig .tc .vmem S16x256x512 .f32) (harg11 : arg11.IsWhole)
variable (arg12 : Memref sig .tc .vmem S256x512 .f32) (harg12 : arg12.IsWhole)
variable (arg13 : Memref sig .tc .vmem S2304x256 .f32) (harg13 : arg13.IsWhole)
variable (arg14 : Memref sig .tc .vmem S2304x256 .f32) (harg14 : arg14.IsWhole)
variable (arg15 : Memref sig .tc .vmem S2304x512 .f32) (harg15 : arg15.IsWhole)
variable (arg1 : BitVec 32) (v72 : FVec F S1x128 .f32) (v77 : Vec F S1x1 .f32)
variable (Q K : S2304x256.Idx → Elt F .bf16) (V G : S2304x512.Idx → Elt F .bf16)
variable (A13 A14 : S2304x256.Idx → Elt F .f32) (A15 : S2304x512.Idx → Elt F .f32)

/-- Before trip `k` of the backward recursion, reverse direction: the state gradient of that trip, and the rows of the finished chunks, which add what the forward direction left in `A13`, `A14`, `A15`. -/
abbrev inv4 (k : ℕ) : sProp 𝕄G :=
  iprop((∃ f13, (arg13.view.loc (c : Thread nD τ) ↦[arg13.view.set]{fullShare} f13) ∗ ⌜arg13.view.read (Elt F) f13 = A13⌝)
    ∗ (∃ f14, (arg14.view.loc (c : Thread nD τ) ↦[arg14.view.set]{fullShare} f14) ∗ ⌜arg14.view.read (Elt F) f14 = A14⌝)
    ∗ (∃ f15, (arg15.view.loc (c : Thread nD τ) ↦[arg15.view.set]{fullShare} f15) ∗ ⌜arg15.view.read (Elt F) f15 = A15⌝)
    ∗ (∃ f3, (arg3.view.loc (c : Thread nD τ) ↦[arg3.view.set]{fullShare} f3) ∗ ⌜arg3.view.read (Elt F) f3 = Q⌝)
    ∗ (∃ f4, (arg4.view.loc (c : Thread nD τ) ↦[arg4.view.set]{fullShare} f4) ∗ ⌜arg4.view.read (Elt F) f4 = K⌝)
    ∗ (∃ f5, (arg5.view.loc (c : Thread nD τ) ↦[arg5.view.set]{fullShare} f5) ∗ ⌜arg5.view.read (Elt F) f5 = V⌝)
    ∗ (∃ f6, (arg6.view.loc (c : Thread nD τ) ↦[arg6.view.set]{fullShare} f6) ∗ ⌜arg6.view.read (Elt F) f6 = G⌝)
    ∗ (∃ f7, (arg7.view.loc (c : Thread nD τ) ↦[arg7.view.set]{fullShare} f7) ∗ ⌜∀ t < k, c256 (arg7.view.read (Elt F) f7) t = bq v77 K V G (c256 A13 t) t⌝)
    ∗ (∃ f8, (arg8.view.loc (c : Thread nD τ) ↦[arg8.view.set]{fullShare} f8) ∗ ⌜∀ t < k, c256 (arg8.view.read (Elt F) f8) t = bk v77 Q V G (c256 A14 t) t⌝)
    ∗ (∃ f9, (arg9.view.loc (c : Thread nD τ) ↦[arg9.view.set]{fullShare} f9) ∗ ⌜∀ t < k, c512 (arg9.view.read (Elt F) f9) t = bv v77 Q K G (c512 A15 t) t⌝)
    ∗ (∃ f11, (arg11.view.loc (c : Thread nD τ) ↦[arg11.view.set]{fullShare} f11) ∗ ⌜∀ j ≤ 15, slot (arg11.view.read (Elt F) f11) j = fwd1 v77 K V j⌝)
    ∗ (∃ f12, (arg12.view.loc (c : Thread nD τ) ↦[arg12.view.set]{fullShare} f12) ∗ ⌜arg12.view.read (Elt F) f12 = dst1 v77 Q G k⌝))

set_option warn.classDefReducibility false in
def loop4 : Idealize.ShloMosaic.LoopInv (M := 𝕄G) Idealize.ShloMosaic.frame (wpE (defs₀ (F := F)) 𝒱 (c : Thread nD τ) bd) E
    k0_t4_loop.lb k0_t4_loop.ub k0_t4_loop.st k0_t4_ok (k0_pay97 (F := F)) (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v72 v77) where
  inv k _ := inv4 c arg3 arg4 arg5 arg6 arg7 arg8 arg9 arg11 arg12 arg13 arg14 arg15 v77 Q K V G A13 A14 A15 k
  step k acc := by
    have hk : k.val < 16 := Nat.lt_of_lt_of_le k.isLt k0_t4_abs.2.1
    unfold k0_t4_body
    iintro ⟨⟨%f13, H13, %h13⟩, ⟨%f14, H14, %h14⟩, ⟨%f15, H15, %h15⟩, ⟨%f3, H3, %h3⟩, ⟨%f4, H4, %h4⟩, ⟨%f5, H5, %h5⟩, ⟨%f6, H6, %h6⟩, ⟨%f7, H7, %h7⟩, ⟨%f8, H8, %h8⟩, ⟨%f9, H9, %h9⟩, ⟨%f11, H11, %h11⟩, ⟨%f12, H12, %h12⟩⟩
    sl_exec
    sl_step
    have e11 := (readAt_slot arg11.view f11 (k0_off14_inb k) (k0_off14_eq k) (j := 15 - k.val) (by omega)).trans (h11 _ (by omega))
    have e3 := readAt_c256 arg3.view f3 (k0_off15_inb k) (k0_off15_eq k) (j := k.val) (by omega)
    have e4 := readAt_c256 arg4.view f4 (k0_off15_inb k) (k0_off15_eq k) (j := k.val) (by omega)
    have e5 := readAt_c512 arg5.view f5 (k0_off16_inb k) (k0_off16_eq k) (j := k.val) (by omega)
    have e6 := readAt_c512 arg6.view f6 (k0_off16_inb k) (k0_off16_eq k) (j := k.val) (by omega)
    have e13 := readAt_c256 arg13.view f13 (k0_off15_inb k) (k0_off15_eq k) (j := k.val) (by omega)
    have e14 := readAt_c256 arg14.view f14 (k0_off15_inb k) (k0_off15_eq k) (j := k.val) (by omega)
    have e15 := readAt_c512 arg15.view f15 (k0_off16_inb k) (k0_off16_eq k) (j := k.val) (by omega)
    have e12 := readAt_full arg12.view f12 inb_S256x512_S256x512_0_0
    rw [h3] at e3
    rw [h4] at e4
    rw [h5] at e5
    rw [h6] at e6
    rw [h12] at e12
    rw [h13] at e13
    rw [h14] at e14
    rw [h15] at e15
    have n12 : arg12.view.read (Elt F) (arg12.view.writes (Elt F) f12
        [⟨Rect.unit ![0, 0] S256x512.size inb_S256x512_S256x512_0_0, k0_pay74 (loop4.sl.r_15 c arg3 arg6 arg12 v77 k f3 f6 f12)⟩])
        = dst1 v77 Q G (k.val + 1) := by
      rw [full_same]
      delta loop4.sl.r loop4.sl.r_1 loop4.sl.r_2 loop4.sl.r_3 loop4.sl.r_4 loop4.sl.r_5 loop4.sl.r_6 loop4.sl.r_7 loop4.sl.r_8 loop4.sl.r_9 loop4.sl.r_10 loop4.sl.r_11 loop4.sl.r_12 loop4.sl.r_13 loop4.sl.r_14 loop4.sl.r_15 loop4.sl.r_16 loop4.sl.r_17 loop4.sl.r_18
      simp only [e3, e4, e5, e6, e11, e12, e13, e14, e15]
      rfl
    have n7 : ∀ t < k.val + 1, c256 (arg7.view.read (Elt F) (arg7.view.writes (Elt F) f7
        [⟨Rect.unit (s := S2304x256) (k0_off15 k) S128x256.size (k0_off15_inb k), k0_pay99 (loop4.sl.r_18 c arg4 arg5 arg6 arg11 v77 k f4 f5 f6 f11)
            (View.readAt (Elt F) arg13.view (Rect.unit (s := S2304x256) (k0_off15 k) S128x256.size (k0_off15_inb k)).toLoadRect f13)⟩])) t = bq v77 K V G (c256 A13 t) t := by
      intro t ht
      by_cases htk : t = k.val
      · subst htk
        rw [c256_same _ _ _ _ _ (k0_off15_eq k) (by omega)]
        delta loop4.sl.r loop4.sl.r_1 loop4.sl.r_2 loop4.sl.r_3 loop4.sl.r_4 loop4.sl.r_5 loop4.sl.r_6 loop4.sl.r_7 loop4.sl.r_8 loop4.sl.r_9 loop4.sl.r_10 loop4.sl.r_11 loop4.sl.r_12 loop4.sl.r_13 loop4.sl.r_14 loop4.sl.r_15 loop4.sl.r_16 loop4.sl.r_17 loop4.sl.r_18
        simp only [e3, e4, e5, e6, e11, e12, e13, e14, e15]
        rfl
      · rw [c256_other _ _ _ _ _ (k0_off15_eq k) rfl (by show _ ∨ _ + 128 ≤ _; omega), View.writes_nil]
        exact h7 t (by omega)
    have n8 : ∀ t < k.val + 1, c256 (arg8.view.read (Elt F) (arg8.view.writes (Elt F) f8
        [⟨Rect.unit (s := S2304x256) (k0_off15 k) S128x256.size (k0_off15_inb k), k0_pay75 (loop4.sl.r_1 c arg3 k f3) (loop4.sl.r_3 c arg5 k f5) (k0_pay50 v77)
            (loop4.sl.r_11 c arg5 arg12 v77 k f5 f12) (loop4.sl.r_16 c arg6 k f6)
            (View.readAt (Elt F) arg14.view (Rect.unit (s := S2304x256) (k0_off15 k) S128x256.size (k0_off15_inb k)).toLoadRect f14)⟩])) t = bk v77 Q V G (c256 A14 t) t := by
      intro t ht
      by_cases htk : t = k.val
      · subst htk
        rw [c256_same _ _ _ _ _ (k0_off15_eq k) (by omega)]
        delta loop4.sl.r loop4.sl.r_1 loop4.sl.r_2 loop4.sl.r_3 loop4.sl.r_4 loop4.sl.r_5 loop4.sl.r_6 loop4.sl.r_7 loop4.sl.r_8 loop4.sl.r_9 loop4.sl.r_10 loop4.sl.r_11 loop4.sl.r_12 loop4.sl.r_13 loop4.sl.r_14 loop4.sl.r_15 loop4.sl.r_16 loop4.sl.r_17 loop4.sl.r_18
        simp only [e3, e4, e5, e6, e11, e12, e13, e14, e15]
        rfl
      · rw [c256_other _ _ _ _ _ (k0_off15_eq k) rfl (by show _ ∨ _ + 128 ≤ _; omega), View.writes_nil]
        exact h8 t (by omega)
    have n9 : ∀ t < k.val + 1, c512 (arg9.view.read (Elt F) (arg9.view.writes (Elt F) f9
        [⟨Rect.unit (s := S2304x512) (k0_off16 k) S128x512.size (k0_off16_inb k), k0_pay98 (loop4.sl.r_17 c arg3 arg4 arg6 arg12 v77 k f3 f4 f6 f12)
            (View.readAt (Elt F) arg15.view (Rect.unit (s := S2304x512) (k0_off16 k) S128x512.size (k0_off16_inb k)).toLoadRect f15)⟩])) t = bv v77 Q K G (c512 A15 t) t := by
      intro t ht
      by_cases htk : t = k.val
      · subst htk
        rw [c512_same _ _ _ _ _ (k0_off16_eq k) (by omega)]
        delta loop4.sl.r loop4.sl.r_1 loop4.sl.r_2 loop4.sl.r_3 loop4.sl.r_4 loop4.sl.r_5 loop4.sl.r_6 loop4.sl.r_7 loop4.sl.r_8 loop4.sl.r_9 loop4.sl.r_10 loop4.sl.r_11 loop4.sl.r_12 loop4.sl.r_13 loop4.sl.r_14 loop4.sl.r_15 loop4.sl.r_16 loop4.sl.r_17 loop4.sl.r_18
        simp only [e3, e4, e5, e6, e11, e12, e13, e14, e15]
        rfl
      · rw [c512_other _ _ _ _ _ (k0_off16_eq k) rfl (by show _ ∨ _ + 128 ≤ _; omega), View.writes_nil]
        exact h9 t (by omega)
    isplitl [H13]
    · iexists _
      isplitl [H13]; · iexact H13
      ipureintro; exact h13
    isplitl [H14]
    · iexists _
      isplitl [H14]; · iexact H14
      ipureintro; exact h14
    isplitl [H15]
    · iexists _
      isplitl [H15]; · iexact H15
      ipureintro; exact h15
    isplitl [H3]
    · iexists _
      isplitl [H3]; · iexact H3
      ipureintro; exact h3
    isplitl [H4]
    · iexists _
      isplitl [H4]; · iexact H4
      ipureintro; exact h4
    isplitl [H5]
    · iexists _
      isplitl [H5]; · iexact H5
      ipureintro; exact h5
    isplitl [H6]
    · iexists _
      isplitl [H6]; · iexact H6
      ipureintro; exact h6
    isplitl [H7]
    · iexists _
      isplitl [H7]; · iexact H7
      ipureintro; exact n7
    isplitl [H8]
    · iexists _
      isplitl [H8]; · iexact H8
      ipureintro; exact n8
    isplitl [H9]
    · iexists _
      isplitl [H9]; · iexact H9
      ipureintro; exact n9
    isplitl [H11]
    · iexists _
      isplitl [H11]; · iexact H11
      ipureintro; exact h11
    iexists _
    isplitl [H12]; · iexact H12
    ipureintro; exact n12

/-- The loop at the head of a program: from the invariant at trip 0, with what follows run from the invariant at the end. -/
theorem rule4 {β : Type} {kk : FVec F S1x1 .f32 → Prog (TpuEff nD τ sig (Elt F) Λ₀ .tc) β} {R : β → sProp 𝕄G} :
    inv4 c arg3 arg4 arg5 arg6 arg7 arg8 arg9 arg11 arg12 arg13 arg14 arg15 v77 Q K V G A13 A14 A15 0
    ⊢ iprop((∀ acc, inv4 c arg3 arg4 arg5 arg6 arg7 arg8 arg9 arg11 arg12 arg13 arg14 arg15 v77 Q K V G A13 A14 A15 16 -∗ wp frame (wpE (defs₀ (F := F)) 𝒱 (c : Thread nD τ) bd) E (kk acc) R)
      -∗ wp frame (wpE (defs₀ (F := F)) 𝒱 (c : Thread nD τ) bd) E (Scf.Loop.for k0_t4_loop k0_t4_ok (k0_pay97 (F := F))
        (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v72 v77) >>= kk) R) := by
  have h : k0_t4_loop.trips = 16 := by decide
  have e := exec_loop (M := 𝕄G) frame (wpE (defs₀ (F := F)) 𝒱 (c : Thread nD τ) bd) E _ _ _ _ _ _
    (loop4 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg1 v72 v77 Q K V G A13 A14 A15) (kk := kk) (Q := R)
  rw [← h]
  exact e

end Cert.KernelIdeal.Steps

end
-- ==== Proof.Body.lean ====
module

public import proofs.«01_k».proof.Proof.Loop1
public import proofs.«01_k».proof.Proof.Loop2
public import proofs.«01_k».proof.Proof.Loop3
public import proofs.«01_k».proof.Proof.Loop4

@[expose] public section

set_option maxRecDepth 8192

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

variable (𝒱 : Variants) (c : Dev nD) (bd : Option 𝒱.V) (E : Set ℕ)
variable (i : grid0.Coords)
variable (arg2 : Memref sig .tc .vmem S8x128 .f32) (harg2 : arg2.IsWhole)
variable (arg3 : Memref sig .tc .vmem S2304x256 .bf16) (harg3 : arg3.IsWhole)
variable (arg4 : Memref sig .tc .vmem S2304x256 .bf16) (harg4 : arg4.IsWhole)
variable (arg5 : Memref sig .tc .vmem S2304x512 .bf16) (harg5 : arg5.IsWhole)
variable (arg6 : Memref sig .tc .vmem S2304x512 .bf16) (harg6 : arg6.IsWhole)
variable (arg7 : Memref sig .tc .vmem S2304x256 .bf16) (harg7 : arg7.IsWhole)
variable (arg8 : Memref sig .tc .vmem S2304x256 .bf16) (harg8 : arg8.IsWhole)
variable (arg9 : Memref sig .tc .vmem S2304x512 .bf16) (harg9 : arg9.IsWhole)
variable (arg10 : Memref sig .tc .vmem S8x128 .f32) (harg10 : arg10.IsWhole)
variable (arg11 : Memref sig .tc .vmem S16x256x512 .f32) (harg11 : arg11.IsWhole)
variable (arg12 : Memref sig .tc .vmem S256x512 .f32) (harg12 : arg12.IsWhole)
variable (arg13 : Memref sig .tc .vmem S2304x256 .f32) (harg13 : arg13.IsWhole)
variable (arg14 : Memref sig .tc .vmem S2304x256 .f32) (harg14 : arg14.IsWhole)
variable (arg15 : Memref sig .tc .vmem S2304x512 .f32) (harg15 : arg15.IsWhole)
variable (LG : S8x128.Idx → Elt F .f32) (Q K : S2304x256.Idx → Elt F .bf16) (V G : S2304x512.Idx → Elt F .bf16)

/-- The decay logarithm of a point's head in direction `r`. -/
def lgAt (LG : S8x128.Idx → Elt F .f32) (i : grid0.Coords) (r : Fin 2) : Vec F S1x1 .f32 :=
  View.ld LG (Rect.unit (s := S8x128) (k0_off1 i (BitVec.ofNat 32 (4 * r.val))) S1x1.size (k0_off1_inb i r))

/-- One grid point: the five blocks read stay, the three result blocks are what `outQ`, `outK`, `outV` say, and the
fourth result's block and the scratch hold something. -/
theorem body_run :
    iprop((∃ f2, (arg2.view.loc (c : Thread nD τ) ↦[arg2.view.set]{fullShare} f2) ∗ ⌜arg2.view.read (Elt F) f2 = LG⌝)
      ∗ (∃ f3, (arg3.view.loc (c : Thread nD τ) ↦[arg3.view.set]{fullShare} f3) ∗ ⌜arg3.view.read (Elt F) f3 = Q⌝)
      ∗ (∃ f4, (arg4.view.loc (c : Thread nD τ) ↦[arg4.view.set]{fullShare} f4) ∗ ⌜arg4.view.read (Elt F) f4 = K⌝)
      ∗ (∃ f5, (arg5.view.loc (c : Thread nD τ) ↦[arg5.view.set]{fullShare} f5) ∗ ⌜arg5.view.read (Elt F) f5 = V⌝)
      ∗ (∃ f6, (arg6.view.loc (c : Thread nD τ) ↦[arg6.view.set]{fullShare} f6) ∗ ⌜arg6.view.read (Elt F) f6 = G⌝)
      ∗ (∃ f7, (arg7.view.loc (c : Thread nD τ) ↦[arg7.view.set]{fullShare} f7))
      ∗ (∃ f8, (arg8.view.loc (c : Thread nD τ) ↦[arg8.view.set]{fullShare} f8))
      ∗ (∃ f9, (arg9.view.loc (c : Thread nD τ) ↦[arg9.view.set]{fullShare} f9))
      ∗ (∃ f10, (arg10.view.loc (c : Thread nD τ) ↦[arg10.view.set]{fullShare} f10))
      ∗ (∃ f11, (arg11.view.loc (c : Thread nD τ) ↦[arg11.view.set]{fullShare} f11))
      ∗ (∃ f12, (arg12.view.loc (c : Thread nD τ) ↦[arg12.view.set]{fullShare} f12))
      ∗ (∃ f13, (arg13.view.loc (c : Thread nD τ) ↦[arg13.view.set]{fullShare} f13))
      ∗ (∃ f14, (arg14.view.loc (c : Thread nD τ) ↦[arg14.view.set]{fullShare} f14))
      ∗ (∃ f15, (arg15.view.loc (c : Thread nD τ) ↦[arg15.view.set]{fullShare} f15)))
    ⊢ (wp frame (wpE (defs₀ (F := F)) 𝒱 (c : Thread nD τ) bd) E (cc0_ret_bwd (F := F) i arg2 harg2 arg3 harg3 arg4 harg4 arg5 harg5 arg6 harg6 arg7 harg7 arg8 harg8 arg9 harg9 arg10 harg10 arg11 harg11 arg12 harg12 arg13 harg13 arg14 harg14 arg15 harg15)
      (fun _ => iprop((∃ f2, (arg2.view.loc (c : Thread nD τ) ↦[arg2.view.set]{fullShare} f2) ∗ ⌜arg2.view.read (Elt F) f2 = LG⌝)
        ∗ (∃ f3, (arg3.view.loc (c : Thread nD τ) ↦[arg3.view.set]{fullShare} f3) ∗ ⌜arg3.view.read (Elt F) f3 = Q⌝)
        ∗ (∃ f4, (arg4.view.loc (c : Thread nD τ) ↦[arg4.view.set]{fullShare} f4) ∗ ⌜arg4.view.read (Elt F) f4 = K⌝)
        ∗ (∃ f5, (arg5.view.loc (c : Thread nD τ) ↦[arg5.view.set]{fullShare} f5) ∗ ⌜arg5.view.read (Elt F) f5 = V⌝)
        ∗ (∃ f6, (arg6.view.loc (c : Thread nD τ) ↦[arg6.view.set]{fullShare} f6) ∗ ⌜arg6.view.read (Elt F) f6 = G⌝)
        ∗ (∃ f7, (arg7.view.loc (c : Thread nD τ) ↦[arg7.view.set]{fullShare} f7) ∗ ⌜arg7.view.read (Elt F) f7 = outQ (lgAt LG i 0) K V G (lgAt LG i 1)⌝)
        ∗ (∃ f8, (arg8.view.loc (c : Thread nD τ) ↦[arg8.view.set]{fullShare} f8) ∗ ⌜arg8.view.read (Elt F) f8 = outK (lgAt LG i 0) Q V G (lgAt LG i 1)⌝)
        ∗ (∃ f9, (arg9.view.loc (c : Thread nD τ) ↦[arg9.view.set]{fullShare} f9) ∗ ⌜arg9.view.read (Elt F) f9 = outV (lgAt LG i 0) Q K G (lgAt LG i 1)⌝)
        ∗ (∃ f10, (arg10.view.loc (c : Thread nD τ) ↦[arg10.view.set]{fullShare} f10))
        ∗ (∃ f11, (arg11.view.loc (c : Thread nD τ) ↦[arg11.view.set]{fullShare} f11))
        ∗ (∃ f12, (arg12.view.loc (c : Thread nD τ) ↦[arg12.view.set]{fullShare} f12))
        ∗ (∃ f13, (arg13.view.loc (c : Thread nD τ) ↦[arg13.view.set]{fullShare} f13))
        ∗ (∃ f14, (arg14.view.loc (c : Thread nD τ) ↦[arg14.view.set]{fullShare} f14))
        ∗ (∃ f15, (arg15.view.loc (c : Thread nD τ) ↦[arg15.view.set]{fullShare} f15)))) : sProp 𝕄G) := by
  rw [cc0_ret_bwd_eq_skeleton]
  unfold cc0_ret_bwd_skel
  iintro ⟨⟨%f2, H2, %h2⟩, ⟨%f3, H3, %h3⟩, ⟨%f4, H4, %h4⟩, ⟨%f5, H5, %h5⟩, ⟨%f6, H6, %h6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩
  sl_exec
  iapply (rule1 𝒱 c bd E i arg2 harg2 arg3 harg3 arg4 harg4 arg5 harg5 arg6 harg6 arg7 harg7 arg8 harg8 arg9 harg9 arg10 harg10 arg11 harg11 arg12 harg12 arg13 harg13 arg14 harg14 arg15 harg15 _ K V) $$ [H4 H5 H11]
  · isplitl [H4]
    · iexists _
      isplitl [H4]; · iexact H4
      ipureintro; exact h4
    isplitl [H5]
    · iexists _
      isplitl [H5]; · iexact H5
      ipureintro; exact h5
    iexists _
    isplitl [H11]; · iexact H11
    ipureintro
    intro j hj
    obtain rfl : j = 0 := by omega
    rw [slot_same _ _ _ _ _ rfl (by omega), readAt_x256, readAt_x512, h4, h5]
    rfl
  iintro %_ ⟨⟨%f4a, H4, %h4a⟩, ⟨%f5a, H5, %h5a⟩, ⟨%f11a, H11, %h11a⟩⟩
  sl_exec
  iapply (rule2 𝒱 c bd E i arg2 harg2 arg3 harg3 arg4 harg4 arg5 harg5 arg6 harg6 arg7 harg7 arg8 harg8 arg9 harg9 arg10 harg10 arg11 harg11 arg12 harg12 arg13 harg13 arg14 harg14 arg15 harg15 _ _ _ _ _ Q K V G) $$ [H3 H4 H5 H6 H11 H12 H13 H14 H15]
  · isplitl [H3]
    · iexists _
      isplitl [H3]; · iexact H3
      ipureintro; exact h3
    isplitl [H4]
    · iexists _
      isplitl [H4]; · iexact H4
      ipureintro; exact h4a
    isplitl [H5]
    · iexists _
      isplitl [H5]; · iexact H5
      ipureintro; exact h5a
    isplitl [H6]
    · iexists _
      isplitl [H6]; · iexact H6
      ipureintro; exact h6
    isplitl [H11]
    · iexists _
      isplitl [H11]; · iexact H11
      ipureintro; exact h11a
    isplitl [H12]
    · iexists _
      isplitl [H12]; · iexact H12
      ipureintro
      delta body_run.sl.H12_1
      rw [full_same]
      rfl
    isplitl [H13]
    · iexists _
      isplitl [H13]; · iexact H13
      ipureintro; exact fun t ht => absurd ht (Nat.not_lt_zero t)
    isplitl [H14]
    · iexists _
      isplitl [H14]; · iexact H14
      ipureintro; exact fun t ht => absurd ht (Nat.not_lt_zero t)
    iexists _
    isplitl [H15]; · iexact H15
    ipureintro; exact fun t ht => absurd ht (Nat.not_lt_zero t)
  iintro %_ ⟨⟨%f3b, H3, %h3b⟩, ⟨%f4b, H4, %h4b⟩, ⟨%f5b, H5, %h5b⟩, ⟨%f6b, H6, %h6b⟩, ⟨%f11b, H11, %h11b⟩, ⟨%f12b, H12, %h12b⟩, ⟨%f13b, H13, %h13b⟩, ⟨%f14b, H14, %h14b⟩, ⟨%f15b, H15, %h15b⟩⟩
  sl_exec
  iapply (rule3 𝒱 c bd E i arg2 harg2 arg3 harg3 arg4 harg4 arg5 harg5 arg6 harg6 arg7 harg7 arg8 harg8 arg9 harg9 arg10 harg10 arg11 harg11 arg12 harg12 arg13 harg13 arg14 harg14 arg15 harg15 _ _ _ K V) $$ [H4 H5 H11]
  · isplitl [H4]
    · iexists _
      isplitl [H4]; · iexact H4
      ipureintro; exact h4b
    isplitl [H5]
    · iexists _
      isplitl [H5]; · iexact H5
      ipureintro; exact h5b
    iexists _
    isplitl [H11]; · iexact H11
    ipureintro
    intro j hj
    obtain rfl : j = 0 := by omega
    rw [slot_same _ _ _ _ _ rfl (by omega), readAt_x256, readAt_x512, h4b, h5b]
    rfl
  iintro %_ ⟨⟨%f4c, H4, %h4c⟩, ⟨%f5c, H5, %h5c⟩, ⟨%f11c, H11, %h11c⟩⟩
  sl_exec
  iapply (rule4 𝒱 c bd E i arg2 harg2 arg3 harg3 arg4 harg4 arg5 harg5 arg6 harg6 arg7 harg7 arg8 harg8 arg9 harg9 arg10 harg10 arg11 harg11 arg12 harg12 arg13 harg13 arg14 harg14 arg15 harg15 _ _ _ Q K V G _ _ _) $$ [H3 H4 H5 H6 H7 H8 H9 H11 H12 H13 H14 H15]
  · isplitl [H13]
    · iexists _
      isplitl [H13]; · iexact H13
      ipureintro; exact rfl
    isplitl [H14]
    · iexists _
      isplitl [H14]; · iexact H14
      ipureintro; exact rfl
    isplitl [H15]
    · iexists _
      isplitl [H15]; · iexact H15
      ipureintro; exact rfl
    isplitl [H3]
    · iexists _
      isplitl [H3]; · iexact H3
      ipureintro; exact h3b
    isplitl [H4]
    · iexists _
      isplitl [H4]; · iexact H4
      ipureintro; exact h4c
    isplitl [H5]
    · iexists _
      isplitl [H5]; · iexact H5
      ipureintro; exact h5c
    isplitl [H6]
    · iexists _
      isplitl [H6]; · iexact H6
      ipureintro; exact h6b
    isplitl [H7]
    · iexists _
      isplitl [H7]; · iexact H7
      ipureintro; exact fun t ht => absurd ht (Nat.not_lt_zero t)
    isplitl [H8]
    · iexists _
      isplitl [H8]; · iexact H8
      ipureintro; exact fun t ht => absurd ht (Nat.not_lt_zero t)
    isplitl [H9]
    · iexists _
      isplitl [H9]; · iexact H9
      ipureintro; exact fun t ht => absurd ht (Nat.not_lt_zero t)
    isplitl [H11]
    · iexists _
      isplitl [H11]; · iexact H11
      ipureintro; exact h11c
    iexists _
    isplitl [H12]; · iexact H12
    ipureintro
    delta body_run.sl.H12_1_1
    rw [full_same]
    rfl
  iintro %_ ⟨⟨%f13d, H13, %h13d⟩, ⟨%f14d, H14, %h14d⟩, ⟨%f15d, H15, %h15d⟩, ⟨%f3d, H3, %h3d⟩, ⟨%f4d, H4, %h4d⟩, ⟨%f5d, H5, %h5d⟩, ⟨%f6d, H6, %h6d⟩, ⟨%f7d, H7, %h7d⟩, ⟨%f8d, H8, %h8d⟩, ⟨%f9d, H9, %h9d⟩, ⟨%f11d, H11, %h11d⟩, ⟨%f12d, H12, %h12d⟩⟩
  sl_exec
  sl_step
  have hl0 : body_run.sl.r c i arg2 f2 = lgAt LG i 0 := by
    delta body_run.sl.r
    rw [← h2]
    rfl
  have hl1 : arg2.view.readAt (Elt F) (Rect.unit (s := S8x128) (k0_off1 i 4#32) S1x1.size (k0_off1_inb i 1)).toLoadRect f2
      = lgAt LG i 1 := by
    rw [← h2]
    rfl
  rw [hl0] at h13b h14b h15b h12b
  rw [hl1] at h7d h8d h9d h12d
  have e12b := readAt_full arg12.view f12b inb_S256x512_S256x512_0_0
  have e12d := readAt_full arg12.view f12d inb_S256x512_S256x512_0_0
  have e1 : body_run.sl.r_1 c arg4 f4 = k0_pay77 (x256 K) := by
    delta body_run.sl.r_1
    rw [readAt_x256, h4]
  have e2 : body_run.sl.r_2 c arg5 f5 = k0_pay78 (x512 V) := by
    delta body_run.sl.r_2
    rw [readAt_x512, h5]
  have e4 : body_run.sl.r_4 c arg4 f4b = k0_pay92 (x256 K) := by
    delta body_run.sl.r_4
    rw [readAt_x256, h4b]
  have e5 : body_run.sl.r_5 c arg5 f5b = k0_pay93 (x512 V) := by
    delta body_run.sl.r_5
    rw [readAt_x512, h5b]
  have e6 : body_run.sl.r_6 c i arg2 f2 = k0_pay102 (lgAt LG i 1) := by
    delta body_run.sl.r_6
    rw [hl1]
  have n7 : arg7.view.read (Elt F) (arg7.view.writes (Elt F) f7d
      [⟨Rect.unit (s := S2304x256) ![2048, 0] S256x256.size inb_S2304x256_S256x256_2048_0, k0_pay108⟩]) = outQ (lgAt LG i 0) K V G (lgAt LG i 1) := by
    refine eq_glue256 _ _ _ (fun j hj => ?_) ?_
    · rw [c256_other _ _ _ _ _ rfl rfl (by omega), View.writes_nil, h7d j hj, ← h13b (15 - j) (by omega),
        show 15 - (15 - j) = j by omega]
    · rw [x256_same]
  have n8 : arg8.view.read (Elt F) (arg8.view.writes (Elt F) f8d
      [⟨Rect.unit (s := S2304x256) ![2048, 0] S256x256.size inb_S2304x256_S256x256_2048_0,
        k0_pay105 (body_run.sl.r_5 c arg5 f5b) (body_run.sl.r_6 c i arg2 f2)
          (arg12.view.readAt (Elt F) (Rect.unit (s := S256x512) ![0, 0] S256x512.size inb_S256x512_S256x512_0_0).toLoadRect f12d)
          (arg14.view.readAt (Elt F) (Rect.unit (s := S2304x256) ![2048, 0] S256x256.size inb_S2304x256_S256x256_2048_0).toLoadRect
            f14d)⟩]) = outK (lgAt LG i 0) Q V G (lgAt LG i 1) := by
    refine eq_glue256 _ _ _ (fun j hj => ?_) ?_
    · rw [c256_other _ _ _ _ _ rfl rfl (by omega), View.writes_nil, h8d j hj, c256_other _ _ _ _ _ rfl rfl (by omega),
        View.writes_nil, ← h14b (15 - j) (by omega), show 15 - (15 - j) = j by omega]
    · rw [x256_same, readAt_x256, h14d, x256_same, e12b, e12d, h12b, h12d, e5, e6, hl0, e2]
      rfl
  have n9 : arg9.view.read (Elt F) (arg9.view.writes (Elt F) f9d
      [⟨Rect.unit (s := S2304x512) ![2048, 0] S256x512.size inb_S2304x512_S256x512_2048_0,
        k0_pay106 (body_run.sl.r_4 c arg4 f4b) (body_run.sl.r_6 c i arg2 f2)
          (arg12.view.readAt (Elt F) (Rect.unit (s := S256x512) ![0, 0] S256x512.size inb_S256x512_S256x512_0_0).toLoadRect f12d)
          (arg15.view.readAt (Elt F) (Rect.unit (s := S2304x512) ![2048, 0] S256x512.size inb_S2304x512_S256x512_2048_0).toLoadRect
            f15d)⟩]) = outV (lgAt LG i 0) Q K G (lgAt LG i 1) := by
    refine eq_glue512 _ _ _ (fun j hj => ?_) ?_
    · rw [c512_other _ _ _ _ _ rfl rfl (by omega), View.writes_nil, h9d j hj, c512_other _ _ _ _ _ rfl rfl (by omega),
        View.writes_nil, ← h15b (15 - j) (by omega), show 15 - (15 - j) = j by omega]
    · rw [x512_same, readAt_x512, h15d, x512_same, e12b, e12d, h12b, h12d, e4, e6, hl0, e1]
      rfl
  isplitl [H2]
  · iexists _
    isplitl [H2]; · iexact H2
    ipureintro; exact h2
  isplitl [H3]
  · iexists _
    isplitl [H3]; · iexact H3
    ipureintro; exact h3d
  isplitl [H4]
  · iexists _
    isplitl [H4]; · iexact H4
    ipureintro; exact h4d
  isplitl [H5]
  · iexists _
    isplitl [H5]; · iexact H5
    ipureintro; exact h5d
  isplitl [H6]
  · iexists _
    isplitl [H6]; · iexact H6
    ipureintro; exact h6d
  isplitl [H7]
  · iexists _
    isplitl [H7]; · iexact H7
    ipureintro; exact n7
  isplitl [H8]
  · iexists _
    isplitl [H8]; · iexact H8
    ipureintro; exact n8
  isplitl [H9]
  · iexists _
    isplitl [H9]; · iexact H9
    ipureintro; exact n9
  isplitl [H10]
  · iexists _; iexact H10
  isplitl [H11]
  · iexists _; iexact H11
  isplitl [H12]
  · iexists _; iexact H12
  isplitl [H13]
  · iexists _; iexact H13
  isplitl [H14]
  · iexists _; iexact H14
  iexists _; iexact H15

end Cert.KernelIdeal.Steps

end
-- ==== Proof.Run.lean ====
module

public import proofs.«01_k».proof.Proof.Body
public import proofs.«01_k».proof.Proof.Gen.KernelIdeal.Frame

@[expose] public section

set_option maxRecDepth 16384

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- Nothing is said of what the kernel leaves in the fourth result (the gradient of the decay). -/
def forgets : Fin 9 → Bool
  | ⟨8, _⟩ => true
  | _ => false

/-- The blocks a point reads: the decay's array, and the query, key, value and cotangent blocks of its head. -/
def bLG (c : Dev nD) (t : Fin cfg0.N) : S8x128.Idx → Elt F .f32 := iblk m c 0 t
def bQ (c : Dev nD) (t : Fin cfg0.N) : S2304x256.Idx → Elt F .bf16 := iblk m c 1 t
def bK (c : Dev nD) (t : Fin cfg0.N) : S2304x256.Idx → Elt F .bf16 := iblk m c 2 t
def bV (c : Dev nD) (t : Fin cfg0.N) : S2304x512.Idx → Elt F .bf16 := iblk m c 3 t
def bG (c : Dev nD) (t : Fin cfg0.N) : S2304x512.Idx → Elt F .bf16 := iblk m c 4 t

/-- A point's decay logarithm in direction `r`. -/
def pLg (c : Dev nD) (t : Fin cfg0.N) (r : Fin 2) : Vec F S1x1 .f32 := lgAt (bLG m c t) (grid0.coords t) r

/-- The three result blocks of a point. -/
def resQ (c : Dev nD) (t : Fin cfg0.N) : S2304x256.Idx → Elt F .bf16 :=
  outQ (pLg m c t 0) (bK m c t) (bV m c t) (bG m c t) (pLg m c t 1)
def resK (c : Dev nD) (t : Fin cfg0.N) : S2304x256.Idx → Elt F .bf16 :=
  outK (pLg m c t 0) (bQ m c t) (bV m c t) (bG m c t) (pLg m c t 1)
def resV (c : Dev nD) (t : Fin cfg0.N) : S2304x512.Idx → Elt F .bf16 :=
  outV (pLg m c t 0) (bQ m c t) (bK m c t) (bG m c t) (pLg m c t 1)

/-- The proof data on core `c`: the arrays as the region finds them, the blocks read left in place, the three result
blocks as named, the fourth unnamed. -/
def dats (_ : Fin 1) (c : Dev nD) : Dat τ (Elt F) Unit ℕ (UR sig nD τ) ℕ cfg0 c where
  A w := V m c (Pipeline.arrRef spec0 w)
  after w t := match w with
    | ⟨0, h⟩ => iblk m c ⟨0, h⟩ t
    | ⟨1, h⟩ => iblk m c ⟨1, h⟩ t
    | ⟨2, h⟩ => iblk m c ⟨2, h⟩ t
    | ⟨3, h⟩ => iblk m c ⟨3, h⟩ t
    | ⟨4, h⟩ => iblk m c ⟨4, h⟩ t
    | ⟨5, _⟩ => resQ m c t
    | ⟨6, _⟩ => resK m c t
    | ⟨7, _⟩ => resV m c t
    | ⟨8, h⟩ => Pipeline.Dat.unnamed (cfg := cfg0) ⟨8, h⟩ t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

/-- A scratch buffer held through its whole memref. -/
theorem scratch_whole (c : Dev nD) (b : Ref sig .tc) (f : Buf (Elt F) ((c : Thread nD τ).loc b)) :
    (((Memref.whole b).view.loc (c : Thread nD τ) ↦[(Memref.whole b).view.set]{fullShare} f) : sProp 𝕄G)
      = (((c : Thread nD τ).loc b) ↦{fullShare} f) := by
  rw [show (Memref.whole b).view.set = Finset.univ from View.set_whole b]

theorem scratch_some (c : Dev nD) (b : Ref sig .tc) :
    (iprop(∃ f, ((Memref.whole b).view.loc (c : Thread nD τ) ↦[(Memref.whole b).view.set]{fullShare} f)) : sProp 𝕄G)
      = iprop(∃ f : Buf (Elt F) ((c : Thread nD τ).loc b), ((c : Thread nD τ).loc b) ↦{fullShare} f) :=
  congrArg _ (funext fun f => scratch_whole c b f)

/-- The scratch at some contents, each buffer through its whole memref. -/
theorem rest_eq (c : Dev nD) :
    (Pipeline.scopedRest (Ix := Unit) (Name := ℕ) (U := UR sig nD τ) (Lvl := ℕ) (Val := Elt F) spec0 c : sProp 𝕄G)
      = iprop((∃ f, ((Memref.whole cc0_scratch0).view.loc (c : Thread nD τ) ↦[(Memref.whole cc0_scratch0).view.set]{fullShare} f)) ∗ (∃ f, ((Memref.whole cc0_scratch1).view.loc (c : Thread nD τ) ↦[(Memref.whole cc0_scratch1).view.set]{fullShare} f)) ∗ (∃ f, ((Memref.whole cc0_scratch2).view.loc (c : Thread nD τ) ↦[(Memref.whole cc0_scratch2).view.set]{fullShare} f)) ∗ (∃ f, ((Memref.whole cc0_scratch3).view.loc (c : Thread nD τ) ↦[(Memref.whole cc0_scratch3).view.set]{fullShare} f)) ∗ (∃ f, ((Memref.whole cc0_scratch4).view.loc (c : Thread nD τ) ↦[(Memref.whole cc0_scratch4).view.set]{fullShare} f))) := by
  rw [scopedRest0_eq]
  exact (congrArg₂ _ (scratch_some c cc0_scratch0) (congrArg₂ _ (scratch_some c cc0_scratch1) (congrArg₂ _ (scratch_some c cc0_scratch2)
    (congrArg₂ _ (scratch_some c cc0_scratch3) (scratch_some c cc0_scratch4))))).symm

/-- The staging memrefs at a point, before the body and after it. -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ X, owns (c : Thread nD τ) (st0_8 t) fullShare X))
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, owns (c : Thread nD τ) (st0_8 t) fullShare X))

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [rest_eq]
  unfold owns
  iintro ⟨⟨⟨⟨%s0, S0⟩, ⟨%s1, S1⟩, ⟨%s2, S2⟩, ⟨%s3, S3⟩, ⟨%s4, S4⟩⟩, Hg⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩, ⟨%d6, %f6, -, H6⟩, ⟨%d7, %f7, -, H7⟩, ⟨%d8, %f8, -, H8⟩⟩
  rw [before0_0_of m (dats m 0 c) rfl (fun _ => rfl)] at h0
  rw [before0_1_of m (dats m 0 c) rfl (fun _ => rfl)] at h1
  rw [before0_2_of m (dats m 0 c) rfl (fun _ => rfl)] at h2
  rw [before0_3_of m (dats m 0 c) rfl (fun _ => rfl)] at h3
  rw [before0_4_of m (dats m 0 c) rfl (fun _ => rfl)] at h4
  iapply (wp_wand_r frame (wpE (defs₀ (F := F)) Variants.none (c : Thread nD τ) none) Set.univ)
  isplitl [H0 H1 H2 H3 H4 H5 H6 H7 H8 S0 S1 S2 S3 S4]
  · iapply (body_run Variants.none c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
      (bLG m c t) (bQ m c t) (bK m c t) (bV m c t) (bG m c t))
    isplitl [H0]
    · iexists f0
      isplitl [H0]; · iexact H0
      ipureintro; exact h0
    isplitl [H1]
    · iexists f1
      isplitl [H1]; · iexact H1
      ipureintro; exact h1
    isplitl [H2]
    · iexists f2
      isplitl [H2]; · iexact H2
      ipureintro; exact h2
    isplitl [H3]
    · iexists f3
      isplitl [H3]; · iexact H3
      ipureintro; exact h3
    isplitl [H4]
    · iexists f4
      isplitl [H4]; · iexact H4
      ipureintro; exact h4
    isplitl [H5]; · iexists f5; iexact H5
    isplitl [H6]; · iexists f6; iexact H6
    isplitl [H7]; · iexists f7; iexact H7
    isplitl [H8]; · iexists f8; iexact H8
    isplitl [S0]; · iexists s0; iexact S0
    isplitl [S1]; · iexists s1; iexact S1
    isplitl [S2]; · iexists s2; iexact S2
    isplitl [S3]; · iexists s3; iexact S3
    iexists s4; iexact S4
  iintro %_ ⟨⟨%f0', H0, %h0'⟩, ⟨%f1', H1, %h1'⟩, ⟨%f2', H2, %h2'⟩, ⟨%f3', H3, %h3'⟩, ⟨%f4', H4, %h4'⟩, ⟨%f5', H5, %h5'⟩, ⟨%f6', H6, %h6'⟩, ⟨%f7', H7, %h7'⟩, ⟨%f8', H8⟩, ⟨%s0', S0⟩, ⟨%s1', S1⟩, ⟨%s2', S2⟩, ⟨%s3', S3⟩, ⟨%s4', S4⟩⟩
  isplitl [S0 S1 S2 S3 S4 Hg]
  · isplitl [S0 S1 S2 S3 S4]
    · isplitl [S0]; · iexists s0'; iexact S0
      isplitl [S1]; · iexists s1'; iexact S1
      isplitl [S2]; · iexists s2'; iexact S2
      isplitl [S3]; · iexists s3'; iexact S3
      iexists s4'; iexact S4
    iexact Hg
  isplitl [HO]; · iexact HO
  isplitl [H0]
  · iexists f0'
    isplitr; swap; · iexact H0
    ipureintro; exact h0'
  isplitl [H1]
  · iexists f1'
    isplitr; swap; · iexact H1
    ipureintro; exact h1'
  isplitl [H2]
  · iexists f2'
    isplitr; swap; · iexact H2
    ipureintro; exact h2'
  isplitl [H3]
  · iexists f3'
    isplitr; swap; · iexact H3
    ipureintro; exact h3'
  isplitl [H4]
  · iexists f4'
    isplitr; swap; · iexact H4
    ipureintro; exact h4'
  isplitl [H5]
  · iexists f5'
    isplitr; swap; · iexact H5
    ipureintro; exact h5'
  isplitl [H6]
  · iexists f6'
    isplitr; swap; · iexact H6
    ipureintro; exact h6'
  isplitl [H7]
  · iexists f7'
    isplitr; swap; · iexact H7
    ipureintro; exact h7'
  iexists _, f8'
  isplitr; swap; · iexact H8
  ipureintro; rfl

/-- The body table's row at a point is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- From any memory with zero counters every weakly fair run ends; the arrays of the windows hold what the proof data
say (the fourth result's apart), and every counter is at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

variable {m}

/-- A window not forgotten: its array after the run. -/
theorem final_arr {r : PUnit × MemSt nD τ sig (Elt F)}
    (h : Pipeline.RDat.FramePost (cfgs 0) (fun c => (dats (F := F) m 0 c).toRForget forgets) (V m) r) (c : Dev nD)
    (w : Fin cfg0.W) (hw : forgets w = false) :
    r.2.mem ((cfg0.spec w).arr.view.loc (c : Thread nD τ)) = (dats m 0 c).arrAt w cfg0.N :=
  ((dats m 0 c).toRForget_arrAt_iff hw _ _).mp ((h c).1 w)

theorem final_arg0 {r : PUnit × MemSt nD τ sig (Elt F)}
    (h : Pipeline.RDat.FramePost (cfgs 0) (fun c => (dats (F := F) m 0 c).toRForget forgets) (V m) r) (c : Dev nD) :
    r.2.mem ((c : Thread nD τ).loc main_arg0) = m ((c : Thread nD τ).loc main_arg0) :=
  (final_arr h c 3 rfl).trans (((dats m 0 c).arrAt_in 3 rfl _).trans rfl)

theorem final_arg1 {r : PUnit × MemSt nD τ sig (Elt F)}
    (h : Pipeline.RDat.FramePost (cfgs 0) (fun c => (dats (F := F) m 0 c).toRForget forgets) (V m) r) (c : Dev nD) :
    r.2.mem ((c : Thread nD τ).loc main_arg1) = m ((c : Thread nD τ).loc main_arg1) :=
  (final_arr h c 0 rfl).trans (((dats m 0 c).arrAt_in 0 rfl _).trans rfl)

theorem final_arg2 {r : PUnit × MemSt nD τ sig (Elt F)}
    (h : Pipeline.RDat.FramePost (cfgs 0) (fun c => (dats (F := F) m 0 c).toRForget forgets) (V m) r) (c : Dev nD) :
    r.2.mem ((c : Thread nD τ).loc main_arg2) = m ((c : Thread nD τ).loc main_arg2) :=
  (final_arr h c 4 rfl).trans (((dats m 0 c).arrAt_in 4 rfl _).trans rfl)

end Cert.KernelIdeal.Steps

end
-- ==== Proof.RefOpsA.lean ====
/-
  The straight-line operations of the reference before its first loop, as lists read off the program.
-/
module

public import proofs.«01_k».proof.Proof.Gen.ReferenceIdeal
public import Idealize.ShloMosaic.Lib.StableHlo.RunLoop

@[expose] public section

noncomputable section

namespace Cert.ReferenceIdeal.Run

open Idealize.ShloMosaic Idealize.SL.Sem Cert.ReferenceIdeal
open Facts₀ Facts
open Idealize.ShloMosaic.StableHlo (seq tcRefs)

variable {F : FTy → Type} [FloatOps F]

/-- The first window of the main function. -/
noncomputable def pre0 : List (HloOp τ sig (Elt F)) :=
  [ StableHlo.unary main_arg0 main_v0 ((extf .f32 · bitsLt_bf16_f32) : (⟨S9216x4096, .bf16⟩ : BufTy).Contents (Elt F) → (⟨S9216x4096, .f32⟩ : BufTy).Contents (Elt F)),
    StableHlo.reshape main_v0 main_v1 (rfl : (.f32 : EltTy) = .f32) shapeCasts_S9216x4096_S4x2304x4096,
    StableHlo.unary main_v1 main_v2 ((extractStridedSlice S4x2048x1024 ![0, 0, 0] · slices_S4x2304x4096_S4x2048x1024_0_0_0) : (⟨S4x2304x4096, .f32⟩ : BufTy).Contents (Elt F) → (⟨S4x2048x1024, .f32⟩ : BufTy).Contents (Elt F)),
    StableHlo.reshape main_v2 main_v3 (rfl : (.f32 : EltTy) = .f32) shapeCasts_S4x2048x1024_S4x2048x4x256,
    StableHlo.unary main_v1 main_v4 ((extractStridedSlice S4x2048x1024 ![0, 0, 1024] · slices_S4x2304x4096_S4x2048x1024_0_0_1024) : (⟨S4x2304x4096, .f32⟩ : BufTy).Contents (Elt F) → (⟨S4x2048x1024, .f32⟩ : BufTy).Contents (Elt F)),
    StableHlo.reshape main_v4 main_v5 (rfl : (.f32 : EltTy) = .f32) shapeCasts_S4x2048x1024_S4x2048x4x256,
    StableHlo.unary main_v1 main_v6 ((extractStridedSlice S4x2048x2048 ![0, 0, 2048] · slices_S4x2304x4096_S4x2048x2048_0_0_2048) : (⟨S4x2304x4096, .f32⟩ : BufTy).Contents (Elt F) → (⟨S4x2048x2048, .f32⟩ : BufTy).Contents (Elt F)),
    StableHlo.reshape main_v6 main_v7 (rfl : (.f32 : EltTy) = .f32) shapeCasts_S4x2048x2048_S4x2048x4x512,
    StableHlo.unary main_v1 main_v8 ((extractStridedSlice S4x256x1024 ![0, 2048, 1024] · slices_S4x2304x4096_S4x256x1024_0_2048_1024) : (⟨S4x2304x4096, .f32⟩ : BufTy).Contents (Elt F) → (⟨S4x256x1024, .f32⟩ : BufTy).Contents (Elt F)),
    StableHlo.reshape main_v8 main_v9 (rfl : (.f32 : EltTy) = .f32) shapeCasts_S4x256x1024_S4x256x4x256,
    StableHlo.unary main_v1 main_v10 ((extractStridedSlice S4x256x2048 ![0, 2048, 2048] · slices_S4x2304x4096_S4x256x2048_0_2048_2048) : (⟨S4x2304x4096, .f32⟩ : BufTy).Contents (Elt F) → (⟨S4x256x2048, .f32⟩ : BufTy).Contents (Elt F)),
    StableHlo.reshape main_v10 main_v11 (rfl : (.f32 : EltTy) = .f32) shapeCasts_S4x256x2048_S4x256x4x512,
    StableHlo.unary main_arg2 main_v12 ((extf .f32 · bitsLt_bf16_f32) : (⟨S9216x2048, .bf16⟩ : BufTy).Contents (Elt F) → (⟨S9216x2048, .f32⟩ : BufTy).Contents (Elt F)),
    StableHlo.reshape main_v12 main_v13 (rfl : (.f32 : EltTy) = .f32) shapeCasts_S9216x2048_S4x2304x2048,
    StableHlo.unary main_v13 main_v14 ((extractStridedSlice S4x2048x2048 ![0, 0, 0] · slices_S4x2304x2048_S4x2048x2048_0_0_0) : (⟨S4x2304x2048, .f32⟩ : BufTy).Contents (Elt F) → (⟨S4x2048x2048, .f32⟩ : BufTy).Contents (Elt F)),
    StableHlo.reshape main_v14 main_v15 (rfl : (.f32 : EltTy) = .f32) shapeCasts_S4x2048x2048_S4x2048x4x512,
    StableHlo.unary main_arg1 main_v16 ((extractStridedSlice S8x1 ![0, 0] · slices_S8x128_S8x1_0_0) : (⟨S8x128, .f32⟩ : BufTy).Contents (Elt F) → (⟨S8x1, .f32⟩ : BufTy).Contents (Elt F)),
    StableHlo.reshape main_v16 main_v17 (rfl : (.f32 : EltTy) = .f32) shapeCasts_S8x1_S8,
    StableHlo.reshape main_v17 main_v18 (rfl : (.f32 : EltTy) = .f32) shapeCasts_S8_S2x4,
    StableHlo.TRef.unary (.of main_v9 : StableHlo.TRef sig ⟨S4x256x4x256, .f32⟩) (.of main_v19 : StableHlo.TRef sig ⟨S4x256x4x256, .f32⟩) (Host.reverse [1]),
    StableHlo.unary main_v9 main_v20 (broadcastInDim S1x4x256x4x256 ![1, 2, 3, 4] bcast_S4x256x4x256_S1x4x256x4x256_1_2_3_4 : (⟨S4x256x4x256, .f32⟩ : BufTy).Contents (Elt F) → (⟨S1x4x256x4x256, .f32⟩ : BufTy).Contents (Elt F)),
    StableHlo.unary main_v19 main_v21 (broadcastInDim S1x4x256x4x256 ![1, 2, 3, 4] bcast_S4x256x4x256_S1x4x256x4x256_1_2_3_4 : (⟨S4x256x4x256, .f32⟩ : BufTy).Contents (Elt F) → (⟨S1x4x256x4x256, .f32⟩ : BufTy).Contents (Elt F)),
    StableHlo.binary main_v20 main_v21 main_v22 ((fun a b => concatenate S2x4x256x4x256 0 [⟨S1x4x256x4x256, a⟩, ⟨S1x4x256x4x256, b⟩] concatenates_S1x4x256x4x256_S1x4x256x4x256_S2x4x256x4x256_d0) : (⟨S1x4x256x4x256, .f32⟩ : BufTy).Contents (Elt F) → (⟨S1x4x256x4x256, .f32⟩ : BufTy).Contents (Elt F) → (⟨S2x4x256x4x256, .f32⟩ : BufTy).Contents (Elt F)),
    StableHlo.TRef.unary (.of main_v11 : StableHlo.TRef sig ⟨S4x256x4x512, .f32⟩) (.of main_v23 : StableHlo.TRef sig ⟨S4x256x4x512, .f32⟩) (Host.reverse [1]),
    StableHlo.unary main_v11 main_v24 (broadcastInDim S1x4x256x4x512 ![1, 2, 3, 4] bcast_S4x256x4x512_S1x4x256x4x512_1_2_3_4 : (⟨S4x256x4x512, .f32⟩ : BufTy).Contents (Elt F) → (⟨S1x4x256x4x512, .f32⟩ : BufTy).Contents (Elt F)),
    StableHlo.unary main_v23 main_v25 (broadcastInDim S1x4x256x4x512 ![1, 2, 3, 4] bcast_S4x256x4x512_S1x4x256x4x512_1_2_3_4 : (⟨S4x256x4x512, .f32⟩ : BufTy).Contents (Elt F) → (⟨S1x4x256x4x512, .f32⟩ : BufTy).Contents (Elt F)),
    StableHlo.binary main_v24 main_v25 main_v26 ((fun a b => concatenate S2x4x256x4x512 0 [⟨S1x4x256x4x512, a⟩, ⟨S1x4x256x4x512, b⟩] concatenates_S1x4x256x4x512_S1x4x256x4x512_S2x4x256x4x512_d0) : (⟨S1x4x256x4x512, .f32⟩ : BufTy).Contents (Elt F) → (⟨S1x4x256x4x512, .f32⟩ : BufTy).Contents (Elt F) → (⟨S2x4x256x4x512, .f32⟩ : BufTy).Contents (Elt F)),
    StableHlo.nullary main_v27 (sitofp .f32 (iotaInDim S256 32 0)),
    StableHlo.unary main_v18 main_v28 (broadcastInDim S2x1x4 ![0, 2] bcast_S2x4_S2x1x4_0_2 : (⟨S2x4, .f32⟩ : BufTy).Contents (Elt F) → (⟨S2x1x4, .f32⟩ : BufTy).Contents (Elt F)),
    StableHlo.nullary main_cst (constant S_ .f32 0x437F0000#32),
    StableHlo.unary main_cst main_v29 (broadcastInDim S256 ![] bcast_S_S256 : (⟨S_, .f32⟩ : BufTy).Contents (Elt F) → (⟨S256, .f32⟩ : BufTy).Contents (Elt F)),
    StableHlo.binary main_v29 main_v27 main_v30 (subf : (⟨S256, .f32⟩ : BufTy).Contents (Elt F) → (⟨S256, .f32⟩ : BufTy).Contents (Elt F) → (⟨S256, .f32⟩ : BufTy).Contents (Elt F)),
    StableHlo.unary main_v30 main_v31 (broadcastInDim S256x1 ![0] bcast_S256_S256x1_0 : (⟨S256, .f32⟩ : BufTy).Contents (Elt F) → (⟨S256x1, .f32⟩ : BufTy).Contents (Elt F)),
    StableHlo.unary main_v31 main_v32 (broadcastInDim S1x256x1 ![1, 2] bcast_S256x1_S1x256x1_1_2 : (⟨S256x1, .f32⟩ : BufTy).Contents (Elt F) → (⟨S1x256x1, .f32⟩ : BufTy).Contents (Elt F)),
    StableHlo.unary main_v28 main_v33 (broadcastInDim S2x256x4 ![0, 1, 2] bcast_S2x1x4_S2x256x4_0_1_2 : (⟨S2x1x4, .f32⟩ : BufTy).Contents (Elt F) → (⟨S2x256x4, .f32⟩ : BufTy).Contents (Elt F)),
    StableHlo.unary main_v32 main_v34 (broadcastInDim S2x256x4 ![0, 1, 2] bcast_S1x256x1_S2x256x4_0_1_2 : (⟨S1x256x1, .f32⟩ : BufTy).Contents (Elt F) → (⟨S2x256x4, .f32⟩ : BufTy).Contents (Elt F)),
    StableHlo.binary main_v33 main_v34 main_v35 (mulf : (⟨S2x256x4, .f32⟩ : BufTy).Contents (Elt F) → (⟨S2x256x4, .f32⟩ : BufTy).Contents (Elt F) → (⟨S2x256x4, .f32⟩ : BufTy).Contents (Elt F)),
    StableHlo.unary main_v35 main_v36 (Host.exp : (⟨S2x256x4, .f32⟩ : BufTy).Contents (Elt F) → (⟨S2x256x4, .f32⟩ : BufTy).Contents (Elt F)),
    StableHlo.unary main_v36 main_v37 (broadcastInDim S2x1x256x4x1 ![0, 2, 3] bcast_S2x256x4_S2x1x256x4x1_0_2_3 : (⟨S2x256x4, .f32⟩ : BufTy).Contents (Elt F) → (⟨S2x1x256x4x1, .f32⟩ : BufTy).Contents (Elt F)),
    StableHlo.unary main_v37 main_v38 (broadcastInDim S2x4x256x4x256 ![0, 1, 2, 3, 4] bcast_S2x1x256x4x1_S2x4x256x4x256_0_1_2_3_4 : (⟨S2x1x256x4x1, .f32⟩ : BufTy).Contents (Elt F) → (⟨S2x4x256x4x256, .f32⟩ : BufTy).Contents (Elt F)),
    StableHlo.binary main_v22 main_v38 main_v39 (mulf : (⟨S2x4x256x4x256, .f32⟩ : BufTy).Contents (Elt F) → (⟨S2x4x256x4x256, .f32⟩ : BufTy).Contents (Elt F) → (⟨S2x4x256x4x256, .f32⟩ : BufTy).Contents (Elt F)),
    StableHlo.binary main_v39 main_v26 main_v40 ((fun l r => Host.dotGeneral dot_S2x4x256x4x256_S2x4x256x4x512_S2x4x4x256x512_2_2_4_4_013_013 none l r) : (⟨S2x4x256x4x256, .f32⟩ : BufTy).Contents (Elt F) → (⟨S2x4x256x4x512, .f32⟩ : BufTy).Contents (Elt F) → (⟨S2x4x4x256x512, .f32⟩ : BufTy).Contents (Elt F)),
    StableHlo.TRef.unary (.of main_v3 : StableHlo.TRef sig ⟨S4x2048x4x256, .f32⟩) (.of main_v41 : StableHlo.TRef sig ⟨S4x2048x4x256, .f32⟩) (Host.reverse [1]),
    StableHlo.unary main_v3 main_v42 (broadcastInDim S1x4x2048x4x256 ![1, 2, 3, 4] bcast_S4x2048x4x256_S1x4x2048x4x256_1_2_3_4 : (⟨S4x2048x4x256, .f32⟩ : BufTy).Contents (Elt F) → (⟨S1x4x2048x4x256, .f32⟩ : BufTy).Contents (Elt F)),
    StableHlo.unary main_v41 main_v43 (broadcastInDim S1x4x2048x4x256 ![1, 2, 3, 4] bcast_S4x2048x4x256_S1x4x2048x4x256_1_2_3_4 : (⟨S4x2048x4x256, .f32⟩ : BufTy).Contents (Elt F) → (⟨S1x4x2048x4x256, .f32⟩ : BufTy).Contents (Elt F)),
    StableHlo.binary main_v42 main_v43 main_v44 ((fun a b => concatenate S2x4x2048x4x256 0 [⟨S1x4x2048x4x256, a⟩, ⟨S1x4x2048x4x256, b⟩] concatenates_S1x4x2048x4x256_S1x4x2048x4x256_S2x4x2048x4x256_d0) : (⟨S1x4x2048x4x256, .f32⟩ : BufTy).Contents (Elt F) → (⟨S1x4x2048x4x256, .f32⟩ : BufTy).Contents (Elt F) → (⟨S2x4x2048x4x256, .f32⟩ : BufTy).Contents (Elt F)),
    StableHlo.TRef.unary (.of main_v5 : StableHlo.TRef sig ⟨S4x2048x4x256, .f32⟩) (.of main_v45 : StableHlo.TRef sig ⟨S4x2048x4x256, .f32⟩) (Host.reverse [1]),
    StableHlo.unary main_v5 main_v46 (broadcastInDim S1x4x2048x4x256 ![1, 2, 3, 4] bcast_S4x2048x4x256_S1x4x2048x4x256_1_2_3_4 : (⟨S4x2048x4x256, .f32⟩ : BufTy).Contents (Elt F) → (⟨S1x4x2048x4x256, .f32⟩ : BufTy).Contents (Elt F)),
    StableHlo.unary main_v45 main_v47 (broadcastInDim S1x4x2048x4x256 ![1, 2, 3, 4] bcast_S4x2048x4x256_S1x4x2048x4x256_1_2_3_4 : (⟨S4x2048x4x256, .f32⟩ : BufTy).Contents (Elt F) → (⟨S1x4x2048x4x256, .f32⟩ : BufTy).Contents (Elt F)),
    StableHlo.binary main_v46 main_v47 main_v48 ((fun a b => concatenate S2x4x2048x4x256 0 [⟨S1x4x2048x4x256, a⟩, ⟨S1x4x2048x4x256, b⟩] concatenates_S1x4x2048x4x256_S1x4x2048x4x256_S2x4x2048x4x256_d0) : (⟨S1x4x2048x4x256, .f32⟩ : BufTy).Contents (Elt F) → (⟨S1x4x2048x4x256, .f32⟩ : BufTy).Contents (Elt F) → (⟨S2x4x2048x4x256, .f32⟩ : BufTy).Contents (Elt F)),
    StableHlo.TRef.unary (.of main_v7 : StableHlo.TRef sig ⟨S4x2048x4x512, .f32⟩) (.of main_v49 : StableHlo.TRef sig ⟨S4x2048x4x512, .f32⟩) (Host.reverse [1]),
    StableHlo.unary main_v7 main_v50 (broadcastInDim S1x4x2048x4x512 ![1, 2, 3, 4] bcast_S4x2048x4x512_S1x4x2048x4x512_1_2_3_4 : (⟨S4x2048x4x512, .f32⟩ : BufTy).Contents (Elt F) → (⟨S1x4x2048x4x512, .f32⟩ : BufTy).Contents (Elt F)),
    StableHlo.unary main_v49 main_v51 (broadcastInDim S1x4x2048x4x512 ![1, 2, 3, 4] bcast_S4x2048x4x512_S1x4x2048x4x512_1_2_3_4 : (⟨S4x2048x4x512, .f32⟩ : BufTy).Contents (Elt F) → (⟨S1x4x2048x4x512, .f32⟩ : BufTy).Contents (Elt F)),
    StableHlo.binary main_v50 main_v51 main_v52 ((fun a b => concatenate S2x4x2048x4x512 0 [⟨S1x4x2048x4x512, a⟩, ⟨S1x4x2048x4x512, b⟩] concatenates_S1x4x2048x4x512_S1x4x2048x4x512_S2x4x2048x4x512_d0) : (⟨S1x4x2048x4x512, .f32⟩ : BufTy).Contents (Elt F) → (⟨S1x4x2048x4x512, .f32⟩ : BufTy).Contents (Elt F) → (⟨S2x4x2048x4x512, .f32⟩ : BufTy).Contents (Elt F)),
    StableHlo.nullary main_v53 (sitofp .f32 (iotaInDim S128 32 0)),
    StableHlo.unary main_v53 main_v54 (broadcastInDim S128x1 ![0] bcast_S128_S128x1_0 : (⟨S128, .f32⟩ : BufTy).Contents (Elt F) → (⟨S128x1, .f32⟩ : BufTy).Contents (Elt F)),
    StableHlo.unary main_v53 main_v55 (broadcastInDim S1x128 ![1] bcast_S128_S1x128_1 : (⟨S128, .f32⟩ : BufTy).Contents (Elt F) → (⟨S1x128, .f32⟩ : BufTy).Contents (Elt F)),
    StableHlo.unary main_v54 main_v56 (broadcastInDim S128x128 ![0, 1] bcast_S128x1_S128x128_0_1 : (⟨S128x1, .f32⟩ : BufTy).Contents (Elt F) → (⟨S128x128, .f32⟩ : BufTy).Contents (Elt F)),
    StableHlo.unary main_v55 main_v57 (broadcastInDim S128x128 ![0, 1] bcast_S1x128_S128x128_0_1 : (⟨S1x128, .f32⟩ : BufTy).Contents (Elt F) → (⟨S128x128, .f32⟩ : BufTy).Contents (Elt F)),
    StableHlo.binary main_v56 main_v57 main_v58 (subf : (⟨S128x128, .f32⟩ : BufTy).Contents (Elt F) → (⟨S128x128, .f32⟩ : BufTy).Contents (Elt F) → (⟨S128x128, .f32⟩ : BufTy).Contents (Elt F)) ]

theorem pre0_sub : (pre0 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.reshape_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub ..⟩

/-- The second window. -/
noncomputable def pre1 : List (HloOp τ sig (Elt F)) :=
  [ StableHlo.nullary main_cst_0 (constant S_ .f32 0x00000000#32),
    StableHlo.unary main_cst_0 main_v59 (broadcastInDim S128x128 ![] bcast_S_S128x128 : (⟨S_, .f32⟩ : BufTy).Contents (Elt F) → (⟨S128x128, .f32⟩ : BufTy).Contents (Elt F)),
    StableHlo.binary main_v58 main_v59 main_v60 (cmpf .oge : (⟨S128x128, .f32⟩ : BufTy).Contents (Elt F) → (⟨S128x128, .f32⟩ : BufTy).Contents (Elt F) → (⟨S128x128, .i1⟩ : BufTy).Contents (Elt F)),
    StableHlo.unary main_v18 main_v61 (broadcastInDim S2x4x1x1 ![0, 1] bcast_S2x4_S2x4x1x1_0_1 : (⟨S2x4, .f32⟩ : BufTy).Contents (Elt F) → (⟨S2x4x1x1, .f32⟩ : BufTy).Contents (Elt F)),
    StableHlo.nullary main_cst_1 (constant S_ .f32 0x00000000#32),
    StableHlo.unary main_cst_1 main_v62 (broadcastInDim S128x128 ![] bcast_S_S128x128 : (⟨S_, .f32⟩ : BufTy).Contents (Elt F) → (⟨S128x128, .f32⟩ : BufTy).Contents (Elt F)),
    StableHlo.binary main_v58 main_v62 main_v63 (maximumf : (⟨S128x128, .f32⟩ : BufTy).Contents (Elt F) → (⟨S128x128, .f32⟩ : BufTy).Contents (Elt F) → (⟨S128x128, .f32⟩ : BufTy).Contents (Elt F)),
    StableHlo.unary main_v63 main_v64 (broadcastInDim S1x128x128 ![1, 2] bcast_S128x128_S1x128x128_1_2 : (⟨S128x128, .f32⟩ : BufTy).Contents (Elt F) → (⟨S1x128x128, .f32⟩ : BufTy).Contents (Elt F)),
    StableHlo.unary main_v64 main_v65 (broadcastInDim S1x1x128x128 ![1, 2, 3] bcast_S1x128x128_S1x1x128x128_1_2_3 : (⟨S1x128x128, .f32⟩ : BufTy).Contents (Elt F) → (⟨S1x1x128x128, .f32⟩ : BufTy).Contents (Elt F)),
    StableHlo.unary main_v61 main_v66 (broadcastInDim S2x4x128x128 ![0, 1, 2, 3] bcast_S2x4x1x1_S2x4x128x128_0_1_2_3 : (⟨S2x4x1x1, .f32⟩ : BufTy).Contents (Elt F) → (⟨S2x4x128x128, .f32⟩ : BufTy).Contents (Elt F)),
    StableHlo.unary main_v65 main_v67 (broadcastInDim S2x4x128x128 ![0, 1, 2, 3] bcast_S1x1x128x128_S2x4x128x128_0_1_2_3 : (⟨S1x1x128x128, .f32⟩ : BufTy).Contents (Elt F) → (⟨S2x4x128x128, .f32⟩ : BufTy).Contents (Elt F)),
    StableHlo.binary main_v66 main_v67 main_v68 (mulf : (⟨S2x4x128x128, .f32⟩ : BufTy).Contents (Elt F) → (⟨S2x4x128x128, .f32⟩ : BufTy).Contents (Elt F) → (⟨S2x4x128x128, .f32⟩ : BufTy).Contents (Elt F)),
    StableHlo.unary main_v68 main_v69 (Host.exp : (⟨S2x4x128x128, .f32⟩ : BufTy).Contents (Elt F) → (⟨S2x4x128x128, .f32⟩ : BufTy).Contents (Elt F)),
    StableHlo.nullary main_cst_2 (constant S_ .f32 0x00000000#32),
    StableHlo.TRef.unary (.of main_cst_2 : StableHlo.TRef sig ⟨S_, .f32⟩) (.of main_call5_v0 : StableHlo.TRef sig ⟨S_, .f32⟩) id,
    StableHlo.TRef.unary (.of main_v60 : StableHlo.TRef sig ⟨S128x128, .i1⟩) (.of main_call5_v1 : StableHlo.TRef sig ⟨S4x128x128, .i1⟩) (broadcastInDim S4x128x128 ![1, 2] bcast_S128x128_S4x128x128_1_2),
    StableHlo.TRef.unary (.of main_call5_v0 : StableHlo.TRef sig ⟨S_, .f32⟩) (.of main_call5_v2 : StableHlo.TRef sig ⟨S4x128x128, .f32⟩) (broadcastInDim S4x128x128 ![] bcast_S_S4x128x128),
    StableHlo.TRef.unary (.of main_call5_v1 : StableHlo.TRef sig ⟨S4x128x128, .i1⟩) (.of main_call5_v3 : StableHlo.TRef sig ⟨S2x4x128x128, .i1⟩) (broadcastInDim S2x4x128x128 ![1, 2, 3] bcast_S4x128x128_S2x4x128x128_1_2_3),
    StableHlo.TRef.unary (.of main_call5_v2 : StableHlo.TRef sig ⟨S4x128x128, .f32⟩) (.of main_call5_v4 : StableHlo.TRef sig ⟨S2x4x128x128, .f32⟩) (broadcastInDim S2x4x128x128 ![1, 2, 3] bcast_S4x128x128_S2x4x128x128_1_2_3),
    StableHlo.TRef.ternary (.of main_call5_v3 : StableHlo.TRef sig ⟨S2x4x128x128, .i1⟩) (.of main_v69 : StableHlo.TRef sig ⟨S2x4x128x128, .f32⟩) (.of main_call5_v4 : StableHlo.TRef sig ⟨S2x4x128x128, .f32⟩) (.of main_v70 : StableHlo.TRef sig ⟨S2x4x128x128, .f32⟩) select,
    StableHlo.unary main_v18 main_v71 (broadcastInDim S2x1x4 ![0, 2] bcast_S2x4_S2x1x4_0_2 : (⟨S2x4, .f32⟩ : BufTy).Contents (Elt F) → (⟨S2x1x4, .f32⟩ : BufTy).Contents (Elt F)),
    StableHlo.nullary main_cst_3 (constant S_ .f32 0x3F800000#32),
    StableHlo.unary main_cst_3 main_v72 (broadcastInDim S128 ![] bcast_S_S128 : (⟨S_, .f32⟩ : BufTy).Contents (Elt F) → (⟨S128, .f32⟩ : BufTy).Contents (Elt F)),
    StableHlo.binary main_v53 main_v72 main_v73 (addf : (⟨S128, .f32⟩ : BufTy).Contents (Elt F) → (⟨S128, .f32⟩ : BufTy).Contents (Elt F) → (⟨S128, .f32⟩ : BufTy).Contents (Elt F)),
    StableHlo.unary main_v73 main_v74 (broadcastInDim S128x1 ![0] bcast_S128_S128x1_0 : (⟨S128, .f32⟩ : BufTy).Contents (Elt F) → (⟨S128x1, .f32⟩ : BufTy).Contents (Elt F)),
    StableHlo.unary main_v74 main_v75 (broadcastInDim S1x128x1 ![1, 2] bcast_S128x1_S1x128x1_1_2 : (⟨S128x1, .f32⟩ : BufTy).Contents (Elt F) → (⟨S1x128x1, .f32⟩ : BufTy).Contents (Elt F)),
    StableHlo.unary main_v71 main_v76 (broadcastInDim S2x128x4 ![0, 1, 2] bcast_S2x1x4_S2x128x4_0_1_2 : (⟨S2x1x4, .f32⟩ : BufTy).Contents (Elt F) → (⟨S2x128x4, .f32⟩ : BufTy).Contents (Elt F)),
    StableHlo.unary main_v75 main_v77 (broadcastInDim S2x128x4 ![0, 1, 2] bcast_S1x128x1_S2x128x4_0_1_2 : (⟨S1x128x1, .f32⟩ : BufTy).Contents (Elt F) → (⟨S2x128x4, .f32⟩ : BufTy).Contents (Elt F)),
    StableHlo.binary main_v76 main_v77 main_v78 (mulf : (⟨S2x128x4, .f32⟩ : BufTy).Contents (Elt F) → (⟨S2x128x4, .f32⟩ : BufTy).Contents (Elt F) → (⟨S2x128x4, .f32⟩ : BufTy).Contents (Elt F)),
    StableHlo.unary main_v78 main_v79 (Host.exp : (⟨S2x128x4, .f32⟩ : BufTy).Contents (Elt F) → (⟨S2x128x4, .f32⟩ : BufTy).Contents (Elt F)),
    StableHlo.unary main_v79 main_v80 (broadcastInDim S2x1x128x4x1 ![0, 2, 3] bcast_S2x128x4_S2x1x128x4x1_0_2_3 : (⟨S2x128x4, .f32⟩ : BufTy).Contents (Elt F) → (⟨S2x1x128x4x1, .f32⟩ : BufTy).Contents (Elt F)),
    StableHlo.unary main_v18 main_v81 (broadcastInDim S2x1x4 ![0, 2] bcast_S2x4_S2x1x4_0_2 : (⟨S2x4, .f32⟩ : BufTy).Contents (Elt F) → (⟨S2x1x4, .f32⟩ : BufTy).Contents (Elt F)),
    StableHlo.nullary main_cst_4 (constant S_ .f32 0x42FE0000#32),
    StableHlo.unary main_cst_4 main_v82 (broadcastInDim S128 ![] bcast_S_S128 : (⟨S_, .f32⟩ : BufTy).Contents (Elt F) → (⟨S128, .f32⟩ : BufTy).Contents (Elt F)),
    StableHlo.binary main_v82 main_v53 main_v83 (subf : (⟨S128, .f32⟩ : BufTy).Contents (Elt F) → (⟨S128, .f32⟩ : BufTy).Contents (Elt F) → (⟨S128, .f32⟩ : BufTy).Contents (Elt F)),
    StableHlo.unary main_v83 main_v84 (broadcastInDim S128x1 ![0] bcast_S128_S128x1_0 : (⟨S128, .f32⟩ : BufTy).Contents (Elt F) → (⟨S128x1, .f32⟩ : BufTy).Contents (Elt F)),
    StableHlo.unary main_v84 main_v85 (broadcastInDim S1x128x1 ![1, 2] bcast_S128x1_S1x128x1_1_2 : (⟨S128x1, .f32⟩ : BufTy).Contents (Elt F) → (⟨S1x128x1, .f32⟩ : BufTy).Contents (Elt F)),
    StableHlo.unary main_v81 main_v86 (broadcastInDim S2x128x4 ![0, 1, 2] bcast_S2x1x4_S2x128x4_0_1_2 : (⟨S2x1x4, .f32⟩ : BufTy).Contents (Elt F) → (⟨S2x128x4, .f32⟩ : BufTy).Contents (Elt F)),
    StableHlo.unary main_v85 main_v87 (broadcastInDim S2x128x4 ![0, 1, 2] bcast_S1x128x1_S2x128x4_0_1_2 : (⟨S1x128x1, .f32⟩ : BufTy).Contents (Elt F) → (⟨S2x128x4, .f32⟩ : BufTy).Contents (Elt F)),
    StableHlo.binary main_v86 main_v87 main_v88 (mulf : (⟨S2x128x4, .f32⟩ : BufTy).Contents (Elt F) → (⟨S2x128x4, .f32⟩ : BufTy).Contents (Elt F) → (⟨S2x128x4, .f32⟩ : BufTy).Contents (Elt F)),
    StableHlo.unary main_v88 main_v89 (Host.exp : (⟨S2x128x4, .f32⟩ : BufTy).Contents (Elt F) → (⟨S2x128x4, .f32⟩ : BufTy).Contents (Elt F)),
    StableHlo.unary main_v89 main_v90 (broadcastInDim S2x1x128x4x1 ![0, 2, 3] bcast_S2x128x4_S2x1x128x4x1_0_2_3 : (⟨S2x128x4, .f32⟩ : BufTy).Contents (Elt F) → (⟨S2x1x128x4x1, .f32⟩ : BufTy).Contents (Elt F)),
    StableHlo.nullary main_cst_5 (constant S_ .f32 0x43000000#32),
    StableHlo.unary main_cst_5 main_v91 (broadcastInDim S2x4 ![] bcast_S_S2x4 : (⟨S_, .f32⟩ : BufTy).Contents (Elt F) → (⟨S2x4, .f32⟩ : BufTy).Contents (Elt F)),
    StableHlo.binary main_v18 main_v91 main_v92 (mulf : (⟨S2x4, .f32⟩ : BufTy).Contents (Elt F) → (⟨S2x4, .f32⟩ : BufTy).Contents (Elt F) → (⟨S2x4, .f32⟩ : BufTy).Contents (Elt F)),
    StableHlo.unary main_v92 main_v93 (Host.exp : (⟨S2x4, .f32⟩ : BufTy).Contents (Elt F) → (⟨S2x4, .f32⟩ : BufTy).Contents (Elt F)),
    StableHlo.unary main_v93 main_v94 (broadcastInDim S2x1x4x1x1 ![0, 2] bcast_S2x4_S2x1x4x1x1_0_2 : (⟨S2x4, .f32⟩ : BufTy).Contents (Elt F) → (⟨S2x1x4x1x1, .f32⟩ : BufTy).Contents (Elt F)),
    StableHlo.reshape main_v44 main_v95 (rfl : (.f32 : EltTy) = .f32) shapeCasts_S2x4x2048x4x256_S2x4x16x128x4x256,
    StableHlo.unary main_v95 main_v96 ((transpose S2x16x4x128x4x256 [0, 2, 1, 3, 4, 5] · transposes_S2x4x16x128x4x256_S2x16x4x128x4x256_0_2_1_3_4_5) : (⟨S2x4x16x128x4x256, .f32⟩ : BufTy).Contents (Elt F) → (⟨S2x16x4x128x4x256, .f32⟩ : BufTy).Contents (Elt F)),
    StableHlo.reshape main_v48 main_v97 (rfl : (.f32 : EltTy) = .f32) shapeCasts_S2x4x2048x4x256_S2x4x16x128x4x256,
    StableHlo.unary main_v97 main_v98 ((transpose S2x16x4x128x4x256 [0, 2, 1, 3, 4, 5] · transposes_S2x4x16x128x4x256_S2x16x4x128x4x256_0_2_1_3_4_5) : (⟨S2x4x16x128x4x256, .f32⟩ : BufTy).Contents (Elt F) → (⟨S2x16x4x128x4x256, .f32⟩ : BufTy).Contents (Elt F)),
    StableHlo.reshape main_v52 main_v99 (rfl : (.f32 : EltTy) = .f32) shapeCasts_S2x4x2048x4x512_S2x4x16x128x4x512,
    StableHlo.unary main_v99 main_v100 ((transpose S2x16x4x128x4x512 [0, 2, 1, 3, 4, 5] · transposes_S2x4x16x128x4x512_S2x16x4x128x4x512_0_2_1_3_4_5) : (⟨S2x4x16x128x4x512, .f32⟩ : BufTy).Contents (Elt F) → (⟨S2x16x4x128x4x512, .f32⟩ : BufTy).Contents (Elt F)),
    StableHlo.unary main_v96 main_v101 ((transpose S16x2x4x128x4x256 [1, 0, 2, 3, 4, 5] · transposes_S2x16x4x128x4x256_S16x2x4x128x4x256_1_0_2_3_4_5) : (⟨S2x16x4x128x4x256, .f32⟩ : BufTy).Contents (Elt F) → (⟨S16x2x4x128x4x256, .f32⟩ : BufTy).Contents (Elt F)),
    StableHlo.unary main_v98 main_v102 ((transpose S16x2x4x128x4x256 [1, 0, 2, 3, 4, 5] · transposes_S2x16x4x128x4x256_S16x2x4x128x4x256_1_0_2_3_4_5) : (⟨S2x16x4x128x4x256, .f32⟩ : BufTy).Contents (Elt F) → (⟨S16x2x4x128x4x256, .f32⟩ : BufTy).Contents (Elt F)),
    StableHlo.unary main_v100 main_v103 ((transpose S16x2x4x128x4x512 [1, 0, 2, 3, 4, 5] · transposes_S2x16x4x128x4x512_S16x2x4x128x4x512_1_0_2_3_4_5) : (⟨S2x16x4x128x4x512, .f32⟩ : BufTy).Contents (Elt F) → (⟨S16x2x4x128x4x512, .f32⟩ : BufTy).Contents (Elt F)),
    StableHlo.unary main_v70 main_v104 (broadcastInDim S2x1x4x128x128 ![0, 2, 3, 4] bcast_S2x4x128x128_S2x1x4x128x128_0_2_3_4 : (⟨S2x4x128x128, .f32⟩ : BufTy).Contents (Elt F) → (⟨S2x1x4x128x128, .f32⟩ : BufTy).Contents (Elt F)),
    StableHlo.nullary main_cst_6 (constant S_ .f32 0x00000000#32),
    StableHlo.unary main_cst_6 main_v105 (broadcastInDim S16x2x4x128x4x512 ![] bcast_S_S16x2x4x128x4x512 : (⟨S_, .f32⟩ : BufTy).Contents (Elt F) → (⟨S16x2x4x128x4x512, .f32⟩ : BufTy).Contents (Elt F)),
    StableHlo.nullary main_cst_7 (constant S_ .f32 0x00000000#32),
    StableHlo.unary main_cst_7 main_v106 (broadcastInDim S16x2x4x4x128x128 ![] bcast_S_S16x2x4x4x128x128 : (⟨S_, .f32⟩ : BufTy).Contents (Elt F) → (⟨S16x2x4x4x128x128, .f32⟩ : BufTy).Contents (Elt F)),
    StableHlo.nullary main_cst_8 (constant S_ .f32 0x00000000#32),
    StableHlo.unary main_cst_8 main_v107 (broadcastInDim S16x2x4x4x256x512 ![] bcast_S_S16x2x4x4x256x512 : (⟨S_, .f32⟩ : BufTy).Contents (Elt F) → (⟨S16x2x4x4x256x512, .f32⟩ : BufTy).Contents (Elt F)),
    StableHlo.nullary main_cst_9 (constant S_ .f32 0x00000000#32),
    StableHlo.unary main_cst_9 main_v108 (broadcastInDim S16x2x4x128x4x256 ![] bcast_S_S16x2x4x128x4x256 : (⟨S_, .f32⟩ : BufTy).Contents (Elt F) → (⟨S16x2x4x128x4x256, .f32⟩ : BufTy).Contents (Elt F)) ]

theorem pre1_sub : (pre1 : List (HloOp τ sig (Elt F))).Forall fun op => op.bufs ⊆ tcRefs τ sig :=
  ⟨StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub ..⟩

/-- The third window up to the first loop. -/
noncomputable def pre2 : List (HloOp τ sig (Elt F)) :=
  [ StableHlo.nullary main_c (constantI S_ 32 0#32),
    StableHlo.unary main_v101 main_v109_0 id,
    StableHlo.unary main_v102 main_v109_1 id,
    StableHlo.unary main_v103 main_v109_2 id,
    StableHlo.unary main_v94 main_v109_3 id,
    StableHlo.unary main_v90 main_v109_4 id,
    StableHlo.unary main_v104 main_v109_5 id,
    StableHlo.unary main_v80 main_v109_6 id,
    StableHlo.unary main_c main_v109_7 id,
    StableHlo.unary main_v40 main_v109_8 id,
    StableHlo.unary main_v105 main_v109_9 id,
    StableHlo.unary main_v106 main_v109_10 id,
    StableHlo.unary main_v107 main_v109_11 id,
    StableHlo.unary main_v108 main_v109_12 id ]

theorem pre2_sub : (pre2 : List (HloOp τ sig (Elt F))).Forall fun op => op.bufs ⊆ tcRefs τ sig :=
  ⟨StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

end Cert.ReferenceIdeal.Run
-- ==== Proof.RefOpsB.lean ====
/-
  The operations of one trip of each of the reference's two loops, as lists read off the program.
-/
module

public import proofs.«01_k».proof.Proof.Gen.ReferenceIdeal
public import Idealize.ShloMosaic.Lib.StableHlo.RunLoop

@[expose] public section

noncomputable section

namespace Cert.ReferenceIdeal.Run

open Idealize.ShloMosaic Idealize.SL.Sem Cert.ReferenceIdeal
open Facts₀ Facts
open Idealize.ShloMosaic.StableHlo (seq tcRefs)

variable {F : FTy → Type} [FloatOps F]

/-- One trip of the forward loop. -/
noncomputable def body0 : List (HloOp τ sig (Elt F)) :=
  [ StableHlo.TRef.nullary (.of main_while0b_call6_c : StableHlo.TRef sig ⟨S_, .i32⟩) (constantI S_ 32 0#32),
    StableHlo.TRef.nullary (.of main_while0b_call6_c_0 : StableHlo.TRef sig ⟨S_, .i32⟩) (constantI S_ 32 0#32),
    StableHlo.TRef.nullary (.of main_while0b_call6_c_1 : StableHlo.TRef sig ⟨S_, .i32⟩) (constantI S_ 32 0#32),
    StableHlo.TRef.nullary (.of main_while0b_call6_c_2 : StableHlo.TRef sig ⟨S_, .i32⟩) (constantI S_ 32 0#32),
    StableHlo.TRef.nullary (.of main_while0b_call6_c_3 : StableHlo.TRef sig ⟨S_, .i32⟩) (constantI S_ 32 0#32),
    StableHlo.TRef.unaryIndexed (.of main_v109_0 : StableHlo.TRef sig ⟨S16x2x4x128x4x256, .f32⟩) ![(.of main_v109_7 : StableHlo.TRef sig ⟨S_, .i32⟩), (.of main_while0b_call6_c : StableHlo.TRef sig ⟨S_, .i32⟩), (.of main_while0b_call6_c_0 : StableHlo.TRef sig ⟨S_, .i32⟩), (.of main_while0b_call6_c_1 : StableHlo.TRef sig ⟨S_, .i32⟩), (.of main_while0b_call6_c_2 : StableHlo.TRef sig ⟨S_, .i32⟩), (.of main_while0b_call6_c_3 : StableHlo.TRef sig ⟨S_, .i32⟩)] (.of main_while0b_call6_v0 : StableHlo.TRef sig ⟨S1x2x4x128x4x256, .f32⟩) (fun x i => Host.dynamicSlice S1x2x4x128x4x256 x (fun k => (i k (Shape.Idx.first h_S_)).toInt) sliceFits_S16x2x4x128x4x256_S1x2x4x128x4x256),
    StableHlo.TRef.reshape (.of main_while0b_call6_v0 : StableHlo.TRef sig ⟨S1x2x4x128x4x256, .f32⟩) (.of main_while0b_v191 : StableHlo.TRef sig ⟨S2x4x128x4x256, .f32⟩) (rfl : (.f32 : EltTy) = .f32) shapeCasts_S1x2x4x128x4x256_S2x4x128x4x256,
    StableHlo.TRef.nullary (.of main_while0b_call7_c : StableHlo.TRef sig ⟨S_, .i32⟩) (constantI S_ 32 0#32),
    StableHlo.TRef.nullary (.of main_while0b_call7_c_0 : StableHlo.TRef sig ⟨S_, .i32⟩) (constantI S_ 32 0#32),
    StableHlo.TRef.nullary (.of main_while0b_call7_c_1 : StableHlo.TRef sig ⟨S_, .i32⟩) (constantI S_ 32 0#32),
    StableHlo.TRef.nullary (.of main_while0b_call7_c_2 : StableHlo.TRef sig ⟨S_, .i32⟩) (constantI S_ 32 0#32),
    StableHlo.TRef.nullary (.of main_while0b_call7_c_3 : StableHlo.TRef sig ⟨S_, .i32⟩) (constantI S_ 32 0#32),
    StableHlo.TRef.unaryIndexed (.of main_v109_1 : StableHlo.TRef sig ⟨S16x2x4x128x4x256, .f32⟩) ![(.of main_v109_7 : StableHlo.TRef sig ⟨S_, .i32⟩), (.of main_while0b_call7_c : StableHlo.TRef sig ⟨S_, .i32⟩), (.of main_while0b_call7_c_0 : StableHlo.TRef sig ⟨S_, .i32⟩), (.of main_while0b_call7_c_1 : StableHlo.TRef sig ⟨S_, .i32⟩), (.of main_while0b_call7_c_2 : StableHlo.TRef sig ⟨S_, .i32⟩), (.of main_while0b_call7_c_3 : StableHlo.TRef sig ⟨S_, .i32⟩)] (.of main_while0b_call7_v0 : StableHlo.TRef sig ⟨S1x2x4x128x4x256, .f32⟩) (fun x i => Host.dynamicSlice S1x2x4x128x4x256 x (fun k => (i k (Shape.Idx.first h_S_)).toInt) sliceFits_S16x2x4x128x4x256_S1x2x4x128x4x256),
    StableHlo.TRef.reshape (.of main_while0b_call7_v0 : StableHlo.TRef sig ⟨S1x2x4x128x4x256, .f32⟩) (.of main_while0b_v192 : StableHlo.TRef sig ⟨S2x4x128x4x256, .f32⟩) (rfl : (.f32 : EltTy) = .f32) shapeCasts_S1x2x4x128x4x256_S2x4x128x4x256,
    StableHlo.TRef.nullary (.of main_while0b_call8_c : StableHlo.TRef sig ⟨S_, .i32⟩) (constantI S_ 32 0#32),
    StableHlo.TRef.nullary (.of main_while0b_call8_c_0 : StableHlo.TRef sig ⟨S_, .i32⟩) (constantI S_ 32 0#32),
    StableHlo.TRef.nullary (.of main_while0b_call8_c_1 : StableHlo.TRef sig ⟨S_, .i32⟩) (constantI S_ 32 0#32),
    StableHlo.TRef.nullary (.of main_while0b_call8_c_2 : StableHlo.TRef sig ⟨S_, .i32⟩) (constantI S_ 32 0#32),
    StableHlo.TRef.nullary (.of main_while0b_call8_c_3 : StableHlo.TRef sig ⟨S_, .i32⟩) (constantI S_ 32 0#32),
    StableHlo.TRef.unaryIndexed (.of main_v109_2 : StableHlo.TRef sig ⟨S16x2x4x128x4x512, .f32⟩) ![(.of main_v109_7 : StableHlo.TRef sig ⟨S_, .i32⟩), (.of main_while0b_call8_c : StableHlo.TRef sig ⟨S_, .i32⟩), (.of main_while0b_call8_c_0 : StableHlo.TRef sig ⟨S_, .i32⟩), (.of main_while0b_call8_c_1 : StableHlo.TRef sig ⟨S_, .i32⟩), (.of main_while0b_call8_c_2 : StableHlo.TRef sig ⟨S_, .i32⟩), (.of main_while0b_call8_c_3 : StableHlo.TRef sig ⟨S_, .i32⟩)] (.of main_while0b_call8_v0 : StableHlo.TRef sig ⟨S1x2x4x128x4x512, .f32⟩) (fun x i => Host.dynamicSlice S1x2x4x128x4x512 x (fun k => (i k (Shape.Idx.first h_S_)).toInt) sliceFits_S16x2x4x128x4x512_S1x2x4x128x4x512),
    StableHlo.TRef.reshape (.of main_while0b_call8_v0 : StableHlo.TRef sig ⟨S1x2x4x128x4x512, .f32⟩) (.of main_while0b_v193 : StableHlo.TRef sig ⟨S2x4x128x4x512, .f32⟩) (rfl : (.f32 : EltTy) = .f32) shapeCasts_S1x2x4x128x4x512_S2x4x128x4x512,
    StableHlo.binary main_while0b_v191 main_while0b_v192 main_while0b_v194 ((fun l r => Host.dotGeneral dot_S2x4x128x4x256_S2x4x128x4x256_S2x4x4x128x128_4_4_2_2_013_013 none l r) : (⟨S2x4x128x4x256, .f32⟩ : BufTy).Contents (Elt F) → (⟨S2x4x128x4x256, .f32⟩ : BufTy).Contents (Elt F) → (⟨S2x4x4x128x128, .f32⟩ : BufTy).Contents (Elt F)),
    StableHlo.unary main_v109_5 main_while0b_v195 (broadcastInDim S2x4x4x128x128 ![0, 1, 2, 3, 4] bcast_S2x1x4x128x128_S2x4x4x128x128_0_1_2_3_4 : (⟨S2x1x4x128x128, .f32⟩ : BufTy).Contents (Elt F) → (⟨S2x4x4x128x128, .f32⟩ : BufTy).Contents (Elt F)),
    StableHlo.binary main_while0b_v194 main_while0b_v195 main_while0b_v196 (mulf : (⟨S2x4x4x128x128, .f32⟩ : BufTy).Contents (Elt F) → (⟨S2x4x4x128x128, .f32⟩ : BufTy).Contents (Elt F) → (⟨S2x4x4x128x128, .f32⟩ : BufTy).Contents (Elt F)),
    StableHlo.binary main_while0b_v193 main_while0b_v196 main_while0b_v197 ((fun l r => Host.dotGeneral dot_S2x4x128x4x512_S2x4x4x128x128_S2x4x4x512x128_2_4_4_3_013_012 none l r) : (⟨S2x4x128x4x512, .f32⟩ : BufTy).Contents (Elt F) → (⟨S2x4x4x128x128, .f32⟩ : BufTy).Contents (Elt F) → (⟨S2x4x4x512x128, .f32⟩ : BufTy).Contents (Elt F)),
    StableHlo.unary main_while0b_v197 main_while0b_v198 ((transpose S2x4x128x4x512 [0, 1, 4, 2, 3] · transposes_S2x4x4x512x128_S2x4x128x4x512_0_1_4_2_3) : (⟨S2x4x4x512x128, .f32⟩ : BufTy).Contents (Elt F) → (⟨S2x4x128x4x512, .f32⟩ : BufTy).Contents (Elt F)),
    StableHlo.binary main_v109_8 main_while0b_v191 main_while0b_v199 ((fun l r => Host.dotGeneral dot_S2x4x4x256x512_S2x4x128x4x256_S2x4x4x512x128_3_4_4_2_012_013 none l r) : (⟨S2x4x4x256x512, .f32⟩ : BufTy).Contents (Elt F) → (⟨S2x4x128x4x256, .f32⟩ : BufTy).Contents (Elt F) → (⟨S2x4x4x512x128, .f32⟩ : BufTy).Contents (Elt F)),
    StableHlo.unary main_while0b_v199 main_while0b_v200 ((transpose S2x4x128x4x512 [0, 1, 4, 2, 3] · transposes_S2x4x4x512x128_S2x4x128x4x512_0_1_4_2_3) : (⟨S2x4x4x512x128, .f32⟩ : BufTy).Contents (Elt F) → (⟨S2x4x128x4x512, .f32⟩ : BufTy).Contents (Elt F)),
    StableHlo.unary main_v109_6 main_while0b_v201 (broadcastInDim S2x4x128x4x512 ![0, 1, 2, 3, 4] bcast_S2x1x128x4x1_S2x4x128x4x512_0_1_2_3_4 : (⟨S2x1x128x4x1, .f32⟩ : BufTy).Contents (Elt F) → (⟨S2x4x128x4x512, .f32⟩ : BufTy).Contents (Elt F)),
    StableHlo.binary main_while0b_v200 main_while0b_v201 main_while0b_v202 (mulf : (⟨S2x4x128x4x512, .f32⟩ : BufTy).Contents (Elt F) → (⟨S2x4x128x4x512, .f32⟩ : BufTy).Contents (Elt F) → (⟨S2x4x128x4x512, .f32⟩ : BufTy).Contents (Elt F)),
    StableHlo.unary main_v109_3 main_while0b_v203 (broadcastInDim S2x4x4x256x512 ![0, 1, 2, 3, 4] bcast_S2x1x4x1x1_S2x4x4x256x512_0_1_2_3_4 : (⟨S2x1x4x1x1, .f32⟩ : BufTy).Contents (Elt F) → (⟨S2x4x4x256x512, .f32⟩ : BufTy).Contents (Elt F)),
    StableHlo.binary main_v109_8 main_while0b_v203 main_while0b_v204 (mulf : (⟨S2x4x4x256x512, .f32⟩ : BufTy).Contents (Elt F) → (⟨S2x4x4x256x512, .f32⟩ : BufTy).Contents (Elt F) → (⟨S2x4x4x256x512, .f32⟩ : BufTy).Contents (Elt F)),
    StableHlo.unary main_v109_4 main_while0b_v205 (broadcastInDim S2x4x128x4x256 ![0, 1, 2, 3, 4] bcast_S2x1x128x4x1_S2x4x128x4x256_0_1_2_3_4 : (⟨S2x1x128x4x1, .f32⟩ : BufTy).Contents (Elt F) → (⟨S2x4x128x4x256, .f32⟩ : BufTy).Contents (Elt F)),
    StableHlo.binary main_while0b_v192 main_while0b_v205 main_while0b_v206 (mulf : (⟨S2x4x128x4x256, .f32⟩ : BufTy).Contents (Elt F) → (⟨S2x4x128x4x256, .f32⟩ : BufTy).Contents (Elt F) → (⟨S2x4x128x4x256, .f32⟩ : BufTy).Contents (Elt F)),
    StableHlo.binary main_while0b_v206 main_while0b_v193 main_while0b_v207 ((fun l r => Host.dotGeneral dot_S2x4x128x4x256_S2x4x128x4x512_S2x4x4x256x512_2_2_4_4_013_013 none l r) : (⟨S2x4x128x4x256, .f32⟩ : BufTy).Contents (Elt F) → (⟨S2x4x128x4x512, .f32⟩ : BufTy).Contents (Elt F) → (⟨S2x4x4x256x512, .f32⟩ : BufTy).Contents (Elt F)),
    StableHlo.binary main_while0b_v204 main_while0b_v207 main_while0b_v208 (addf : (⟨S2x4x4x256x512, .f32⟩ : BufTy).Contents (Elt F) → (⟨S2x4x4x256x512, .f32⟩ : BufTy).Contents (Elt F) → (⟨S2x4x4x256x512, .f32⟩ : BufTy).Contents (Elt F)),
    StableHlo.binary main_while0b_v198 main_while0b_v202 main_while0b_v209 (addf : (⟨S2x4x128x4x512, .f32⟩ : BufTy).Contents (Elt F) → (⟨S2x4x128x4x512, .f32⟩ : BufTy).Contents (Elt F) → (⟨S2x4x128x4x512, .f32⟩ : BufTy).Contents (Elt F)),
    StableHlo.TRef.unary (.of main_while0b_v209 : StableHlo.TRef sig ⟨S2x4x128x4x512, .f32⟩) (.of main_while0b_call9_v0 : StableHlo.TRef sig ⟨S1x2x4x128x4x512, .f32⟩) (broadcastInDim S1x2x4x128x4x512 ![1, 2, 3, 4, 5] bcast_S2x4x128x4x512_S1x2x4x128x4x512_1_2_3_4_5),
    StableHlo.TRef.nullary (.of main_while0b_call9_c : StableHlo.TRef sig ⟨S_, .i32⟩) (constantI S_ 32 0#32),
    StableHlo.TRef.nullary (.of main_while0b_call9_c_0 : StableHlo.TRef sig ⟨S_, .i32⟩) (constantI S_ 32 0#32),
    StableHlo.TRef.nullary (.of main_while0b_call9_c_1 : StableHlo.TRef sig ⟨S_, .i32⟩) (constantI S_ 32 0#32),
    StableHlo.TRef.nullary (.of main_while0b_call9_c_2 : StableHlo.TRef sig ⟨S_, .i32⟩) (constantI S_ 32 0#32),
    StableHlo.TRef.nullary (.of main_while0b_call9_c_3 : StableHlo.TRef sig ⟨S_, .i32⟩) (constantI S_ 32 0#32),
    StableHlo.TRef.binaryIndexed (.of main_v109_9 : StableHlo.TRef sig ⟨S16x2x4x128x4x512, .f32⟩) (.of main_while0b_call9_v0 : StableHlo.TRef sig ⟨S1x2x4x128x4x512, .f32⟩) ![(.of main_v109_7 : StableHlo.TRef sig ⟨S_, .i32⟩), (.of main_while0b_call9_c : StableHlo.TRef sig ⟨S_, .i32⟩), (.of main_while0b_call9_c_0 : StableHlo.TRef sig ⟨S_, .i32⟩), (.of main_while0b_call9_c_1 : StableHlo.TRef sig ⟨S_, .i32⟩), (.of main_while0b_call9_c_2 : StableHlo.TRef sig ⟨S_, .i32⟩), (.of main_while0b_call9_c_3 : StableHlo.TRef sig ⟨S_, .i32⟩)] (.of main_while0b_v210 : StableHlo.TRef sig ⟨S16x2x4x128x4x512, .f32⟩) (fun x u i => Host.dynamicUpdateSlice x u (fun k => (i k (Shape.Idx.first h_S_)).toInt) updateFits_S16x2x4x128x4x512_S1x2x4x128x4x512),
    StableHlo.TRef.unary (.of main_while0b_v196 : StableHlo.TRef sig ⟨S2x4x4x128x128, .f32⟩) (.of main_while0b_call10_v0 : StableHlo.TRef sig ⟨S1x2x4x4x128x128, .f32⟩) (broadcastInDim S1x2x4x4x128x128 ![1, 2, 3, 4, 5] bcast_S2x4x4x128x128_S1x2x4x4x128x128_1_2_3_4_5),
    StableHlo.TRef.nullary (.of main_while0b_call10_c : StableHlo.TRef sig ⟨S_, .i32⟩) (constantI S_ 32 0#32),
    StableHlo.TRef.nullary (.of main_while0b_call10_c_0 : StableHlo.TRef sig ⟨S_, .i32⟩) (constantI S_ 32 0#32),
    StableHlo.TRef.nullary (.of main_while0b_call10_c_1 : StableHlo.TRef sig ⟨S_, .i32⟩) (constantI S_ 32 0#32),
    StableHlo.TRef.nullary (.of main_while0b_call10_c_2 : StableHlo.TRef sig ⟨S_, .i32⟩) (constantI S_ 32 0#32),
    StableHlo.TRef.nullary (.of main_while0b_call10_c_3 : StableHlo.TRef sig ⟨S_, .i32⟩) (constantI S_ 32 0#32),
    StableHlo.TRef.binaryIndexed (.of main_v109_10 : StableHlo.TRef sig ⟨S16x2x4x4x128x128, .f32⟩) (.of main_while0b_call10_v0 : StableHlo.TRef sig ⟨S1x2x4x4x128x128, .f32⟩) ![(.of main_v109_7 : StableHlo.TRef sig ⟨S_, .i32⟩), (.of main_while0b_call10_c : StableHlo.TRef sig ⟨S_, .i32⟩), (.of main_while0b_call10_c_0 : StableHlo.TRef sig ⟨S_, .i32⟩), (.of main_while0b_call10_c_1 : StableHlo.TRef sig ⟨S_, .i32⟩), (.of main_while0b_call10_c_2 : StableHlo.TRef sig ⟨S_, .i32⟩), (.of main_while0b_call10_c_3 : StableHlo.TRef sig ⟨S_, .i32⟩)] (.of main_while0b_v211 : StableHlo.TRef sig ⟨S16x2x4x4x128x128, .f32⟩) (fun x u i => Host.dynamicUpdateSlice x u (fun k => (i k (Shape.Idx.first h_S_)).toInt) updateFits_S16x2x4x4x128x128_S1x2x4x4x128x128),
    StableHlo.TRef.unary (.of main_v109_8 : StableHlo.TRef sig ⟨S2x4x4x256x512, .f32⟩) (.of main_while0b_call11_v0 : StableHlo.TRef sig ⟨S1x2x4x4x256x512, .f32⟩) (broadcastInDim S1x2x4x4x256x512 ![1, 2, 3, 4, 5] bcast_S2x4x4x256x512_S1x2x4x4x256x512_1_2_3_4_5),
    StableHlo.TRef.nullary (.of main_while0b_call11_c : StableHlo.TRef sig ⟨S_, .i32⟩) (constantI S_ 32 0#32),
    StableHlo.TRef.nullary (.of main_while0b_call11_c_0 : StableHlo.TRef sig ⟨S_, .i32⟩) (constantI S_ 32 0#32),
    StableHlo.TRef.nullary (.of main_while0b_call11_c_1 : StableHlo.TRef sig ⟨S_, .i32⟩) (constantI S_ 32 0#32),
    StableHlo.TRef.nullary (.of main_while0b_call11_c_2 : StableHlo.TRef sig ⟨S_, .i32⟩) (constantI S_ 32 0#32),
    StableHlo.TRef.nullary (.of main_while0b_call11_c_3 : StableHlo.TRef sig ⟨S_, .i32⟩) (constantI S_ 32 0#32),
    StableHlo.TRef.binaryIndexed (.of main_v109_11 : StableHlo.TRef sig ⟨S16x2x4x4x256x512, .f32⟩) (.of main_while0b_call11_v0 : StableHlo.TRef sig ⟨S1x2x4x4x256x512, .f32⟩) ![(.of main_v109_7 : StableHlo.TRef sig ⟨S_, .i32⟩), (.of main_while0b_call11_c : StableHlo.TRef sig ⟨S_, .i32⟩), (.of main_while0b_call11_c_0 : StableHlo.TRef sig ⟨S_, .i32⟩), (.of main_while0b_call11_c_1 : StableHlo.TRef sig ⟨S_, .i32⟩), (.of main_while0b_call11_c_2 : StableHlo.TRef sig ⟨S_, .i32⟩), (.of main_while0b_call11_c_3 : StableHlo.TRef sig ⟨S_, .i32⟩)] (.of main_while0b_v212 : StableHlo.TRef sig ⟨S16x2x4x4x256x512, .f32⟩) (fun x u i => Host.dynamicUpdateSlice x u (fun k => (i k (Shape.Idx.first h_S_)).toInt) updateFits_S16x2x4x4x256x512_S1x2x4x4x256x512),
    StableHlo.TRef.unary (.of main_while0b_v206 : StableHlo.TRef sig ⟨S2x4x128x4x256, .f32⟩) (.of main_while0b_call12_v0 : StableHlo.TRef sig ⟨S1x2x4x128x4x256, .f32⟩) (broadcastInDim S1x2x4x128x4x256 ![1, 2, 3, 4, 5] bcast_S2x4x128x4x256_S1x2x4x128x4x256_1_2_3_4_5),
    StableHlo.TRef.nullary (.of main_while0b_call12_c : StableHlo.TRef sig ⟨S_, .i32⟩) (constantI S_ 32 0#32),
    StableHlo.TRef.nullary (.of main_while0b_call12_c_0 : StableHlo.TRef sig ⟨S_, .i32⟩) (constantI S_ 32 0#32),
    StableHlo.TRef.nullary (.of main_while0b_call12_c_1 : StableHlo.TRef sig ⟨S_, .i32⟩) (constantI S_ 32 0#32),
    StableHlo.TRef.nullary (.of main_while0b_call12_c_2 : StableHlo.TRef sig ⟨S_, .i32⟩) (constantI S_ 32 0#32),
    StableHlo.TRef.nullary (.of main_while0b_call12_c_3 : StableHlo.TRef sig ⟨S_, .i32⟩) (constantI S_ 32 0#32),
    StableHlo.TRef.binaryIndexed (.of main_v109_12 : StableHlo.TRef sig ⟨S16x2x4x128x4x256, .f32⟩) (.of main_while0b_call12_v0 : StableHlo.TRef sig ⟨S1x2x4x128x4x256, .f32⟩) ![(.of main_v109_7 : StableHlo.TRef sig ⟨S_, .i32⟩), (.of main_while0b_call12_c : StableHlo.TRef sig ⟨S_, .i32⟩), (.of main_while0b_call12_c_0 : StableHlo.TRef sig ⟨S_, .i32⟩), (.of main_while0b_call12_c_1 : StableHlo.TRef sig ⟨S_, .i32⟩), (.of main_while0b_call12_c_2 : StableHlo.TRef sig ⟨S_, .i32⟩), (.of main_while0b_call12_c_3 : StableHlo.TRef sig ⟨S_, .i32⟩)] (.of main_while0b_v213 : StableHlo.TRef sig ⟨S16x2x4x128x4x256, .f32⟩) (fun x u i => Host.dynamicUpdateSlice x u (fun k => (i k (Shape.Idx.first h_S_)).toInt) updateFits_S16x2x4x128x4x256_S1x2x4x128x4x256),
    StableHlo.nullary main_while0b_c_30 (constantI S_ 32 1#32),
    StableHlo.binary main_v109_7 main_while0b_c_30 main_while0b_v214 (addi : (⟨S_, .i32⟩ : BufTy).Contents (Elt F) → (⟨S_, .i32⟩ : BufTy).Contents (Elt F) → (⟨S_, .i32⟩ : BufTy).Contents (Elt F)),
    StableHlo.unary main_while0b_v214 main_v109_7 id,
    StableHlo.unary main_while0b_v208 main_v109_8 id,
    StableHlo.unary main_while0b_v210 main_v109_9 id,
    StableHlo.unary main_while0b_v211 main_v109_10 id,
    StableHlo.unary main_while0b_v212 main_v109_11 id,
    StableHlo.unary main_while0b_v213 main_v109_12 id ]

theorem body0_sub : (body0 : List (HloOp τ sig (Elt F))).Forall fun op => op.bufs ⊆ tcRefs τ sig :=
  ⟨StableHlo.nullary_bufs_sub .., StableHlo.nullary_bufs_sub .., StableHlo.nullary_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.nullary_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.nullary_bufs_sub .., StableHlo.nullary_bufs_sub .., StableHlo.nullary_bufs_sub .., StableHlo.unaryIndexed_bufs_sub .., StableHlo.reshape_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub .., StableHlo.binary_bufs_sub .., StableHlo.unary_bufs_sub .., StableHlo.nullary_bufs_sub .., StableHlo.nullary_bufs_sub .., StableHlo.nullary_bufs_sub .., StableHlo.nullary_bufs_sub .., StableHlo.nullary_bufs_sub .., StableHlo.binaryIndexed_bufs_sub .., StableHlo.unary_bufs_sub .., StableHlo.nullary_bufs_sub .., StableHlo.nullary_bufs_sub .., StableHlo.nullary_bufs_sub .., StableHlo.nullary_bufs_sub .., StableHlo.nullary_bufs_sub .., StableHlo.binaryIndexed_bufs_sub .., StableHlo.unary_bufs_sub .., StableHlo.nullary_bufs_sub .., StableHlo.nullary_bufs_sub .., StableHlo.nullary_bufs_sub .., StableHlo.nullary_bufs_sub .., StableHlo.nullary_bufs_sub .., StableHlo.binaryIndexed_bufs_sub .., StableHlo.unary_bufs_sub .., StableHlo.nullary_bufs_sub .., StableHlo.nullary_bufs_sub .., StableHlo.nullary_bufs_sub .., StableHlo.nullary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩

/-- One trip of the backward loop. -/
noncomputable def body1 : List (HloOp τ sig (Elt F)) :=
  [ StableHlo.nullary main_while1b_c_33 (constantI S_ 32 16#32),
    StableHlo.binary main_while1b_c_33 main_v130_11 main_while1b_v191 (subi : (⟨S_, .i32⟩ : BufTy).Contents (Elt F) → (⟨S_, .i32⟩ : BufTy).Contents (Elt F) → (⟨S_, .i32⟩ : BufTy).Contents (Elt F)),
    StableHlo.nullary main_while1b_c_34 (constantI S_ 32 1#32),
    StableHlo.binary main_while1b_v191 main_while1b_c_34 main_while1b_v192 (subi : (⟨S_, .i32⟩ : BufTy).Contents (Elt F) → (⟨S_, .i32⟩ : BufTy).Contents (Elt F) → (⟨S_, .i32⟩ : BufTy).Contents (Elt F)),
    StableHlo.TRef.nullary (.of main_while1b_call15_c : StableHlo.TRef sig ⟨S_, .i32⟩) (constantI S_ 32 0#32),
    StableHlo.TRef.nullary (.of main_while1b_call15_c_0 : StableHlo.TRef sig ⟨S_, .i32⟩) (constantI S_ 32 0#32),
    StableHlo.TRef.nullary (.of main_while1b_call15_c_1 : StableHlo.TRef sig ⟨S_, .i32⟩) (constantI S_ 32 0#32),
    StableHlo.TRef.nullary (.of main_while1b_call15_c_2 : StableHlo.TRef sig ⟨S_, .i32⟩) (constantI S_ 32 0#32),
    StableHlo.TRef.nullary (.of main_while1b_call15_c_3 : StableHlo.TRef sig ⟨S_, .i32⟩) (constantI S_ 32 0#32),
    StableHlo.TRef.unaryIndexed (.of main_v130_0 : StableHlo.TRef sig ⟨S16x2x4x128x4x512, .f32⟩) ![(.of main_while1b_v192 : StableHlo.TRef sig ⟨S_, .i32⟩), (.of main_while1b_call15_c : StableHlo.TRef sig ⟨S_, .i32⟩), (.of main_while1b_call15_c_0 : StableHlo.TRef sig ⟨S_, .i32⟩), (.of main_while1b_call15_c_1 : StableHlo.TRef sig ⟨S_, .i32⟩), (.of main_while1b_call15_c_2 : StableHlo.TRef sig ⟨S_, .i32⟩), (.of main_while1b_call15_c_3 : StableHlo.TRef sig ⟨S_, .i32⟩)] (.of main_while1b_call15_v0 : StableHlo.TRef sig ⟨S1x2x4x128x4x512, .f32⟩) (fun x i => Host.dynamicSlice S1x2x4x128x4x512 x (fun k => (i k (Shape.Idx.first h_S_)).toInt) sliceFits_S16x2x4x128x4x512_S1x2x4x128x4x512),
    StableHlo.TRef.reshape (.of main_while1b_call15_v0 : StableHlo.TRef sig ⟨S1x2x4x128x4x512, .f32⟩) (.of main_while1b_v193 : StableHlo.TRef sig ⟨S2x4x128x4x512, .f32⟩) (rfl : (.f32 : EltTy) = .f32) shapeCasts_S1x2x4x128x4x512_S2x4x128x4x512,
    StableHlo.TRef.nullary (.of main_while1b_call16_c : StableHlo.TRef sig ⟨S_, .i32⟩) (constantI S_ 32 0#32),
    StableHlo.TRef.nullary (.of main_while1b_call16_c_0 : StableHlo.TRef sig ⟨S_, .i32⟩) (constantI S_ 32 0#32),
    StableHlo.TRef.nullary (.of main_while1b_call16_c_1 : StableHlo.TRef sig ⟨S_, .i32⟩) (constantI S_ 32 0#32),
    StableHlo.TRef.nullary (.of main_while1b_call16_c_2 : StableHlo.TRef sig ⟨S_, .i32⟩) (constantI S_ 32 0#32),
    StableHlo.TRef.nullary (.of main_while1b_call16_c_3 : StableHlo.TRef sig ⟨S_, .i32⟩) (constantI S_ 32 0#32),
    StableHlo.TRef.unaryIndexed (.of main_v130_1 : StableHlo.TRef sig ⟨S16x2x4x128x4x256, .f32⟩) ![(.of main_while1b_v192 : StableHlo.TRef sig ⟨S_, .i32⟩), (.of main_while1b_call16_c : StableHlo.TRef sig ⟨S_, .i32⟩), (.of main_while1b_call16_c_0 : StableHlo.TRef sig ⟨S_, .i32⟩), (.of main_while1b_call16_c_1 : StableHlo.TRef sig ⟨S_, .i32⟩), (.of main_while1b_call16_c_2 : StableHlo.TRef sig ⟨S_, .i32⟩), (.of main_while1b_call16_c_3 : StableHlo.TRef sig ⟨S_, .i32⟩)] (.of main_while1b_call16_v0 : StableHlo.TRef sig ⟨S1x2x4x128x4x256, .f32⟩) (fun x i => Host.dynamicSlice S1x2x4x128x4x256 x (fun k => (i k (Shape.Idx.first h_S_)).toInt) sliceFits_S16x2x4x128x4x256_S1x2x4x128x4x256),
    StableHlo.TRef.reshape (.of main_while1b_call16_v0 : StableHlo.TRef sig ⟨S1x2x4x128x4x256, .f32⟩) (.of main_while1b_v194 : StableHlo.TRef sig ⟨S2x4x128x4x256, .f32⟩) (rfl : (.f32 : EltTy) = .f32) shapeCasts_S1x2x4x128x4x256_S2x4x128x4x256,
    StableHlo.TRef.nullary (.of main_while1b_call17_c : StableHlo.TRef sig ⟨S_, .i32⟩) (constantI S_ 32 0#32),
    StableHlo.TRef.nullary (.of main_while1b_call17_c_0 : StableHlo.TRef sig ⟨S_, .i32⟩) (constantI S_ 32 0#32),
    StableHlo.TRef.nullary (.of main_while1b_call17_c_1 : StableHlo.TRef sig ⟨S_, .i32⟩) (constantI S_ 32 0#32),
    StableHlo.TRef.nullary (.of main_while1b_call17_c_2 : StableHlo.TRef sig ⟨S_, .i32⟩) (constantI S_ 32 0#32),
    StableHlo.TRef.nullary (.of main_while1b_call17_c_3 : StableHlo.TRef sig ⟨S_, .i32⟩) (constantI S_ 32 0#32),
    StableHlo.TRef.unaryIndexed (.of main_v130_2 : StableHlo.TRef sig ⟨S16x2x4x128x4x256, .f32⟩) ![(.of main_while1b_v192 : StableHlo.TRef sig ⟨S_, .i32⟩), (.of main_while1b_call17_c : StableHlo.TRef sig ⟨S_, .i32⟩), (.of main_while1b_call17_c_0 : StableHlo.TRef sig ⟨S_, .i32⟩), (.of main_while1b_call17_c_1 : StableHlo.TRef sig ⟨S_, .i32⟩), (.of main_while1b_call17_c_2 : StableHlo.TRef sig ⟨S_, .i32⟩), (.of main_while1b_call17_c_3 : StableHlo.TRef sig ⟨S_, .i32⟩)] (.of main_while1b_call17_v0 : StableHlo.TRef sig ⟨S1x2x4x128x4x256, .f32⟩) (fun x i => Host.dynamicSlice S1x2x4x128x4x256 x (fun k => (i k (Shape.Idx.first h_S_)).toInt) sliceFits_S16x2x4x128x4x256_S1x2x4x128x4x256),
    StableHlo.TRef.reshape (.of main_while1b_call17_v0 : StableHlo.TRef sig ⟨S1x2x4x128x4x256, .f32⟩) (.of main_while1b_v195 : StableHlo.TRef sig ⟨S2x4x128x4x256, .f32⟩) (rfl : (.f32 : EltTy) = .f32) shapeCasts_S1x2x4x128x4x256_S2x4x128x4x256,
    StableHlo.TRef.nullary (.of main_while1b_call18_c : StableHlo.TRef sig ⟨S_, .i32⟩) (constantI S_ 32 0#32),
    StableHlo.TRef.nullary (.of main_while1b_call18_c_0 : StableHlo.TRef sig ⟨S_, .i32⟩) (constantI S_ 32 0#32),
    StableHlo.TRef.nullary (.of main_while1b_call18_c_1 : StableHlo.TRef sig ⟨S_, .i32⟩) (constantI S_ 32 0#32),
    StableHlo.TRef.nullary (.of main_while1b_call18_c_2 : StableHlo.TRef sig ⟨S_, .i32⟩) (constantI S_ 32 0#32),
    StableHlo.TRef.nullary (.of main_while1b_call18_c_3 : StableHlo.TRef sig ⟨S_, .i32⟩) (constantI S_ 32 0#32),
    StableHlo.TRef.unaryIndexed (.of main_v130_3 : StableHlo.TRef sig ⟨S16x2x4x4x128x128, .f32⟩) ![(.of main_while1b_v192 : StableHlo.TRef sig ⟨S_, .i32⟩), (.of main_while1b_call18_c : StableHlo.TRef sig ⟨S_, .i32⟩), (.of main_while1b_call18_c_0 : StableHlo.TRef sig ⟨S_, .i32⟩), (.of main_while1b_call18_c_1 : StableHlo.TRef sig ⟨S_, .i32⟩), (.of main_while1b_call18_c_2 : StableHlo.TRef sig ⟨S_, .i32⟩), (.of main_while1b_call18_c_3 : StableHlo.TRef sig ⟨S_, .i32⟩)] (.of main_while1b_call18_v0 : StableHlo.TRef sig ⟨S1x2x4x4x128x128, .f32⟩) (fun x i => Host.dynamicSlice S1x2x4x4x128x128 x (fun k => (i k (Shape.Idx.first h_S_)).toInt) sliceFits_S16x2x4x4x128x128_S1x2x4x4x128x128),
    StableHlo.TRef.reshape (.of main_while1b_call18_v0 : StableHlo.TRef sig ⟨S1x2x4x4x128x128, .f32⟩) (.of main_while1b_v196 : StableHlo.TRef sig ⟨S2x4x4x128x128, .f32⟩) (rfl : (.f32 : EltTy) = .f32) shapeCasts_S1x2x4x4x128x128_S2x4x4x128x128,
    StableHlo.TRef.nullary (.of main_while1b_call19_c : StableHlo.TRef sig ⟨S_, .i32⟩) (constantI S_ 32 0#32),
    StableHlo.TRef.nullary (.of main_while1b_call19_c_0 : StableHlo.TRef sig ⟨S_, .i32⟩) (constantI S_ 32 0#32),
    StableHlo.TRef.nullary (.of main_while1b_call19_c_1 : StableHlo.TRef sig ⟨S_, .i32⟩) (constantI S_ 32 0#32),
    StableHlo.TRef.nullary (.of main_while1b_call19_c_2 : StableHlo.TRef sig ⟨S_, .i32⟩) (constantI S_ 32 0#32),
    StableHlo.TRef.nullary (.of main_while1b_call19_c_3 : StableHlo.TRef sig ⟨S_, .i32⟩) (constantI S_ 32 0#32),
    StableHlo.TRef.unaryIndexed (.of main_v130_4 : StableHlo.TRef sig ⟨S16x2x4x128x4x512, .f32⟩) ![(.of main_while1b_v192 : StableHlo.TRef sig ⟨S_, .i32⟩), (.of main_while1b_call19_c : StableHlo.TRef sig ⟨S_, .i32⟩), (.of main_while1b_call19_c_0 : StableHlo.TRef sig ⟨S_, .i32⟩), (.of main_while1b_call19_c_1 : StableHlo.TRef sig ⟨S_, .i32⟩), (.of main_while1b_call19_c_2 : StableHlo.TRef sig ⟨S_, .i32⟩), (.of main_while1b_call19_c_3 : StableHlo.TRef sig ⟨S_, .i32⟩)] (.of main_while1b_call19_v0 : StableHlo.TRef sig ⟨S1x2x4x128x4x512, .f32⟩) (fun x i => Host.dynamicSlice S1x2x4x128x4x512 x (fun k => (i k (Shape.Idx.first h_S_)).toInt) sliceFits_S16x2x4x128x4x512_S1x2x4x128x4x512),
    StableHlo.TRef.reshape (.of main_while1b_call19_v0 : StableHlo.TRef sig ⟨S1x2x4x128x4x512, .f32⟩) (.of main_while1b_v197 : StableHlo.TRef sig ⟨S2x4x128x4x512, .f32⟩) (rfl : (.f32 : EltTy) = .f32) shapeCasts_S1x2x4x128x4x512_S2x4x128x4x512,
    StableHlo.TRef.nullary (.of main_while1b_call20_c : StableHlo.TRef sig ⟨S_, .i32⟩) (constantI S_ 32 0#32),
    StableHlo.TRef.nullary (.of main_while1b_call20_c_0 : StableHlo.TRef sig ⟨S_, .i32⟩) (constantI S_ 32 0#32),
    StableHlo.TRef.nullary (.of main_while1b_call20_c_1 : StableHlo.TRef sig ⟨S_, .i32⟩) (constantI S_ 32 0#32),
    StableHlo.TRef.nullary (.of main_while1b_call20_c_2 : StableHlo.TRef sig ⟨S_, .i32⟩) (constantI S_ 32 0#32),
    StableHlo.TRef.nullary (.of main_while1b_call20_c_3 : StableHlo.TRef sig ⟨S_, .i32⟩) (constantI S_ 32 0#32),
    StableHlo.TRef.unaryIndexed (.of main_v130_5 : StableHlo.TRef sig ⟨S16x2x4x4x256x512, .f32⟩) ![(.of main_while1b_v192 : StableHlo.TRef sig ⟨S_, .i32⟩), (.of main_while1b_call20_c : StableHlo.TRef sig ⟨S_, .i32⟩), (.of main_while1b_call20_c_0 : StableHlo.TRef sig ⟨S_, .i32⟩), (.of main_while1b_call20_c_1 : StableHlo.TRef sig ⟨S_, .i32⟩), (.of main_while1b_call20_c_2 : StableHlo.TRef sig ⟨S_, .i32⟩), (.of main_while1b_call20_c_3 : StableHlo.TRef sig ⟨S_, .i32⟩)] (.of main_while1b_call20_v0 : StableHlo.TRef sig ⟨S1x2x4x4x256x512, .f32⟩) (fun x i => Host.dynamicSlice S1x2x4x4x256x512 x (fun k => (i k (Shape.Idx.first h_S_)).toInt) sliceFits_S16x2x4x4x256x512_S1x2x4x4x256x512),
    StableHlo.TRef.reshape (.of main_while1b_call20_v0 : StableHlo.TRef sig ⟨S1x2x4x4x256x512, .f32⟩) (.of main_while1b_v198 : StableHlo.TRef sig ⟨S2x4x4x256x512, .f32⟩) (rfl : (.f32 : EltTy) = .f32) shapeCasts_S1x2x4x4x256x512_S2x4x4x256x512,
    StableHlo.TRef.nullary (.of main_while1b_call21_c : StableHlo.TRef sig ⟨S_, .i32⟩) (constantI S_ 32 0#32),
    StableHlo.TRef.nullary (.of main_while1b_call21_c_0 : StableHlo.TRef sig ⟨S_, .i32⟩) (constantI S_ 32 0#32),
    StableHlo.TRef.nullary (.of main_while1b_call21_c_1 : StableHlo.TRef sig ⟨S_, .i32⟩) (constantI S_ 32 0#32),
    StableHlo.TRef.nullary (.of main_while1b_call21_c_2 : StableHlo.TRef sig ⟨S_, .i32⟩) (constantI S_ 32 0#32),
    StableHlo.TRef.nullary (.of main_while1b_call21_c_3 : StableHlo.TRef sig ⟨S_, .i32⟩) (constantI S_ 32 0#32),
    StableHlo.TRef.unaryIndexed (.of main_v130_6 : StableHlo.TRef sig ⟨S16x2x4x128x4x256, .f32⟩) ![(.of main_while1b_v192 : StableHlo.TRef sig ⟨S_, .i32⟩), (.of main_while1b_call21_c : StableHlo.TRef sig ⟨S_, .i32⟩), (.of main_while1b_call21_c_0 : StableHlo.TRef sig ⟨S_, .i32⟩), (.of main_while1b_call21_c_1 : StableHlo.TRef sig ⟨S_, .i32⟩), (.of main_while1b_call21_c_2 : StableHlo.TRef sig ⟨S_, .i32⟩), (.of main_while1b_call21_c_3 : StableHlo.TRef sig ⟨S_, .i32⟩)] (.of main_while1b_call21_v0 : StableHlo.TRef sig ⟨S1x2x4x128x4x256, .f32⟩) (fun x i => Host.dynamicSlice S1x2x4x128x4x256 x (fun k => (i k (Shape.Idx.first h_S_)).toInt) sliceFits_S16x2x4x128x4x256_S1x2x4x128x4x256),
    StableHlo.TRef.reshape (.of main_while1b_call21_v0 : StableHlo.TRef sig ⟨S1x2x4x128x4x256, .f32⟩) (.of main_while1b_v199 : StableHlo.TRef sig ⟨S2x4x128x4x256, .f32⟩) (rfl : (.f32 : EltTy) = .f32) shapeCasts_S1x2x4x128x4x256_S2x4x128x4x256,
    StableHlo.binary main_v130_12 main_while1b_v199 main_while1b_v200 ((fun l r => Host.dotGeneral dot_S2x4x4x256x512_S2x4x128x4x256_S2x4x4x512x128_3_4_4_2_012_013 none l r) : (⟨S2x4x4x256x512, .f32⟩ : BufTy).Contents (Elt F) → (⟨S2x4x128x4x256, .f32⟩ : BufTy).Contents (Elt F) → (⟨S2x4x4x512x128, .f32⟩ : BufTy).Contents (Elt F)),
    StableHlo.unary main_while1b_v200 main_while1b_v201 ((transpose S2x4x128x4x512 [0, 1, 4, 2, 3] · transposes_S2x4x4x512x128_S2x4x128x4x512_0_1_4_2_3) : (⟨S2x4x4x512x128, .f32⟩ : BufTy).Contents (Elt F) → (⟨S2x4x128x4x512, .f32⟩ : BufTy).Contents (Elt F)),
    StableHlo.binary main_v130_12 main_while1b_v197 main_while1b_v202 ((fun l r => Host.dotGeneral dot_S2x4x4x256x512_S2x4x128x4x512_S2x4x4x256x128_4_4_3_2_012_013 none l r) : (⟨S2x4x4x256x512, .f32⟩ : BufTy).Contents (Elt F) → (⟨S2x4x128x4x512, .f32⟩ : BufTy).Contents (Elt F) → (⟨S2x4x4x256x128, .f32⟩ : BufTy).Contents (Elt F)),
    StableHlo.unary main_while1b_v202 main_while1b_v203 ((transpose S2x4x128x4x256 [0, 1, 4, 2, 3] · transposes_S2x4x4x256x128_S2x4x128x4x256_0_1_4_2_3) : (⟨S2x4x4x256x128, .f32⟩ : BufTy).Contents (Elt F) → (⟨S2x4x128x4x256, .f32⟩ : BufTy).Contents (Elt F)),
    StableHlo.unary main_v130_10 main_while1b_v204 (broadcastInDim S2x4x128x4x256 ![0, 1, 2, 3, 4] bcast_S2x1x128x4x1_S2x4x128x4x256_0_1_2_3_4 : (⟨S2x1x128x4x1, .f32⟩ : BufTy).Contents (Elt F) → (⟨S2x4x128x4x256, .f32⟩ : BufTy).Contents (Elt F)),
    StableHlo.binary main_while1b_v203 main_while1b_v204 main_while1b_v205 (mulf : (⟨S2x4x128x4x256, .f32⟩ : BufTy).Contents (Elt F) → (⟨S2x4x128x4x256, .f32⟩ : BufTy).Contents (Elt F) → (⟨S2x4x128x4x256, .f32⟩ : BufTy).Contents (Elt F)),
    StableHlo.unary main_v130_9 main_while1b_v206 (broadcastInDim S2x4x4x256x512 ![0, 1, 2, 3, 4] bcast_S2x1x4x1x1_S2x4x4x256x512_0_1_2_3_4 : (⟨S2x1x4x1x1, .f32⟩ : BufTy).Contents (Elt F) → (⟨S2x4x4x256x512, .f32⟩ : BufTy).Contents (Elt F)),
    StableHlo.binary main_v130_12 main_while1b_v206 main_while1b_v207 (mulf : (⟨S2x4x4x256x512, .f32⟩ : BufTy).Contents (Elt F) → (⟨S2x4x4x256x512, .f32⟩ : BufTy).Contents (Elt F) → (⟨S2x4x4x256x512, .f32⟩ : BufTy).Contents (Elt F)),
    StableHlo.unary main_v130_8 main_while1b_v208 (broadcastInDim S2x4x128x4x512 ![0, 1, 2, 3, 4] bcast_S2x1x128x4x1_S2x4x128x4x512_0_1_2_3_4 : (⟨S2x1x128x4x1, .f32⟩ : BufTy).Contents (Elt F) → (⟨S2x4x128x4x512, .f32⟩ : BufTy).Contents (Elt F)),
    StableHlo.binary main_while1b_v193 main_while1b_v208 main_while1b_v209 (mulf : (⟨S2x4x128x4x512, .f32⟩ : BufTy).Contents (Elt F) → (⟨S2x4x128x4x512, .f32⟩ : BufTy).Contents (Elt F) → (⟨S2x4x128x4x512, .f32⟩ : BufTy).Contents (Elt F)),
    StableHlo.unary main_while1b_v209 main_while1b_v210 ((transpose S2x4x4x512x128 [0, 1, 3, 4, 2] · transposes_S2x4x128x4x512_S2x4x4x512x128_0_1_3_4_2) : (⟨S2x4x128x4x512, .f32⟩ : BufTy).Contents (Elt F) → (⟨S2x4x4x512x128, .f32⟩ : BufTy).Contents (Elt F)),
    StableHlo.binary main_while1b_v210 main_while1b_v198 main_while1b_v211 ((fun l r => Host.dotGeneral dot_S2x4x4x512x128_S2x4x4x256x512_S2x4x4x128x256_3_4_4_3_012_012 none l r) : (⟨S2x4x4x512x128, .f32⟩ : BufTy).Contents (Elt F) → (⟨S2x4x4x256x512, .f32⟩ : BufTy).Contents (Elt F) → (⟨S2x4x4x128x256, .f32⟩ : BufTy).Contents (Elt F)),
    StableHlo.unary main_while1b_v211 main_while1b_v212 ((transpose S2x4x128x4x256 [0, 1, 3, 2, 4] · transposes_S2x4x4x128x256_S2x4x128x4x256_0_1_3_2_4) : (⟨S2x4x4x128x256, .f32⟩ : BufTy).Contents (Elt F) → (⟨S2x4x128x4x256, .f32⟩ : BufTy).Contents (Elt F)),
    StableHlo.binary main_while1b_v210 main_while1b_v195 main_while1b_v213 ((fun l r => Host.dotGeneral dot_S2x4x4x512x128_S2x4x128x4x256_S2x4x4x512x256_4_2_3_4_012_013 none l r) : (⟨S2x4x4x512x128, .f32⟩ : BufTy).Contents (Elt F) → (⟨S2x4x128x4x256, .f32⟩ : BufTy).Contents (Elt F) → (⟨S2x4x4x512x256, .f32⟩ : BufTy).Contents (Elt F)),
    StableHlo.unary main_while1b_v213 main_while1b_v214 ((transpose S2x4x4x256x512 [0, 1, 2, 4, 3] · transposes_S2x4x4x512x256_S2x4x4x256x512_0_1_2_4_3) : (⟨S2x4x4x512x256, .f32⟩ : BufTy).Contents (Elt F) → (⟨S2x4x4x256x512, .f32⟩ : BufTy).Contents (Elt F)),
    StableHlo.binary main_while1b_v207 main_while1b_v214 main_while1b_v215 (addf : (⟨S2x4x4x256x512, .f32⟩ : BufTy).Contents (Elt F) → (⟨S2x4x4x256x512, .f32⟩ : BufTy).Contents (Elt F) → (⟨S2x4x4x256x512, .f32⟩ : BufTy).Contents (Elt F)),
    StableHlo.unary main_while1b_v193 main_while1b_v216 ((transpose S2x4x4x512x128 [0, 1, 3, 4, 2] · transposes_S2x4x128x4x512_S2x4x4x512x128_0_1_3_4_2) : (⟨S2x4x128x4x512, .f32⟩ : BufTy).Contents (Elt F) → (⟨S2x4x4x512x128, .f32⟩ : BufTy).Contents (Elt F)),
    StableHlo.binary main_while1b_v216 main_while1b_v197 main_while1b_v217 ((fun l r => Host.dotGeneral dot_S2x4x4x512x128_S2x4x128x4x512_S2x4x4x128x128_3_4_4_2_012_013 none l r) : (⟨S2x4x4x512x128, .f32⟩ : BufTy).Contents (Elt F) → (⟨S2x4x128x4x512, .f32⟩ : BufTy).Contents (Elt F) → (⟨S2x4x4x128x128, .f32⟩ : BufTy).Contents (Elt F)),
    StableHlo.binary main_while1b_v216 main_while1b_v196 main_while1b_v218 ((fun l r => Host.dotGeneral dot_S2x4x4x512x128_S2x4x4x128x128_S2x4x4x512x128_4_3_3_4_012_012 none l r) : (⟨S2x4x4x512x128, .f32⟩ : BufTy).Contents (Elt F) → (⟨S2x4x4x128x128, .f32⟩ : BufTy).Contents (Elt F) → (⟨S2x4x4x512x128, .f32⟩ : BufTy).Contents (Elt F)),
    StableHlo.unary main_while1b_v218 main_while1b_v219 ((transpose S2x4x128x4x512 [0, 1, 4, 2, 3] · transposes_S2x4x4x512x128_S2x4x128x4x512_0_1_4_2_3) : (⟨S2x4x4x512x128, .f32⟩ : BufTy).Contents (Elt F) → (⟨S2x4x128x4x512, .f32⟩ : BufTy).Contents (Elt F)),
    StableHlo.binary main_while1b_v201 main_while1b_v219 main_while1b_v220 (addf : (⟨S2x4x128x4x512, .f32⟩ : BufTy).Contents (Elt F) → (⟨S2x4x128x4x512, .f32⟩ : BufTy).Contents (Elt F) → (⟨S2x4x128x4x512, .f32⟩ : BufTy).Contents (Elt F)),
    StableHlo.unary main_v130_7 main_while1b_v221 (broadcastInDim S2x4x4x128x128 ![0, 1, 2, 3, 4] bcast_S2x1x4x128x128_S2x4x4x128x128_0_1_2_3_4 : (⟨S2x1x4x128x128, .f32⟩ : BufTy).Contents (Elt F) → (⟨S2x4x4x128x128, .f32⟩ : BufTy).Contents (Elt F)),
    StableHlo.binary main_while1b_v217 main_while1b_v221 main_while1b_v222 (mulf : (⟨S2x4x4x128x128, .f32⟩ : BufTy).Contents (Elt F) → (⟨S2x4x4x128x128, .f32⟩ : BufTy).Contents (Elt F) → (⟨S2x4x4x128x128, .f32⟩ : BufTy).Contents (Elt F)),
    StableHlo.binary main_while1b_v222 main_while1b_v195 main_while1b_v223 ((fun l r => Host.dotGeneral dot_S2x4x4x128x128_S2x4x128x4x256_S2x4x4x128x256_3_2_4_4_012_013 none l r) : (⟨S2x4x4x128x128, .f32⟩ : BufTy).Contents (Elt F) → (⟨S2x4x128x4x256, .f32⟩ : BufTy).Contents (Elt F) → (⟨S2x4x4x128x256, .f32⟩ : BufTy).Contents (Elt F)),
    StableHlo.unary main_while1b_v223 main_while1b_v224 ((transpose S2x4x128x4x256 [0, 1, 3, 2, 4] · transposes_S2x4x4x128x256_S2x4x128x4x256_0_1_3_2_4) : (⟨S2x4x4x128x256, .f32⟩ : BufTy).Contents (Elt F) → (⟨S2x4x128x4x256, .f32⟩ : BufTy).Contents (Elt F)),
    StableHlo.binary main_while1b_v205 main_while1b_v224 main_while1b_v225 (addf : (⟨S2x4x128x4x256, .f32⟩ : BufTy).Contents (Elt F) → (⟨S2x4x128x4x256, .f32⟩ : BufTy).Contents (Elt F) → (⟨S2x4x128x4x256, .f32⟩ : BufTy).Contents (Elt F)),
    StableHlo.binary main_while1b_v222 main_while1b_v194 main_while1b_v226 ((fun l r => Host.dotGeneral dot_S2x4x4x128x128_S2x4x128x4x256_S2x4x4x128x256_4_2_3_4_012_013 none l r) : (⟨S2x4x4x128x128, .f32⟩ : BufTy).Contents (Elt F) → (⟨S2x4x128x4x256, .f32⟩ : BufTy).Contents (Elt F) → (⟨S2x4x4x128x256, .f32⟩ : BufTy).Contents (Elt F)),
    StableHlo.unary main_while1b_v226 main_while1b_v227 ((transpose S2x4x128x4x256 [0, 1, 3, 2, 4] · transposes_S2x4x4x128x256_S2x4x128x4x256_0_1_3_2_4) : (⟨S2x4x4x128x256, .f32⟩ : BufTy).Contents (Elt F) → (⟨S2x4x128x4x256, .f32⟩ : BufTy).Contents (Elt F)),
    StableHlo.binary main_while1b_v212 main_while1b_v227 main_while1b_v228 (addf : (⟨S2x4x128x4x256, .f32⟩ : BufTy).Contents (Elt F) → (⟨S2x4x128x4x256, .f32⟩ : BufTy).Contents (Elt F) → (⟨S2x4x128x4x256, .f32⟩ : BufTy).Contents (Elt F)),
    StableHlo.TRef.unary (.of main_while1b_v228 : StableHlo.TRef sig ⟨S2x4x128x4x256, .f32⟩) (.of main_while1b_call22_v0 : StableHlo.TRef sig ⟨S1x2x4x128x4x256, .f32⟩) (broadcastInDim S1x2x4x128x4x256 ![1, 2, 3, 4, 5] bcast_S2x4x128x4x256_S1x2x4x128x4x256_1_2_3_4_5),
    StableHlo.TRef.nullary (.of main_while1b_call22_c : StableHlo.TRef sig ⟨S_, .i32⟩) (constantI S_ 32 0#32),
    StableHlo.TRef.nullary (.of main_while1b_call22_c_0 : StableHlo.TRef sig ⟨S_, .i32⟩) (constantI S_ 32 0#32),
    StableHlo.TRef.nullary (.of main_while1b_call22_c_1 : StableHlo.TRef sig ⟨S_, .i32⟩) (constantI S_ 32 0#32),
    StableHlo.TRef.nullary (.of main_while1b_call22_c_2 : StableHlo.TRef sig ⟨S_, .i32⟩) (constantI S_ 32 0#32),
    StableHlo.TRef.nullary (.of main_while1b_call22_c_3 : StableHlo.TRef sig ⟨S_, .i32⟩) (constantI S_ 32 0#32),
    StableHlo.TRef.binaryIndexed (.of main_v130_13 : StableHlo.TRef sig ⟨S16x2x4x128x4x256, .f32⟩) (.of main_while1b_call22_v0 : StableHlo.TRef sig ⟨S1x2x4x128x4x256, .f32⟩) ![(.of main_while1b_v192 : StableHlo.TRef sig ⟨S_, .i32⟩), (.of main_while1b_call22_c : StableHlo.TRef sig ⟨S_, .i32⟩), (.of main_while1b_call22_c_0 : StableHlo.TRef sig ⟨S_, .i32⟩), (.of main_while1b_call22_c_1 : StableHlo.TRef sig ⟨S_, .i32⟩), (.of main_while1b_call22_c_2 : StableHlo.TRef sig ⟨S_, .i32⟩), (.of main_while1b_call22_c_3 : StableHlo.TRef sig ⟨S_, .i32⟩)] (.of main_while1b_v229 : StableHlo.TRef sig ⟨S16x2x4x128x4x256, .f32⟩) (fun x u i => Host.dynamicUpdateSlice x u (fun k => (i k (Shape.Idx.first h_S_)).toInt) updateFits_S16x2x4x128x4x256_S1x2x4x128x4x256),
    StableHlo.TRef.unary (.of main_while1b_v225 : StableHlo.TRef sig ⟨S2x4x128x4x256, .f32⟩) (.of main_while1b_call23_v0 : StableHlo.TRef sig ⟨S1x2x4x128x4x256, .f32⟩) (broadcastInDim S1x2x4x128x4x256 ![1, 2, 3, 4, 5] bcast_S2x4x128x4x256_S1x2x4x128x4x256_1_2_3_4_5),
    StableHlo.TRef.nullary (.of main_while1b_call23_c : StableHlo.TRef sig ⟨S_, .i32⟩) (constantI S_ 32 0#32),
    StableHlo.TRef.nullary (.of main_while1b_call23_c_0 : StableHlo.TRef sig ⟨S_, .i32⟩) (constantI S_ 32 0#32),
    StableHlo.TRef.nullary (.of main_while1b_call23_c_1 : StableHlo.TRef sig ⟨S_, .i32⟩) (constantI S_ 32 0#32),
    StableHlo.TRef.nullary (.of main_while1b_call23_c_2 : StableHlo.TRef sig ⟨S_, .i32⟩) (constantI S_ 32 0#32),
    StableHlo.TRef.nullary (.of main_while1b_call23_c_3 : StableHlo.TRef sig ⟨S_, .i32⟩) (constantI S_ 32 0#32),
    StableHlo.TRef.binaryIndexed (.of main_v130_14 : StableHlo.TRef sig ⟨S16x2x4x128x4x256, .f32⟩) (.of main_while1b_call23_v0 : StableHlo.TRef sig ⟨S1x2x4x128x4x256, .f32⟩) ![(.of main_while1b_v192 : StableHlo.TRef sig ⟨S_, .i32⟩), (.of main_while1b_call23_c : StableHlo.TRef sig ⟨S_, .i32⟩), (.of main_while1b_call23_c_0 : StableHlo.TRef sig ⟨S_, .i32⟩), (.of main_while1b_call23_c_1 : StableHlo.TRef sig ⟨S_, .i32⟩), (.of main_while1b_call23_c_2 : StableHlo.TRef sig ⟨S_, .i32⟩), (.of main_while1b_call23_c_3 : StableHlo.TRef sig ⟨S_, .i32⟩)] (.of main_while1b_v230 : StableHlo.TRef sig ⟨S16x2x4x128x4x256, .f32⟩) (fun x u i => Host.dynamicUpdateSlice x u (fun k => (i k (Shape.Idx.first h_S_)).toInt) updateFits_S16x2x4x128x4x256_S1x2x4x128x4x256),
    StableHlo.TRef.unary (.of main_while1b_v220 : StableHlo.TRef sig ⟨S2x4x128x4x512, .f32⟩) (.of main_while1b_call24_v0 : StableHlo.TRef sig ⟨S1x2x4x128x4x512, .f32⟩) (broadcastInDim S1x2x4x128x4x512 ![1, 2, 3, 4, 5] bcast_S2x4x128x4x512_S1x2x4x128x4x512_1_2_3_4_5),
    StableHlo.TRef.nullary (.of main_while1b_call24_c : StableHlo.TRef sig ⟨S_, .i32⟩) (constantI S_ 32 0#32),
    StableHlo.TRef.nullary (.of main_while1b_call24_c_0 : StableHlo.TRef sig ⟨S_, .i32⟩) (constantI S_ 32 0#32),
    StableHlo.TRef.nullary (.of main_while1b_call24_c_1 : StableHlo.TRef sig ⟨S_, .i32⟩) (constantI S_ 32 0#32),
    StableHlo.TRef.nullary (.of main_while1b_call24_c_2 : StableHlo.TRef sig ⟨S_, .i32⟩) (constantI S_ 32 0#32),
    StableHlo.TRef.nullary (.of main_while1b_call24_c_3 : StableHlo.TRef sig ⟨S_, .i32⟩) (constantI S_ 32 0#32),
    StableHlo.TRef.binaryIndexed (.of main_v130_15 : StableHlo.TRef sig ⟨S16x2x4x128x4x512, .f32⟩) (.of main_while1b_call24_v0 : StableHlo.TRef sig ⟨S1x2x4x128x4x512, .f32⟩) ![(.of main_while1b_v192 : StableHlo.TRef sig ⟨S_, .i32⟩), (.of main_while1b_call24_c : StableHlo.TRef sig ⟨S_, .i32⟩), (.of main_while1b_call24_c_0 : StableHlo.TRef sig ⟨S_, .i32⟩), (.of main_while1b_call24_c_1 : StableHlo.TRef sig ⟨S_, .i32⟩), (.of main_while1b_call24_c_2 : StableHlo.TRef sig ⟨S_, .i32⟩), (.of main_while1b_call24_c_3 : StableHlo.TRef sig ⟨S_, .i32⟩)] (.of main_while1b_v231 : StableHlo.TRef sig ⟨S16x2x4x128x4x512, .f32⟩) (fun x u i => Host.dynamicUpdateSlice x u (fun k => (i k (Shape.Idx.first h_S_)).toInt) updateFits_S16x2x4x128x4x512_S1x2x4x128x4x512),
    StableHlo.nullary main_while1b_c_35 (constantI S_ 32 1#32),
    StableHlo.binary main_v130_11 main_while1b_c_35 main_while1b_v232 (addi : (⟨S_, .i32⟩ : BufTy).Contents (Elt F) → (⟨S_, .i32⟩ : BufTy).Contents (Elt F) → (⟨S_, .i32⟩ : BufTy).Contents (Elt F)),
    StableHlo.unary main_while1b_v232 main_v130_11 id,
    StableHlo.unary main_while1b_v215 main_v130_12 id,
    StableHlo.unary main_while1b_v229 main_v130_13 id,
    StableHlo.unary main_while1b_v230 main_v130_14 id,
    StableHlo.unary main_while1b_v231 main_v130_15 id ]

theorem body1_sub : (body1 : List (HloOp τ sig (Elt F))).Forall fun op => op.bufs ⊆ tcRefs τ sig :=
  ⟨StableHlo.nullary_bufs_sub .., StableHlo.binary_bufs_sub .., StableHlo.nullary_bufs_sub .., StableHlo.binary_bufs_sub .., StableHlo.nullary_bufs_sub .., StableHlo.nullary_bufs_sub .., StableHlo.nullary_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.nullary_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.nullary_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.nullary_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.nullary_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.nullary_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.nullary_bufs_sub .., StableHlo.nullary_bufs_sub .., StableHlo.nullary_bufs_sub .., StableHlo.unaryIndexed_bufs_sub .., StableHlo.reshape_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.nullary_bufs_sub .., StableHlo.nullary_bufs_sub .., StableHlo.nullary_bufs_sub .., StableHlo.nullary_bufs_sub .., StableHlo.nullary_bufs_sub .., StableHlo.binaryIndexed_bufs_sub .., StableHlo.unary_bufs_sub .., StableHlo.nullary_bufs_sub .., StableHlo.nullary_bufs_sub .., StableHlo.nullary_bufs_sub .., StableHlo.nullary_bufs_sub .., StableHlo.nullary_bufs_sub .., StableHlo.binaryIndexed_bufs_sub .., StableHlo.unary_bufs_sub .., StableHlo.nullary_bufs_sub .., StableHlo.nullary_bufs_sub .., StableHlo.nullary_bufs_sub .., StableHlo.nullary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub ..⟩

end Cert.ReferenceIdeal.Run
-- ==== Proof.RefOpsC.lean ====
/-
  The straight-line operations of the reference between and after its two loops, as lists read off the program.
-/
module

public import proofs.«01_k».proof.Proof.Gen.ReferenceIdeal
public import Idealize.ShloMosaic.Lib.StableHlo.RunLoop

@[expose] public section

noncomputable section

namespace Cert.ReferenceIdeal.Run

open Idealize.ShloMosaic Idealize.SL.Sem Cert.ReferenceIdeal
open Facts₀ Facts
open Idealize.ShloMosaic.StableHlo (seq tcRefs)

variable {F : FTy → Type} [FloatOps F]

/-- Between the loops. -/
noncomputable def mid : List (HloOp τ sig (Elt F)) :=
  [ StableHlo.unary main_v109_9 main_v110 ((transpose S2x4x16x128x4x512 [1, 2, 0, 3, 4, 5] · transposes_S16x2x4x128x4x512_S2x4x16x128x4x512_1_2_0_3_4_5) : (⟨S16x2x4x128x4x512, .f32⟩ : BufTy).Contents (Elt F) → (⟨S2x4x16x128x4x512, .f32⟩ : BufTy).Contents (Elt F)),
    StableHlo.reshape main_v110 main_v111 (rfl : (.f32 : EltTy) = .f32) shapeCasts_S2x4x16x128x4x512_S2x4x2048x4x512,
    StableHlo.unary main_v111 main_v112 ((extractStridedSlice S1x4x2048x4x512 ![0, 0, 0, 0, 0] · slices_S2x4x2048x4x512_S1x4x2048x4x512_0_0_0_0_0) : (⟨S2x4x2048x4x512, .f32⟩ : BufTy).Contents (Elt F) → (⟨S1x4x2048x4x512, .f32⟩ : BufTy).Contents (Elt F)),
    StableHlo.reshape main_v112 main_v113 (rfl : (.f32 : EltTy) = .f32) shapeCasts_S1x4x2048x4x512_S4x2048x4x512,
    StableHlo.unary main_v111 main_v114 ((extractStridedSlice S1x4x2048x4x512 ![1, 0, 0, 0, 0] · slices_S2x4x2048x4x512_S1x4x2048x4x512_1_0_0_0_0) : (⟨S2x4x2048x4x512, .f32⟩ : BufTy).Contents (Elt F) → (⟨S1x4x2048x4x512, .f32⟩ : BufTy).Contents (Elt F)),
    StableHlo.reshape main_v114 main_v115 (rfl : (.f32 : EltTy) = .f32) shapeCasts_S1x4x2048x4x512_S4x2048x4x512,
    StableHlo.TRef.unary (.of main_v115 : StableHlo.TRef sig ⟨S4x2048x4x512, .f32⟩) (.of main_v116 : StableHlo.TRef sig ⟨S4x2048x4x512, .f32⟩) (Host.reverse [1]),
    StableHlo.binary main_v113 main_v116 main_v117 (addf : (⟨S4x2048x4x512, .f32⟩ : BufTy).Contents (Elt F) → (⟨S4x2048x4x512, .f32⟩ : BufTy).Contents (Elt F) → (⟨S4x2048x4x512, .f32⟩ : BufTy).Contents (Elt F)),
    StableHlo.TRef.unary (.of main_v15 : StableHlo.TRef sig ⟨S4x2048x4x512, .f32⟩) (.of main_v118 : StableHlo.TRef sig ⟨S4x2048x4x512, .f32⟩) (Host.reverse [1]),
    StableHlo.unary main_v118 main_v119 (broadcastInDim S1x4x2048x4x512 ![1, 2, 3, 4] bcast_S4x2048x4x512_S1x4x2048x4x512_1_2_3_4 : (⟨S4x2048x4x512, .f32⟩ : BufTy).Contents (Elt F) → (⟨S1x4x2048x4x512, .f32⟩ : BufTy).Contents (Elt F)),
    StableHlo.nullary main_cst_10 (constant S_ .f32 0x00000000#32),
    StableHlo.binary main_v119 main_cst_10 main_v120 ((fun x v => pad S2x4x2048x4x512 ![1, 0, 0, 0, 0] ![0, 0, 0, 0, 0] ![0, 0, 0, 0, 0] x v pads_S1x4x2048x4x512_S2x4x2048x4x512_100_000_000_000_000 h_S_) : (⟨S1x4x2048x4x512, .f32⟩ : BufTy).Contents (Elt F) → (⟨S_, .f32⟩ : BufTy).Contents (Elt F) → (⟨S2x4x2048x4x512, .f32⟩ : BufTy).Contents (Elt F)),
    StableHlo.unary main_v15 main_v121 (broadcastInDim S1x4x2048x4x512 ![1, 2, 3, 4] bcast_S4x2048x4x512_S1x4x2048x4x512_1_2_3_4 : (⟨S4x2048x4x512, .f32⟩ : BufTy).Contents (Elt F) → (⟨S1x4x2048x4x512, .f32⟩ : BufTy).Contents (Elt F)),
    StableHlo.nullary main_cst_11 (constant S_ .f32 0x00000000#32),
    StableHlo.binary main_v121 main_cst_11 main_v122 ((fun x v => pad S2x4x2048x4x512 ![0, 0, 0, 0, 0] ![1, 0, 0, 0, 0] ![0, 0, 0, 0, 0] x v pads_S1x4x2048x4x512_S2x4x2048x4x512_010_000_000_000_000 h_S_) : (⟨S1x4x2048x4x512, .f32⟩ : BufTy).Contents (Elt F) → (⟨S_, .f32⟩ : BufTy).Contents (Elt F) → (⟨S2x4x2048x4x512, .f32⟩ : BufTy).Contents (Elt F)),
    StableHlo.binary main_v120 main_v122 main_v123 (addf : (⟨S2x4x2048x4x512, .f32⟩ : BufTy).Contents (Elt F) → (⟨S2x4x2048x4x512, .f32⟩ : BufTy).Contents (Elt F) → (⟨S2x4x2048x4x512, .f32⟩ : BufTy).Contents (Elt F)),
    StableHlo.reshape main_v123 main_v124 (rfl : (.f32 : EltTy) = .f32) shapeCasts_S2x4x2048x4x512_S2x4x16x128x4x512,
    StableHlo.unary main_v124 main_v125 ((transpose S16x2x4x128x4x512 [2, 0, 1, 3, 4, 5] · transposes_S2x4x16x128x4x512_S16x2x4x128x4x512_2_0_1_3_4_5) : (⟨S2x4x16x128x4x512, .f32⟩ : BufTy).Contents (Elt F) → (⟨S16x2x4x128x4x512, .f32⟩ : BufTy).Contents (Elt F)),
    StableHlo.nullary main_cst_12 (constant S_ .f32 0x00000000#32),
    StableHlo.unary main_cst_12 main_v126 (broadcastInDim S2x4x4x256x512 ![] bcast_S_S2x4x4x256x512 : (⟨S_, .f32⟩ : BufTy).Contents (Elt F) → (⟨S2x4x4x256x512, .f32⟩ : BufTy).Contents (Elt F)),
    StableHlo.nullary main_cst_13 (constant S_ .f32 0x00000000#32),
    StableHlo.unary main_cst_13 main_v127 (broadcastInDim S16x2x4x128x4x256 ![] bcast_S_S16x2x4x128x4x256 : (⟨S_, .f32⟩ : BufTy).Contents (Elt F) → (⟨S16x2x4x128x4x256, .f32⟩ : BufTy).Contents (Elt F)),
    StableHlo.nullary main_cst_14 (constant S_ .f32 0x00000000#32),
    StableHlo.unary main_cst_14 main_v128 (broadcastInDim S16x2x4x128x4x256 ![] bcast_S_S16x2x4x128x4x256 : (⟨S_, .f32⟩ : BufTy).Contents (Elt F) → (⟨S16x2x4x128x4x256, .f32⟩ : BufTy).Contents (Elt F)),
    StableHlo.nullary main_cst_15 (constant S_ .f32 0x00000000#32),
    StableHlo.unary main_cst_15 main_v129 (broadcastInDim S16x2x4x128x4x512 ![] bcast_S_S16x2x4x128x4x512 : (⟨S_, .f32⟩ : BufTy).Contents (Elt F) → (⟨S16x2x4x128x4x512, .f32⟩ : BufTy).Contents (Elt F)),
    StableHlo.nullary main_c_16 (constantI S_ 32 0#32),
    StableHlo.unary main_v125 main_v130_0 id,
    StableHlo.unary main_v102 main_v130_1 id,
    StableHlo.unary main_v101 main_v130_2 id,
    StableHlo.unary main_v109_10 main_v130_3 id,
    StableHlo.unary main_v103 main_v130_4 id,
    StableHlo.unary main_v109_11 main_v130_5 id,
    StableHlo.unary main_v109_12 main_v130_6 id,
    StableHlo.unary main_v104 main_v130_7 id,
    StableHlo.unary main_v80 main_v130_8 id,
    StableHlo.unary main_v94 main_v130_9 id,
    StableHlo.unary main_v90 main_v130_10 id,
    StableHlo.unary main_c_16 main_v130_11 id,
    StableHlo.unary main_v126 main_v130_12 id,
    StableHlo.unary main_v127 main_v130_13 id,
    StableHlo.unary main_v128 main_v130_14 id,
    StableHlo.unary main_v129 main_v130_15 id ]

theorem mid_sub : (mid : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.unary_bufs_sub .., StableHlo.nullary_bufs_sub .., StableHlo.binary_bufs_sub .., StableHlo.unary_bufs_sub .., StableHlo.nullary_bufs_sub .., StableHlo.binary_bufs_sub .., StableHlo.binary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- After the second loop, in the third window. -/
noncomputable def post0 : List (HloOp τ sig (Elt F)) :=
  [ StableHlo.unary main_v130_15 main_v131 ((transpose S2x16x4x128x4x512 [1, 0, 2, 3, 4, 5] · transposes_S16x2x4x128x4x512_S2x16x4x128x4x512_1_0_2_3_4_5) : (⟨S16x2x4x128x4x512, .f32⟩ : BufTy).Contents (Elt F) → (⟨S2x16x4x128x4x512, .f32⟩ : BufTy).Contents (Elt F)) ]

theorem post0_sub : (post0 : List (HloOp τ sig (Elt F))).Forall fun op => op.bufs ⊆ tcRefs τ sig :=
  StableHlo.unary_bufs_sub ..

/-- The fourth window. -/
noncomputable def post1 : List (HloOp τ sig (Elt F)) :=
  [ StableHlo.unary main_v130_14 main_v132 ((transpose S2x16x4x128x4x256 [1, 0, 2, 3, 4, 5] · transposes_S16x2x4x128x4x256_S2x16x4x128x4x256_1_0_2_3_4_5) : (⟨S16x2x4x128x4x256, .f32⟩ : BufTy).Contents (Elt F) → (⟨S2x16x4x128x4x256, .f32⟩ : BufTy).Contents (Elt F)),
    StableHlo.unary main_v130_13 main_v133 ((transpose S2x16x4x128x4x256 [1, 0, 2, 3, 4, 5] · transposes_S16x2x4x128x4x256_S2x16x4x128x4x256_1_0_2_3_4_5) : (⟨S16x2x4x128x4x256, .f32⟩ : BufTy).Contents (Elt F) → (⟨S2x16x4x128x4x256, .f32⟩ : BufTy).Contents (Elt F)),
    StableHlo.unary main_v131 main_v134 ((transpose S2x4x16x128x4x512 [0, 2, 1, 3, 4, 5] · transposes_S2x16x4x128x4x512_S2x4x16x128x4x512_0_2_1_3_4_5) : (⟨S2x16x4x128x4x512, .f32⟩ : BufTy).Contents (Elt F) → (⟨S2x4x16x128x4x512, .f32⟩ : BufTy).Contents (Elt F)),
    StableHlo.reshape main_v134 main_v135 (rfl : (.f32 : EltTy) = .f32) shapeCasts_S2x4x16x128x4x512_S2x4x2048x4x512,
    StableHlo.unary main_v132 main_v136 ((transpose S2x4x16x128x4x256 [0, 2, 1, 3, 4, 5] · transposes_S2x16x4x128x4x256_S2x4x16x128x4x256_0_2_1_3_4_5) : (⟨S2x16x4x128x4x256, .f32⟩ : BufTy).Contents (Elt F) → (⟨S2x4x16x128x4x256, .f32⟩ : BufTy).Contents (Elt F)),
    StableHlo.reshape main_v136 main_v137 (rfl : (.f32 : EltTy) = .f32) shapeCasts_S2x4x16x128x4x256_S2x4x2048x4x256,
    StableHlo.unary main_v133 main_v138 ((transpose S2x4x16x128x4x256 [0, 2, 1, 3, 4, 5] · transposes_S2x16x4x128x4x256_S2x4x16x128x4x256_0_2_1_3_4_5) : (⟨S2x16x4x128x4x256, .f32⟩ : BufTy).Contents (Elt F) → (⟨S2x4x16x128x4x256, .f32⟩ : BufTy).Contents (Elt F)),
    StableHlo.reshape main_v138 main_v139 (rfl : (.f32 : EltTy) = .f32) shapeCasts_S2x4x16x128x4x256_S2x4x2048x4x256,
    StableHlo.unary main_v135 main_v140 ((extractStridedSlice S1x4x2048x4x512 ![0, 0, 0, 0, 0] · slices_S2x4x2048x4x512_S1x4x2048x4x512_0_0_0_0_0) : (⟨S2x4x2048x4x512, .f32⟩ : BufTy).Contents (Elt F) → (⟨S1x4x2048x4x512, .f32⟩ : BufTy).Contents (Elt F)),
    StableHlo.reshape main_v140 main_v141 (rfl : (.f32 : EltTy) = .f32) shapeCasts_S1x4x2048x4x512_S4x2048x4x512,
    StableHlo.unary main_v135 main_v142 ((extractStridedSlice S1x4x2048x4x512 ![1, 0, 0, 0, 0] · slices_S2x4x2048x4x512_S1x4x2048x4x512_1_0_0_0_0) : (⟨S2x4x2048x4x512, .f32⟩ : BufTy).Contents (Elt F) → (⟨S1x4x2048x4x512, .f32⟩ : BufTy).Contents (Elt F)),
    StableHlo.reshape main_v142 main_v143 (rfl : (.f32 : EltTy) = .f32) shapeCasts_S1x4x2048x4x512_S4x2048x4x512,
    StableHlo.TRef.unary (.of main_v143 : StableHlo.TRef sig ⟨S4x2048x4x512, .f32⟩) (.of main_v144 : StableHlo.TRef sig ⟨S4x2048x4x512, .f32⟩) (Host.reverse [1]),
    StableHlo.binary main_v141 main_v144 main_v145 (addf : (⟨S4x2048x4x512, .f32⟩ : BufTy).Contents (Elt F) → (⟨S4x2048x4x512, .f32⟩ : BufTy).Contents (Elt F) → (⟨S4x2048x4x512, .f32⟩ : BufTy).Contents (Elt F)),
    StableHlo.unary main_v137 main_v146 ((extractStridedSlice S1x4x2048x4x256 ![0, 0, 0, 0, 0] · slices_S2x4x2048x4x256_S1x4x2048x4x256_0_0_0_0_0) : (⟨S2x4x2048x4x256, .f32⟩ : BufTy).Contents (Elt F) → (⟨S1x4x2048x4x256, .f32⟩ : BufTy).Contents (Elt F)),
    StableHlo.reshape main_v146 main_v147 (rfl : (.f32 : EltTy) = .f32) shapeCasts_S1x4x2048x4x256_S4x2048x4x256,
    StableHlo.unary main_v137 main_v148 ((extractStridedSlice S1x4x2048x4x256 ![1, 0, 0, 0, 0] · slices_S2x4x2048x4x256_S1x4x2048x4x256_1_0_0_0_0) : (⟨S2x4x2048x4x256, .f32⟩ : BufTy).Contents (Elt F) → (⟨S1x4x2048x4x256, .f32⟩ : BufTy).Contents (Elt F)),
    StableHlo.reshape main_v148 main_v149 (rfl : (.f32 : EltTy) = .f32) shapeCasts_S1x4x2048x4x256_S4x2048x4x256,
    StableHlo.TRef.unary (.of main_v149 : StableHlo.TRef sig ⟨S4x2048x4x256, .f32⟩) (.of main_v150 : StableHlo.TRef sig ⟨S4x2048x4x256, .f32⟩) (Host.reverse [1]),
    StableHlo.binary main_v147 main_v150 main_v151 (addf : (⟨S4x2048x4x256, .f32⟩ : BufTy).Contents (Elt F) → (⟨S4x2048x4x256, .f32⟩ : BufTy).Contents (Elt F) → (⟨S4x2048x4x256, .f32⟩ : BufTy).Contents (Elt F)),
    StableHlo.unary main_v139 main_v152 ((extractStridedSlice S1x4x2048x4x256 ![0, 0, 0, 0, 0] · slices_S2x4x2048x4x256_S1x4x2048x4x256_0_0_0_0_0) : (⟨S2x4x2048x4x256, .f32⟩ : BufTy).Contents (Elt F) → (⟨S1x4x2048x4x256, .f32⟩ : BufTy).Contents (Elt F)),
    StableHlo.reshape main_v152 main_v153 (rfl : (.f32 : EltTy) = .f32) shapeCasts_S1x4x2048x4x256_S4x2048x4x256,
    StableHlo.unary main_v139 main_v154 ((extractStridedSlice S1x4x2048x4x256 ![1, 0, 0, 0, 0] · slices_S2x4x2048x4x256_S1x4x2048x4x256_1_0_0_0_0) : (⟨S2x4x2048x4x256, .f32⟩ : BufTy).Contents (Elt F) → (⟨S1x4x2048x4x256, .f32⟩ : BufTy).Contents (Elt F)),
    StableHlo.reshape main_v154 main_v155 (rfl : (.f32 : EltTy) = .f32) shapeCasts_S1x4x2048x4x256_S4x2048x4x256,
    StableHlo.TRef.unary (.of main_v155 : StableHlo.TRef sig ⟨S4x2048x4x256, .f32⟩) (.of main_v156 : StableHlo.TRef sig ⟨S4x2048x4x256, .f32⟩) (Host.reverse [1]),
    StableHlo.binary main_v153 main_v156 main_v157 (addf : (⟨S4x2048x4x256, .f32⟩ : BufTy).Contents (Elt F) → (⟨S4x2048x4x256, .f32⟩ : BufTy).Contents (Elt F) → (⟨S4x2048x4x256, .f32⟩ : BufTy).Contents (Elt F)),
    StableHlo.binary main_v130_12 main_v39 main_v158 ((fun l r => Host.dotGeneral dot_S2x4x4x256x512_S2x4x256x4x256_S2x4x4x512x256_3_4_4_2_012_013 none l r) : (⟨S2x4x4x256x512, .f32⟩ : BufTy).Contents (Elt F) → (⟨S2x4x256x4x256, .f32⟩ : BufTy).Contents (Elt F) → (⟨S2x4x4x512x256, .f32⟩ : BufTy).Contents (Elt F)),
    StableHlo.unary main_v158 main_v159 ((transpose S2x4x256x4x512 [0, 1, 4, 2, 3] · transposes_S2x4x4x512x256_S2x4x256x4x512_0_1_4_2_3) : (⟨S2x4x4x512x256, .f32⟩ : BufTy).Contents (Elt F) → (⟨S2x4x256x4x512, .f32⟩ : BufTy).Contents (Elt F)),
    StableHlo.binary main_v130_12 main_v26 main_v160 ((fun l r => Host.dotGeneral dot_S2x4x4x256x512_S2x4x256x4x512_S2x4x4x256x256_4_4_3_2_012_013 none l r) : (⟨S2x4x4x256x512, .f32⟩ : BufTy).Contents (Elt F) → (⟨S2x4x256x4x512, .f32⟩ : BufTy).Contents (Elt F) → (⟨S2x4x4x256x256, .f32⟩ : BufTy).Contents (Elt F)),
    StableHlo.unary main_v160 main_v161 ((transpose S2x4x256x4x256 [0, 1, 4, 2, 3] · transposes_S2x4x4x256x256_S2x4x256x4x256_0_1_4_2_3) : (⟨S2x4x4x256x256, .f32⟩ : BufTy).Contents (Elt F) → (⟨S2x4x256x4x256, .f32⟩ : BufTy).Contents (Elt F)),
    StableHlo.unary main_v37 main_v162 (broadcastInDim S2x4x256x4x256 ![0, 1, 2, 3, 4] bcast_S2x1x256x4x1_S2x4x256x4x256_0_1_2_3_4 : (⟨S2x1x256x4x1, .f32⟩ : BufTy).Contents (Elt F) → (⟨S2x4x256x4x256, .f32⟩ : BufTy).Contents (Elt F)),
    StableHlo.binary main_v161 main_v162 main_v163 (mulf : (⟨S2x4x256x4x256, .f32⟩ : BufTy).Contents (Elt F) → (⟨S2x4x256x4x256, .f32⟩ : BufTy).Contents (Elt F) → (⟨S2x4x256x4x256, .f32⟩ : BufTy).Contents (Elt F)),
    StableHlo.unary main_v159 main_v164 ((extractStridedSlice S1x4x256x4x512 ![0, 0, 0, 0, 0] · slices_S2x4x256x4x512_S1x4x256x4x512_0_0_0_0_0) : (⟨S2x4x256x4x512, .f32⟩ : BufTy).Contents (Elt F) → (⟨S1x4x256x4x512, .f32⟩ : BufTy).Contents (Elt F)),
    StableHlo.reshape main_v164 main_v165 (rfl : (.f32 : EltTy) = .f32) shapeCasts_S1x4x256x4x512_S4x256x4x512,
    StableHlo.unary main_v159 main_v166 ((extractStridedSlice S1x4x256x4x512 ![1, 0, 0, 0, 0] · slices_S2x4x256x4x512_S1x4x256x4x512_1_0_0_0_0) : (⟨S2x4x256x4x512, .f32⟩ : BufTy).Contents (Elt F) → (⟨S1x4x256x4x512, .f32⟩ : BufTy).Contents (Elt F)),
    StableHlo.reshape main_v166 main_v167 (rfl : (.f32 : EltTy) = .f32) shapeCasts_S1x4x256x4x512_S4x256x4x512,
    StableHlo.TRef.unary (.of main_v167 : StableHlo.TRef sig ⟨S4x256x4x512, .f32⟩) (.of main_v168 : StableHlo.TRef sig ⟨S4x256x4x512, .f32⟩) (Host.reverse [1]),
    StableHlo.binary main_v165 main_v168 main_v169 (addf : (⟨S4x256x4x512, .f32⟩ : BufTy).Contents (Elt F) → (⟨S4x256x4x512, .f32⟩ : BufTy).Contents (Elt F) → (⟨S4x256x4x512, .f32⟩ : BufTy).Contents (Elt F)),
    StableHlo.unary main_v163 main_v170 ((extractStridedSlice S1x4x256x4x256 ![0, 0, 0, 0, 0] · slices_S2x4x256x4x256_S1x4x256x4x256_0_0_0_0_0) : (⟨S2x4x256x4x256, .f32⟩ : BufTy).Contents (Elt F) → (⟨S1x4x256x4x256, .f32⟩ : BufTy).Contents (Elt F)),
    StableHlo.reshape main_v170 main_v171 (rfl : (.f32 : EltTy) = .f32) shapeCasts_S1x4x256x4x256_S4x256x4x256,
    StableHlo.unary main_v163 main_v172 ((extractStridedSlice S1x4x256x4x256 ![1, 0, 0, 0, 0] · slices_S2x4x256x4x256_S1x4x256x4x256_1_0_0_0_0) : (⟨S2x4x256x4x256, .f32⟩ : BufTy).Contents (Elt F) → (⟨S1x4x256x4x256, .f32⟩ : BufTy).Contents (Elt F)),
    StableHlo.reshape main_v172 main_v173 (rfl : (.f32 : EltTy) = .f32) shapeCasts_S1x4x256x4x256_S4x256x4x256,
    StableHlo.TRef.unary (.of main_v173 : StableHlo.TRef sig ⟨S4x256x4x256, .f32⟩) (.of main_v174 : StableHlo.TRef sig ⟨S4x256x4x256, .f32⟩) (Host.reverse [1]),
    StableHlo.binary main_v171 main_v174 main_v175 (addf : (⟨S4x256x4x256, .f32⟩ : BufTy).Contents (Elt F) → (⟨S4x256x4x256, .f32⟩ : BufTy).Contents (Elt F) → (⟨S4x256x4x256, .f32⟩ : BufTy).Contents (Elt F)),
    StableHlo.nullary main_cst_17 (constant S_ .f32 0x00000000#32),
    StableHlo.unary main_cst_17 main_v176 (broadcastInDim S4x256x1024 ![] bcast_S_S4x256x1024 : (⟨S_, .f32⟩ : BufTy).Contents (Elt F) → (⟨S4x256x1024, .f32⟩ : BufTy).Contents (Elt F)),
    StableHlo.reshape main_v157 main_v177 (rfl : (.f32 : EltTy) = .f32) shapeCasts_S4x2048x4x256_S4x2048x1024,
    StableHlo.binary main_v177 main_v176 main_v178 ((fun a b => concatenate S4x2304x1024 1 [⟨S4x2048x1024, a⟩, ⟨S4x256x1024, b⟩] concatenates_S4x2048x1024_S4x256x1024_S4x2304x1024_d1) : (⟨S4x2048x1024, .f32⟩ : BufTy).Contents (Elt F) → (⟨S4x256x1024, .f32⟩ : BufTy).Contents (Elt F) → (⟨S4x2304x1024, .f32⟩ : BufTy).Contents (Elt F)),
    StableHlo.reshape main_v178 main_v179 (rfl : (.f32 : EltTy) = .f32) shapeCasts_S4x2304x1024_S9216x1024,
    StableHlo.reshape main_v151 main_v180 (rfl : (.f32 : EltTy) = .f32) shapeCasts_S4x2048x4x256_S4x2048x1024,
    StableHlo.reshape main_v175 main_v181 (rfl : (.f32 : EltTy) = .f32) shapeCasts_S4x256x4x256_S4x256x1024,
    StableHlo.binary main_v180 main_v181 main_v182 ((fun a b => concatenate S4x2304x1024 1 [⟨S4x2048x1024, a⟩, ⟨S4x256x1024, b⟩] concatenates_S4x2048x1024_S4x256x1024_S4x2304x1024_d1) : (⟨S4x2048x1024, .f32⟩ : BufTy).Contents (Elt F) → (⟨S4x256x1024, .f32⟩ : BufTy).Contents (Elt F) → (⟨S4x2304x1024, .f32⟩ : BufTy).Contents (Elt F)),
    StableHlo.reshape main_v182 main_v183 (rfl : (.f32 : EltTy) = .f32) shapeCasts_S4x2304x1024_S9216x1024,
    StableHlo.reshape main_v145 main_v184 (rfl : (.f32 : EltTy) = .f32) shapeCasts_S4x2048x4x512_S4x2048x2048,
    StableHlo.reshape main_v169 main_v185 (rfl : (.f32 : EltTy) = .f32) shapeCasts_S4x256x4x512_S4x256x2048,
    StableHlo.binary main_v184 main_v185 main_v186 ((fun a b => concatenate S4x2304x2048 1 [⟨S4x2048x2048, a⟩, ⟨S4x256x2048, b⟩] concatenates_S4x2048x2048_S4x256x2048_S4x2304x2048_d1) : (⟨S4x2048x2048, .f32⟩ : BufTy).Contents (Elt F) → (⟨S4x256x2048, .f32⟩ : BufTy).Contents (Elt F) → (⟨S4x2304x2048, .f32⟩ : BufTy).Contents (Elt F)),
    StableHlo.reshape main_v186 main_v187 (rfl : (.f32 : EltTy) = .f32) shapeCasts_S4x2304x2048_S9216x2048,
    StableHlo.unary main_v179 main_v188 ((truncf .bf16 · bitsLt_bf16_f32) : (⟨S9216x1024, .f32⟩ : BufTy).Contents (Elt F) → (⟨S9216x1024, .bf16⟩ : BufTy).Contents (Elt F)),
    StableHlo.unary main_v183 main_v189 ((truncf .bf16 · bitsLt_bf16_f32) : (⟨S9216x1024, .f32⟩ : BufTy).Contents (Elt F) → (⟨S9216x1024, .bf16⟩ : BufTy).Contents (Elt F)),
    StableHlo.unary main_v187 main_v190 ((truncf .bf16 · bitsLt_bf16_f32) : (⟨S9216x2048, .f32⟩ : BufTy).Contents (Elt F) → (⟨S9216x2048, .bf16⟩ : BufTy).Contents (Elt F)) ]

theorem post1_sub : (post1 : List (HloOp τ sig (Elt F))).Forall fun op => op.bufs ⊆ tcRefs τ sig :=
  ⟨StableHlo.unary_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.nullary_bufs_sub .., StableHlo.unary_bufs_sub .., StableHlo.reshape_bufs_sub .., StableHlo.binary_bufs_sub .., StableHlo.reshape_bufs_sub .., StableHlo.reshape_bufs_sub .., StableHlo.reshape_bufs_sub .., StableHlo.binary_bufs_sub .., StableHlo.reshape_bufs_sub .., StableHlo.reshape_bufs_sub .., StableHlo.reshape_bufs_sub .., StableHlo.binary_bufs_sub .., StableHlo.reshape_bufs_sub .., StableHlo.unary_bufs_sub .., StableHlo.unary_bufs_sub .., StableHlo.unary_bufs_sub ..⟩

end Cert.ReferenceIdeal.Run
-- ==== Proof.RefChain.lean ====
/-
  Each window of the reference's program, and each trip of its two loops, is its list of operations run in order.
-/
module

public import proofs.«01_k».proof.Proof.RefOpsA
public import proofs.«01_k».proof.Proof.RefOpsB
public import proofs.«01_k».proof.Proof.RefOpsC
public import Idealize.ShloMosaic.Lib.StableHlo.RunHlo

@[expose] public section

noncomputable section

namespace Cert.ReferenceIdeal.Run

open Idealize.ShloMosaic Idealize.SL.Sem Cert.ReferenceIdeal
open Idealize.ShloMosaic.StableHlo (seq tcRefs)

variable {F : FTy → Type} [FloatOps F]

set_option maxHeartbeats 4000000 in
set_option maxRecDepth 8000 in
theorem body0_seq : main_while0_body (F := F) = seq body0 := by
  rfl

set_option maxHeartbeats 4000000 in
set_option maxRecDepth 8000 in
theorem body1_seq : main_while1_body (F := F) = seq body1 := by
  rfl

set_option maxHeartbeats 4000000 in
set_option maxRecDepth 8000 in
theorem part0_seq (d : Dev nD) : main_part0 (F := F) d = seq pre0 := by
  rfl

set_option maxHeartbeats 4000000 in
set_option maxRecDepth 8000 in
theorem part1_seq (d : Dev nD) : main_part1 (F := F) d = seq pre1 := by
  rfl

set_option maxHeartbeats 4000000 in
set_option maxRecDepth 8000 in
theorem part2_chain (d : Dev nD) : main_part2 (F := F) d =
    Pipeline.chain [seq pre2, HostLoop.enter 0, seq mid, HostLoop.enter 1, seq post0] := by
  rfl

set_option maxHeartbeats 4000000 in
set_option maxRecDepth 8000 in
theorem part3_seq (d : Dev nD) : main_part3 (F := F) d = seq post1 := by
  rfl

/-- The whole program: seven lists of operations in order, with the two loops entered between them. -/
theorem main_chain (d : Dev nD) : main (F := F) d =
    Pipeline.chain [seq pre0, seq pre1, seq pre2, HostLoop.enter 0, seq mid, HostLoop.enter 1, seq post0, seq post1] := by
  show (main_part0 (F := F) d >>= fun _ => main_part1 d >>= fun _ => main_part2 d >>= fun _ => main_part3 d >>= fun _ => main_part4 d) = _
  rw [part0_seq, part1_seq, part2_chain, part3_seq]
  simp only [Pipeline.chain_cons, Pipeline.chain_nil, bind_assoc, pure_bind]
  rfl

end Cert.ReferenceIdeal.Run
-- ==== Proof.LineReads.lean ====
/-
  Reading a straight line of operations one operation at a time. `W` lists what the operations write, in order. When no
  later operation writes an operation's result again, the buffer ends as the operation's function of its operands; an
  operand that no operation from this one on writes reads as it ends, and one that none before writes reads as it began.
-/
module

public import Idealize.ShloMosaic.Lib.StableHlo.RunRead
public import Idealize.ShloMosaic.Lib.StableHlo.RunLoop

@[expose] public section

noncomputable section

namespace Cert.LineReads

open Idealize.ShloMosaic Idealize.SL.Sem
open Idealize.ShloMosaic.StableHlo

variable {τ : Topo} {sig : RefSig} {Val : EltTy → Type}

/-- The line `ops` writes exactly the references `W`, in order. -/
def Writes (ops : List (HloOp τ sig Val)) (W : List (Ref sig .tc)) : Prop :=
  ops.map HloOp.writes = W.map fun w => {Proc.devRef (τ := τ) .tc w}

variable {ops : List (HloOp τ sig Val)} {W : List (Ref sig .tc)} (V : Valuation τ sig Val)

theorem Writes.drop (h : Writes ops W) (i : ℕ) : Writes (ops.drop i) (W.drop i) := by
  unfold Writes at h ⊢
  rw [List.map_drop, List.map_drop, h]

theorem Writes.take (h : Writes ops W) (i : ℕ) : Writes (ops.take i) (W.take i) := by
  unfold Writes at h ⊢
  rw [List.map_take, List.map_take, h]

/-- A buffer nothing writes keeps its contents. -/
theorem keep (h : Writes ops W) {r : Ref sig .tc} (hr : r ∉ W) :
    after ops V (Proc.devRef .tc r) = V (Proc.devRef .tc r) :=
  after_unwritten W h hr V

/-- An operand no operation before position `i` writes reads as it began. -/
theorem early (h : Writes ops W) (i : ℕ) {r : Ref sig .tc} (hr : r ∉ W.take i) :
    upto ops V i (Proc.devRef .tc r) = V (Proc.devRef .tc r) :=
  upto_unwritten (W.take i) (h.take i) hr V

/-- An operand no operation from position `i` on writes reads as it ends. -/
theorem late (h : Writes ops W) (i : ℕ) {r : Ref sig .tc} (hr : r ∉ W.drop i) :
    upto ops V i (Proc.devRef .tc r) = after ops V (Proc.devRef .tc r) := by
  have e : after ops V = after (ops.drop i) (upto ops V i) := by
    conv_lhs => rw [← List.take_append_drop i ops]
    exact after_append _ _ _
  rw [e, after_unwritten (W.drop i) (h.drop i) hr]

/-- The result of the operation at position `i` is what it leaves from the contents before it. -/
theorem at_pos (h : Writes ops W) (i : ℕ) {op : HloOp τ sig Val} (hi : ops[i]? = some op) {y : Ref sig .tc}
    (hy : y ∉ W.drop (i + 1)) :
    after ops V (Proc.devRef .tc y) = op.result (upto ops V i) (Proc.devRef .tc y) := by
  obtain ⟨hl, he⟩ := List.getElem?_eq_some_iff.mp hi
  exact after_last_write (W.drop (i + 1)) (by rw [List.drop_eq_getElem_cons hl, he]) (h.drop (i + 1)) hy V

variable {V} {op : HloOp τ sig Val}

theorem read0 (h : Writes ops W) (i : ℕ) (hi : ops[i]? = some op) {y : Ref sig .tc} (hy : y ∉ W.drop (i + 1))
    {v : y.ty.Contents Val} (hv : ∀ U : Valuation τ sig Val, op.result U (Proc.devRef .tc y) = v) :
    after ops V (Proc.devRef .tc y) = v :=
  (at_pos V h i hi hy).trans (hv _)

theorem read1 (h : Writes ops W) (i : ℕ) (hi : ops[i]? = some op) {x y : Ref sig .tc} (hy : y ∉ W.drop (i + 1))
    (f : x.ty.Contents Val → y.ty.Contents Val)
    (hf : ∀ U : Valuation τ sig Val, op.result U (Proc.devRef .tc y) = f (U (Proc.devRef .tc x)))
    {X : x.ty.Contents Val} (hx : upto ops V i (Proc.devRef .tc x) = X) :
    after ops V (Proc.devRef .tc y) = f X := by
  subst hx; exact (at_pos V h i hi hy).trans (hf _)

theorem read2 (h : Writes ops W) (i : ℕ) (hi : ops[i]? = some op) {a b y : Ref sig .tc} (hy : y ∉ W.drop (i + 1))
    (f : a.ty.Contents Val → b.ty.Contents Val → y.ty.Contents Val)
    (hf : ∀ U : Valuation τ sig Val,
      op.result U (Proc.devRef .tc y) = f (U (Proc.devRef .tc a)) (U (Proc.devRef .tc b)))
    {A : a.ty.Contents Val} {B : b.ty.Contents Val}
    (ha : upto ops V i (Proc.devRef .tc a) = A) (hb : upto ops V i (Proc.devRef .tc b) = B) :
    after ops V (Proc.devRef .tc y) = f A B := by
  subst ha; subst hb; exact (at_pos V h i hi hy).trans (hf _)

theorem read3 (h : Writes ops W) (i : ℕ) (hi : ops[i]? = some op) {c a b y : Ref sig .tc} (hy : y ∉ W.drop (i + 1))
    (f : c.ty.Contents Val → a.ty.Contents Val → b.ty.Contents Val → y.ty.Contents Val)
    (hf : ∀ U : Valuation τ sig Val, op.result U (Proc.devRef .tc y)
      = f (U (Proc.devRef .tc c)) (U (Proc.devRef .tc a)) (U (Proc.devRef .tc b)))
    {C : c.ty.Contents Val} {A : a.ty.Contents Val} {B : b.ty.Contents Val}
    (hc : upto ops V i (Proc.devRef .tc c) = C)
    (ha : upto ops V i (Proc.devRef .tc a) = A) (hb : upto ops V i (Proc.devRef .tc b) = B) :
    after ops V (Proc.devRef .tc y) = f C A B := by
  subst hc; subst ha; subst hb; exact (at_pos V h i hi hy).trans (hf _)
/-- A one-operand operation leaves its function of its operand. -/
theorem readU (h : Writes ops W) (i : ℕ) {x y : Ref sig .tc} {f : x.ty.Contents Val → y.ty.Contents Val} {hx₀ hy₀}
    (hi : ops[i]? = some (unary x y f hx₀ hy₀)) (hy : y ∉ W.drop (i + 1))
    {X : x.ty.Contents Val} (hx : upto ops V i (Proc.devRef .tc x) = X) :
    after ops V (Proc.devRef .tc y) = f X :=
  read1 h i hi hy f (fun _ => unary_result ..) hx

theorem reshape_aux {T T' : BufTy} {s s' : Shape} {e : EltTy} (he : T.elt = T'.elt) (hn : T.shape.ShapeCasts T'.shape)
    (h₁ : T = ⟨s, e⟩) (h₂ : T' = ⟨s', e⟩) (hc : s.ShapeCasts s') (u : T.Contents Val) :
    cast (congrArg (fun U : BufTy => U.Contents Val) h₂) (fun i => he ▸ shapeCast T'.shape u hn i : T'.Contents Val)
      = shapeCast s' (cast (congrArg (fun U : BufTy => U.Contents Val) h₁) u) hc := by
  subst h₁ h₂; rfl

/-- A reshape leaves its operand reshaped, the two references' types read as written. -/
theorem readR (h : Writes ops W) (i : ℕ) {x y : Ref sig .tc} {he hn hx₀ hy₀}
    (hi : ops[i]? = some (reshape x y he hn hx₀ hy₀)) (hy : y ∉ W.drop (i + 1)) {s s' : Shape} {e : EltTy}
    (h₁ : x.ty = ⟨s, e⟩) (h₂ : y.ty = ⟨s', e⟩) (hc : s.ShapeCasts s')
    {X : x.ty.Contents Val} (hx : upto ops V i (Proc.devRef .tc x) = X) :
    cast (congrArg (fun U : BufTy => U.Contents Val) h₂) (after ops V (Proc.devRef .tc y))
      = shapeCast s' (cast (congrArg (fun U : BufTy => U.Contents Val) h₁) X) hc := by
  subst hx
  rw [at_pos V h i hi hy, reshape_result]
  exact reshape_aux he hn h₁ h₂ hc _

theorem uncast {s s' : Shape} {e : EltTy} {hc : s.ShapeCasts s'} {w : (⟨s', e⟩ : BufTy).Contents Val}
    {u : (⟨s, e⟩ : BufTy).Contents Val} (h : cast rfl w = shapeCast s' (cast rfl u) hc) :
    w = ((shapeCast s' · hc) : (⟨s, e⟩ : BufTy).Contents Val → (⟨s', e⟩ : BufTy).Contents Val) u := h

theorem read1I (h : Writes ops W) (i : ℕ) {a i₀ i₁ i₂ i₃ i₄ i₅ y : Ref sig .tc} {T : BufTy}
    {e₀ : i₀.ty = T} {e₁ : i₁.ty = T} {e₂ : i₂.ty = T} {e₃ : i₃.ty = T} {e₄ : i₄.ty = T} {e₅ : i₅.ty = T}
    {d₀ : i₀.space ≠ .host} {d₁ : i₁.space ≠ .host} {d₂ : i₂.space ≠ .host} {d₃ : i₃.space ≠ .host} {d₄ : i₄.space ≠ .host} {d₅ : i₅.space ≠ .host}
    {u₀ : i₀.isScoped = false} {u₁ : i₁.isScoped = false} {u₂ : i₂.isScoped = false} {u₃ : i₃.isScoped = false} {u₄ : i₄.isScoped = false} {u₅ : i₅.isScoped = false}
    {da : a.space ≠ .host} {ua : a.isScoped = false}
    {dy : y.space ≠ .host} {uy : y.isScoped = false}
    {f : a.ty.Contents Val → (Fin 6 → T.Contents Val) → y.ty.Contents Val}
    (hi : ops[i]? = some (TRef.unaryIndexed (τ := τ) (⟨a, rfl, da, ua⟩ : TRef sig a.ty) ![(⟨i₀, e₀, d₀, u₀⟩ : TRef sig T), (⟨i₁, e₁, d₁, u₁⟩ : TRef sig T), (⟨i₂, e₂, d₂, u₂⟩ : TRef sig T), (⟨i₃, e₃, d₃, u₃⟩ : TRef sig T), (⟨i₄, e₄, d₄, u₄⟩ : TRef sig T), (⟨i₅, e₅, d₅, u₅⟩ : TRef sig T)]
      (⟨y, rfl, dy, uy⟩ : TRef sig y.ty) f))
    (hy : y ∉ W.drop (i + 1))
    {A : a.ty.Contents Val} (ha : upto ops V i (Proc.devRef .tc a) = A)
    {J₀ : T.Contents Val} (h₀ : cast (congrArg (fun U : BufTy => U.Contents Val) e₀) (upto ops V i (Proc.devRef .tc i₀)) = J₀)
    {J₁ : T.Contents Val} (h₁ : cast (congrArg (fun U : BufTy => U.Contents Val) e₁) (upto ops V i (Proc.devRef .tc i₁)) = J₁)
    {J₂ : T.Contents Val} (h₂ : cast (congrArg (fun U : BufTy => U.Contents Val) e₂) (upto ops V i (Proc.devRef .tc i₂)) = J₂)
    {J₃ : T.Contents Val} (h₃ : cast (congrArg (fun U : BufTy => U.Contents Val) e₃) (upto ops V i (Proc.devRef .tc i₃)) = J₃)
    {J₄ : T.Contents Val} (h₄ : cast (congrArg (fun U : BufTy => U.Contents Val) e₄) (upto ops V i (Proc.devRef .tc i₄)) = J₄)
    {J₅ : T.Contents Val} (h₅ : cast (congrArg (fun U : BufTy => U.Contents Val) e₅) (upto ops V i (Proc.devRef .tc i₅)) = J₅) :
    after ops V (Proc.devRef .tc y) = f A ![J₀, J₁, J₂, J₃, J₄, J₅] := by
  subst ha h₀ h₁ h₂ h₃ h₄ h₅
  refine (at_pos V h i hi hy).trans ((unaryIndexed_result ..).trans ?_)
  refine congrArg (f _) (funext fun k => ?_)
  fin_cases k <;> rfl

theorem read2I (h : Writes ops W) (i : ℕ) {a b i₀ i₁ i₂ i₃ i₄ i₅ y : Ref sig .tc} {T : BufTy}
    {e₀ : i₀.ty = T} {e₁ : i₁.ty = T} {e₂ : i₂.ty = T} {e₃ : i₃.ty = T} {e₄ : i₄.ty = T} {e₅ : i₅.ty = T}
    {d₀ : i₀.space ≠ .host} {d₁ : i₁.space ≠ .host} {d₂ : i₂.space ≠ .host} {d₃ : i₃.space ≠ .host} {d₄ : i₄.space ≠ .host} {d₅ : i₅.space ≠ .host}
    {u₀ : i₀.isScoped = false} {u₁ : i₁.isScoped = false} {u₂ : i₂.isScoped = false} {u₃ : i₃.isScoped = false} {u₄ : i₄.isScoped = false} {u₅ : i₅.isScoped = false}
    {da : a.space ≠ .host} {ua : a.isScoped = false}
    {db : b.space ≠ .host} {ub : b.isScoped = false}
    {dy : y.space ≠ .host} {uy : y.isScoped = false}
    {f : a.ty.Contents Val → b.ty.Contents Val → (Fin 6 → T.Contents Val) → y.ty.Contents Val}
    (hi : ops[i]? = some (TRef.binaryIndexed (τ := τ) (⟨a, rfl, da, ua⟩ : TRef sig a.ty) (⟨b, rfl, db, ub⟩ : TRef sig b.ty) ![(⟨i₀, e₀, d₀, u₀⟩ : TRef sig T), (⟨i₁, e₁, d₁, u₁⟩ : TRef sig T), (⟨i₂, e₂, d₂, u₂⟩ : TRef sig T), (⟨i₃, e₃, d₃, u₃⟩ : TRef sig T), (⟨i₄, e₄, d₄, u₄⟩ : TRef sig T), (⟨i₅, e₅, d₅, u₅⟩ : TRef sig T)]
      (⟨y, rfl, dy, uy⟩ : TRef sig y.ty) f))
    (hy : y ∉ W.drop (i + 1))
    {A : a.ty.Contents Val} (ha : upto ops V i (Proc.devRef .tc a) = A)
    {B : b.ty.Contents Val} (hb : upto ops V i (Proc.devRef .tc b) = B)
    {J₀ : T.Contents Val} (h₀ : cast (congrArg (fun U : BufTy => U.Contents Val) e₀) (upto ops V i (Proc.devRef .tc i₀)) = J₀)
    {J₁ : T.Contents Val} (h₁ : cast (congrArg (fun U : BufTy => U.Contents Val) e₁) (upto ops V i (Proc.devRef .tc i₁)) = J₁)
    {J₂ : T.Contents Val} (h₂ : cast (congrArg (fun U : BufTy => U.Contents Val) e₂) (upto ops V i (Proc.devRef .tc i₂)) = J₂)
    {J₃ : T.Contents Val} (h₃ : cast (congrArg (fun U : BufTy => U.Contents Val) e₃) (upto ops V i (Proc.devRef .tc i₃)) = J₃)
    {J₄ : T.Contents Val} (h₄ : cast (congrArg (fun U : BufTy => U.Contents Val) e₄) (upto ops V i (Proc.devRef .tc i₄)) = J₄)
    {J₅ : T.Contents Val} (h₅ : cast (congrArg (fun U : BufTy => U.Contents Val) e₅) (upto ops V i (Proc.devRef .tc i₅)) = J₅) :
    after ops V (Proc.devRef .tc y) = f A B ![J₀, J₁, J₂, J₃, J₄, J₅] := by
  subst ha hb h₀ h₁ h₂ h₃ h₄ h₅
  refine (at_pos V h i hi hy).trans ((binaryIndexed_result ..).trans ?_)
  refine congrArg (f _ _) (funext fun k => ?_)
  fin_cases k <;> rfl

end Cert.LineReads
-- ==== Proof.RefEqA.lean ====
/-
  The buffers the reference holds before its first loop, one operation at a time.
-/
module

public import proofs.«01_k».proof.Proof.RefOpsA
public import proofs.«01_k».proof.Proof.LineReads

@[expose] public section

set_option maxRecDepth 4000

noncomputable section

namespace Cert.ReferenceIdeal.Run

open Idealize.ShloMosaic Idealize.SL.Sem Cert.ReferenceIdeal
open Facts₀ Facts Cert.LineReads
open Idealize.ShloMosaic.TcCoe
open Idealize.ShloMosaic.StableHlo (after)

variable {F : FTy → Type} [FloatOps F] (V : Valuation τ sig (Elt F))

/-- Everything before the first loop. -/
noncomputable def pre : List (HloOp τ sig (Elt F)) := pre0 ++ pre1 ++ pre2

/-- What `pre` writes, in order. -/
noncomputable def preW : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_cst, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_cst_0, main_v59, main_v60, main_v61, main_cst_1, main_v62, main_v63, main_v64, main_v65, main_v66, main_v67, main_v68, main_v69, main_cst_2, main_call5_v0, main_call5_v1, main_call5_v2, main_call5_v3, main_call5_v4, main_v70, main_v71, main_cst_3, main_v72, main_v73, main_v74, main_v75, main_v76, main_v77, main_v78, main_v79, main_v80, main_v81, main_cst_4, main_v82, main_v83, main_v84, main_v85, main_v86, main_v87, main_v88, main_v89, main_v90, main_cst_5, main_v91, main_v92, main_v93, main_v94, main_v95, main_v96, main_v97, main_v98, main_v99, main_v100, main_v101, main_v102, main_v103, main_v104, main_cst_6, main_v105, main_cst_7, main_v106, main_cst_8, main_v107, main_cst_9, main_v108, main_c, main_v109_0, main_v109_1, main_v109_2, main_v109_3, main_v109_4, main_v109_5, main_v109_6, main_v109_7, main_v109_8, main_v109_9, main_v109_10, main_v109_11, main_v109_12]

set_option maxRecDepth 8000 in
theorem pre_writes : Writes (pre (F := F)) preW := by
  rfl

theorem pre_v0 : after pre V main_v0 =
    ((extf .f32 · bitsLt_bf16_f32) : (⟨S9216x4096, .bf16⟩ : BufTy).Contents (Elt F) → (⟨S9216x4096, .f32⟩ : BufTy).Contents (Elt F)) (after pre V main_arg0) :=
  (readU (x := main_arg0) (y := main_v0) pre_writes 0 rfl (by decide +kernel) (late V pre_writes 0 (by decide +kernel)) :)

theorem pre_v1 : after pre V main_v1 =
    ((shapeCast S4x2304x4096 · shapeCasts_S9216x4096_S4x2304x4096) : (⟨S9216x4096, .f32⟩ : BufTy).Contents (Elt F) → (⟨S4x2304x4096, .f32⟩ : BufTy).Contents (Elt F)) (after pre V main_v0) :=
  uncast (readR (x := main_v0) (y := main_v1) (s := S9216x4096) (s' := S4x2304x4096) pre_writes 1 rfl (by decide +kernel) rfl rfl shapeCasts_S9216x4096_S4x2304x4096 (late V pre_writes 1 (by decide +kernel)))

theorem pre_v2 : after pre V main_v2 =
    ((extractStridedSlice S4x2048x1024 ![0, 0, 0] · slices_S4x2304x4096_S4x2048x1024_0_0_0) : (⟨S4x2304x4096, .f32⟩ : BufTy).Contents (Elt F) → (⟨S4x2048x1024, .f32⟩ : BufTy).Contents (Elt F)) (after pre V main_v1) :=
  (readU (x := main_v1) (y := main_v2) pre_writes 2 rfl (by decide +kernel) (late V pre_writes 2 (by decide +kernel)) :)

theorem pre_v3 : after pre V main_v3 =
    ((shapeCast S4x2048x4x256 · shapeCasts_S4x2048x1024_S4x2048x4x256) : (⟨S4x2048x1024, .f32⟩ : BufTy).Contents (Elt F) → (⟨S4x2048x4x256, .f32⟩ : BufTy).Contents (Elt F)) (after pre V main_v2) :=
  uncast (readR (x := main_v2) (y := main_v3) (s := S4x2048x1024) (s' := S4x2048x4x256) pre_writes 3 rfl (by decide +kernel) rfl rfl shapeCasts_S4x2048x1024_S4x2048x4x256 (late V pre_writes 3 (by decide +kernel)))

theorem pre_v4 : after pre V main_v4 =
    ((extractStridedSlice S4x2048x1024 ![0, 0, 1024] · slices_S4x2304x4096_S4x2048x1024_0_0_1024) : (⟨S4x2304x4096, .f32⟩ : BufTy).Contents (Elt F) → (⟨S4x2048x1024, .f32⟩ : BufTy).Contents (Elt F)) (after pre V main_v1) :=
  (readU (x := main_v1) (y := main_v4) pre_writes 4 rfl (by decide +kernel) (late V pre_writes 4 (by decide +kernel)) :)

theorem pre_v5 : after pre V main_v5 =
    ((shapeCast S4x2048x4x256 · shapeCasts_S4x2048x1024_S4x2048x4x256) : (⟨S4x2048x1024, .f32⟩ : BufTy).Contents (Elt F) → (⟨S4x2048x4x256, .f32⟩ : BufTy).Contents (Elt F)) (after pre V main_v4) :=
  uncast (readR (x := main_v4) (y := main_v5) (s := S4x2048x1024) (s' := S4x2048x4x256) pre_writes 5 rfl (by decide +kernel) rfl rfl shapeCasts_S4x2048x1024_S4x2048x4x256 (late V pre_writes 5 (by decide +kernel)))

theorem pre_v6 : after pre V main_v6 =
    ((extractStridedSlice S4x2048x2048 ![0, 0, 2048] · slices_S4x2304x4096_S4x2048x2048_0_0_2048) : (⟨S4x2304x4096, .f32⟩ : BufTy).Contents (Elt F) → (⟨S4x2048x2048, .f32⟩ : BufTy).Contents (Elt F)) (after pre V main_v1) :=
  (readU (x := main_v1) (y := main_v6) pre_writes 6 rfl (by decide +kernel) (late V pre_writes 6 (by decide +kernel)) :)

theorem pre_v7 : after pre V main_v7 =
    ((shapeCast S4x2048x4x512 · shapeCasts_S4x2048x2048_S4x2048x4x512) : (⟨S4x2048x2048, .f32⟩ : BufTy).Contents (Elt F) → (⟨S4x2048x4x512, .f32⟩ : BufTy).Contents (Elt F)) (after pre V main_v6) :=
  uncast (readR (x := main_v6) (y := main_v7) (s := S4x2048x2048) (s' := S4x2048x4x512) pre_writes 7 rfl (by decide +kernel) rfl rfl shapeCasts_S4x2048x2048_S4x2048x4x512 (late V pre_writes 7 (by decide +kernel)))

theorem pre_v8 : after pre V main_v8 =
    ((extractStridedSlice S4x256x1024 ![0, 2048, 1024] · slices_S4x2304x4096_S4x256x1024_0_2048_1024) : (⟨S4x2304x4096, .f32⟩ : BufTy).Contents (Elt F) → (⟨S4x256x1024, .f32⟩ : BufTy).Contents (Elt F)) (after pre V main_v1) :=
  (readU (x := main_v1) (y := main_v8) pre_writes 8 rfl (by decide +kernel) (late V pre_writes 8 (by decide +kernel)) :)

theorem pre_v9 : after pre V main_v9 =
    ((shapeCast S4x256x4x256 · shapeCasts_S4x256x1024_S4x256x4x256) : (⟨S4x256x1024, .f32⟩ : BufTy).Contents (Elt F) → (⟨S4x256x4x256, .f32⟩ : BufTy).Contents (Elt F)) (after pre V main_v8) :=
  uncast (readR (x := main_v8) (y := main_v9) (s := S4x256x1024) (s' := S4x256x4x256) pre_writes 9 rfl (by decide +kernel) rfl rfl shapeCasts_S4x256x1024_S4x256x4x256 (late V pre_writes 9 (by decide +kernel)))

theorem pre_v10 : after pre V main_v10 =
    ((extractStridedSlice S4x256x2048 ![0, 2048, 2048] · slices_S4x2304x4096_S4x256x2048_0_2048_2048) : (⟨S4x2304x4096, .f32⟩ : BufTy).Contents (Elt F) → (⟨S4x256x2048, .f32⟩ : BufTy).Contents (Elt F)) (after pre V main_v1) :=
  (readU (x := main_v1) (y := main_v10) pre_writes 10 rfl (by decide +kernel) (late V pre_writes 10 (by decide +kernel)) :)

theorem pre_v11 : after pre V main_v11 =
    ((shapeCast S4x256x4x512 · shapeCasts_S4x256x2048_S4x256x4x512) : (⟨S4x256x2048, .f32⟩ : BufTy).Contents (Elt F) → (⟨S4x256x4x512, .f32⟩ : BufTy).Contents (Elt F)) (after pre V main_v10) :=
  uncast (readR (x := main_v10) (y := main_v11) (s := S4x256x2048) (s' := S4x256x4x512) pre_writes 11 rfl (by decide +kernel) rfl rfl shapeCasts_S4x256x2048_S4x256x4x512 (late V pre_writes 11 (by decide +kernel)))

theorem pre_v12 : after pre V main_v12 =
    ((extf .f32 · bitsLt_bf16_f32) : (⟨S9216x2048, .bf16⟩ : BufTy).Contents (Elt F) → (⟨S9216x2048, .f32⟩ : BufTy).Contents (Elt F)) (after pre V main_arg2) :=
  (readU (x := main_arg2) (y := main_v12) pre_writes 12 rfl (by decide +kernel) (late V pre_writes 12 (by decide +kernel)) :)

theorem pre_v13 : after pre V main_v13 =
    ((shapeCast S4x2304x2048 · shapeCasts_S9216x2048_S4x2304x2048) : (⟨S9216x2048, .f32⟩ : BufTy).Contents (Elt F) → (⟨S4x2304x2048, .f32⟩ : BufTy).Contents (Elt F)) (after pre V main_v12) :=
  uncast (readR (x := main_v12) (y := main_v13) (s := S9216x2048) (s' := S4x2304x2048) pre_writes 13 rfl (by decide +kernel) rfl rfl shapeCasts_S9216x2048_S4x2304x2048 (late V pre_writes 13 (by decide +kernel)))

theorem pre_v14 : after pre V main_v14 =
    ((extractStridedSlice S4x2048x2048 ![0, 0, 0] · slices_S4x2304x2048_S4x2048x2048_0_0_0) : (⟨S4x2304x2048, .f32⟩ : BufTy).Contents (Elt F) → (⟨S4x2048x2048, .f32⟩ : BufTy).Contents (Elt F)) (after pre V main_v13) :=
  (readU (x := main_v13) (y := main_v14) pre_writes 14 rfl (by decide +kernel) (late V pre_writes 14 (by decide +kernel)) :)

theorem pre_v15 : after pre V main_v15 =
    ((shapeCast S4x2048x4x512 · shapeCasts_S4x2048x2048_S4x2048x4x512) : (⟨S4x2048x2048, .f32⟩ : BufTy).Contents (Elt F) → (⟨S4x2048x4x512, .f32⟩ : BufTy).Contents (Elt F)) (after pre V main_v14) :=
  uncast (readR (x := main_v14) (y := main_v15) (s := S4x2048x2048) (s' := S4x2048x4x512) pre_writes 15 rfl (by decide +kernel) rfl rfl shapeCasts_S4x2048x2048_S4x2048x4x512 (late V pre_writes 15 (by decide +kernel)))

theorem pre_v16 : after pre V main_v16 =
    ((extractStridedSlice S8x1 ![0, 0] · slices_S8x128_S8x1_0_0) : (⟨S8x128, .f32⟩ : BufTy).Contents (Elt F) → (⟨S8x1, .f32⟩ : BufTy).Contents (Elt F)) (after pre V main_arg1) :=
  (readU (x := main_arg1) (y := main_v16) pre_writes 16 rfl (by decide +kernel) (late V pre_writes 16 (by decide +kernel)) :)

theorem pre_v17 : after pre V main_v17 =
    ((shapeCast S8 · shapeCasts_S8x1_S8) : (⟨S8x1, .f32⟩ : BufTy).Contents (Elt F) → (⟨S8, .f32⟩ : BufTy).Contents (Elt F)) (after pre V main_v16) :=
  uncast (readR (x := main_v16) (y := main_v17) (s := S8x1) (s' := S8) pre_writes 17 rfl (by decide +kernel) rfl rfl shapeCasts_S8x1_S8 (late V pre_writes 17 (by decide +kernel)))

theorem pre_v18 : after pre V main_v18 =
    ((shapeCast S2x4 · shapeCasts_S8_S2x4) : (⟨S8, .f32⟩ : BufTy).Contents (Elt F) → (⟨S2x4, .f32⟩ : BufTy).Contents (Elt F)) (after pre V main_v17) :=
  uncast (readR (x := main_v17) (y := main_v18) (s := S8) (s' := S2x4) pre_writes 18 rfl (by decide +kernel) rfl rfl shapeCasts_S8_S2x4 (late V pre_writes 18 (by decide +kernel)))

theorem pre_v19 : after pre V main_v19 =
    (Host.reverse [1]) (after pre V main_v9) :=
  (readU (x := main_v9) (y := main_v19) pre_writes 19 rfl (by decide +kernel) (late V pre_writes 19 (by decide +kernel)) :)

theorem pre_v20 : after pre V main_v20 =
    (broadcastInDim S1x4x256x4x256 ![1, 2, 3, 4] bcast_S4x256x4x256_S1x4x256x4x256_1_2_3_4 : (⟨S4x256x4x256, .f32⟩ : BufTy).Contents (Elt F) → (⟨S1x4x256x4x256, .f32⟩ : BufTy).Contents (Elt F)) (after pre V main_v9) :=
  (readU (x := main_v9) (y := main_v20) pre_writes 20 rfl (by decide +kernel) (late V pre_writes 20 (by decide +kernel)) :)

theorem pre_v21 : after pre V main_v21 =
    (broadcastInDim S1x4x256x4x256 ![1, 2, 3, 4] bcast_S4x256x4x256_S1x4x256x4x256_1_2_3_4 : (⟨S4x256x4x256, .f32⟩ : BufTy).Contents (Elt F) → (⟨S1x4x256x4x256, .f32⟩ : BufTy).Contents (Elt F)) (after pre V main_v19) :=
  (readU (x := main_v19) (y := main_v21) pre_writes 21 rfl (by decide +kernel) (late V pre_writes 21 (by decide +kernel)) :)

theorem pre_v22 : after pre V main_v22 =
    ((fun a b => concatenate S2x4x256x4x256 0 [⟨S1x4x256x4x256, a⟩, ⟨S1x4x256x4x256, b⟩] concatenates_S1x4x256x4x256_S1x4x256x4x256_S2x4x256x4x256_d0) : (⟨S1x4x256x4x256, .f32⟩ : BufTy).Contents (Elt F) → (⟨S1x4x256x4x256, .f32⟩ : BufTy).Contents (Elt F) → (⟨S2x4x256x4x256, .f32⟩ : BufTy).Contents (Elt F)) (after pre V main_v20) (after pre V main_v21) :=
  read2 (a := main_v20) (b := main_v21) (y := main_v22) pre_writes 22 rfl (by decide +kernel) ((fun a b => concatenate S2x4x256x4x256 0 [⟨S1x4x256x4x256, a⟩, ⟨S1x4x256x4x256, b⟩] concatenates_S1x4x256x4x256_S1x4x256x4x256_S2x4x256x4x256_d0) : (⟨S1x4x256x4x256, .f32⟩ : BufTy).Contents (Elt F) → (⟨S1x4x256x4x256, .f32⟩ : BufTy).Contents (Elt F) → (⟨S2x4x256x4x256, .f32⟩ : BufTy).Contents (Elt F)) (fun _ => StableHlo.binary_result ..) (late V pre_writes 22 (by decide +kernel)) (late V pre_writes 22 (by decide +kernel))

theorem pre_v23 : after pre V main_v23 =
    (Host.reverse [1]) (after pre V main_v11) :=
  (readU (x := main_v11) (y := main_v23) pre_writes 23 rfl (by decide +kernel) (late V pre_writes 23 (by decide +kernel)) :)

theorem pre_v24 : after pre V main_v24 =
    (broadcastInDim S1x4x256x4x512 ![1, 2, 3, 4] bcast_S4x256x4x512_S1x4x256x4x512_1_2_3_4 : (⟨S4x256x4x512, .f32⟩ : BufTy).Contents (Elt F) → (⟨S1x4x256x4x512, .f32⟩ : BufTy).Contents (Elt F)) (after pre V main_v11) :=
  (readU (x := main_v11) (y := main_v24) pre_writes 24 rfl (by decide +kernel) (late V pre_writes 24 (by decide +kernel)) :)

theorem pre_v25 : after pre V main_v25 =
    (broadcastInDim S1x4x256x4x512 ![1, 2, 3, 4] bcast_S4x256x4x512_S1x4x256x4x512_1_2_3_4 : (⟨S4x256x4x512, .f32⟩ : BufTy).Contents (Elt F) → (⟨S1x4x256x4x512, .f32⟩ : BufTy).Contents (Elt F)) (after pre V main_v23) :=
  (readU (x := main_v23) (y := main_v25) pre_writes 25 rfl (by decide +kernel) (late V pre_writes 25 (by decide +kernel)) :)

theorem pre_v26 : after pre V main_v26 =
    ((fun a b => concatenate S2x4x256x4x512 0 [⟨S1x4x256x4x512, a⟩, ⟨S1x4x256x4x512, b⟩] concatenates_S1x4x256x4x512_S1x4x256x4x512_S2x4x256x4x512_d0) : (⟨S1x4x256x4x512, .f32⟩ : BufTy).Contents (Elt F) → (⟨S1x4x256x4x512, .f32⟩ : BufTy).Contents (Elt F) → (⟨S2x4x256x4x512, .f32⟩ : BufTy).Contents (Elt F)) (after pre V main_v24) (after pre V main_v25) :=
  read2 (a := main_v24) (b := main_v25) (y := main_v26) pre_writes 26 rfl (by decide +kernel) ((fun a b => concatenate S2x4x256x4x512 0 [⟨S1x4x256x4x512, a⟩, ⟨S1x4x256x4x512, b⟩] concatenates_S1x4x256x4x512_S1x4x256x4x512_S2x4x256x4x512_d0) : (⟨S1x4x256x4x512, .f32⟩ : BufTy).Contents (Elt F) → (⟨S1x4x256x4x512, .f32⟩ : BufTy).Contents (Elt F) → (⟨S2x4x256x4x512, .f32⟩ : BufTy).Contents (Elt F)) (fun _ => StableHlo.binary_result ..) (late V pre_writes 26 (by decide +kernel)) (late V pre_writes 26 (by decide +kernel))

theorem pre_v27 : after pre V main_v27 =
    (sitofp .f32 (iotaInDim S256 32 0)) :=
  read0 (y := main_v27) pre_writes 27 rfl (by decide +kernel) (fun _ => StableHlo.nullary_result ..)

theorem pre_v28 : after pre V main_v28 =
    (broadcastInDim S2x1x4 ![0, 2] bcast_S2x4_S2x1x4_0_2 : (⟨S2x4, .f32⟩ : BufTy).Contents (Elt F) → (⟨S2x1x4, .f32⟩ : BufTy).Contents (Elt F)) (after pre V main_v18) :=
  (readU (x := main_v18) (y := main_v28) pre_writes 28 rfl (by decide +kernel) (late V pre_writes 28 (by decide +kernel)) :)

theorem pre_cst : after pre V main_cst =
    (constant S_ .f32 0x437F0000#32) :=
  read0 (y := main_cst) pre_writes 29 rfl (by decide +kernel) (fun _ => StableHlo.nullary_result ..)

theorem pre_v29 : after pre V main_v29 =
    (broadcastInDim S256 ![] bcast_S_S256 : (⟨S_, .f32⟩ : BufTy).Contents (Elt F) → (⟨S256, .f32⟩ : BufTy).Contents (Elt F)) (after pre V main_cst) :=
  (readU (x := main_cst) (y := main_v29) pre_writes 30 rfl (by decide +kernel) (late V pre_writes 30 (by decide +kernel)) :)

theorem pre_v30 : after pre V main_v30 =
    (subf : (⟨S256, .f32⟩ : BufTy).Contents (Elt F) → (⟨S256, .f32⟩ : BufTy).Contents (Elt F) → (⟨S256, .f32⟩ : BufTy).Contents (Elt F)) (after pre V main_v29) (after pre V main_v27) :=
  read2 (a := main_v29) (b := main_v27) (y := main_v30) pre_writes 31 rfl (by decide +kernel) (subf : (⟨S256, .f32⟩ : BufTy).Contents (Elt F) → (⟨S256, .f32⟩ : BufTy).Contents (Elt F) → (⟨S256, .f32⟩ : BufTy).Contents (Elt F)) (fun _ => StableHlo.binary_result ..) (late V pre_writes 31 (by decide +kernel)) (late V pre_writes 31 (by decide +kernel))

theorem pre_v31 : after pre V main_v31 =
    (broadcastInDim S256x1 ![0] bcast_S256_S256x1_0 : (⟨S256, .f32⟩ : BufTy).Contents (Elt F) → (⟨S256x1, .f32⟩ : BufTy).Contents (Elt F)) (after pre V main_v30) :=
  (readU (x := main_v30) (y := main_v31) pre_writes 32 rfl (by decide +kernel) (late V pre_writes 32 (by decide +kernel)) :)

theorem pre_v32 : after pre V main_v32 =
    (broadcastInDim S1x256x1 ![1, 2] bcast_S256x1_S1x256x1_1_2 : (⟨S256x1, .f32⟩ : BufTy).Contents (Elt F) → (⟨S1x256x1, .f32⟩ : BufTy).Contents (Elt F)) (after pre V main_v31) :=
  (readU (x := main_v31) (y := main_v32) pre_writes 33 rfl (by decide +kernel) (late V pre_writes 33 (by decide +kernel)) :)

theorem pre_v33 : after pre V main_v33 =
    (broadcastInDim S2x256x4 ![0, 1, 2] bcast_S2x1x4_S2x256x4_0_1_2 : (⟨S2x1x4, .f32⟩ : BufTy).Contents (Elt F) → (⟨S2x256x4, .f32⟩ : BufTy).Contents (Elt F)) (after pre V main_v28) :=
  (readU (x := main_v28) (y := main_v33) pre_writes 34 rfl (by decide +kernel) (late V pre_writes 34 (by decide +kernel)) :)

theorem pre_v34 : after pre V main_v34 =
    (broadcastInDim S2x256x4 ![0, 1, 2] bcast_S1x256x1_S2x256x4_0_1_2 : (⟨S1x256x1, .f32⟩ : BufTy).Contents (Elt F) → (⟨S2x256x4, .f32⟩ : BufTy).Contents (Elt F)) (after pre V main_v32) :=
  (readU (x := main_v32) (y := main_v34) pre_writes 35 rfl (by decide +kernel) (late V pre_writes 35 (by decide +kernel)) :)

theorem pre_v35 : after pre V main_v35 =
    (mulf : (⟨S2x256x4, .f32⟩ : BufTy).Contents (Elt F) → (⟨S2x256x4, .f32⟩ : BufTy).Contents (Elt F) → (⟨S2x256x4, .f32⟩ : BufTy).Contents (Elt F)) (after pre V main_v33) (after pre V main_v34) :=
  read2 (a := main_v33) (b := main_v34) (y := main_v35) pre_writes 36 rfl (by decide +kernel) (mulf : (⟨S2x256x4, .f32⟩ : BufTy).Contents (Elt F) → (⟨S2x256x4, .f32⟩ : BufTy).Contents (Elt F) → (⟨S2x256x4, .f32⟩ : BufTy).Contents (Elt F)) (fun _ => StableHlo.binary_result ..) (late V pre_writes 36 (by decide +kernel)) (late V pre_writes 36 (by decide +kernel))

theorem pre_v36 : after pre V main_v36 =
    (Host.exp : (⟨S2x256x4, .f32⟩ : BufTy).Contents (Elt F) → (⟨S2x256x4, .f32⟩ : BufTy).Contents (Elt F)) (after pre V main_v35) :=
  (readU (x := main_v35) (y := main_v36) pre_writes 37 rfl (by decide +kernel) (late V pre_writes 37 (by decide +kernel)) :)

theorem pre_v37 : after pre V main_v37 =
    (broadcastInDim S2x1x256x4x1 ![0, 2, 3] bcast_S2x256x4_S2x1x256x4x1_0_2_3 : (⟨S2x256x4, .f32⟩ : BufTy).Contents (Elt F) → (⟨S2x1x256x4x1, .f32⟩ : BufTy).Contents (Elt F)) (after pre V main_v36) :=
  (readU (x := main_v36) (y := main_v37) pre_writes 38 rfl (by decide +kernel) (late V pre_writes 38 (by decide +kernel)) :)

theorem pre_v38 : after pre V main_v38 =
    (broadcastInDim S2x4x256x4x256 ![0, 1, 2, 3, 4] bcast_S2x1x256x4x1_S2x4x256x4x256_0_1_2_3_4 : (⟨S2x1x256x4x1, .f32⟩ : BufTy).Contents (Elt F) → (⟨S2x4x256x4x256, .f32⟩ : BufTy).Contents (Elt F)) (after pre V main_v37) :=
  (readU (x := main_v37) (y := main_v38) pre_writes 39 rfl (by decide +kernel) (late V pre_writes 39 (by decide +kernel)) :)

theorem pre_v39 : after pre V main_v39 =
    (mulf : (⟨S2x4x256x4x256, .f32⟩ : BufTy).Contents (Elt F) → (⟨S2x4x256x4x256, .f32⟩ : BufTy).Contents (Elt F) → (⟨S2x4x256x4x256, .f32⟩ : BufTy).Contents (Elt F)) (after pre V main_v22) (after pre V main_v38) :=
  read2 (a := main_v22) (b := main_v38) (y := main_v39) pre_writes 40 rfl (by decide +kernel) (mulf : (⟨S2x4x256x4x256, .f32⟩ : BufTy).Contents (Elt F) → (⟨S2x4x256x4x256, .f32⟩ : BufTy).Contents (Elt F) → (⟨S2x4x256x4x256, .f32⟩ : BufTy).Contents (Elt F)) (fun _ => StableHlo.binary_result ..) (late V pre_writes 40 (by decide +kernel)) (late V pre_writes 40 (by decide +kernel))

theorem pre_v40 : after pre V main_v40 =
    ((fun l r => Host.dotGeneral dot_S2x4x256x4x256_S2x4x256x4x512_S2x4x4x256x512_2_2_4_4_013_013 none l r) : (⟨S2x4x256x4x256, .f32⟩ : BufTy).Contents (Elt F) → (⟨S2x4x256x4x512, .f32⟩ : BufTy).Contents (Elt F) → (⟨S2x4x4x256x512, .f32⟩ : BufTy).Contents (Elt F)) (after pre V main_v39) (after pre V main_v26) :=
  read2 (a := main_v39) (b := main_v26) (y := main_v40) pre_writes 41 rfl (by decide +kernel) ((fun l r => Host.dotGeneral dot_S2x4x256x4x256_S2x4x256x4x512_S2x4x4x256x512_2_2_4_4_013_013 none l r) : (⟨S2x4x256x4x256, .f32⟩ : BufTy).Contents (Elt F) → (⟨S2x4x256x4x512, .f32⟩ : BufTy).Contents (Elt F) → (⟨S2x4x4x256x512, .f32⟩ : BufTy).Contents (Elt F)) (fun _ => StableHlo.binary_result ..) (late V pre_writes 41 (by decide +kernel)) (late V pre_writes 41 (by decide +kernel))

theorem pre_v41 : after pre V main_v41 =
    (Host.reverse [1]) (after pre V main_v3) :=
  (readU (x := main_v3) (y := main_v41) pre_writes 42 rfl (by decide +kernel) (late V pre_writes 42 (by decide +kernel)) :)

theorem pre_v42 : after pre V main_v42 =
    (broadcastInDim S1x4x2048x4x256 ![1, 2, 3, 4] bcast_S4x2048x4x256_S1x4x2048x4x256_1_2_3_4 : (⟨S4x2048x4x256, .f32⟩ : BufTy).Contents (Elt F) → (⟨S1x4x2048x4x256, .f32⟩ : BufTy).Contents (Elt F)) (after pre V main_v3) :=
  (readU (x := main_v3) (y := main_v42) pre_writes 43 rfl (by decide +kernel) (late V pre_writes 43 (by decide +kernel)) :)

theorem pre_v43 : after pre V main_v43 =
    (broadcastInDim S1x4x2048x4x256 ![1, 2, 3, 4] bcast_S4x2048x4x256_S1x4x2048x4x256_1_2_3_4 : (⟨S4x2048x4x256, .f32⟩ : BufTy).Contents (Elt F) → (⟨S1x4x2048x4x256, .f32⟩ : BufTy).Contents (Elt F)) (after pre V main_v41) :=
  (readU (x := main_v41) (y := main_v43) pre_writes 44 rfl (by decide +kernel) (late V pre_writes 44 (by decide +kernel)) :)

theorem pre_v44 : after pre V main_v44 =
    ((fun a b => concatenate S2x4x2048x4x256 0 [⟨S1x4x2048x4x256, a⟩, ⟨S1x4x2048x4x256, b⟩] concatenates_S1x4x2048x4x256_S1x4x2048x4x256_S2x4x2048x4x256_d0) : (⟨S1x4x2048x4x256, .f32⟩ : BufTy).Contents (Elt F) → (⟨S1x4x2048x4x256, .f32⟩ : BufTy).Contents (Elt F) → (⟨S2x4x2048x4x256, .f32⟩ : BufTy).Contents (Elt F)) (after pre V main_v42) (after pre V main_v43) :=
  read2 (a := main_v42) (b := main_v43) (y := main_v44) pre_writes 45 rfl (by decide +kernel) ((fun a b => concatenate S2x4x2048x4x256 0 [⟨S1x4x2048x4x256, a⟩, ⟨S1x4x2048x4x256, b⟩] concatenates_S1x4x2048x4x256_S1x4x2048x4x256_S2x4x2048x4x256_d0) : (⟨S1x4x2048x4x256, .f32⟩ : BufTy).Contents (Elt F) → (⟨S1x4x2048x4x256, .f32⟩ : BufTy).Contents (Elt F) → (⟨S2x4x2048x4x256, .f32⟩ : BufTy).Contents (Elt F)) (fun _ => StableHlo.binary_result ..) (late V pre_writes 45 (by decide +kernel)) (late V pre_writes 45 (by decide +kernel))

theorem pre_v45 : after pre V main_v45 =
    (Host.reverse [1]) (after pre V main_v5) :=
  (readU (x := main_v5) (y := main_v45) pre_writes 46 rfl (by decide +kernel) (late V pre_writes 46 (by decide +kernel)) :)

theorem pre_v46 : after pre V main_v46 =
    (broadcastInDim S1x4x2048x4x256 ![1, 2, 3, 4] bcast_S4x2048x4x256_S1x4x2048x4x256_1_2_3_4 : (⟨S4x2048x4x256, .f32⟩ : BufTy).Contents (Elt F) → (⟨S1x4x2048x4x256, .f32⟩ : BufTy).Contents (Elt F)) (after pre V main_v5) :=
  (readU (x := main_v5) (y := main_v46) pre_writes 47 rfl (by decide +kernel) (late V pre_writes 47 (by decide +kernel)) :)

theorem pre_v47 : after pre V main_v47 =
    (broadcastInDim S1x4x2048x4x256 ![1, 2, 3, 4] bcast_S4x2048x4x256_S1x4x2048x4x256_1_2_3_4 : (⟨S4x2048x4x256, .f32⟩ : BufTy).Contents (Elt F) → (⟨S1x4x2048x4x256, .f32⟩ : BufTy).Contents (Elt F)) (after pre V main_v45) :=
  (readU (x := main_v45) (y := main_v47) pre_writes 48 rfl (by decide +kernel) (late V pre_writes 48 (by decide +kernel)) :)

theorem pre_v48 : after pre V main_v48 =
    ((fun a b => concatenate S2x4x2048x4x256 0 [⟨S1x4x2048x4x256, a⟩, ⟨S1x4x2048x4x256, b⟩] concatenates_S1x4x2048x4x256_S1x4x2048x4x256_S2x4x2048x4x256_d0) : (⟨S1x4x2048x4x256, .f32⟩ : BufTy).Contents (Elt F) → (⟨S1x4x2048x4x256, .f32⟩ : BufTy).Contents (Elt F) → (⟨S2x4x2048x4x256, .f32⟩ : BufTy).Contents (Elt F)) (after pre V main_v46) (after pre V main_v47) :=
  read2 (a := main_v46) (b := main_v47) (y := main_v48) pre_writes 49 rfl (by decide +kernel) ((fun a b => concatenate S2x4x2048x4x256 0 [⟨S1x4x2048x4x256, a⟩, ⟨S1x4x2048x4x256, b⟩] concatenates_S1x4x2048x4x256_S1x4x2048x4x256_S2x4x2048x4x256_d0) : (⟨S1x4x2048x4x256, .f32⟩ : BufTy).Contents (Elt F) → (⟨S1x4x2048x4x256, .f32⟩ : BufTy).Contents (Elt F) → (⟨S2x4x2048x4x256, .f32⟩ : BufTy).Contents (Elt F)) (fun _ => StableHlo.binary_result ..) (late V pre_writes 49 (by decide +kernel)) (late V pre_writes 49 (by decide +kernel))

theorem pre_v49 : after pre V main_v49 =
    (Host.reverse [1]) (after pre V main_v7) :=
  (readU (x := main_v7) (y := main_v49) pre_writes 50 rfl (by decide +kernel) (late V pre_writes 50 (by decide +kernel)) :)

theorem pre_v50 : after pre V main_v50 =
    (broadcastInDim S1x4x2048x4x512 ![1, 2, 3, 4] bcast_S4x2048x4x512_S1x4x2048x4x512_1_2_3_4 : (⟨S4x2048x4x512, .f32⟩ : BufTy).Contents (Elt F) → (⟨S1x4x2048x4x512, .f32⟩ : BufTy).Contents (Elt F)) (after pre V main_v7) :=
  (readU (x := main_v7) (y := main_v50) pre_writes 51 rfl (by decide +kernel) (late V pre_writes 51 (by decide +kernel)) :)

theorem pre_v51 : after pre V main_v51 =
    (broadcastInDim S1x4x2048x4x512 ![1, 2, 3, 4] bcast_S4x2048x4x512_S1x4x2048x4x512_1_2_3_4 : (⟨S4x2048x4x512, .f32⟩ : BufTy).Contents (Elt F) → (⟨S1x4x2048x4x512, .f32⟩ : BufTy).Contents (Elt F)) (after pre V main_v49) :=
  (readU (x := main_v49) (y := main_v51) pre_writes 52 rfl (by decide +kernel) (late V pre_writes 52 (by decide +kernel)) :)

theorem pre_v52 : after pre V main_v52 =
    ((fun a b => concatenate S2x4x2048x4x512 0 [⟨S1x4x2048x4x512, a⟩, ⟨S1x4x2048x4x512, b⟩] concatenates_S1x4x2048x4x512_S1x4x2048x4x512_S2x4x2048x4x512_d0) : (⟨S1x4x2048x4x512, .f32⟩ : BufTy).Contents (Elt F) → (⟨S1x4x2048x4x512, .f32⟩ : BufTy).Contents (Elt F) → (⟨S2x4x2048x4x512, .f32⟩ : BufTy).Contents (Elt F)) (after pre V main_v50) (after pre V main_v51) :=
  read2 (a := main_v50) (b := main_v51) (y := main_v52) pre_writes 53 rfl (by decide +kernel) ((fun a b => concatenate S2x4x2048x4x512 0 [⟨S1x4x2048x4x512, a⟩, ⟨S1x4x2048x4x512, b⟩] concatenates_S1x4x2048x4x512_S1x4x2048x4x512_S2x4x2048x4x512_d0) : (⟨S1x4x2048x4x512, .f32⟩ : BufTy).Contents (Elt F) → (⟨S1x4x2048x4x512, .f32⟩ : BufTy).Contents (Elt F) → (⟨S2x4x2048x4x512, .f32⟩ : BufTy).Contents (Elt F)) (fun _ => StableHlo.binary_result ..) (late V pre_writes 53 (by decide +kernel)) (late V pre_writes 53 (by decide +kernel))

theorem pre_v53 : after pre V main_v53 =
    (sitofp .f32 (iotaInDim S128 32 0)) :=
  read0 (y := main_v53) pre_writes 54 rfl (by decide +kernel) (fun _ => StableHlo.nullary_result ..)

theorem pre_v54 : after pre V main_v54 =
    (broadcastInDim S128x1 ![0] bcast_S128_S128x1_0 : (⟨S128, .f32⟩ : BufTy).Contents (Elt F) → (⟨S128x1, .f32⟩ : BufTy).Contents (Elt F)) (after pre V main_v53) :=
  (readU (x := main_v53) (y := main_v54) pre_writes 55 rfl (by decide +kernel) (late V pre_writes 55 (by decide +kernel)) :)

theorem pre_v55 : after pre V main_v55 =
    (broadcastInDim S1x128 ![1] bcast_S128_S1x128_1 : (⟨S128, .f32⟩ : BufTy).Contents (Elt F) → (⟨S1x128, .f32⟩ : BufTy).Contents (Elt F)) (after pre V main_v53) :=
  (readU (x := main_v53) (y := main_v55) pre_writes 56 rfl (by decide +kernel) (late V pre_writes 56 (by decide +kernel)) :)

theorem pre_v56 : after pre V main_v56 =
    (broadcastInDim S128x128 ![0, 1] bcast_S128x1_S128x128_0_1 : (⟨S128x1, .f32⟩ : BufTy).Contents (Elt F) → (⟨S128x128, .f32⟩ : BufTy).Contents (Elt F)) (after pre V main_v54) :=
  (readU (x := main_v54) (y := main_v56) pre_writes 57 rfl (by decide +kernel) (late V pre_writes 57 (by decide +kernel)) :)

theorem pre_v57 : after pre V main_v57 =
    (broadcastInDim S128x128 ![0, 1] bcast_S1x128_S128x128_0_1 : (⟨S1x128, .f32⟩ : BufTy).Contents (Elt F) → (⟨S128x128, .f32⟩ : BufTy).Contents (Elt F)) (after pre V main_v55) :=
  (readU (x := main_v55) (y := main_v57) pre_writes 58 rfl (by decide +kernel) (late V pre_writes 58 (by decide +kernel)) :)

theorem pre_v58 : after pre V main_v58 =
    (subf : (⟨S128x128, .f32⟩ : BufTy).Contents (Elt F) → (⟨S128x128, .f32⟩ : BufTy).Contents (Elt F) → (⟨S128x128, .f32⟩ : BufTy).Contents (Elt F)) (after pre V main_v56) (after pre V main_v57) :=
  read2 (a := main_v56) (b := main_v57) (y := main_v58) pre_writes 59 rfl (by decide +kernel) (subf : (⟨S128x128, .f32⟩ : BufTy).Contents (Elt F) → (⟨S128x128, .f32⟩ : BufTy).Contents (Elt F) → (⟨S128x128, .f32⟩ : BufTy).Contents (Elt F)) (fun _ => StableHlo.binary_result ..) (late V pre_writes 59 (by decide +kernel)) (late V pre_writes 59 (by decide +kernel))

theorem pre_cst_0 : after pre V main_cst_0 =
    (constant S_ .f32 0x00000000#32) :=
  read0 (y := main_cst_0) pre_writes 60 rfl (by decide +kernel) (fun _ => StableHlo.nullary_result ..)

theorem pre_v59 : after pre V main_v59 =
    (broadcastInDim S128x128 ![] bcast_S_S128x128 : (⟨S_, .f32⟩ : BufTy).Contents (Elt F) → (⟨S128x128, .f32⟩ : BufTy).Contents (Elt F)) (after pre V main_cst_0) :=
  (readU (x := main_cst_0) (y := main_v59) pre_writes 61 rfl (by decide +kernel) (late V pre_writes 61 (by decide +kernel)) :)

theorem pre_v60 : after pre V main_v60 =
    (cmpf .oge : (⟨S128x128, .f32⟩ : BufTy).Contents (Elt F) → (⟨S128x128, .f32⟩ : BufTy).Contents (Elt F) → (⟨S128x128, .i1⟩ : BufTy).Contents (Elt F)) (after pre V main_v58) (after pre V main_v59) :=
  read2 (a := main_v58) (b := main_v59) (y := main_v60) pre_writes 62 rfl (by decide +kernel) (cmpf .oge : (⟨S128x128, .f32⟩ : BufTy).Contents (Elt F) → (⟨S128x128, .f32⟩ : BufTy).Contents (Elt F) → (⟨S128x128, .i1⟩ : BufTy).Contents (Elt F)) (fun _ => StableHlo.binary_result ..) (late V pre_writes 62 (by decide +kernel)) (late V pre_writes 62 (by decide +kernel))

theorem pre_v61 : after pre V main_v61 =
    (broadcastInDim S2x4x1x1 ![0, 1] bcast_S2x4_S2x4x1x1_0_1 : (⟨S2x4, .f32⟩ : BufTy).Contents (Elt F) → (⟨S2x4x1x1, .f32⟩ : BufTy).Contents (Elt F)) (after pre V main_v18) :=
  (readU (x := main_v18) (y := main_v61) pre_writes 63 rfl (by decide +kernel) (late V pre_writes 63 (by decide +kernel)) :)

theorem pre_cst_1 : after pre V main_cst_1 =
    (constant S_ .f32 0x00000000#32) :=
  read0 (y := main_cst_1) pre_writes 64 rfl (by decide +kernel) (fun _ => StableHlo.nullary_result ..)

theorem pre_v62 : after pre V main_v62 =
    (broadcastInDim S128x128 ![] bcast_S_S128x128 : (⟨S_, .f32⟩ : BufTy).Contents (Elt F) → (⟨S128x128, .f32⟩ : BufTy).Contents (Elt F)) (after pre V main_cst_1) :=
  (readU (x := main_cst_1) (y := main_v62) pre_writes 65 rfl (by decide +kernel) (late V pre_writes 65 (by decide +kernel)) :)

theorem pre_v63 : after pre V main_v63 =
    (maximumf : (⟨S128x128, .f32⟩ : BufTy).Contents (Elt F) → (⟨S128x128, .f32⟩ : BufTy).Contents (Elt F) → (⟨S128x128, .f32⟩ : BufTy).Contents (Elt F)) (after pre V main_v58) (after pre V main_v62) :=
  read2 (a := main_v58) (b := main_v62) (y := main_v63) pre_writes 66 rfl (by decide +kernel) (maximumf : (⟨S128x128, .f32⟩ : BufTy).Contents (Elt F) → (⟨S128x128, .f32⟩ : BufTy).Contents (Elt F) → (⟨S128x128, .f32⟩ : BufTy).Contents (Elt F)) (fun _ => StableHlo.binary_result ..) (late V pre_writes 66 (by decide +kernel)) (late V pre_writes 66 (by decide +kernel))

theorem pre_v64 : after pre V main_v64 =
    (broadcastInDim S1x128x128 ![1, 2] bcast_S128x128_S1x128x128_1_2 : (⟨S128x128, .f32⟩ : BufTy).Contents (Elt F) → (⟨S1x128x128, .f32⟩ : BufTy).Contents (Elt F)) (after pre V main_v63) :=
  (readU (x := main_v63) (y := main_v64) pre_writes 67 rfl (by decide +kernel) (late V pre_writes 67 (by decide +kernel)) :)

theorem pre_v65 : after pre V main_v65 =
    (broadcastInDim S1x1x128x128 ![1, 2, 3] bcast_S1x128x128_S1x1x128x128_1_2_3 : (⟨S1x128x128, .f32⟩ : BufTy).Contents (Elt F) → (⟨S1x1x128x128, .f32⟩ : BufTy).Contents (Elt F)) (after pre V main_v64) :=
  (readU (x := main_v64) (y := main_v65) pre_writes 68 rfl (by decide +kernel) (late V pre_writes 68 (by decide +kernel)) :)

theorem pre_v66 : after pre V main_v66 =
    (broadcastInDim S2x4x128x128 ![0, 1, 2, 3] bcast_S2x4x1x1_S2x4x128x128_0_1_2_3 : (⟨S2x4x1x1, .f32⟩ : BufTy).Contents (Elt F) → (⟨S2x4x128x128, .f32⟩ : BufTy).Contents (Elt F)) (after pre V main_v61) :=
  (readU (x := main_v61) (y := main_v66) pre_writes 69 rfl (by decide +kernel) (late V pre_writes 69 (by decide +kernel)) :)

theorem pre_v67 : after pre V main_v67 =
    (broadcastInDim S2x4x128x128 ![0, 1, 2, 3] bcast_S1x1x128x128_S2x4x128x128_0_1_2_3 : (⟨S1x1x128x128, .f32⟩ : BufTy).Contents (Elt F) → (⟨S2x4x128x128, .f32⟩ : BufTy).Contents (Elt F)) (after pre V main_v65) :=
  (readU (x := main_v65) (y := main_v67) pre_writes 70 rfl (by decide +kernel) (late V pre_writes 70 (by decide +kernel)) :)

theorem pre_v68 : after pre V main_v68 =
    (mulf : (⟨S2x4x128x128, .f32⟩ : BufTy).Contents (Elt F) → (⟨S2x4x128x128, .f32⟩ : BufTy).Contents (Elt F) → (⟨S2x4x128x128, .f32⟩ : BufTy).Contents (Elt F)) (after pre V main_v66) (after pre V main_v67) :=
  read2 (a := main_v66) (b := main_v67) (y := main_v68) pre_writes 71 rfl (by decide +kernel) (mulf : (⟨S2x4x128x128, .f32⟩ : BufTy).Contents (Elt F) → (⟨S2x4x128x128, .f32⟩ : BufTy).Contents (Elt F) → (⟨S2x4x128x128, .f32⟩ : BufTy).Contents (Elt F)) (fun _ => StableHlo.binary_result ..) (late V pre_writes 71 (by decide +kernel)) (late V pre_writes 71 (by decide +kernel))

theorem pre_v69 : after pre V main_v69 =
    (Host.exp : (⟨S2x4x128x128, .f32⟩ : BufTy).Contents (Elt F) → (⟨S2x4x128x128, .f32⟩ : BufTy).Contents (Elt F)) (after pre V main_v68) :=
  (readU (x := main_v68) (y := main_v69) pre_writes 72 rfl (by decide +kernel) (late V pre_writes 72 (by decide +kernel)) :)

theorem pre_cst_2 : after pre V main_cst_2 =
    (constant S_ .f32 0x00000000#32) :=
  read0 (y := main_cst_2) pre_writes 73 rfl (by decide +kernel) (fun _ => StableHlo.nullary_result ..)

theorem pre_call5_v0 : after pre V main_call5_v0 =
    id (after pre V main_cst_2) :=
  (readU (x := main_cst_2) (y := main_call5_v0) pre_writes 74 rfl (by decide +kernel) (late V pre_writes 74 (by decide +kernel)) :)

theorem pre_call5_v1 : after pre V main_call5_v1 =
    (broadcastInDim S4x128x128 ![1, 2] bcast_S128x128_S4x128x128_1_2) (after pre V main_v60) :=
  (readU (x := main_v60) (y := main_call5_v1) pre_writes 75 rfl (by decide +kernel) (late V pre_writes 75 (by decide +kernel)) :)

theorem pre_call5_v2 : after pre V main_call5_v2 =
    (broadcastInDim S4x128x128 ![] bcast_S_S4x128x128) (after pre V main_call5_v0) :=
  (readU (x := main_call5_v0) (y := main_call5_v2) pre_writes 76 rfl (by decide +kernel) (late V pre_writes 76 (by decide +kernel)) :)

theorem pre_call5_v3 : after pre V main_call5_v3 =
    (broadcastInDim S2x4x128x128 ![1, 2, 3] bcast_S4x128x128_S2x4x128x128_1_2_3) (after pre V main_call5_v1) :=
  (readU (x := main_call5_v1) (y := main_call5_v3) pre_writes 77 rfl (by decide +kernel) (late V pre_writes 77 (by decide +kernel)) :)

theorem pre_call5_v4 : after pre V main_call5_v4 =
    (broadcastInDim S2x4x128x128 ![1, 2, 3] bcast_S4x128x128_S2x4x128x128_1_2_3) (after pre V main_call5_v2) :=
  (readU (x := main_call5_v2) (y := main_call5_v4) pre_writes 78 rfl (by decide +kernel) (late V pre_writes 78 (by decide +kernel)) :)

theorem pre_v70 : after pre V main_v70 =
    select (after pre V main_call5_v3) (after pre V main_v69) (after pre V main_call5_v4) :=
  read3 (c := main_call5_v3) (a := main_v69) (b := main_call5_v4) (y := main_v70) pre_writes 79 rfl (by decide +kernel) select (fun _ => StableHlo.ternary_result ..) (late V pre_writes 79 (by decide +kernel)) (late V pre_writes 79 (by decide +kernel)) (late V pre_writes 79 (by decide +kernel))

theorem pre_v71 : after pre V main_v71 =
    (broadcastInDim S2x1x4 ![0, 2] bcast_S2x4_S2x1x4_0_2 : (⟨S2x4, .f32⟩ : BufTy).Contents (Elt F) → (⟨S2x1x4, .f32⟩ : BufTy).Contents (Elt F)) (after pre V main_v18) :=
  (readU (x := main_v18) (y := main_v71) pre_writes 80 rfl (by decide +kernel) (late V pre_writes 80 (by decide +kernel)) :)

theorem pre_cst_3 : after pre V main_cst_3 =
    (constant S_ .f32 0x3F800000#32) :=
  read0 (y := main_cst_3) pre_writes 81 rfl (by decide +kernel) (fun _ => StableHlo.nullary_result ..)

theorem pre_v72 : after pre V main_v72 =
    (broadcastInDim S128 ![] bcast_S_S128 : (⟨S_, .f32⟩ : BufTy).Contents (Elt F) → (⟨S128, .f32⟩ : BufTy).Contents (Elt F)) (after pre V main_cst_3) :=
  (readU (x := main_cst_3) (y := main_v72) pre_writes 82 rfl (by decide +kernel) (late V pre_writes 82 (by decide +kernel)) :)

theorem pre_v73 : after pre V main_v73 =
    (addf : (⟨S128, .f32⟩ : BufTy).Contents (Elt F) → (⟨S128, .f32⟩ : BufTy).Contents (Elt F) → (⟨S128, .f32⟩ : BufTy).Contents (Elt F)) (after pre V main_v53) (after pre V main_v72) :=
  read2 (a := main_v53) (b := main_v72) (y := main_v73) pre_writes 83 rfl (by decide +kernel) (addf : (⟨S128, .f32⟩ : BufTy).Contents (Elt F) → (⟨S128, .f32⟩ : BufTy).Contents (Elt F) → (⟨S128, .f32⟩ : BufTy).Contents (Elt F)) (fun _ => StableHlo.binary_result ..) (late V pre_writes 83 (by decide +kernel)) (late V pre_writes 83 (by decide +kernel))

theorem pre_v74 : after pre V main_v74 =
    (broadcastInDim S128x1 ![0] bcast_S128_S128x1_0 : (⟨S128, .f32⟩ : BufTy).Contents (Elt F) → (⟨S128x1, .f32⟩ : BufTy).Contents (Elt F)) (after pre V main_v73) :=
  (readU (x := main_v73) (y := main_v74) pre_writes 84 rfl (by decide +kernel) (late V pre_writes 84 (by decide +kernel)) :)

theorem pre_v75 : after pre V main_v75 =
    (broadcastInDim S1x128x1 ![1, 2] bcast_S128x1_S1x128x1_1_2 : (⟨S128x1, .f32⟩ : BufTy).Contents (Elt F) → (⟨S1x128x1, .f32⟩ : BufTy).Contents (Elt F)) (after pre V main_v74) :=
  (readU (x := main_v74) (y := main_v75) pre_writes 85 rfl (by decide +kernel) (late V pre_writes 85 (by decide +kernel)) :)

theorem pre_v76 : after pre V main_v76 =
    (broadcastInDim S2x128x4 ![0, 1, 2] bcast_S2x1x4_S2x128x4_0_1_2 : (⟨S2x1x4, .f32⟩ : BufTy).Contents (Elt F) → (⟨S2x128x4, .f32⟩ : BufTy).Contents (Elt F)) (after pre V main_v71) :=
  (readU (x := main_v71) (y := main_v76) pre_writes 86 rfl (by decide +kernel) (late V pre_writes 86 (by decide +kernel)) :)

theorem pre_v77 : after pre V main_v77 =
    (broadcastInDim S2x128x4 ![0, 1, 2] bcast_S1x128x1_S2x128x4_0_1_2 : (⟨S1x128x1, .f32⟩ : BufTy).Contents (Elt F) → (⟨S2x128x4, .f32⟩ : BufTy).Contents (Elt F)) (after pre V main_v75) :=
  (readU (x := main_v75) (y := main_v77) pre_writes 87 rfl (by decide +kernel) (late V pre_writes 87 (by decide +kernel)) :)

theorem pre_v78 : after pre V main_v78 =
    (mulf : (⟨S2x128x4, .f32⟩ : BufTy).Contents (Elt F) → (⟨S2x128x4, .f32⟩ : BufTy).Contents (Elt F) → (⟨S2x128x4, .f32⟩ : BufTy).Contents (Elt F)) (after pre V main_v76) (after pre V main_v77) :=
  read2 (a := main_v76) (b := main_v77) (y := main_v78) pre_writes 88 rfl (by decide +kernel) (mulf : (⟨S2x128x4, .f32⟩ : BufTy).Contents (Elt F) → (⟨S2x128x4, .f32⟩ : BufTy).Contents (Elt F) → (⟨S2x128x4, .f32⟩ : BufTy).Contents (Elt F)) (fun _ => StableHlo.binary_result ..) (late V pre_writes 88 (by decide +kernel)) (late V pre_writes 88 (by decide +kernel))

theorem pre_v79 : after pre V main_v79 =
    (Host.exp : (⟨S2x128x4, .f32⟩ : BufTy).Contents (Elt F) → (⟨S2x128x4, .f32⟩ : BufTy).Contents (Elt F)) (after pre V main_v78) :=
  (readU (x := main_v78) (y := main_v79) pre_writes 89 rfl (by decide +kernel) (late V pre_writes 89 (by decide +kernel)) :)

theorem pre_v80 : after pre V main_v80 =
    (broadcastInDim S2x1x128x4x1 ![0, 2, 3] bcast_S2x128x4_S2x1x128x4x1_0_2_3 : (⟨S2x128x4, .f32⟩ : BufTy).Contents (Elt F) → (⟨S2x1x128x4x1, .f32⟩ : BufTy).Contents (Elt F)) (after pre V main_v79) :=
  (readU (x := main_v79) (y := main_v80) pre_writes 90 rfl (by decide +kernel) (late V pre_writes 90 (by decide +kernel)) :)

theorem pre_v81 : after pre V main_v81 =
    (broadcastInDim S2x1x4 ![0, 2] bcast_S2x4_S2x1x4_0_2 : (⟨S2x4, .f32⟩ : BufTy).Contents (Elt F) → (⟨S2x1x4, .f32⟩ : BufTy).Contents (Elt F)) (after pre V main_v18) :=
  (readU (x := main_v18) (y := main_v81) pre_writes 91 rfl (by decide +kernel) (late V pre_writes 91 (by decide +kernel)) :)

theorem pre_cst_4 : after pre V main_cst_4 =
    (constant S_ .f32 0x42FE0000#32) :=
  read0 (y := main_cst_4) pre_writes 92 rfl (by decide +kernel) (fun _ => StableHlo.nullary_result ..)

theorem pre_v82 : after pre V main_v82 =
    (broadcastInDim S128 ![] bcast_S_S128 : (⟨S_, .f32⟩ : BufTy).Contents (Elt F) → (⟨S128, .f32⟩ : BufTy).Contents (Elt F)) (after pre V main_cst_4) :=
  (readU (x := main_cst_4) (y := main_v82) pre_writes 93 rfl (by decide +kernel) (late V pre_writes 93 (by decide +kernel)) :)

theorem pre_v83 : after pre V main_v83 =
    (subf : (⟨S128, .f32⟩ : BufTy).Contents (Elt F) → (⟨S128, .f32⟩ : BufTy).Contents (Elt F) → (⟨S128, .f32⟩ : BufTy).Contents (Elt F)) (after pre V main_v82) (after pre V main_v53) :=
  read2 (a := main_v82) (b := main_v53) (y := main_v83) pre_writes 94 rfl (by decide +kernel) (subf : (⟨S128, .f32⟩ : BufTy).Contents (Elt F) → (⟨S128, .f32⟩ : BufTy).Contents (Elt F) → (⟨S128, .f32⟩ : BufTy).Contents (Elt F)) (fun _ => StableHlo.binary_result ..) (late V pre_writes 94 (by decide +kernel)) (late V pre_writes 94 (by decide +kernel))

theorem pre_v84 : after pre V main_v84 =
    (broadcastInDim S128x1 ![0] bcast_S128_S128x1_0 : (⟨S128, .f32⟩ : BufTy).Contents (Elt F) → (⟨S128x1, .f32⟩ : BufTy).Contents (Elt F)) (after pre V main_v83) :=
  (readU (x := main_v83) (y := main_v84) pre_writes 95 rfl (by decide +kernel) (late V pre_writes 95 (by decide +kernel)) :)

theorem pre_v85 : after pre V main_v85 =
    (broadcastInDim S1x128x1 ![1, 2] bcast_S128x1_S1x128x1_1_2 : (⟨S128x1, .f32⟩ : BufTy).Contents (Elt F) → (⟨S1x128x1, .f32⟩ : BufTy).Contents (Elt F)) (after pre V main_v84) :=
  (readU (x := main_v84) (y := main_v85) pre_writes 96 rfl (by decide +kernel) (late V pre_writes 96 (by decide +kernel)) :)

theorem pre_v86 : after pre V main_v86 =
    (broadcastInDim S2x128x4 ![0, 1, 2] bcast_S2x1x4_S2x128x4_0_1_2 : (⟨S2x1x4, .f32⟩ : BufTy).Contents (Elt F) → (⟨S2x128x4, .f32⟩ : BufTy).Contents (Elt F)) (after pre V main_v81) :=
  (readU (x := main_v81) (y := main_v86) pre_writes 97 rfl (by decide +kernel) (late V pre_writes 97 (by decide +kernel)) :)

theorem pre_v87 : after pre V main_v87 =
    (broadcastInDim S2x128x4 ![0, 1, 2] bcast_S1x128x1_S2x128x4_0_1_2 : (⟨S1x128x1, .f32⟩ : BufTy).Contents (Elt F) → (⟨S2x128x4, .f32⟩ : BufTy).Contents (Elt F)) (after pre V main_v85) :=
  (readU (x := main_v85) (y := main_v87) pre_writes 98 rfl (by decide +kernel) (late V pre_writes 98 (by decide +kernel)) :)

theorem pre_v88 : after pre V main_v88 =
    (mulf : (⟨S2x128x4, .f32⟩ : BufTy).Contents (Elt F) → (⟨S2x128x4, .f32⟩ : BufTy).Contents (Elt F) → (⟨S2x128x4, .f32⟩ : BufTy).Contents (Elt F)) (after pre V main_v86) (after pre V main_v87) :=
  read2 (a := main_v86) (b := main_v87) (y := main_v88) pre_writes 99 rfl (by decide +kernel) (mulf : (⟨S2x128x4, .f32⟩ : BufTy).Contents (Elt F) → (⟨S2x128x4, .f32⟩ : BufTy).Contents (Elt F) → (⟨S2x128x4, .f32⟩ : BufTy).Contents (Elt F)) (fun _ => StableHlo.binary_result ..) (late V pre_writes 99 (by decide +kernel)) (late V pre_writes 99 (by decide +kernel))

theorem pre_v89 : after pre V main_v89 =
    (Host.exp : (⟨S2x128x4, .f32⟩ : BufTy).Contents (Elt F) → (⟨S2x128x4, .f32⟩ : BufTy).Contents (Elt F)) (after pre V main_v88) :=
  (readU (x := main_v88) (y := main_v89) pre_writes 100 rfl (by decide +kernel) (late V pre_writes 100 (by decide +kernel)) :)

theorem pre_v90 : after pre V main_v90 =
    (broadcastInDim S2x1x128x4x1 ![0, 2, 3] bcast_S2x128x4_S2x1x128x4x1_0_2_3 : (⟨S2x128x4, .f32⟩ : BufTy).Contents (Elt F) → (⟨S2x1x128x4x1, .f32⟩ : BufTy).Contents (Elt F)) (after pre V main_v89) :=
  (readU (x := main_v89) (y := main_v90) pre_writes 101 rfl (by decide +kernel) (late V pre_writes 101 (by decide +kernel)) :)

theorem pre_cst_5 : after pre V main_cst_5 =
    (constant S_ .f32 0x43000000#32) :=
  read0 (y := main_cst_5) pre_writes 102 rfl (by decide +kernel) (fun _ => StableHlo.nullary_result ..)

theorem pre_v91 : after pre V main_v91 =
    (broadcastInDim S2x4 ![] bcast_S_S2x4 : (⟨S_, .f32⟩ : BufTy).Contents (Elt F) → (⟨S2x4, .f32⟩ : BufTy).Contents (Elt F)) (after pre V main_cst_5) :=
  (readU (x := main_cst_5) (y := main_v91) pre_writes 103 rfl (by decide +kernel) (late V pre_writes 103 (by decide +kernel)) :)

theorem pre_v92 : after pre V main_v92 =
    (mulf : (⟨S2x4, .f32⟩ : BufTy).Contents (Elt F) → (⟨S2x4, .f32⟩ : BufTy).Contents (Elt F) → (⟨S2x4, .f32⟩ : BufTy).Contents (Elt F)) (after pre V main_v18) (after pre V main_v91) :=
  read2 (a := main_v18) (b := main_v91) (y := main_v92) pre_writes 104 rfl (by decide +kernel) (mulf : (⟨S2x4, .f32⟩ : BufTy).Contents (Elt F) → (⟨S2x4, .f32⟩ : BufTy).Contents (Elt F) → (⟨S2x4, .f32⟩ : BufTy).Contents (Elt F)) (fun _ => StableHlo.binary_result ..) (late V pre_writes 104 (by decide +kernel)) (late V pre_writes 104 (by decide +kernel))

theorem pre_v93 : after pre V main_v93 =
    (Host.exp : (⟨S2x4, .f32⟩ : BufTy).Contents (Elt F) → (⟨S2x4, .f32⟩ : BufTy).Contents (Elt F)) (after pre V main_v92) :=
  (readU (x := main_v92) (y := main_v93) pre_writes 105 rfl (by decide +kernel) (late V pre_writes 105 (by decide +kernel)) :)

theorem pre_v94 : after pre V main_v94 =
    (broadcastInDim S2x1x4x1x1 ![0, 2] bcast_S2x4_S2x1x4x1x1_0_2 : (⟨S2x4, .f32⟩ : BufTy).Contents (Elt F) → (⟨S2x1x4x1x1, .f32⟩ : BufTy).Contents (Elt F)) (after pre V main_v93) :=
  (readU (x := main_v93) (y := main_v94) pre_writes 106 rfl (by decide +kernel) (late V pre_writes 106 (by decide +kernel)) :)

theorem pre_v95 : after pre V main_v95 =
    ((shapeCast S2x4x16x128x4x256 · shapeCasts_S2x4x2048x4x256_S2x4x16x128x4x256) : (⟨S2x4x2048x4x256, .f32⟩ : BufTy).Contents (Elt F) → (⟨S2x4x16x128x4x256, .f32⟩ : BufTy).Contents (Elt F)) (after pre V main_v44) :=
  uncast (readR (x := main_v44) (y := main_v95) (s := S2x4x2048x4x256) (s' := S2x4x16x128x4x256) pre_writes 107 rfl (by decide +kernel) rfl rfl shapeCasts_S2x4x2048x4x256_S2x4x16x128x4x256 (late V pre_writes 107 (by decide +kernel)))

theorem pre_v96 : after pre V main_v96 =
    ((transpose S2x16x4x128x4x256 [0, 2, 1, 3, 4, 5] · transposes_S2x4x16x128x4x256_S2x16x4x128x4x256_0_2_1_3_4_5) : (⟨S2x4x16x128x4x256, .f32⟩ : BufTy).Contents (Elt F) → (⟨S2x16x4x128x4x256, .f32⟩ : BufTy).Contents (Elt F)) (after pre V main_v95) :=
  (readU (x := main_v95) (y := main_v96) pre_writes 108 rfl (by decide +kernel) (late V pre_writes 108 (by decide +kernel)) :)

theorem pre_v97 : after pre V main_v97 =
    ((shapeCast S2x4x16x128x4x256 · shapeCasts_S2x4x2048x4x256_S2x4x16x128x4x256) : (⟨S2x4x2048x4x256, .f32⟩ : BufTy).Contents (Elt F) → (⟨S2x4x16x128x4x256, .f32⟩ : BufTy).Contents (Elt F)) (after pre V main_v48) :=
  uncast (readR (x := main_v48) (y := main_v97) (s := S2x4x2048x4x256) (s' := S2x4x16x128x4x256) pre_writes 109 rfl (by decide +kernel) rfl rfl shapeCasts_S2x4x2048x4x256_S2x4x16x128x4x256 (late V pre_writes 109 (by decide +kernel)))

theorem pre_v98 : after pre V main_v98 =
    ((transpose S2x16x4x128x4x256 [0, 2, 1, 3, 4, 5] · transposes_S2x4x16x128x4x256_S2x16x4x128x4x256_0_2_1_3_4_5) : (⟨S2x4x16x128x4x256, .f32⟩ : BufTy).Contents (Elt F) → (⟨S2x16x4x128x4x256, .f32⟩ : BufTy).Contents (Elt F)) (after pre V main_v97) :=
  (readU (x := main_v97) (y := main_v98) pre_writes 110 rfl (by decide +kernel) (late V pre_writes 110 (by decide +kernel)) :)

theorem pre_v99 : after pre V main_v99 =
    ((shapeCast S2x4x16x128x4x512 · shapeCasts_S2x4x2048x4x512_S2x4x16x128x4x512) : (⟨S2x4x2048x4x512, .f32⟩ : BufTy).Contents (Elt F) → (⟨S2x4x16x128x4x512, .f32⟩ : BufTy).Contents (Elt F)) (after pre V main_v52) :=
  uncast (readR (x := main_v52) (y := main_v99) (s := S2x4x2048x4x512) (s' := S2x4x16x128x4x512) pre_writes 111 rfl (by decide +kernel) rfl rfl shapeCasts_S2x4x2048x4x512_S2x4x16x128x4x512 (late V pre_writes 111 (by decide +kernel)))

theorem pre_v100 : after pre V main_v100 =
    ((transpose S2x16x4x128x4x512 [0, 2, 1, 3, 4, 5] · transposes_S2x4x16x128x4x512_S2x16x4x128x4x512_0_2_1_3_4_5) : (⟨S2x4x16x128x4x512, .f32⟩ : BufTy).Contents (Elt F) → (⟨S2x16x4x128x4x512, .f32⟩ : BufTy).Contents (Elt F)) (after pre V main_v99) :=
  (readU (x := main_v99) (y := main_v100) pre_writes 112 rfl (by decide +kernel) (late V pre_writes 112 (by decide +kernel)) :)

theorem pre_v101 : after pre V main_v101 =
    ((transpose S16x2x4x128x4x256 [1, 0, 2, 3, 4, 5] · transposes_S2x16x4x128x4x256_S16x2x4x128x4x256_1_0_2_3_4_5) : (⟨S2x16x4x128x4x256, .f32⟩ : BufTy).Contents (Elt F) → (⟨S16x2x4x128x4x256, .f32⟩ : BufTy).Contents (Elt F)) (after pre V main_v96) :=
  (readU (x := main_v96) (y := main_v101) pre_writes 113 rfl (by decide +kernel) (late V pre_writes 113 (by decide +kernel)) :)

theorem pre_v102 : after pre V main_v102 =
    ((transpose S16x2x4x128x4x256 [1, 0, 2, 3, 4, 5] · transposes_S2x16x4x128x4x256_S16x2x4x128x4x256_1_0_2_3_4_5) : (⟨S2x16x4x128x4x256, .f32⟩ : BufTy).Contents (Elt F) → (⟨S16x2x4x128x4x256, .f32⟩ : BufTy).Contents (Elt F)) (after pre V main_v98) :=
  (readU (x := main_v98) (y := main_v102) pre_writes 114 rfl (by decide +kernel) (late V pre_writes 114 (by decide +kernel)) :)

theorem pre_v103 : after pre V main_v103 =
    ((transpose S16x2x4x128x4x512 [1, 0, 2, 3, 4, 5] · transposes_S2x16x4x128x4x512_S16x2x4x128x4x512_1_0_2_3_4_5) : (⟨S2x16x4x128x4x512, .f32⟩ : BufTy).Contents (Elt F) → (⟨S16x2x4x128x4x512, .f32⟩ : BufTy).Contents (Elt F)) (after pre V main_v100) :=
  (readU (x := main_v100) (y := main_v103) pre_writes 115 rfl (by decide +kernel) (late V pre_writes 115 (by decide +kernel)) :)

theorem pre_v104 : after pre V main_v104 =
    (broadcastInDim S2x1x4x128x128 ![0, 2, 3, 4] bcast_S2x4x128x128_S2x1x4x128x128_0_2_3_4 : (⟨S2x4x128x128, .f32⟩ : BufTy).Contents (Elt F) → (⟨S2x1x4x128x128, .f32⟩ : BufTy).Contents (Elt F)) (after pre V main_v70) :=
  (readU (x := main_v70) (y := main_v104) pre_writes 116 rfl (by decide +kernel) (late V pre_writes 116 (by decide +kernel)) :)

theorem pre_cst_6 : after pre V main_cst_6 =
    (constant S_ .f32 0x00000000#32) :=
  read0 (y := main_cst_6) pre_writes 117 rfl (by decide +kernel) (fun _ => StableHlo.nullary_result ..)

theorem pre_v105 : after pre V main_v105 =
    (broadcastInDim S16x2x4x128x4x512 ![] bcast_S_S16x2x4x128x4x512 : (⟨S_, .f32⟩ : BufTy).Contents (Elt F) → (⟨S16x2x4x128x4x512, .f32⟩ : BufTy).Contents (Elt F)) (after pre V main_cst_6) :=
  (readU (x := main_cst_6) (y := main_v105) pre_writes 118 rfl (by decide +kernel) (late V pre_writes 118 (by decide +kernel)) :)

theorem pre_cst_7 : after pre V main_cst_7 =
    (constant S_ .f32 0x00000000#32) :=
  read0 (y := main_cst_7) pre_writes 119 rfl (by decide +kernel) (fun _ => StableHlo.nullary_result ..)

theorem pre_v106 : after pre V main_v106 =
    (broadcastInDim S16x2x4x4x128x128 ![] bcast_S_S16x2x4x4x128x128 : (⟨S_, .f32⟩ : BufTy).Contents (Elt F) → (⟨S16x2x4x4x128x128, .f32⟩ : BufTy).Contents (Elt F)) (after pre V main_cst_7) :=
  (readU (x := main_cst_7) (y := main_v106) pre_writes 120 rfl (by decide +kernel) (late V pre_writes 120 (by decide +kernel)) :)

theorem pre_cst_8 : after pre V main_cst_8 =
    (constant S_ .f32 0x00000000#32) :=
  read0 (y := main_cst_8) pre_writes 121 rfl (by decide +kernel) (fun _ => StableHlo.nullary_result ..)

theorem pre_v107 : after pre V main_v107 =
    (broadcastInDim S16x2x4x4x256x512 ![] bcast_S_S16x2x4x4x256x512 : (⟨S_, .f32⟩ : BufTy).Contents (Elt F) → (⟨S16x2x4x4x256x512, .f32⟩ : BufTy).Contents (Elt F)) (after pre V main_cst_8) :=
  (readU (x := main_cst_8) (y := main_v107) pre_writes 122 rfl (by decide +kernel) (late V pre_writes 122 (by decide +kernel)) :)

theorem pre_cst_9 : after pre V main_cst_9 =
    (constant S_ .f32 0x00000000#32) :=
  read0 (y := main_cst_9) pre_writes 123 rfl (by decide +kernel) (fun _ => StableHlo.nullary_result ..)

theorem pre_v108 : after pre V main_v108 =
    (broadcastInDim S16x2x4x128x4x256 ![] bcast_S_S16x2x4x128x4x256 : (⟨S_, .f32⟩ : BufTy).Contents (Elt F) → (⟨S16x2x4x128x4x256, .f32⟩ : BufTy).Contents (Elt F)) (after pre V main_cst_9) :=
  (readU (x := main_cst_9) (y := main_v108) pre_writes 124 rfl (by decide +kernel) (late V pre_writes 124 (by decide +kernel)) :)

theorem pre_c : after pre V main_c =
    (constantI S_ 32 0#32) :=
  read0 (y := main_c) pre_writes 125 rfl (by decide +kernel) (fun _ => StableHlo.nullary_result ..)

theorem pre_v109_0 : after pre V main_v109_0 =
    id (after pre V main_v101) :=
  (readU (x := main_v101) (y := main_v109_0) pre_writes 126 rfl (by decide +kernel) (late V pre_writes 126 (by decide +kernel)) :)

theorem pre_v109_1 : after pre V main_v109_1 =
    id (after pre V main_v102) :=
  (readU (x := main_v102) (y := main_v109_1) pre_writes 127 rfl (by decide +kernel) (late V pre_writes 127 (by decide +kernel)) :)

theorem pre_v109_2 : after pre V main_v109_2 =
    id (after pre V main_v103) :=
  (readU (x := main_v103) (y := main_v109_2) pre_writes 128 rfl (by decide +kernel) (late V pre_writes 128 (by decide +kernel)) :)

theorem pre_v109_3 : after pre V main_v109_3 =
    id (after pre V main_v94) :=
  (readU (x := main_v94) (y := main_v109_3) pre_writes 129 rfl (by decide +kernel) (late V pre_writes 129 (by decide +kernel)) :)

theorem pre_v109_4 : after pre V main_v109_4 =
    id (after pre V main_v90) :=
  (readU (x := main_v90) (y := main_v109_4) pre_writes 130 rfl (by decide +kernel) (late V pre_writes 130 (by decide +kernel)) :)

theorem pre_v109_5 : after pre V main_v109_5 =
    id (after pre V main_v104) :=
  (readU (x := main_v104) (y := main_v109_5) pre_writes 131 rfl (by decide +kernel) (late V pre_writes 131 (by decide +kernel)) :)

theorem pre_v109_6 : after pre V main_v109_6 =
    id (after pre V main_v80) :=
  (readU (x := main_v80) (y := main_v109_6) pre_writes 132 rfl (by decide +kernel) (late V pre_writes 132 (by decide +kernel)) :)

theorem pre_v109_7 : after pre V main_v109_7 =
    id (after pre V main_c) :=
  (readU (x := main_c) (y := main_v109_7) pre_writes 133 rfl (by decide +kernel) (late V pre_writes 133 (by decide +kernel)) :)

theorem pre_v109_8 : after pre V main_v109_8 =
    id (after pre V main_v40) :=
  (readU (x := main_v40) (y := main_v109_8) pre_writes 134 rfl (by decide +kernel) (late V pre_writes 134 (by decide +kernel)) :)

theorem pre_v109_9 : after pre V main_v109_9 =
    id (after pre V main_v105) :=
  (readU (x := main_v105) (y := main_v109_9) pre_writes 135 rfl (by decide +kernel) (late V pre_writes 135 (by decide +kernel)) :)

theorem pre_v109_10 : after pre V main_v109_10 =
    id (after pre V main_v106) :=
  (readU (x := main_v106) (y := main_v109_10) pre_writes 136 rfl (by decide +kernel) (late V pre_writes 136 (by decide +kernel)) :)

theorem pre_v109_11 : after pre V main_v109_11 =
    id (after pre V main_v107) :=
  (readU (x := main_v107) (y := main_v109_11) pre_writes 137 rfl (by decide +kernel) (late V pre_writes 137 (by decide +kernel)) :)

theorem pre_v109_12 : after pre V main_v109_12 =
    id (after pre V main_v108) :=
  (readU (x := main_v108) (y := main_v109_12) pre_writes 138 rfl (by decide +kernel) (late V pre_writes 138 (by decide +kernel)) :)

end Cert.ReferenceIdeal.Run
-- ==== Proof.RefEqB.lean ====
/-
  The buffers of one trip of the forward loop, one operation at a time.
-/
module

public import proofs.«01_k».proof.Proof.RefOpsB
public import proofs.«01_k».proof.Proof.LineReads

@[expose] public section

set_option maxRecDepth 4000

noncomputable section

namespace Cert.ReferenceIdeal.Run

open Idealize.ShloMosaic Idealize.SL.Sem Cert.ReferenceIdeal
open Facts₀ Facts Cert.LineReads
open Idealize.ShloMosaic.TcCoe
open Idealize.ShloMosaic.StableHlo (after)

variable {F : FTy → Type} [FloatOps F] (V : Valuation τ sig (Elt F))

/-- What `body0` writes, in order. -/
noncomputable def body0W : List (Ref sig .tc) :=
  [main_while0b_call6_c, main_while0b_call6_c_0, main_while0b_call6_c_1, main_while0b_call6_c_2, main_while0b_call6_c_3, main_while0b_call6_v0, main_while0b_v191, main_while0b_call7_c, main_while0b_call7_c_0, main_while0b_call7_c_1, main_while0b_call7_c_2, main_while0b_call7_c_3, main_while0b_call7_v0, main_while0b_v192, main_while0b_call8_c, main_while0b_call8_c_0, main_while0b_call8_c_1, main_while0b_call8_c_2, main_while0b_call8_c_3, main_while0b_call8_v0, main_while0b_v193, main_while0b_v194, main_while0b_v195, main_while0b_v196, main_while0b_v197, main_while0b_v198, main_while0b_v199, main_while0b_v200, main_while0b_v201, main_while0b_v202, main_while0b_v203, main_while0b_v204, main_while0b_v205, main_while0b_v206, main_while0b_v207, main_while0b_v208, main_while0b_v209, main_while0b_call9_v0, main_while0b_call9_c, main_while0b_call9_c_0, main_while0b_call9_c_1, main_while0b_call9_c_2, main_while0b_call9_c_3, main_while0b_v210, main_while0b_call10_v0, main_while0b_call10_c, main_while0b_call10_c_0, main_while0b_call10_c_1, main_while0b_call10_c_2, main_while0b_call10_c_3, main_while0b_v211, main_while0b_call11_v0, main_while0b_call11_c, main_while0b_call11_c_0, main_while0b_call11_c_1, main_while0b_call11_c_2, main_while0b_call11_c_3, main_while0b_v212, main_while0b_call12_v0, main_while0b_call12_c, main_while0b_call12_c_0, main_while0b_call12_c_1, main_while0b_call12_c_2, main_while0b_call12_c_3, main_while0b_v213, main_while0b_c_30, main_while0b_v214, main_v109_7, main_v109_8, main_v109_9, main_v109_10, main_v109_11, main_v109_12]

set_option maxRecDepth 8000 in
theorem body0_writes : Writes (body0 (F := F)) body0W := by
  rfl

theorem body0_while0b_call6_c : after body0 V main_while0b_call6_c =
    (constantI S_ 32 0#32) :=
  read0 (y := main_while0b_call6_c) body0_writes 0 rfl (by decide +kernel) (fun _ => StableHlo.nullary_result ..)

theorem body0_while0b_call6_c_0 : after body0 V main_while0b_call6_c_0 =
    (constantI S_ 32 0#32) :=
  read0 (y := main_while0b_call6_c_0) body0_writes 1 rfl (by decide +kernel) (fun _ => StableHlo.nullary_result ..)

theorem body0_while0b_call6_c_1 : after body0 V main_while0b_call6_c_1 =
    (constantI S_ 32 0#32) :=
  read0 (y := main_while0b_call6_c_1) body0_writes 2 rfl (by decide +kernel) (fun _ => StableHlo.nullary_result ..)

theorem body0_while0b_call6_c_2 : after body0 V main_while0b_call6_c_2 =
    (constantI S_ 32 0#32) :=
  read0 (y := main_while0b_call6_c_2) body0_writes 3 rfl (by decide +kernel) (fun _ => StableHlo.nullary_result ..)

theorem body0_while0b_call6_c_3 : after body0 V main_while0b_call6_c_3 =
    (constantI S_ 32 0#32) :=
  read0 (y := main_while0b_call6_c_3) body0_writes 4 rfl (by decide +kernel) (fun _ => StableHlo.nullary_result ..)

theorem body0_while0b_call6_v0 : after body0 V main_while0b_call6_v0 =
    (fun x i => Host.dynamicSlice S1x2x4x128x4x256 x (fun k => (i k (Shape.Idx.first h_S_)).toInt) sliceFits_S16x2x4x128x4x256_S1x2x4x128x4x256) (after body0 V main_v109_0) ![V main_v109_7, after body0 V main_while0b_call6_c, after body0 V main_while0b_call6_c_0, after body0 V main_while0b_call6_c_1, after body0 V main_while0b_call6_c_2, after body0 V main_while0b_call6_c_3] :=
  read1I body0_writes 5 (a := main_v109_0) (i₀ := main_v109_7) (i₁ := main_while0b_call6_c) (i₂ := main_while0b_call6_c_0) (i₃ := main_while0b_call6_c_1) (i₄ := main_while0b_call6_c_2) (i₅ := main_while0b_call6_c_3) (y := main_while0b_call6_v0) (T := ⟨S_, .i32⟩) (f := (fun x i => Host.dynamicSlice S1x2x4x128x4x256 x (fun k => (i k (Shape.Idx.first h_S_)).toInt) sliceFits_S16x2x4x128x4x256_S1x2x4x128x4x256)) rfl (by decide +kernel) (late V body0_writes 5 (by decide +kernel)) (early V body0_writes 5 (by decide +kernel)) (late V body0_writes 5 (by decide +kernel)) (late V body0_writes 5 (by decide +kernel)) (late V body0_writes 5 (by decide +kernel)) (late V body0_writes 5 (by decide +kernel)) (late V body0_writes 5 (by decide +kernel))

theorem body0_while0b_v191 : after body0 V main_while0b_v191 =
    ((shapeCast S2x4x128x4x256 · shapeCasts_S1x2x4x128x4x256_S2x4x128x4x256) : (⟨S1x2x4x128x4x256, .f32⟩ : BufTy).Contents (Elt F) → (⟨S2x4x128x4x256, .f32⟩ : BufTy).Contents (Elt F)) (after body0 V main_while0b_call6_v0) :=
  uncast (readR (x := main_while0b_call6_v0) (y := main_while0b_v191) (s := S1x2x4x128x4x256) (s' := S2x4x128x4x256) body0_writes 6 rfl (by decide +kernel) rfl rfl shapeCasts_S1x2x4x128x4x256_S2x4x128x4x256 (late V body0_writes 6 (by decide +kernel)))

theorem body0_while0b_call7_c : after body0 V main_while0b_call7_c =
    (constantI S_ 32 0#32) :=
  read0 (y := main_while0b_call7_c) body0_writes 7 rfl (by decide +kernel) (fun _ => StableHlo.nullary_result ..)

theorem body0_while0b_call7_c_0 : after body0 V main_while0b_call7_c_0 =
    (constantI S_ 32 0#32) :=
  read0 (y := main_while0b_call7_c_0) body0_writes 8 rfl (by decide +kernel) (fun _ => StableHlo.nullary_result ..)

theorem body0_while0b_call7_c_1 : after body0 V main_while0b_call7_c_1 =
    (constantI S_ 32 0#32) :=
  read0 (y := main_while0b_call7_c_1) body0_writes 9 rfl (by decide +kernel) (fun _ => StableHlo.nullary_result ..)

theorem body0_while0b_call7_c_2 : after body0 V main_while0b_call7_c_2 =
    (constantI S_ 32 0#32) :=
  read0 (y := main_while0b_call7_c_2) body0_writes 10 rfl (by decide +kernel) (fun _ => StableHlo.nullary_result ..)

theorem body0_while0b_call7_c_3 : after body0 V main_while0b_call7_c_3 =
    (constantI S_ 32 0#32) :=
  read0 (y := main_while0b_call7_c_3) body0_writes 11 rfl (by decide +kernel) (fun _ => StableHlo.nullary_result ..)

theorem body0_while0b_call7_v0 : after body0 V main_while0b_call7_v0 =
    (fun x i => Host.dynamicSlice S1x2x4x128x4x256 x (fun k => (i k (Shape.Idx.first h_S_)).toInt) sliceFits_S16x2x4x128x4x256_S1x2x4x128x4x256) (after body0 V main_v109_1) ![V main_v109_7, after body0 V main_while0b_call7_c, after body0 V main_while0b_call7_c_0, after body0 V main_while0b_call7_c_1, after body0 V main_while0b_call7_c_2, after body0 V main_while0b_call7_c_3] :=
  read1I body0_writes 12 (a := main_v109_1) (i₀ := main_v109_7) (i₁ := main_while0b_call7_c) (i₂ := main_while0b_call7_c_0) (i₃ := main_while0b_call7_c_1) (i₄ := main_while0b_call7_c_2) (i₅ := main_while0b_call7_c_3) (y := main_while0b_call7_v0) (T := ⟨S_, .i32⟩) (f := (fun x i => Host.dynamicSlice S1x2x4x128x4x256 x (fun k => (i k (Shape.Idx.first h_S_)).toInt) sliceFits_S16x2x4x128x4x256_S1x2x4x128x4x256)) rfl (by decide +kernel) (late V body0_writes 12 (by decide +kernel)) (early V body0_writes 12 (by decide +kernel)) (late V body0_writes 12 (by decide +kernel)) (late V body0_writes 12 (by decide +kernel)) (late V body0_writes 12 (by decide +kernel)) (late V body0_writes 12 (by decide +kernel)) (late V body0_writes 12 (by decide +kernel))

theorem body0_while0b_v192 : after body0 V main_while0b_v192 =
    ((shapeCast S2x4x128x4x256 · shapeCasts_S1x2x4x128x4x256_S2x4x128x4x256) : (⟨S1x2x4x128x4x256, .f32⟩ : BufTy).Contents (Elt F) → (⟨S2x4x128x4x256, .f32⟩ : BufTy).Contents (Elt F)) (after body0 V main_while0b_call7_v0) :=
  uncast (readR (x := main_while0b_call7_v0) (y := main_while0b_v192) (s := S1x2x4x128x4x256) (s' := S2x4x128x4x256) body0_writes 13 rfl (by decide +kernel) rfl rfl shapeCasts_S1x2x4x128x4x256_S2x4x128x4x256 (late V body0_writes 13 (by decide +kernel)))

theorem body0_while0b_call8_c : after body0 V main_while0b_call8_c =
    (constantI S_ 32 0#32) :=
  read0 (y := main_while0b_call8_c) body0_writes 14 rfl (by decide +kernel) (fun _ => StableHlo.nullary_result ..)

theorem body0_while0b_call8_c_0 : after body0 V main_while0b_call8_c_0 =
    (constantI S_ 32 0#32) :=
  read0 (y := main_while0b_call8_c_0) body0_writes 15 rfl (by decide +kernel) (fun _ => StableHlo.nullary_result ..)

theorem body0_while0b_call8_c_1 : after body0 V main_while0b_call8_c_1 =
    (constantI S_ 32 0#32) :=
  read0 (y := main_while0b_call8_c_1) body0_writes 16 rfl (by decide +kernel) (fun _ => StableHlo.nullary_result ..)

theorem body0_while0b_call8_c_2 : after body0 V main_while0b_call8_c_2 =
    (constantI S_ 32 0#32) :=
  read0 (y := main_while0b_call8_c_2) body0_writes 17 rfl (by decide +kernel) (fun _ => StableHlo.nullary_result ..)

theorem body0_while0b_call8_c_3 : after body0 V main_while0b_call8_c_3 =
    (constantI S_ 32 0#32) :=
  read0 (y := main_while0b_call8_c_3) body0_writes 18 rfl (by decide +kernel) (fun _ => StableHlo.nullary_result ..)

theorem body0_while0b_call8_v0 : after body0 V main_while0b_call8_v0 =
    (fun x i => Host.dynamicSlice S1x2x4x128x4x512 x (fun k => (i k (Shape.Idx.first h_S_)).toInt) sliceFits_S16x2x4x128x4x512_S1x2x4x128x4x512) (after body0 V main_v109_2) ![V main_v109_7, after body0 V main_while0b_call8_c, after body0 V main_while0b_call8_c_0, after body0 V main_while0b_call8_c_1, after body0 V main_while0b_call8_c_2, after body0 V main_while0b_call8_c_3] :=
  read1I body0_writes 19 (a := main_v109_2) (i₀ := main_v109_7) (i₁ := main_while0b_call8_c) (i₂ := main_while0b_call8_c_0) (i₃ := main_while0b_call8_c_1) (i₄ := main_while0b_call8_c_2) (i₅ := main_while0b_call8_c_3) (y := main_while0b_call8_v0) (T := ⟨S_, .i32⟩) (f := (fun x i => Host.dynamicSlice S1x2x4x128x4x512 x (fun k => (i k (Shape.Idx.first h_S_)).toInt) sliceFits_S16x2x4x128x4x512_S1x2x4x128x4x512)) rfl (by decide +kernel) (late V body0_writes 19 (by decide +kernel)) (early V body0_writes 19 (by decide +kernel)) (late V body0_writes 19 (by decide +kernel)) (late V body0_writes 19 (by decide +kernel)) (late V body0_writes 19 (by decide +kernel)) (late V body0_writes 19 (by decide +kernel)) (late V body0_writes 19 (by decide +kernel))

theorem body0_while0b_v193 : after body0 V main_while0b_v193 =
    ((shapeCast S2x4x128x4x512 · shapeCasts_S1x2x4x128x4x512_S2x4x128x4x512) : (⟨S1x2x4x128x4x512, .f32⟩ : BufTy).Contents (Elt F) → (⟨S2x4x128x4x512, .f32⟩ : BufTy).Contents (Elt F)) (after body0 V main_while0b_call8_v0) :=
  uncast (readR (x := main_while0b_call8_v0) (y := main_while0b_v193) (s := S1x2x4x128x4x512) (s' := S2x4x128x4x512) body0_writes 20 rfl (by decide +kernel) rfl rfl shapeCasts_S1x2x4x128x4x512_S2x4x128x4x512 (late V body0_writes 20 (by decide +kernel)))

theorem body0_while0b_v194 : after body0 V main_while0b_v194 =
    ((fun l r => Host.dotGeneral dot_S2x4x128x4x256_S2x4x128x4x256_S2x4x4x128x128_4_4_2_2_013_013 none l r) : (⟨S2x4x128x4x256, .f32⟩ : BufTy).Contents (Elt F) → (⟨S2x4x128x4x256, .f32⟩ : BufTy).Contents (Elt F) → (⟨S2x4x4x128x128, .f32⟩ : BufTy).Contents (Elt F)) (after body0 V main_while0b_v191) (after body0 V main_while0b_v192) :=
  read2 (a := main_while0b_v191) (b := main_while0b_v192) (y := main_while0b_v194) body0_writes 21 rfl (by decide +kernel) ((fun l r => Host.dotGeneral dot_S2x4x128x4x256_S2x4x128x4x256_S2x4x4x128x128_4_4_2_2_013_013 none l r) : (⟨S2x4x128x4x256, .f32⟩ : BufTy).Contents (Elt F) → (⟨S2x4x128x4x256, .f32⟩ : BufTy).Contents (Elt F) → (⟨S2x4x4x128x128, .f32⟩ : BufTy).Contents (Elt F)) (fun _ => StableHlo.binary_result ..) (late V body0_writes 21 (by decide +kernel)) (late V body0_writes 21 (by decide +kernel))

theorem body0_while0b_v195 : after body0 V main_while0b_v195 =
    (broadcastInDim S2x4x4x128x128 ![0, 1, 2, 3, 4] bcast_S2x1x4x128x128_S2x4x4x128x128_0_1_2_3_4 : (⟨S2x1x4x128x128, .f32⟩ : BufTy).Contents (Elt F) → (⟨S2x4x4x128x128, .f32⟩ : BufTy).Contents (Elt F)) (after body0 V main_v109_5) :=
  (readU (x := main_v109_5) (y := main_while0b_v195) body0_writes 22 rfl (by decide +kernel) (late V body0_writes 22 (by decide +kernel)) :)

theorem body0_while0b_v196 : after body0 V main_while0b_v196 =
    (mulf : (⟨S2x4x4x128x128, .f32⟩ : BufTy).Contents (Elt F) → (⟨S2x4x4x128x128, .f32⟩ : BufTy).Contents (Elt F) → (⟨S2x4x4x128x128, .f32⟩ : BufTy).Contents (Elt F)) (after body0 V main_while0b_v194) (after body0 V main_while0b_v195) :=
  read2 (a := main_while0b_v194) (b := main_while0b_v195) (y := main_while0b_v196) body0_writes 23 rfl (by decide +kernel) (mulf : (⟨S2x4x4x128x128, .f32⟩ : BufTy).Contents (Elt F) → (⟨S2x4x4x128x128, .f32⟩ : BufTy).Contents (Elt F) → (⟨S2x4x4x128x128, .f32⟩ : BufTy).Contents (Elt F)) (fun _ => StableHlo.binary_result ..) (late V body0_writes 23 (by decide +kernel)) (late V body0_writes 23 (by decide +kernel))

theorem body0_while0b_v197 : after body0 V main_while0b_v197 =
    ((fun l r => Host.dotGeneral dot_S2x4x128x4x512_S2x4x4x128x128_S2x4x4x512x128_2_4_4_3_013_012 none l r) : (⟨S2x4x128x4x512, .f32⟩ : BufTy).Contents (Elt F) → (⟨S2x4x4x128x128, .f32⟩ : BufTy).Contents (Elt F) → (⟨S2x4x4x512x128, .f32⟩ : BufTy).Contents (Elt F)) (after body0 V main_while0b_v193) (after body0 V main_while0b_v196) :=
  read2 (a := main_while0b_v193) (b := main_while0b_v196) (y := main_while0b_v197) body0_writes 24 rfl (by decide +kernel) ((fun l r => Host.dotGeneral dot_S2x4x128x4x512_S2x4x4x128x128_S2x4x4x512x128_2_4_4_3_013_012 none l r) : (⟨S2x4x128x4x512, .f32⟩ : BufTy).Contents (Elt F) → (⟨S2x4x4x128x128, .f32⟩ : BufTy).Contents (Elt F) → (⟨S2x4x4x512x128, .f32⟩ : BufTy).Contents (Elt F)) (fun _ => StableHlo.binary_result ..) (late V body0_writes 24 (by decide +kernel)) (late V body0_writes 24 (by decide +kernel))

theorem body0_while0b_v198 : after body0 V main_while0b_v198 =
    ((transpose S2x4x128x4x512 [0, 1, 4, 2, 3] · transposes_S2x4x4x512x128_S2x4x128x4x512_0_1_4_2_3) : (⟨S2x4x4x512x128, .f32⟩ : BufTy).Contents (Elt F) → (⟨S2x4x128x4x512, .f32⟩ : BufTy).Contents (Elt F)) (after body0 V main_while0b_v197) :=
  (readU (x := main_while0b_v197) (y := main_while0b_v198) body0_writes 25 rfl (by decide +kernel) (late V body0_writes 25 (by decide +kernel)) :)

theorem body0_while0b_v199 : after body0 V main_while0b_v199 =
    ((fun l r => Host.dotGeneral dot_S2x4x4x256x512_S2x4x128x4x256_S2x4x4x512x128_3_4_4_2_012_013 none l r) : (⟨S2x4x4x256x512, .f32⟩ : BufTy).Contents (Elt F) → (⟨S2x4x128x4x256, .f32⟩ : BufTy).Contents (Elt F) → (⟨S2x4x4x512x128, .f32⟩ : BufTy).Contents (Elt F)) (V main_v109_8) (after body0 V main_while0b_v191) :=
  read2 (a := main_v109_8) (b := main_while0b_v191) (y := main_while0b_v199) body0_writes 26 rfl (by decide +kernel) ((fun l r => Host.dotGeneral dot_S2x4x4x256x512_S2x4x128x4x256_S2x4x4x512x128_3_4_4_2_012_013 none l r) : (⟨S2x4x4x256x512, .f32⟩ : BufTy).Contents (Elt F) → (⟨S2x4x128x4x256, .f32⟩ : BufTy).Contents (Elt F) → (⟨S2x4x4x512x128, .f32⟩ : BufTy).Contents (Elt F)) (fun _ => StableHlo.binary_result ..) (early V body0_writes 26 (by decide +kernel)) (late V body0_writes 26 (by decide +kernel))

theorem body0_while0b_v200 : after body0 V main_while0b_v200 =
    ((transpose S2x4x128x4x512 [0, 1, 4, 2, 3] · transposes_S2x4x4x512x128_S2x4x128x4x512_0_1_4_2_3) : (⟨S2x4x4x512x128, .f32⟩ : BufTy).Contents (Elt F) → (⟨S2x4x128x4x512, .f32⟩ : BufTy).Contents (Elt F)) (after body0 V main_while0b_v199) :=
  (readU (x := main_while0b_v199) (y := main_while0b_v200) body0_writes 27 rfl (by decide +kernel) (late V body0_writes 27 (by decide +kernel)) :)

theorem body0_while0b_v201 : after body0 V main_while0b_v201 =
    (broadcastInDim S2x4x128x4x512 ![0, 1, 2, 3, 4] bcast_S2x1x128x4x1_S2x4x128x4x512_0_1_2_3_4 : (⟨S2x1x128x4x1, .f32⟩ : BufTy).Contents (Elt F) → (⟨S2x4x128x4x512, .f32⟩ : BufTy).Contents (Elt F)) (after body0 V main_v109_6) :=
  (readU (x := main_v109_6) (y := main_while0b_v201) body0_writes 28 rfl (by decide +kernel) (late V body0_writes 28 (by decide +kernel)) :)

theorem body0_while0b_v202 : after body0 V main_while0b_v202 =
    (mulf : (⟨S2x4x128x4x512, .f32⟩ : BufTy).Contents (Elt F) → (⟨S2x4x128x4x512, .f32⟩ : BufTy).Contents (Elt F) → (⟨S2x4x128x4x512, .f32⟩ : BufTy).Contents (Elt F)) (after body0 V main_while0b_v200) (after body0 V main_while0b_v201) :=
  read2 (a := main_while0b_v200) (b := main_while0b_v201) (y := main_while0b_v202) body0_writes 29 rfl (by decide +kernel) (mulf : (⟨S2x4x128x4x512, .f32⟩ : BufTy).Contents (Elt F) → (⟨S2x4x128x4x512, .f32⟩ : BufTy).Contents (Elt F) → (⟨S2x4x128x4x512, .f32⟩ : BufTy).Contents (Elt F)) (fun _ => StableHlo.binary_result ..) (late V body0_writes 29 (by decide +kernel)) (late V body0_writes 29 (by decide +kernel))

theorem body0_while0b_v203 : after body0 V main_while0b_v203 =
    (broadcastInDim S2x4x4x256x512 ![0, 1, 2, 3, 4] bcast_S2x1x4x1x1_S2x4x4x256x512_0_1_2_3_4 : (⟨S2x1x4x1x1, .f32⟩ : BufTy).Contents (Elt F) → (⟨S2x4x4x256x512, .f32⟩ : BufTy).Contents (Elt F)) (after body0 V main_v109_3) :=
  (readU (x := main_v109_3) (y := main_while0b_v203) body0_writes 30 rfl (by decide +kernel) (late V body0_writes 30 (by decide +kernel)) :)

theorem body0_while0b_v204 : after body0 V main_while0b_v204 =
    (mulf : (⟨S2x4x4x256x512, .f32⟩ : BufTy).Contents (Elt F) → (⟨S2x4x4x256x512, .f32⟩ : BufTy).Contents (Elt F) → (⟨S2x4x4x256x512, .f32⟩ : BufTy).Contents (Elt F)) (V main_v109_8) (after body0 V main_while0b_v203) :=
  read2 (a := main_v109_8) (b := main_while0b_v203) (y := main_while0b_v204) body0_writes 31 rfl (by decide +kernel) (mulf : (⟨S2x4x4x256x512, .f32⟩ : BufTy).Contents (Elt F) → (⟨S2x4x4x256x512, .f32⟩ : BufTy).Contents (Elt F) → (⟨S2x4x4x256x512, .f32⟩ : BufTy).Contents (Elt F)) (fun _ => StableHlo.binary_result ..) (early V body0_writes 31 (by decide +kernel)) (late V body0_writes 31 (by decide +kernel))

theorem body0_while0b_v205 : after body0 V main_while0b_v205 =
    (broadcastInDim S2x4x128x4x256 ![0, 1, 2, 3, 4] bcast_S2x1x128x4x1_S2x4x128x4x256_0_1_2_3_4 : (⟨S2x1x128x4x1, .f32⟩ : BufTy).Contents (Elt F) → (⟨S2x4x128x4x256, .f32⟩ : BufTy).Contents (Elt F)) (after body0 V main_v109_4) :=
  (readU (x := main_v109_4) (y := main_while0b_v205) body0_writes 32 rfl (by decide +kernel) (late V body0_writes 32 (by decide +kernel)) :)

theorem body0_while0b_v206 : after body0 V main_while0b_v206 =
    (mulf : (⟨S2x4x128x4x256, .f32⟩ : BufTy).Contents (Elt F) → (⟨S2x4x128x4x256, .f32⟩ : BufTy).Contents (Elt F) → (⟨S2x4x128x4x256, .f32⟩ : BufTy).Contents (Elt F)) (after body0 V main_while0b_v192) (after body0 V main_while0b_v205) :=
  read2 (a := main_while0b_v192) (b := main_while0b_v205) (y := main_while0b_v206) body0_writes 33 rfl (by decide +kernel) (mulf : (⟨S2x4x128x4x256, .f32⟩ : BufTy).Contents (Elt F) → (⟨S2x4x128x4x256, .f32⟩ : BufTy).Contents (Elt F) → (⟨S2x4x128x4x256, .f32⟩ : BufTy).Contents (Elt F)) (fun _ => StableHlo.binary_result ..) (late V body0_writes 33 (by decide +kernel)) (late V body0_writes 33 (by decide +kernel))

theorem body0_while0b_v207 : after body0 V main_while0b_v207 =
    ((fun l r => Host.dotGeneral dot_S2x4x128x4x256_S2x4x128x4x512_S2x4x4x256x512_2_2_4_4_013_013 none l r) : (⟨S2x4x128x4x256, .f32⟩ : BufTy).Contents (Elt F) → (⟨S2x4x128x4x512, .f32⟩ : BufTy).Contents (Elt F) → (⟨S2x4x4x256x512, .f32⟩ : BufTy).Contents (Elt F)) (after body0 V main_while0b_v206) (after body0 V main_while0b_v193) :=
  read2 (a := main_while0b_v206) (b := main_while0b_v193) (y := main_while0b_v207) body0_writes 34 rfl (by decide +kernel) ((fun l r => Host.dotGeneral dot_S2x4x128x4x256_S2x4x128x4x512_S2x4x4x256x512_2_2_4_4_013_013 none l r) : (⟨S2x4x128x4x256, .f32⟩ : BufTy).Contents (Elt F) → (⟨S2x4x128x4x512, .f32⟩ : BufTy).Contents (Elt F) → (⟨S2x4x4x256x512, .f32⟩ : BufTy).Contents (Elt F)) (fun _ => StableHlo.binary_result ..) (late V body0_writes 34 (by decide +kernel)) (late V body0_writes 34 (by decide +kernel))

theorem body0_while0b_v208 : after body0 V main_while0b_v208 =
    (addf : (⟨S2x4x4x256x512, .f32⟩ : BufTy).Contents (Elt F) → (⟨S2x4x4x256x512, .f32⟩ : BufTy).Contents (Elt F) → (⟨S2x4x4x256x512, .f32⟩ : BufTy).Contents (Elt F)) (after body0 V main_while0b_v204) (after body0 V main_while0b_v207) :=
  read2 (a := main_while0b_v204) (b := main_while0b_v207) (y := main_while0b_v208) body0_writes 35 rfl (by decide +kernel) (addf : (⟨S2x4x4x256x512, .f32⟩ : BufTy).Contents (Elt F) → (⟨S2x4x4x256x512, .f32⟩ : BufTy).Contents (Elt F) → (⟨S2x4x4x256x512, .f32⟩ : BufTy).Contents (Elt F)) (fun _ => StableHlo.binary_result ..) (late V body0_writes 35 (by decide +kernel)) (late V body0_writes 35 (by decide +kernel))

theorem body0_while0b_v209 : after body0 V main_while0b_v209 =
    (addf : (⟨S2x4x128x4x512, .f32⟩ : BufTy).Contents (Elt F) → (⟨S2x4x128x4x512, .f32⟩ : BufTy).Contents (Elt F) → (⟨S2x4x128x4x512, .f32⟩ : BufTy).Contents (Elt F)) (after body0 V main_while0b_v198) (after body0 V main_while0b_v202) :=
  read2 (a := main_while0b_v198) (b := main_while0b_v202) (y := main_while0b_v209) body0_writes 36 rfl (by decide +kernel) (addf : (⟨S2x4x128x4x512, .f32⟩ : BufTy).Contents (Elt F) → (⟨S2x4x128x4x512, .f32⟩ : BufTy).Contents (Elt F) → (⟨S2x4x128x4x512, .f32⟩ : BufTy).Contents (Elt F)) (fun _ => StableHlo.binary_result ..) (late V body0_writes 36 (by decide +kernel)) (late V body0_writes 36 (by decide +kernel))

theorem body0_while0b_call9_v0 : after body0 V main_while0b_call9_v0 =
    (broadcastInDim S1x2x4x128x4x512 ![1, 2, 3, 4, 5] bcast_S2x4x128x4x512_S1x2x4x128x4x512_1_2_3_4_5) (after body0 V main_while0b_v209) :=
  (readU (x := main_while0b_v209) (y := main_while0b_call9_v0) body0_writes 37 rfl (by decide +kernel) (late V body0_writes 37 (by decide +kernel)) :)

theorem body0_while0b_call9_c : after body0 V main_while0b_call9_c =
    (constantI S_ 32 0#32) :=
  read0 (y := main_while0b_call9_c) body0_writes 38 rfl (by decide +kernel) (fun _ => StableHlo.nullary_result ..)

theorem body0_while0b_call9_c_0 : after body0 V main_while0b_call9_c_0 =
    (constantI S_ 32 0#32) :=
  read0 (y := main_while0b_call9_c_0) body0_writes 39 rfl (by decide +kernel) (fun _ => StableHlo.nullary_result ..)

theorem body0_while0b_call9_c_1 : after body0 V main_while0b_call9_c_1 =
    (constantI S_ 32 0#32) :=
  read0 (y := main_while0b_call9_c_1) body0_writes 40 rfl (by decide +kernel) (fun _ => StableHlo.nullary_result ..)

theorem body0_while0b_call9_c_2 : after body0 V main_while0b_call9_c_2 =
    (constantI S_ 32 0#32) :=
  read0 (y := main_while0b_call9_c_2) body0_writes 41 rfl (by decide +kernel) (fun _ => StableHlo.nullary_result ..)

theorem body0_while0b_call9_c_3 : after body0 V main_while0b_call9_c_3 =
    (constantI S_ 32 0#32) :=
  read0 (y := main_while0b_call9_c_3) body0_writes 42 rfl (by decide +kernel) (fun _ => StableHlo.nullary_result ..)

theorem body0_while0b_v210 : after body0 V main_while0b_v210 =
    (fun x u i => Host.dynamicUpdateSlice x u (fun k => (i k (Shape.Idx.first h_S_)).toInt) updateFits_S16x2x4x128x4x512_S1x2x4x128x4x512) (V main_v109_9) (after body0 V main_while0b_call9_v0) ![V main_v109_7, after body0 V main_while0b_call9_c, after body0 V main_while0b_call9_c_0, after body0 V main_while0b_call9_c_1, after body0 V main_while0b_call9_c_2, after body0 V main_while0b_call9_c_3] :=
  read2I body0_writes 43 (a := main_v109_9) (b := main_while0b_call9_v0) (i₀ := main_v109_7) (i₁ := main_while0b_call9_c) (i₂ := main_while0b_call9_c_0) (i₃ := main_while0b_call9_c_1) (i₄ := main_while0b_call9_c_2) (i₅ := main_while0b_call9_c_3) (y := main_while0b_v210) (T := ⟨S_, .i32⟩) (f := (fun x u i => Host.dynamicUpdateSlice x u (fun k => (i k (Shape.Idx.first h_S_)).toInt) updateFits_S16x2x4x128x4x512_S1x2x4x128x4x512)) rfl (by decide +kernel) (early V body0_writes 43 (by decide +kernel)) (late V body0_writes 43 (by decide +kernel)) (early V body0_writes 43 (by decide +kernel)) (late V body0_writes 43 (by decide +kernel)) (late V body0_writes 43 (by decide +kernel)) (late V body0_writes 43 (by decide +kernel)) (late V body0_writes 43 (by decide +kernel)) (late V body0_writes 43 (by decide +kernel))

theorem body0_while0b_call10_v0 : after body0 V main_while0b_call10_v0 =
    (broadcastInDim S1x2x4x4x128x128 ![1, 2, 3, 4, 5] bcast_S2x4x4x128x128_S1x2x4x4x128x128_1_2_3_4_5) (after body0 V main_while0b_v196) :=
  (readU (x := main_while0b_v196) (y := main_while0b_call10_v0) body0_writes 44 rfl (by decide +kernel) (late V body0_writes 44 (by decide +kernel)) :)

theorem body0_while0b_call10_c : after body0 V main_while0b_call10_c =
    (constantI S_ 32 0#32) :=
  read0 (y := main_while0b_call10_c) body0_writes 45 rfl (by decide +kernel) (fun _ => StableHlo.nullary_result ..)

theorem body0_while0b_call10_c_0 : after body0 V main_while0b_call10_c_0 =
    (constantI S_ 32 0#32) :=
  read0 (y := main_while0b_call10_c_0) body0_writes 46 rfl (by decide +kernel) (fun _ => StableHlo.nullary_result ..)

theorem body0_while0b_call10_c_1 : after body0 V main_while0b_call10_c_1 =
    (constantI S_ 32 0#32) :=
  read0 (y := main_while0b_call10_c_1) body0_writes 47 rfl (by decide +kernel) (fun _ => StableHlo.nullary_result ..)

theorem body0_while0b_call10_c_2 : after body0 V main_while0b_call10_c_2 =
    (constantI S_ 32 0#32) :=
  read0 (y := main_while0b_call10_c_2) body0_writes 48 rfl (by decide +kernel) (fun _ => StableHlo.nullary_result ..)

theorem body0_while0b_call10_c_3 : after body0 V main_while0b_call10_c_3 =
    (constantI S_ 32 0#32) :=
  read0 (y := main_while0b_call10_c_3) body0_writes 49 rfl (by decide +kernel) (fun _ => StableHlo.nullary_result ..)

theorem body0_while0b_v211 : after body0 V main_while0b_v211 =
    (fun x u i => Host.dynamicUpdateSlice x u (fun k => (i k (Shape.Idx.first h_S_)).toInt) updateFits_S16x2x4x4x128x128_S1x2x4x4x128x128) (V main_v109_10) (after body0 V main_while0b_call10_v0) ![V main_v109_7, after body0 V main_while0b_call10_c, after body0 V main_while0b_call10_c_0, after body0 V main_while0b_call10_c_1, after body0 V main_while0b_call10_c_2, after body0 V main_while0b_call10_c_3] :=
  read2I body0_writes 50 (a := main_v109_10) (b := main_while0b_call10_v0) (i₀ := main_v109_7) (i₁ := main_while0b_call10_c) (i₂ := main_while0b_call10_c_0) (i₃ := main_while0b_call10_c_1) (i₄ := main_while0b_call10_c_2) (i₅ := main_while0b_call10_c_3) (y := main_while0b_v211) (T := ⟨S_, .i32⟩) (f := (fun x u i => Host.dynamicUpdateSlice x u (fun k => (i k (Shape.Idx.first h_S_)).toInt) updateFits_S16x2x4x4x128x128_S1x2x4x4x128x128)) rfl (by decide +kernel) (early V body0_writes 50 (by decide +kernel)) (late V body0_writes 50 (by decide +kernel)) (early V body0_writes 50 (by decide +kernel)) (late V body0_writes 50 (by decide +kernel)) (late V body0_writes 50 (by decide +kernel)) (late V body0_writes 50 (by decide +kernel)) (late V body0_writes 50 (by decide +kernel)) (late V body0_writes 50 (by decide +kernel))

theorem body0_while0b_call11_v0 : after body0 V main_while0b_call11_v0 =
    (broadcastInDim S1x2x4x4x256x512 ![1, 2, 3, 4, 5] bcast_S2x4x4x256x512_S1x2x4x4x256x512_1_2_3_4_5) (V main_v109_8) :=
  (readU (x := main_v109_8) (y := main_while0b_call11_v0) body0_writes 51 rfl (by decide +kernel) (early V body0_writes 51 (by decide +kernel)) :)

theorem body0_while0b_call11_c : after body0 V main_while0b_call11_c =
    (constantI S_ 32 0#32) :=
  read0 (y := main_while0b_call11_c) body0_writes 52 rfl (by decide +kernel) (fun _ => StableHlo.nullary_result ..)

theorem body0_while0b_call11_c_0 : after body0 V main_while0b_call11_c_0 =
    (constantI S_ 32 0#32) :=
  read0 (y := main_while0b_call11_c_0) body0_writes 53 rfl (by decide +kernel) (fun _ => StableHlo.nullary_result ..)

theorem body0_while0b_call11_c_1 : after body0 V main_while0b_call11_c_1 =
    (constantI S_ 32 0#32) :=
  read0 (y := main_while0b_call11_c_1) body0_writes 54 rfl (by decide +kernel) (fun _ => StableHlo.nullary_result ..)

theorem body0_while0b_call11_c_2 : after body0 V main_while0b_call11_c_2 =
    (constantI S_ 32 0#32) :=
  read0 (y := main_while0b_call11_c_2) body0_writes 55 rfl (by decide +kernel) (fun _ => StableHlo.nullary_result ..)

theorem body0_while0b_call11_c_3 : after body0 V main_while0b_call11_c_3 =
    (constantI S_ 32 0#32) :=
  read0 (y := main_while0b_call11_c_3) body0_writes 56 rfl (by decide +kernel) (fun _ => StableHlo.nullary_result ..)

theorem body0_while0b_v212 : after body0 V main_while0b_v212 =
    (fun x u i => Host.dynamicUpdateSlice x u (fun k => (i k (Shape.Idx.first h_S_)).toInt) updateFits_S16x2x4x4x256x512_S1x2x4x4x256x512) (V main_v109_11) (after body0 V main_while0b_call11_v0) ![V main_v109_7, after body0 V main_while0b_call11_c, after body0 V main_while0b_call11_c_0, after body0 V main_while0b_call11_c_1, after body0 V main_while0b_call11_c_2, after body0 V main_while0b_call11_c_3] :=
  read2I body0_writes 57 (a := main_v109_11) (b := main_while0b_call11_v0) (i₀ := main_v109_7) (i₁ := main_while0b_call11_c) (i₂ := main_while0b_call11_c_0) (i₃ := main_while0b_call11_c_1) (i₄ := main_while0b_call11_c_2) (i₅ := main_while0b_call11_c_3) (y := main_while0b_v212) (T := ⟨S_, .i32⟩) (f := (fun x u i => Host.dynamicUpdateSlice x u (fun k => (i k (Shape.Idx.first h_S_)).toInt) updateFits_S16x2x4x4x256x512_S1x2x4x4x256x512)) rfl (by decide +kernel) (early V body0_writes 57 (by decide +kernel)) (late V body0_writes 57 (by decide +kernel)) (early V body0_writes 57 (by decide +kernel)) (late V body0_writes 57 (by decide +kernel)) (late V body0_writes 57 (by decide +kernel)) (late V body0_writes 57 (by decide +kernel)) (late V body0_writes 57 (by decide +kernel)) (late V body0_writes 57 (by decide +kernel))

theorem body0_while0b_call12_v0 : after body0 V main_while0b_call12_v0 =
    (broadcastInDim S1x2x4x128x4x256 ![1, 2, 3, 4, 5] bcast_S2x4x128x4x256_S1x2x4x128x4x256_1_2_3_4_5) (after body0 V main_while0b_v206) :=
  (readU (x := main_while0b_v206) (y := main_while0b_call12_v0) body0_writes 58 rfl (by decide +kernel) (late V body0_writes 58 (by decide +kernel)) :)

theorem body0_while0b_call12_c : after body0 V main_while0b_call12_c =
    (constantI S_ 32 0#32) :=
  read0 (y := main_while0b_call12_c) body0_writes 59 rfl (by decide +kernel) (fun _ => StableHlo.nullary_result ..)

theorem body0_while0b_call12_c_0 : after body0 V main_while0b_call12_c_0 =
    (constantI S_ 32 0#32) :=
  read0 (y := main_while0b_call12_c_0) body0_writes 60 rfl (by decide +kernel) (fun _ => StableHlo.nullary_result ..)

theorem body0_while0b_call12_c_1 : after body0 V main_while0b_call12_c_1 =
    (constantI S_ 32 0#32) :=
  read0 (y := main_while0b_call12_c_1) body0_writes 61 rfl (by decide +kernel) (fun _ => StableHlo.nullary_result ..)

theorem body0_while0b_call12_c_2 : after body0 V main_while0b_call12_c_2 =
    (constantI S_ 32 0#32) :=
  read0 (y := main_while0b_call12_c_2) body0_writes 62 rfl (by decide +kernel) (fun _ => StableHlo.nullary_result ..)

theorem body0_while0b_call12_c_3 : after body0 V main_while0b_call12_c_3 =
    (constantI S_ 32 0#32) :=
  read0 (y := main_while0b_call12_c_3) body0_writes 63 rfl (by decide +kernel) (fun _ => StableHlo.nullary_result ..)

theorem body0_while0b_v213 : after body0 V main_while0b_v213 =
    (fun x u i => Host.dynamicUpdateSlice x u (fun k => (i k (Shape.Idx.first h_S_)).toInt) updateFits_S16x2x4x128x4x256_S1x2x4x128x4x256) (V main_v109_12) (after body0 V main_while0b_call12_v0) ![V main_v109_7, after body0 V main_while0b_call12_c, after body0 V main_while0b_call12_c_0, after body0 V main_while0b_call12_c_1, after body0 V main_while0b_call12_c_2, after body0 V main_while0b_call12_c_3] :=
  read2I body0_writes 64 (a := main_v109_12) (b := main_while0b_call12_v0) (i₀ := main_v109_7) (i₁ := main_while0b_call12_c) (i₂ := main_while0b_call12_c_0) (i₃ := main_while0b_call12_c_1) (i₄ := main_while0b_call12_c_2) (i₅ := main_while0b_call12_c_3) (y := main_while0b_v213) (T := ⟨S_, .i32⟩) (f := (fun x u i => Host.dynamicUpdateSlice x u (fun k => (i k (Shape.Idx.first h_S_)).toInt) updateFits_S16x2x4x128x4x256_S1x2x4x128x4x256)) rfl (by decide +kernel) (early V body0_writes 64 (by decide +kernel)) (late V body0_writes 64 (by decide +kernel)) (early V body0_writes 64 (by decide +kernel)) (late V body0_writes 64 (by decide +kernel)) (late V body0_writes 64 (by decide +kernel)) (late V body0_writes 64 (by decide +kernel)) (late V body0_writes 64 (by decide +kernel)) (late V body0_writes 64 (by decide +kernel))

theorem body0_while0b_c_30 : after body0 V main_while0b_c_30 =
    (constantI S_ 32 1#32) :=
  read0 (y := main_while0b_c_30) body0_writes 65 rfl (by decide +kernel) (fun _ => StableHlo.nullary_result ..)

theorem body0_while0b_v214 : after body0 V main_while0b_v214 =
    (addi : (⟨S_, .i32⟩ : BufTy).Contents (Elt F) → (⟨S_, .i32⟩ : BufTy).Contents (Elt F) → (⟨S_, .i32⟩ : BufTy).Contents (Elt F)) (V main_v109_7) (after body0 V main_while0b_c_30) :=
  read2 (a := main_v109_7) (b := main_while0b_c_30) (y := main_while0b_v214) body0_writes 66 rfl (by decide +kernel) (addi : (⟨S_, .i32⟩ : BufTy).Contents (Elt F) → (⟨S_, .i32⟩ : BufTy).Contents (Elt F) → (⟨S_, .i32⟩ : BufTy).Contents (Elt F)) (fun _ => StableHlo.binary_result ..) (early V body0_writes 66 (by decide +kernel)) (late V body0_writes 66 (by decide +kernel))

theorem body0_v109_7 : after body0 V main_v109_7 =
    id (after body0 V main_while0b_v214) :=
  (readU (x := main_while0b_v214) (y := main_v109_7) body0_writes 67 rfl (by decide +kernel) (late V body0_writes 67 (by decide +kernel)) :)

theorem body0_v109_8 : after body0 V main_v109_8 =
    id (after body0 V main_while0b_v208) :=
  (readU (x := main_while0b_v208) (y := main_v109_8) body0_writes 68 rfl (by decide +kernel) (late V body0_writes 68 (by decide +kernel)) :)

theorem body0_v109_9 : after body0 V main_v109_9 =
    id (after body0 V main_while0b_v210) :=
  (readU (x := main_while0b_v210) (y := main_v109_9) body0_writes 69 rfl (by decide +kernel) (late V body0_writes 69 (by decide +kernel)) :)

theorem body0_v109_10 : after body0 V main_v109_10 =
    id (after body0 V main_while0b_v211) :=
  (readU (x := main_while0b_v211) (y := main_v109_10) body0_writes 70 rfl (by decide +kernel) (late V body0_writes 70 (by decide +kernel)) :)

theorem body0_v109_11 : after body0 V main_v109_11 =
    id (after body0 V main_while0b_v212) :=
  (readU (x := main_while0b_v212) (y := main_v109_11) body0_writes 71 rfl (by decide +kernel) (late V body0_writes 71 (by decide +kernel)) :)

theorem body0_v109_12 : after body0 V main_v109_12 =
    id (after body0 V main_while0b_v213) :=
  (readU (x := main_while0b_v213) (y := main_v109_12) body0_writes 72 rfl (by decide +kernel) (late V body0_writes 72 (by decide +kernel)) :)

end Cert.ReferenceIdeal.Run
-- ==== Proof.RefEqC.lean ====
/-
  The buffers of one trip of the backward loop, one operation at a time.
-/
module

public import proofs.«01_k».proof.Proof.RefOpsB
public import proofs.«01_k».proof.Proof.LineReads

@[expose] public section

set_option maxRecDepth 4000

noncomputable section

namespace Cert.ReferenceIdeal.Run

open Idealize.ShloMosaic Idealize.SL.Sem Cert.ReferenceIdeal
open Facts₀ Facts Cert.LineReads
open Idealize.ShloMosaic.TcCoe
open Idealize.ShloMosaic.StableHlo (after)

variable {F : FTy → Type} [FloatOps F] (V : Valuation τ sig (Elt F))

/-- What `body1` writes, in order. -/
noncomputable def body1W : List (Ref sig .tc) :=
  [main_while1b_c_33, main_while1b_v191, main_while1b_c_34, main_while1b_v192, main_while1b_call15_c, main_while1b_call15_c_0, main_while1b_call15_c_1, main_while1b_call15_c_2, main_while1b_call15_c_3, main_while1b_call15_v0, main_while1b_v193, main_while1b_call16_c, main_while1b_call16_c_0, main_while1b_call16_c_1, main_while1b_call16_c_2, main_while1b_call16_c_3, main_while1b_call16_v0, main_while1b_v194, main_while1b_call17_c, main_while1b_call17_c_0, main_while1b_call17_c_1, main_while1b_call17_c_2, main_while1b_call17_c_3, main_while1b_call17_v0, main_while1b_v195, main_while1b_call18_c, main_while1b_call18_c_0, main_while1b_call18_c_1, main_while1b_call18_c_2, main_while1b_call18_c_3, main_while1b_call18_v0, main_while1b_v196, main_while1b_call19_c, main_while1b_call19_c_0, main_while1b_call19_c_1, main_while1b_call19_c_2, main_while1b_call19_c_3, main_while1b_call19_v0, main_while1b_v197, main_while1b_call20_c, main_while1b_call20_c_0, main_while1b_call20_c_1, main_while1b_call20_c_2, main_while1b_call20_c_3, main_while1b_call20_v0, main_while1b_v198, main_while1b_call21_c, main_while1b_call21_c_0, main_while1b_call21_c_1, main_while1b_call21_c_2, main_while1b_call21_c_3, main_while1b_call21_v0, main_while1b_v199, main_while1b_v200, main_while1b_v201, main_while1b_v202, main_while1b_v203, main_while1b_v204, main_while1b_v205, main_while1b_v206, main_while1b_v207, main_while1b_v208, main_while1b_v209, main_while1b_v210, main_while1b_v211, main_while1b_v212, main_while1b_v213, main_while1b_v214, main_while1b_v215, main_while1b_v216, main_while1b_v217, main_while1b_v218, main_while1b_v219, main_while1b_v220, main_while1b_v221, main_while1b_v222, main_while1b_v223, main_while1b_v224, main_while1b_v225, main_while1b_v226, main_while1b_v227, main_while1b_v228, main_while1b_call22_v0, main_while1b_call22_c, main_while1b_call22_c_0, main_while1b_call22_c_1, main_while1b_call22_c_2, main_while1b_call22_c_3, main_while1b_v229, main_while1b_call23_v0, main_while1b_call23_c, main_while1b_call23_c_0, main_while1b_call23_c_1, main_while1b_call23_c_2, main_while1b_call23_c_3, main_while1b_v230, main_while1b_call24_v0, main_while1b_call24_c, main_while1b_call24_c_0, main_while1b_call24_c_1, main_while1b_call24_c_2, main_while1b_call24_c_3, main_while1b_v231, main_while1b_c_35, main_while1b_v232, main_v130_11, main_v130_12, main_v130_13, main_v130_14, main_v130_15]

set_option maxRecDepth 8000 in
theorem body1_writes : Writes (body1 (F := F)) body1W := by
  rfl

theorem body1_while1b_c_33 : after body1 V main_while1b_c_33 =
    (constantI S_ 32 16#32) :=
  read0 (y := main_while1b_c_33) body1_writes 0 rfl (by decide +kernel) (fun _ => StableHlo.nullary_result ..)

theorem body1_while1b_v191 : after body1 V main_while1b_v191 =
    (subi : (⟨S_, .i32⟩ : BufTy).Contents (Elt F) → (⟨S_, .i32⟩ : BufTy).Contents (Elt F) → (⟨S_, .i32⟩ : BufTy).Contents (Elt F)) (after body1 V main_while1b_c_33) (V main_v130_11) :=
  read2 (a := main_while1b_c_33) (b := main_v130_11) (y := main_while1b_v191) body1_writes 1 rfl (by decide +kernel) (subi : (⟨S_, .i32⟩ : BufTy).Contents (Elt F) → (⟨S_, .i32⟩ : BufTy).Contents (Elt F) → (⟨S_, .i32⟩ : BufTy).Contents (Elt F)) (fun _ => StableHlo.binary_result ..) (late V body1_writes 1 (by decide +kernel)) (early V body1_writes 1 (by decide +kernel))

theorem body1_while1b_c_34 : after body1 V main_while1b_c_34 =
    (constantI S_ 32 1#32) :=
  read0 (y := main_while1b_c_34) body1_writes 2 rfl (by decide +kernel) (fun _ => StableHlo.nullary_result ..)

theorem body1_while1b_v192 : after body1 V main_while1b_v192 =
    (subi : (⟨S_, .i32⟩ : BufTy).Contents (Elt F) → (⟨S_, .i32⟩ : BufTy).Contents (Elt F) → (⟨S_, .i32⟩ : BufTy).Contents (Elt F)) (after body1 V main_while1b_v191) (after body1 V main_while1b_c_34) :=
  read2 (a := main_while1b_v191) (b := main_while1b_c_34) (y := main_while1b_v192) body1_writes 3 rfl (by decide +kernel) (subi : (⟨S_, .i32⟩ : BufTy).Contents (Elt F) → (⟨S_, .i32⟩ : BufTy).Contents (Elt F) → (⟨S_, .i32⟩ : BufTy).Contents (Elt F)) (fun _ => StableHlo.binary_result ..) (late V body1_writes 3 (by decide +kernel)) (late V body1_writes 3 (by decide +kernel))

theorem body1_while1b_call15_c : after body1 V main_while1b_call15_c =
    (constantI S_ 32 0#32) :=
  read0 (y := main_while1b_call15_c) body1_writes 4 rfl (by decide +kernel) (fun _ => StableHlo.nullary_result ..)

theorem body1_while1b_call15_c_0 : after body1 V main_while1b_call15_c_0 =
    (constantI S_ 32 0#32) :=
  read0 (y := main_while1b_call15_c_0) body1_writes 5 rfl (by decide +kernel) (fun _ => StableHlo.nullary_result ..)

theorem body1_while1b_call15_c_1 : after body1 V main_while1b_call15_c_1 =
    (constantI S_ 32 0#32) :=
  read0 (y := main_while1b_call15_c_1) body1_writes 6 rfl (by decide +kernel) (fun _ => StableHlo.nullary_result ..)

theorem body1_while1b_call15_c_2 : after body1 V main_while1b_call15_c_2 =
    (constantI S_ 32 0#32) :=
  read0 (y := main_while1b_call15_c_2) body1_writes 7 rfl (by decide +kernel) (fun _ => StableHlo.nullary_result ..)

theorem body1_while1b_call15_c_3 : after body1 V main_while1b_call15_c_3 =
    (constantI S_ 32 0#32) :=
  read0 (y := main_while1b_call15_c_3) body1_writes 8 rfl (by decide +kernel) (fun _ => StableHlo.nullary_result ..)

theorem body1_while1b_call15_v0 : after body1 V main_while1b_call15_v0 =
    (fun x i => Host.dynamicSlice S1x2x4x128x4x512 x (fun k => (i k (Shape.Idx.first h_S_)).toInt) sliceFits_S16x2x4x128x4x512_S1x2x4x128x4x512) (after body1 V main_v130_0) ![after body1 V main_while1b_v192, after body1 V main_while1b_call15_c, after body1 V main_while1b_call15_c_0, after body1 V main_while1b_call15_c_1, after body1 V main_while1b_call15_c_2, after body1 V main_while1b_call15_c_3] :=
  read1I body1_writes 9 (a := main_v130_0) (i₀ := main_while1b_v192) (i₁ := main_while1b_call15_c) (i₂ := main_while1b_call15_c_0) (i₃ := main_while1b_call15_c_1) (i₄ := main_while1b_call15_c_2) (i₅ := main_while1b_call15_c_3) (y := main_while1b_call15_v0) (T := ⟨S_, .i32⟩) (f := (fun x i => Host.dynamicSlice S1x2x4x128x4x512 x (fun k => (i k (Shape.Idx.first h_S_)).toInt) sliceFits_S16x2x4x128x4x512_S1x2x4x128x4x512)) rfl (by decide +kernel) (late V body1_writes 9 (by decide +kernel)) (late V body1_writes 9 (by decide +kernel)) (late V body1_writes 9 (by decide +kernel)) (late V body1_writes 9 (by decide +kernel)) (late V body1_writes 9 (by decide +kernel)) (late V body1_writes 9 (by decide +kernel)) (late V body1_writes 9 (by decide +kernel))

theorem body1_while1b_v193 : after body1 V main_while1b_v193 =
    ((shapeCast S2x4x128x4x512 · shapeCasts_S1x2x4x128x4x512_S2x4x128x4x512) : (⟨S1x2x4x128x4x512, .f32⟩ : BufTy).Contents (Elt F) → (⟨S2x4x128x4x512, .f32⟩ : BufTy).Contents (Elt F)) (after body1 V main_while1b_call15_v0) :=
  uncast (readR (x := main_while1b_call15_v0) (y := main_while1b_v193) (s := S1x2x4x128x4x512) (s' := S2x4x128x4x512) body1_writes 10 rfl (by decide +kernel) rfl rfl shapeCasts_S1x2x4x128x4x512_S2x4x128x4x512 (late V body1_writes 10 (by decide +kernel)))

theorem body1_while1b_call16_c : after body1 V main_while1b_call16_c =
    (constantI S_ 32 0#32) :=
  read0 (y := main_while1b_call16_c) body1_writes 11 rfl (by decide +kernel) (fun _ => StableHlo.nullary_result ..)

theorem body1_while1b_call16_c_0 : after body1 V main_while1b_call16_c_0 =
    (constantI S_ 32 0#32) :=
  read0 (y := main_while1b_call16_c_0) body1_writes 12 rfl (by decide +kernel) (fun _ => StableHlo.nullary_result ..)

theorem body1_while1b_call16_c_1 : after body1 V main_while1b_call16_c_1 =
    (constantI S_ 32 0#32) :=
  read0 (y := main_while1b_call16_c_1) body1_writes 13 rfl (by decide +kernel) (fun _ => StableHlo.nullary_result ..)

theorem body1_while1b_call16_c_2 : after body1 V main_while1b_call16_c_2 =
    (constantI S_ 32 0#32) :=
  read0 (y := main_while1b_call16_c_2) body1_writes 14 rfl (by decide +kernel) (fun _ => StableHlo.nullary_result ..)

theorem body1_while1b_call16_c_3 : after body1 V main_while1b_call16_c_3 =
    (constantI S_ 32 0#32) :=
  read0 (y := main_while1b_call16_c_3) body1_writes 15 rfl (by decide +kernel) (fun _ => StableHlo.nullary_result ..)

theorem body1_while1b_call16_v0 : after body1 V main_while1b_call16_v0 =
    (fun x i => Host.dynamicSlice S1x2x4x128x4x256 x (fun k => (i k (Shape.Idx.first h_S_)).toInt) sliceFits_S16x2x4x128x4x256_S1x2x4x128x4x256) (after body1 V main_v130_1) ![after body1 V main_while1b_v192, after body1 V main_while1b_call16_c, after body1 V main_while1b_call16_c_0, after body1 V main_while1b_call16_c_1, after body1 V main_while1b_call16_c_2, after body1 V main_while1b_call16_c_3] :=
  read1I body1_writes 16 (a := main_v130_1) (i₀ := main_while1b_v192) (i₁ := main_while1b_call16_c) (i₂ := main_while1b_call16_c_0) (i₃ := main_while1b_call16_c_1) (i₄ := main_while1b_call16_c_2) (i₅ := main_while1b_call16_c_3) (y := main_while1b_call16_v0) (T := ⟨S_, .i32⟩) (f := (fun x i => Host.dynamicSlice S1x2x4x128x4x256 x (fun k => (i k (Shape.Idx.first h_S_)).toInt) sliceFits_S16x2x4x128x4x256_S1x2x4x128x4x256)) rfl (by decide +kernel) (late V body1_writes 16 (by decide +kernel)) (late V body1_writes 16 (by decide +kernel)) (late V body1_writes 16 (by decide +kernel)) (late V body1_writes 16 (by decide +kernel)) (late V body1_writes 16 (by decide +kernel)) (late V body1_writes 16 (by decide +kernel)) (late V body1_writes 16 (by decide +kernel))

theorem body1_while1b_v194 : after body1 V main_while1b_v194 =
    ((shapeCast S2x4x128x4x256 · shapeCasts_S1x2x4x128x4x256_S2x4x128x4x256) : (⟨S1x2x4x128x4x256, .f32⟩ : BufTy).Contents (Elt F) → (⟨S2x4x128x4x256, .f32⟩ : BufTy).Contents (Elt F)) (after body1 V main_while1b_call16_v0) :=
  uncast (readR (x := main_while1b_call16_v0) (y := main_while1b_v194) (s := S1x2x4x128x4x256) (s' := S2x4x128x4x256) body1_writes 17 rfl (by decide +kernel) rfl rfl shapeCasts_S1x2x4x128x4x256_S2x4x128x4x256 (late V body1_writes 17 (by decide +kernel)))

theorem body1_while1b_call17_c : after body1 V main_while1b_call17_c =
    (constantI S_ 32 0#32) :=
  read0 (y := main_while1b_call17_c) body1_writes 18 rfl (by decide +kernel) (fun _ => StableHlo.nullary_result ..)

theorem body1_while1b_call17_c_0 : after body1 V main_while1b_call17_c_0 =
    (constantI S_ 32 0#32) :=
  read0 (y := main_while1b_call17_c_0) body1_writes 19 rfl (by decide +kernel) (fun _ => StableHlo.nullary_result ..)

theorem body1_while1b_call17_c_1 : after body1 V main_while1b_call17_c_1 =
    (constantI S_ 32 0#32) :=
  read0 (y := main_while1b_call17_c_1) body1_writes 20 rfl (by decide +kernel) (fun _ => StableHlo.nullary_result ..)

theorem body1_while1b_call17_c_2 : after body1 V main_while1b_call17_c_2 =
    (constantI S_ 32 0#32) :=
  read0 (y := main_while1b_call17_c_2) body1_writes 21 rfl (by decide +kernel) (fun _ => StableHlo.nullary_result ..)

theorem body1_while1b_call17_c_3 : after body1 V main_while1b_call17_c_3 =
    (constantI S_ 32 0#32) :=
  read0 (y := main_while1b_call17_c_3) body1_writes 22 rfl (by decide +kernel) (fun _ => StableHlo.nullary_result ..)

theorem body1_while1b_call17_v0 : after body1 V main_while1b_call17_v0 =
    (fun x i => Host.dynamicSlice S1x2x4x128x4x256 x (fun k => (i k (Shape.Idx.first h_S_)).toInt) sliceFits_S16x2x4x128x4x256_S1x2x4x128x4x256) (after body1 V main_v130_2) ![after body1 V main_while1b_v192, after body1 V main_while1b_call17_c, after body1 V main_while1b_call17_c_0, after body1 V main_while1b_call17_c_1, after body1 V main_while1b_call17_c_2, after body1 V main_while1b_call17_c_3] :=
  read1I body1_writes 23 (a := main_v130_2) (i₀ := main_while1b_v192) (i₁ := main_while1b_call17_c) (i₂ := main_while1b_call17_c_0) (i₃ := main_while1b_call17_c_1) (i₄ := main_while1b_call17_c_2) (i₅ := main_while1b_call17_c_3) (y := main_while1b_call17_v0) (T := ⟨S_, .i32⟩) (f := (fun x i => Host.dynamicSlice S1x2x4x128x4x256 x (fun k => (i k (Shape.Idx.first h_S_)).toInt) sliceFits_S16x2x4x128x4x256_S1x2x4x128x4x256)) rfl (by decide +kernel) (late V body1_writes 23 (by decide +kernel)) (late V body1_writes 23 (by decide +kernel)) (late V body1_writes 23 (by decide +kernel)) (late V body1_writes 23 (by decide +kernel)) (late V body1_writes 23 (by decide +kernel)) (late V body1_writes 23 (by decide +kernel)) (late V body1_writes 23 (by decide +kernel))

theorem body1_while1b_v195 : after body1 V main_while1b_v195 =
    ((shapeCast S2x4x128x4x256 · shapeCasts_S1x2x4x128x4x256_S2x4x128x4x256) : (⟨S1x2x4x128x4x256, .f32⟩ : BufTy).Contents (Elt F) → (⟨S2x4x128x4x256, .f32⟩ : BufTy).Contents (Elt F)) (after body1 V main_while1b_call17_v0) :=
  uncast (readR (x := main_while1b_call17_v0) (y := main_while1b_v195) (s := S1x2x4x128x4x256) (s' := S2x4x128x4x256) body1_writes 24 rfl (by decide +kernel) rfl rfl shapeCasts_S1x2x4x128x4x256_S2x4x128x4x256 (late V body1_writes 24 (by decide +kernel)))

theorem body1_while1b_call18_c : after body1 V main_while1b_call18_c =
    (constantI S_ 32 0#32) :=
  read0 (y := main_while1b_call18_c) body1_writes 25 rfl (by decide +kernel) (fun _ => StableHlo.nullary_result ..)

theorem body1_while1b_call18_c_0 : after body1 V main_while1b_call18_c_0 =
    (constantI S_ 32 0#32) :=
  read0 (y := main_while1b_call18_c_0) body1_writes 26 rfl (by decide +kernel) (fun _ => StableHlo.nullary_result ..)

theorem body1_while1b_call18_c_1 : after body1 V main_while1b_call18_c_1 =
    (constantI S_ 32 0#32) :=
  read0 (y := main_while1b_call18_c_1) body1_writes 27 rfl (by decide +kernel) (fun _ => StableHlo.nullary_result ..)

theorem body1_while1b_call18_c_2 : after body1 V main_while1b_call18_c_2 =
    (constantI S_ 32 0#32) :=
  read0 (y := main_while1b_call18_c_2) body1_writes 28 rfl (by decide +kernel) (fun _ => StableHlo.nullary_result ..)

theorem body1_while1b_call18_c_3 : after body1 V main_while1b_call18_c_3 =
    (constantI S_ 32 0#32) :=
  read0 (y := main_while1b_call18_c_3) body1_writes 29 rfl (by decide +kernel) (fun _ => StableHlo.nullary_result ..)

theorem body1_while1b_call18_v0 : after body1 V main_while1b_call18_v0 =
    (fun x i => Host.dynamicSlice S1x2x4x4x128x128 x (fun k => (i k (Shape.Idx.first h_S_)).toInt) sliceFits_S16x2x4x4x128x128_S1x2x4x4x128x128) (after body1 V main_v130_3) ![after body1 V main_while1b_v192, after body1 V main_while1b_call18_c, after body1 V main_while1b_call18_c_0, after body1 V main_while1b_call18_c_1, after body1 V main_while1b_call18_c_2, after body1 V main_while1b_call18_c_3] :=
  read1I body1_writes 30 (a := main_v130_3) (i₀ := main_while1b_v192) (i₁ := main_while1b_call18_c) (i₂ := main_while1b_call18_c_0) (i₃ := main_while1b_call18_c_1) (i₄ := main_while1b_call18_c_2) (i₅ := main_while1b_call18_c_3) (y := main_while1b_call18_v0) (T := ⟨S_, .i32⟩) (f := (fun x i => Host.dynamicSlice S1x2x4x4x128x128 x (fun k => (i k (Shape.Idx.first h_S_)).toInt) sliceFits_S16x2x4x4x128x128_S1x2x4x4x128x128)) rfl (by decide +kernel) (late V body1_writes 30 (by decide +kernel)) (late V body1_writes 30 (by decide +kernel)) (late V body1_writes 30 (by decide +kernel)) (late V body1_writes 30 (by decide +kernel)) (late V body1_writes 30 (by decide +kernel)) (late V body1_writes 30 (by decide +kernel)) (late V body1_writes 30 (by decide +kernel))

theorem body1_while1b_v196 : after body1 V main_while1b_v196 =
    ((shapeCast S2x4x4x128x128 · shapeCasts_S1x2x4x4x128x128_S2x4x4x128x128) : (⟨S1x2x4x4x128x128, .f32⟩ : BufTy).Contents (Elt F) → (⟨S2x4x4x128x128, .f32⟩ : BufTy).Contents (Elt F)) (after body1 V main_while1b_call18_v0) :=
  uncast (readR (x := main_while1b_call18_v0) (y := main_while1b_v196) (s := S1x2x4x4x128x128) (s' := S2x4x4x128x128) body1_writes 31 rfl (by decide +kernel) rfl rfl shapeCasts_S1x2x4x4x128x128_S2x4x4x128x128 (late V body1_writes 31 (by decide +kernel)))

theorem body1_while1b_call19_c : after body1 V main_while1b_call19_c =
    (constantI S_ 32 0#32) :=
  read0 (y := main_while1b_call19_c) body1_writes 32 rfl (by decide +kernel) (fun _ => StableHlo.nullary_result ..)

theorem body1_while1b_call19_c_0 : after body1 V main_while1b_call19_c_0 =
    (constantI S_ 32 0#32) :=
  read0 (y := main_while1b_call19_c_0) body1_writes 33 rfl (by decide +kernel) (fun _ => StableHlo.nullary_result ..)

theorem body1_while1b_call19_c_1 : after body1 V main_while1b_call19_c_1 =
    (constantI S_ 32 0#32) :=
  read0 (y := main_while1b_call19_c_1) body1_writes 34 rfl (by decide +kernel) (fun _ => StableHlo.nullary_result ..)

theorem body1_while1b_call19_c_2 : after body1 V main_while1b_call19_c_2 =
    (constantI S_ 32 0#32) :=
  read0 (y := main_while1b_call19_c_2) body1_writes 35 rfl (by decide +kernel) (fun _ => StableHlo.nullary_result ..)

theorem body1_while1b_call19_c_3 : after body1 V main_while1b_call19_c_3 =
    (constantI S_ 32 0#32) :=
  read0 (y := main_while1b_call19_c_3) body1_writes 36 rfl (by decide +kernel) (fun _ => StableHlo.nullary_result ..)

theorem body1_while1b_call19_v0 : after body1 V main_while1b_call19_v0 =
    (fun x i => Host.dynamicSlice S1x2x4x128x4x512 x (fun k => (i k (Shape.Idx.first h_S_)).toInt) sliceFits_S16x2x4x128x4x512_S1x2x4x128x4x512) (after body1 V main_v130_4) ![after body1 V main_while1b_v192, after body1 V main_while1b_call19_c, after body1 V main_while1b_call19_c_0, after body1 V main_while1b_call19_c_1, after body1 V main_while1b_call19_c_2, after body1 V main_while1b_call19_c_3] :=
  read1I body1_writes 37 (a := main_v130_4) (i₀ := main_while1b_v192) (i₁ := main_while1b_call19_c) (i₂ := main_while1b_call19_c_0) (i₃ := main_while1b_call19_c_1) (i₄ := main_while1b_call19_c_2) (i₅ := main_while1b_call19_c_3) (y := main_while1b_call19_v0) (T := ⟨S_, .i32⟩) (f := (fun x i => Host.dynamicSlice S1x2x4x128x4x512 x (fun k => (i k (Shape.Idx.first h_S_)).toInt) sliceFits_S16x2x4x128x4x512_S1x2x4x128x4x512)) rfl (by decide +kernel) (late V body1_writes 37 (by decide +kernel)) (late V body1_writes 37 (by decide +kernel)) (late V body1_writes 37 (by decide +kernel)) (late V body1_writes 37 (by decide +kernel)) (late V body1_writes 37 (by decide +kernel)) (late V body1_writes 37 (by decide +kernel)) (late V body1_writes 37 (by decide +kernel))

theorem body1_while1b_v197 : after body1 V main_while1b_v197 =
    ((shapeCast S2x4x128x4x512 · shapeCasts_S1x2x4x128x4x512_S2x4x128x4x512) : (⟨S1x2x4x128x4x512, .f32⟩ : BufTy).Contents (Elt F) → (⟨S2x4x128x4x512, .f32⟩ : BufTy).Contents (Elt F)) (after body1 V main_while1b_call19_v0) :=
  uncast (readR (x := main_while1b_call19_v0) (y := main_while1b_v197) (s := S1x2x4x128x4x512) (s' := S2x4x128x4x512) body1_writes 38 rfl (by decide +kernel) rfl rfl shapeCasts_S1x2x4x128x4x512_S2x4x128x4x512 (late V body1_writes 38 (by decide +kernel)))

theorem body1_while1b_call20_c : after body1 V main_while1b_call20_c =
    (constantI S_ 32 0#32) :=
  read0 (y := main_while1b_call20_c) body1_writes 39 rfl (by decide +kernel) (fun _ => StableHlo.nullary_result ..)

theorem body1_while1b_call20_c_0 : after body1 V main_while1b_call20_c_0 =
    (constantI S_ 32 0#32) :=
  read0 (y := main_while1b_call20_c_0) body1_writes 40 rfl (by decide +kernel) (fun _ => StableHlo.nullary_result ..)

theorem body1_while1b_call20_c_1 : after body1 V main_while1b_call20_c_1 =
    (constantI S_ 32 0#32) :=
  read0 (y := main_while1b_call20_c_1) body1_writes 41 rfl (by decide +kernel) (fun _ => StableHlo.nullary_result ..)

theorem body1_while1b_call20_c_2 : after body1 V main_while1b_call20_c_2 =
    (constantI S_ 32 0#32) :=
  read0 (y := main_while1b_call20_c_2) body1_writes 42 rfl (by decide +kernel) (fun _ => StableHlo.nullary_result ..)

theorem body1_while1b_call20_c_3 : after body1 V main_while1b_call20_c_3 =
    (constantI S_ 32 0#32) :=
  read0 (y := main_while1b_call20_c_3) body1_writes 43 rfl (by decide +kernel) (fun _ => StableHlo.nullary_result ..)

theorem body1_while1b_call20_v0 : after body1 V main_while1b_call20_v0 =
    (fun x i => Host.dynamicSlice S1x2x4x4x256x512 x (fun k => (i k (Shape.Idx.first h_S_)).toInt) sliceFits_S16x2x4x4x256x512_S1x2x4x4x256x512) (after body1 V main_v130_5) ![after body1 V main_while1b_v192, after body1 V main_while1b_call20_c, after body1 V main_while1b_call20_c_0, after body1 V main_while1b_call20_c_1, after body1 V main_while1b_call20_c_2, after body1 V main_while1b_call20_c_3] :=
  read1I body1_writes 44 (a := main_v130_5) (i₀ := main_while1b_v192) (i₁ := main_while1b_call20_c) (i₂ := main_while1b_call20_c_0) (i₃ := main_while1b_call20_c_1) (i₄ := main_while1b_call20_c_2) (i₅ := main_while1b_call20_c_3) (y := main_while1b_call20_v0) (T := ⟨S_, .i32⟩) (f := (fun x i => Host.dynamicSlice S1x2x4x4x256x512 x (fun k => (i k (Shape.Idx.first h_S_)).toInt) sliceFits_S16x2x4x4x256x512_S1x2x4x4x256x512)) rfl (by decide +kernel) (late V body1_writes 44 (by decide +kernel)) (late V body1_writes 44 (by decide +kernel)) (late V body1_writes 44 (by decide +kernel)) (late V body1_writes 44 (by decide +kernel)) (late V body1_writes 44 (by decide +kernel)) (late V body1_writes 44 (by decide +kernel)) (late V body1_writes 44 (by decide +kernel))

theorem body1_while1b_v198 : after body1 V main_while1b_v198 =
    ((shapeCast S2x4x4x256x512 · shapeCasts_S1x2x4x4x256x512_S2x4x4x256x512) : (⟨S1x2x4x4x256x512, .f32⟩ : BufTy).Contents (Elt F) → (⟨S2x4x4x256x512, .f32⟩ : BufTy).Contents (Elt F)) (after body1 V main_while1b_call20_v0) :=
  uncast (readR (x := main_while1b_call20_v0) (y := main_while1b_v198) (s := S1x2x4x4x256x512) (s' := S2x4x4x256x512) body1_writes 45 rfl (by decide +kernel) rfl rfl shapeCasts_S1x2x4x4x256x512_S2x4x4x256x512 (late V body1_writes 45 (by decide +kernel)))

theorem body1_while1b_call21_c : after body1 V main_while1b_call21_c =
    (constantI S_ 32 0#32) :=
  read0 (y := main_while1b_call21_c) body1_writes 46 rfl (by decide +kernel) (fun _ => StableHlo.nullary_result ..)

theorem body1_while1b_call21_c_0 : after body1 V main_while1b_call21_c_0 =
    (constantI S_ 32 0#32) :=
  read0 (y := main_while1b_call21_c_0) body1_writes 47 rfl (by decide +kernel) (fun _ => StableHlo.nullary_result ..)

theorem body1_while1b_call21_c_1 : after body1 V main_while1b_call21_c_1 =
    (constantI S_ 32 0#32) :=
  read0 (y := main_while1b_call21_c_1) body1_writes 48 rfl (by decide +kernel) (fun _ => StableHlo.nullary_result ..)

theorem body1_while1b_call21_c_2 : after body1 V main_while1b_call21_c_2 =
    (constantI S_ 32 0#32) :=
  read0 (y := main_while1b_call21_c_2) body1_writes 49 rfl (by decide +kernel) (fun _ => StableHlo.nullary_result ..)

theorem body1_while1b_call21_c_3 : after body1 V main_while1b_call21_c_3 =
    (constantI S_ 32 0#32) :=
  read0 (y := main_while1b_call21_c_3) body1_writes 50 rfl (by decide +kernel) (fun _ => StableHlo.nullary_result ..)

theorem body1_while1b_call21_v0 : after body1 V main_while1b_call21_v0 =
    (fun x i => Host.dynamicSlice S1x2x4x128x4x256 x (fun k => (i k (Shape.Idx.first h_S_)).toInt) sliceFits_S16x2x4x128x4x256_S1x2x4x128x4x256) (after body1 V main_v130_6) ![after body1 V main_while1b_v192, after body1 V main_while1b_call21_c, after body1 V main_while1b_call21_c_0, after body1 V main_while1b_call21_c_1, after body1 V main_while1b_call21_c_2, after body1 V main_while1b_call21_c_3] :=
  read1I body1_writes 51 (a := main_v130_6) (i₀ := main_while1b_v192) (i₁ := main_while1b_call21_c) (i₂ := main_while1b_call21_c_0) (i₃ := main_while1b_call21_c_1) (i₄ := main_while1b_call21_c_2) (i₅ := main_while1b_call21_c_3) (y := main_while1b_call21_v0) (T := ⟨S_, .i32⟩) (f := (fun x i => Host.dynamicSlice S1x2x4x128x4x256 x (fun k => (i k (Shape.Idx.first h_S_)).toInt) sliceFits_S16x2x4x128x4x256_S1x2x4x128x4x256)) rfl (by decide +kernel) (late V body1_writes 51 (by decide +kernel)) (late V body1_writes 51 (by decide +kernel)) (late V body1_writes 51 (by decide +kernel)) (late V body1_writes 51 (by decide +kernel)) (late V body1_writes 51 (by decide +kernel)) (late V body1_writes 51 (by decide +kernel)) (late V body1_writes 51 (by decide +kernel))

theorem body1_while1b_v199 : after body1 V main_while1b_v199 =
    ((shapeCast S2x4x128x4x256 · shapeCasts_S1x2x4x128x4x256_S2x4x128x4x256) : (⟨S1x2x4x128x4x256, .f32⟩ : BufTy).Contents (Elt F) → (⟨S2x4x128x4x256, .f32⟩ : BufTy).Contents (Elt F)) (after body1 V main_while1b_call21_v0) :=
  uncast (readR (x := main_while1b_call21_v0) (y := main_while1b_v199) (s := S1x2x4x128x4x256) (s' := S2x4x128x4x256) body1_writes 52 rfl (by decide +kernel) rfl rfl shapeCasts_S1x2x4x128x4x256_S2x4x128x4x256 (late V body1_writes 52 (by decide +kernel)))

theorem body1_while1b_v200 : after body1 V main_while1b_v200 =
    ((fun l r => Host.dotGeneral dot_S2x4x4x256x512_S2x4x128x4x256_S2x4x4x512x128_3_4_4_2_012_013 none l r) : (⟨S2x4x4x256x512, .f32⟩ : BufTy).Contents (Elt F) → (⟨S2x4x128x4x256, .f32⟩ : BufTy).Contents (Elt F) → (⟨S2x4x4x512x128, .f32⟩ : BufTy).Contents (Elt F)) (V main_v130_12) (after body1 V main_while1b_v199) :=
  read2 (a := main_v130_12) (b := main_while1b_v199) (y := main_while1b_v200) body1_writes 53 rfl (by decide +kernel) ((fun l r => Host.dotGeneral dot_S2x4x4x256x512_S2x4x128x4x256_S2x4x4x512x128_3_4_4_2_012_013 none l r) : (⟨S2x4x4x256x512, .f32⟩ : BufTy).Contents (Elt F) → (⟨S2x4x128x4x256, .f32⟩ : BufTy).Contents (Elt F) → (⟨S2x4x4x512x128, .f32⟩ : BufTy).Contents (Elt F)) (fun _ => StableHlo.binary_result ..) (early V body1_writes 53 (by decide +kernel)) (late V body1_writes 53 (by decide +kernel))

theorem body1_while1b_v201 : after body1 V main_while1b_v201 =
    ((transpose S2x4x128x4x512 [0, 1, 4, 2, 3] · transposes_S2x4x4x512x128_S2x4x128x4x512_0_1_4_2_3) : (⟨S2x4x4x512x128, .f32⟩ : BufTy).Contents (Elt F) → (⟨S2x4x128x4x512, .f32⟩ : BufTy).Contents (Elt F)) (after body1 V main_while1b_v200) :=
  (readU (x := main_while1b_v200) (y := main_while1b_v201) body1_writes 54 rfl (by decide +kernel) (late V body1_writes 54 (by decide +kernel)) :)

theorem body1_while1b_v202 : after body1 V main_while1b_v202 =
    ((fun l r => Host.dotGeneral dot_S2x4x4x256x512_S2x4x128x4x512_S2x4x4x256x128_4_4_3_2_012_013 none l r) : (⟨S2x4x4x256x512, .f32⟩ : BufTy).Contents (Elt F) → (⟨S2x4x128x4x512, .f32⟩ : BufTy).Contents (Elt F) → (⟨S2x4x4x256x128, .f32⟩ : BufTy).Contents (Elt F)) (V main_v130_12) (after body1 V main_while1b_v197) :=
  read2 (a := main_v130_12) (b := main_while1b_v197) (y := main_while1b_v202) body1_writes 55 rfl (by decide +kernel) ((fun l r => Host.dotGeneral dot_S2x4x4x256x512_S2x4x128x4x512_S2x4x4x256x128_4_4_3_2_012_013 none l r) : (⟨S2x4x4x256x512, .f32⟩ : BufTy).Contents (Elt F) → (⟨S2x4x128x4x512, .f32⟩ : BufTy).Contents (Elt F) → (⟨S2x4x4x256x128, .f32⟩ : BufTy).Contents (Elt F)) (fun _ => StableHlo.binary_result ..) (early V body1_writes 55 (by decide +kernel)) (late V body1_writes 55 (by decide +kernel))

theorem body1_while1b_v203 : after body1 V main_while1b_v203 =
    ((transpose S2x4x128x4x256 [0, 1, 4, 2, 3] · transposes_S2x4x4x256x128_S2x4x128x4x256_0_1_4_2_3) : (⟨S2x4x4x256x128, .f32⟩ : BufTy).Contents (Elt F) → (⟨S2x4x128x4x256, .f32⟩ : BufTy).Contents (Elt F)) (after body1 V main_while1b_v202) :=
  (readU (x := main_while1b_v202) (y := main_while1b_v203) body1_writes 56 rfl (by decide +kernel) (late V body1_writes 56 (by decide +kernel)) :)

theorem body1_while1b_v204 : after body1 V main_while1b_v204 =
    (broadcastInDim S2x4x128x4x256 ![0, 1, 2, 3, 4] bcast_S2x1x128x4x1_S2x4x128x4x256_0_1_2_3_4 : (⟨S2x1x128x4x1, .f32⟩ : BufTy).Contents (Elt F) → (⟨S2x4x128x4x256, .f32⟩ : BufTy).Contents (Elt F)) (after body1 V main_v130_10) :=
  (readU (x := main_v130_10) (y := main_while1b_v204) body1_writes 57 rfl (by decide +kernel) (late V body1_writes 57 (by decide +kernel)) :)

theorem body1_while1b_v205 : after body1 V main_while1b_v205 =
    (mulf : (⟨S2x4x128x4x256, .f32⟩ : BufTy).Contents (Elt F) → (⟨S2x4x128x4x256, .f32⟩ : BufTy).Contents (Elt F) → (⟨S2x4x128x4x256, .f32⟩ : BufTy).Contents (Elt F)) (after body1 V main_while1b_v203) (after body1 V main_while1b_v204) :=
  read2 (a := main_while1b_v203) (b := main_while1b_v204) (y := main_while1b_v205) body1_writes 58 rfl (by decide +kernel) (mulf : (⟨S2x4x128x4x256, .f32⟩ : BufTy).Contents (Elt F) → (⟨S2x4x128x4x256, .f32⟩ : BufTy).Contents (Elt F) → (⟨S2x4x128x4x256, .f32⟩ : BufTy).Contents (Elt F)) (fun _ => StableHlo.binary_result ..) (late V body1_writes 58 (by decide +kernel)) (late V body1_writes 58 (by decide +kernel))

theorem body1_while1b_v206 : after body1 V main_while1b_v206 =
    (broadcastInDim S2x4x4x256x512 ![0, 1, 2, 3, 4] bcast_S2x1x4x1x1_S2x4x4x256x512_0_1_2_3_4 : (⟨S2x1x4x1x1, .f32⟩ : BufTy).Contents (Elt F) → (⟨S2x4x4x256x512, .f32⟩ : BufTy).Contents (Elt F)) (after body1 V main_v130_9) :=
  (readU (x := main_v130_9) (y := main_while1b_v206) body1_writes 59 rfl (by decide +kernel) (late V body1_writes 59 (by decide +kernel)) :)

theorem body1_while1b_v207 : after body1 V main_while1b_v207 =
    (mulf : (⟨S2x4x4x256x512, .f32⟩ : BufTy).Contents (Elt F) → (⟨S2x4x4x256x512, .f32⟩ : BufTy).Contents (Elt F) → (⟨S2x4x4x256x512, .f32⟩ : BufTy).Contents (Elt F)) (V main_v130_12) (after body1 V main_while1b_v206) :=
  read2 (a := main_v130_12) (b := main_while1b_v206) (y := main_while1b_v207) body1_writes 60 rfl (by decide +kernel) (mulf : (⟨S2x4x4x256x512, .f32⟩ : BufTy).Contents (Elt F) → (⟨S2x4x4x256x512, .f32⟩ : BufTy).Contents (Elt F) → (⟨S2x4x4x256x512, .f32⟩ : BufTy).Contents (Elt F)) (fun _ => StableHlo.binary_result ..) (early V body1_writes 60 (by decide +kernel)) (late V body1_writes 60 (by decide +kernel))

theorem body1_while1b_v208 : after body1 V main_while1b_v208 =
    (broadcastInDim S2x4x128x4x512 ![0, 1, 2, 3, 4] bcast_S2x1x128x4x1_S2x4x128x4x512_0_1_2_3_4 : (⟨S2x1x128x4x1, .f32⟩ : BufTy).Contents (Elt F) → (⟨S2x4x128x4x512, .f32⟩ : BufTy).Contents (Elt F)) (after body1 V main_v130_8) :=
  (readU (x := main_v130_8) (y := main_while1b_v208) body1_writes 61 rfl (by decide +kernel) (late V body1_writes 61 (by decide +kernel)) :)

theorem body1_while1b_v209 : after body1 V main_while1b_v209 =
    (mulf : (⟨S2x4x128x4x512, .f32⟩ : BufTy).Contents (Elt F) → (⟨S2x4x128x4x512, .f32⟩ : BufTy).Contents (Elt F) → (⟨S2x4x128x4x512, .f32⟩ : BufTy).Contents (Elt F)) (after body1 V main_while1b_v193) (after body1 V main_while1b_v208) :=
  read2 (a := main_while1b_v193) (b := main_while1b_v208) (y := main_while1b_v209) body1_writes 62 rfl (by decide +kernel) (mulf : (⟨S2x4x128x4x512, .f32⟩ : BufTy).Contents (Elt F) → (⟨S2x4x128x4x512, .f32⟩ : BufTy).Contents (Elt F) → (⟨S2x4x128x4x512, .f32⟩ : BufTy).Contents (Elt F)) (fun _ => StableHlo.binary_result ..) (late V body1_writes 62 (by decide +kernel)) (late V body1_writes 62 (by decide +kernel))

theorem body1_while1b_v210 : after body1 V main_while1b_v210 =
    ((transpose S2x4x4x512x128 [0, 1, 3, 4, 2] · transposes_S2x4x128x4x512_S2x4x4x512x128_0_1_3_4_2) : (⟨S2x4x128x4x512, .f32⟩ : BufTy).Contents (Elt F) → (⟨S2x4x4x512x128, .f32⟩ : BufTy).Contents (Elt F)) (after body1 V main_while1b_v209) :=
  (readU (x := main_while1b_v209) (y := main_while1b_v210) body1_writes 63 rfl (by decide +kernel) (late V body1_writes 63 (by decide +kernel)) :)

theorem body1_while1b_v211 : after body1 V main_while1b_v211 =
    ((fun l r => Host.dotGeneral dot_S2x4x4x512x128_S2x4x4x256x512_S2x4x4x128x256_3_4_4_3_012_012 none l r) : (⟨S2x4x4x512x128, .f32⟩ : BufTy).Contents (Elt F) → (⟨S2x4x4x256x512, .f32⟩ : BufTy).Contents (Elt F) → (⟨S2x4x4x128x256, .f32⟩ : BufTy).Contents (Elt F)) (after body1 V main_while1b_v210) (after body1 V main_while1b_v198) :=
  read2 (a := main_while1b_v210) (b := main_while1b_v198) (y := main_while1b_v211) body1_writes 64 rfl (by decide +kernel) ((fun l r => Host.dotGeneral dot_S2x4x4x512x128_S2x4x4x256x512_S2x4x4x128x256_3_4_4_3_012_012 none l r) : (⟨S2x4x4x512x128, .f32⟩ : BufTy).Contents (Elt F) → (⟨S2x4x4x256x512, .f32⟩ : BufTy).Contents (Elt F) → (⟨S2x4x4x128x256, .f32⟩ : BufTy).Contents (Elt F)) (fun _ => StableHlo.binary_result ..) (late V body1_writes 64 (by decide +kernel)) (late V body1_writes 64 (by decide +kernel))

theorem body1_while1b_v212 : after body1 V main_while1b_v212 =
    ((transpose S2x4x128x4x256 [0, 1, 3, 2, 4] · transposes_S2x4x4x128x256_S2x4x128x4x256_0_1_3_2_4) : (⟨S2x4x4x128x256, .f32⟩ : BufTy).Contents (Elt F) → (⟨S2x4x128x4x256, .f32⟩ : BufTy).Contents (Elt F)) (after body1 V main_while1b_v211) :=
  (readU (x := main_while1b_v211) (y := main_while1b_v212) body1_writes 65 rfl (by decide +kernel) (late V body1_writes 65 (by decide +kernel)) :)

theorem body1_while1b_v213 : after body1 V main_while1b_v213 =
    ((fun l r => Host.dotGeneral dot_S2x4x4x512x128_S2x4x128x4x256_S2x4x4x512x256_4_2_3_4_012_013 none l r) : (⟨S2x4x4x512x128, .f32⟩ : BufTy).Contents (Elt F) → (⟨S2x4x128x4x256, .f32⟩ : BufTy).Contents (Elt F) → (⟨S2x4x4x512x256, .f32⟩ : BufTy).Contents (Elt F)) (after body1 V main_while1b_v210) (after body1 V main_while1b_v195) :=
  read2 (a := main_while1b_v210) (b := main_while1b_v195) (y := main_while1b_v213) body1_writes 66 rfl (by decide +kernel) ((fun l r => Host.dotGeneral dot_S2x4x4x512x128_S2x4x128x4x256_S2x4x4x512x256_4_2_3_4_012_013 none l r) : (⟨S2x4x4x512x128, .f32⟩ : BufTy).Contents (Elt F) → (⟨S2x4x128x4x256, .f32⟩ : BufTy).Contents (Elt F) → (⟨S2x4x4x512x256, .f32⟩ : BufTy).Contents (Elt F)) (fun _ => StableHlo.binary_result ..) (late V body1_writes 66 (by decide +kernel)) (late V body1_writes 66 (by decide +kernel))

theorem body1_while1b_v214 : after body1 V main_while1b_v214 =
    ((transpose S2x4x4x256x512 [0, 1, 2, 4, 3] · transposes_S2x4x4x512x256_S2x4x4x256x512_0_1_2_4_3) : (⟨S2x4x4x512x256, .f32⟩ : BufTy).Contents (Elt F) → (⟨S2x4x4x256x512, .f32⟩ : BufTy).Contents (Elt F)) (after body1 V main_while1b_v213) :=
  (readU (x := main_while1b_v213) (y := main_while1b_v214) body1_writes 67 rfl (by decide +kernel) (late V body1_writes 67 (by decide +kernel)) :)

theorem body1_while1b_v215 : after body1 V main_while1b_v215 =
    (addf : (⟨S2x4x4x256x512, .f32⟩ : BufTy).Contents (Elt F) → (⟨S2x4x4x256x512, .f32⟩ : BufTy).Contents (Elt F) → (⟨S2x4x4x256x512, .f32⟩ : BufTy).Contents (Elt F)) (after body1 V main_while1b_v207) (after body1 V main_while1b_v214) :=
  read2 (a := main_while1b_v207) (b := main_while1b_v214) (y := main_while1b_v215) body1_writes 68 rfl (by decide +kernel) (addf : (⟨S2x4x4x256x512, .f32⟩ : BufTy).Contents (Elt F) → (⟨S2x4x4x256x512, .f32⟩ : BufTy).Contents (Elt F) → (⟨S2x4x4x256x512, .f32⟩ : BufTy).Contents (Elt F)) (fun _ => StableHlo.binary_result ..) (late V body1_writes 68 (by decide +kernel)) (late V body1_writes 68 (by decide +kernel))

theorem body1_while1b_v216 : after body1 V main_while1b_v216 =
    ((transpose S2x4x4x512x128 [0, 1, 3, 4, 2] · transposes_S2x4x128x4x512_S2x4x4x512x128_0_1_3_4_2) : (⟨S2x4x128x4x512, .f32⟩ : BufTy).Contents (Elt F) → (⟨S2x4x4x512x128, .f32⟩ : BufTy).Contents (Elt F)) (after body1 V main_while1b_v193) :=
  (readU (x := main_while1b_v193) (y := main_while1b_v216) body1_writes 69 rfl (by decide +kernel) (late V body1_writes 69 (by decide +kernel)) :)

theorem body1_while1b_v217 : after body1 V main_while1b_v217 =
    ((fun l r => Host.dotGeneral dot_S2x4x4x512x128_S2x4x128x4x512_S2x4x4x128x128_3_4_4_2_012_013 none l r) : (⟨S2x4x4x512x128, .f32⟩ : BufTy).Contents (Elt F) → (⟨S2x4x128x4x512, .f32⟩ : BufTy).Contents (Elt F) → (⟨S2x4x4x128x128, .f32⟩ : BufTy).Contents (Elt F)) (after body1 V main_while1b_v216) (after body1 V main_while1b_v197) :=
  read2 (a := main_while1b_v216) (b := main_while1b_v197) (y := main_while1b_v217) body1_writes 70 rfl (by decide +kernel) ((fun l r => Host.dotGeneral dot_S2x4x4x512x128_S2x4x128x4x512_S2x4x4x128x128_3_4_4_2_012_013 none l r) : (⟨S2x4x4x512x128, .f32⟩ : BufTy).Contents (Elt F) → (⟨S2x4x128x4x512, .f32⟩ : BufTy).Contents (Elt F) → (⟨S2x4x4x128x128, .f32⟩ : BufTy).Contents (Elt F)) (fun _ => StableHlo.binary_result ..) (late V body1_writes 70 (by decide +kernel)) (late V body1_writes 70 (by decide +kernel))

theorem body1_while1b_v218 : after body1 V main_while1b_v218 =
    ((fun l r => Host.dotGeneral dot_S2x4x4x512x128_S2x4x4x128x128_S2x4x4x512x128_4_3_3_4_012_012 none l r) : (⟨S2x4x4x512x128, .f32⟩ : BufTy).Contents (Elt F) → (⟨S2x4x4x128x128, .f32⟩ : BufTy).Contents (Elt F) → (⟨S2x4x4x512x128, .f32⟩ : BufTy).Contents (Elt F)) (after body1 V main_while1b_v216) (after body1 V main_while1b_v196) :=
  read2 (a := main_while1b_v216) (b := main_while1b_v196) (y := main_while1b_v218) body1_writes 71 rfl (by decide +kernel) ((fun l r => Host.dotGeneral dot_S2x4x4x512x128_S2x4x4x128x128_S2x4x4x512x128_4_3_3_4_012_012 none l r) : (⟨S2x4x4x512x128, .f32⟩ : BufTy).Contents (Elt F) → (⟨S2x4x4x128x128, .f32⟩ : BufTy).Contents (Elt F) → (⟨S2x4x4x512x128, .f32⟩ : BufTy).Contents (Elt F)) (fun _ => StableHlo.binary_result ..) (late V body1_writes 71 (by decide +kernel)) (late V body1_writes 71 (by decide +kernel))

theorem body1_while1b_v219 : after body1 V main_while1b_v219 =
    ((transpose S2x4x128x4x512 [0, 1, 4, 2, 3] · transposes_S2x4x4x512x128_S2x4x128x4x512_0_1_4_2_3) : (⟨S2x4x4x512x128, .f32⟩ : BufTy).Contents (Elt F) → (⟨S2x4x128x4x512, .f32⟩ : BufTy).Contents (Elt F)) (after body1 V main_while1b_v218) :=
  (readU (x := main_while1b_v218) (y := main_while1b_v219) body1_writes 72 rfl (by decide +kernel) (late V body1_writes 72 (by decide +kernel)) :)

theorem body1_while1b_v220 : after body1 V main_while1b_v220 =
    (addf : (⟨S2x4x128x4x512, .f32⟩ : BufTy).Contents (Elt F) → (⟨S2x4x128x4x512, .f32⟩ : BufTy).Contents (Elt F) → (⟨S2x4x128x4x512, .f32⟩ : BufTy).Contents (Elt F)) (after body1 V main_while1b_v201) (after body1 V main_while1b_v219) :=
  read2 (a := main_while1b_v201) (b := main_while1b_v219) (y := main_while1b_v220) body1_writes 73 rfl (by decide +kernel) (addf : (⟨S2x4x128x4x512, .f32⟩ : BufTy).Contents (Elt F) → (⟨S2x4x128x4x512, .f32⟩ : BufTy).Contents (Elt F) → (⟨S2x4x128x4x512, .f32⟩ : BufTy).Contents (Elt F)) (fun _ => StableHlo.binary_result ..) (late V body1_writes 73 (by decide +kernel)) (late V body1_writes 73 (by decide +kernel))

theorem body1_while1b_v221 : after body1 V main_while1b_v221 =
    (broadcastInDim S2x4x4x128x128 ![0, 1, 2, 3, 4] bcast_S2x1x4x128x128_S2x4x4x128x128_0_1_2_3_4 : (⟨S2x1x4x128x128, .f32⟩ : BufTy).Contents (Elt F) → (⟨S2x4x4x128x128, .f32⟩ : BufTy).Contents (Elt F)) (after body1 V main_v130_7) :=
  (readU (x := main_v130_7) (y := main_while1b_v221) body1_writes 74 rfl (by decide +kernel) (late V body1_writes 74 (by decide +kernel)) :)

theorem body1_while1b_v222 : after body1 V main_while1b_v222 =
    (mulf : (⟨S2x4x4x128x128, .f32⟩ : BufTy).Contents (Elt F) → (⟨S2x4x4x128x128, .f32⟩ : BufTy).Contents (Elt F) → (⟨S2x4x4x128x128, .f32⟩ : BufTy).Contents (Elt F)) (after body1 V main_while1b_v217) (after body1 V main_while1b_v221) :=
  read2 (a := main_while1b_v217) (b := main_while1b_v221) (y := main_while1b_v222) body1_writes 75 rfl (by decide +kernel) (mulf : (⟨S2x4x4x128x128, .f32⟩ : BufTy).Contents (Elt F) → (⟨S2x4x4x128x128, .f32⟩ : BufTy).Contents (Elt F) → (⟨S2x4x4x128x128, .f32⟩ : BufTy).Contents (Elt F)) (fun _ => StableHlo.binary_result ..) (late V body1_writes 75 (by decide +kernel)) (late V body1_writes 75 (by decide +kernel))

theorem body1_while1b_v223 : after body1 V main_while1b_v223 =
    ((fun l r => Host.dotGeneral dot_S2x4x4x128x128_S2x4x128x4x256_S2x4x4x128x256_3_2_4_4_012_013 none l r) : (⟨S2x4x4x128x128, .f32⟩ : BufTy).Contents (Elt F) → (⟨S2x4x128x4x256, .f32⟩ : BufTy).Contents (Elt F) → (⟨S2x4x4x128x256, .f32⟩ : BufTy).Contents (Elt F)) (after body1 V main_while1b_v222) (after body1 V main_while1b_v195) :=
  read2 (a := main_while1b_v222) (b := main_while1b_v195) (y := main_while1b_v223) body1_writes 76 rfl (by decide +kernel) ((fun l r => Host.dotGeneral dot_S2x4x4x128x128_S2x4x128x4x256_S2x4x4x128x256_3_2_4_4_012_013 none l r) : (⟨S2x4x4x128x128, .f32⟩ : BufTy).Contents (Elt F) → (⟨S2x4x128x4x256, .f32⟩ : BufTy).Contents (Elt F) → (⟨S2x4x4x128x256, .f32⟩ : BufTy).Contents (Elt F)) (fun _ => StableHlo.binary_result ..) (late V body1_writes 76 (by decide +kernel)) (late V body1_writes 76 (by decide +kernel))

theorem body1_while1b_v224 : after body1 V main_while1b_v224 =
    ((transpose S2x4x128x4x256 [0, 1, 3, 2, 4] · transposes_S2x4x4x128x256_S2x4x128x4x256_0_1_3_2_4) : (⟨S2x4x4x128x256, .f32⟩ : BufTy).Contents (Elt F) → (⟨S2x4x128x4x256, .f32⟩ : BufTy).Contents (Elt F)) (after body1 V main_while1b_v223) :=
  (readU (x := main_while1b_v223) (y := main_while1b_v224) body1_writes 77 rfl (by decide +kernel) (late V body1_writes 77 (by decide +kernel)) :)

theorem body1_while1b_v225 : after body1 V main_while1b_v225 =
    (addf : (⟨S2x4x128x4x256, .f32⟩ : BufTy).Contents (Elt F) → (⟨S2x4x128x4x256, .f32⟩ : BufTy).Contents (Elt F) → (⟨S2x4x128x4x256, .f32⟩ : BufTy).Contents (Elt F)) (after body1 V main_while1b_v205) (after body1 V main_while1b_v224) :=
  read2 (a := main_while1b_v205) (b := main_while1b_v224) (y := main_while1b_v225) body1_writes 78 rfl (by decide +kernel) (addf : (⟨S2x4x128x4x256, .f32⟩ : BufTy).Contents (Elt F) → (⟨S2x4x128x4x256, .f32⟩ : BufTy).Contents (Elt F) → (⟨S2x4x128x4x256, .f32⟩ : BufTy).Contents (Elt F)) (fun _ => StableHlo.binary_result ..) (late V body1_writes 78 (by decide +kernel)) (late V body1_writes 78 (by decide +kernel))

theorem body1_while1b_v226 : after body1 V main_while1b_v226 =
    ((fun l r => Host.dotGeneral dot_S2x4x4x128x128_S2x4x128x4x256_S2x4x4x128x256_4_2_3_4_012_013 none l r) : (⟨S2x4x4x128x128, .f32⟩ : BufTy).Contents (Elt F) → (⟨S2x4x128x4x256, .f32⟩ : BufTy).Contents (Elt F) → (⟨S2x4x4x128x256, .f32⟩ : BufTy).Contents (Elt F)) (after body1 V main_while1b_v222) (after body1 V main_while1b_v194) :=
  read2 (a := main_while1b_v222) (b := main_while1b_v194) (y := main_while1b_v226) body1_writes 79 rfl (by decide +kernel) ((fun l r => Host.dotGeneral dot_S2x4x4x128x128_S2x4x128x4x256_S2x4x4x128x256_4_2_3_4_012_013 none l r) : (⟨S2x4x4x128x128, .f32⟩ : BufTy).Contents (Elt F) → (⟨S2x4x128x4x256, .f32⟩ : BufTy).Contents (Elt F) → (⟨S2x4x4x128x256, .f32⟩ : BufTy).Contents (Elt F)) (fun _ => StableHlo.binary_result ..) (late V body1_writes 79 (by decide +kernel)) (late V body1_writes 79 (by decide +kernel))

theorem body1_while1b_v227 : after body1 V main_while1b_v227 =
    ((transpose S2x4x128x4x256 [0, 1, 3, 2, 4] · transposes_S2x4x4x128x256_S2x4x128x4x256_0_1_3_2_4) : (⟨S2x4x4x128x256, .f32⟩ : BufTy).Contents (Elt F) → (⟨S2x4x128x4x256, .f32⟩ : BufTy).Contents (Elt F)) (after body1 V main_while1b_v226) :=
  (readU (x := main_while1b_v226) (y := main_while1b_v227) body1_writes 80 rfl (by decide +kernel) (late V body1_writes 80 (by decide +kernel)) :)

theorem body1_while1b_v228 : after body1 V main_while1b_v228 =
    (addf : (⟨S2x4x128x4x256, .f32⟩ : BufTy).Contents (Elt F) → (⟨S2x4x128x4x256, .f32⟩ : BufTy).Contents (Elt F) → (⟨S2x4x128x4x256, .f32⟩ : BufTy).Contents (Elt F)) (after body1 V main_while1b_v212) (after body1 V main_while1b_v227) :=
  read2 (a := main_while1b_v212) (b := main_while1b_v227) (y := main_while1b_v228) body1_writes 81 rfl (by decide +kernel) (addf : (⟨S2x4x128x4x256, .f32⟩ : BufTy).Contents (Elt F) → (⟨S2x4x128x4x256, .f32⟩ : BufTy).Contents (Elt F) → (⟨S2x4x128x4x256, .f32⟩ : BufTy).Contents (Elt F)) (fun _ => StableHlo.binary_result ..) (late V body1_writes 81 (by decide +kernel)) (late V body1_writes 81 (by decide +kernel))

theorem body1_while1b_call22_v0 : after body1 V main_while1b_call22_v0 =
    (broadcastInDim S1x2x4x128x4x256 ![1, 2, 3, 4, 5] bcast_S2x4x128x4x256_S1x2x4x128x4x256_1_2_3_4_5) (after body1 V main_while1b_v228) :=
  (readU (x := main_while1b_v228) (y := main_while1b_call22_v0) body1_writes 82 rfl (by decide +kernel) (late V body1_writes 82 (by decide +kernel)) :)

theorem body1_while1b_call22_c : after body1 V main_while1b_call22_c =
    (constantI S_ 32 0#32) :=
  read0 (y := main_while1b_call22_c) body1_writes 83 rfl (by decide +kernel) (fun _ => StableHlo.nullary_result ..)

theorem body1_while1b_call22_c_0 : after body1 V main_while1b_call22_c_0 =
    (constantI S_ 32 0#32) :=
  read0 (y := main_while1b_call22_c_0) body1_writes 84 rfl (by decide +kernel) (fun _ => StableHlo.nullary_result ..)

theorem body1_while1b_call22_c_1 : after body1 V main_while1b_call22_c_1 =
    (constantI S_ 32 0#32) :=
  read0 (y := main_while1b_call22_c_1) body1_writes 85 rfl (by decide +kernel) (fun _ => StableHlo.nullary_result ..)

theorem body1_while1b_call22_c_2 : after body1 V main_while1b_call22_c_2 =
    (constantI S_ 32 0#32) :=
  read0 (y := main_while1b_call22_c_2) body1_writes 86 rfl (by decide +kernel) (fun _ => StableHlo.nullary_result ..)

theorem body1_while1b_call22_c_3 : after body1 V main_while1b_call22_c_3 =
    (constantI S_ 32 0#32) :=
  read0 (y := main_while1b_call22_c_3) body1_writes 87 rfl (by decide +kernel) (fun _ => StableHlo.nullary_result ..)

theorem body1_while1b_v229 : after body1 V main_while1b_v229 =
    (fun x u i => Host.dynamicUpdateSlice x u (fun k => (i k (Shape.Idx.first h_S_)).toInt) updateFits_S16x2x4x128x4x256_S1x2x4x128x4x256) (V main_v130_13) (after body1 V main_while1b_call22_v0) ![after body1 V main_while1b_v192, after body1 V main_while1b_call22_c, after body1 V main_while1b_call22_c_0, after body1 V main_while1b_call22_c_1, after body1 V main_while1b_call22_c_2, after body1 V main_while1b_call22_c_3] :=
  read2I body1_writes 88 (a := main_v130_13) (b := main_while1b_call22_v0) (i₀ := main_while1b_v192) (i₁ := main_while1b_call22_c) (i₂ := main_while1b_call22_c_0) (i₃ := main_while1b_call22_c_1) (i₄ := main_while1b_call22_c_2) (i₅ := main_while1b_call22_c_3) (y := main_while1b_v229) (T := ⟨S_, .i32⟩) (f := (fun x u i => Host.dynamicUpdateSlice x u (fun k => (i k (Shape.Idx.first h_S_)).toInt) updateFits_S16x2x4x128x4x256_S1x2x4x128x4x256)) rfl (by decide +kernel) (early V body1_writes 88 (by decide +kernel)) (late V body1_writes 88 (by decide +kernel)) (late V body1_writes 88 (by decide +kernel)) (late V body1_writes 88 (by decide +kernel)) (late V body1_writes 88 (by decide +kernel)) (late V body1_writes 88 (by decide +kernel)) (late V body1_writes 88 (by decide +kernel)) (late V body1_writes 88 (by decide +kernel))

theorem body1_while1b_call23_v0 : after body1 V main_while1b_call23_v0 =
    (broadcastInDim S1x2x4x128x4x256 ![1, 2, 3, 4, 5] bcast_S2x4x128x4x256_S1x2x4x128x4x256_1_2_3_4_5) (after body1 V main_while1b_v225) :=
  (readU (x := main_while1b_v225) (y := main_while1b_call23_v0) body1_writes 89 rfl (by decide +kernel) (late V body1_writes 89 (by decide +kernel)) :)

theorem body1_while1b_call23_c : after body1 V main_while1b_call23_c =
    (constantI S_ 32 0#32) :=
  read0 (y := main_while1b_call23_c) body1_writes 90 rfl (by decide +kernel) (fun _ => StableHlo.nullary_result ..)

theorem body1_while1b_call23_c_0 : after body1 V main_while1b_call23_c_0 =
    (constantI S_ 32 0#32) :=
  read0 (y := main_while1b_call23_c_0) body1_writes 91 rfl (by decide +kernel) (fun _ => StableHlo.nullary_result ..)

theorem body1_while1b_call23_c_1 : after body1 V main_while1b_call23_c_1 =
    (constantI S_ 32 0#32) :=
  read0 (y := main_while1b_call23_c_1) body1_writes 92 rfl (by decide +kernel) (fun _ => StableHlo.nullary_result ..)

theorem body1_while1b_call23_c_2 : after body1 V main_while1b_call23_c_2 =
    (constantI S_ 32 0#32) :=
  read0 (y := main_while1b_call23_c_2) body1_writes 93 rfl (by decide +kernel) (fun _ => StableHlo.nullary_result ..)

theorem body1_while1b_call23_c_3 : after body1 V main_while1b_call23_c_3 =
    (constantI S_ 32 0#32) :=
  read0 (y := main_while1b_call23_c_3) body1_writes 94 rfl (by decide +kernel) (fun _ => StableHlo.nullary_result ..)

theorem body1_while1b_v230 : after body1 V main_while1b_v230 =
    (fun x u i => Host.dynamicUpdateSlice x u (fun k => (i k (Shape.Idx.first h_S_)).toInt) updateFits_S16x2x4x128x4x256_S1x2x4x128x4x256) (V main_v130_14) (after body1 V main_while1b_call23_v0) ![after body1 V main_while1b_v192, after body1 V main_while1b_call23_c, after body1 V main_while1b_call23_c_0, after body1 V main_while1b_call23_c_1, after body1 V main_while1b_call23_c_2, after body1 V main_while1b_call23_c_3] :=
  read2I body1_writes 95 (a := main_v130_14) (b := main_while1b_call23_v0) (i₀ := main_while1b_v192) (i₁ := main_while1b_call23_c) (i₂ := main_while1b_call23_c_0) (i₃ := main_while1b_call23_c_1) (i₄ := main_while1b_call23_c_2) (i₅ := main_while1b_call23_c_3) (y := main_while1b_v230) (T := ⟨S_, .i32⟩) (f := (fun x u i => Host.dynamicUpdateSlice x u (fun k => (i k (Shape.Idx.first h_S_)).toInt) updateFits_S16x2x4x128x4x256_S1x2x4x128x4x256)) rfl (by decide +kernel) (early V body1_writes 95 (by decide +kernel)) (late V body1_writes 95 (by decide +kernel)) (late V body1_writes 95 (by decide +kernel)) (late V body1_writes 95 (by decide +kernel)) (late V body1_writes 95 (by decide +kernel)) (late V body1_writes 95 (by decide +kernel)) (late V body1_writes 95 (by decide +kernel)) (late V body1_writes 95 (by decide +kernel))

theorem body1_while1b_call24_v0 : after body1 V main_while1b_call24_v0 =
    (broadcastInDim S1x2x4x128x4x512 ![1, 2, 3, 4, 5] bcast_S2x4x128x4x512_S1x2x4x128x4x512_1_2_3_4_5) (after body1 V main_while1b_v220) :=
  (readU (x := main_while1b_v220) (y := main_while1b_call24_v0) body1_writes 96 rfl (by decide +kernel) (late V body1_writes 96 (by decide +kernel)) :)

theorem body1_while1b_call24_c : after body1 V main_while1b_call24_c =
    (constantI S_ 32 0#32) :=
  read0 (y := main_while1b_call24_c) body1_writes 97 rfl (by decide +kernel) (fun _ => StableHlo.nullary_result ..)

theorem body1_while1b_call24_c_0 : after body1 V main_while1b_call24_c_0 =
    (constantI S_ 32 0#32) :=
  read0 (y := main_while1b_call24_c_0) body1_writes 98 rfl (by decide +kernel) (fun _ => StableHlo.nullary_result ..)

theorem body1_while1b_call24_c_1 : after body1 V main_while1b_call24_c_1 =
    (constantI S_ 32 0#32) :=
  read0 (y := main_while1b_call24_c_1) body1_writes 99 rfl (by decide +kernel) (fun _ => StableHlo.nullary_result ..)

theorem body1_while1b_call24_c_2 : after body1 V main_while1b_call24_c_2 =
    (constantI S_ 32 0#32) :=
  read0 (y := main_while1b_call24_c_2) body1_writes 100 rfl (by decide +kernel) (fun _ => StableHlo.nullary_result ..)

theorem body1_while1b_call24_c_3 : after body1 V main_while1b_call24_c_3 =
    (constantI S_ 32 0#32) :=
  read0 (y := main_while1b_call24_c_3) body1_writes 101 rfl (by decide +kernel) (fun _ => StableHlo.nullary_result ..)

theorem body1_while1b_v231 : after body1 V main_while1b_v231 =
    (fun x u i => Host.dynamicUpdateSlice x u (fun k => (i k (Shape.Idx.first h_S_)).toInt) updateFits_S16x2x4x128x4x512_S1x2x4x128x4x512) (V main_v130_15) (after body1 V main_while1b_call24_v0) ![after body1 V main_while1b_v192, after body1 V main_while1b_call24_c, after body1 V main_while1b_call24_c_0, after body1 V main_while1b_call24_c_1, after body1 V main_while1b_call24_c_2, after body1 V main_while1b_call24_c_3] :=
  read2I body1_writes 102 (a := main_v130_15) (b := main_while1b_call24_v0) (i₀ := main_while1b_v192) (i₁ := main_while1b_call24_c) (i₂ := main_while1b_call24_c_0) (i₃ := main_while1b_call24_c_1) (i₄ := main_while1b_call24_c_2) (i₅ := main_while1b_call24_c_3) (y := main_while1b_v231) (T := ⟨S_, .i32⟩) (f := (fun x u i => Host.dynamicUpdateSlice x u (fun k => (i k (Shape.Idx.first h_S_)).toInt) updateFits_S16x2x4x128x4x512_S1x2x4x128x4x512)) rfl (by decide +kernel) (early V body1_writes 102 (by decide +kernel)) (late V body1_writes 102 (by decide +kernel)) (late V body1_writes 102 (by decide +kernel)) (late V body1_writes 102 (by decide +kernel)) (late V body1_writes 102 (by decide +kernel)) (late V body1_writes 102 (by decide +kernel)) (late V body1_writes 102 (by decide +kernel)) (late V body1_writes 102 (by decide +kernel))

theorem body1_while1b_c_35 : after body1 V main_while1b_c_35 =
    (constantI S_ 32 1#32) :=
  read0 (y := main_while1b_c_35) body1_writes 103 rfl (by decide +kernel) (fun _ => StableHlo.nullary_result ..)

theorem body1_while1b_v232 : after body1 V main_while1b_v232 =
    (addi : (⟨S_, .i32⟩ : BufTy).Contents (Elt F) → (⟨S_, .i32⟩ : BufTy).Contents (Elt F) → (⟨S_, .i32⟩ : BufTy).Contents (Elt F)) (V main_v130_11) (after body1 V main_while1b_c_35) :=
  read2 (a := main_v130_11) (b := main_while1b_c_35) (y := main_while1b_v232) body1_writes 104 rfl (by decide +kernel) (addi : (⟨S_, .i32⟩ : BufTy).Contents (Elt F) → (⟨S_, .i32⟩ : BufTy).Contents (Elt F) → (⟨S_, .i32⟩ : BufTy).Contents (Elt F)) (fun _ => StableHlo.binary_result ..) (early V body1_writes 104 (by decide +kernel)) (late V body1_writes 104 (by decide +kernel))

theorem body1_v130_11 : after body1 V main_v130_11 =
    id (after body1 V main_while1b_v232) :=
  (readU (x := main_while1b_v232) (y := main_v130_11) body1_writes 105 rfl (by decide +kernel) (late V body1_writes 105 (by decide +kernel)) :)

theorem body1_v130_12 : after body1 V main_v130_12 =
    id (after body1 V main_while1b_v215) :=
  (readU (x := main_while1b_v215) (y := main_v130_12) body1_writes 106 rfl (by decide +kernel) (late V body1_writes 106 (by decide +kernel)) :)

theorem body1_v130_13 : after body1 V main_v130_13 =
    id (after body1 V main_while1b_v229) :=
  (readU (x := main_while1b_v229) (y := main_v130_13) body1_writes 107 rfl (by decide +kernel) (late V body1_writes 107 (by decide +kernel)) :)

theorem body1_v130_14 : after body1 V main_v130_14 =
    id (after body1 V main_while1b_v230) :=
  (readU (x := main_while1b_v230) (y := main_v130_14) body1_writes 108 rfl (by decide +kernel) (late V body1_writes 108 (by decide +kernel)) :)

theorem body1_v130_15 : after body1 V main_v130_15 =
    id (after body1 V main_while1b_v231) :=
  (readU (x := main_while1b_v231) (y := main_v130_15) body1_writes 109 rfl (by decide +kernel) (late V body1_writes 109 (by decide +kernel)) :)

end Cert.ReferenceIdeal.Run
-- ==== Proof.RefEqD.lean ====
/-
  The buffers the reference holds between and after its loops, one operation at a time.
-/
module

public import proofs.«01_k».proof.Proof.RefOpsC
public import proofs.«01_k».proof.Proof.LineReads

@[expose] public section

set_option maxRecDepth 4000

noncomputable section

namespace Cert.ReferenceIdeal.Run

open Idealize.ShloMosaic Idealize.SL.Sem Cert.ReferenceIdeal
open Facts₀ Facts Cert.LineReads
open Idealize.ShloMosaic.TcCoe
open Idealize.ShloMosaic.StableHlo (after)

variable {F : FTy → Type} [FloatOps F] (V : Valuation τ sig (Elt F))

/-- What `mid` writes, in order. -/
noncomputable def midW : List (Ref sig .tc) :=
  [main_v110, main_v111, main_v112, main_v113, main_v114, main_v115, main_v116, main_v117, main_v118, main_v119, main_cst_10, main_v120, main_v121, main_cst_11, main_v122, main_v123, main_v124, main_v125, main_cst_12, main_v126, main_cst_13, main_v127, main_cst_14, main_v128, main_cst_15, main_v129, main_c_16, main_v130_0, main_v130_1, main_v130_2, main_v130_3, main_v130_4, main_v130_5, main_v130_6, main_v130_7, main_v130_8, main_v130_9, main_v130_10, main_v130_11, main_v130_12, main_v130_13, main_v130_14, main_v130_15]

set_option maxRecDepth 8000 in
theorem mid_writes : Writes (mid (F := F)) midW := by
  rfl

theorem mid_v110 : after mid V main_v110 =
    ((transpose S2x4x16x128x4x512 [1, 2, 0, 3, 4, 5] · transposes_S16x2x4x128x4x512_S2x4x16x128x4x512_1_2_0_3_4_5) : (⟨S16x2x4x128x4x512, .f32⟩ : BufTy).Contents (Elt F) → (⟨S2x4x16x128x4x512, .f32⟩ : BufTy).Contents (Elt F)) (after mid V main_v109_9) :=
  (readU (x := main_v109_9) (y := main_v110) mid_writes 0 rfl (by decide +kernel) (late V mid_writes 0 (by decide +kernel)) :)

theorem mid_v111 : after mid V main_v111 =
    ((shapeCast S2x4x2048x4x512 · shapeCasts_S2x4x16x128x4x512_S2x4x2048x4x512) : (⟨S2x4x16x128x4x512, .f32⟩ : BufTy).Contents (Elt F) → (⟨S2x4x2048x4x512, .f32⟩ : BufTy).Contents (Elt F)) (after mid V main_v110) :=
  uncast (readR (x := main_v110) (y := main_v111) (s := S2x4x16x128x4x512) (s' := S2x4x2048x4x512) mid_writes 1 rfl (by decide +kernel) rfl rfl shapeCasts_S2x4x16x128x4x512_S2x4x2048x4x512 (late V mid_writes 1 (by decide +kernel)))

theorem mid_v112 : after mid V main_v112 =
    ((extractStridedSlice S1x4x2048x4x512 ![0, 0, 0, 0, 0] · slices_S2x4x2048x4x512_S1x4x2048x4x512_0_0_0_0_0) : (⟨S2x4x2048x4x512, .f32⟩ : BufTy).Contents (Elt F) → (⟨S1x4x2048x4x512, .f32⟩ : BufTy).Contents (Elt F)) (after mid V main_v111) :=
  (readU (x := main_v111) (y := main_v112) mid_writes 2 rfl (by decide +kernel) (late V mid_writes 2 (by decide +kernel)) :)

theorem mid_v113 : after mid V main_v113 =
    ((shapeCast S4x2048x4x512 · shapeCasts_S1x4x2048x4x512_S4x2048x4x512) : (⟨S1x4x2048x4x512, .f32⟩ : BufTy).Contents (Elt F) → (⟨S4x2048x4x512, .f32⟩ : BufTy).Contents (Elt F)) (after mid V main_v112) :=
  uncast (readR (x := main_v112) (y := main_v113) (s := S1x4x2048x4x512) (s' := S4x2048x4x512) mid_writes 3 rfl (by decide +kernel) rfl rfl shapeCasts_S1x4x2048x4x512_S4x2048x4x512 (late V mid_writes 3 (by decide +kernel)))

theorem mid_v114 : after mid V main_v114 =
    ((extractStridedSlice S1x4x2048x4x512 ![1, 0, 0, 0, 0] · slices_S2x4x2048x4x512_S1x4x2048x4x512_1_0_0_0_0) : (⟨S2x4x2048x4x512, .f32⟩ : BufTy).Contents (Elt F) → (⟨S1x4x2048x4x512, .f32⟩ : BufTy).Contents (Elt F)) (after mid V main_v111) :=
  (readU (x := main_v111) (y := main_v114) mid_writes 4 rfl (by decide +kernel) (late V mid_writes 4 (by decide +kernel)) :)

theorem mid_v115 : after mid V main_v115 =
    ((shapeCast S4x2048x4x512 · shapeCasts_S1x4x2048x4x512_S4x2048x4x512) : (⟨S1x4x2048x4x512, .f32⟩ : BufTy).Contents (Elt F) → (⟨S4x2048x4x512, .f32⟩ : BufTy).Contents (Elt F)) (after mid V main_v114) :=
  uncast (readR (x := main_v114) (y := main_v115) (s := S1x4x2048x4x512) (s' := S4x2048x4x512) mid_writes 5 rfl (by decide +kernel) rfl rfl shapeCasts_S1x4x2048x4x512_S4x2048x4x512 (late V mid_writes 5 (by decide +kernel)))

theorem mid_v116 : after mid V main_v116 =
    (Host.reverse [1]) (after mid V main_v115) :=
  (readU (x := main_v115) (y := main_v116) mid_writes 6 rfl (by decide +kernel) (late V mid_writes 6 (by decide +kernel)) :)

theorem mid_v117 : after mid V main_v117 =
    (addf : (⟨S4x2048x4x512, .f32⟩ : BufTy).Contents (Elt F) → (⟨S4x2048x4x512, .f32⟩ : BufTy).Contents (Elt F) → (⟨S4x2048x4x512, .f32⟩ : BufTy).Contents (Elt F)) (after mid V main_v113) (after mid V main_v116) :=
  read2 (a := main_v113) (b := main_v116) (y := main_v117) mid_writes 7 rfl (by decide +kernel) (addf : (⟨S4x2048x4x512, .f32⟩ : BufTy).Contents (Elt F) → (⟨S4x2048x4x512, .f32⟩ : BufTy).Contents (Elt F) → (⟨S4x2048x4x512, .f32⟩ : BufTy).Contents (Elt F)) (fun _ => StableHlo.binary_result ..) (late V mid_writes 7 (by decide +kernel)) (late V mid_writes 7 (by decide +kernel))

theorem mid_v118 : after mid V main_v118 =
    (Host.reverse [1]) (after mid V main_v15) :=
  (readU (x := main_v15) (y := main_v118) mid_writes 8 rfl (by decide +kernel) (late V mid_writes 8 (by decide +kernel)) :)

theorem mid_v119 : after mid V main_v119 =
    (broadcastInDim S1x4x2048x4x512 ![1, 2, 3, 4] bcast_S4x2048x4x512_S1x4x2048x4x512_1_2_3_4 : (⟨S4x2048x4x512, .f32⟩ : BufTy).Contents (Elt F) → (⟨S1x4x2048x4x512, .f32⟩ : BufTy).Contents (Elt F)) (after mid V main_v118) :=
  (readU (x := main_v118) (y := main_v119) mid_writes 9 rfl (by decide +kernel) (late V mid_writes 9 (by decide +kernel)) :)

theorem mid_cst_10 : after mid V main_cst_10 =
    (constant S_ .f32 0x00000000#32) :=
  read0 (y := main_cst_10) mid_writes 10 rfl (by decide +kernel) (fun _ => StableHlo.nullary_result ..)

theorem mid_v120 : after mid V main_v120 =
    ((fun x v => pad S2x4x2048x4x512 ![1, 0, 0, 0, 0] ![0, 0, 0, 0, 0] ![0, 0, 0, 0, 0] x v pads_S1x4x2048x4x512_S2x4x2048x4x512_100_000_000_000_000 h_S_) : (⟨S1x4x2048x4x512, .f32⟩ : BufTy).Contents (Elt F) → (⟨S_, .f32⟩ : BufTy).Contents (Elt F) → (⟨S2x4x2048x4x512, .f32⟩ : BufTy).Contents (Elt F)) (after mid V main_v119) (after mid V main_cst_10) :=
  read2 (a := main_v119) (b := main_cst_10) (y := main_v120) mid_writes 11 rfl (by decide +kernel) ((fun x v => pad S2x4x2048x4x512 ![1, 0, 0, 0, 0] ![0, 0, 0, 0, 0] ![0, 0, 0, 0, 0] x v pads_S1x4x2048x4x512_S2x4x2048x4x512_100_000_000_000_000 h_S_) : (⟨S1x4x2048x4x512, .f32⟩ : BufTy).Contents (Elt F) → (⟨S_, .f32⟩ : BufTy).Contents (Elt F) → (⟨S2x4x2048x4x512, .f32⟩ : BufTy).Contents (Elt F)) (fun _ => StableHlo.binary_result ..) (late V mid_writes 11 (by decide +kernel)) (late V mid_writes 11 (by decide +kernel))

theorem mid_v121 : after mid V main_v121 =
    (broadcastInDim S1x4x2048x4x512 ![1, 2, 3, 4] bcast_S4x2048x4x512_S1x4x2048x4x512_1_2_3_4 : (⟨S4x2048x4x512, .f32⟩ : BufTy).Contents (Elt F) → (⟨S1x4x2048x4x512, .f32⟩ : BufTy).Contents (Elt F)) (after mid V main_v15) :=
  (readU (x := main_v15) (y := main_v121) mid_writes 12 rfl (by decide +kernel) (late V mid_writes 12 (by decide +kernel)) :)

theorem mid_cst_11 : after mid V main_cst_11 =
    (constant S_ .f32 0x00000000#32) :=
  read0 (y := main_cst_11) mid_writes 13 rfl (by decide +kernel) (fun _ => StableHlo.nullary_result ..)

theorem mid_v122 : after mid V main_v122 =
    ((fun x v => pad S2x4x2048x4x512 ![0, 0, 0, 0, 0] ![1, 0, 0, 0, 0] ![0, 0, 0, 0, 0] x v pads_S1x4x2048x4x512_S2x4x2048x4x512_010_000_000_000_000 h_S_) : (⟨S1x4x2048x4x512, .f32⟩ : BufTy).Contents (Elt F) → (⟨S_, .f32⟩ : BufTy).Contents (Elt F) → (⟨S2x4x2048x4x512, .f32⟩ : BufTy).Contents (Elt F)) (after mid V main_v121) (after mid V main_cst_11) :=
  read2 (a := main_v121) (b := main_cst_11) (y := main_v122) mid_writes 14 rfl (by decide +kernel) ((fun x v => pad S2x4x2048x4x512 ![0, 0, 0, 0, 0] ![1, 0, 0, 0, 0] ![0, 0, 0, 0, 0] x v pads_S1x4x2048x4x512_S2x4x2048x4x512_010_000_000_000_000 h_S_) : (⟨S1x4x2048x4x512, .f32⟩ : BufTy).Contents (Elt F) → (⟨S_, .f32⟩ : BufTy).Contents (Elt F) → (⟨S2x4x2048x4x512, .f32⟩ : BufTy).Contents (Elt F)) (fun _ => StableHlo.binary_result ..) (late V mid_writes 14 (by decide +kernel)) (late V mid_writes 14 (by decide +kernel))

theorem mid_v123 : after mid V main_v123 =
    (addf : (⟨S2x4x2048x4x512, .f32⟩ : BufTy).Contents (Elt F) → (⟨S2x4x2048x4x512, .f32⟩ : BufTy).Contents (Elt F) → (⟨S2x4x2048x4x512, .f32⟩ : BufTy).Contents (Elt F)) (after mid V main_v120) (after mid V main_v122) :=
  read2 (a := main_v120) (b := main_v122) (y := main_v123) mid_writes 15 rfl (by decide +kernel) (addf : (⟨S2x4x2048x4x512, .f32⟩ : BufTy).Contents (Elt F) → (⟨S2x4x2048x4x512, .f32⟩ : BufTy).Contents (Elt F) → (⟨S2x4x2048x4x512, .f32⟩ : BufTy).Contents (Elt F)) (fun _ => StableHlo.binary_result ..) (late V mid_writes 15 (by decide +kernel)) (late V mid_writes 15 (by decide +kernel))

theorem mid_v124 : after mid V main_v124 =
    ((shapeCast S2x4x16x128x4x512 · shapeCasts_S2x4x2048x4x512_S2x4x16x128x4x512) : (⟨S2x4x2048x4x512, .f32⟩ : BufTy).Contents (Elt F) → (⟨S2x4x16x128x4x512, .f32⟩ : BufTy).Contents (Elt F)) (after mid V main_v123) :=
  uncast (readR (x := main_v123) (y := main_v124) (s := S2x4x2048x4x512) (s' := S2x4x16x128x4x512) mid_writes 16 rfl (by decide +kernel) rfl rfl shapeCasts_S2x4x2048x4x512_S2x4x16x128x4x512 (late V mid_writes 16 (by decide +kernel)))

theorem mid_v125 : after mid V main_v125 =
    ((transpose S16x2x4x128x4x512 [2, 0, 1, 3, 4, 5] · transposes_S2x4x16x128x4x512_S16x2x4x128x4x512_2_0_1_3_4_5) : (⟨S2x4x16x128x4x512, .f32⟩ : BufTy).Contents (Elt F) → (⟨S16x2x4x128x4x512, .f32⟩ : BufTy).Contents (Elt F)) (after mid V main_v124) :=
  (readU (x := main_v124) (y := main_v125) mid_writes 17 rfl (by decide +kernel) (late V mid_writes 17 (by decide +kernel)) :)

theorem mid_cst_12 : after mid V main_cst_12 =
    (constant S_ .f32 0x00000000#32) :=
  read0 (y := main_cst_12) mid_writes 18 rfl (by decide +kernel) (fun _ => StableHlo.nullary_result ..)

theorem mid_v126 : after mid V main_v126 =
    (broadcastInDim S2x4x4x256x512 ![] bcast_S_S2x4x4x256x512 : (⟨S_, .f32⟩ : BufTy).Contents (Elt F) → (⟨S2x4x4x256x512, .f32⟩ : BufTy).Contents (Elt F)) (after mid V main_cst_12) :=
  (readU (x := main_cst_12) (y := main_v126) mid_writes 19 rfl (by decide +kernel) (late V mid_writes 19 (by decide +kernel)) :)

theorem mid_cst_13 : after mid V main_cst_13 =
    (constant S_ .f32 0x00000000#32) :=
  read0 (y := main_cst_13) mid_writes 20 rfl (by decide +kernel) (fun _ => StableHlo.nullary_result ..)

theorem mid_v127 : after mid V main_v127 =
    (broadcastInDim S16x2x4x128x4x256 ![] bcast_S_S16x2x4x128x4x256 : (⟨S_, .f32⟩ : BufTy).Contents (Elt F) → (⟨S16x2x4x128x4x256, .f32⟩ : BufTy).Contents (Elt F)) (after mid V main_cst_13) :=
  (readU (x := main_cst_13) (y := main_v127) mid_writes 21 rfl (by decide +kernel) (late V mid_writes 21 (by decide +kernel)) :)

theorem mid_cst_14 : after mid V main_cst_14 =
    (constant S_ .f32 0x00000000#32) :=
  read0 (y := main_cst_14) mid_writes 22 rfl (by decide +kernel) (fun _ => StableHlo.nullary_result ..)

theorem mid_v128 : after mid V main_v128 =
    (broadcastInDim S16x2x4x128x4x256 ![] bcast_S_S16x2x4x128x4x256 : (⟨S_, .f32⟩ : BufTy).Contents (Elt F) → (⟨S16x2x4x128x4x256, .f32⟩ : BufTy).Contents (Elt F)) (after mid V main_cst_14) :=
  (readU (x := main_cst_14) (y := main_v128) mid_writes 23 rfl (by decide +kernel) (late V mid_writes 23 (by decide +kernel)) :)

theorem mid_cst_15 : after mid V main_cst_15 =
    (constant S_ .f32 0x00000000#32) :=
  read0 (y := main_cst_15) mid_writes 24 rfl (by decide +kernel) (fun _ => StableHlo.nullary_result ..)

theorem mid_v129 : after mid V main_v129 =
    (broadcastInDim S16x2x4x128x4x512 ![] bcast_S_S16x2x4x128x4x512 : (⟨S_, .f32⟩ : BufTy).Contents (Elt F) → (⟨S16x2x4x128x4x512, .f32⟩ : BufTy).Contents (Elt F)) (after mid V main_cst_15) :=
  (readU (x := main_cst_15) (y := main_v129) mid_writes 25 rfl (by decide +kernel) (late V mid_writes 25 (by decide +kernel)) :)

theorem mid_c_16 : after mid V main_c_16 =
    (constantI S_ 32 0#32) :=
  read0 (y := main_c_16) mid_writes 26 rfl (by decide +kernel) (fun _ => StableHlo.nullary_result ..)

theorem mid_v130_0 : after mid V main_v130_0 =
    id (after mid V main_v125) :=
  (readU (x := main_v125) (y := main_v130_0) mid_writes 27 rfl (by decide +kernel) (late V mid_writes 27 (by decide +kernel)) :)

theorem mid_v130_1 : after mid V main_v130_1 =
    id (after mid V main_v102) :=
  (readU (x := main_v102) (y := main_v130_1) mid_writes 28 rfl (by decide +kernel) (late V mid_writes 28 (by decide +kernel)) :)

theorem mid_v130_2 : after mid V main_v130_2 =
    id (after mid V main_v101) :=
  (readU (x := main_v101) (y := main_v130_2) mid_writes 29 rfl (by decide +kernel) (late V mid_writes 29 (by decide +kernel)) :)

theorem mid_v130_3 : after mid V main_v130_3 =
    id (after mid V main_v109_10) :=
  (readU (x := main_v109_10) (y := main_v130_3) mid_writes 30 rfl (by decide +kernel) (late V mid_writes 30 (by decide +kernel)) :)

theorem mid_v130_4 : after mid V main_v130_4 =
    id (after mid V main_v103) :=
  (readU (x := main_v103) (y := main_v130_4) mid_writes 31 rfl (by decide +kernel) (late V mid_writes 31 (by decide +kernel)) :)

theorem mid_v130_5 : after mid V main_v130_5 =
    id (after mid V main_v109_11) :=
  (readU (x := main_v109_11) (y := main_v130_5) mid_writes 32 rfl (by decide +kernel) (late V mid_writes 32 (by decide +kernel)) :)

theorem mid_v130_6 : after mid V main_v130_6 =
    id (after mid V main_v109_12) :=
  (readU (x := main_v109_12) (y := main_v130_6) mid_writes 33 rfl (by decide +kernel) (late V mid_writes 33 (by decide +kernel)) :)

theorem mid_v130_7 : after mid V main_v130_7 =
    id (after mid V main_v104) :=
  (readU (x := main_v104) (y := main_v130_7) mid_writes 34 rfl (by decide +kernel) (late V mid_writes 34 (by decide +kernel)) :)

theorem mid_v130_8 : after mid V main_v130_8 =
    id (after mid V main_v80) :=
  (readU (x := main_v80) (y := main_v130_8) mid_writes 35 rfl (by decide +kernel) (late V mid_writes 35 (by decide +kernel)) :)

theorem mid_v130_9 : after mid V main_v130_9 =
    id (after mid V main_v94) :=
  (readU (x := main_v94) (y := main_v130_9) mid_writes 36 rfl (by decide +kernel) (late V mid_writes 36 (by decide +kernel)) :)

theorem mid_v130_10 : after mid V main_v130_10 =
    id (after mid V main_v90) :=
  (readU (x := main_v90) (y := main_v130_10) mid_writes 37 rfl (by decide +kernel) (late V mid_writes 37 (by decide +kernel)) :)

theorem mid_v130_11 : after mid V main_v130_11 =
    id (after mid V main_c_16) :=
  (readU (x := main_c_16) (y := main_v130_11) mid_writes 38 rfl (by decide +kernel) (late V mid_writes 38 (by decide +kernel)) :)

theorem mid_v130_12 : after mid V main_v130_12 =
    id (after mid V main_v126) :=
  (readU (x := main_v126) (y := main_v130_12) mid_writes 39 rfl (by decide +kernel) (late V mid_writes 39 (by decide +kernel)) :)

theorem mid_v130_13 : after mid V main_v130_13 =
    id (after mid V main_v127) :=
  (readU (x := main_v127) (y := main_v130_13) mid_writes 40 rfl (by decide +kernel) (late V mid_writes 40 (by decide +kernel)) :)

theorem mid_v130_14 : after mid V main_v130_14 =
    id (after mid V main_v128) :=
  (readU (x := main_v128) (y := main_v130_14) mid_writes 41 rfl (by decide +kernel) (late V mid_writes 41 (by decide +kernel)) :)

theorem mid_v130_15 : after mid V main_v130_15 =
    id (after mid V main_v129) :=
  (readU (x := main_v129) (y := main_v130_15) mid_writes 42 rfl (by decide +kernel) (late V mid_writes 42 (by decide +kernel)) :)

/-- Everything after the second loop. -/
noncomputable def post : List (HloOp τ sig (Elt F)) := post0 ++ post1

/-- What `post` writes, in order. -/
noncomputable def postW : List (Ref sig .tc) :=
  [main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_cst_17, main_v176, main_v177, main_v178, main_v179, main_v180, main_v181, main_v182, main_v183, main_v184, main_v185, main_v186, main_v187, main_v188, main_v189, main_v190]

set_option maxRecDepth 8000 in
theorem post_writes : Writes (post (F := F)) postW := by
  rfl

theorem post_v131 : after post V main_v131 =
    ((transpose S2x16x4x128x4x512 [1, 0, 2, 3, 4, 5] · transposes_S16x2x4x128x4x512_S2x16x4x128x4x512_1_0_2_3_4_5) : (⟨S16x2x4x128x4x512, .f32⟩ : BufTy).Contents (Elt F) → (⟨S2x16x4x128x4x512, .f32⟩ : BufTy).Contents (Elt F)) (after post V main_v130_15) :=
  (readU (x := main_v130_15) (y := main_v131) post_writes 0 rfl (by decide +kernel) (late V post_writes 0 (by decide +kernel)) :)

theorem post_v132 : after post V main_v132 =
    ((transpose S2x16x4x128x4x256 [1, 0, 2, 3, 4, 5] · transposes_S16x2x4x128x4x256_S2x16x4x128x4x256_1_0_2_3_4_5) : (⟨S16x2x4x128x4x256, .f32⟩ : BufTy).Contents (Elt F) → (⟨S2x16x4x128x4x256, .f32⟩ : BufTy).Contents (Elt F)) (after post V main_v130_14) :=
  (readU (x := main_v130_14) (y := main_v132) post_writes 1 rfl (by decide +kernel) (late V post_writes 1 (by decide +kernel)) :)

theorem post_v133 : after post V main_v133 =
    ((transpose S2x16x4x128x4x256 [1, 0, 2, 3, 4, 5] · transposes_S16x2x4x128x4x256_S2x16x4x128x4x256_1_0_2_3_4_5) : (⟨S16x2x4x128x4x256, .f32⟩ : BufTy).Contents (Elt F) → (⟨S2x16x4x128x4x256, .f32⟩ : BufTy).Contents (Elt F)) (after post V main_v130_13) :=
  (readU (x := main_v130_13) (y := main_v133) post_writes 2 rfl (by decide +kernel) (late V post_writes 2 (by decide +kernel)) :)

theorem post_v134 : after post V main_v134 =
    ((transpose S2x4x16x128x4x512 [0, 2, 1, 3, 4, 5] · transposes_S2x16x4x128x4x512_S2x4x16x128x4x512_0_2_1_3_4_5) : (⟨S2x16x4x128x4x512, .f32⟩ : BufTy).Contents (Elt F) → (⟨S2x4x16x128x4x512, .f32⟩ : BufTy).Contents (Elt F)) (after post V main_v131) :=
  (readU (x := main_v131) (y := main_v134) post_writes 3 rfl (by decide +kernel) (late V post_writes 3 (by decide +kernel)) :)

theorem post_v135 : after post V main_v135 =
    ((shapeCast S2x4x2048x4x512 · shapeCasts_S2x4x16x128x4x512_S2x4x2048x4x512) : (⟨S2x4x16x128x4x512, .f32⟩ : BufTy).Contents (Elt F) → (⟨S2x4x2048x4x512, .f32⟩ : BufTy).Contents (Elt F)) (after post V main_v134) :=
  uncast (readR (x := main_v134) (y := main_v135) (s := S2x4x16x128x4x512) (s' := S2x4x2048x4x512) post_writes 4 rfl (by decide +kernel) rfl rfl shapeCasts_S2x4x16x128x4x512_S2x4x2048x4x512 (late V post_writes 4 (by decide +kernel)))

theorem post_v136 : after post V main_v136 =
    ((transpose S2x4x16x128x4x256 [0, 2, 1, 3, 4, 5] · transposes_S2x16x4x128x4x256_S2x4x16x128x4x256_0_2_1_3_4_5) : (⟨S2x16x4x128x4x256, .f32⟩ : BufTy).Contents (Elt F) → (⟨S2x4x16x128x4x256, .f32⟩ : BufTy).Contents (Elt F)) (after post V main_v132) :=
  (readU (x := main_v132) (y := main_v136) post_writes 5 rfl (by decide +kernel) (late V post_writes 5 (by decide +kernel)) :)

theorem post_v137 : after post V main_v137 =
    ((shapeCast S2x4x2048x4x256 · shapeCasts_S2x4x16x128x4x256_S2x4x2048x4x256) : (⟨S2x4x16x128x4x256, .f32⟩ : BufTy).Contents (Elt F) → (⟨S2x4x2048x4x256, .f32⟩ : BufTy).Contents (Elt F)) (after post V main_v136) :=
  uncast (readR (x := main_v136) (y := main_v137) (s := S2x4x16x128x4x256) (s' := S2x4x2048x4x256) post_writes 6 rfl (by decide +kernel) rfl rfl shapeCasts_S2x4x16x128x4x256_S2x4x2048x4x256 (late V post_writes 6 (by decide +kernel)))

theorem post_v138 : after post V main_v138 =
    ((transpose S2x4x16x128x4x256 [0, 2, 1, 3, 4, 5] · transposes_S2x16x4x128x4x256_S2x4x16x128x4x256_0_2_1_3_4_5) : (⟨S2x16x4x128x4x256, .f32⟩ : BufTy).Contents (Elt F) → (⟨S2x4x16x128x4x256, .f32⟩ : BufTy).Contents (Elt F)) (after post V main_v133) :=
  (readU (x := main_v133) (y := main_v138) post_writes 7 rfl (by decide +kernel) (late V post_writes 7 (by decide +kernel)) :)

theorem post_v139 : after post V main_v139 =
    ((shapeCast S2x4x2048x4x256 · shapeCasts_S2x4x16x128x4x256_S2x4x2048x4x256) : (⟨S2x4x16x128x4x256, .f32⟩ : BufTy).Contents (Elt F) → (⟨S2x4x2048x4x256, .f32⟩ : BufTy).Contents (Elt F)) (after post V main_v138) :=
  uncast (readR (x := main_v138) (y := main_v139) (s := S2x4x16x128x4x256) (s' := S2x4x2048x4x256) post_writes 8 rfl (by decide +kernel) rfl rfl shapeCasts_S2x4x16x128x4x256_S2x4x2048x4x256 (late V post_writes 8 (by decide +kernel)))

theorem post_v140 : after post V main_v140 =
    ((extractStridedSlice S1x4x2048x4x512 ![0, 0, 0, 0, 0] · slices_S2x4x2048x4x512_S1x4x2048x4x512_0_0_0_0_0) : (⟨S2x4x2048x4x512, .f32⟩ : BufTy).Contents (Elt F) → (⟨S1x4x2048x4x512, .f32⟩ : BufTy).Contents (Elt F)) (after post V main_v135) :=
  (readU (x := main_v135) (y := main_v140) post_writes 9 rfl (by decide +kernel) (late V post_writes 9 (by decide +kernel)) :)

theorem post_v141 : after post V main_v141 =
    ((shapeCast S4x2048x4x512 · shapeCasts_S1x4x2048x4x512_S4x2048x4x512) : (⟨S1x4x2048x4x512, .f32⟩ : BufTy).Contents (Elt F) → (⟨S4x2048x4x512, .f32⟩ : BufTy).Contents (Elt F)) (after post V main_v140) :=
  uncast (readR (x := main_v140) (y := main_v141) (s := S1x4x2048x4x512) (s' := S4x2048x4x512) post_writes 10 rfl (by decide +kernel) rfl rfl shapeCasts_S1x4x2048x4x512_S4x2048x4x512 (late V post_writes 10 (by decide +kernel)))

theorem post_v142 : after post V main_v142 =
    ((extractStridedSlice S1x4x2048x4x512 ![1, 0, 0, 0, 0] · slices_S2x4x2048x4x512_S1x4x2048x4x512_1_0_0_0_0) : (⟨S2x4x2048x4x512, .f32⟩ : BufTy).Contents (Elt F) → (⟨S1x4x2048x4x512, .f32⟩ : BufTy).Contents (Elt F)) (after post V main_v135) :=
  (readU (x := main_v135) (y := main_v142) post_writes 11 rfl (by decide +kernel) (late V post_writes 11 (by decide +kernel)) :)

theorem post_v143 : after post V main_v143 =
    ((shapeCast S4x2048x4x512 · shapeCasts_S1x4x2048x4x512_S4x2048x4x512) : (⟨S1x4x2048x4x512, .f32⟩ : BufTy).Contents (Elt F) → (⟨S4x2048x4x512, .f32⟩ : BufTy).Contents (Elt F)) (after post V main_v142) :=
  uncast (readR (x := main_v142) (y := main_v143) (s := S1x4x2048x4x512) (s' := S4x2048x4x512) post_writes 12 rfl (by decide +kernel) rfl rfl shapeCasts_S1x4x2048x4x512_S4x2048x4x512 (late V post_writes 12 (by decide +kernel)))

theorem post_v144 : after post V main_v144 =
    (Host.reverse [1]) (after post V main_v143) :=
  (readU (x := main_v143) (y := main_v144) post_writes 13 rfl (by decide +kernel) (late V post_writes 13 (by decide +kernel)) :)

theorem post_v145 : after post V main_v145 =
    (addf : (⟨S4x2048x4x512, .f32⟩ : BufTy).Contents (Elt F) → (⟨S4x2048x4x512, .f32⟩ : BufTy).Contents (Elt F) → (⟨S4x2048x4x512, .f32⟩ : BufTy).Contents (Elt F)) (after post V main_v141) (after post V main_v144) :=
  read2 (a := main_v141) (b := main_v144) (y := main_v145) post_writes 14 rfl (by decide +kernel) (addf : (⟨S4x2048x4x512, .f32⟩ : BufTy).Contents (Elt F) → (⟨S4x2048x4x512, .f32⟩ : BufTy).Contents (Elt F) → (⟨S4x2048x4x512, .f32⟩ : BufTy).Contents (Elt F)) (fun _ => StableHlo.binary_result ..) (late V post_writes 14 (by decide +kernel)) (late V post_writes 14 (by decide +kernel))

theorem post_v146 : after post V main_v146 =
    ((extractStridedSlice S1x4x2048x4x256 ![0, 0, 0, 0, 0] · slices_S2x4x2048x4x256_S1x4x2048x4x256_0_0_0_0_0) : (⟨S2x4x2048x4x256, .f32⟩ : BufTy).Contents (Elt F) → (⟨S1x4x2048x4x256, .f32⟩ : BufTy).Contents (Elt F)) (after post V main_v137) :=
  (readU (x := main_v137) (y := main_v146) post_writes 15 rfl (by decide +kernel) (late V post_writes 15 (by decide +kernel)) :)

theorem post_v147 : after post V main_v147 =
    ((shapeCast S4x2048x4x256 · shapeCasts_S1x4x2048x4x256_S4x2048x4x256) : (⟨S1x4x2048x4x256, .f32⟩ : BufTy).Contents (Elt F) → (⟨S4x2048x4x256, .f32⟩ : BufTy).Contents (Elt F)) (after post V main_v146) :=
  uncast (readR (x := main_v146) (y := main_v147) (s := S1x4x2048x4x256) (s' := S4x2048x4x256) post_writes 16 rfl (by decide +kernel) rfl rfl shapeCasts_S1x4x2048x4x256_S4x2048x4x256 (late V post_writes 16 (by decide +kernel)))

theorem post_v148 : after post V main_v148 =
    ((extractStridedSlice S1x4x2048x4x256 ![1, 0, 0, 0, 0] · slices_S2x4x2048x4x256_S1x4x2048x4x256_1_0_0_0_0) : (⟨S2x4x2048x4x256, .f32⟩ : BufTy).Contents (Elt F) → (⟨S1x4x2048x4x256, .f32⟩ : BufTy).Contents (Elt F)) (after post V main_v137) :=
  (readU (x := main_v137) (y := main_v148) post_writes 17 rfl (by decide +kernel) (late V post_writes 17 (by decide +kernel)) :)

theorem post_v149 : after post V main_v149 =
    ((shapeCast S4x2048x4x256 · shapeCasts_S1x4x2048x4x256_S4x2048x4x256) : (⟨S1x4x2048x4x256, .f32⟩ : BufTy).Contents (Elt F) → (⟨S4x2048x4x256, .f32⟩ : BufTy).Contents (Elt F)) (after post V main_v148) :=
  uncast (readR (x := main_v148) (y := main_v149) (s := S1x4x2048x4x256) (s' := S4x2048x4x256) post_writes 18 rfl (by decide +kernel) rfl rfl shapeCasts_S1x4x2048x4x256_S4x2048x4x256 (late V post_writes 18 (by decide +kernel)))

theorem post_v150 : after post V main_v150 =
    (Host.reverse [1]) (after post V main_v149) :=
  (readU (x := main_v149) (y := main_v150) post_writes 19 rfl (by decide +kernel) (late V post_writes 19 (by decide +kernel)) :)

theorem post_v151 : after post V main_v151 =
    (addf : (⟨S4x2048x4x256, .f32⟩ : BufTy).Contents (Elt F) → (⟨S4x2048x4x256, .f32⟩ : BufTy).Contents (Elt F) → (⟨S4x2048x4x256, .f32⟩ : BufTy).Contents (Elt F)) (after post V main_v147) (after post V main_v150) :=
  read2 (a := main_v147) (b := main_v150) (y := main_v151) post_writes 20 rfl (by decide +kernel) (addf : (⟨S4x2048x4x256, .f32⟩ : BufTy).Contents (Elt F) → (⟨S4x2048x4x256, .f32⟩ : BufTy).Contents (Elt F) → (⟨S4x2048x4x256, .f32⟩ : BufTy).Contents (Elt F)) (fun _ => StableHlo.binary_result ..) (late V post_writes 20 (by decide +kernel)) (late V post_writes 20 (by decide +kernel))

theorem post_v152 : after post V main_v152 =
    ((extractStridedSlice S1x4x2048x4x256 ![0, 0, 0, 0, 0] · slices_S2x4x2048x4x256_S1x4x2048x4x256_0_0_0_0_0) : (⟨S2x4x2048x4x256, .f32⟩ : BufTy).Contents (Elt F) → (⟨S1x4x2048x4x256, .f32⟩ : BufTy).Contents (Elt F)) (after post V main_v139) :=
  (readU (x := main_v139) (y := main_v152) post_writes 21 rfl (by decide +kernel) (late V post_writes 21 (by decide +kernel)) :)

theorem post_v153 : after post V main_v153 =
    ((shapeCast S4x2048x4x256 · shapeCasts_S1x4x2048x4x256_S4x2048x4x256) : (⟨S1x4x2048x4x256, .f32⟩ : BufTy).Contents (Elt F) → (⟨S4x2048x4x256, .f32⟩ : BufTy).Contents (Elt F)) (after post V main_v152) :=
  uncast (readR (x := main_v152) (y := main_v153) (s := S1x4x2048x4x256) (s' := S4x2048x4x256) post_writes 22 rfl (by decide +kernel) rfl rfl shapeCasts_S1x4x2048x4x256_S4x2048x4x256 (late V post_writes 22 (by decide +kernel)))

theorem post_v154 : after post V main_v154 =
    ((extractStridedSlice S1x4x2048x4x256 ![1, 0, 0, 0, 0] · slices_S2x4x2048x4x256_S1x4x2048x4x256_1_0_0_0_0) : (⟨S2x4x2048x4x256, .f32⟩ : BufTy).Contents (Elt F) → (⟨S1x4x2048x4x256, .f32⟩ : BufTy).Contents (Elt F)) (after post V main_v139) :=
  (readU (x := main_v139) (y := main_v154) post_writes 23 rfl (by decide +kernel) (late V post_writes 23 (by decide +kernel)) :)

theorem post_v155 : after post V main_v155 =
    ((shapeCast S4x2048x4x256 · shapeCasts_S1x4x2048x4x256_S4x2048x4x256) : (⟨S1x4x2048x4x256, .f32⟩ : BufTy).Contents (Elt F) → (⟨S4x2048x4x256, .f32⟩ : BufTy).Contents (Elt F)) (after post V main_v154) :=
  uncast (readR (x := main_v154) (y := main_v155) (s := S1x4x2048x4x256) (s' := S4x2048x4x256) post_writes 24 rfl (by decide +kernel) rfl rfl shapeCasts_S1x4x2048x4x256_S4x2048x4x256 (late V post_writes 24 (by decide +kernel)))

theorem post_v156 : after post V main_v156 =
    (Host.reverse [1]) (after post V main_v155) :=
  (readU (x := main_v155) (y := main_v156) post_writes 25 rfl (by decide +kernel) (late V post_writes 25 (by decide +kernel)) :)

theorem post_v157 : after post V main_v157 =
    (addf : (⟨S4x2048x4x256, .f32⟩ : BufTy).Contents (Elt F) → (⟨S4x2048x4x256, .f32⟩ : BufTy).Contents (Elt F) → (⟨S4x2048x4x256, .f32⟩ : BufTy).Contents (Elt F)) (after post V main_v153) (after post V main_v156) :=
  read2 (a := main_v153) (b := main_v156) (y := main_v157) post_writes 26 rfl (by decide +kernel) (addf : (⟨S4x2048x4x256, .f32⟩ : BufTy).Contents (Elt F) → (⟨S4x2048x4x256, .f32⟩ : BufTy).Contents (Elt F) → (⟨S4x2048x4x256, .f32⟩ : BufTy).Contents (Elt F)) (fun _ => StableHlo.binary_result ..) (late V post_writes 26 (by decide +kernel)) (late V post_writes 26 (by decide +kernel))

theorem post_v158 : after post V main_v158 =
    ((fun l r => Host.dotGeneral dot_S2x4x4x256x512_S2x4x256x4x256_S2x4x4x512x256_3_4_4_2_012_013 none l r) : (⟨S2x4x4x256x512, .f32⟩ : BufTy).Contents (Elt F) → (⟨S2x4x256x4x256, .f32⟩ : BufTy).Contents (Elt F) → (⟨S2x4x4x512x256, .f32⟩ : BufTy).Contents (Elt F)) (after post V main_v130_12) (after post V main_v39) :=
  read2 (a := main_v130_12) (b := main_v39) (y := main_v158) post_writes 27 rfl (by decide +kernel) ((fun l r => Host.dotGeneral dot_S2x4x4x256x512_S2x4x256x4x256_S2x4x4x512x256_3_4_4_2_012_013 none l r) : (⟨S2x4x4x256x512, .f32⟩ : BufTy).Contents (Elt F) → (⟨S2x4x256x4x256, .f32⟩ : BufTy).Contents (Elt F) → (⟨S2x4x4x512x256, .f32⟩ : BufTy).Contents (Elt F)) (fun _ => StableHlo.binary_result ..) (late V post_writes 27 (by decide +kernel)) (late V post_writes 27 (by decide +kernel))

theorem post_v159 : after post V main_v159 =
    ((transpose S2x4x256x4x512 [0, 1, 4, 2, 3] · transposes_S2x4x4x512x256_S2x4x256x4x512_0_1_4_2_3) : (⟨S2x4x4x512x256, .f32⟩ : BufTy).Contents (Elt F) → (⟨S2x4x256x4x512, .f32⟩ : BufTy).Contents (Elt F)) (after post V main_v158) :=
  (readU (x := main_v158) (y := main_v159) post_writes 28 rfl (by decide +kernel) (late V post_writes 28 (by decide +kernel)) :)

theorem post_v160 : after post V main_v160 =
    ((fun l r => Host.dotGeneral dot_S2x4x4x256x512_S2x4x256x4x512_S2x4x4x256x256_4_4_3_2_012_013 none l r) : (⟨S2x4x4x256x512, .f32⟩ : BufTy).Contents (Elt F) → (⟨S2x4x256x4x512, .f32⟩ : BufTy).Contents (Elt F) → (⟨S2x4x4x256x256, .f32⟩ : BufTy).Contents (Elt F)) (after post V main_v130_12) (after post V main_v26) :=
  read2 (a := main_v130_12) (b := main_v26) (y := main_v160) post_writes 29 rfl (by decide +kernel) ((fun l r => Host.dotGeneral dot_S2x4x4x256x512_S2x4x256x4x512_S2x4x4x256x256_4_4_3_2_012_013 none l r) : (⟨S2x4x4x256x512, .f32⟩ : BufTy).Contents (Elt F) → (⟨S2x4x256x4x512, .f32⟩ : BufTy).Contents (Elt F) → (⟨S2x4x4x256x256, .f32⟩ : BufTy).Contents (Elt F)) (fun _ => StableHlo.binary_result ..) (late V post_writes 29 (by decide +kernel)) (late V post_writes 29 (by decide +kernel))

theorem post_v161 : after post V main_v161 =
    ((transpose S2x4x256x4x256 [0, 1, 4, 2, 3] · transposes_S2x4x4x256x256_S2x4x256x4x256_0_1_4_2_3) : (⟨S2x4x4x256x256, .f32⟩ : BufTy).Contents (Elt F) → (⟨S2x4x256x4x256, .f32⟩ : BufTy).Contents (Elt F)) (after post V main_v160) :=
  (readU (x := main_v160) (y := main_v161) post_writes 30 rfl (by decide +kernel) (late V post_writes 30 (by decide +kernel)) :)

theorem post_v162 : after post V main_v162 =
    (broadcastInDim S2x4x256x4x256 ![0, 1, 2, 3, 4] bcast_S2x1x256x4x1_S2x4x256x4x256_0_1_2_3_4 : (⟨S2x1x256x4x1, .f32⟩ : BufTy).Contents (Elt F) → (⟨S2x4x256x4x256, .f32⟩ : BufTy).Contents (Elt F)) (after post V main_v37) :=
  (readU (x := main_v37) (y := main_v162) post_writes 31 rfl (by decide +kernel) (late V post_writes 31 (by decide +kernel)) :)

theorem post_v163 : after post V main_v163 =
    (mulf : (⟨S2x4x256x4x256, .f32⟩ : BufTy).Contents (Elt F) → (⟨S2x4x256x4x256, .f32⟩ : BufTy).Contents (Elt F) → (⟨S2x4x256x4x256, .f32⟩ : BufTy).Contents (Elt F)) (after post V main_v161) (after post V main_v162) :=
  read2 (a := main_v161) (b := main_v162) (y := main_v163) post_writes 32 rfl (by decide +kernel) (mulf : (⟨S2x4x256x4x256, .f32⟩ : BufTy).Contents (Elt F) → (⟨S2x4x256x4x256, .f32⟩ : BufTy).Contents (Elt F) → (⟨S2x4x256x4x256, .f32⟩ : BufTy).Contents (Elt F)) (fun _ => StableHlo.binary_result ..) (late V post_writes 32 (by decide +kernel)) (late V post_writes 32 (by decide +kernel))

theorem post_v164 : after post V main_v164 =
    ((extractStridedSlice S1x4x256x4x512 ![0, 0, 0, 0, 0] · slices_S2x4x256x4x512_S1x4x256x4x512_0_0_0_0_0) : (⟨S2x4x256x4x512, .f32⟩ : BufTy).Contents (Elt F) → (⟨S1x4x256x4x512, .f32⟩ : BufTy).Contents (Elt F)) (after post V main_v159) :=
  (readU (x := main_v159) (y := main_v164) post_writes 33 rfl (by decide +kernel) (late V post_writes 33 (by decide +kernel)) :)

theorem post_v165 : after post V main_v165 =
    ((shapeCast S4x256x4x512 · shapeCasts_S1x4x256x4x512_S4x256x4x512) : (⟨S1x4x256x4x512, .f32⟩ : BufTy).Contents (Elt F) → (⟨S4x256x4x512, .f32⟩ : BufTy).Contents (Elt F)) (after post V main_v164) :=
  uncast (readR (x := main_v164) (y := main_v165) (s := S1x4x256x4x512) (s' := S4x256x4x512) post_writes 34 rfl (by decide +kernel) rfl rfl shapeCasts_S1x4x256x4x512_S4x256x4x512 (late V post_writes 34 (by decide +kernel)))

theorem post_v166 : after post V main_v166 =
    ((extractStridedSlice S1x4x256x4x512 ![1, 0, 0, 0, 0] · slices_S2x4x256x4x512_S1x4x256x4x512_1_0_0_0_0) : (⟨S2x4x256x4x512, .f32⟩ : BufTy).Contents (Elt F) → (⟨S1x4x256x4x512, .f32⟩ : BufTy).Contents (Elt F)) (after post V main_v159) :=
  (readU (x := main_v159) (y := main_v166) post_writes 35 rfl (by decide +kernel) (late V post_writes 35 (by decide +kernel)) :)

theorem post_v167 : after post V main_v167 =
    ((shapeCast S4x256x4x512 · shapeCasts_S1x4x256x4x512_S4x256x4x512) : (⟨S1x4x256x4x512, .f32⟩ : BufTy).Contents (Elt F) → (⟨S4x256x4x512, .f32⟩ : BufTy).Contents (Elt F)) (after post V main_v166) :=
  uncast (readR (x := main_v166) (y := main_v167) (s := S1x4x256x4x512) (s' := S4x256x4x512) post_writes 36 rfl (by decide +kernel) rfl rfl shapeCasts_S1x4x256x4x512_S4x256x4x512 (late V post_writes 36 (by decide +kernel)))

theorem post_v168 : after post V main_v168 =
    (Host.reverse [1]) (after post V main_v167) :=
  (readU (x := main_v167) (y := main_v168) post_writes 37 rfl (by decide +kernel) (late V post_writes 37 (by decide +kernel)) :)

theorem post_v169 : after post V main_v169 =
    (addf : (⟨S4x256x4x512, .f32⟩ : BufTy).Contents (Elt F) → (⟨S4x256x4x512, .f32⟩ : BufTy).Contents (Elt F) → (⟨S4x256x4x512, .f32⟩ : BufTy).Contents (Elt F)) (after post V main_v165) (after post V main_v168) :=
  read2 (a := main_v165) (b := main_v168) (y := main_v169) post_writes 38 rfl (by decide +kernel) (addf : (⟨S4x256x4x512, .f32⟩ : BufTy).Contents (Elt F) → (⟨S4x256x4x512, .f32⟩ : BufTy).Contents (Elt F) → (⟨S4x256x4x512, .f32⟩ : BufTy).Contents (Elt F)) (fun _ => StableHlo.binary_result ..) (late V post_writes 38 (by decide +kernel)) (late V post_writes 38 (by decide +kernel))

theorem post_v170 : after post V main_v170 =
    ((extractStridedSlice S1x4x256x4x256 ![0, 0, 0, 0, 0] · slices_S2x4x256x4x256_S1x4x256x4x256_0_0_0_0_0) : (⟨S2x4x256x4x256, .f32⟩ : BufTy).Contents (Elt F) → (⟨S1x4x256x4x256, .f32⟩ : BufTy).Contents (Elt F)) (after post V main_v163) :=
  (readU (x := main_v163) (y := main_v170) post_writes 39 rfl (by decide +kernel) (late V post_writes 39 (by decide +kernel)) :)

theorem post_v171 : after post V main_v171 =
    ((shapeCast S4x256x4x256 · shapeCasts_S1x4x256x4x256_S4x256x4x256) : (⟨S1x4x256x4x256, .f32⟩ : BufTy).Contents (Elt F) → (⟨S4x256x4x256, .f32⟩ : BufTy).Contents (Elt F)) (after post V main_v170) :=
  uncast (readR (x := main_v170) (y := main_v171) (s := S1x4x256x4x256) (s' := S4x256x4x256) post_writes 40 rfl (by decide +kernel) rfl rfl shapeCasts_S1x4x256x4x256_S4x256x4x256 (late V post_writes 40 (by decide +kernel)))

theorem post_v172 : after post V main_v172 =
    ((extractStridedSlice S1x4x256x4x256 ![1, 0, 0, 0, 0] · slices_S2x4x256x4x256_S1x4x256x4x256_1_0_0_0_0) : (⟨S2x4x256x4x256, .f32⟩ : BufTy).Contents (Elt F) → (⟨S1x4x256x4x256, .f32⟩ : BufTy).Contents (Elt F)) (after post V main_v163) :=
  (readU (x := main_v163) (y := main_v172) post_writes 41 rfl (by decide +kernel) (late V post_writes 41 (by decide +kernel)) :)

theorem post_v173 : after post V main_v173 =
    ((shapeCast S4x256x4x256 · shapeCasts_S1x4x256x4x256_S4x256x4x256) : (⟨S1x4x256x4x256, .f32⟩ : BufTy).Contents (Elt F) → (⟨S4x256x4x256, .f32⟩ : BufTy).Contents (Elt F)) (after post V main_v172) :=
  uncast (readR (x := main_v172) (y := main_v173) (s := S1x4x256x4x256) (s' := S4x256x4x256) post_writes 42 rfl (by decide +kernel) rfl rfl shapeCasts_S1x4x256x4x256_S4x256x4x256 (late V post_writes 42 (by decide +kernel)))

theorem post_v174 : after post V main_v174 =
    (Host.reverse [1]) (after post V main_v173) :=
  (readU (x := main_v173) (y := main_v174) post_writes 43 rfl (by decide +kernel) (late V post_writes 43 (by decide +kernel)) :)

theorem post_v175 : after post V main_v175 =
    (addf : (⟨S4x256x4x256, .f32⟩ : BufTy).Contents (Elt F) → (⟨S4x256x4x256, .f32⟩ : BufTy).Contents (Elt F) → (⟨S4x256x4x256, .f32⟩ : BufTy).Contents (Elt F)) (after post V main_v171) (after post V main_v174) :=
  read2 (a := main_v171) (b := main_v174) (y := main_v175) post_writes 44 rfl (by decide +kernel) (addf : (⟨S4x256x4x256, .f32⟩ : BufTy).Contents (Elt F) → (⟨S4x256x4x256, .f32⟩ : BufTy).Contents (Elt F) → (⟨S4x256x4x256, .f32⟩ : BufTy).Contents (Elt F)) (fun _ => StableHlo.binary_result ..) (late V post_writes 44 (by decide +kernel)) (late V post_writes 44 (by decide +kernel))

theorem post_cst_17 : after post V main_cst_17 =
    (constant S_ .f32 0x00000000#32) :=
  read0 (y := main_cst_17) post_writes 45 rfl (by decide +kernel) (fun _ => StableHlo.nullary_result ..)

theorem post_v176 : after post V main_v176 =
    (broadcastInDim S4x256x1024 ![] bcast_S_S4x256x1024 : (⟨S_, .f32⟩ : BufTy).Contents (Elt F) → (⟨S4x256x1024, .f32⟩ : BufTy).Contents (Elt F)) (after post V main_cst_17) :=
  (readU (x := main_cst_17) (y := main_v176) post_writes 46 rfl (by decide +kernel) (late V post_writes 46 (by decide +kernel)) :)

theorem post_v177 : after post V main_v177 =
    ((shapeCast S4x2048x1024 · shapeCasts_S4x2048x4x256_S4x2048x1024) : (⟨S4x2048x4x256, .f32⟩ : BufTy).Contents (Elt F) → (⟨S4x2048x1024, .f32⟩ : BufTy).Contents (Elt F)) (after post V main_v157) :=
  uncast (readR (x := main_v157) (y := main_v177) (s := S4x2048x4x256) (s' := S4x2048x1024) post_writes 47 rfl (by decide +kernel) rfl rfl shapeCasts_S4x2048x4x256_S4x2048x1024 (late V post_writes 47 (by decide +kernel)))

theorem post_v178 : after post V main_v178 =
    ((fun a b => concatenate S4x2304x1024 1 [⟨S4x2048x1024, a⟩, ⟨S4x256x1024, b⟩] concatenates_S4x2048x1024_S4x256x1024_S4x2304x1024_d1) : (⟨S4x2048x1024, .f32⟩ : BufTy).Contents (Elt F) → (⟨S4x256x1024, .f32⟩ : BufTy).Contents (Elt F) → (⟨S4x2304x1024, .f32⟩ : BufTy).Contents (Elt F)) (after post V main_v177) (after post V main_v176) :=
  read2 (a := main_v177) (b := main_v176) (y := main_v178) post_writes 48 rfl (by decide +kernel) ((fun a b => concatenate S4x2304x1024 1 [⟨S4x2048x1024, a⟩, ⟨S4x256x1024, b⟩] concatenates_S4x2048x1024_S4x256x1024_S4x2304x1024_d1) : (⟨S4x2048x1024, .f32⟩ : BufTy).Contents (Elt F) → (⟨S4x256x1024, .f32⟩ : BufTy).Contents (Elt F) → (⟨S4x2304x1024, .f32⟩ : BufTy).Contents (Elt F)) (fun _ => StableHlo.binary_result ..) (late V post_writes 48 (by decide +kernel)) (late V post_writes 48 (by decide +kernel))

theorem post_v179 : after post V main_v179 =
    ((shapeCast S9216x1024 · shapeCasts_S4x2304x1024_S9216x1024) : (⟨S4x2304x1024, .f32⟩ : BufTy).Contents (Elt F) → (⟨S9216x1024, .f32⟩ : BufTy).Contents (Elt F)) (after post V main_v178) :=
  uncast (readR (x := main_v178) (y := main_v179) (s := S4x2304x1024) (s' := S9216x1024) post_writes 49 rfl (by decide +kernel) rfl rfl shapeCasts_S4x2304x1024_S9216x1024 (late V post_writes 49 (by decide +kernel)))

theorem post_v180 : after post V main_v180 =
    ((shapeCast S4x2048x1024 · shapeCasts_S4x2048x4x256_S4x2048x1024) : (⟨S4x2048x4x256, .f32⟩ : BufTy).Contents (Elt F) → (⟨S4x2048x1024, .f32⟩ : BufTy).Contents (Elt F)) (after post V main_v151) :=
  uncast (readR (x := main_v151) (y := main_v180) (s := S4x2048x4x256) (s' := S4x2048x1024) post_writes 50 rfl (by decide +kernel) rfl rfl shapeCasts_S4x2048x4x256_S4x2048x1024 (late V post_writes 50 (by decide +kernel)))

theorem post_v181 : after post V main_v181 =
    ((shapeCast S4x256x1024 · shapeCasts_S4x256x4x256_S4x256x1024) : (⟨S4x256x4x256, .f32⟩ : BufTy).Contents (Elt F) → (⟨S4x256x1024, .f32⟩ : BufTy).Contents (Elt F)) (after post V main_v175) :=
  uncast (readR (x := main_v175) (y := main_v181) (s := S4x256x4x256) (s' := S4x256x1024) post_writes 51 rfl (by decide +kernel) rfl rfl shapeCasts_S4x256x4x256_S4x256x1024 (late V post_writes 51 (by decide +kernel)))

theorem post_v182 : after post V main_v182 =
    ((fun a b => concatenate S4x2304x1024 1 [⟨S4x2048x1024, a⟩, ⟨S4x256x1024, b⟩] concatenates_S4x2048x1024_S4x256x1024_S4x2304x1024_d1) : (⟨S4x2048x1024, .f32⟩ : BufTy).Contents (Elt F) → (⟨S4x256x1024, .f32⟩ : BufTy).Contents (Elt F) → (⟨S4x2304x1024, .f32⟩ : BufTy).Contents (Elt F)) (after post V main_v180) (after post V main_v181) :=
  read2 (a := main_v180) (b := main_v181) (y := main_v182) post_writes 52 rfl (by decide +kernel) ((fun a b => concatenate S4x2304x1024 1 [⟨S4x2048x1024, a⟩, ⟨S4x256x1024, b⟩] concatenates_S4x2048x1024_S4x256x1024_S4x2304x1024_d1) : (⟨S4x2048x1024, .f32⟩ : BufTy).Contents (Elt F) → (⟨S4x256x1024, .f32⟩ : BufTy).Contents (Elt F) → (⟨S4x2304x1024, .f32⟩ : BufTy).Contents (Elt F)) (fun _ => StableHlo.binary_result ..) (late V post_writes 52 (by decide +kernel)) (late V post_writes 52 (by decide +kernel))

theorem post_v183 : after post V main_v183 =
    ((shapeCast S9216x1024 · shapeCasts_S4x2304x1024_S9216x1024) : (⟨S4x2304x1024, .f32⟩ : BufTy).Contents (Elt F) → (⟨S9216x1024, .f32⟩ : BufTy).Contents (Elt F)) (after post V main_v182) :=
  uncast (readR (x := main_v182) (y := main_v183) (s := S4x2304x1024) (s' := S9216x1024) post_writes 53 rfl (by decide +kernel) rfl rfl shapeCasts_S4x2304x1024_S9216x1024 (late V post_writes 53 (by decide +kernel)))

theorem post_v184 : after post V main_v184 =
    ((shapeCast S4x2048x2048 · shapeCasts_S4x2048x4x512_S4x2048x2048) : (⟨S4x2048x4x512, .f32⟩ : BufTy).Contents (Elt F) → (⟨S4x2048x2048, .f32⟩ : BufTy).Contents (Elt F)) (after post V main_v145) :=
  uncast (readR (x := main_v145) (y := main_v184) (s := S4x2048x4x512) (s' := S4x2048x2048) post_writes 54 rfl (by decide +kernel) rfl rfl shapeCasts_S4x2048x4x512_S4x2048x2048 (late V post_writes 54 (by decide +kernel)))

theorem post_v185 : after post V main_v185 =
    ((shapeCast S4x256x2048 · shapeCasts_S4x256x4x512_S4x256x2048) : (⟨S4x256x4x512, .f32⟩ : BufTy).Contents (Elt F) → (⟨S4x256x2048, .f32⟩ : BufTy).Contents (Elt F)) (after post V main_v169) :=
  uncast (readR (x := main_v169) (y := main_v185) (s := S4x256x4x512) (s' := S4x256x2048) post_writes 55 rfl (by decide +kernel) rfl rfl shapeCasts_S4x256x4x512_S4x256x2048 (late V post_writes 55 (by decide +kernel)))

theorem post_v186 : after post V main_v186 =
    ((fun a b => concatenate S4x2304x2048 1 [⟨S4x2048x2048, a⟩, ⟨S4x256x2048, b⟩] concatenates_S4x2048x2048_S4x256x2048_S4x2304x2048_d1) : (⟨S4x2048x2048, .f32⟩ : BufTy).Contents (Elt F) → (⟨S4x256x2048, .f32⟩ : BufTy).Contents (Elt F) → (⟨S4x2304x2048, .f32⟩ : BufTy).Contents (Elt F)) (after post V main_v184) (after post V main_v185) :=
  read2 (a := main_v184) (b := main_v185) (y := main_v186) post_writes 56 rfl (by decide +kernel) ((fun a b => concatenate S4x2304x2048 1 [⟨S4x2048x2048, a⟩, ⟨S4x256x2048, b⟩] concatenates_S4x2048x2048_S4x256x2048_S4x2304x2048_d1) : (⟨S4x2048x2048, .f32⟩ : BufTy).Contents (Elt F) → (⟨S4x256x2048, .f32⟩ : BufTy).Contents (Elt F) → (⟨S4x2304x2048, .f32⟩ : BufTy).Contents (Elt F)) (fun _ => StableHlo.binary_result ..) (late V post_writes 56 (by decide +kernel)) (late V post_writes 56 (by decide +kernel))

theorem post_v187 : after post V main_v187 =
    ((shapeCast S9216x2048 · shapeCasts_S4x2304x2048_S9216x2048) : (⟨S4x2304x2048, .f32⟩ : BufTy).Contents (Elt F) → (⟨S9216x2048, .f32⟩ : BufTy).Contents (Elt F)) (after post V main_v186) :=
  uncast (readR (x := main_v186) (y := main_v187) (s := S4x2304x2048) (s' := S9216x2048) post_writes 57 rfl (by decide +kernel) rfl rfl shapeCasts_S4x2304x2048_S9216x2048 (late V post_writes 57 (by decide +kernel)))

theorem post_v188 : after post V main_v188 =
    ((truncf .bf16 · bitsLt_bf16_f32) : (⟨S9216x1024, .f32⟩ : BufTy).Contents (Elt F) → (⟨S9216x1024, .bf16⟩ : BufTy).Contents (Elt F)) (after post V main_v179) :=
  (readU (x := main_v179) (y := main_v188) post_writes 58 rfl (by decide +kernel) (late V post_writes 58 (by decide +kernel)) :)

theorem post_v189 : after post V main_v189 =
    ((truncf .bf16 · bitsLt_bf16_f32) : (⟨S9216x1024, .f32⟩ : BufTy).Contents (Elt F) → (⟨S9216x1024, .bf16⟩ : BufTy).Contents (Elt F)) (after post V main_v183) :=
  (readU (x := main_v183) (y := main_v189) post_writes 59 rfl (by decide +kernel) (late V post_writes 59 (by decide +kernel)) :)

theorem post_v190 : after post V main_v190 =
    ((truncf .bf16 · bitsLt_bf16_f32) : (⟨S9216x2048, .f32⟩ : BufTy).Contents (Elt F) → (⟨S9216x2048, .bf16⟩ : BufTy).Contents (Elt F)) (after post V main_v187) :=
  (readU (x := main_v187) (y := main_v190) post_writes 60 rfl (by decide +kernel) (late V post_writes 60 (by decide +kernel)) :)

end Cert.ReferenceIdeal.Run
-- ==== Proof.RefRun.lean ====
/-
  The reference's run: lists of operations with two counted loops between them. The counter of each loop is 0 at its
  entry and one more after each trip, so each loop makes sixteen trips, and every buffer ends at the contents `fin`.
-/
module

public import proofs.«01_k».proof.Proof.RefChain
public import proofs.«01_k».proof.Proof.RefEqA
public import proofs.«01_k».proof.Proof.RefEqB
public import proofs.«01_k».proof.Proof.RefEqC
public import proofs.«01_k».proof.Proof.RefEqD
public import Idealize.ShloMosaic.Lib.StableHlo.RunLoop
public import Idealize.ShloMosaic.Lib.Scf.ExitTest
public import Idealize.ShloMosaic.Lib.Scf.Counter

@[expose] public section

noncomputable section

namespace Cert.ReferenceIdeal.Run

open Idealize.SL Idealize.SL.RA Idealize.SL.BI
open scoped Idealize.SL.BI
open Idealize.SL.BI.BIBase Idealize.SL.BI.Laws Idealize.SL.ProofMode Idealize.SL.Sem
open Idealize.ShloMosaic Cert.ReferenceIdeal Cert.LineReads
open Idealize.ShloMosaic.TcCoe
open Idealize.ShloMosaic.StableHlo
open Idealize.ShloMosaic.Pipeline (CSeg Ticket ucRefs sub_ucRefs)

variable {F : FTy → Type} [FloatOps F]

/-- The first loop's test. -/
noncomputable def test0 : List (HloOp τ sig (Elt F)) :=
  [StableHlo.nullary main_while0c_c_30 (constantI S_ 32 16#32),
   StableHlo.binary main_v109_7 main_while0c_c_30 main_while0c_v191 (cmpi .slt : (⟨S_, .i32⟩ : BufTy).Contents (Elt F) → (⟨S_, .i32⟩ : BufTy).Contents (Elt F) → (⟨S_, .i1⟩ : BufTy).Contents (Elt F))]

/-- The second loop's test. -/
noncomputable def test1 : List (HloOp τ sig (Elt F)) :=
  [StableHlo.nullary main_while1c_c_33 (constantI S_ 32 16#32),
   StableHlo.binary main_v130_11 main_while1c_c_33 main_while1c_v191 (cmpi .slt : (⟨S_, .i32⟩ : BufTy).Contents (Elt F) → (⟨S_, .i32⟩ : BufTy).Contents (Elt F) → (⟨S_, .i1⟩ : BufTy).Contents (Elt F))]

noncomputable def test0W : List (Ref sig .tc) := [main_while0c_c_30, main_while0c_v191]
noncomputable def test1W : List (Ref sig .tc) := [main_while1c_c_33, main_while1c_v191]

theorem test0_writes : Writes (test0 (F := F)) test0W := rfl
theorem test1_writes : Writes (test1 (F := F)) test1W := rfl

variable (m : (ℓ : Loc nD τ sig) → Buf (Elt F) ℓ)

/-- Contents at the first loop's entry. -/
noncomputable def ent0 (c : Dev nD) : Valuation τ sig (Elt F) := after pre (launchContents m c)
/-- Contents before the first loop's `k`-th test. -/
noncomputable def at0 (k : ℕ) (c : Dev nD) : Valuation τ sig (Elt F) := atTrip test0 [body0] (ent0 m) k c
/-- Contents at the second loop's entry. -/
noncomputable def ent1 (c : Dev nD) : Valuation τ sig (Elt F) := after mid (after test0 (at0 m 16 c))
/-- Contents before the second loop's `k`-th test. -/
noncomputable def at1 (k : ℕ) (c : Dev nD) : Valuation τ sig (Elt F) := atTrip test1 [body1] (ent1 m) k c
/-- Contents at the end. -/
noncomputable def fin (c : Dev nD) : Valuation τ sig (Elt F) := after post (after test1 (at1 m 16 c))

theorem at0_zero (c : Dev nD) : at0 m 0 c = ent0 m c := rfl
theorem at0_succ (k : ℕ) (c : Dev nD) : at0 m (k + 1) c = after body0 (after test0 (at0 m k c)) := rfl
theorem at1_zero (c : Dev nD) : at1 m 0 c = ent1 m c := rfl
theorem at1_succ (k : ℕ) (c : Dev nD) : at1 m (k + 1) c = after body1 (after test1 (at1 m k c)) := rfl

theorem ctr0 (k : ℕ) (c : Dev nD) : at0 m k c main_v109_7 = fun _ => Scf.iv 0#32 1#32 k := by
  induction k with
  | zero =>
    rw [at0_zero]
    refine ((pre_v109_7 _).trans (pre_c _)).trans ?_
    funext i; rw [Scf.iv_zero]; rfl
  | succ k ih =>
    rw [at0_succ]
    refine ((body0_v109_7 _).trans (body0_while0b_v214 _)).trans ?_
    rw [body0_while0b_c_30, keep _ test0_writes (by decide), ih]
    funext i; rw [Scf.iv_succ]; rfl

theorem ctr1 (k : ℕ) (c : Dev nD) : at1 m k c main_v130_11 = fun _ => Scf.iv 0#32 1#32 k := by
  induction k with
  | zero =>
    rw [at1_zero]
    refine ((mid_v130_11 _).trans (mid_c_16 _)).trans ?_
    funext i; rw [Scf.iv_zero]; rfl
  | succ k ih =>
    rw [at1_succ]
    refine ((body1_v130_11 _).trans (body1_while1b_v232 _)).trans ?_
    rw [body1_while1b_c_35, keep _ test1_writes (by decide), ih]
    funext i; rw [Scf.iv_succ]; rfl

theorem test_iff (k : ℕ) (hk : k ≤ 16) : IntOp.cmpi .slt (Scf.iv 0#32 1#32 k) 16#32 = 1#1 ↔ k < 16 :=
  Scf.cmpi_slt_iv_ub_iff (lb := 0#32) (ub := 16#32) (st := 1#32) (by decide) (k := k) hk

/-! ## The run -/

local notation "𝕄" => MT nD τ sig Unit (Elt F) ℕ (Option PUnit) ℕ

abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev Lev : GSem nD τ sig → Finset Unit := fun _ => ∅
abbrev lev : GSem nD τ sig → Unit → ℕ := fun _ _ => 0

/-- What rides beside the buffers. -/
abbrev Rw (c : Dev nD) : sProp 𝕄 := iprop(∃ W, owes (c : Thread nD τ) (0 : CellTallies nD τ sig Unit) W)

set_option backward.isDefEq.respectTransparency.types false in
/-- The first loop's test reads true exactly before each of its sixteen trips. -/
theorem cond0 : LoopCond (Ix := Unit) (Name := ℕ) (U := Option PUnit) (Lvl := ℕ) (pcfgs (F := F)) defs₀ Variants.none loops Rw
    main_while0_cond test0 [body0] (ent0 m) 16 := fun k hk c bd => by
  have hctr := ctr0 m k c
  unfold at0 at hctr
  unfold main_while0_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip test0 [body0] (ent0 m) k c) main_v109_7 HostLoop.idx0)
        (HloOp.result _ (atTrip test0 [body0] (ent0 m) k c) main_while0c_c_30 HostLoop.idx0) = 1#1) (k < 16)
    rw [StableHlo.nullary_result_ne _ _ _ _ (by decide), StableHlo.nullary_result, hctr]
    exact test_iff k hk
  isplitl [Hb]; · iexact Hb
  isplitl [Hh]; · unfold test0; rw [StableHlo.after_cons, StableHlo.after_cons, StableHlo.after_nil]; iexact Hh
  iexact HR

set_option backward.isDefEq.respectTransparency.types false in
/-- The second loop's test reads true exactly before each of its sixteen trips. -/
theorem cond1 : LoopCond (Ix := Unit) (Name := ℕ) (U := Option PUnit) (Lvl := ℕ) (pcfgs (F := F)) defs₀ Variants.none loops Rw
    main_while1_cond test1 [body1] (ent1 m) 16 := fun k hk c bd => by
  have hctr := ctr1 m k c
  unfold at1 at hctr
  unfold main_while1_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip test1 [body1] (ent1 m) k c) main_v130_11 HostLoop.idx0)
        (HloOp.result _ (atTrip test1 [body1] (ent1 m) k c) main_while1c_c_33 HostLoop.idx0) = 1#1) (k < 16)
    rw [StableHlo.nullary_result_ne _ _ _ _ (by decide), StableHlo.nullary_result, hctr]
    exact test_iff k hk
  isplitl [Hb]; · iexact Hb
  isplitl [Hh]; · unfold test1; rw [StableHlo.after_cons, StableHlo.after_cons, StableHlo.after_nil]; iexact Hh
  iexact HR

theorem plainPre : Plain [pre0 (F := F), pre1, pre2] :=
  Plain.cons pre0_sub (Plain.cons pre1_sub (Plain.cons pre2_sub Plain.nil))
theorem plainMid : Plain [mid (F := F)] := Plain.cons mid_sub Plain.nil
theorem plainPost : Plain [post0 (F := F), post1] := Plain.cons post0_sub (Plain.cons post1_sub Plain.nil)
theorem plainBody0 : Plain [body0 (F := F)] := Plain.cons body0_sub Plain.nil
theorem plainBody1 : Plain [body1 (F := F)] := Plain.cons body1_sub Plain.nil

theorem afterL_pre (V : Valuation τ sig (Elt F)) : afterL [pre0, pre1, pre2] V = after pre V := by
  unfold pre
  rw [afterL_cons, afterL_cons, afterL_cons, afterL_nil, after_append, after_append]

theorem afterL_post (V : Valuation τ sig (Elt F)) : afterL [post0, post1] V = after post V := by
  unfold post
  rw [afterL_cons, afterL_cons, afterL_nil, after_append]

theorem loops0 : loops (F := F) 0 = HostLoop.step 0 main_while0_cond main_while0_body := rfl
theorem loops1 : loops (F := F) 1 = HostLoop.step 1 main_while1_cond main_while1_body := rfl

theorem body0_chain : main_while0_body (F := F) = Pipeline.chain ([body0].map fun ops => seq ops) := by
  rw [body0_seq]; simp only [List.map_cons, List.map_nil, Pipeline.chain_cons, Pipeline.chain_nil]; exact (bind_pure _).symm
theorem body1_chain : main_while1_body (F := F) = Pipeline.chain ([body1].map fun ops => seq ops) := by
  rw [body1_seq]; simp only [List.map_cons, List.map_nil, Pipeline.chain_cons, Pipeline.chain_nil]; exact (bind_pure _).symm

local notation "𝕊𝕖𝕘" => CSeg (Ix := Unit) (Name := ℕ) (U := Option PUnit) (Lvl := ℕ) (nD := nD) (τ := τ) (pcfgs (F := F)) adm defs₀ Variants.none Lev lev loops tk

/-- The first loop as a part. -/
def lp0 : 𝕊𝕖𝕘 := loopSeg _ _ _ _ _ _ _ _ 0 main_while0_cond main_while0_body loops0 test0 [body0] plainBody0 body0_chain 16 (ent0 m) Rw (cond0 m)
/-- The second loop as a part. -/
def lp1 : 𝕊𝕖𝕘 := loopSeg _ _ _ _ _ _ _ _ 1 main_while1_cond main_while1_body loops1 test1 [body1] plainBody1 body1_chain 16 (ent1 m) Rw (cond1 m)

theorem lp0_pre (c : Dev nD) : (lp0 m).pre c = iprop(held (c : Thread nD τ) (ucRefs τ sig) (ent0 m c) ∗ Rw c) := rfl
theorem lp1_pre (c : Dev nD) : (lp1 m).pre c = iprop(held (c : Thread nD τ) (ucRefs τ sig) (ent1 m c) ∗ Rw c) := rfl
theorem lp0_post : (lp0 m).post = fun c : Dev nD => iprop(held (c : Thread nD τ) (ucRefs τ sig) (after test0 (at0 m 16 c)) ∗ Rw c) := rfl
theorem lp1_post : (lp1 m).post = fun c : Dev nD => iprop(held (c : Thread nD τ) (ucRefs τ sig) (after test1 (at1 m 16 c)) ∗ Rw c) := rfl
theorem lp0_prog : (lp0 m).prog = HostLoop.enter 0 := rfl
theorem lp1_prog : (lp1 m).prog = HostLoop.enter 1 := rfl

def segA : List 𝕊𝕖𝕘 := segsOf _ _ _ _ _ _ _ _ Rw [pre0, pre1, pre2] plainPre (launchContents m)
def segB : List 𝕊𝕖𝕘 := segsOf _ _ _ _ _ _ _ _ Rw [mid] plainMid (fun c => after test0 (at0 m 16 c))
def segC : List 𝕊𝕖𝕘 := segsOf _ _ _ _ _ _ _ _ Rw [post0, post1] plainPost (fun c => after test1 (at1 m 16 c))

theorem segA_prog : (segA m).map CSeg.prog = [seq pre0, seq pre1, seq pre2] := segsOf_prog ..
theorem segB_prog : (segB m).map CSeg.prog = [seq mid] := segsOf_prog ..
theorem segC_prog : (segC m).map CSeg.prog = [seq post0, seq post1] := segsOf_prog ..

theorem segA_chains : CSeg.Chains (fun c => iprop(held (c : Thread nD τ) (ucRefs τ sig) (launchContents m c) ∗ Rw c)) (segA m)
    (fun c => iprop(held (c : Thread nD τ) (ucRefs τ sig) (ent0 m c) ∗ Rw c)) := by
  have h := segsOf_chains (pcfgs (F := F)) adm defs₀ Variants.none Lev lev loops tk Rw [pre0, pre1, pre2] plainPre (launchContents m)
  simp only [afterL_pre] at h
  exact h

theorem segB_chains : CSeg.Chains (fun c => iprop(held (c : Thread nD τ) (ucRefs τ sig) (after test0 (at0 m 16 c)) ∗ Rw c)) (segB m)
    (fun c => iprop(held (c : Thread nD τ) (ucRefs τ sig) (ent1 m c) ∗ Rw c)) :=
  segsOf_chains (pcfgs (F := F)) adm defs₀ Variants.none Lev lev loops tk Rw [mid] plainMid (fun c => after test0 (at0 m 16 c))

theorem segC_chains : CSeg.Chains (fun c => iprop(held (c : Thread nD τ) (ucRefs τ sig) (after test1 (at1 m 16 c)) ∗ Rw c)) (segC m)
    (fun c => iprop(held (c : Thread nD τ) (ucRefs τ sig) (fin m c) ∗ Rw c)) := by
  have h := segsOf_chains (pcfgs (F := F)) adm defs₀ Variants.none Lev lev loops tk Rw [post0, post1] plainPost (fun c => after test1 (at1 m 16 c))
  simp only [afterL_post] at h
  exact h

/-- The program's parts: what is before, the first loop, what is between, the second loop, what is after. -/
def parts : List 𝕊𝕖𝕘 := segA m ++ lp0 m :: (segB m ++ lp1 m :: segC m)

theorem parts_prog : (parts m).map CSeg.prog
    = [seq pre0, seq pre1, seq pre2, HostLoop.enter 0, seq mid, HostLoop.enter 1, seq post0, seq post1] := by
  unfold parts
  rw [List.map_append, List.map_cons, List.map_append, List.map_cons, segA_prog, segB_prog, segC_prog, lp0_prog, lp1_prog]
  rfl

theorem parts_chains :
    CSeg.Chains (fun c => iprop(held (c : Thread nD τ) (ucRefs τ sig) (launchContents m c) ∗ Rw c)) (parts m)
      (fun c => iprop(held (c : Thread nD τ) (ucRefs τ sig) (fin m c) ∗ Rw c)) := by
  unfold parts
  refine CSeg.Chains.append (segA_chains m) ⟨fun c => by rw [lp0_pre], ?_⟩
  rw [lp0_post]
  refine CSeg.Chains.append (segB_chains m) ⟨fun c => by rw [lp1_pre], ?_⟩
  rw [lp1_post]
  exact segC_chains m

/-- From any launch memory the reference ends, every buffer at `fin` and no semaphore raised. -/
theorem run_ref [∀ e, Nonempty (Elt F e)] (ρ : Dev nD → PrngReg) :
    θ_run defs (onTc (τ := τ) (main (F := F))) ⟨m, fun _ => 0, ρ⟩ (fun r =>
      (∀ (c : Dev nD) (b : Ref sig .tc), (Proc.devRef .tc b : DevRef τ sig).isScoped = false →
        r.2.mem ((c.tc : Thread nD τ).loc b) = fin m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    pcfgs adm (fun k => k.1.elim0) defs₀ Variants.none Lev lev loops tk m ρ main (parts m)
    (fun c Q => by
      rw [main_chain c]
      unfold CSeg.runL
      rw [parts_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (fin m c)))
    (hch := parts_chains m)
    (hinit := by
      refine Pipeline.initEach Lev lev fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = fin m c b)
    (hfin := fun c s' => by
      unfold held
      iintro ⟨Hh, HSI⟩
      ihave Hr := (pointsTo_read_all (ucRefs τ sig) (fun b => ((c : Dev nD), b)) (fun b => fin m c b) s') $$ [Hh HSI]
      · isplitl [Hh] <;> iassumption
      icases Hr with ⟨%h, HSI⟩
      imodintro
      isplitr; · ipureintro; exact h
      iexact HSI)
    (hQ := fun s h hs => ⟨fun c b hb => h c _ (devRef_mem_ucRefs b hb),
      funext fun g => hs g (Or.inr ((by decide : ∀ sm : SemLoc sig, sm.isScoped .tc = true) g.2))⟩)

/-- Nothing writes an argument. -/
theorem fin_keep (c : Dev nD) {r : Ref sig .tc} (h₀ : r ∉ preW) (h₁ : r ∉ test0W) (h₂ : r ∉ body0W) (h₃ : r ∉ midW)
    (h₄ : r ∉ test1W) (h₅ : r ∉ body1W) (h₆ : r ∉ postW) :
    fin m c (Proc.devRef .tc r) = m ((c.tc : Thread nD τ).loc r) := by
  have a0 : ∀ k, at0 m k c (Proc.devRef .tc r) = m ((c.tc : Thread nD τ).loc r) := fun k => by
    induction k with
    | zero => rw [at0_zero]; exact (keep _ pre_writes h₀).trans rfl
    | succ k ih => rw [at0_succ, keep _ body0_writes h₂, keep _ test0_writes h₁, ih]
  have a1 : ∀ k, at1 m k c (Proc.devRef .tc r) = m ((c.tc : Thread nD τ).loc r) := fun k => by
    induction k with
    | zero => rw [at1_zero]; unfold ent1; rw [keep _ mid_writes h₃, keep _ test0_writes h₁, a0]
    | succ k ih => rw [at1_succ, keep _ body1_writes h₅, keep _ test1_writes h₄, ih]
  unfold fin
  rw [keep _ post_writes h₆, keep _ test1_writes h₄, a1]

end Cert.ReferenceIdeal.Run
-- ==== Proof.Spec.lean ====
/-
  The gradients of one direction of one head's retention, as plain sums over extended reals: the states of the chunked
  recursion (`Sq.st`), the gradients of the states (`Sq.D`), and from them the gradients of the query, key and value
  rows of a chunk (`Sq.dq`, `Sq.dk`, `Sq.dv`) and of the context's key and value rows (`Sq.kx`, `Sq.vx`).  Both the
  kernel's results and the reference's are read down to these.
-/
module

public import Idealize.ShloMosaic.PureOps.Ideal.Laws
public import Idealize.ShloMosaic.Lib.Pointwise
public import Idealize.ShloMosaic.Lib.IdealHost

@[expose] public section

noncomputable section

namespace Cert.Spec

open Idealize.ShloMosaic Idealize.ShloMosaic.Pointwise
open scoped BigOperators

/-- A natural number as an extended real. -/
def nn (n : ℕ) : EReal := ((n : ℝ) : EReal)

/-- The decay over `n` positions at the log rate `lg`. -/
def dec (lg : EReal) (n : ℕ) : EReal := Ideal.exp (lg * nn n)

/-- The decay from position `s` to position `r` of one chunk, zero where `s` comes after `r`. -/
def intra (lg : EReal) (r s : ℕ) : EReal := if s ≤ r then dec lg (r - s) else 0

theorem nn_sub {r s : ℕ} (h : s ≤ r) : nn r - nn s = nn (r - s) := by
  unfold nn
  rw [Nat.cast_sub h, EReal.coe_sub]

theorem nn_add (r s : ℕ) : nn r + nn s = nn (r + s) := by
  unfold nn
  rw [Nat.cast_add, EReal.coe_add]

theorem nn_zero : nn 0 = 0 := by
  unfold nn
  simp

theorem nn_le {r s : ℕ} : nn r ≤ nn s ↔ r ≤ s := by
  unfold nn
  rw [EReal.coe_le_coe_iff, Nat.cast_le]

theorem sub_nonneg_iff {r s : ℕ} : 0 ≤ nn r - nn s ↔ s ≤ r := by
  unfold nn
  rw [← EReal.coe_sub, ← EReal.coe_zero, EReal.coe_le_coe_iff, sub_nonneg, Nat.cast_le]

/-- The masked decay, as both programs print it. -/
theorem mask_eq (lg : EReal) (r s : ℕ) :
    (if 0 ≤ nn r - nn s then Ideal.exp (lg * max (nn r - nn s) 0) else 0) = intra lg r s := by
  unfold intra dec
  by_cases h : s ≤ r
  · rw [if_pos (sub_nonneg_iff.mpr h), if_pos h, max_eq_left (sub_nonneg_iff.mpr h), nn_sub h]
  · rw [if_neg (fun h' => h (sub_nonneg_iff.mp h')), if_neg h]

theorem sit {n : ℕ} (h : n < 2304) : (FloatOps.sitofp .f32 (BitVec.ofNat 32 n) : Ideal .f32) = nn n := by
  have e : (BitVec.ofNat 32 n).toInt = (n : ℤ) := by
    have hn : (BitVec.ofNat 32 n).toNat = n := by
      rw [BitVec.toNat_ofNat]
      exact Nat.mod_eq_of_lt (by omega)
    rw [BitVec.toInt_eq_toNat_of_lt (by omega), hn]
  show (((BitVec.ofNat 32 n).toInt : ℝ) : EReal) = nn n
  rw [e]
  unfold nn
  push_cast
  rfl

theorem nn_one : nn 1 = 1 := by
  unfold nn
  simp
theorem lit127 : Ideal.ofBits .f32 0x42FE0000#32 = nn 127 := by
  unfold nn
  simp [Ideal.ofBits, Ideal.ieee, -EReal.coe_mul]; norm_num
theorem lit128 : Ideal.ofBits .f32 0x43000000#32 = nn 128 := by
  unfold nn
  simp [Ideal.ofBits, Ideal.ieee, -EReal.coe_mul]; norm_num
theorem lit255 : Ideal.ofBits .f32 0x437F0000#32 = nn 255 := by
  unfold nn
  simp [Ideal.ofBits, Ideal.ieee, -EReal.coe_mul]; norm_num

theorem sit128 (r : Fin 128) : (FloatOps.sitofp .f32 (BitVec.ofNat 32 r.val) : Ideal .f32) = nn r.val :=
  sit (Nat.lt_trans r.isLt (by decide))
theorem sit256 (r : Fin 256) : (FloatOps.sitofp .f32 (BitVec.ofNat 32 r.val) : Ideal .f32) = nn r.val :=
  sit (Nat.lt_trans r.isLt (by decide))
theorem sub127 (r : Fin 128) : nn 127 - nn r.val = nn (127 - r.val) := nn_sub (Nat.le_of_lt_succ r.isLt)
theorem sub128 (r : Fin 128) : nn 128 - nn r.val = nn (128 - r.val) := nn_sub (Nat.le_of_lt r.isLt)
theorem sub255 (r : Fin 256) : nn 255 - nn r.val = nn (255 - r.val) := nn_sub (Nat.le_of_lt_succ r.isLt)

theorem dec_def (lg : EReal) (n : ℕ) : Ideal.exp (lg * nn n) = dec lg n := rfl

theorem intra_rev (lg : EReal) (r s : Fin 128) : intra lg (s.rev : Fin 128).val (r.rev : Fin 128).val = intra lg r.val s.val := by
  have h1 := r.isLt
  have h2 := s.isLt
  have e1 : (r.rev : Fin 128).val = 127 - r.val := by rw [Fin.val_rev]; omega
  have e2 : (s.rev : Fin 128).val = 127 - s.val := by rw [Fin.val_rev]; omega
  rw [e1, e2]
  unfold intra
  by_cases h : s.val ≤ r.val
  · rw [if_pos h, if_pos (by omega), show 127 - s.val - (127 - r.val) = r.val - s.val by omega]
  · rw [if_neg h, if_neg (by omega)]

theorem rev128 (r : Fin 128) : (r.rev : Fin 128).val = 127 - r.val := by have := r.isLt; rw [Fin.val_rev]; omega
theorem rev256 (r : Fin 256) : (r.rev : Fin 256).val = 255 - r.val := by have := r.isLt; rw [Fin.val_rev]; omega

/-- One direction of one head: the log decay rate, the rows of each chunk, and the context's rows. -/
structure Sq where
  lg : EReal
  q : ℕ → ℕ → ℕ → EReal
  k : ℕ → ℕ → ℕ → EReal
  v : ℕ → ℕ → ℕ → EReal
  g : ℕ → ℕ → ℕ → EReal
  kc : ℕ → ℕ → EReal
  vc : ℕ → ℕ → EReal

namespace Sq

variable (s : Sq)

/-- The state before chunk `j`. -/
def st : ℕ → ℕ → ℕ → EReal
  | 0, a, e => ∑ x : Fin 256, s.kc x a * dec s.lg (255 - x) * s.vc x e
  | j + 1, a, e => st j a e * dec s.lg 128 + ∑ x : Fin 128, s.k j x a * dec s.lg (127 - x) * s.v j x e

/-- The gradient of the state after `t` chunks from the end. -/
def D : ℕ → ℕ → ℕ → EReal
  | 0, _, _ => 0
  | t + 1, a, e => D t a e * dec s.lg 128 + ∑ x : Fin 128, s.q (15 - t) x a * (s.g (15 - t) x e * dec s.lg (x + 1))

/-- The gradient of a query row. -/
def dq (j r c : ℕ) : EReal :=
  (∑ e : Fin 512, s.g j r e * dec s.lg (r + 1) * s.st j c e) +
    ∑ x : Fin 128, (∑ e : Fin 512, s.g j r e * s.v j x e) * intra s.lg r x * s.k j x c

/-- The gradient of a key row. -/
def dk (j x c : ℕ) : EReal :=
  (∑ e : Fin 512, s.v j x e * s.D (15 - j) c e) * dec s.lg (127 - x) +
    ∑ r : Fin 128, (∑ e : Fin 512, s.g j r e * s.v j x e) * intra s.lg r x * s.q j r c

/-- The gradient of a value row. -/
def dv (j x e : ℕ) : EReal :=
  (∑ c : Fin 256, s.k j x c * dec s.lg (127 - x) * s.D (15 - j) c e) +
    ∑ r : Fin 128, (∑ c : Fin 256, s.q j r c * s.k j x c) * intra s.lg r x * s.g j r e

/-- The gradient of a context key row. -/
def kx (r c : ℕ) : EReal := (∑ e : Fin 512, s.vc r e * s.D 16 c e) * dec s.lg (255 - r)

/-- The gradient of a context value row. -/
def vx (r e : ℕ) : EReal := ∑ c : Fin 256, s.kc r c * dec s.lg (255 - r) * s.D 16 c e

theorem st_zero (a e : ℕ) : s.st 0 a e = ∑ x : Fin 256, s.kc x a * dec s.lg (255 - x) * s.vc x e := rfl
theorem st_succ (j a e : ℕ) : s.st (j + 1) a e =
    s.st j a e * dec s.lg 128 + ∑ x : Fin 128, s.k j x a * dec s.lg (127 - x) * s.v j x e := rfl
theorem D_zero (a e : ℕ) : s.D 0 a e = 0 := rfl
theorem D_succ (t a e : ℕ) : s.D (t + 1) a e =
    s.D t a e * dec s.lg 128 + ∑ x : Fin 128, s.q (15 - t) x a * (s.g (15 - t) x e * dec s.lg (x + 1)) := rfl

end Sq

/-- The element of a two-axis array at two natural numbers. -/
def at2 {n m : ℕ} [NeZero n] [NeZero m] (x : (⟨2, ![n, m]⟩ : Shape).Idx → EReal) (r c : ℕ) : EReal :=
  x (ix2 (Fin.ofNat n r) (Fin.ofNat m c))

theorem at2_ix {n m : ℕ} [NeZero n] [NeZero m] (x : (⟨2, ![n, m]⟩ : Shape).Idx → EReal) (i : Fin n) (j : Fin m)
    (r c : ℕ) (hr : i.val = r) (hc : j.val = c) : x (ix2 i j) = at2 x r c := by
  subst hr hc
  unfold at2
  congr 1
  rw [show Fin.ofNat n i.val = i from Fin.ext (Nat.mod_eq_of_lt i.isLt),
    show Fin.ofNat m j.val = j from Fin.ext (Nat.mod_eq_of_lt j.isLt)]

/-- A sum over 128 rows, read backwards. -/
theorem sum_rev {n : ℕ} (f g : Fin n → EReal) (h : ∀ r : Fin n, f r.rev = g r) : ∑ r, f r = ∑ r, g r := by
  rw [← Equiv.sum_comp Fin.revPerm f]
  exact Finset.sum_congr rfl fun r _ => h r

/-- The forward direction's sequence of one block of rows. -/
def sq0 (lg : EReal) (q k v g : ℕ → ℕ → EReal) : Sq where
  lg := lg
  q j r c := q (128 * j + r) c
  k j r c := k (128 * j + r) c
  v j r c := v (128 * j + r) c
  g j r c := g (128 * j + r) c
  kc r c := k (2048 + r) c
  vc r c := v (2048 + r) c

/-- The reverse direction's: the latent rows and the context rows each read backwards. -/
def sq1 (lg : EReal) (q k v g : ℕ → ℕ → EReal) : Sq where
  lg := lg
  q j r c := q (2047 - (128 * j + r)) c
  k j r c := k (2047 - (128 * j + r)) c
  v j r c := v (2047 - (128 * j + r)) c
  g j r c := g (2047 - (128 * j + r)) c
  kc r c := k (2048 + (255 - r)) c
  vc r c := v (2048 + (255 - r)) c

/-- The query's gradient at row `p` of a block: both directions', nothing on the context's rows. -/
def totQ (s s' : Sq) (p c : ℕ) : EReal :=
  if p < 2048 then s.dq (p / 128) (p % 128) c + s'.dq (15 - p / 128) (127 - p % 128) c else 0

/-- The key's gradient at row `p` of a block. -/
def totK (s s' : Sq) (p c : ℕ) : EReal :=
  if p < 2048 then s.dk (p / 128) (p % 128) c + s'.dk (15 - p / 128) (127 - p % 128) c
  else s.kx (p - 2048) c + s'.kx (255 - (p - 2048)) c

/-- The value's gradient at row `p` of a block. -/
def totV (s s' : Sq) (p c : ℕ) : EReal :=
  if p < 2048 then s.dv (p / 128) (p % 128) c + s'.dv (15 - p / 128) (127 - p % 128) c
  else s.vx (p - 2048) c + s'.vx (255 - (p - 2048)) c

/-- A block of a large array: its rows from `r0` on and its columns from `c0` on. -/
def blk (n m : ℕ) (X : ℕ → ℕ → EReal) (r0 c0 r c : ℕ) : EReal := X (r0 + r % n) (c0 + c % m)

/-- The forward direction's sequence of batch element `b` and head `h`: `A` holds the queries, keys and values side by
side, `L` the log decay rates of both directions, `G` the cotangent. -/
def seq0 (A L G : ℕ → ℕ → EReal) (b h : ℕ) : Sq :=
  sq0 (L h 0) (blk 2304 256 A (2304 * b) (256 * h)) (blk 2304 256 A (2304 * b) (1024 + 256 * h))
    (blk 2304 512 A (2304 * b) (2048 + 512 * h)) (blk 2304 512 G (2304 * b) (512 * h))

/-- The reverse direction's. -/
def seq1 (A L G : ℕ → ℕ → EReal) (b h : ℕ) : Sq :=
  sq1 (L (4 + h) 0) (blk 2304 256 A (2304 * b) (256 * h)) (blk 2304 256 A (2304 * b) (1024 + 256 * h))
    (blk 2304 512 A (2304 * b) (2048 + 512 * h)) (blk 2304 512 G (2304 * b) (512 * h))

/-- The query's gradient array at row `R`, column `C`. -/
def gQ (A L G : ℕ → ℕ → EReal) (R C : ℕ) : EReal :=
  totQ (seq0 A L G (R / 2304) (C / 256)) (seq1 A L G (R / 2304) (C / 256)) (R % 2304) (C % 256)
/-- The key's gradient array. -/
def gK (A L G : ℕ → ℕ → EReal) (R C : ℕ) : EReal :=
  totK (seq0 A L G (R / 2304) (C / 256)) (seq1 A L G (R / 2304) (C / 256)) (R % 2304) (C % 256)
/-- The value's gradient array. -/
def gV (A L G : ℕ → ℕ → EReal) (R C : ℕ) : EReal :=
  totV (seq0 A L G (R / 2304) (C / 512)) (seq1 A L G (R / 2304) (C / 512)) (R % 2304) (C % 512)

end Cert.Spec
-- ==== Proof.KVal.lean ====
/-
  The kernel's per-point functions of the forward direction read at an index: states, state gradients and the rows of
  the three gradients are those of `Cert.Spec.Sq` at the block's own rows.
-/
module

public import proofs.«01_k».proof.Proof.Steps
public import proofs.«01_k».proof.Proof.Spec

@[expose] public section

noncomputable section

namespace Cert.KernelIdeal.Vals

open Idealize.ShloMosaic Idealize.ShloMosaic.TcCoe Idealize.ShloMosaic.Pointwise
open Cert.KernelIdeal.Gen Cert.KernelIdeal.Steps Cert.Spec
open scoped BigOperators

theorem c256_at (x : Vec Ideal S2304x256 .bf16) (j : ℕ) (hj : j ≤ 15) (r : Fin 128) (c : Fin 256) (p : ℕ)
    (hp : 128 * j + r.val = p) : c256 (F := Ideal) x j (ix2 r c) = at2 (n := 2304) (m := 256) x p c.val := by
  pointwise [c256, r256]
  refine at2_ix (n := 2304) (m := 256) x _ _ _ _ ?_ rfl
  show 128 * (j % 16) + r.val = p
  rw [Nat.mod_eq_of_lt (by omega), hp]

theorem c512_at (x : Vec Ideal S2304x512 .bf16) (j : ℕ) (hj : j ≤ 15) (r : Fin 128) (c : Fin 512) (p : ℕ)
    (hp : 128 * j + r.val = p) : c512 (F := Ideal) x j (ix2 r c) = at2 (n := 2304) (m := 512) x p c.val := by
  pointwise [c512, r512]
  refine at2_ix (n := 2304) (m := 512) x _ _ _ _ ?_ rfl
  show 128 * (j % 16) + r.val = p
  rw [Nat.mod_eq_of_lt (by omega), hp]

theorem x256_at (x : Vec Ideal S2304x256 .bf16) (r : Fin 256) (c : Fin 256) (p : ℕ)
    (hp : 2048 + r.val = p) : x256 (F := Ideal) x (ix2 r c) = at2 (n := 2304) (m := 256) x p c.val := by
  pointwise [x256, rc256]
  exact at2_ix (n := 2304) (m := 256) x _ _ _ _ hp rfl

theorem x512_at (x : Vec Ideal S2304x512 .bf16) (r : Fin 256) (c : Fin 512) (p : ℕ)
    (hp : 2048 + r.val = p) : x512 (F := Ideal) x (ix2 r c) = at2 (n := 2304) (m := 512) x p c.val := by
  pointwise [x512, rc512]
  exact at2_ix (n := 2304) (m := 512) x _ _ _ _ hp rfl

variable (lg : Vec Ideal S1x1 .f32) (qb kb : Vec Ideal S2304x256 .bf16) (vb gb : Vec Ideal S2304x512 .bf16)

/-- The forward direction's sequence of a point's blocks. -/
def kq0 : Sq := sq0 (lg (ix2 0 0)) (at2 (n := 2304) (m := 256) qb) (at2 (n := 2304) (m := 256) kb)
  (at2 (n := 2304) (m := 512) vb) (at2 (n := 2304) (m := 512) gb)
/-- The reverse direction's. -/
def kq1 : Sq := sq1 (lg (ix2 0 0)) (at2 (n := 2304) (m := 256) qb) (at2 (n := 2304) (m := 256) kb)
  (at2 (n := 2304) (m := 512) vb) (at2 (n := 2304) (m := 512) gb)

theorem p8 (r : Fin 128) : k0_pay8 (F := Ideal) lg (ix2 r 0) = dec (lg (ix2 0 0)) (r.val + 1) := by
  pointwise [k0_pay8, k0_pay7, k0_pay5]
  rw [sit128, ← nn_one, nn_add]
  rfl
theorem p10 (r : Fin 128) : k0_pay10 (F := Ideal) lg (ix2 r 0) = dec (lg (ix2 0 0)) (127 - r.val) := by
  pointwise [k0_pay10, k0_pay9, k0_pay5]
  rw [sit128, lit127, sub127]
  rfl
theorem p14 (r s : Fin 128) : k0_pay14 (F := Ideal) lg (ix2 r s) = intra (lg (ix2 0 0)) r.val s.val := by
  pointwise [k0_pay14, k0_pay11, k0_pay13, k0_pay12, k0_pay6, k0_pay5]
  rw [sit128, sit128]
  exact mask_eq _ _ _
theorem p87 (r : Fin 256) : k0_pay87 (F := Ideal) lg (ix2 r 0) = dec (lg (ix2 0 0)) (255 - r.val) := by
  pointwise [k0_pay87, k0_pay86]
  rw [sit256, lit255, sub255]
  rfl
theorem p18 : k0_pay18 (F := Ideal) lg (ix2 0 0) = dec (lg (ix2 0 0)) 128 := by
  pointwise [k0_pay18]
  rw [lit128]
  rfl

theorem fwd0_val (j : ℕ) (hj : j ≤ 16) (a : Fin 256) (e : Fin 512) :
    fwd0 (F := Ideal) lg kb vb j (ix3 0 a e) = (kq0 lg qb kb vb gb).st j a.val e.val := by
  induction j with
  | zero =>
    rw [Sq.st_zero]
    show k0_pay79 lg (x256 kb) (x512 vb) (ix3 0 a e) = _
    pointwise [k0_pay79, k0_pay77, k0_pay78]
    refine Finset.sum_congr rfl fun x _ => ?_
    rw [sit256, lit255, sub255, x256_at kb x a _ rfl, x512_at vb x e _ rfl]
    rfl
  | succ j ih =>
    rw [Sq.st_succ, ← ih (by omega)]
    show k0_pay80 lg (fwd0 lg kb vb j) (c256 kb j) (c512 vb j) (ix3 0 a e) = _
    pointwise [k0_pay80]
    rw [lit128]
    refine congrArg (_ + ·) (Finset.sum_congr rfl fun x _ => ?_)
    rw [sit128, lit127, sub127, c256_at kb j (by omega) x a _ rfl, c512_at vb j (by omega) x e _ rfl]
    rfl

theorem dst0_val (t : ℕ) (ht : t ≤ 16) (a : Fin 256) (e : Fin 512) :
    dst0 (F := Ideal) lg qb gb t (ix2 a e) = (kq0 lg qb kb vb gb).D t a.val e.val := by
  induction t with
  | zero =>
    rw [Sq.D_zero]
    show k0_pay81 (ix2 a e) = _
    pointwise [k0_pay81]
  | succ t ih =>
    rw [Sq.D_succ, ← ih (by omega)]
    show k0_pay36 (k0_pay30 lg (k0_pay2 (c256 qb (15 - t))) (k0_pay8 lg) (dst0 lg qb gb t) (c512 gb (15 - t))) (ix2 a e) = _
    pointwise [k0_pay36, k0_pay30, k0_pay2, k0_pay20, k0_pay28, k0_pay19]
    rw [p18]
    refine congrArg (_ + ·) (Finset.sum_congr rfl fun x _ => ?_)
    rw [p8, c256_at qb (15 - t) (by omega) x a _ rfl, c512_at gb (15 - t) (by omega) x e _ rfl]
    rfl

theorem aq_val (t : ℕ) (ht : t ≤ 15) (r : Fin 128) (c : Fin 256) :
    aq (F := Ideal) lg kb vb gb t (ix2 r c) = (kq0 lg qb kb vb gb).dq (15 - t) r.val c.val := by
  unfold aq
  pointwise [k0_pay84, k0_pay34, k0_pay3, k0_pay33, k0_pay31, k0_pay4, k0_pay19, k0_pay29, k0_pay28, k0_pay1]
  unfold Sq.dq
  congr 1
  · refine Finset.sum_congr rfl fun e _ => ?_
    rw [p8, fwd0_val lg qb kb vb gb (15 - t) (by omega), c512_at gb (15 - t) (by omega) r e _ rfl]
    rfl
  · refine Finset.sum_congr rfl fun x _ => ?_
    rw [p14, c256_at kb (15 - t) (by omega) x c _ rfl]
    refine congrArg (fun z => z * _ * _) (Finset.sum_congr rfl fun e _ => ?_)
    rw [c512_at gb (15 - t) (by omega) r e _ rfl, c512_at vb (15 - t) (by omega) x e _ rfl]
    rfl

theorem ak_val (t : ℕ) (ht : t ≤ 15) (x : Fin 128) (c : Fin 256) :
    ak (F := Ideal) lg qb vb gb t (ix2 x c) = (kq0 lg qb kb vb gb).dk (15 - t) x.val c.val := by
  unfold ak
  pointwise [k0_pay37, k0_pay2, k0_pay33, k0_pay31, k0_pay4, k0_pay19, k0_pay25, k0_pay22, k0_pay21]
  unfold Sq.dk
  rw [p10, show 15 - (15 - t) = t by omega]
  congr 1
  · refine congrArg (· * _) (Finset.sum_congr rfl fun e _ => ?_)
    rw [dst0_val lg qb kb vb gb t (by omega), c512_at vb (15 - t) (by omega) x e _ rfl]
    rfl
  · refine Finset.sum_congr rfl fun r _ => ?_
    rw [p14, c256_at qb (15 - t) (by omega) r c _ rfl]
    refine congrArg (fun z => z * _ * _) (Finset.sum_congr rfl fun e _ => ?_)
    rw [c512_at gb (15 - t) (by omega) r e _ rfl, c512_at vb (15 - t) (by omega) x e _ rfl]
    rfl

theorem av_val (t : ℕ) (ht : t ≤ 15) (x : Fin 128) (e : Fin 512) :
    av (F := Ideal) lg qb kb gb t (ix2 x e) = (kq0 lg qb kb vb gb).dv (15 - t) x.val e.val := by
  unfold av
  pointwise [k0_pay83, k0_pay32, k0_pay16, k0_pay15, k0_pay2, k0_pay3, k0_pay19, k0_pay23, k0_pay21]
  unfold Sq.dv
  rw [show 15 - (15 - t) = t by omega]
  congr 1
  · refine Finset.sum_congr rfl fun c _ => ?_
    rw [p10, dst0_val lg qb kb vb gb t (by omega), c256_at kb (15 - t) (by omega) x c _ rfl]
    rfl
  · refine Finset.sum_congr rfl fun r _ => ?_
    rw [p14, c512_at gb (15 - t) (by omega) r e _ rfl]
    refine congrArg (fun z => z * _ * _) (Finset.sum_congr rfl fun c _ => ?_)
    rw [c256_at qb (15 - t) (by omega) r c _ rfl, c256_at kb (15 - t) (by omega) x c _ rfl]
    rfl

theorem akx_val (r : Fin 256) (c : Fin 256) :
    akx (F := Ideal) lg qb vb gb (ix2 r c) = (kq0 lg qb kb vb gb).kx r.val c.val := by
  unfold akx
  pointwise [k0_pay89, k0_pay88, k0_pay78]
  unfold Sq.kx
  rw [p87]
  refine congrArg (· * _) (Finset.sum_congr rfl fun e _ => ?_)
  rw [dst0_val lg qb kb vb gb 16 (by omega), x512_at vb r e _ rfl]
  rfl

theorem avx_val (r : Fin 256) (e : Fin 512) :
    avx (F := Ideal) lg qb kb gb (ix2 r e) = (kq0 lg qb kb vb gb).vx r.val e.val := by
  unfold avx
  pointwise [k0_pay90, k0_pay77]
  unfold Sq.vx
  refine Finset.sum_congr rfl fun c _ => ?_
  rw [p87, dst0_val lg qb kb vb gb 16 (by omega), x256_at kb r c _ rfl]
  rfl

end Cert.KernelIdeal.Vals
-- ==== Proof.KVal1.lean ====
/-
  The kernel's per-point functions of the reverse direction read at an index.  The kernel walks the chunks backwards and
  leaves each chunk's rows in their order, so its sums over a chunk are those of `Cert.Spec.sq1` read backwards.  Then
  the three result blocks, both directions, at a row and a column.
-/
module

public import proofs.«01_k».proof.Proof.KVal

@[expose] public section

noncomputable section

namespace Cert.KernelIdeal.Vals

open Idealize.ShloMosaic Idealize.ShloMosaic.TcCoe Idealize.ShloMosaic.Pointwise
open Cert.KernelIdeal.Gen Cert.KernelIdeal.Steps Cert.Spec
open scoped BigOperators

variable (lg : Vec Ideal S1x1 .f32) (qb kb : Vec Ideal S2304x256 .bf16) (vb gb : Vec Ideal S2304x512 .bf16)

theorem p45 (r : Fin 128) : k0_pay45 (F := Ideal) lg (ix2 r 0) = dec (lg (ix2 0 0)) (128 - r.val) := by
  pointwise [k0_pay45, k0_pay44, k0_pay42]
  rw [sit128, lit128, sub128]
  rfl
theorem p46 (r : Fin 128) : k0_pay46 (F := Ideal) lg (ix2 r 0) = dec (lg (ix2 0 0)) r.val := by
  pointwise [k0_pay46, k0_pay42]
  rw [sit128]
  rfl
theorem p50 (r s : Fin 128) : k0_pay50 (F := Ideal) lg (ix2 r s) = intra (lg (ix2 0 0)) s.val r.val := by
  pointwise [k0_pay50, k0_pay47, k0_pay49, k0_pay48, k0_pay43, k0_pay42]
  rw [sit128, sit128]
  exact mask_eq _ _ _
theorem p103 (r : Fin 256) : k0_pay103 (F := Ideal) (k0_pay102 lg) (ix2 r 0) = dec (lg (ix2 0 0)) r.val := by
  pointwise [k0_pay103, k0_pay102, k0_pay101]
  rw [sit256]
  rfl
theorem p55 : k0_pay55 (F := Ideal) lg (ix2 0 0) = dec (lg (ix2 0 0)) 128 := by
  pointwise [k0_pay55]
  rw [lit128]
  rfl

theorem fwd1_val (j : ℕ) (hj : j ≤ 16) (a : Fin 256) (e : Fin 512) :
    fwd1 (F := Ideal) lg kb vb j (ix3 0 a e) = (kq1 lg qb kb vb gb).st j a.val e.val := by
  induction j with
  | zero =>
    rw [Sq.st_zero]
    show k0_pay94 lg (x256 kb) (x512 vb) (ix3 0 a e) = _
    pointwise [k0_pay94, k0_pay92, k0_pay93]
    refine sum_rev _ _ fun x => ?_
    have hx := x.isLt
    have hr := rev256 x
    rw [sit256, x256_at kb _ a (2048 + (255 - x.val)) (by omega), x512_at vb _ e (2048 + (255 - x.val)) (by omega), hr]
    rfl
  | succ j ih =>
    rw [Sq.st_succ, ← ih (by omega)]
    show k0_pay95 lg (fwd1 lg kb vb j) (c256 kb (15 - j)) (c512 vb (15 - j)) (ix3 0 a e) = _
    pointwise [k0_pay95]
    rw [lit128]
    refine congrArg (_ + ·) (sum_rev _ _ fun x => ?_)
    have hx := x.isLt
    have hr := rev128 x
    rw [sit128, c256_at kb (15 - j) (by omega) _ a (2047 - (128 * j + x.val)) (by omega),
      c512_at vb (15 - j) (by omega) _ e (2047 - (128 * j + x.val)) (by omega), hr]
    rfl

theorem dst1_val (t : ℕ) (ht : t ≤ 16) (a : Fin 256) (e : Fin 512) :
    dst1 (F := Ideal) lg qb gb t (ix2 a e) = (kq1 lg qb kb vb gb).D t a.val e.val := by
  induction t with
  | zero =>
    rw [Sq.D_zero]
    show k0_pay96 (ix2 a e) = _
    pointwise [k0_pay96]
  | succ t ih =>
    rw [Sq.D_succ, ← ih (by omega)]
    show k0_pay74 (k0_pay67 lg (k0_pay39 (c256 qb t)) (k0_pay45 lg) (dst1 lg qb gb t) (c512 gb t)) (ix2 a e) = _
    pointwise [k0_pay74, k0_pay67, k0_pay39, k0_pay57, k0_pay65, k0_pay56]
    rw [p55]
    refine congrArg (_ + ·) (sum_rev _ _ fun x => ?_)
    have hx := x.isLt
    have hr := rev128 x
    rw [p45, c256_at qb t (by omega) _ a (2047 - (128 * (15 - t) + x.val)) (by omega),
      c512_at gb t (by omega) _ e (2047 - (128 * (15 - t) + x.val)) (by omega), hr,
      show 128 - (127 - x.val) = x.val + 1 by omega]
    rfl

theorem bq_val (A : Vec Ideal S128x256 .f32) (t : ℕ) (ht : t ≤ 15) (r : Fin 128) (c : Fin 256) :
    bq (F := Ideal) lg kb vb gb A t (ix2 r c) = A (ix2 r c) + (kq1 lg qb kb vb gb).dq (15 - t) (127 - r.val) c.val := by
  unfold bq
  pointwise [k0_pay99, k0_pay72, k0_pay40, k0_pay71, k0_pay69, k0_pay41, k0_pay68, k0_pay56, k0_pay66, k0_pay65, k0_pay38]
  have hr := r.isLt
  unfold Sq.dq
  refine congrArg (_ + ·) (congr (congrArg _ ?_) ?_)
  · refine Finset.sum_congr rfl fun e _ => ?_
    rw [p45, fwd1_val lg qb kb vb gb (15 - t) (by omega),
      c512_at gb t (by omega) r e (2047 - (128 * (15 - t) + (127 - r.val))) (by omega),
      show 128 - r.val = 127 - r.val + 1 by omega]
    rfl
  · refine sum_rev _ _ fun x => ?_
    have hx := x.isLt
    have hv := rev128 x
    have hm : intra (lg (ix2 0 0)) x.rev.val r.val = intra (lg (ix2 0 0)) (127 - r.val) x.val := by
      rw [← rev128, ← intra_rev (lg (ix2 0 0)) r.rev x, Fin.rev_rev]
    rw [p50, hm, c256_at kb t (by omega) _ c (2047 - (128 * (15 - t) + x.val)) (by omega)]
    refine congrArg (fun z => z * _ * _) (Finset.sum_congr rfl fun e _ => ?_)
    rw [c512_at gb t (by omega) r e (2047 - (128 * (15 - t) + (127 - r.val))) (by omega),
      c512_at vb t (by omega) _ e (2047 - (128 * (15 - t) + x.val)) (by omega)]
    rfl

theorem bk_val (A : Vec Ideal S128x256 .f32) (t : ℕ) (ht : t ≤ 15) (x : Fin 128) (c : Fin 256) :
    bk (F := Ideal) lg qb vb gb A t (ix2 x c) = A (ix2 x c) + (kq1 lg qb kb vb gb).dk (15 - t) (127 - x.val) c.val := by
  unfold bk
  pointwise [k0_pay75, k0_pay39, k0_pay41, k0_pay71, k0_pay69, k0_pay68, k0_pay56, k0_pay62, k0_pay59, k0_pay58]
  have hx := x.isLt
  unfold Sq.dk
  rw [p46, show 15 - (15 - t) = t by omega, show 127 - (127 - x.val) = x.val by omega]
  refine congrArg (_ + ·) (congr (congrArg _ ?_) ?_)
  · refine congrArg (· * _) (Finset.sum_congr rfl fun e _ => ?_)
    rw [dst1_val lg qb kb vb gb t (by omega),
      c512_at vb t (by omega) x e (2047 - (128 * (15 - t) + (127 - x.val))) (by omega)]
    rfl
  · refine sum_rev _ _ fun r => ?_
    have hr := r.isLt
    have hv := rev128 r
    have hm : intra (lg (ix2 0 0)) x.val r.rev.val = intra (lg (ix2 0 0)) r.val (127 - x.val) := by
      rw [← rev128, ← intra_rev (lg (ix2 0 0)) r x.rev, Fin.rev_rev]
    rw [p50, hm, c256_at qb t (by omega) _ c (2047 - (128 * (15 - t) + r.val)) (by omega)]
    refine congrArg (fun z => z * _ * _) (Finset.sum_congr rfl fun e _ => ?_)
    rw [c512_at gb t (by omega) _ e (2047 - (128 * (15 - t) + r.val)) (by omega),
      c512_at vb t (by omega) _ e (2047 - (128 * (15 - t) + (127 - x.val))) (by omega)]
    rfl

theorem bv_val (A : Vec Ideal S128x512 .f32) (t : ℕ) (ht : t ≤ 15) (x : Fin 128) (e : Fin 512) :
    bv (F := Ideal) lg qb kb gb A t (ix2 x e) = A (ix2 x e) + (kq1 lg qb kb vb gb).dv (15 - t) (127 - x.val) e.val := by
  unfold bv
  pointwise [k0_pay98, k0_pay70, k0_pay52, k0_pay51, k0_pay39, k0_pay40, k0_pay56, k0_pay60, k0_pay58]
  have hx := x.isLt
  unfold Sq.dv
  rw [show 15 - (15 - t) = t by omega, show 127 - (127 - x.val) = x.val by omega]
  refine congrArg (_ + ·) (congr (congrArg _ ?_) ?_)
  · refine Finset.sum_congr rfl fun c _ => ?_
    rw [p46, dst1_val lg qb kb vb gb t (by omega),
      c256_at kb t (by omega) x c (2047 - (128 * (15 - t) + (127 - x.val))) (by omega)]
    rfl
  · refine sum_rev _ _ fun r => ?_
    have hr := r.isLt
    have hv := rev128 r
    have hm : intra (lg (ix2 0 0)) x.val r.rev.val = intra (lg (ix2 0 0)) r.val (127 - x.val) := by
      rw [← rev128, ← intra_rev (lg (ix2 0 0)) r x.rev, Fin.rev_rev]
    rw [p50, hm, c512_at gb t (by omega) _ e (2047 - (128 * (15 - t) + r.val)) (by omega)]
    refine congrArg (fun z => z * _ * _) (Finset.sum_congr rfl fun c _ => ?_)
    rw [c256_at qb t (by omega) _ c (2047 - (128 * (15 - t) + r.val)) (by omega),
      c256_at kb t (by omega) _ c (2047 - (128 * (15 - t) + (127 - x.val))) (by omega)]
    rfl

theorem bkx_val (A : Vec Ideal S256x256 .f32) (r : Fin 256) (c : Fin 256) :
    bkx (F := Ideal) lg qb vb gb A (ix2 r c) = A (ix2 r c) + (kq1 lg qb kb vb gb).kx (255 - r.val) c.val := by
  unfold bkx
  pointwise [k0_pay105, k0_pay104, k0_pay93]
  have hr := r.isLt
  unfold Sq.kx
  rw [p103, show 255 - (255 - r.val) = r.val by omega]
  refine congrArg (fun z => _ + z * _) (Finset.sum_congr rfl fun e _ => ?_)
  rw [dst1_val lg qb kb vb gb 16 (by omega), x512_at vb r e (2048 + (255 - (255 - r.val))) (by omega)]
  rfl

theorem bvx_val (A : Vec Ideal S256x512 .f32) (r : Fin 256) (e : Fin 512) :
    bvx (F := Ideal) lg qb kb gb A (ix2 r e) = A (ix2 r e) + (kq1 lg qb kb vb gb).vx (255 - r.val) e.val := by
  unfold bvx
  pointwise [k0_pay106, k0_pay92]
  have hr := r.isLt
  unfold Sq.vx
  refine congrArg (_ + ·) (Finset.sum_congr rfl fun c _ => ?_)
  rw [p103, dst1_val lg qb kb vb gb 16 (by omega), x256_at kb r c _ rfl]
  show _ = at2 (n := 2304) (m := 256) kb (2048 + (255 - (255 - r.val))) c.val * dec _ (255 - (255 - r.val)) * _
  rw [show 255 - (255 - r.val) = r.val by omega]
  rfl

/-! ## The three result blocks -/

variable (lg' : Vec Ideal S1x1 .f32)

theorem outQ_val (p : Fin 2304) (c : Fin 256) : outQ (F := Ideal) lg kb vb gb lg' (ix2 p c) =
    totQ (kq0 lg qb kb vb gb) (kq1 lg' qb kb vb gb) p.val c.val := by
  unfold outQ glue256 totQ
  have hp := p.isLt
  show (if h : p.val < 2048 then _ else _) = _
  by_cases h : p.val < 2048
  · rw [dif_pos h, if_pos h]
    have hd : p.val / 128 ≤ 15 := by omega
    refine (bq_val lg' qb kb vb gb (aq lg kb vb gb (15 - p.val / 128)) (p.val / 128) hd ⟨p.val % 128, Nat.mod_lt _ (by decide)⟩ c).trans ?_
    rw [aq_val lg qb kb vb gb (15 - p.val / 128) (by omega), show 15 - (15 - p.val / 128) = p.val / 128 by omega]
  · rw [dif_neg h, if_neg h]
    show k0_pay108 (F := Ideal) (ix2 _ c) = 0
    pointwise [k0_pay108]

theorem outK_val (p : Fin 2304) (c : Fin 256) : outK (F := Ideal) lg qb vb gb lg' (ix2 p c) =
    totK (kq0 lg qb kb vb gb) (kq1 lg' qb kb vb gb) p.val c.val := by
  unfold outK glue256 totK
  have hp := p.isLt
  show (if h : p.val < 2048 then _ else _) = _
  by_cases h : p.val < 2048
  · rw [dif_pos h, if_pos h]
    have hd : p.val / 128 ≤ 15 := by omega
    refine (bk_val lg' qb kb vb gb (ak lg qb vb gb (15 - p.val / 128)) (p.val / 128) hd ⟨p.val % 128, Nat.mod_lt _ (by decide)⟩ c).trans ?_
    rw [ak_val lg qb kb vb gb (15 - p.val / 128) (by omega), show 15 - (15 - p.val / 128) = p.val / 128 by omega]
  · rw [dif_neg h, if_neg h]
    refine (bkx_val lg' qb kb vb gb _ ⟨p.val - 2048, by omega⟩ c).trans ?_
    rw [akx_val lg qb kb vb gb]

theorem outV_val (p : Fin 2304) (e : Fin 512) : outV (F := Ideal) lg qb kb gb lg' (ix2 p e) =
    totV (kq0 lg qb kb vb gb) (kq1 lg' qb kb vb gb) p.val e.val := by
  unfold outV glue512 totV
  have hp := p.isLt
  show (if h : p.val < 2048 then _ else _) = _
  by_cases h : p.val < 2048
  · rw [dif_pos h, if_pos h]
    have hd : p.val / 128 ≤ 15 := by omega
    refine (bv_val lg' qb kb vb gb (av lg qb kb gb (15 - p.val / 128)) (p.val / 128) hd ⟨p.val % 128, Nat.mod_lt _ (by decide)⟩ e).trans ?_
    rw [av_val lg qb kb vb gb (15 - p.val / 128) (by omega), show 15 - (15 - p.val / 128) = p.val / 128 by omega]
  · rw [dif_neg h, if_neg h]
    refine (bvx_val lg' qb kb vb gb _ ⟨p.val - 2048, by omega⟩ e).trans ?_
    rw [avx_val lg qb kb vb gb]

end Cert.KernelIdeal.Vals
-- ==== Proof.KArr.lean ====
/-
  The kernel's three result arrays after the run, as functions of the argument arrays: each grid point writes its own
  block, the sixteen blocks cover the array, and each is the block of `Cert.Spec.gQ`, `gK` or `gV`.
-/
module

public import proofs.«01_k».proof.Proof.KVal1
public import proofs.«01_k».proof.Proof.Run

@[expose] public section

noncomputable section

namespace Cert.KernelIdeal.Vals

open Idealize.ShloMosaic Idealize.ShloMosaic.TcCoe Idealize.ShloMosaic.Pointwise
open Cert.KernelIdeal.Gen Cert.KernelIdeal.Steps Cert.Spec

variable (m : (ℓ : Loc nD τ sig) → Buf (Elt Ideal) ℓ)

/-- The argument arrays of core `c` at two natural numbers. -/
def aA (c : Dev nD) : ℕ → ℕ → EReal := at2 (n := 9216) (m := 4096) (m ((c : Thread nD τ).loc main_arg0))
def aL (c : Dev nD) : ℕ → ℕ → EReal := at2 (n := 8) (m := 128) (m ((c : Thread nD τ).loc main_arg1))
def aG (c : Dev nD) : ℕ → ℕ → EReal := at2 (n := 9216) (m := 2048) (m ((c : Thread nD τ).loc main_arg2))

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = t.val / 4 ∧ win0_1.index t (1 : Fin 2) = t.val % 4 :=
  (by decide +kernel : ∀ t : Fin grid0.N, _)
theorem idx2 : ∀ t : Fin cfg0.N, win0_2.index t (0 : Fin 2) = t.val / 4 ∧ win0_2.index t (1 : Fin 2) = 4 + t.val % 4 :=
  (by decide +kernel : ∀ t : Fin grid0.N, _)
theorem idx3 : ∀ t : Fin cfg0.N, win0_3.index t (0 : Fin 2) = t.val / 4 ∧ win0_3.index t (1 : Fin 2) = 4 + t.val % 4 :=
  (by decide +kernel : ∀ t : Fin grid0.N, _)
theorem idx4 : ∀ t : Fin cfg0.N, win0_4.index t (0 : Fin 2) = t.val / 4 ∧ win0_4.index t (1 : Fin 2) = t.val % 4 :=
  (by decide +kernel : ∀ t : Fin grid0.N, _)
theorem idx5 : ∀ t : Fin cfg0.N, win0_5.index t (0 : Fin 2) = t.val / 4 ∧ win0_5.index t (1 : Fin 2) = t.val % 4 :=
  (by decide +kernel : ∀ t : Fin grid0.N, _)
theorem idx6 : ∀ t : Fin cfg0.N, win0_6.index t (0 : Fin 2) = t.val / 4 ∧ win0_6.index t (1 : Fin 2) = t.val % 4 :=
  (by decide +kernel : ∀ t : Fin grid0.N, _)
theorem idx7 : ∀ t : Fin cfg0.N, win0_7.index t (0 : Fin 2) = t.val / 4 ∧ win0_7.index t (1 : Fin 2) = t.val % 4 :=
  (by decide +kernel : ∀ t : Fin grid0.N, _)

theorem bQ_at (c : Dev nD) (t : Fin cfg0.N) : at2 (n := 2304) (m := 256) (bQ m c t)
    = blk 2304 256 (aA m c) (2304 * (t.val / 4)) (256 * (t.val % 4)) := by
  obtain ⟨e0, e1⟩ := idx1 t
  have ht : t.val < 16 := t.isLt
  funext r k
  unfold at2 blk aA
  show m ((c : Thread nD τ).loc main_arg0) (((cfg0.win 1).blk t).view.emb (ix2 (Fin.ofNat 2304 r) (Fin.ofNat 256 k))) = _
  rw [← at2_ix (n := 9216) (m := 4096) (m ((c : Thread nD τ).loc main_arg0))
    ⟨2304 * (t.val / 4) + r % 2304, by omega⟩ ⟨256 * (t.val % 4) + k % 256, by omega⟩ _ _ rfl rfl]
  refine congrArg (m ((c : Thread nD τ).loc main_arg0)) (funext fun a => Fin.ext ?_)
  match a with
  | ⟨0, _⟩ => show win0_1.index t (0 : Fin 2) * 2304 + 1 * (r % 2304) = 2304 * (t.val / 4) + r % 2304; omega
  | ⟨1, _⟩ => show win0_1.index t (1 : Fin 2) * 256 + 1 * (k % 256) = 256 * (t.val % 4) + k % 256; omega

theorem bK_at (c : Dev nD) (t : Fin cfg0.N) : at2 (n := 2304) (m := 256) (bK m c t)
    = blk 2304 256 (aA m c) (2304 * (t.val / 4)) (1024 + 256 * (t.val % 4)) := by
  obtain ⟨e0, e1⟩ := idx2 t
  have ht : t.val < 16 := t.isLt
  funext r k
  unfold at2 blk aA
  show m ((c : Thread nD τ).loc main_arg0) (((cfg0.win 2).blk t).view.emb (ix2 (Fin.ofNat 2304 r) (Fin.ofNat 256 k))) = _
  rw [← at2_ix (n := 9216) (m := 4096) (m ((c : Thread nD τ).loc main_arg0))
    ⟨2304 * (t.val / 4) + r % 2304, by omega⟩ ⟨1024 + 256 * (t.val % 4) + k % 256, by omega⟩ _ _ rfl rfl]
  refine congrArg (m ((c : Thread nD τ).loc main_arg0)) (funext fun a => Fin.ext ?_)
  match a with
  | ⟨0, _⟩ => show win0_2.index t (0 : Fin 2) * 2304 + 1 * (r % 2304) = 2304 * (t.val / 4) + r % 2304; omega
  | ⟨1, _⟩ => show win0_2.index t (1 : Fin 2) * 256 + 1 * (k % 256) = 1024 + 256 * (t.val % 4) + k % 256; omega

theorem bV_at (c : Dev nD) (t : Fin cfg0.N) : at2 (n := 2304) (m := 512) (bV m c t)
    = blk 2304 512 (aA m c) (2304 * (t.val / 4)) (2048 + 512 * (t.val % 4)) := by
  obtain ⟨e0, e1⟩ := idx3 t
  have ht : t.val < 16 := t.isLt
  funext r k
  unfold at2 blk aA
  show m ((c : Thread nD τ).loc main_arg0) (((cfg0.win 3).blk t).view.emb (ix2 (Fin.ofNat 2304 r) (Fin.ofNat 512 k))) = _
  rw [← at2_ix (n := 9216) (m := 4096) (m ((c : Thread nD τ).loc main_arg0))
    ⟨2304 * (t.val / 4) + r % 2304, by omega⟩ ⟨2048 + 512 * (t.val % 4) + k % 512, by omega⟩ _ _ rfl rfl]
  refine congrArg (m ((c : Thread nD τ).loc main_arg0)) (funext fun a => Fin.ext ?_)
  match a with
  | ⟨0, _⟩ => show win0_3.index t (0 : Fin 2) * 2304 + 1 * (r % 2304) = 2304 * (t.val / 4) + r % 2304; omega
  | ⟨1, _⟩ => show win0_3.index t (1 : Fin 2) * 512 + 1 * (k % 512) = 2048 + 512 * (t.val % 4) + k % 512; omega

theorem bG_at (c : Dev nD) (t : Fin cfg0.N) : at2 (n := 2304) (m := 512) (bG m c t)
    = blk 2304 512 (aG m c) (2304 * (t.val / 4)) (512 * (t.val % 4)) := by
  obtain ⟨e0, e1⟩ := idx4 t
  have ht : t.val < 16 := t.isLt
  funext r k
  unfold at2 blk aG
  show m ((c : Thread nD τ).loc main_arg2) (((cfg0.win 4).blk t).view.emb (ix2 (Fin.ofNat 2304 r) (Fin.ofNat 512 k))) = _
  rw [← at2_ix (n := 9216) (m := 2048) (m ((c : Thread nD τ).loc main_arg2))
    ⟨2304 * (t.val / 4) + r % 2304, by omega⟩ ⟨512 * (t.val % 4) + k % 512, by omega⟩ _ _ rfl rfl]
  refine congrArg (m ((c : Thread nD τ).loc main_arg2)) (funext fun a => Fin.ext ?_)
  match a with
  | ⟨0, _⟩ => show win0_4.index t (0 : Fin 2) * 2304 + 1 * (r % 2304) = 2304 * (t.val / 4) + r % 2304; omega
  | ⟨1, _⟩ => show win0_4.index t (1 : Fin 2) * 512 + 1 * (k % 512) = 512 * (t.val % 4) + k % 512; omega

theorem off1_val : ∀ (t : Fin cfg0.N) (r : Fin 2),
    k0_off1 (grid0.coords t) (BitVec.ofNat 32 (4 * r.val)) (0 : Fin 2) = 4 * r.val + t.val % 4 ∧
      k0_off1 (grid0.coords t) (BitVec.ofNat 32 (4 * r.val)) (1 : Fin 2) = 0 :=
  (by decide +kernel : ∀ (t : Fin grid0.N) (r : Fin 2),
    k0_off1 (grid0.coords t) (BitVec.ofNat 32 (4 * r.val)) (0 : Fin 2) = 4 * r.val + t.val % 4 ∧
      k0_off1 (grid0.coords t) (BitVec.ofNat 32 (4 * r.val)) (1 : Fin 2) = 0)

theorem pLg_at (c : Dev nD) (t : Fin cfg0.N) (r : Fin 2) :
    pLg m c t r (ix2 0 0) = aL m c (4 * r.val + t.val % 4) 0 := by
  obtain ⟨e0, e1⟩ := idx0 t
  obtain ⟨f0, f1⟩ := off1_val t r
  have hr := r.isLt
  unfold aL
  show m ((c : Thread nD τ).loc main_arg1) (((cfg0.win 0).blk t).view.emb
    ((Rect.unit (s := S8x128) (k0_off1 (grid0.coords t) (BitVec.ofNat 32 (4 * r.val))) S1x1.size
      (k0_off1_inb (grid0.coords t) r)).emb (ix2 0 0))) = _
  rw [← at2_ix (n := 8) (m := 128) (m ((c : Thread nD τ).loc main_arg1))
    ⟨4 * r.val + t.val % 4, by omega⟩ ⟨0, by omega⟩ _ _ rfl rfl]
  refine congrArg (m ((c : Thread nD τ).loc main_arg1)) (funext fun a => Fin.ext ?_)
  match a with
  | ⟨0, _⟩ =>
    show win0_0.index t (0 : Fin 2) * 8 + 1 * (k0_off1 (grid0.coords t) (BitVec.ofNat 32 (4 * r.val)) (0 : Fin 2) + 1 * 0) = 4 * r.val + t.val % 4
    omega
  | ⟨1, _⟩ =>
    show win0_0.index t (1 : Fin 2) * 128 + 1 * (k0_off1 (grid0.coords t) (BitVec.ofNat 32 (4 * r.val)) (1 : Fin 2) + 1 * 0) = 0
    omega

theorem kq0_eq (c : Dev nD) (t : Fin cfg0.N) : kq0 (pLg m c t 0) (bQ m c t) (bK m c t) (bV m c t) (bG m c t)
    = seq0 (aA m c) (aL m c) (aG m c) (t.val / 4) (t.val % 4) := by
  unfold kq0 seq0
  rw [bQ_at, bK_at, bV_at, bG_at, pLg_at, show 4 * (0 : Fin 2).val + t.val % 4 = t.val % 4 by simp]

theorem kq1_eq (c : Dev nD) (t : Fin cfg0.N) : kq1 (pLg m c t 1) (bQ m c t) (bK m c t) (bV m c t) (bG m c t)
    = seq1 (aA m c) (aL m c) (aG m c) (t.val / 4) (t.val % 4) := by
  unfold kq1 seq1
  rw [bQ_at, bK_at, bV_at, bG_at, pLg_at, show 4 * (1 : Fin 2).val + t.val % 4 = 4 + t.val % 4 by simp]

/-- Result 1 of three as an array. -/
def GQ (c : Dev nD) : (⟨2, ![9216, 1024]⟩ : Shape).Idx → EReal :=
  fun i => gQ (aA m c) (aL m c) (aG m c) (i 0).val (i 1).val

theorem resQ_at (c : Dev nD) (t : Fin cfg0.N) (p : Fin 2304) (k : Fin 256) : resQ m c t (ix2 p k)
    = gQ (aA m c) (aL m c) (aG m c) (2304 * (t.val / 4) + p.val) (256 * (t.val % 4) + k.val) := by
  have hp := p.isLt
  have hk := k.isLt
  unfold resQ gQ
  refine (outQ_val (pLg m c t 0) (bQ m c t) (bK m c t) (bV m c t) (bG m c t) (pLg m c t 1) p k).trans ?_
  rw [kq0_eq, kq1_eq, show (2304 * (t.val / 4) + p.val) / 2304 = t.val / 4 by omega,
    show (2304 * (t.val / 4) + p.val) % 2304 = p.val by omega,
    show (256 * (t.val % 4) + k.val) / 256 = t.val % 4 by omega,
    show (256 * (t.val % 4) + k.val) % 256 = k.val by omega]

theorem emb5_row (t : Fin cfg0.N) (j : S2304x256.Idx) :
    (((cfg0.win 5).blk t).view.emb j (0 : Fin 2)).val = 2304 * (t.val / 4) + (j 0).val := by
  obtain ⟨e0, e1⟩ := idx5 t
  show win0_5.index t (0 : Fin 2) * 2304 + 1 * (j 0).val = _
  omega
theorem emb5_col (t : Fin cfg0.N) (j : S2304x256.Idx) :
    (((cfg0.win 5).blk t).view.emb j (1 : Fin 2)).val = 256 * (t.val % 4) + (j 1).val := by
  obtain ⟨e0, e1⟩ := idx5 t
  show win0_5.index t (1 : Fin 2) * 256 + 1 * (j 1).val = _
  omega

theorem flushed5 (c : Dev nD) (t : Fin cfg0.N) :
    (dats m 0 c).flushed 5 t = ((cfg0.win 5).blk t).view.read (Elt Ideal) (GQ m c) := by
  funext j
  show resQ m c t j = gQ (aA m c) (aL m c) (aG m c) (((cfg0.win 5).blk t).view.emb j (0 : Fin 2)).val
    (((cfg0.win 5).blk t).view.emb j (1 : Fin 2)).val
  rw [emb5_row, emb5_col, ← resQ_at m c t (j 0) (j 1)]
  exact congrArg (resQ m c t) (eq_ix2 j)

theorem covered5 (i : S9216x1024.Idx) :
    ∃ t : Fin cfg0.N, (cfg0.win 5).flush t = true ∧ i ∈ ((cfg0.win 5).blk t).view.set := by
  have h0 : (i 0).val < 9216 := (i 0).isLt
  have h1 : (i 1).val < 1024 := (i 1).isLt
  let t : Fin cfg0.N := ⟨4 * ((i 0).val / 2304) + (i 1).val / 256, by show _ < 16; omega⟩
  refine ⟨t, flush0_5 t, ?_⟩
  let j : S2304x256.Idx := ix2 ⟨(i 0).val % 2304, Nat.mod_lt _ (by decide)⟩ ⟨(i 1).val % 256, Nat.mod_lt _ (by decide)⟩
  have e : ((cfg0.win 5).blk t).view.emb j = i := by
    funext a
    apply Fin.ext
    match a with
    | ⟨0, _⟩ =>
      refine (emb5_row t j).trans ?_
      show 2304 * ((4 * ((i 0).val / 2304) + (i 1).val / 256) / 4) + (i 0).val % 2304 = (i 0).val
      omega
    | ⟨1, _⟩ =>
      refine (emb5_col t j).trans ?_
      show 256 * ((4 * ((i 0).val / 2304) + (i 1).val / 256) % 4) + (i 1).val % 256 = (i 1).val
      omega
  have h := ((cfg0.win 5).blk t).view.emb_mem_set j
  rwa [e] at h

/-- The array after the run. -/
theorem final5 (c : Dev nD) : (dats m 0 c).arrAt 5 cfg0.N = GQ m c :=
  (dats m 0 c).arrAt_eq_of_cover 5 (GQ m c) (fun t _ => flushed5 m c t) covered5

/-- Result 2 of three as an array. -/
def GK (c : Dev nD) : (⟨2, ![9216, 1024]⟩ : Shape).Idx → EReal :=
  fun i => gK (aA m c) (aL m c) (aG m c) (i 0).val (i 1).val

theorem resK_at (c : Dev nD) (t : Fin cfg0.N) (p : Fin 2304) (k : Fin 256) : resK m c t (ix2 p k)
    = gK (aA m c) (aL m c) (aG m c) (2304 * (t.val / 4) + p.val) (256 * (t.val % 4) + k.val) := by
  have hp := p.isLt
  have hk := k.isLt
  unfold resK gK
  refine (outK_val (pLg m c t 0) (bQ m c t) (bK m c t) (bV m c t) (bG m c t) (pLg m c t 1) p k).trans ?_
  rw [kq0_eq, kq1_eq, show (2304 * (t.val / 4) + p.val) / 2304 = t.val / 4 by omega,
    show (2304 * (t.val / 4) + p.val) % 2304 = p.val by omega,
    show (256 * (t.val % 4) + k.val) / 256 = t.val % 4 by omega,
    show (256 * (t.val % 4) + k.val) % 256 = k.val by omega]

theorem emb6_row (t : Fin cfg0.N) (j : S2304x256.Idx) :
    (((cfg0.win 6).blk t).view.emb j (0 : Fin 2)).val = 2304 * (t.val / 4) + (j 0).val := by
  obtain ⟨e0, e1⟩ := idx6 t
  show win0_6.index t (0 : Fin 2) * 2304 + 1 * (j 0).val = _
  omega
theorem emb6_col (t : Fin cfg0.N) (j : S2304x256.Idx) :
    (((cfg0.win 6).blk t).view.emb j (1 : Fin 2)).val = 256 * (t.val % 4) + (j 1).val := by
  obtain ⟨e0, e1⟩ := idx6 t
  show win0_6.index t (1 : Fin 2) * 256 + 1 * (j 1).val = _
  omega

theorem flushed6 (c : Dev nD) (t : Fin cfg0.N) :
    (dats m 0 c).flushed 6 t = ((cfg0.win 6).blk t).view.read (Elt Ideal) (GK m c) := by
  funext j
  show resK m c t j = gK (aA m c) (aL m c) (aG m c) (((cfg0.win 6).blk t).view.emb j (0 : Fin 2)).val
    (((cfg0.win 6).blk t).view.emb j (1 : Fin 2)).val
  rw [emb6_row, emb6_col, ← resK_at m c t (j 0) (j 1)]
  exact congrArg (resK m c t) (eq_ix2 j)

theorem covered6 (i : S9216x1024.Idx) :
    ∃ t : Fin cfg0.N, (cfg0.win 6).flush t = true ∧ i ∈ ((cfg0.win 6).blk t).view.set := by
  have h0 : (i 0).val < 9216 := (i 0).isLt
  have h1 : (i 1).val < 1024 := (i 1).isLt
  let t : Fin cfg0.N := ⟨4 * ((i 0).val / 2304) + (i 1).val / 256, by show _ < 16; omega⟩
  refine ⟨t, flush0_6 t, ?_⟩
  let j : S2304x256.Idx := ix2 ⟨(i 0).val % 2304, Nat.mod_lt _ (by decide)⟩ ⟨(i 1).val % 256, Nat.mod_lt _ (by decide)⟩
  have e : ((cfg0.win 6).blk t).view.emb j = i := by
    funext a
    apply Fin.ext
    match a with
    | ⟨0, _⟩ =>
      refine (emb6_row t j).trans ?_
      show 2304 * ((4 * ((i 0).val / 2304) + (i 1).val / 256) / 4) + (i 0).val % 2304 = (i 0).val
      omega
    | ⟨1, _⟩ =>
      refine (emb6_col t j).trans ?_
      show 256 * ((4 * ((i 0).val / 2304) + (i 1).val / 256) % 4) + (i 1).val % 256 = (i 1).val
      omega
  have h := ((cfg0.win 6).blk t).view.emb_mem_set j
  rwa [e] at h

/-- The array after the run. -/
theorem final6 (c : Dev nD) : (dats m 0 c).arrAt 6 cfg0.N = GK m c :=
  (dats m 0 c).arrAt_eq_of_cover 6 (GK m c) (fun t _ => flushed6 m c t) covered6

/-- Result 3 of three as an array. -/
def GV (c : Dev nD) : (⟨2, ![9216, 2048]⟩ : Shape).Idx → EReal :=
  fun i => gV (aA m c) (aL m c) (aG m c) (i 0).val (i 1).val

theorem resV_at (c : Dev nD) (t : Fin cfg0.N) (p : Fin 2304) (k : Fin 512) : resV m c t (ix2 p k)
    = gV (aA m c) (aL m c) (aG m c) (2304 * (t.val / 4) + p.val) (512 * (t.val % 4) + k.val) := by
  have hp := p.isLt
  have hk := k.isLt
  unfold resV gV
  refine (outV_val (pLg m c t 0) (bQ m c t) (bK m c t) (bV m c t) (bG m c t) (pLg m c t 1) p k).trans ?_
  rw [kq0_eq, kq1_eq, show (2304 * (t.val / 4) + p.val) / 2304 = t.val / 4 by omega,
    show (2304 * (t.val / 4) + p.val) % 2304 = p.val by omega,
    show (512 * (t.val % 4) + k.val) / 512 = t.val % 4 by omega,
    show (512 * (t.val % 4) + k.val) % 512 = k.val by omega]

theorem emb7_row (t : Fin cfg0.N) (j : S2304x512.Idx) :
    (((cfg0.win 7).blk t).view.emb j (0 : Fin 2)).val = 2304 * (t.val / 4) + (j 0).val := by
  obtain ⟨e0, e1⟩ := idx7 t
  show win0_7.index t (0 : Fin 2) * 2304 + 1 * (j 0).val = _
  omega
theorem emb7_col (t : Fin cfg0.N) (j : S2304x512.Idx) :
    (((cfg0.win 7).blk t).view.emb j (1 : Fin 2)).val = 512 * (t.val % 4) + (j 1).val := by
  obtain ⟨e0, e1⟩ := idx7 t
  show win0_7.index t (1 : Fin 2) * 512 + 1 * (j 1).val = _
  omega

theorem flushed7 (c : Dev nD) (t : Fin cfg0.N) :
    (dats m 0 c).flushed 7 t = ((cfg0.win 7).blk t).view.read (Elt Ideal) (GV m c) := by
  funext j
  show resV m c t j = gV (aA m c) (aL m c) (aG m c) (((cfg0.win 7).blk t).view.emb j (0 : Fin 2)).val
    (((cfg0.win 7).blk t).view.emb j (1 : Fin 2)).val
  rw [emb7_row, emb7_col, ← resV_at m c t (j 0) (j 1)]
  exact congrArg (resV m c t) (eq_ix2 j)

theorem covered7 (i : S9216x2048.Idx) :
    ∃ t : Fin cfg0.N, (cfg0.win 7).flush t = true ∧ i ∈ ((cfg0.win 7).blk t).view.set := by
  have h0 : (i 0).val < 9216 := (i 0).isLt
  have h1 : (i 1).val < 2048 := (i 1).isLt
  let t : Fin cfg0.N := ⟨4 * ((i 0).val / 2304) + (i 1).val / 512, by show _ < 16; omega⟩
  refine ⟨t, flush0_7 t, ?_⟩
  let j : S2304x512.Idx := ix2 ⟨(i 0).val % 2304, Nat.mod_lt _ (by decide)⟩ ⟨(i 1).val % 512, Nat.mod_lt _ (by decide)⟩
  have e : ((cfg0.win 7).blk t).view.emb j = i := by
    funext a
    apply Fin.ext
    match a with
    | ⟨0, _⟩ =>
      refine (emb7_row t j).trans ?_
      show 2304 * ((4 * ((i 0).val / 2304) + (i 1).val / 512) / 4) + (i 0).val % 2304 = (i 0).val
      omega
    | ⟨1, _⟩ =>
      refine (emb7_col t j).trans ?_
      show 512 * ((4 * ((i 0).val / 2304) + (i 1).val / 512) % 4) + (i 1).val % 512 = (i 1).val
      omega
  have h := ((cfg0.win 7).blk t).view.emb_mem_set j
  rwa [e] at h

/-- The array after the run. -/
theorem final7 (c : Dev nD) : (dats m 0 c).arrAt 7 cfg0.N = GV m c :=
  (dats m 0 c).arrAt_eq_of_cover 7 (GV m c) (fun t _ => flushed7 m c t) covered7

end Cert.KernelIdeal.Vals
-- ==== Proof.RVal0.lean ====
/-
  The reference's buffers before its first loop, read at an index: the rows of each chunk in each direction, the
  context's rows, the decays and the starting state.
-/
module

public import proofs.«01_k».proof.Proof.RefEqA
public import proofs.«01_k».proof.Proof.Spec

@[expose] public section

set_option maxRecDepth 4000

noncomputable section

namespace Cert.ReferenceIdeal.Vals

open Idealize.ShloMosaic Idealize.SL.Sem Cert.ReferenceIdeal Cert.ReferenceIdeal.Run Cert.Spec
open Facts₀ Facts Cert.LineReads
open Idealize.ShloMosaic.TcCoe Idealize.ShloMosaic.Pointwise
open Idealize.ShloMosaic.StableHlo (after)
open scoped BigOperators

variable (V : Valuation τ sig (Elt Ideal))

/-- The projection's array. -/
def rA : ℕ → ℕ → EReal := at2 (n := 9216) (m := 4096) (V main_arg0)
/-- The log decay rates. -/
def rL : ℕ → ℕ → EReal := at2 (n := 8) (m := 128) (V main_arg1)
/-- The cotangent's array. -/
def rG : ℕ → ℕ → EReal := at2 (n := 9216) (m := 2048) (V main_arg2)

/-- Direction `d`'s sequence of batch element `b` and head `h`. -/
def rs (d b h : ℕ) : Sq :=
  if d < 1 then seq0 (rA V) (rL V) (rG V) b h else seq1 (rA V) (rL V) (rG V) b h

theorem rs_lg (d : Fin 2) (b h : ℕ) : (rs V d b h).lg = rL V (4 * d.val + h) 0 := by
  have hd := d.isLt
  unfold rs
  by_cases h0 : d.val < 1
  · rw [if_pos h0, show d.val = 0 by omega, Nat.mul_zero, Nat.zero_add]
    rfl
  · rw [if_neg h0, show d.val = 1 by omega, Nat.mul_one]
    rfl

theorem blk_eq {n m : ℕ} (X : ℕ → ℕ → EReal) (r0 c0 : ℕ) {r c : ℕ} (hr : r < n) (hc : c < m) :
    blk n m X r0 c0 r c = X (r0 + r) (c0 + c) := by
  unfold blk
  rw [Nat.mod_eq_of_lt hr, Nat.mod_eq_of_lt hc]

/-- Row `p` of the latent rows, forwards in direction 0 and backwards in direction 1. -/
def row (d p : ℕ) : ℕ := if d < 1 then p else 2047 - p
/-- Row `p` of the context, forwards in direction 0 and backwards in direction 1. -/
def crow (d p : ℕ) : ℕ := if d < 1 then 2048 + p else 2048 + (255 - p)

theorem row_lt {d p : ℕ} (h : p < 2048) : row d p < 2304 := by
  unfold row
  split <;> omega
theorem crow_lt {d p : ℕ} (h : p < 256) : crow d p < 2304 := by
  unfold crow
  split <;> omega

theorem rs_q (d b h j r c : ℕ) (hp : 128 * j + r < 2048) (hc : c < 256) :
    (rs V d b h).q j r c = rA V (2304 * b + row d (128 * j + r)) (256 * h + c) := by
  refine Eq.trans ?_ (blk_eq (n := 2304) (m := 256) (rA V) (2304 * b) (256 * h) (row_lt hp) hc)
  unfold rs row
  by_cases h0 : d < 1
  · rw [if_pos h0, if_pos h0]; rfl
  · rw [if_neg h0, if_neg h0]; rfl

theorem rs_k (d b h j r c : ℕ) (hp : 128 * j + r < 2048) (hc : c < 256) :
    (rs V d b h).k j r c = rA V (2304 * b + row d (128 * j + r)) (1024 + 256 * h + c) := by
  refine Eq.trans ?_ (blk_eq (n := 2304) (m := 256) (rA V) (2304 * b) (1024 + 256 * h) (row_lt hp) hc)
  unfold rs row
  by_cases h0 : d < 1
  · rw [if_pos h0, if_pos h0]; rfl
  · rw [if_neg h0, if_neg h0]; rfl

theorem rs_v (d b h j r c : ℕ) (hp : 128 * j + r < 2048) (hc : c < 512) :
    (rs V d b h).v j r c = rA V (2304 * b + row d (128 * j + r)) (2048 + 512 * h + c) := by
  refine Eq.trans ?_ (blk_eq (n := 2304) (m := 512) (rA V) (2304 * b) (2048 + 512 * h) (row_lt hp) hc)
  unfold rs row
  by_cases h0 : d < 1
  · rw [if_pos h0, if_pos h0]; rfl
  · rw [if_neg h0, if_neg h0]; rfl

theorem rs_g (d b h j r c : ℕ) (hp : 128 * j + r < 2048) (hc : c < 512) :
    (rs V d b h).g j r c = rG V (2304 * b + row d (128 * j + r)) (512 * h + c) := by
  refine Eq.trans ?_ (blk_eq (n := 2304) (m := 512) (rG V) (2304 * b) (512 * h) (row_lt hp) hc)
  unfold rs row
  by_cases h0 : d < 1
  · rw [if_pos h0, if_pos h0]; rfl
  · rw [if_neg h0, if_neg h0]; rfl

theorem rs_kc (d b h r c : ℕ) (hp : r < 256) (hc : c < 256) :
    (rs V d b h).kc r c = rA V (2304 * b + crow d r) (1024 + 256 * h + c) := by
  refine Eq.trans ?_ (blk_eq (n := 2304) (m := 256) (rA V) (2304 * b) (1024 + 256 * h) (crow_lt hp) hc)
  unfold rs crow
  by_cases h0 : d < 1
  · rw [if_pos h0, if_pos h0]; rfl
  · rw [if_neg h0, if_neg h0]; rfl

theorem rs_vc (d b h r c : ℕ) (hp : r < 256) (hc : c < 512) :
    (rs V d b h).vc r c = rA V (2304 * b + crow d r) (2048 + 512 * h + c) := by
  refine Eq.trans ?_ (blk_eq (n := 2304) (m := 512) (rA V) (2304 * b) (2048 + 512 * h) (crow_lt hp) hc)
  unfold rs crow
  by_cases h0 : d < 1
  · rw [if_pos h0, if_pos h0]; rfl
  · rw [if_neg h0, if_neg h0]; rfl

theorem sum_same {n : ℕ} {f g : Fin n → EReal} (h : ∀ x, f x = g x) : ∑ x, f x = ∑ x, g x :=
  Finset.sum_congr rfl fun x _ => h x

theorem rev2048 (r : Fin 2048) : (r.rev : Fin 2048).val = 2047 - r.val := by
  have := r.isLt
  rw [Fin.val_rev]
  omega

theorem in_arg0 : after pre V main_arg0 = V main_arg0 := keep V pre_writes (by decide +kernel)
theorem in_arg1 : after pre V main_arg1 = V main_arg1 := keep V pre_writes (by decide +kernel)
theorem in_arg2 : after pre V main_arg2 = V main_arg2 := keep V pre_writes (by decide +kernel)

theorem v1_at (b : Fin 4) (p : Fin 2304) (c : Fin 4096) :
    (after pre V main_v1 : FVec Ideal S4x2304x4096 .f32) (ix3 b p c) = rA V (2304 * b.val + p.val) c.val := by
  rw [pre_v1, pre_v0, in_arg0]
  pointwise []
  exact at2_ix (n := 9216) (m := 4096) _ _ _ _ _ (by show b.val * 2304 + p.val = _; omega) rfl

theorem v13_at (b : Fin 4) (p : Fin 2304) (c : Fin 2048) :
    (after pre V main_v13 : FVec Ideal S4x2304x2048 .f32) (ix3 b p c) = rG V (2304 * b.val + p.val) c.val := by
  rw [pre_v13, pre_v12, in_arg2]
  pointwise []
  exact at2_ix (n := 9216) (m := 2048) _ _ _ _ _ (by show b.val * 2304 + p.val = _; omega) rfl

theorem v3_at (b : Fin 4) (p : Fin 2048) (h : Fin 4) (c : Fin 256) :
    (after pre V main_v3 : FVec Ideal S4x2048x4x256 .f32) (ix4 b p h c) =
      rA V (2304 * b.val + p.val) (256 * h.val + c.val) := by
  rw [pre_v3, pre_v2]
  pointwise []
  refine (v1_at V _ _ _).trans ?_
  congr 1
  show h.val * 256 + c.val = _
  omega

theorem v5_at (b : Fin 4) (p : Fin 2048) (h : Fin 4) (c : Fin 256) :
    (after pre V main_v5 : FVec Ideal S4x2048x4x256 .f32) (ix4 b p h c) =
      rA V (2304 * b.val + p.val) (1024 + 256 * h.val + c.val) := by
  rw [pre_v5, pre_v4]
  pointwise []
  refine (v1_at V _ _ _).trans ?_
  congr 1
  show 1024 + (h.val * 256 + c.val) = _
  omega

theorem v7_at (b : Fin 4) (p : Fin 2048) (h : Fin 4) (c : Fin 512) :
    (after pre V main_v7 : FVec Ideal S4x2048x4x512 .f32) (ix4 b p h c) =
      rA V (2304 * b.val + p.val) (2048 + 512 * h.val + c.val) := by
  rw [pre_v7, pre_v6]
  pointwise []
  refine (v1_at V _ _ _).trans ?_
  congr 1
  show 2048 + (h.val * 512 + c.val) = _
  omega

theorem v9_at (b : Fin 4) (p : Fin 256) (h : Fin 4) (c : Fin 256) :
    (after pre V main_v9 : FVec Ideal S4x256x4x256 .f32) (ix4 b p h c) =
      rA V (2304 * b.val + (2048 + p.val)) (1024 + 256 * h.val + c.val) := by
  rw [pre_v9, pre_v8]
  pointwise []
  refine (v1_at V _ _ _).trans ?_
  congr 1
  show 1024 + (h.val * 256 + c.val) = _
  omega

theorem v11_at (b : Fin 4) (p : Fin 256) (h : Fin 4) (c : Fin 512) :
    (after pre V main_v11 : FVec Ideal S4x256x4x512 .f32) (ix4 b p h c) =
      rA V (2304 * b.val + (2048 + p.val)) (2048 + 512 * h.val + c.val) := by
  rw [pre_v11, pre_v10]
  pointwise []
  refine (v1_at V _ _ _).trans ?_
  congr 1
  show 2048 + (h.val * 512 + c.val) = _
  omega

theorem v15_at (b : Fin 4) (p : Fin 2048) (h : Fin 4) (c : Fin 512) :
    (after pre V main_v15 : FVec Ideal S4x2048x4x512 .f32) (ix4 b p h c) =
      rG V (2304 * b.val + p.val) (512 * h.val + c.val) := by
  rw [pre_v15, pre_v14]
  pointwise []
  refine (v13_at V _ _ _).trans ?_
  congr 1
  show h.val * 512 + c.val = _
  omega

theorem v18_at (d : Fin 2) (h : Fin 4) (b : ℕ) :
    (after pre V main_v18 : FVec Ideal S2x4 .f32) (ix2 d h) = (rs V d b h).lg := by
  rw [rs_lg, pre_v18, pre_v17, pre_v16, in_arg1]
  pointwise []
  exact at2_ix (n := 8) (m := 128) _ _ _ _ _ (by show d.val * 4 + h.val = _; omega) rfl

theorem v22_at (d : Fin 2) (b : Fin 4) (r : Fin 256) (h : Fin 4) (c : Fin 256) :
    (after pre V main_v22 : FVec Ideal S2x4x256x4x256 .f32) (ix5 d b r h c) = (rs V d b h).kc r c := by
  rw [rs_kc V _ _ _ _ _ r.isLt c.isLt, pre_v22, pre_v21, pre_v20, pre_v19]
  pointwise []
  unfold crow
  by_cases h0 : d.val < 1
  · rw [if_pos h0]
    exact (dif_pos h0).trans <| v9_at V _ _ _ _
  · rw [if_neg h0, ← rev256]
    exact (dif_neg h0).trans <| v9_at V b r.rev h c

theorem v26_at (d : Fin 2) (b : Fin 4) (r : Fin 256) (h : Fin 4) (c : Fin 512) :
    (after pre V main_v26 : FVec Ideal S2x4x256x4x512 .f32) (ix5 d b r h c) = (rs V d b h).vc r c := by
  rw [rs_vc V _ _ _ _ _ r.isLt c.isLt, pre_v26, pre_v25, pre_v24, pre_v23]
  pointwise []
  unfold crow
  by_cases h0 : d.val < 1
  · rw [if_pos h0]
    exact (dif_pos h0).trans <| v11_at V _ _ _ _
  · rw [if_neg h0, ← rev256]
    exact (dif_neg h0).trans <| v11_at V b r.rev h c

theorem v44_at (d : Fin 2) (b : Fin 4) (p : Fin 2048) (h : Fin 4) (c : Fin 256) :
    (after pre V main_v44 : FVec Ideal S2x4x2048x4x256 .f32) (ix5 d b p h c) =
      rA V (2304 * b.val + row d p) (256 * h.val + c.val) := by
  rw [pre_v44, pre_v43, pre_v42, pre_v41]
  pointwise []
  unfold row
  by_cases h0 : d.val < 1
  · rw [if_pos h0]
    exact (dif_pos h0).trans <| v3_at V _ _ _ _
  · rw [if_neg h0, ← rev2048]
    exact (dif_neg h0).trans <| v3_at V b p.rev h c

theorem v48_at (d : Fin 2) (b : Fin 4) (p : Fin 2048) (h : Fin 4) (c : Fin 256) :
    (after pre V main_v48 : FVec Ideal S2x4x2048x4x256 .f32) (ix5 d b p h c) =
      rA V (2304 * b.val + row d p) (1024 + 256 * h.val + c.val) := by
  rw [pre_v48, pre_v47, pre_v46, pre_v45]
  pointwise []
  unfold row
  by_cases h0 : d.val < 1
  · rw [if_pos h0]
    exact (dif_pos h0).trans <| v5_at V _ _ _ _
  · rw [if_neg h0, ← rev2048]
    exact (dif_neg h0).trans <| v5_at V b p.rev h c

theorem v52_at (d : Fin 2) (b : Fin 4) (p : Fin 2048) (h : Fin 4) (c : Fin 512) :
    (after pre V main_v52 : FVec Ideal S2x4x2048x4x512 .f32) (ix5 d b p h c) =
      rA V (2304 * b.val + row d p) (2048 + 512 * h.val + c.val) := by
  rw [pre_v52, pre_v51, pre_v50, pre_v49]
  pointwise []
  unfold row
  by_cases h0 : d.val < 1
  · rw [if_pos h0]
    exact (dif_pos h0).trans <| v7_at V _ _ _ _
  · rw [if_neg h0, ← rev2048]
    exact (dif_neg h0).trans <| v7_at V b p.rev h c

theorem v101_at (j : Fin 16) (d : Fin 2) (b : Fin 4) (r : Fin 128) (h : Fin 4) (c : Fin 256) :
    (after pre V main_v101 : FVec Ideal S16x2x4x128x4x256 .f32) (ix6 j d b r h c) = (rs V d b h).q j r c := by
  rw [rs_q V _ _ _ _ _ _ (by omega) c.isLt, pre_v101, pre_v96, pre_v95, Nat.mul_comm 128 j.val]
  pointwise []
  exact v44_at V _ _ _ _ _

theorem v102_at (j : Fin 16) (d : Fin 2) (b : Fin 4) (r : Fin 128) (h : Fin 4) (c : Fin 256) :
    (after pre V main_v102 : FVec Ideal S16x2x4x128x4x256 .f32) (ix6 j d b r h c) = (rs V d b h).k j r c := by
  rw [rs_k V _ _ _ _ _ _ (by omega) c.isLt, pre_v102, pre_v98, pre_v97, Nat.mul_comm 128 j.val]
  pointwise []
  exact v48_at V _ _ _ _ _

theorem v103_at (j : Fin 16) (d : Fin 2) (b : Fin 4) (r : Fin 128) (h : Fin 4) (c : Fin 512) :
    (after pre V main_v103 : FVec Ideal S16x2x4x128x4x512 .f32) (ix6 j d b r h c) = (rs V d b h).v j r c := by
  rw [rs_v V _ _ _ _ _ _ (by omega) c.isLt, pre_v103, pre_v100, pre_v99, Nat.mul_comm 128 j.val]
  pointwise []
  exact v52_at V _ _ _ _ _

theorem v37_at (d : Fin 2) (r : Fin 256) (h : Fin 4) (b : ℕ) :
    (after pre V main_v37 : FVec Ideal S2x1x256x4x1 .f32) (ix5 d 0 r h 0) = dec (rs V d b h).lg (255 - r) := by
  rw [pre_v37, pre_v36, pre_v35, pre_v34, pre_v33, pre_v32, pre_v31, pre_v30, pre_v29, pre_cst, pre_v28, pre_v27,
    ← dec_def, ← sub255, ← v18_at V d h b]
  pointwise []
  rw [lit255, sit256]

theorem v39_at (d : Fin 2) (b : Fin 4) (r : Fin 256) (h : Fin 4) (c : Fin 256) :
    (after pre V main_v39 : FVec Ideal S2x4x256x4x256 .f32) (ix5 d b r h c) =
      (rs V d b h).kc r c * dec (rs V d b h).lg (255 - r) := by
  rw [pre_v39, pre_v38, ← v22_at, ← v37_at V d r h b]
  pointwise []

theorem v40_at (d : Fin 2) (b : Fin 4) (h : Fin 4) (a : Fin 256) (e : Fin 512) :
    (after pre V main_v40 : FVec Ideal S2x4x4x256x512 .f32) (ix5 d b h a e) = (rs V d b h).st 0 a e := by
  rw [pre_v40, Sq.st_zero]
  pointwise []
  exact sum_same fun x => congrArg₂ (· * ·) (v39_at V _ _ _ _ _) (v26_at V _ _ _ _ _)

theorem v80_at (d : Fin 2) (r : Fin 128) (h : Fin 4) (b : ℕ) :
    (after pre V main_v80 : FVec Ideal S2x1x128x4x1 .f32) (ix5 d 0 r h 0) = dec (rs V d b h).lg (r + 1) := by
  rw [pre_v80, pre_v79, pre_v78, pre_v77, pre_v76, pre_v75, pre_v74, pre_v73, pre_v72, pre_cst_3, pre_v71, pre_v53,
    ← dec_def, ← nn_add, nn_one, ← v18_at V d h b]
  pointwise []
  rw [sit128]

theorem v90_at (d : Fin 2) (r : Fin 128) (h : Fin 4) (b : ℕ) :
    (after pre V main_v90 : FVec Ideal S2x1x128x4x1 .f32) (ix5 d 0 r h 0) = dec (rs V d b h).lg (127 - r) := by
  rw [pre_v90, pre_v89, pre_v88, pre_v87, pre_v86, pre_v85, pre_v84, pre_v83, pre_v82, pre_cst_4, pre_v81, pre_v53,
    ← dec_def, ← sub127, ← v18_at V d h b]
  pointwise []
  rw [lit127, sit128]

theorem v94_at (d : Fin 2) (h : Fin 4) (b : ℕ) :
    (after pre V main_v94 : FVec Ideal S2x1x4x1x1 .f32) (ix5 d 0 h 0 0) = dec (rs V d b h).lg 128 := by
  rw [pre_v94, pre_v93, pre_v92, pre_v91, pre_cst_5, ← dec_def, ← v18_at V d h b]
  pointwise []
  rw [lit128]

theorem v104_at (d : Fin 2) (h : Fin 4) (r s : Fin 128) (b : ℕ) :
    (after pre V main_v104 : FVec Ideal S2x1x4x128x128 .f32) (ix5 d 0 h r s) = intra (rs V d b h).lg r s := by
  rw [pre_v104, pre_v70, pre_v69, pre_v68, pre_v67, pre_v66, pre_v65, pre_v64, pre_v63, pre_v62, pre_cst_1, pre_v61,
    pre_call5_v4, pre_call5_v3, pre_call5_v2, pre_call5_v1, pre_call5_v0, id_eq, pre_cst_2, pre_v60, pre_v59, pre_cst_0,
    pre_v58, pre_v57, pre_v56, pre_v55, pre_v54, pre_v53, ← mask_eq, ← v18_at V d h b]
  pointwise []
  rw [sit128, sit128]

end Cert.ReferenceIdeal.Vals
-- ==== Proof.Dyn.lean ====
/-
  One entry of a stack of sixteen read, or replaced, at a position the program computes.
-/
module

public import Idealize.ShloMosaic.PureOps.Ideal.Laws
public import Idealize.ShloMosaic.Lib.Pointwise
public import Idealize.ShloMosaic.Lib.IdealHost

@[expose] public section

namespace Cert.Dyn

open Idealize.ShloMosaic Idealize.ShloMosaic.Pointwise

variable {a b c d e : ℕ} {α : Type}

/-- A stack of `n` entries. -/
abbrev Sh (n a b c d e : ℕ) : Shape := ⟨6, ![n, a, b, c, d, e]⟩

variable (x : (Sh 16 a b c d e).Idx → α) (u : (Sh 1 a b c d e).Idx → α) (st : Fin 6 → Int)
  (h : (Sh 16 a b c d e).Slices (fun _ => 0) (Sh 1 a b c d e)) (k : Fin 16)

include h in
theorem clamp0 (h0 : st 0 = (k.val : Int)) : Host.clampedStart (Sh 16 a b c d e) (Sh 1 a b c d e) h.1 st 0 = k.val := by
  refine Host.clampedStart_of_le h.1 st 0 k.val h0 ?_
  show k.val + 1 ≤ 16
  have := k.isLt
  omega

include h in
theorem clampS (i : Fin 6) (hi : i ≠ 0) (hs : st i = 0) :
    Host.clampedStart (Sh 16 a b c d e) (Sh 1 a b c d e) h.1 st i = 0 := by
  refine Host.clampedStart_of_le h.1 st i 0 hs ?_
  rw [Nat.zero_add]
  fin_cases i
  · exact absurd rfl hi
  all_goals exact le_refl _

/-- The entry read at position `k`. -/
theorem slice6 (h0 : st 0 = (k.val : Int)) (hs : ∀ i : Fin 6, i ≠ 0 → st i = 0)
    (i₁ : Fin a) (i₂ : Fin b) (i₃ : Fin c) (i₄ : Fin d) (i₅ : Fin e) :
    Host.dynamicSlice (Sh 1 a b c d e) x st h (ix6 0 i₁ i₂ i₃ i₄ i₅) = x (ix6 k i₁ i₂ i₃ i₄ i₅) := by
  rw [Host.dynamicSlice_apply, Shape.Idx.norm_def]
  congr 1
  funext i
  apply Fin.ext
  show Host.clampedStart (Sh 16 a b c d e) (Sh 1 a b c d e) h.1 st i + _ = _
  fin_cases i
  · exact (congrArg (· + 0) (clamp0 st h k h0)).trans rfl
  · exact (congrArg (· + i₁.val) (clampS st h 1 (by decide) (hs 1 (by decide)))).trans (Nat.zero_add _)
  · exact (congrArg (· + i₂.val) (clampS st h 2 (by decide) (hs 2 (by decide)))).trans (Nat.zero_add _)
  · exact (congrArg (· + i₃.val) (clampS st h 3 (by decide) (hs 3 (by decide)))).trans (Nat.zero_add _)
  · exact (congrArg (· + i₄.val) (clampS st h 4 (by decide) (hs 4 (by decide)))).trans (Nat.zero_add _)
  · exact (congrArg (· + i₅.val) (clampS st h 5 (by decide) (hs 5 (by decide)))).trans (Nat.zero_add _)

/-- Position `k` replaced, read back there. -/
theorem update6_same (h0 : st 0 = (k.val : Int)) (hs : ∀ i : Fin 6, i ≠ 0 → st i = 0)
    (i₁ : Fin a) (i₂ : Fin b) (i₃ : Fin c) (i₄ : Fin d) (i₅ : Fin e) :
    Host.dynamicUpdateSlice x u st h (ix6 k i₁ i₂ i₃ i₄ i₅) = u (ix6 0 i₁ i₂ i₃ i₄ i₅) := by
  rw [Host.dynamicUpdateSlice_apply, dif_pos, Shape.Idx.norm_def]
  · congr 1
    funext i
    apply Fin.ext
    show _ - Host.clampedStart (Sh 16 a b c d e) (Sh 1 a b c d e) h.1 st i = _
    fin_cases i
    · exact (congrArg (k.val - ·) (clamp0 st h k h0)).trans (Nat.sub_self _)
    · exact (congrArg (i₁.val - ·) (clampS st h 1 (by decide) (hs 1 (by decide)))).trans (Nat.sub_zero _)
    · exact (congrArg (i₂.val - ·) (clampS st h 2 (by decide) (hs 2 (by decide)))).trans (Nat.sub_zero _)
    · exact (congrArg (i₃.val - ·) (clampS st h 3 (by decide) (hs 3 (by decide)))).trans (Nat.sub_zero _)
    · exact (congrArg (i₄.val - ·) (clampS st h 4 (by decide) (hs 4 (by decide)))).trans (Nat.sub_zero _)
    · exact (congrArg (i₅.val - ·) (clampS st h 5 (by decide) (hs 5 (by decide)))).trans (Nat.sub_zero _)
  · intro i
    by_cases hi : i = 0
    · subst hi
      rw [clamp0 st h k h0]
      show k.val ≤ k.val ∧ k.val < k.val + 1
      omega
    · rw [clampS st h i hi (hs i hi), Nat.zero_add]
      refine ⟨Nat.zero_le _, ?_⟩
      fin_cases i
      · exact absurd rfl hi
      · exact i₁.isLt
      · exact i₂.isLt
      · exact i₃.isLt
      · exact i₄.isLt
      · exact i₅.isLt

/-- Position `k` replaced, read elsewhere. -/
theorem update6_ne (h0 : st 0 = (k.val : Int)) (j : Fin 16) (hj : j ≠ k)
    (i₁ : Fin a) (i₂ : Fin b) (i₃ : Fin c) (i₄ : Fin d) (i₅ : Fin e) :
    Host.dynamicUpdateSlice x u st h (ix6 j i₁ i₂ i₃ i₄ i₅) = x (ix6 j i₁ i₂ i₃ i₄ i₅) := by
  rw [Host.dynamicUpdateSlice_apply, dif_neg]
  intro hin
  have h1 := hin 0
  rw [clamp0 st h k h0] at h1
  have h2 : k.val ≤ j.val ∧ j.val < k.val + 1 := h1
  exact hj (Fin.ext (by omega))

end Cert.Dyn
-- ==== Proof.RVal1.lean ====
/-
  The reference's forward loop read at an index: what is true of its buffers before each trip (`Inv0`), and that a trip
  keeps it.
-/
module

public import proofs.«01_k».proof.Proof.RefEqB
public import proofs.«01_k».proof.Proof.RVal0
public import proofs.«01_k».proof.Proof.Dyn

@[expose] public section

set_option maxRecDepth 4000

noncomputable section

namespace Cert.ReferenceIdeal.Vals

open Idealize.ShloMosaic Idealize.SL.Sem Cert.ReferenceIdeal Cert.ReferenceIdeal.Run Cert.Spec Cert.Dyn
open Facts₀ Facts Cert.LineReads
open Idealize.ShloMosaic.TcCoe Idealize.ShloMosaic.Pointwise
open Idealize.ShloMosaic.StableHlo (after)
open scoped BigOperators

theorem iv_int (k : Fin 16) : (Scf.iv 0#32 1#32 k.val).toInt = (k.val : Int) := by
  revert k
  decide +kernel

theorem mul2 {a a' b b' : EReal} (h : a = a') (h' : b = b') : a * b = a' * b' := by rw [h, h']
theorem add2 {a a' b b' : EReal} (h : a = a') (h' : b = b') : a + b = a' + b' := by rw [h, h']

/-- The forward loop's buffers before trip `n`. -/
structure Inv0 (s : ℕ → ℕ → ℕ → Sq) (V : Valuation τ sig (Elt Ideal)) (n : ℕ) : Prop where
  ctr : V main_v109_7 = fun _ => Scf.iv 0#32 1#32 n
  qs : ∀ j d b r h c, (V main_v109_0 : FVec Ideal S16x2x4x128x4x256 .f32) (ix6 j d b r h c) = (s d.val b.val h.val).q j.val r.val c.val
  ks : ∀ j d b r h c, (V main_v109_1 : FVec Ideal S16x2x4x128x4x256 .f32) (ix6 j d b r h c) = (s d.val b.val h.val).k j.val r.val c.val
  vs : ∀ j d b r h c, (V main_v109_2 : FVec Ideal S16x2x4x128x4x512 .f32) (ix6 j d b r h c) = (s d.val b.val h.val).v j.val r.val c.val
  cd : ∀ d h b, (V main_v109_3 : FVec Ideal S2x1x4x1x1 .f32) (ix5 d 0 h 0 0) = dec (s d.val b h.val).lg 128
  kd : ∀ d r h b, (V main_v109_4 : FVec Ideal S2x1x128x4x1 .f32) (ix5 d 0 r h 0) = dec (s d.val b h.val).lg (127 - r.val)
  msk : ∀ d h r x b, (V main_v109_5 : FVec Ideal S2x1x4x128x128 .f32) (ix5 d 0 h r x) = intra (s d.val b h.val).lg r.val x.val
  st : ∀ d b h a e, (V main_v109_8 : FVec Ideal S2x4x4x256x512 .f32) (ix5 d b h a e) = (s d.val b.val h.val).st n a.val e.val
  sc : ∀ j : Fin 16, j.val < n → ∀ d b h r x, (V main_v109_10 : FVec Ideal S16x2x4x4x128x128 .f32) (ix6 j d b h r x) =
    (∑ c : Fin 256, (s d.val b.val h.val).q j.val r.val c.val * (s d.val b.val h.val).k j.val x.val c.val) * intra (s d.val b.val h.val).lg r.val x.val
  sts : ∀ j : Fin 16, j.val < n → ∀ d b h a e, (V main_v109_11 : FVec Ideal S16x2x4x4x256x512 .f32) (ix6 j d b h a e) =
    (s d.val b.val h.val).st j.val a.val e.val
  kds : ∀ j : Fin 16, j.val < n → ∀ d b r h c, (V main_v109_12 : FVec Ideal S16x2x4x128x4x256 .f32) (ix6 j d b r h c) =
    (s d.val b.val h.val).k j.val r.val c.val * dec (s d.val b.val h.val).lg (127 - r.val)

section
variable {s : ℕ → ℕ → ℕ → Sq} {V : Valuation τ sig (Elt Ideal)} {k : Fin 16} (I : Inv0 s V k.val)
include I

theorem b0_q (d : Fin 2) (b : Fin 4) (r : Fin 128) (h : Fin 4) (c : Fin 256) :
    (after body0 V main_while0b_v191 : FVec Ideal S2x4x128x4x256 .f32) (ix5 d b r h c) = (s d b h).q k r c := by
  have e : (after body0 V main_while0b_call6_v0 : FVec Ideal S1x2x4x128x4x256 .f32) (ix6 0 d b r h c) = (s d b h).q k r c := by
    rw [body0_while0b_call6_v0, keep V body0_writes (r := main_v109_0) (by decide +kernel), I.ctr, body0_while0b_call6_c,
      body0_while0b_call6_c_0, body0_while0b_call6_c_1, body0_while0b_call6_c_2, body0_while0b_call6_c_3]
    refine (slice6 _ _ _ k (iv_int k) (fun i hi => ?_) d b r h c).trans (I.qs k d b r h c)
    fin_cases i
    · exact absurd rfl hi
    all_goals rfl
  rw [← e, body0_while0b_v191]
  pointwise []

theorem b0_k (d : Fin 2) (b : Fin 4) (r : Fin 128) (h : Fin 4) (c : Fin 256) :
    (after body0 V main_while0b_v192 : FVec Ideal S2x4x128x4x256 .f32) (ix5 d b r h c) = (s d b h).k k r c := by
  have e : (after body0 V main_while0b_call7_v0 : FVec Ideal S1x2x4x128x4x256 .f32) (ix6 0 d b r h c) = (s d b h).k k r c := by
    rw [body0_while0b_call7_v0, keep V body0_writes (r := main_v109_1) (by decide +kernel), I.ctr, body0_while0b_call7_c,
      body0_while0b_call7_c_0, body0_while0b_call7_c_1, body0_while0b_call7_c_2, body0_while0b_call7_c_3]
    refine (slice6 _ _ _ k (iv_int k) (fun i hi => ?_) d b r h c).trans (I.ks k d b r h c)
    fin_cases i
    · exact absurd rfl hi
    all_goals rfl
  rw [← e, body0_while0b_v192]
  pointwise []

theorem b0_v (d : Fin 2) (b : Fin 4) (r : Fin 128) (h : Fin 4) (c : Fin 512) :
    (after body0 V main_while0b_v193 : FVec Ideal S2x4x128x4x512 .f32) (ix5 d b r h c) = (s d b h).v k r c := by
  have e : (after body0 V main_while0b_call8_v0 : FVec Ideal S1x2x4x128x4x512 .f32) (ix6 0 d b r h c) = (s d b h).v k r c := by
    rw [body0_while0b_call8_v0, keep V body0_writes (r := main_v109_2) (by decide +kernel), I.ctr, body0_while0b_call8_c,
      body0_while0b_call8_c_0, body0_while0b_call8_c_1, body0_while0b_call8_c_2, body0_while0b_call8_c_3]
    refine (slice6 _ _ _ k (iv_int k) (fun i hi => ?_) d b r h c).trans (I.vs k d b r h c)
    fin_cases i
    · exact absurd rfl hi
    all_goals rfl
  rw [← e, body0_while0b_v193]
  pointwise []

theorem b0_sc (d : Fin 2) (b h : Fin 4) (r x : Fin 128) :
    (after body0 V main_while0b_v196 : FVec Ideal S2x4x4x128x128 .f32) (ix5 d b h r x) =
      (∑ c : Fin 256, (s d b h).q k r c * (s d b h).k k x c) * intra (s d b h).lg r x := by
  rw [body0_while0b_v196, body0_while0b_v195, body0_while0b_v194,
    keep V body0_writes (r := main_v109_5) (by decide +kernel), ← I.msk d h r x b]
  pointwise []
  exact mul2 (sum_same fun c => mul2 (b0_q I d b r h c) (b0_k I d b x h c)) rfl

theorem b0_kd (d : Fin 2) (b : Fin 4) (r : Fin 128) (h : Fin 4) (c : Fin 256) :
    (after body0 V main_while0b_v206 : FVec Ideal S2x4x128x4x256 .f32) (ix5 d b r h c) =
      (s d b h).k k r c * dec (s d b h).lg (127 - r) := by
  rw [body0_while0b_v206, body0_while0b_v205, keep V body0_writes (r := main_v109_4) (by decide +kernel),
    ← I.kd d r h b, ← b0_k I d b r h c]
  pointwise []

theorem b0_st (d : Fin 2) (b h : Fin 4) (a : Fin 256) (e : Fin 512) :
    (after body0 V main_while0b_v208 : FVec Ideal S2x4x4x256x512 .f32) (ix5 d b h a e) = (s d b h).st (k + 1) a e := by
  rw [body0_while0b_v208, body0_while0b_v207, body0_while0b_v204, body0_while0b_v203,
    keep V body0_writes (r := main_v109_3) (by decide +kernel), Sq.st_succ, ← I.cd d h b, ← I.st d b h a e]
  pointwise []
  exact add2 rfl (sum_same fun x => mul2 (b0_kd I d b x h a) (b0_v I d b x h e))

theorem b0_scs (j : Fin 16) (hj : j.val < k.val + 1) (d : Fin 2) (b h : Fin 4) (r x : Fin 128) :
    (after body0 V main_while0b_v211 : FVec Ideal S16x2x4x4x128x128 .f32) (ix6 j d b h r x) =
      (∑ c : Fin 256, (s d b h).q j r c * (s d b h).k j x c) * intra (s d b h).lg r x := by
  rw [body0_while0b_v211, I.ctr, body0_while0b_call10_c, body0_while0b_call10_c_0, body0_while0b_call10_c_1,
    body0_while0b_call10_c_2, body0_while0b_call10_c_3]
  by_cases hk : j = k
  · subst hk
    refine (update6_same _ _ _ _ j (iv_int j) (fun i hi => ?_) d b h r x).trans ?_
    · fin_cases i
      · exact absurd rfl hi
      all_goals rfl
    · rw [← b0_sc I d b h r x, body0_while0b_call10_v0]
      pointwise []
  · refine (update6_ne _ _ _ _ k (iv_int k) j hk d b h r x).trans (I.sc j ?_ d b h r x)
    have : j.val ≠ k.val := fun h => hk (Fin.ext h)
    omega

theorem b0_sts (j : Fin 16) (hj : j.val < k.val + 1) (d : Fin 2) (b h : Fin 4) (a : Fin 256) (e : Fin 512) :
    (after body0 V main_while0b_v212 : FVec Ideal S16x2x4x4x256x512 .f32) (ix6 j d b h a e) = (s d b h).st j a e := by
  rw [body0_while0b_v212, I.ctr, body0_while0b_call11_c, body0_while0b_call11_c_0, body0_while0b_call11_c_1,
    body0_while0b_call11_c_2, body0_while0b_call11_c_3]
  by_cases hk : j = k
  · subst hk
    refine (update6_same _ _ _ _ j (iv_int j) (fun i hi => ?_) d b h a e).trans ?_
    · fin_cases i
      · exact absurd rfl hi
      all_goals rfl
    · rw [← I.st d b h a e, body0_while0b_call11_v0]
      pointwise []
  · refine (update6_ne _ _ _ _ k (iv_int k) j hk d b h a e).trans (I.sts j ?_ d b h a e)
    have : j.val ≠ k.val := fun h => hk (Fin.ext h)
    omega

theorem b0_kds (j : Fin 16) (hj : j.val < k.val + 1) (d : Fin 2) (b : Fin 4) (r : Fin 128) (h : Fin 4) (c : Fin 256) :
    (after body0 V main_while0b_v213 : FVec Ideal S16x2x4x128x4x256 .f32) (ix6 j d b r h c) =
      (s d b h).k j r c * dec (s d b h).lg (127 - r) := by
  rw [body0_while0b_v213, I.ctr, body0_while0b_call12_c, body0_while0b_call12_c_0, body0_while0b_call12_c_1,
    body0_while0b_call12_c_2, body0_while0b_call12_c_3]
  by_cases hk : j = k
  · subst hk
    refine (update6_same _ _ _ _ j (iv_int j) (fun i hi => ?_) d b r h c).trans ?_
    · fin_cases i
      · exact absurd rfl hi
      all_goals rfl
    · rw [← b0_kd I d b r h c, body0_while0b_call12_v0]
      pointwise []
  · refine (update6_ne _ _ _ _ k (iv_int k) j hk d b r h c).trans (I.kds j ?_ d b r h c)
    have : j.val ≠ k.val := fun h => hk (Fin.ext h)
    omega

/-- A trip keeps the invariant. -/
theorem inv0_step (hc : after body0 V main_v109_7 = fun _ => Scf.iv 0#32 1#32 (k.val + 1)) :
    Inv0 s (after body0 V) (k.val + 1) where
  ctr := hc
  qs j d b r h c := by rw [keep V body0_writes (r := main_v109_0) (by decide +kernel)]; exact I.qs j d b r h c
  ks j d b r h c := by rw [keep V body0_writes (r := main_v109_1) (by decide +kernel)]; exact I.ks j d b r h c
  vs j d b r h c := by rw [keep V body0_writes (r := main_v109_2) (by decide +kernel)]; exact I.vs j d b r h c
  cd d h b := by rw [keep V body0_writes (r := main_v109_3) (by decide +kernel)]; exact I.cd d h b
  kd d r h b := by rw [keep V body0_writes (r := main_v109_4) (by decide +kernel)]; exact I.kd d r h b
  msk d h r x b := by rw [keep V body0_writes (r := main_v109_5) (by decide +kernel)]; exact I.msk d h r x b
  st d b h a e := by rw [body0_v109_8, id_eq]; exact b0_st I d b h a e
  sc j hj d b h r x := by rw [body0_v109_10, id_eq]; exact b0_scs I j hj d b h r x
  sts j hj d b h a e := by rw [body0_v109_11, id_eq]; exact b0_sts I j hj d b h a e
  kds j hj d b r h c := by rw [body0_v109_12, id_eq]; exact b0_kds I j hj d b r h c

end

/-- The invariant at the loop's entry. -/
theorem inv0_zero (V : Valuation τ sig (Elt Ideal)) (hc : after pre V main_v109_7 = fun _ => Scf.iv 0#32 1#32 0) :
    Inv0 (rs V) (after pre V) 0 where
  ctr := hc
  qs j d b r h c := by rw [pre_v109_0, id_eq]; exact v101_at V j d b r h c
  ks j d b r h c := by rw [pre_v109_1, id_eq]; exact v102_at V j d b r h c
  vs j d b r h c := by rw [pre_v109_2, id_eq]; exact v103_at V j d b r h c
  cd d h b := by rw [pre_v109_3, id_eq]; exact v94_at V d h b
  kd d r h b := by rw [pre_v109_4, id_eq]; exact v90_at V d r h b
  msk d h r x b := by rw [pre_v109_5, id_eq]; exact v104_at V d h r x b
  st d b h a e := by rw [pre_v109_8, id_eq]; exact v40_at V d b h a e
  sc j hj := absurd hj (Nat.not_lt_zero _)
  sts j hj := absurd hj (Nat.not_lt_zero _)
  kds j hj := absurd hj (Nat.not_lt_zero _)

end Cert.ReferenceIdeal.Vals
-- ==== Proof.RVal2.lean ====
/-
  The reference's backward loop read at an index: what is true of its buffers before each trip (`Inv1`), and that a trip
  keeps it.
-/
module

public import proofs.«01_k».proof.Proof.RefEqC
public import proofs.«01_k».proof.Proof.RVal1

@[expose] public section

set_option maxRecDepth 4000

noncomputable section

namespace Cert.ReferenceIdeal.Vals

open Idealize.ShloMosaic Idealize.SL.Sem Cert.ReferenceIdeal Cert.ReferenceIdeal.Run Cert.Spec Cert.Dyn
open Facts₀ Facts Cert.LineReads
open Idealize.ShloMosaic.TcCoe Idealize.ShloMosaic.Pointwise
open Idealize.ShloMosaic.StableHlo (after)
open scoped BigOperators

theorem back_int (t : Fin 16) : (16#32 - Scf.iv 0#32 1#32 t.val - 1#32).toInt = ((t.rev : Fin 16).val : Int) := by
  revert t
  decide +kernel

theorem rev16 (t : Fin 16) : (t.rev : Fin 16).val = 15 - t.val := by
  have := t.isLt
  rw [Fin.val_rev]
  omega
theorem back16 (t : Fin 16) : 15 - (t.rev : Fin 16).val = t.val := by
  have := t.isLt
  rw [rev16]
  omega

/-- The backward loop's buffers before trip `n`: the chunks from `16 - n` on are done. -/
structure Inv1 (s : ℕ → ℕ → ℕ → Sq) (V : Valuation τ sig (Elt Ideal)) (n : ℕ) : Prop where
  ctr : V main_v130_11 = fun _ => Scf.iv 0#32 1#32 n
  gs : ∀ j d b r h c, (V main_v130_0 : FVec Ideal S16x2x4x128x4x512 .f32) (ix6 j d b r h c) = (s d.val b.val h.val).g j.val r.val c.val
  ks : ∀ j d b r h c, (V main_v130_1 : FVec Ideal S16x2x4x128x4x256 .f32) (ix6 j d b r h c) = (s d.val b.val h.val).k j.val r.val c.val
  qs : ∀ j d b r h c, (V main_v130_2 : FVec Ideal S16x2x4x128x4x256 .f32) (ix6 j d b r h c) = (s d.val b.val h.val).q j.val r.val c.val
  sc : ∀ j d b h r x, (V main_v130_3 : FVec Ideal S16x2x4x4x128x128 .f32) (ix6 j d b h r x) =
    (∑ c : Fin 256, (s d.val b.val h.val).q j.val r.val c.val * (s d.val b.val h.val).k j.val x.val c.val) * intra (s d.val b.val h.val).lg r.val x.val
  vs : ∀ j d b r h c, (V main_v130_4 : FVec Ideal S16x2x4x128x4x512 .f32) (ix6 j d b r h c) = (s d.val b.val h.val).v j.val r.val c.val
  sts : ∀ j d b h a e, (V main_v130_5 : FVec Ideal S16x2x4x4x256x512 .f32) (ix6 j d b h a e) = (s d.val b.val h.val).st j.val a.val e.val
  kds : ∀ j d b r h c, (V main_v130_6 : FVec Ideal S16x2x4x128x4x256 .f32) (ix6 j d b r h c) =
    (s d.val b.val h.val).k j.val r.val c.val * dec (s d.val b.val h.val).lg (127 - r.val)
  msk : ∀ d h r x b, (V main_v130_7 : FVec Ideal S2x1x4x128x128 .f32) (ix5 d 0 h r x) = intra (s d.val b h.val).lg r.val x.val
  qd : ∀ d r h b, (V main_v130_8 : FVec Ideal S2x1x128x4x1 .f32) (ix5 d 0 r h 0) = dec (s d.val b h.val).lg (r.val + 1)
  cd : ∀ d h b, (V main_v130_9 : FVec Ideal S2x1x4x1x1 .f32) (ix5 d 0 h 0 0) = dec (s d.val b h.val).lg 128
  kd : ∀ d r h b, (V main_v130_10 : FVec Ideal S2x1x128x4x1 .f32) (ix5 d 0 r h 0) = dec (s d.val b h.val).lg (127 - r.val)
  ds : ∀ d b h a e, (V main_v130_12 : FVec Ideal S2x4x4x256x512 .f32) (ix5 d b h a e) = (s d.val b.val h.val).D n a.val e.val
  dq : ∀ j : Fin 16, 16 - n ≤ j.val → ∀ d b r h c, (V main_v130_13 : FVec Ideal S16x2x4x128x4x256 .f32) (ix6 j d b r h c) =
    (s d.val b.val h.val).dq j.val r.val c.val
  dk : ∀ j : Fin 16, 16 - n ≤ j.val → ∀ d b r h c, (V main_v130_14 : FVec Ideal S16x2x4x128x4x256 .f32) (ix6 j d b r h c) =
    (s d.val b.val h.val).dk j.val r.val c.val
  dv : ∀ j : Fin 16, 16 - n ≤ j.val → ∀ d b r h c, (V main_v130_15 : FVec Ideal S16x2x4x128x4x512 .f32) (ix6 j d b r h c) =
    (s d.val b.val h.val).dv j.val r.val c.val

section
variable {s : ℕ → ℕ → ℕ → Sq} {V : Valuation τ sig (Elt Ideal)} {t : Fin 16} (I : Inv1 s V t.val)
include I

theorem b1_idx : after body1 V main_while1b_v192 = fun _ => 16#32 - Scf.iv 0#32 1#32 t.val - 1#32 := by
  rw [body1_while1b_v192, body1_while1b_v191, body1_while1b_c_33, body1_while1b_c_34, I.ctr]
  rfl

theorem b1_g (d : Fin 2) (b : Fin 4) (r : Fin 128) (h : Fin 4) (c : Fin 512) :
    (after body1 V main_while1b_v193 : FVec Ideal S2x4x128x4x512 .f32) (ix5 d b r h c) = (s d b h).g (t.rev : Fin 16) r c := by
  have e : (after body1 V main_while1b_call15_v0 : FVec Ideal S1x2x4x128x4x512 .f32) (ix6 0 d b r h c) = (s d b h).g (t.rev : Fin 16) r c := by
    rw [body1_while1b_call15_v0, keep V body1_writes (r := main_v130_0) (by decide +kernel), b1_idx I, body1_while1b_call15_c,
      body1_while1b_call15_c_0, body1_while1b_call15_c_1, body1_while1b_call15_c_2, body1_while1b_call15_c_3]
    refine (slice6 _ _ _ t.rev (back_int t) (fun i hi => ?_) d b r h c).trans (I.gs t.rev d b r h c)
    fin_cases i
    · exact absurd rfl hi
    all_goals rfl
  rw [← e, body1_while1b_v193]
  pointwise []

theorem b1_k (d : Fin 2) (b : Fin 4) (r : Fin 128) (h : Fin 4) (c : Fin 256) :
    (after body1 V main_while1b_v194 : FVec Ideal S2x4x128x4x256 .f32) (ix5 d b r h c) = (s d b h).k (t.rev : Fin 16) r c := by
  have e : (after body1 V main_while1b_call16_v0 : FVec Ideal S1x2x4x128x4x256 .f32) (ix6 0 d b r h c) = (s d b h).k (t.rev : Fin 16) r c := by
    rw [body1_while1b_call16_v0, keep V body1_writes (r := main_v130_1) (by decide +kernel), b1_idx I, body1_while1b_call16_c,
      body1_while1b_call16_c_0, body1_while1b_call16_c_1, body1_while1b_call16_c_2, body1_while1b_call16_c_3]
    refine (slice6 _ _ _ t.rev (back_int t) (fun i hi => ?_) d b r h c).trans (I.ks t.rev d b r h c)
    fin_cases i
    · exact absurd rfl hi
    all_goals rfl
  rw [← e, body1_while1b_v194]
  pointwise []

theorem b1_q (d : Fin 2) (b : Fin 4) (r : Fin 128) (h : Fin 4) (c : Fin 256) :
    (after body1 V main_while1b_v195 : FVec Ideal S2x4x128x4x256 .f32) (ix5 d b r h c) = (s d b h).q (t.rev : Fin 16) r c := by
  have e : (after body1 V main_while1b_call17_v0 : FVec Ideal S1x2x4x128x4x256 .f32) (ix6 0 d b r h c) = (s d b h).q (t.rev : Fin 16) r c := by
    rw [body1_while1b_call17_v0, keep V body1_writes (r := main_v130_2) (by decide +kernel), b1_idx I, body1_while1b_call17_c,
      body1_while1b_call17_c_0, body1_while1b_call17_c_1, body1_while1b_call17_c_2, body1_while1b_call17_c_3]
    refine (slice6 _ _ _ t.rev (back_int t) (fun i hi => ?_) d b r h c).trans (I.qs t.rev d b r h c)
    fin_cases i
    · exact absurd rfl hi
    all_goals rfl
  rw [← e, body1_while1b_v195]
  pointwise []

theorem b1_sc (d : Fin 2) (b h : Fin 4) (r x : Fin 128) :
    (after body1 V main_while1b_v196 : FVec Ideal S2x4x4x128x128 .f32) (ix5 d b h r x) = (∑ c : Fin 256, (s d b h).q (t.rev : Fin 16) r c * (s d b h).k (t.rev : Fin 16) x c) * intra (s d b h).lg r x := by
  have e : (after body1 V main_while1b_call18_v0 : FVec Ideal S1x2x4x4x128x128 .f32) (ix6 0 d b h r x) = (∑ c : Fin 256, (s d b h).q (t.rev : Fin 16) r c * (s d b h).k (t.rev : Fin 16) x c) * intra (s d b h).lg r x := by
    rw [body1_while1b_call18_v0, keep V body1_writes (r := main_v130_3) (by decide +kernel), b1_idx I, body1_while1b_call18_c,
      body1_while1b_call18_c_0, body1_while1b_call18_c_1, body1_while1b_call18_c_2, body1_while1b_call18_c_3]
    refine (slice6 _ _ _ t.rev (back_int t) (fun i hi => ?_) d b h r x).trans (I.sc t.rev d b h r x)
    fin_cases i
    · exact absurd rfl hi
    all_goals rfl
  rw [← e, body1_while1b_v196]
  pointwise []

theorem b1_v (d : Fin 2) (b : Fin 4) (r : Fin 128) (h : Fin 4) (c : Fin 512) :
    (after body1 V main_while1b_v197 : FVec Ideal S2x4x128x4x512 .f32) (ix5 d b r h c) = (s d b h).v (t.rev : Fin 16) r c := by
  have e : (after body1 V main_while1b_call19_v0 : FVec Ideal S1x2x4x128x4x512 .f32) (ix6 0 d b r h c) = (s d b h).v (t.rev : Fin 16) r c := by
    rw [body1_while1b_call19_v0, keep V body1_writes (r := main_v130_4) (by decide +kernel), b1_idx I, body1_while1b_call19_c,
      body1_while1b_call19_c_0, body1_while1b_call19_c_1, body1_while1b_call19_c_2, body1_while1b_call19_c_3]
    refine (slice6 _ _ _ t.rev (back_int t) (fun i hi => ?_) d b r h c).trans (I.vs t.rev d b r h c)
    fin_cases i
    · exact absurd rfl hi
    all_goals rfl
  rw [← e, body1_while1b_v197]
  pointwise []

theorem b1_s (d : Fin 2) (b h : Fin 4) (a : Fin 256) (e : Fin 512) :
    (after body1 V main_while1b_v198 : FVec Ideal S2x4x4x256x512 .f32) (ix5 d b h a e) = (s d b h).st (t.rev : Fin 16) a e := by
  have e' : (after body1 V main_while1b_call20_v0 : FVec Ideal S1x2x4x4x256x512 .f32) (ix6 0 d b h a e) = (s d b h).st (t.rev : Fin 16) a e := by
    rw [body1_while1b_call20_v0, keep V body1_writes (r := main_v130_5) (by decide +kernel), b1_idx I, body1_while1b_call20_c,
      body1_while1b_call20_c_0, body1_while1b_call20_c_1, body1_while1b_call20_c_2, body1_while1b_call20_c_3]
    refine (slice6 _ _ _ t.rev (back_int t) (fun i hi => ?_) d b h a e).trans (I.sts t.rev d b h a e)
    fin_cases i
    · exact absurd rfl hi
    all_goals rfl
  rw [← e', body1_while1b_v198]
  pointwise []

theorem b1_kd (d : Fin 2) (b : Fin 4) (r : Fin 128) (h : Fin 4) (c : Fin 256) :
    (after body1 V main_while1b_v199 : FVec Ideal S2x4x128x4x256 .f32) (ix5 d b r h c) = (s d b h).k (t.rev : Fin 16) r c * dec (s d b h).lg (127 - r) := by
  have e : (after body1 V main_while1b_call21_v0 : FVec Ideal S1x2x4x128x4x256 .f32) (ix6 0 d b r h c) = (s d b h).k (t.rev : Fin 16) r c * dec (s d b h).lg (127 - r) := by
    rw [body1_while1b_call21_v0, keep V body1_writes (r := main_v130_6) (by decide +kernel), b1_idx I, body1_while1b_call21_c,
      body1_while1b_call21_c_0, body1_while1b_call21_c_1, body1_while1b_call21_c_2, body1_while1b_call21_c_3]
    refine (slice6 _ _ _ t.rev (back_int t) (fun i hi => ?_) d b r h c).trans (I.kds t.rev d b r h c)
    fin_cases i
    · exact absurd rfl hi
    all_goals rfl
  rw [← e, body1_while1b_v199]
  pointwise []

theorem b1_qd (d : Fin 2) (b h : Fin 4) (e : Fin 512) (r : Fin 128) :
    (after body1 V main_while1b_v210 : FVec Ideal S2x4x4x512x128 .f32) (ix5 d b h e r) =
      (s d b h).g (t.rev : Fin 16) r e * dec (s d b h).lg (r + 1) := by
  rw [body1_while1b_v210, body1_while1b_v209, body1_while1b_v208, keep V body1_writes (r := main_v130_8) (by decide +kernel),
    ← I.qd d r h b, ← b1_g I d b r h e]
  pointwise []

theorem b1_dS (d : Fin 2) (b h : Fin 4) (a : Fin 256) (e : Fin 512) :
    (after body1 V main_while1b_v215 : FVec Ideal S2x4x4x256x512 .f32) (ix5 d b h a e) = (s d b h).D (t + 1) a e := by
  rw [body1_while1b_v215, body1_while1b_v214, body1_while1b_v213, body1_while1b_v207, body1_while1b_v206,
    keep V body1_writes (r := main_v130_9) (by decide +kernel), Sq.D_succ, ← I.cd d h b, ← I.ds d b h a e, ← rev16]
  pointwise []
  exact add2 rfl (sum_same fun r => (mul2 (b1_qd I d b h e r) (b1_q I d b r h a)).trans (mul_comm _ _))

theorem b1_g' (d : Fin 2) (b h : Fin 4) (e : Fin 512) (r : Fin 128) :
    (after body1 V main_while1b_v216 : FVec Ideal S2x4x4x512x128 .f32) (ix5 d b h e r) = (s d b h).g (t.rev : Fin 16) r e := by
  rw [body1_while1b_v216, ← b1_g I d b r h e]
  pointwise []

theorem b1_dsc (d : Fin 2) (b h : Fin 4) (r x : Fin 128) :
    (after body1 V main_while1b_v222 : FVec Ideal S2x4x4x128x128 .f32) (ix5 d b h r x) =
      (∑ e : Fin 512, (s d b h).g (t.rev : Fin 16) r e * (s d b h).v (t.rev : Fin 16) x e) * intra (s d b h).lg r x := by
  rw [body1_while1b_v222, body1_while1b_v221, body1_while1b_v217, keep V body1_writes (r := main_v130_7) (by decide +kernel),
    ← I.msk d h r x b]
  pointwise []
  exact mul2 (sum_same fun e => mul2 (b1_g' I d b h e r) (b1_v I d b x h e)) rfl

theorem b1_dq (d : Fin 2) (b : Fin 4) (r : Fin 128) (h : Fin 4) (c : Fin 256) :
    (after body1 V main_while1b_v228 : FVec Ideal S2x4x128x4x256 .f32) (ix5 d b r h c) = (s d b h).dq (t.rev : Fin 16) r c := by
  rw [body1_while1b_v228, body1_while1b_v227, body1_while1b_v226, body1_while1b_v212, body1_while1b_v211]
  unfold Sq.dq
  pointwise []
  exact add2 (sum_same fun e => mul2 (b1_qd I d b h e r) (b1_s I d b h c e))
    (sum_same fun x => mul2 (b1_dsc I d b h r x) (b1_k I d b x h c))

theorem b1_dk (d : Fin 2) (b : Fin 4) (x : Fin 128) (h : Fin 4) (c : Fin 256) :
    (after body1 V main_while1b_v225 : FVec Ideal S2x4x128x4x256 .f32) (ix5 d b x h c) = (s d b h).dk (t.rev : Fin 16) x c := by
  rw [body1_while1b_v225, body1_while1b_v224, body1_while1b_v223, body1_while1b_v205, body1_while1b_v204,
    body1_while1b_v203, body1_while1b_v202, keep V body1_writes (r := main_v130_10) (by decide +kernel)]
  unfold Sq.dk
  rw [back16, ← I.kd d x h b]
  pointwise []
  exact add2 (mul2 (sum_same fun e => (mul2 (I.ds d b h c e) (b1_v I d b x h e)).trans (mul_comm _ _)) rfl)
    (sum_same fun r => mul2 (b1_dsc I d b h r x) (b1_q I d b r h c))

theorem b1_dv (d : Fin 2) (b : Fin 4) (x : Fin 128) (h : Fin 4) (e : Fin 512) :
    (after body1 V main_while1b_v220 : FVec Ideal S2x4x128x4x512 .f32) (ix5 d b x h e) = (s d b h).dv (t.rev : Fin 16) x e := by
  rw [body1_while1b_v220, body1_while1b_v219, body1_while1b_v218, body1_while1b_v201, body1_while1b_v200]
  unfold Sq.dv
  rw [back16]
  pointwise []
  exact add2 (sum_same fun c => (mul2 (I.ds d b h c e) (b1_kd I d b x h c)).trans (mul_comm _ _))
    (sum_same fun r => (mul2 (b1_g' I d b h e r) (b1_sc I d b h r x)).trans (mul_comm _ _))

theorem b1_dqs (j : Fin 16) (hj : 16 - (t.val + 1) ≤ j.val) (d : Fin 2) (b : Fin 4) (r : Fin 128) (h : Fin 4) (c : Fin 256) :
    (after body1 V main_while1b_v229 : FVec Ideal S16x2x4x128x4x256 .f32) (ix6 j d b r h c) = (s d b h).dq j r c := by
  rw [body1_while1b_v229, b1_idx I, body1_while1b_call22_c, body1_while1b_call22_c_0, body1_while1b_call22_c_1,
    body1_while1b_call22_c_2, body1_while1b_call22_c_3]
  by_cases hk : j = t.rev
  · subst hk
    refine (update6_same _ _ _ _ t.rev (back_int t) (fun i hi => ?_) d b r h c).trans ?_
    · fin_cases i
      · exact absurd rfl hi
      all_goals rfl
    · rw [← b1_dq I d b r h c, body1_while1b_call22_v0]
      pointwise []
  · refine (update6_ne _ _ _ _ t.rev (back_int t) j hk d b r h c).trans (I.dq j ?_ d b r h c)
    have h1 : j.val ≠ (t.rev : Fin 16).val := fun h => hk (Fin.ext h)
    rw [rev16] at h1
    omega

theorem b1_dks (j : Fin 16) (hj : 16 - (t.val + 1) ≤ j.val) (d : Fin 2) (b : Fin 4) (r : Fin 128) (h : Fin 4) (c : Fin 256) :
    (after body1 V main_while1b_v230 : FVec Ideal S16x2x4x128x4x256 .f32) (ix6 j d b r h c) = (s d b h).dk j r c := by
  rw [body1_while1b_v230, b1_idx I, body1_while1b_call23_c, body1_while1b_call23_c_0, body1_while1b_call23_c_1,
    body1_while1b_call23_c_2, body1_while1b_call23_c_3]
  by_cases hk : j = t.rev
  · subst hk
    refine (update6_same _ _ _ _ t.rev (back_int t) (fun i hi => ?_) d b r h c).trans ?_
    · fin_cases i
      · exact absurd rfl hi
      all_goals rfl
    · rw [← b1_dk I d b r h c, body1_while1b_call23_v0]
      pointwise []
  · refine (update6_ne _ _ _ _ t.rev (back_int t) j hk d b r h c).trans (I.dk j ?_ d b r h c)
    have h1 : j.val ≠ (t.rev : Fin 16).val := fun h => hk (Fin.ext h)
    rw [rev16] at h1
    omega

theorem b1_dvs (j : Fin 16) (hj : 16 - (t.val + 1) ≤ j.val) (d : Fin 2) (b : Fin 4) (r : Fin 128) (h : Fin 4) (c : Fin 512) :
    (after body1 V main_while1b_v231 : FVec Ideal S16x2x4x128x4x512 .f32) (ix6 j d b r h c) = (s d b h).dv j r c := by
  rw [body1_while1b_v231, b1_idx I, body1_while1b_call24_c, body1_while1b_call24_c_0, body1_while1b_call24_c_1,
    body1_while1b_call24_c_2, body1_while1b_call24_c_3]
  by_cases hk : j = t.rev
  · subst hk
    refine (update6_same _ _ _ _ t.rev (back_int t) (fun i hi => ?_) d b r h c).trans ?_
    · fin_cases i
      · exact absurd rfl hi
      all_goals rfl
    · rw [← b1_dv I d b r h c, body1_while1b_call24_v0]
      pointwise []
  · refine (update6_ne _ _ _ _ t.rev (back_int t) j hk d b r h c).trans (I.dv j ?_ d b r h c)
    have h1 : j.val ≠ (t.rev : Fin 16).val := fun h => hk (Fin.ext h)
    rw [rev16] at h1
    omega

/-- A trip keeps the invariant. -/
theorem inv1_step (hc : after body1 V main_v130_11 = fun _ => Scf.iv 0#32 1#32 (t.val + 1)) :
    Inv1 s (after body1 V) (t.val + 1) where
  ctr := hc
  gs j d b r h c := by rw [keep V body1_writes (r := main_v130_0) (by decide +kernel)]; exact I.gs j d b r h c
  ks j d b r h c := by rw [keep V body1_writes (r := main_v130_1) (by decide +kernel)]; exact I.ks j d b r h c
  qs j d b r h c := by rw [keep V body1_writes (r := main_v130_2) (by decide +kernel)]; exact I.qs j d b r h c
  sc j d b h r x := by rw [keep V body1_writes (r := main_v130_3) (by decide +kernel)]; exact I.sc j d b h r x
  vs j d b r h c := by rw [keep V body1_writes (r := main_v130_4) (by decide +kernel)]; exact I.vs j d b r h c
  sts j d b h a e := by rw [keep V body1_writes (r := main_v130_5) (by decide +kernel)]; exact I.sts j d b h a e
  kds j d b r h c := by rw [keep V body1_writes (r := main_v130_6) (by decide +kernel)]; exact I.kds j d b r h c
  msk d h r x b := by rw [keep V body1_writes (r := main_v130_7) (by decide +kernel)]; exact I.msk d h r x b
  qd d r h b := by rw [keep V body1_writes (r := main_v130_8) (by decide +kernel)]; exact I.qd d r h b
  cd d h b := by rw [keep V body1_writes (r := main_v130_9) (by decide +kernel)]; exact I.cd d h b
  kd d r h b := by rw [keep V body1_writes (r := main_v130_10) (by decide +kernel)]; exact I.kd d r h b
  ds d b h a e := by rw [body1_v130_12, id_eq]; exact b1_dS I d b h a e
  dq j hj d b r h c := by rw [body1_v130_13, id_eq]; exact b1_dqs I j hj d b r h c
  dk j hj d b r h c := by rw [body1_v130_14, id_eq]; exact b1_dks I j hj d b r h c
  dv j hj d b r h c := by rw [body1_v130_15, id_eq]; exact b1_dvs I j hj d b r h c

end

end Cert.ReferenceIdeal.Vals
-- ==== Proof.RVal3.lean ====
/-
  The reference's two loops from entry to end, read at an index: the forward loop's invariant after its sixteen trips,
  the cotangent's rows of each chunk, and the backward loop's invariant after its sixteen trips.
-/
module

public import proofs.«01_k».proof.Proof.RefRun
public import proofs.«01_k».proof.Proof.RVal2

@[expose] public section

set_option maxRecDepth 4000

noncomputable section

namespace Cert.ReferenceIdeal.Vals

open Idealize.ShloMosaic Idealize.SL.Sem Cert.ReferenceIdeal Cert.ReferenceIdeal.Run Cert.Spec Cert.Dyn
open Facts₀ Facts Cert.LineReads
open Idealize.ShloMosaic.TcCoe Idealize.ShloMosaic.Pointwise
open Idealize.ShloMosaic.StableHlo (after launchContents)
open scoped BigOperators

variable (m : (ℓ : Loc nD τ sig) → Buf (Elt Ideal) ℓ) (c : Dev nD)

/-- The loop's test keeps the invariant. -/
theorem inv0_test {s : ℕ → ℕ → ℕ → Sq} {V : Valuation τ sig (Elt Ideal)} {n : ℕ} (I : Inv0 s V n) :
    Inv0 s (after test0 V) n where
  ctr := by rw [keep V test0_writes (r := main_v109_7) (by decide +kernel)]; exact I.ctr
  qs j d b r h c := by rw [keep V test0_writes (r := main_v109_0) (by decide +kernel)]; exact I.qs j d b r h c
  ks j d b r h c := by rw [keep V test0_writes (r := main_v109_1) (by decide +kernel)]; exact I.ks j d b r h c
  vs j d b r h c := by rw [keep V test0_writes (r := main_v109_2) (by decide +kernel)]; exact I.vs j d b r h c
  cd d h b := by rw [keep V test0_writes (r := main_v109_3) (by decide +kernel)]; exact I.cd d h b
  kd d r h b := by rw [keep V test0_writes (r := main_v109_4) (by decide +kernel)]; exact I.kd d r h b
  msk d h r x b := by rw [keep V test0_writes (r := main_v109_5) (by decide +kernel)]; exact I.msk d h r x b
  st d b h a e := by rw [keep V test0_writes (r := main_v109_8) (by decide +kernel)]; exact I.st d b h a e
  sc j hj d b h r x := by rw [keep V test0_writes (r := main_v109_10) (by decide +kernel)]; exact I.sc j hj d b h r x
  sts j hj d b h a e := by rw [keep V test0_writes (r := main_v109_11) (by decide +kernel)]; exact I.sts j hj d b h a e
  kds j hj d b r h c := by rw [keep V test0_writes (r := main_v109_12) (by decide +kernel)]; exact I.kds j hj d b r h c
theorem inv0_at (k : ℕ) (hk : k ≤ 16) : Inv0 (rs (launchContents m c)) (at0 m k c) k := by
  induction k with
  | zero => exact inv0_zero _ (ctr0 m 0 c)
  | succ k ih =>
    have I := inv0_test (ih (Nat.le_of_succ_le hk))
    exact inv0_step (k := ⟨k, hk⟩) I (ctr0 m (k + 1) c)

/-- A buffer the forward loop does not write. -/
theorem at0_keep (k : ℕ) {r : Ref sig .tc} (h₁ : r ∉ test0W) (h₂ : r ∉ body0W) : at0 m k c r = ent0 m c r := by
  induction k with
  | zero => rfl
  | succ k ih => rw [at0_succ, keep _ body0_writes h₂, keep _ test0_writes h₁, ih]

/-- Contents between the loops. -/
def btw : Valuation τ sig (Elt Ideal) := after test0 (at0 m 16 c)

theorem btw_keep {r : Ref sig .tc} (h₁ : r ∉ test0W) (h₂ : r ∉ body0W) :
    btw m c r = after pre (launchContents m c) r := by
  unfold btw
  rw [keep _ test0_writes h₁, at0_keep m c 16 h₁ h₂]
  rfl

theorem btw_v15 : btw m c main_v15 = after pre (launchContents m c) main_v15 :=
  btw_keep m c (by decide +kernel) (by decide +kernel)

theorem mid_keep {r : Ref sig .tc} (h₁ : r ∉ test0W) (h₂ : r ∉ body0W) (h₃ : r ∉ midW) :
    after mid (btw m c) r = after pre (launchContents m c) r := by
  rw [keep _ mid_writes h₃, btw_keep m c h₁ h₂]

theorem v123_at (d : Fin 2) (b : Fin 4) (p : Fin 2048) (h : Fin 4) (e : Fin 512) :
    (after mid (btw m c) main_v123 : FVec Ideal S2x4x2048x4x512 .f32) (ix5 d b p h e) =
      rG (launchContents m c) (2304 * b.val + row d p) (512 * h.val + e.val) := by
  rw [mid_v123, mid_v122, mid_v121, mid_v120, mid_v119, mid_v118, mid_cst_10, mid_cst_11]
  pointwise []
  unfold row
  by_cases h0 : d.val < 1
  · rw [if_pos h0]
    refine (add2 (dif_neg (by omega)) ((dif_pos h0).trans ?_)).trans (zero_add _)
    rw [keep _ mid_writes (r := main_v15) (by decide +kernel), btw_v15]
    exact v15_at _ b p h e
  · rw [if_neg h0, ← rev2048]
    refine (add2 ((dif_pos (by have := d.isLt; omega)).trans ?_) (dif_neg h0)).trans (add_zero _)
    rw [keep _ mid_writes (r := main_v15) (by decide +kernel), btw_v15]
    exact v15_at _ b p.rev h e

theorem v125_at (j : Fin 16) (d : Fin 2) (b : Fin 4) (r : Fin 128) (h : Fin 4) (e : Fin 512) :
    (after mid (btw m c) main_v125 : FVec Ideal S16x2x4x128x4x512 .f32) (ix6 j d b r h e) =
      (rs (launchContents m c) d b h).g j r e := by
  rw [rs_g _ _ _ _ _ _ _ (by omega) e.isLt, mid_v125, mid_v124, Nat.mul_comm 128 j.val]
  pointwise []
  exact v123_at m c _ _ _ _ _

theorem inv0_end : Inv0 (rs (launchContents m c)) (btw m c) 16 := inv0_test (inv0_at m c 16 (le_refl _))

theorem v126_at (d : Fin 2) (b h : Fin 4) (a : Fin 256) (e : Fin 512) :
    (after mid (btw m c) main_v126 : FVec Ideal S2x4x4x256x512 .f32) (ix5 d b h a e) = (0 : EReal) := by
  rw [mid_v126, mid_cst_12]
  pointwise []

theorem inv1_zero : Inv1 (rs (launchContents m c)) (after mid (btw m c)) 0 where
  ctr := ctr1 m 0 c
  gs j d b r h e := by rw [mid_v130_0, id_eq]; exact v125_at m c j d b r h e
  ks j d b r h e := by
    rw [mid_v130_1, id_eq, mid_keep m c (by decide +kernel) (by decide +kernel) (by decide +kernel)]; exact v102_at _ j d b r h e
  qs j d b r h e := by
    rw [mid_v130_2, id_eq, mid_keep m c (by decide +kernel) (by decide +kernel) (by decide +kernel)]; exact v101_at _ j d b r h e
  sc j d b h r x := by
    rw [mid_v130_3, id_eq, keep _ mid_writes (r := main_v109_10) (by decide +kernel)]; exact (inv0_end m c).sc j j.isLt d b h r x
  vs j d b r h e := by
    rw [mid_v130_4, id_eq, mid_keep m c (by decide +kernel) (by decide +kernel) (by decide +kernel)]; exact v103_at _ j d b r h e
  sts j d b h a e := by
    rw [mid_v130_5, id_eq, keep _ mid_writes (r := main_v109_11) (by decide +kernel)]; exact (inv0_end m c).sts j j.isLt d b h a e
  kds j d b r h e := by
    rw [mid_v130_6, id_eq, keep _ mid_writes (r := main_v109_12) (by decide +kernel)]; exact (inv0_end m c).kds j j.isLt d b r h e
  msk d h r x b := by
    rw [mid_v130_7, id_eq, mid_keep m c (by decide +kernel) (by decide +kernel) (by decide +kernel)]; exact v104_at _ d h r x b
  qd d r h b := by
    rw [mid_v130_8, id_eq, mid_keep m c (by decide +kernel) (by decide +kernel) (by decide +kernel)]; exact v80_at _ d r h b
  cd d h b := by
    rw [mid_v130_9, id_eq, mid_keep m c (by decide +kernel) (by decide +kernel) (by decide +kernel)]; exact v94_at _ d h b
  kd d r h b := by
    rw [mid_v130_10, id_eq, mid_keep m c (by decide +kernel) (by decide +kernel) (by decide +kernel)]; exact v90_at _ d r h b
  ds d b h a e := by rw [mid_v130_12, id_eq]; exact v126_at m c d b h a e
  dq j hj := absurd j.isLt (by omega)
  dk j hj := absurd j.isLt (by omega)
  dv j hj := absurd j.isLt (by omega)

/-- The loop's test keeps the invariant. -/
theorem inv1_test {s : ℕ → ℕ → ℕ → Sq} {V : Valuation τ sig (Elt Ideal)} {n : ℕ} (I : Inv1 s V n) :
    Inv1 s (after test1 V) n where
  ctr := by rw [keep V test1_writes (r := main_v130_11) (by decide +kernel)]; exact I.ctr
  gs j d b r h c := by rw [keep V test1_writes (r := main_v130_0) (by decide +kernel)]; exact I.gs j d b r h c
  ks j d b r h c := by rw [keep V test1_writes (r := main_v130_1) (by decide +kernel)]; exact I.ks j d b r h c
  qs j d b r h c := by rw [keep V test1_writes (r := main_v130_2) (by decide +kernel)]; exact I.qs j d b r h c
  sc j d b h r x := by rw [keep V test1_writes (r := main_v130_3) (by decide +kernel)]; exact I.sc j d b h r x
  vs j d b r h c := by rw [keep V test1_writes (r := main_v130_4) (by decide +kernel)]; exact I.vs j d b r h c
  sts j d b h a e := by rw [keep V test1_writes (r := main_v130_5) (by decide +kernel)]; exact I.sts j d b h a e
  kds j d b r h c := by rw [keep V test1_writes (r := main_v130_6) (by decide +kernel)]; exact I.kds j d b r h c
  msk d h r x b := by rw [keep V test1_writes (r := main_v130_7) (by decide +kernel)]; exact I.msk d h r x b
  qd d r h b := by rw [keep V test1_writes (r := main_v130_8) (by decide +kernel)]; exact I.qd d r h b
  cd d h b := by rw [keep V test1_writes (r := main_v130_9) (by decide +kernel)]; exact I.cd d h b
  kd d r h b := by rw [keep V test1_writes (r := main_v130_10) (by decide +kernel)]; exact I.kd d r h b
  ds d b h a e := by rw [keep V test1_writes (r := main_v130_12) (by decide +kernel)]; exact I.ds d b h a e
  dq j hj d b r h c := by rw [keep V test1_writes (r := main_v130_13) (by decide +kernel)]; exact I.dq j hj d b r h c
  dk j hj d b r h c := by rw [keep V test1_writes (r := main_v130_14) (by decide +kernel)]; exact I.dk j hj d b r h c
  dv j hj d b r h c := by rw [keep V test1_writes (r := main_v130_15) (by decide +kernel)]; exact I.dv j hj d b r h c

theorem inv1_at (k : ℕ) (hk : k ≤ 16) : Inv1 (rs (launchContents m c)) (at1 m k c) k := by
  induction k with
  | zero => exact inv1_zero m c
  | succ k ih =>
    have I := inv1_test (ih (Nat.le_of_succ_le hk))
    exact inv1_step (t := ⟨k, hk⟩) I (ctr1 m (k + 1) c)

/-- Contents after the second loop. -/
def aft : Valuation τ sig (Elt Ideal) := after test1 (at1 m 16 c)

theorem inv1_end : Inv1 (rs (launchContents m c)) (aft m c) 16 := inv1_test (inv1_at m c 16 (le_refl _))

theorem at1_keep (k : ℕ) {r : Ref sig .tc} (h₁ : r ∉ test1W) (h₂ : r ∉ body1W) : at1 m k c r = after mid (btw m c) r := by
  induction k with
  | zero => rfl
  | succ k ih => rw [at1_succ, keep _ body1_writes h₂, keep _ test1_writes h₁, ih]

theorem aft_keep {r : Ref sig .tc} (h₁ : r ∉ test0W) (h₂ : r ∉ body0W) (h₃ : r ∉ midW) (h₄ : r ∉ test1W) (h₅ : r ∉ body1W) :
    aft m c r = after pre (launchContents m c) r := by
  unfold aft
  rw [keep _ test1_writes h₄, at1_keep m c 16 h₄ h₅, mid_keep m c h₁ h₂ h₃]

end Cert.ReferenceIdeal.Vals
-- ==== Proof.RVal4.lean ====
/-
  The reference's three results read at an index: the gradients of `Cert.Spec`.
-/
module

public import proofs.«01_k».proof.Proof.RefEqD
public import proofs.«01_k».proof.Proof.RVal3

@[expose] public section

set_option maxRecDepth 4000

noncomputable section

namespace Cert.ReferenceIdeal.Vals

open Idealize.ShloMosaic Idealize.SL.Sem Cert.ReferenceIdeal Cert.ReferenceIdeal.Run Cert.Spec Cert.Dyn
open Facts₀ Facts Cert.LineReads
open Idealize.ShloMosaic.TcCoe Idealize.ShloMosaic.Pointwise
open Idealize.ShloMosaic.StableHlo (after launchContents)
open scoped BigOperators

variable (m : (ℓ : Loc nD τ sig) → Buf (Elt Ideal) ℓ) (c : Dev nD)

theorem rs_zero (V : Valuation τ sig (Elt Ideal)) (b h : ℕ) : rs V 0 b h = seq0 (rA V) (rL V) (rG V) b h := rfl
theorem rs_one (V : Valuation τ sig (Elt Ideal)) (b h : ℕ) : rs V 1 b h = seq1 (rA V) (rL V) (rG V) b h := rfl

theorem rev_div (p : Fin 2048) : (p.rev : Fin 2048).val / 128 = 15 - p.val / 128 := by
  have := p.isLt
  rw [rev2048]
  omega
theorem rev_mod (p : Fin 2048) : (p.rev : Fin 2048).val % 128 = 127 - p.val % 128 := by
  have := p.isLt
  rw [rev2048]
  omega

theorem v135_at (d : Fin 2) (b : Fin 4) (p : Fin 2048) (h : Fin 4) (e : Fin 512) :
    (after post (aft m c) main_v135 : FVec Ideal S2x4x2048x4x512 .f32) (ix5 d b p h e) =
      (rs (launchContents m c) d b h).dv (p.val / 128) (p.val % 128) e := by
  rw [post_v135, post_v134, post_v131, keep _ post_writes (r := main_v130_15) (by decide +kernel)]
  pointwise []
  exact (inv1_end m c).dv _ (by omega) _ _ _ _ _

theorem v137_at (d : Fin 2) (b : Fin 4) (p : Fin 2048) (h : Fin 4) (e : Fin 256) :
    (after post (aft m c) main_v137 : FVec Ideal S2x4x2048x4x256 .f32) (ix5 d b p h e) =
      (rs (launchContents m c) d b h).dk (p.val / 128) (p.val % 128) e := by
  rw [post_v137, post_v136, post_v132, keep _ post_writes (r := main_v130_14) (by decide +kernel)]
  pointwise []
  exact (inv1_end m c).dk _ (by omega) _ _ _ _ _

theorem v139_at (d : Fin 2) (b : Fin 4) (p : Fin 2048) (h : Fin 4) (e : Fin 256) :
    (after post (aft m c) main_v139 : FVec Ideal S2x4x2048x4x256 .f32) (ix5 d b p h e) =
      (rs (launchContents m c) d b h).dq (p.val / 128) (p.val % 128) e := by
  rw [post_v139, post_v138, post_v133, keep _ post_writes (r := main_v130_13) (by decide +kernel)]
  pointwise []
  exact (inv1_end m c).dq _ (by omega) _ _ _ _ _

end Cert.ReferenceIdeal.Vals
-- ==== Proof.RVal5.lean ====
/-
  The reference's gradients of both directions added, the second's rows read backwards.
-/
module

public import proofs.«01_k».proof.Proof.RVal4

@[expose] public section

set_option maxRecDepth 4000

noncomputable section

namespace Cert.ReferenceIdeal.Vals

open Idealize.ShloMosaic Idealize.SL.Sem Cert.ReferenceIdeal Cert.ReferenceIdeal.Run Cert.Spec Cert.Dyn
open Facts₀ Facts Cert.LineReads
open Idealize.ShloMosaic.TcCoe Idealize.ShloMosaic.Pointwise
open Idealize.ShloMosaic.StableHlo (after launchContents)
open scoped BigOperators

variable (m : (ℓ : Loc nD τ sig) → Buf (Elt Ideal) ℓ) (c : Dev nD)

/-- The two directions' rows added, the second's read backwards. -/
theorem add_rev {n w : ℕ} (x y : FVec Ideal ⟨4, ![4, n, 4, w]⟩ .f32) (b : Fin 4) (p : Fin n) (h : Fin 4) (e : Fin w)
    (z z' : EReal) (hx : x (ix4 b p h e) = z) (hy : y (ix4 b p.rev h e) = z') :
    addf x (Host.reverse [1] y) (ix4 b p h e) = z + z' := by
  rw [← hx, ← hy]
  refine congrArg (fun j => (x (ix4 b p h e) + y j : EReal)) (funext fun a => ?_)
  fin_cases a <;> rfl

theorem v141_at (b : Fin 4) (p : Fin 2048) (h : Fin 4) (e : Fin 512) :
    (after post (aft m c) main_v141 : FVec Ideal S4x2048x4x512 .f32) (ix4 b p h e) = (rs (launchContents m c) 0 b h).dv (p.val / 128) (p.val % 128) e := by
  rw [post_v141, post_v140]
  pointwise []
  exact v135_at m c 0 b p h e

theorem v143_at (b : Fin 4) (p : Fin 2048) (h : Fin 4) (e : Fin 512) :
    (after post (aft m c) main_v143 : FVec Ideal S4x2048x4x512 .f32) (ix4 b p h e) = (rs (launchContents m c) 1 b h).dv (p.val / 128) (p.val % 128) e := by
  rw [post_v143, post_v142]
  pointwise []
  exact v135_at m c 1 b p h e

theorem v145_at (b : Fin 4) (p : Fin 2048) (h : Fin 4) (e : Fin 512) :
    (after post (aft m c) main_v145 : FVec Ideal S4x2048x4x512 .f32) (ix4 b p h e) =
      (rs (launchContents m c) 0 b h).dv (p.val / 128) (p.val % 128) e + (rs (launchContents m c) 1 b h).dv (15 - p.val / 128) (127 - p.val % 128) e := by
  rw [post_v145, post_v144, ← rev_div, ← rev_mod]
  exact add_rev _ _ b p h e _ _ (v141_at m c b p h e) (v143_at m c b p.rev h e)

theorem v147_at (b : Fin 4) (p : Fin 2048) (h : Fin 4) (e : Fin 256) :
    (after post (aft m c) main_v147 : FVec Ideal S4x2048x4x256 .f32) (ix4 b p h e) = (rs (launchContents m c) 0 b h).dk (p.val / 128) (p.val % 128) e := by
  rw [post_v147, post_v146]
  pointwise []
  exact v137_at m c 0 b p h e

theorem v149_at (b : Fin 4) (p : Fin 2048) (h : Fin 4) (e : Fin 256) :
    (after post (aft m c) main_v149 : FVec Ideal S4x2048x4x256 .f32) (ix4 b p h e) = (rs (launchContents m c) 1 b h).dk (p.val / 128) (p.val % 128) e := by
  rw [post_v149, post_v148]
  pointwise []
  exact v137_at m c 1 b p h e

theorem v151_at (b : Fin 4) (p : Fin 2048) (h : Fin 4) (e : Fin 256) :
    (after post (aft m c) main_v151 : FVec Ideal S4x2048x4x256 .f32) (ix4 b p h e) =
      (rs (launchContents m c) 0 b h).dk (p.val / 128) (p.val % 128) e + (rs (launchContents m c) 1 b h).dk (15 - p.val / 128) (127 - p.val % 128) e := by
  rw [post_v151, post_v150, ← rev_div, ← rev_mod]
  exact add_rev _ _ b p h e _ _ (v147_at m c b p h e) (v149_at m c b p.rev h e)

theorem v153_at (b : Fin 4) (p : Fin 2048) (h : Fin 4) (e : Fin 256) :
    (after post (aft m c) main_v153 : FVec Ideal S4x2048x4x256 .f32) (ix4 b p h e) = (rs (launchContents m c) 0 b h).dq (p.val / 128) (p.val % 128) e := by
  rw [post_v153, post_v152]
  pointwise []
  exact v139_at m c 0 b p h e

theorem v155_at (b : Fin 4) (p : Fin 2048) (h : Fin 4) (e : Fin 256) :
    (after post (aft m c) main_v155 : FVec Ideal S4x2048x4x256 .f32) (ix4 b p h e) = (rs (launchContents m c) 1 b h).dq (p.val / 128) (p.val % 128) e := by
  rw [post_v155, post_v154]
  pointwise []
  exact v139_at m c 1 b p h e

theorem v157_at (b : Fin 4) (p : Fin 2048) (h : Fin 4) (e : Fin 256) :
    (after post (aft m c) main_v157 : FVec Ideal S4x2048x4x256 .f32) (ix4 b p h e) =
      (rs (launchContents m c) 0 b h).dq (p.val / 128) (p.val % 128) e + (rs (launchContents m c) 1 b h).dq (15 - p.val / 128) (127 - p.val % 128) e := by
  rw [post_v157, post_v156, ← rev_div, ← rev_mod]
  exact add_rev _ _ b p h e _ _ (v153_at m c b p h e) (v155_at m c b p.rev h e)

end Cert.ReferenceIdeal.Vals
-- ==== Proof.RVal6.lean ====
/-
  The reference's gradients of the context's key and value rows.
-/
module

public import proofs.«01_k».proof.Proof.RVal5

@[expose] public section

set_option maxRecDepth 4000

noncomputable section

namespace Cert.ReferenceIdeal.Vals

open Idealize.ShloMosaic Idealize.SL.Sem Cert.ReferenceIdeal Cert.ReferenceIdeal.Run Cert.Spec Cert.Dyn
open Facts₀ Facts Cert.LineReads
open Idealize.ShloMosaic.TcCoe Idealize.ShloMosaic.Pointwise
open Idealize.ShloMosaic.StableHlo (after launchContents)
open scoped BigOperators

variable (m : (ℓ : Loc nD τ sig) → Buf (Elt Ideal) ℓ) (c : Dev nD)

theorem v159_at (d : Fin 2) (b : Fin 4) (r : Fin 256) (h : Fin 4) (e : Fin 512) :
    (after post (aft m c) main_v159 : FVec Ideal S2x4x256x4x512 .f32) (ix5 d b r h e) = (rs (launchContents m c) d b h).vx r e := by
  rw [post_v159, post_v158, keep _ post_writes (r := main_v130_12) (by decide +kernel),
    keep _ post_writes (r := main_v39) (by decide +kernel),
    aft_keep m c (r := main_v39) (by decide +kernel) (by decide +kernel) (by decide +kernel) (by decide +kernel) (by decide +kernel)]
  unfold Sq.vx
  pointwise []
  exact sum_same fun a => (mul2 ((inv1_end m c).ds d b h a e) (v39_at _ d b r h a)).trans (mul_comm _ _)

theorem v163_at (d : Fin 2) (b : Fin 4) (r : Fin 256) (h : Fin 4) (a : Fin 256) :
    (after post (aft m c) main_v163 : FVec Ideal S2x4x256x4x256 .f32) (ix5 d b r h a) = (rs (launchContents m c) d b h).kx r a := by
  rw [post_v163, post_v162, post_v161, post_v160, keep _ post_writes (r := main_v130_12) (by decide +kernel),
    keep _ post_writes (r := main_v26) (by decide +kernel),
    keep _ post_writes (r := main_v37) (by decide +kernel),
    aft_keep m c (r := main_v26) (by decide +kernel) (by decide +kernel) (by decide +kernel) (by decide +kernel) (by decide +kernel),
    aft_keep m c (r := main_v37) (by decide +kernel) (by decide +kernel) (by decide +kernel) (by decide +kernel) (by decide +kernel)]
  unfold Sq.kx
  rw [← v37_at _ d r h b]
  pointwise []
  exact mul2 (sum_same fun e => (mul2 ((inv1_end m c).ds d b h a e) (v26_at _ d b r h e)).trans (mul_comm _ _)) rfl

theorem v165_at (b : Fin 4) (p : Fin 256) (h : Fin 4) (e : Fin 512) :
    (after post (aft m c) main_v165 : FVec Ideal S4x256x4x512 .f32) (ix4 b p h e) = (rs (launchContents m c) 0 b h).vx p e := by
  rw [post_v165, post_v164]
  pointwise []
  exact v159_at m c 0 b p h e

theorem v167_at (b : Fin 4) (p : Fin 256) (h : Fin 4) (e : Fin 512) :
    (after post (aft m c) main_v167 : FVec Ideal S4x256x4x512 .f32) (ix4 b p h e) = (rs (launchContents m c) 1 b h).vx p e := by
  rw [post_v167, post_v166]
  pointwise []
  exact v159_at m c 1 b p h e

theorem v169_at (b : Fin 4) (p : Fin 256) (h : Fin 4) (e : Fin 512) :
    (after post (aft m c) main_v169 : FVec Ideal S4x256x4x512 .f32) (ix4 b p h e) =
      (rs (launchContents m c) 0 b h).vx p e + (rs (launchContents m c) 1 b h).vx (255 - p) e := by
  rw [post_v169, post_v168, ← rev256]
  exact add_rev _ _ b p h e _ _ (v165_at m c b p h e) (v167_at m c b p.rev h e)

theorem v171_at (b : Fin 4) (p : Fin 256) (h : Fin 4) (e : Fin 256) :
    (after post (aft m c) main_v171 : FVec Ideal S4x256x4x256 .f32) (ix4 b p h e) = (rs (launchContents m c) 0 b h).kx p e := by
  rw [post_v171, post_v170]
  pointwise []
  exact v163_at m c 0 b p h e

theorem v173_at (b : Fin 4) (p : Fin 256) (h : Fin 4) (e : Fin 256) :
    (after post (aft m c) main_v173 : FVec Ideal S4x256x4x256 .f32) (ix4 b p h e) = (rs (launchContents m c) 1 b h).kx p e := by
  rw [post_v173, post_v172]
  pointwise []
  exact v163_at m c 1 b p h e

theorem v175_at (b : Fin 4) (p : Fin 256) (h : Fin 4) (e : Fin 256) :
    (after post (aft m c) main_v175 : FVec Ideal S4x256x4x256 .f32) (ix4 b p h e) =
      (rs (launchContents m c) 0 b h).kx p e + (rs (launchContents m c) 1 b h).kx (255 - p) e := by
  rw [post_v175, post_v174, ← rev256]
  exact add_rev _ _ b p h e _ _ (v171_at m c b p h e) (v173_at m c b p.rev h e)

end Cert.ReferenceIdeal.Vals
-- ==== Proof.RVal7.lean ====
/-
  The reference's three results read at an index: the gradients of `Cert.Spec`.
-/
module

public import proofs.«01_k».proof.Proof.RVal6

@[expose] public section

set_option maxRecDepth 4000

noncomputable section

namespace Cert.ReferenceIdeal.Vals

open Idealize.ShloMosaic Idealize.SL.Sem Cert.ReferenceIdeal Cert.ReferenceIdeal.Run Cert.Spec Cert.Dyn
open Facts₀ Facts Cert.LineReads
open Idealize.ShloMosaic.TcCoe Idealize.ShloMosaic.Pointwise
open Idealize.ShloMosaic.StableHlo (after launchContents)
open scoped BigOperators

variable (m : (ℓ : Loc nD τ sig) → Buf (Elt Ideal) ℓ) (c : Dev nD)

theorem v188_at (R : Fin 9216) (C : Fin 1024) :
    (after post (aft m c) main_v188 : FVec Ideal S9216x1024 .bf16) (ix2 R C) = gQ (rA (launchContents m c)) (rL (launchContents m c)) (rG (launchContents m c)) R C := by
  rw [post_v188, post_v179, post_v178, post_v177, post_v176, post_cst_17]
  pointwise []
  unfold gQ totQ
  rw [← rs_zero, ← rs_one]
  by_cases h : R.val % 2304 < 2048
  · rw [if_pos h]
    exact (dif_pos h).trans (v157_at m c _ _ _ _)
  · rw [if_neg h]
    exact dif_neg h

theorem v189_at (R : Fin 9216) (C : Fin 1024) :
    (after post (aft m c) main_v189 : FVec Ideal S9216x1024 .bf16) (ix2 R C) = gK (rA (launchContents m c)) (rL (launchContents m c)) (rG (launchContents m c)) R C := by
  rw [post_v189, post_v183, post_v182, post_v181, post_v180]
  pointwise []
  unfold gK totK
  rw [← rs_zero, ← rs_one]
  by_cases h : R.val % 2304 < 2048
  · rw [if_pos h]
    exact (dif_pos h).trans (v151_at m c _ _ _ _)
  · rw [if_neg h]
    exact (dif_neg h).trans (v175_at m c _ _ _ _)

theorem v190_at (R : Fin 9216) (C : Fin 2048) :
    (after post (aft m c) main_v190 : FVec Ideal S9216x2048 .bf16) (ix2 R C) = gV (rA (launchContents m c)) (rL (launchContents m c)) (rG (launchContents m c)) R C := by
  rw [post_v190, post_v187, post_v186, post_v185, post_v184]
  pointwise []
  unfold gV totV
  rw [← rs_zero, ← rs_one]
  by_cases h : R.val % 2304 < 2048
  · rw [if_pos h]
    exact (dif_pos h).trans (v145_at m c _ _ _ _)
  · rw [if_neg h]
    exact (dif_neg h).trans (v169_at m c _ _ _ _)

end Cert.ReferenceIdeal.Vals
-- ==== Proof.Equation.lean ====
/-
  Kernel and reference, started from the same arguments, leave the same three arrays: both are `Cert.Spec.gQ`, `gK`
  and `gV` of the arguments.
-/
module

public import proofs.«01_k».proof.Defs
public import proofs.«01_k».proof.Proof.Gen.KernelIdeal
public import proofs.«01_k».proof.Proof.Gen.ReferenceIdeal
public import proofs.«01_k».proof.Proof.KArr
public import proofs.«01_k».proof.Proof.RVal7

@[expose] public section

noncomputable section

namespace Cert.Equation

open Idealize.ShloMosaic Idealize.SL.Sem Idealize.ShloMosaic.Pointwise Cert.Spec
open Idealize.ShloMosaic.TcCoe
open Idealize.ShloMosaic.StableHlo (launchContents)
open Cert.ReferenceIdeal.Run Cert.ReferenceIdeal.Vals
open Cert.KernelIdeal.Vals (aA aL aG GQ GK GV)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories hold the same arguments on device `c`. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)

variable {m m' c}

theorem rA_eq (h : Agree m m' c) : rA (launchContents m' c) = aA m c := congrArg (at2 (n := 9216) (m := 4096)) h.1
theorem rL_eq (h : Agree m m' c) : rL (launchContents m' c) = aL m c := congrArg (at2 (n := 8) (m := 128)) h.2.1
theorem rG_eq (h : Agree m m' c) : rG (launchContents m' c) = aG m c := congrArg (at2 (n := 9216) (m := 2048)) h.2.2

/-- Two arrays equal at every row and column. -/
theorem ext2 {n k : ℕ} {x y : (⟨2, ![n, k]⟩ : Shape).Idx → EReal} (h : ∀ i j, x (ix2 i j) = y (ix2 i j)) : x = y := by
  funext i
  have e : i = ix2 (i 0) (i 1) := by
    funext a
    fin_cases a <;> rfl
  rw [e]
  exact h _ _

theorem eqQ (h : Agree m m' c) : (fin m' c Cert.ReferenceIdeal.main_v188 : FVec Ideal Cert.ReferenceIdeal.S9216x1024 .bf16) = GQ m c := by
  refine ext2 fun i j => (v188_at m' c i j).trans ?_
  rw [rA_eq h, rL_eq h, rG_eq h]
  rfl

theorem eqK (h : Agree m m' c) : (fin m' c Cert.ReferenceIdeal.main_v189 : FVec Ideal Cert.ReferenceIdeal.S9216x1024 .bf16) = GK m c := by
  refine ext2 fun i j => (v189_at m' c i j).trans ?_
  rw [rA_eq h, rL_eq h, rG_eq h]
  rfl

theorem eqV (h : Agree m m' c) : (fin m' c Cert.ReferenceIdeal.main_v190 : FVec Ideal Cert.ReferenceIdeal.S9216x2048 .bf16) = GV m c := by
  refine ext2 fun i j => (v190_at m' c i j).trans ?_
  rw [rA_eq h, rL_eq h, rG_eq h]
  rfl

/-- Kernel and reference leave the same three arrays. -/
theorem algebraic : Cert.algebraic_KernelIdeal_ReferenceIdeal := fun m g m' g' _ hagree =>
  ⟨fun c => GQ m c, fun c => GK m c, fun c => GV m c,
    (θ_run Cert.KernelIdeal.defs _ _).mono
      (fun _ h c => ⟨(Cert.KernelIdeal.Steps.final_arr h.1 c 5 rfl).trans (Cert.KernelIdeal.Vals.final5 m c),
        (Cert.KernelIdeal.Steps.final_arr h.1 c 6 rfl).trans (Cert.KernelIdeal.Vals.final6 m c),
        (Cert.KernelIdeal.Steps.final_arr h.1 c 7 rfl).trans (Cert.KernelIdeal.Vals.final7 m c),
        Cert.KernelIdeal.Steps.final_arg0 h.1 c, Cert.KernelIdeal.Steps.final_arg1 h.1 c, Cert.KernelIdeal.Steps.final_arg2 h.1 c⟩)
      (Cert.KernelIdeal.Steps.run_main (F := Ideal) m g),
    (θ_run Cert.ReferenceIdeal.defs _ _).mono
      (fun _ h c => ⟨(h.1 c Cert.ReferenceIdeal.main_v188 rfl).trans (eqQ (hagree c)),
        (h.1 c Cert.ReferenceIdeal.main_v189 rfl).trans (eqK (hagree c)),
        (h.1 c Cert.ReferenceIdeal.main_v190 rfl).trans (eqV (hagree c)),
        (h.1 c Cert.ReferenceIdeal.main_arg0 rfl).trans (fin_keep m' c (by decide +kernel) (by decide +kernel) (by decide +kernel) (by decide +kernel) (by decide +kernel) (by decide +kernel) (by decide +kernel)),
        (h.1 c Cert.ReferenceIdeal.main_arg1 rfl).trans (fin_keep m' c (by decide +kernel) (by decide +kernel) (by decide +kernel) (by decide +kernel) (by decide +kernel) (by decide +kernel) (by decide +kernel)),
        (h.1 c Cert.ReferenceIdeal.main_arg2 rfl).trans (fin_keep m' c (by decide +kernel) (by decide +kernel) (by decide +kernel) (by decide +kernel) (by decide +kernel) (by decide +kernel) (by decide +kernel))⟩)
      (run_ref m' g')⟩

end Cert.Equation

end
-- ==== Proof.DwVal.lean ====
/-
  The feed-forward's weight gradient as the kernel computes it: each output block is the sum, over six blocks of
  1536 rows, of the products of the rows' columns, so the array holds the sum over all 9216 rows.
-/
module

public import proofs.«01_k».proof.Proof.Gen.Kernel2Ideal.Value
public import proofs.«01_k».proof.Proof.Spec
public import Idealize.ShloMosaic.Lib.Pipeline.ValueKit
public import Idealize.ShloMosaic.Lib.Pipeline.ReadBack

@[expose] public section

noncomputable section

namespace Cert.Kernel2Ideal.Vals

open Idealize.ShloMosaic Idealize.ShloMosaic.TcCoe Idealize.ShloMosaic.Pointwise
open Cert.Kernel2Ideal.Gen Cert.Kernel2Ideal.Value Cert.Spec

variable (m : (ℓ : Loc nD τ sig) → Buf (Elt Ideal) ℓ)

/-- One block's part of the sum: over the block's 1536 rows. -/
def part (x0 : Vec Ideal S1536x1024 .bf16) (x1 : Vec Ideal S1x1536x1408 .bf16) : Vec Ideal S1024x1408 .f32 :=
  fun j => ∑ k : Fin 1536, (x0 (ix2 k (j 0)) : EReal) * x1 (ix3 0 k (j 1))

theorem pay2_eq (acc : Vec Ideal S1024x1408 .f32) (x0 : Vec Ideal S1536x1024 .bf16) (x1 : Vec Ideal S1x1536x1408 .bf16)
    (j : S1024x1408.Idx) : k0_pay2 acc x0 x1 j = (acc j : EReal) + part x0 x1 j := by
  rw [eq_ix2 j]
  generalize j 0 = a, j 1 = b
  unfold part
  pointwise [k0_pay2]

theorem pay1_eq (j : S1024x1408.Idx) : (k0_pay1 (F := Ideal) j : EReal) = 0 := by
  rw [eq_ix2 j]
  generalize j 0 = a, j 1 = b
  pointwise [k0_pay1]

/-- The running sum at a point that ends a run of six. -/
theorem acc_eq (c : Dev nD) (t : Fin cfg0.N) (h : t.val % 6 = 5) (j : S1024x1408.Idx) :
    ((outsAt0 m c t.val t.isLt).2 j : EReal)
      = ∑ s : Fin 6, part (iblk m c 0 ⟨6 * (t.val / 6) + s.val, Pipeline.run_point_lt_of_flush t h s⟩)
          (iblk m c 1 ⟨6 * (t.val / 6) + s.val, Pipeline.run_point_lt_of_flush t h s⟩) j := by
  rw [Pipeline.eq_sum_fin_of_reset_step_apply_of_flush (M := EReal) (fun n h => (outsAt0 m c n h).2) 6 (fun _ => 0)
    (fun t => part (iblk m c 0 t) (iblk m c 1 t))
    (fun t h j => by rw [outsAt0_A m c t h (by omega)]; frame_out; rw [pay2_eq, pay1_eq])
    (fun t h j => by
      by_cases h5 : t.val % 6 = 5
      · rw [outsAt0_C m c t h h5]; frame_out; rw [pay2_eq, read_unread_whole]
      · rw [outsAt0_B m c t h h5]; frame_out; rw [pay2_eq, read_unread_whole]) t h j, zero_add]

/-- What such a point writes back is that sum. -/
theorem out_eq (c : Dev nD) (t : Fin cfg0.N) (h : t.val % 6 = 5) (a : Fin 1024) (b : Fin 1408) :
    ((outsAt0 m c t.val t.isLt).1 (ix3 0 a b) : EReal) = (outsAt0 m c t.val t.isLt).2 (ix2 a b) := by
  rw [outsAt0_C m c t (by omega) h]
  frame_out
  pointwise [k0_pay3]

theorem idx0 : ∀ t : Fin cfg0.N, win0_0.index t (0 : Fin 2) = t.val % 6 ∧ win0_0.index t (1 : Fin 2) = 0 :=
  (by decide +kernel : ∀ t : Fin grid0.N, _)
theorem idx1 : ∀ t : Fin cfg0.N, win0_1.index t (0 : Fin 3) = t.val / 12 ∧ win0_1.index t (1 : Fin 3) = t.val % 6
    ∧ win0_1.index t (2 : Fin 3) = t.val / 6 % 2 :=
  (by decide +kernel : ∀ t : Fin grid0.N, _)

/-- The argument arrays of core `c`. -/
def hA (c : Dev nD) (r : Fin 9216) (a : Fin 1024) : EReal := m ((c : Thread nD τ).loc main_arg0) (ix2 r a)
def duA (c : Dev nD) (q : Fin 2) (r : Fin 9216) (x : Fin 2816) : EReal := m ((c : Thread nD τ).loc main_arg1) (ix3 q r x)

/-- The result array at an index: the sum over all rows of the one array's column times the other's. -/
theorem G2_at (c : Dev nD) (p : Fin 4) (a : Fin 1024) (b : Fin 1408) :
    (G2 m c (ix3 p a b) : EReal) = ∑ r : Fin 9216, hA m c r a
      * duA m c ⟨p.val / 2, by omega⟩ r ⟨1408 * (p.val % 2) + b.val, by omega⟩ := by
  have hN : cfg0.N = 24 := N_0
  have hp : pt2Of (ix3 p a b : S4x1024x1408.Idx) = 6 * p.val + 5 := by
    show 6 * (1 * (p.val / 1 - 0) + 1 * (a.val / 1024 - 0) + 1 * (b.val / 1408 - 0)) + 5 = _
    omega
  have hl : loc2Of (ix3 p a b : S4x1024x1408.Idx) = ix3 0 a b := by
    funext x; apply Fin.ext
    match x with
    | ⟨0, _⟩ => show p.val % 1 = 0; omega
    | ⟨1, _⟩ => show a.val % 1024 = a.val; omega
    | ⟨2, _⟩ => show b.val % 1408 = b.val; omega
  have ht : (6 * p.val + 5) % 6 = 5 := by omega
  have hd : (6 * p.val + 5) / 6 = p.val := by omega
  unfold G2
  rw [dif_pos (by rw [hp]; omega), hl, fold0_congr m c _ _ _ (by omega) hp, ← outsAt0_sweep m c _ (by omega),
    out_eq m c ⟨6 * p.val + 5, by omega⟩ ht, acc_eq m c ⟨6 * p.val + 5, by omega⟩ ht]
  refine Fin.sum_mul_add_congr fun s k hl => ?_
  obtain ⟨e0, e1⟩ := idx0 ⟨6 * ((6 * p.val + 5) / 6) + s.val, by omega⟩
  obtain ⟨f0, f1, f2⟩ := idx1 ⟨6 * ((6 * p.val + 5) / 6) + s.val, by omega⟩
  dsimp only at e0 e1 f0 f1 f2
  unfold hA duA
  congr 1 <;> blk_ext [iblk, V, e0, e1, f0, f1, f2]

end Cert.Kernel2Ideal.Vals

end
-- ==== Proof.DwRef.lean ====
/-
  The feed-forward's weight gradient: the reference's array at an index, and the equation with the kernel's.
-/
module

public import proofs.«01_k».proof.Defs
public import proofs.«01_k».proof.Proof.Gen.Reference2Ideal.Run
public import Idealize.ShloMosaic.Lib.Pipeline.ValueKit
public import proofs.«01_k».proof.Proof.DwVal

@[expose] public section

noncomputable section

namespace Cert.Reference2Ideal.Vals

open Idealize.ShloMosaic Idealize.ShloMosaic.TcCoe Idealize.ShloMosaic.Pointwise
open Cert.Reference2Ideal Cert.Reference2Ideal.Gen Cert.Reference2Ideal.Value

/-- The two halves of the columns, side by side. -/
def cat (d : FVec Ideal S2x9216x2816 .bf16) : FVec Ideal S9216x5632 .f32 :=
  addf (pad S9216x5632 ![0, 2816] ![0, 0] ![0, 0] (extf .f32 (shapeCast _ (extractStridedSlice S1x9216x2816 ![1, 0, 0] d slices_S2x9216x2816_S1x9216x2816_1_0_0) shapeCasts_S1x9216x2816_S9216x2816) bitsLt_bf16_f32) (constant S_ .f32 0x00000000#32) pads_S9216x2816_S9216x5632_000_281600 h_S_)
    (pad S9216x5632 ![0, 0] ![0, 2816] ![0, 0] (extf .f32 (shapeCast _ (extractStridedSlice S1x9216x2816 ![0, 0, 0] d slices_S2x9216x2816_S1x9216x2816_0_0_0) shapeCasts_S1x9216x2816_S9216x2816) bitsLt_bf16_f32) (constant S_ .f32 0x00000000#32) pads_S9216x2816_S9216x5632_000_028160 h_S_)

/-- The reference's array as a function of its arguments. -/
def dw (h : FVec Ideal S9216x1024 .bf16) (d : FVec Ideal S2x9216x2816 .bf16) : FVec Ideal S4x1024x1408 .bf16 :=
  truncf .bf16 (transpose S4x1024x1408 [1, 0, 2] (shapeCast _ (transpose S1024x5632 [1, 0] (Host.dotGeneral dot_S9216x5632_S9216x1024_S5632x1024_0_0_1_1_n_n none (cat d) (extf .f32 h bitsLt_bf16_f32)) transposes_S5632x1024_S1024x5632_1_0) shapeCasts_S1024x5632_S1024x4x1408) transposes_S1024x4x1408_S4x1024x1408_1_0_2) bitsLt_bf16_f32

theorem cat_at (d : FVec Ideal S2x9216x2816 .bf16) (r : Fin 9216) (x : Fin 5632) :
    (cat d (ix2 r x) : EReal) = d (ix3 (⟨x.val / 2816, by omega⟩ : Fin 2) r (⟨x.val % 2816, by omega⟩ : Fin 2816)) := by
  pointwise [cat]
  by_cases hx : x.val < 2816
  · rw [dif_neg (by omega), dif_pos hx, zero_add]
    congr 1 <;> blk_ext
  · rw [dif_pos (by omega), dif_neg hx, add_zero]
    congr 1 <;> blk_ext

theorem dw_at (h : FVec Ideal S9216x1024 .bf16) (d : FVec Ideal S2x9216x2816 .bf16) (p : Fin 4) (a : Fin 1024) (b : Fin 1408) :
    (dw h d (ix3 p a b) : EReal) = ∑ r : Fin 9216, (h (ix2 r a) : EReal)
      * d (ix3 (⟨p.val / 2, by omega⟩ : Fin 2) r (⟨1408 * (p.val % 2) + b.val, by omega⟩ : Fin 2816)) := by
  pointwise [dw]
  refine Finset.sum_congr rfl fun r _ => ?_
  rw [cat_at]
  refine (mul_comm (_ : EReal) _).trans ?_
  congr 1
  blk_ext

end Cert.Reference2Ideal.Vals

namespace Cert.Equation2

open Idealize.ShloMosaic Idealize.SL.Sem Idealize.ShloMosaic.Pointwise
open Idealize.ShloMosaic.TcCoe

theorem eqDw (m : (ℓ : Loc Cert.Kernel2Ideal.nD Cert.Kernel2Ideal.τ Cert.Kernel2Ideal.sig) → Buf (Elt Ideal) ℓ)
    (c : Dev Cert.Kernel2Ideal.nD) :
    Cert.Reference2Ideal.Vals.dw (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)) = Cert.Kernel2Ideal.Value.G2 m c := by
  funext i
  have e : i = ix3 (n0 := 4) (n1 := 1024) (n2 := 1408) (i 0) (i 1) (i 2) := eq_ix3 (n0 := 4) (n1 := 1024) (n2 := 1408) i
  rw [e]
  exact (Cert.Reference2Ideal.Vals.dw_at _ _ _ _ _).trans (Cert.Kernel2Ideal.Vals.G2_at m c _ _ _).symm

/-- Kernel and reference leave the same weight gradient. -/
theorem algebraic : Cert.algebraic_Kernel2Ideal_Reference2Ideal := fun m g m' g' _ hagree =>
  ⟨fun c => Cert.Kernel2Ideal.Value.G2 m c,
    (θ_run Cert.Kernel2Ideal.defs _ _).mono (fun _ h c => h c) (Cert.Kernel2Ideal.Value.run (F := Ideal) m g),
    (θ_run Cert.Reference2Ideal.defs _ _).mono
      (fun _ h c => ⟨(h c).1.trans (by
        have e0 := (hagree c).1
        have e1 := (hagree c).2
        show Cert.Reference2Ideal.Vals.dw _ _ = _
        rw [e0, e1]
        exact eqDw m c), (h c).2⟩)
      (Cert.Reference2Ideal.Value.run (F := Ideal) m' g')⟩

end Cert.Equation2

end
-- ==== Proof.DxVal.lean ====
/-
  The feed-forward's row gradient as the kernel computes it: each output block is the sum, over four parts of 1408
  columns, of the products of the gradient's columns with the weight's, so the array holds the sum over all 5632.
-/
module

public import proofs.«01_k».proof.Proof.Gen.Kernel3Ideal.Value
public import proofs.«01_k».proof.Proof.Spec
public import Idealize.ShloMosaic.Lib.Pipeline.ValueKit
public import Idealize.ShloMosaic.Lib.Pipeline.ReadBack

@[expose] public section

noncomputable section

namespace Cert.Kernel3Ideal.Vals

open Idealize.ShloMosaic Idealize.ShloMosaic.TcCoe Idealize.ShloMosaic.Pointwise
open Cert.Kernel3Ideal.Gen Cert.Kernel3Ideal.Value Cert.Spec

variable (m : (ℓ : Loc nD τ sig) → Buf (Elt Ideal) ℓ)

/-- One block's part of the sum: over the block's 1408 columns. -/
def part (x0 : Vec Ideal S1x1536x1408 .bf16) (x1 : Vec Ideal S1x1024x1408 .bf16) : Vec Ideal S1536x1024 .f32 :=
  fun j => ∑ k : Fin 1408, (x0 (ix3 0 (j 0) k) : EReal) * x1 (ix3 0 (j 1) k)

theorem pay2_eq (acc : Vec Ideal S1536x1024 .f32) (x0 : Vec Ideal S1x1536x1408 .bf16) (x1 : Vec Ideal S1x1024x1408 .bf16)
    (j : S1536x1024.Idx) : k0_pay2 acc x0 x1 j = (acc j : EReal) + part x0 x1 j := by
  rw [eq_ix2 j]
  generalize j 0 = a, j 1 = b
  unfold part
  pointwise [k0_pay2]

theorem pay1_eq (j : S1536x1024.Idx) : (k0_pay1 (F := Ideal) j : EReal) = 0 := by
  rw [eq_ix2 j]
  generalize j 0 = a, j 1 = b
  pointwise [k0_pay1]

/-- The running sum at a point that ends a run of four. -/
theorem acc_eq (c : Dev nD) (t : Fin cfg0.N) (h : t.val % 4 = 3) (j : S1536x1024.Idx) :
    ((outsAt0 m c t.val t.isLt).2 j : EReal)
      = ∑ s : Fin 4, part (iblk m c 0 ⟨4 * (t.val / 4) + s.val, Pipeline.run_point_lt_of_flush t h s⟩)
          (iblk m c 1 ⟨4 * (t.val / 4) + s.val, Pipeline.run_point_lt_of_flush t h s⟩) j := by
  rw [Pipeline.eq_sum_fin_of_reset_step_apply_of_flush (M := EReal) (fun n h => (outsAt0 m c n h).2) 4 (fun _ => 0)
    (fun t => part (iblk m c 0 t) (iblk m c 1 t))
    (fun t h j => by rw [outsAt0_A m c t h (by omega)]; frame_out; rw [pay2_eq, pay1_eq])
    (fun t h j => by
      by_cases h5 : t.val % 4 = 3
      · rw [outsAt0_C m c t h h5]; frame_out; rw [pay2_eq, read_unread_whole]
      · rw [outsAt0_B m c t h h5]; frame_out; rw [pay2_eq, read_unread_whole]) t h j, zero_add]

/-- What such a point writes back is that sum. -/
theorem out_eq (c : Dev nD) (t : Fin cfg0.N) (h : t.val % 4 = 3) (a : Fin 1536) (b : Fin 1024) :
    ((outsAt0 m c t.val t.isLt).1 (ix2 a b) : EReal) = (outsAt0 m c t.val t.isLt).2 (ix2 a b) := by
  rw [outsAt0_C m c t (by omega) h]
  frame_out
  pointwise [k0_pay3]

theorem idx0 : ∀ t : Fin cfg0.N, win0_0.index t (0 : Fin 3) = t.val % 4 / 2 ∧ win0_0.index t (1 : Fin 3) = t.val / 4
    ∧ win0_0.index t (2 : Fin 3) = t.val % 2 :=
  (by decide +kernel : ∀ t : Fin grid0.N, _)
theorem idx1 : ∀ t : Fin cfg0.N, win0_1.index t (0 : Fin 3) = t.val % 4 ∧ win0_1.index t (1 : Fin 3) = 0
    ∧ win0_1.index t (2 : Fin 3) = 0 :=
  (by decide +kernel : ∀ t : Fin grid0.N, _)

/-- The argument arrays of core `c`. -/
def duA (c : Dev nD) (q : Fin 2) (r : Fin 9216) (x : Fin 2816) : EReal := m ((c : Thread nD τ).loc main_arg0) (ix3 q r x)
def wA (c : Dev nD) (p : Fin 4) (a : Fin 1024) (b : Fin 1408) : EReal := m ((c : Thread nD τ).loc main_arg1) (ix3 p a b)

/-- The result array at an index: the sum over all columns of the gradient's row times the weight's. -/
theorem G2_at (c : Dev nD) (r : Fin 9216) (a : Fin 1024) :
    (G2 m c (ix2 r a) : EReal) = ∑ x : Fin 5632, duA m c ⟨x.val / 2816, by omega⟩ r ⟨x.val % 2816, by omega⟩
      * wA m c ⟨x.val / 1408, by omega⟩ a ⟨x.val % 1408, by omega⟩ := by
  have hN : cfg0.N = 24 := N_0
  have hp : pt2Of (ix2 r a : S9216x1024.Idx) = 4 * (r.val / 1536) + 3 := by
    show 4 * (1 * (r.val / 1536 - 0) + 1 * (a.val / 1024 - 0)) + 3 = _
    omega
  have hl : loc2Of (ix2 r a : S9216x1024.Idx) = ix2 ⟨r.val % 1536, by omega⟩ a := by
    funext x; apply Fin.ext
    match x with
    | ⟨0, _⟩ => show r.val % 1536 = r.val % 1536; rfl
    | ⟨1, _⟩ => show a.val % 1024 = a.val; omega
  have ht : (4 * (r.val / 1536) + 3) % 4 = 3 := by omega
  have hd : (4 * (r.val / 1536) + 3) / 4 = r.val / 1536 := by omega
  unfold G2
  rw [dif_pos (by rw [hp]; omega), hl, fold0_congr m c _ _ _ (by omega) hp, ← outsAt0_sweep m c _ (by omega),
    out_eq m c ⟨4 * (r.val / 1536) + 3, by omega⟩ ht, acc_eq m c ⟨4 * (r.val / 1536) + 3, by omega⟩ ht]
  refine Fin.sum_mul_add_congr fun s k hl => ?_
  obtain ⟨e0, e1, e2⟩ := idx0 ⟨4 * ((4 * (r.val / 1536) + 3) / 4) + s.val, by omega⟩
  obtain ⟨f0, f1, f2⟩ := idx1 ⟨4 * ((4 * (r.val / 1536) + 3) / 4) + s.val, by omega⟩
  dsimp only at e0 e1 e2 f0 f1 f2
  unfold duA wA
  congr 1 <;> blk_ext [iblk, V, e0, e1, e2, f0, f1, f2]

end Cert.Kernel3Ideal.Vals

end
-- ==== Proof.DxRef.lean ====
/-
  The feed-forward's row gradient: the reference's array at an index, and the equation with the kernel's.
-/
module

public import proofs.«01_k».proof.Defs
public import proofs.«01_k».proof.Proof.Gen.Reference3Ideal.Run
public import Idealize.ShloMosaic.Lib.Pipeline.ValueKit
public import proofs.«01_k».proof.Proof.DxVal

@[expose] public section

noncomputable section

namespace Cert.Reference3Ideal.Vals

open Idealize.ShloMosaic Idealize.ShloMosaic.TcCoe Idealize.ShloMosaic.Pointwise
open Cert.Reference3Ideal Cert.Reference3Ideal.Gen Cert.Reference3Ideal.Value

/-- The two halves of the columns, side by side. -/
def cat (d : FVec Ideal S2x9216x2816 .bf16) : FVec Ideal S9216x5632 .f32 :=
  addf (pad S9216x5632 ![0, 2816] ![0, 0] ![0, 0] (extf .f32 (shapeCast _ (extractStridedSlice S1x9216x2816 ![1, 0, 0] d slices_S2x9216x2816_S1x9216x2816_1_0_0) shapeCasts_S1x9216x2816_S9216x2816) bitsLt_bf16_f32) (constant S_ .f32 0x00000000#32) pads_S9216x2816_S9216x5632_000_281600 h_S_)
    (pad S9216x5632 ![0, 0] ![0, 2816] ![0, 0] (extf .f32 (shapeCast _ (extractStridedSlice S1x9216x2816 ![0, 0, 0] d slices_S2x9216x2816_S1x9216x2816_0_0_0) shapeCasts_S1x9216x2816_S9216x2816) bitsLt_bf16_f32) (constant S_ .f32 0x00000000#32) pads_S9216x2816_S9216x5632_000_028160 h_S_)

/-- The reference's array as a function of its arguments. -/
def dx (d : FVec Ideal S2x9216x2816 .bf16) (w : FVec Ideal S4x1024x1408 .bf16) : FVec Ideal S9216x1024 .bf16 :=
  truncf .bf16 (Host.dotGeneral dot_S9216x5632_S1024x5632_S9216x1024_1_1_0_0_n_n none (cat d) (shapeCast _ (transpose S1024x4x1408 [1, 0, 2] (extf .f32 w bitsLt_bf16_f32) transposes_S4x1024x1408_S1024x4x1408_1_0_2) shapeCasts_S1024x4x1408_S1024x5632)) bitsLt_bf16_f32

theorem cat_at (d : FVec Ideal S2x9216x2816 .bf16) (r : Fin 9216) (x : Fin 5632) :
    (cat d (ix2 r x) : EReal) = d (ix3 (⟨x.val / 2816, by omega⟩ : Fin 2) r (⟨x.val % 2816, by omega⟩ : Fin 2816)) := by
  pointwise [cat]
  by_cases hx : x.val < 2816
  · rw [dif_neg (by omega), dif_pos hx, zero_add]
    congr 1 <;> blk_ext
  · rw [dif_pos (by omega), dif_neg hx, add_zero]
    congr 1 <;> blk_ext

theorem dx_at (d : FVec Ideal S2x9216x2816 .bf16) (w : FVec Ideal S4x1024x1408 .bf16) (r : Fin 9216) (a : Fin 1024) :
    (dx d w (ix2 r a) : EReal) = ∑ x : Fin 5632, (d (ix3 (⟨x.val / 2816, by omega⟩ : Fin 2) r (⟨x.val % 2816, by omega⟩ : Fin 2816)) : EReal)
      * w (ix3 (⟨x.val / 1408, by omega⟩ : Fin 4) a (⟨x.val % 1408, by omega⟩ : Fin 1408)) := by
  pointwise [dx]
  refine Finset.sum_congr rfl fun x _ => ?_
  rw [cat_at]

end Cert.Reference3Ideal.Vals

namespace Cert.Equation3

open Idealize.ShloMosaic Idealize.SL.Sem Idealize.ShloMosaic.Pointwise
open Idealize.ShloMosaic.TcCoe

theorem eqDx (m : (ℓ : Loc Cert.Kernel3Ideal.nD Cert.Kernel3Ideal.τ Cert.Kernel3Ideal.sig) → Buf (Elt Ideal) ℓ)
    (c : Dev Cert.Kernel3Ideal.nD) :
    Cert.Reference3Ideal.Vals.dx (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)) = Cert.Kernel3Ideal.Value.G2 m c := by
  funext i
  have e : i = ix2 (n0 := 9216) (n1 := 1024) (i 0) (i 1) := eq_ix2 (n0 := 9216) (n1 := 1024) i
  rw [e]
  exact (Cert.Reference3Ideal.Vals.dx_at _ _ _ _).trans (Cert.Kernel3Ideal.Vals.G2_at m c _ _).symm

/-- Kernel and reference leave the same row gradient. -/
theorem algebraic : Cert.algebraic_Kernel3Ideal_Reference3Ideal := fun m g m' g' _ hagree =>
  ⟨fun c => Cert.Kernel3Ideal.Value.G2 m c,
    (θ_run Cert.Kernel3Ideal.defs _ _).mono (fun _ h c => h c) (Cert.Kernel3Ideal.Value.run (F := Ideal) m g),
    (θ_run Cert.Reference3Ideal.defs _ _).mono
      (fun _ h c => ⟨(h c).1.trans (by
        have e0 := (hagree c).1
        have e1 := (hagree c).2
        show Cert.Reference3Ideal.Vals.dx _ _ = _
        rw [e0, e1]
        exact eqDx m c), (h c).2⟩)
      (Cert.Reference3Ideal.Value.run (F := Ideal) m' g')⟩

end Cert.Equation3

end
-- ==== Proof.QwVal.lean ====
/-
  The weight gradient of the retention layer's projection as the kernel computes it: each output block is the sum, over
  six blocks of 1536 rows, of the products of the rows' columns, so the array holds the sum over all 9216 rows.
-/
module

public import proofs.«01_k».proof.Proof.Gen.Kernel4Ideal.Value
public import proofs.«01_k».proof.Proof.Spec
public import Idealize.ShloMosaic.Lib.Pipeline.ValueKit
public import Idealize.ShloMosaic.Lib.Pipeline.ReadBack

@[expose] public section

noncomputable section

namespace Cert.Kernel4Ideal.Vals

open Idealize.ShloMosaic Idealize.ShloMosaic.TcCoe Idealize.ShloMosaic.Pointwise
open Cert.Kernel4Ideal.Gen Cert.Kernel4Ideal.Value Cert.Spec

variable (m : (ℓ : Loc nD τ sig) → Buf (Elt Ideal) ℓ)

/-- One block's part of the sum: over the block's 1536 rows. -/
def part (x0 : Vec Ideal S1536x1024 .bf16) (x1 : Vec Ideal S1536x1536 .bf16) : Vec Ideal S1024x1536 .f32 :=
  fun j => ∑ k : Fin 1536, (x0 (ix2 k (j 0)) : EReal) * x1 (ix2 k (j 1))

theorem pay2_eq (acc : Vec Ideal S1024x1536 .f32) (x0 : Vec Ideal S1536x1024 .bf16) (x1 : Vec Ideal S1536x1536 .bf16)
    (j : S1024x1536.Idx) : k0_pay2 acc x0 x1 j = (acc j : EReal) + part x0 x1 j := by
  rw [eq_ix2 j]
  generalize j 0 = a, j 1 = b
  unfold part
  pointwise [k0_pay2]

theorem pay1_eq (j : S1024x1536.Idx) : (k0_pay1 (F := Ideal) j : EReal) = 0 := by
  rw [eq_ix2 j]
  generalize j 0 = a, j 1 = b
  pointwise [k0_pay1]

/-- The running sum at a point that ends a run of six. -/
theorem acc_eq (c : Dev nD) (t : Fin cfg0.N) (h : t.val % 6 = 5) (j : S1024x1536.Idx) :
    ((outsAt0 m c t.val t.isLt).2 j : EReal)
      = ∑ s : Fin 6, part (iblk m c 0 ⟨6 * (t.val / 6) + s.val, Pipeline.run_point_lt_of_flush t h s⟩)
          (iblk m c 1 ⟨6 * (t.val / 6) + s.val, Pipeline.run_point_lt_of_flush t h s⟩) j := by
  rw [Pipeline.eq_sum_fin_of_reset_step_apply_of_flush (M := EReal) (fun n h => (outsAt0 m c n h).2) 6 (fun _ => 0)
    (fun t => part (iblk m c 0 t) (iblk m c 1 t))
    (fun t h j => by rw [outsAt0_A m c t h (by omega)]; frame_out; rw [pay2_eq, pay1_eq])
    (fun t h j => by
      by_cases h5 : t.val % 6 = 5
      · rw [outsAt0_C m c t h h5]; frame_out; rw [pay2_eq, read_unread_whole]
      · rw [outsAt0_B m c t h h5]; frame_out; rw [pay2_eq, read_unread_whole]) t h j, zero_add]

/-- What such a point writes back is that sum. -/
theorem out_eq (c : Dev nD) (t : Fin cfg0.N) (h : t.val % 6 = 5) (a : Fin 1024) (b : Fin 1536) :
    ((outsAt0 m c t.val t.isLt).1 (ix3 0 a b) : EReal) = (outsAt0 m c t.val t.isLt).2 (ix2 a b) := by
  rw [outsAt0_C m c t (by omega) h]
  frame_out
  pointwise [k0_pay3]

theorem idx0 : ∀ t : Fin cfg0.N, win0_0.index t (0 : Fin 2) = t.val % 6 ∧ win0_0.index t (1 : Fin 2) = 0 :=
  (by decide +kernel : ∀ t : Fin grid0.N, _)
theorem idx1 : ∀ t : Fin cfg0.N, win0_1.index t (0 : Fin 2) = t.val % 6 ∧ win0_1.index t (1 : Fin 2) = t.val / 6 :=
  (by decide +kernel : ∀ t : Fin grid0.N, _)

/-- The argument arrays of core `c`. -/
def hA (c : Dev nD) (r : Fin 9216) (a : Fin 1024) : EReal := m ((c : Thread nD τ).loc main_arg0) (ix2 r a)
def dA (c : Dev nD) (r : Fin 9216) (x : Fin 6144) : EReal := m ((c : Thread nD τ).loc main_arg1) (ix2 r x)

/-- The result array at an index: the sum over all rows of the one array's column times the other's. -/
theorem G2_at (c : Dev nD) (p : Fin 4) (a : Fin 1024) (b : Fin 1536) :
    (G2 m c (ix3 p a b) : EReal) = ∑ r : Fin 9216, hA m c r a
      * dA m c r ⟨1536 * p.val + b.val, by omega⟩ := by
  have hN : cfg0.N = 24 := N_0
  have hp : pt2Of (ix3 p a b : S4x1024x1536.Idx) = 6 * p.val + 5 := by
    show 6 * (1 * (p.val / 1 - 0) + 1 * (a.val / 1024 - 0) + 1 * (b.val / 1536 - 0)) + 5 = _
    omega
  have hl : loc2Of (ix3 p a b : S4x1024x1536.Idx) = ix3 0 a b := by
    funext x; apply Fin.ext
    match x with
    | ⟨0, _⟩ => show p.val % 1 = 0; omega
    | ⟨1, _⟩ => show a.val % 1024 = a.val; omega
    | ⟨2, _⟩ => show b.val % 1536 = b.val; omega
  have ht : (6 * p.val + 5) % 6 = 5 := by omega
  have hd : (6 * p.val + 5) / 6 = p.val := by omega
  unfold G2
  rw [dif_pos (by rw [hp]; omega), hl, fold0_congr m c _ _ _ (by omega) hp, ← outsAt0_sweep m c _ (by omega),
    out_eq m c ⟨6 * p.val + 5, by omega⟩ ht, acc_eq m c ⟨6 * p.val + 5, by omega⟩ ht]
  refine Fin.sum_mul_add_congr fun s k hl => ?_
  obtain ⟨e0, e1⟩ := idx0 ⟨6 * ((6 * p.val + 5) / 6) + s.val, by omega⟩
  obtain ⟨f0, f1⟩ := idx1 ⟨6 * ((6 * p.val + 5) / 6) + s.val, by omega⟩
  dsimp only at e0 e1 f0 f1
  unfold hA dA
  congr 1 <;> blk_ext [iblk, V, e0, e1, f0, f1]

end Cert.Kernel4Ideal.Vals

end
-- ==== Proof.QwRef.lean ====
/-
  The weight gradient of the retention layer's projection: the reference's array at an index, and the equation with the kernel's.
-/
module

public import proofs.«01_k».proof.Defs
public import proofs.«01_k».proof.Proof.Gen.Reference4Ideal.Run
public import Idealize.ShloMosaic.Lib.Pipeline.ValueKit
public import proofs.«01_k».proof.Proof.QwVal

@[expose] public section

noncomputable section

namespace Cert.Reference4Ideal.Vals

open Idealize.ShloMosaic Idealize.ShloMosaic.TcCoe Idealize.ShloMosaic.Pointwise
open Cert.Reference4Ideal Cert.Reference4Ideal.Gen Cert.Reference4Ideal.Value

/-- The reference's array as a function of its arguments. -/
def dw (h : FVec Ideal S9216x1024 .bf16) (d : FVec Ideal S9216x6144 .bf16) : FVec Ideal S4x1024x1536 .bf16 :=
  truncf .bf16 (transpose S4x1024x1536 [1, 0, 2] (shapeCast _ (transpose S1024x6144 [1, 0] (Host.dotGeneral dot_S9216x6144_S9216x1024_S6144x1024_0_0_1_1_n_n none (extf .f32 d bitsLt_bf16_f32) (extf .f32 h bitsLt_bf16_f32)) transposes_S6144x1024_S1024x6144_1_0) shapeCasts_S1024x6144_S1024x4x1536) transposes_S1024x4x1536_S4x1024x1536_1_0_2) bitsLt_bf16_f32

theorem dw_at (h : FVec Ideal S9216x1024 .bf16) (d : FVec Ideal S9216x6144 .bf16) (p : Fin 4) (a : Fin 1024) (b : Fin 1536) :
    (dw h d (ix3 p a b) : EReal) = ∑ r : Fin 9216, (h (ix2 r a) : EReal)
      * d (ix2 r (⟨1536 * p.val + b.val, by omega⟩ : Fin 6144)) := by
  pointwise [dw]
  refine Finset.sum_congr rfl fun r _ => ?_
  refine (mul_comm (_ : EReal) _).trans ?_
  congr 1
  blk_ext

end Cert.Reference4Ideal.Vals

namespace Cert.Equation4

open Idealize.ShloMosaic Idealize.SL.Sem Idealize.ShloMosaic.Pointwise
open Idealize.ShloMosaic.TcCoe

theorem eqDw (m : (ℓ : Loc Cert.Kernel4Ideal.nD Cert.Kernel4Ideal.τ Cert.Kernel4Ideal.sig) → Buf (Elt Ideal) ℓ)
    (c : Dev Cert.Kernel4Ideal.nD) :
    Cert.Reference4Ideal.Vals.dw (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1)) = Cert.Kernel4Ideal.Value.G2 m c := by
  funext i
  have e : i = ix3 (n0 := 4) (n1 := 1024) (n2 := 1536) (i 0) (i 1) (i 2) := eq_ix3 (n0 := 4) (n1 := 1024) (n2 := 1536) i
  rw [e]
  exact (Cert.Reference4Ideal.Vals.dw_at _ _ _ _ _).trans (Cert.Kernel4Ideal.Vals.G2_at m c _ _ _).symm

/-- Kernel and reference leave the same weight gradient. -/
theorem algebraic : Cert.algebraic_Kernel4Ideal_Reference4Ideal := fun m g m' g' _ hagree =>
  ⟨fun c => Cert.Kernel4Ideal.Value.G2 m c,
    (θ_run Cert.Kernel4Ideal.defs _ _).mono (fun _ h c => h c) (Cert.Kernel4Ideal.Value.run (F := Ideal) m g),
    (θ_run Cert.Reference4Ideal.defs _ _).mono
      (fun _ h c => ⟨(h c).1.trans (by
        have e0 := (hagree c).1
        have e1 := (hagree c).2
        show Cert.Reference4Ideal.Vals.dw _ _ = _
        rw [e0, e1]
        exact eqDw m c), (h c).2⟩)
      (Cert.Reference4Ideal.Value.run (F := Ideal) m' g')⟩

end Cert.Equation4

end
-- ==== Proof.QxVal.lean ====
/-
  The row gradient of the retention layer's projection as the kernel computes it: each output block is the sum, over
  four parts of 1536 columns, of the products of the gradient's columns with the weight's, so the array holds the sum over
  all 6144.
-/
module

public import proofs.«01_k».proof.Proof.Gen.Kernel5Ideal.Value
public import proofs.«01_k».proof.Proof.Spec
public import Idealize.ShloMosaic.Lib.Pipeline.ValueKit
public import Idealize.ShloMosaic.Lib.Pipeline.ReadBack

@[expose] public section

noncomputable section

namespace Cert.Kernel5Ideal.Vals

open Idealize.ShloMosaic Idealize.ShloMosaic.TcCoe Idealize.ShloMosaic.Pointwise
open Cert.Kernel5Ideal.Gen Cert.Kernel5Ideal.Value Cert.Spec

variable (m : (ℓ : Loc nD τ sig) → Buf (Elt Ideal) ℓ)

/-- One block's part of the sum: over the block's 1536 columns. -/
def part (x0 : Vec Ideal S1536x1536 .bf16) (x1 : Vec Ideal S1x1024x1536 .bf16) : Vec Ideal S1536x1024 .f32 :=
  fun j => ∑ k : Fin 1536, (x0 (ix2 (j 0) k) : EReal) * x1 (ix3 0 (j 1) k)

theorem pay2_eq (acc : Vec Ideal S1536x1024 .f32) (x0 : Vec Ideal S1536x1536 .bf16) (x1 : Vec Ideal S1x1024x1536 .bf16)
    (j : S1536x1024.Idx) : k0_pay2 acc x0 x1 j = (acc j : EReal) + part x0 x1 j := by
  rw [eq_ix2 j]
  generalize j 0 = a, j 1 = b
  unfold part
  pointwise [k0_pay2]

theorem pay1_eq (j : S1536x1024.Idx) : (k0_pay1 (F := Ideal) j : EReal) = 0 := by
  rw [eq_ix2 j]
  generalize j 0 = a, j 1 = b
  pointwise [k0_pay1]

/-- The running sum at a point that ends a run of four. -/
theorem acc_eq (c : Dev nD) (t : Fin cfg0.N) (h : t.val % 4 = 3) (j : S1536x1024.Idx) :
    ((outsAt0 m c t.val t.isLt).2 j : EReal)
      = ∑ s : Fin 4, part (iblk m c 0 ⟨4 * (t.val / 4) + s.val, Pipeline.run_point_lt_of_flush t h s⟩)
          (iblk m c 1 ⟨4 * (t.val / 4) + s.val, Pipeline.run_point_lt_of_flush t h s⟩) j := by
  rw [Pipeline.eq_sum_fin_of_reset_step_apply_of_flush (M := EReal) (fun n h => (outsAt0 m c n h).2) 4 (fun _ => 0)
    (fun t => part (iblk m c 0 t) (iblk m c 1 t))
    (fun t h j => by rw [outsAt0_A m c t h (by omega)]; frame_out; rw [pay2_eq, pay1_eq])
    (fun t h j => by
      by_cases h5 : t.val % 4 = 3
      · rw [outsAt0_C m c t h h5]; frame_out; rw [pay2_eq, read_unread_whole]
      · rw [outsAt0_B m c t h h5]; frame_out; rw [pay2_eq, read_unread_whole]) t h j, zero_add]

/-- What such a point writes back is that sum. -/
theorem out_eq (c : Dev nD) (t : Fin cfg0.N) (h : t.val % 4 = 3) (a : Fin 1536) (b : Fin 1024) :
    ((outsAt0 m c t.val t.isLt).1 (ix2 a b) : EReal) = (outsAt0 m c t.val t.isLt).2 (ix2 a b) := by
  rw [outsAt0_C m c t (by omega) h]
  frame_out
  pointwise [k0_pay3]

theorem idx0 : ∀ t : Fin cfg0.N, win0_0.index t (0 : Fin 2) = t.val / 4 ∧ win0_0.index t (1 : Fin 2) = t.val % 4 :=
  (by decide +kernel : ∀ t : Fin grid0.N, _)
theorem idx1 : ∀ t : Fin cfg0.N, win0_1.index t (0 : Fin 3) = t.val % 4 ∧ win0_1.index t (1 : Fin 3) = 0
    ∧ win0_1.index t (2 : Fin 3) = 0 :=
  (by decide +kernel : ∀ t : Fin grid0.N, _)

/-- The argument arrays of core `c`. -/
def dA (c : Dev nD) (r : Fin 9216) (x : Fin 6144) : EReal := m ((c : Thread nD τ).loc main_arg0) (ix2 r x)
def wA (c : Dev nD) (p : Fin 4) (a : Fin 1024) (b : Fin 1536) : EReal := m ((c : Thread nD τ).loc main_arg1) (ix3 p a b)

/-- The result array at an index: the sum over all columns of the gradient's row times the weight's. -/
theorem G2_at (c : Dev nD) (r : Fin 9216) (a : Fin 1024) :
    (G2 m c (ix2 r a) : EReal) = ∑ x : Fin 6144, dA m c r x
      * wA m c ⟨x.val / 1536, by omega⟩ a ⟨x.val % 1536, by omega⟩ := by
  have hN : cfg0.N = 24 := N_0
  have hp : pt2Of (ix2 r a : S9216x1024.Idx) = 4 * (r.val / 1536) + 3 := by
    show 4 * (1 * (r.val / 1536 - 0) + 1 * (a.val / 1024 - 0)) + 3 = _
    omega
  have hl : loc2Of (ix2 r a : S9216x1024.Idx) = ix2 ⟨r.val % 1536, by omega⟩ a := by
    funext x; apply Fin.ext
    match x with
    | ⟨0, _⟩ => show r.val % 1536 = r.val % 1536; rfl
    | ⟨1, _⟩ => show a.val % 1024 = a.val; omega
  have ht : (4 * (r.val / 1536) + 3) % 4 = 3 := by omega
  have hd : (4 * (r.val / 1536) + 3) / 4 = r.val / 1536 := by omega
  unfold G2
  rw [dif_pos (by rw [hp]; omega), hl, fold0_congr m c _ _ _ (by omega) hp, ← outsAt0_sweep m c _ (by omega),
    out_eq m c ⟨4 * (r.val / 1536) + 3, by omega⟩ ht, acc_eq m c ⟨4 * (r.val / 1536) + 3, by omega⟩ ht]
  refine Fin.sum_mul_add_congr fun s k hl => ?_
  obtain ⟨e0, e1⟩ := idx0 ⟨4 * ((4 * (r.val / 1536) + 3) / 4) + s.val, by omega⟩
  obtain ⟨f0, f1, f2⟩ := idx1 ⟨4 * ((4 * (r.val / 1536) + 3) / 4) + s.val, by omega⟩
  dsimp only at e0 e1 f0 f1 f2
  unfold dA wA
  congr 1 <;> blk_ext [iblk, V, e0, e1, f0, f1, f2]

end Cert.Kernel5Ideal.Vals

end
-- ==== Proof.QxRef.lean ====
/-
  The row gradient of the retention layer's projection: the reference's array at an index, and the equation with the kernel's.
-/
module

public import proofs.«01_k».proof.Defs
public import proofs.«01_k».proof.Proof.Gen.Reference5Ideal.Run
public import Idealize.ShloMosaic.Lib.Pipeline.ValueKit
public import proofs.«01_k».proof.Proof.QxVal

@[expose] public section

noncomputable section

namespace Cert.Reference5Ideal.Vals

open Idealize.ShloMosaic Idealize.ShloMosaic.TcCoe Idealize.ShloMosaic.Pointwise
open Cert.Reference5Ideal Cert.Reference5Ideal.Gen Cert.Reference5Ideal.Value

/-- The reference's array as a function of its arguments. -/
def dx (d : FVec Ideal S9216x6144 .bf16) (w : FVec Ideal S4x1024x1536 .bf16) : FVec Ideal S9216x1024 .bf16 :=
  truncf .bf16 (Host.dotGeneral dot_S9216x6144_S1024x6144_S9216x1024_1_1_0_0_n_n none (extf .f32 d bitsLt_bf16_f32) (shapeCast _ (transpose S1024x4x1536 [1, 0, 2] (extf .f32 w bitsLt_bf16_f32) transposes_S4x1024x1536_S1024x4x1536_1_0_2) shapeCasts_S1024x4x1536_S1024x6144)) bitsLt_bf16_f32

theorem dx_at (d : FVec Ideal S9216x6144 .bf16) (w : FVec Ideal S4x1024x1536 .bf16) (r : Fin 9216) (a : Fin 1024) :
    (dx d w (ix2 r a) : EReal) = ∑ x : Fin 6144, (d (ix2 r x) : EReal)
      * w (ix3 (⟨x.val / 1536, by omega⟩ : Fin 4) a (⟨x.val % 1536, by omega⟩ : Fin 1536)) := by
  pointwise [dx]

end Cert.Reference5Ideal.Vals

namespace Cert.Equation5

open Idealize.ShloMosaic Idealize.SL.Sem Idealize.ShloMosaic.Pointwise
open Idealize.ShloMosaic.TcCoe

theorem eqDx (m : (ℓ : Loc Cert.Kernel5Ideal.nD Cert.Kernel5Ideal.τ Cert.Kernel5Ideal.sig) → Buf (Elt Ideal) ℓ)
    (c : Dev Cert.Kernel5Ideal.nD) :
    Cert.Reference5Ideal.Vals.dx (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)) = Cert.Kernel5Ideal.Value.G2 m c := by
  funext i
  have e : i = ix2 (n0 := 9216) (n1 := 1024) (i 0) (i 1) := eq_ix2 (n0 := 9216) (n1 := 1024) i
  rw [e]
  exact (Cert.Reference5Ideal.Vals.dx_at _ _ _ _).trans (Cert.Kernel5Ideal.Vals.G2_at m c _ _).symm

/-- Kernel and reference leave the same row gradient. -/
theorem algebraic : Cert.algebraic_Kernel5Ideal_Reference5Ideal := fun m g m' g' _ hagree =>
  ⟨fun c => Cert.Kernel5Ideal.Value.G2 m c,
    (θ_run Cert.Kernel5Ideal.defs _ _).mono (fun _ h c => h c) (Cert.Kernel5Ideal.Value.run (F := Ideal) m g),
    (θ_run Cert.Reference5Ideal.defs _ _).mono
      (fun _ h c => ⟨(h c).1.trans (by
        have e0 := (hagree c).1
        have e1 := (hagree c).2
        show Cert.Reference5Ideal.Vals.dx _ _ = _
        rw [e0, e1]
        exact eqDx m c), (h c).2⟩)
      (Cert.Reference5Ideal.Value.run (F := Ideal) m' g')⟩

end Cert.Equation5

end
-- ==== Proof.QfVal.lean ====
/-
  The retention layer's projection as the kernel computes it: each grid point writes one block of 1536 rows and 1536
  columns, the rows times one of the weight's four parts, so the array holds the rows times the four parts side by side.
-/
module

public import proofs.«01_k».proof.Proof.Gen.Kernel6Ideal.Value
public import proofs.«01_k».proof.Proof.Spec
public import Idealize.ShloMosaic.Lib.Pipeline.ValueKit
public import Idealize.ShloMosaic.Lib.Pipeline.ReadBack

@[expose] public section

noncomputable section

namespace Cert.Kernel6Ideal.Vals

open Idealize.ShloMosaic Idealize.ShloMosaic.TcCoe Idealize.ShloMosaic.Pointwise
open Cert.Kernel6Ideal.Gen Cert.Kernel6Ideal.Value Cert.Spec

variable (m : (ℓ : Loc nD τ sig) → Buf (Elt Ideal) ℓ)

theorem pay1_at (x0 : Vec Ideal S1536x1024 .bf16) (x1 : Vec Ideal S1x1024x1536 .bf16) (a : Fin 1536) (b : Fin 1536) :
    (k0_pay1 x0 x1 (ix2 a b) : EReal) = ∑ k : Fin 1024, (x0 (ix2 a k) : EReal) * x1 (ix3 0 k b) := by
  pointwise [k0_pay1]

/-- The block a grid point leaves is the product of its row block and its part of the weight. -/
theorem out_at (x0 : Vec Ideal S1536x1024 .bf16) (x1 : Vec Ideal S1x1024x1536 .bf16) (a : Fin 1536) (b : Fin 1536) :
    (out0_2 x0 x1 (ix2 a b) : EReal) = ∑ k : Fin 1024, (x0 (ix2 a k) : EReal) * x1 (ix3 0 k b) := by
  frame_out
  exact pay1_at x0 x1 a b

theorem idx0 : ∀ t : Fin cfg0.N, win0_0.index t (0 : Fin 2) = t.val / 4 ∧ win0_0.index t (1 : Fin 2) = 0 :=
  (by decide +kernel : ∀ t : Fin grid0.N, _)
theorem idx1 : ∀ t : Fin cfg0.N, win0_1.index t (0 : Fin 3) = t.val % 4 ∧ win0_1.index t (1 : Fin 3) = 0
    ∧ win0_1.index t (2 : Fin 3) = 0 :=
  (by decide +kernel : ∀ t : Fin grid0.N, _)
theorem idx2 : ∀ t : Fin cfg0.N, win0_2.index t (0 : Fin 2) = t.val / 4 ∧ win0_2.index t (1 : Fin 2) = t.val % 4 :=
  (by decide +kernel : ∀ t : Fin grid0.N, _)

/-- The argument arrays of core `c`. -/
def hA (c : Dev nD) (r : Fin 9216) (k : Fin 1024) : EReal := m ((c : Thread nD τ).loc main_arg0) (ix2 r k)
def wA (c : Dev nD) (p : Fin 4) (k : Fin 1024) (b : Fin 1536) : EReal := m ((c : Thread nD τ).loc main_arg1) (ix3 p k b)

/-- The product at row `r` and column `x`. -/
def prod (c : Dev nD) (r : Fin 9216) (x : Fin 6144) : EReal :=
  ∑ k : Fin 1024, hA m c r k * wA m c ⟨x.val / 1536, by omega⟩ k ⟨x.val % 1536, by omega⟩

/-- The product as an array. -/
def GP (c : Dev nD) : (⟨2, ![9216, 6144]⟩ : Shape).Idx → EReal := fun i => prod m c (i 0) (i 1)

theorem blk_at (c : Dev nD) (t : Fin cfg0.N) (a : Fin 1536) (b : Fin 1536) (r : Fin 9216) (x : Fin 6144)
    (hr : r.val = 1536 * (t.val / 4) + a.val) (hx : x.val = 1536 * (t.val % 4) + b.val) :
    (out0_2 (iblk m c 0 t) (iblk m c 1 t) (ix2 a b) : EReal) = prod m c r x := by
  refine (out_at (iblk m c 0 t) (iblk m c 1 t) a b).trans ?_
  unfold prod
  refine Finset.sum_congr rfl fun k _ => ?_
  obtain ⟨e0, e1⟩ := idx0 t
  obtain ⟨f0, f1, f2⟩ := idx1 t
  unfold hA wA
  congr 1 <;> blk_ext [iblk, V, e0, e1, f0, f1, f2]

theorem emb_row (t : Fin cfg0.N) (j : S1536x1536.Idx) :
    (((cfg0.win 2).blk t).view.emb j (0 : Fin 2)).val = 1536 * (t.val / 4) + (j 0).val := by
  obtain ⟨e0, e1⟩ := idx2 t
  show win0_2.index t (0 : Fin 2) * 1536 + 1 * (j 0).val = _
  omega
theorem emb_col (t : Fin cfg0.N) (j : S1536x1536.Idx) :
    (((cfg0.win 2).blk t).view.emb j (1 : Fin 2)).val = 1536 * (t.val % 4) + (j 1).val := by
  obtain ⟨e0, e1⟩ := idx2 t
  show win0_2.index t (1 : Fin 2) * 1536 + 1 * (j 1).val = _
  omega

theorem flushed_eq (c : Dev nD) (t : Fin cfg0.N) :
    (dats m 0 c).flushed 2 t = ((cfg0.win 2).blk t).view.read (Elt Ideal) (GP m c) := by
  rw [flushed2 m c t]
  funext j
  show out0_2 (iblk m c 0 t) (iblk m c 1 t) j = prod m c (((cfg0.win 2).blk t).view.emb j (0 : Fin 2))
    (((cfg0.win 2).blk t).view.emb j (1 : Fin 2))
  rw [← blk_at m c t (j 0) (j 1) _ _ (emb_row t j) (emb_col t j)]
  exact congrArg (out0_2 (iblk m c 0 t) (iblk m c 1 t)) (eq_ix2 j)

theorem covered (i : S9216x6144.Idx) :
    ∃ t : Fin cfg0.N, (cfg0.win 2).flush t = true ∧ i ∈ ((cfg0.win 2).blk t).view.set := by
  have h0 : (i 0).val < 9216 := (i 0).isLt
  have h1 : (i 1).val < 6144 := (i 1).isLt
  let t : Fin cfg0.N := ⟨4 * ((i 0).val / 1536) + (i 1).val / 1536, by show _ < 24; omega⟩
  refine ⟨t, flush0_2 t, ?_⟩
  let j : S1536x1536.Idx := ix2 ⟨(i 0).val % 1536, Nat.mod_lt _ (by decide)⟩ ⟨(i 1).val % 1536, Nat.mod_lt _ (by decide)⟩
  have e : ((cfg0.win 2).blk t).view.emb j = i := by
    funext a
    apply Fin.ext
    match a with
    | ⟨0, _⟩ =>
      refine (emb_row t j).trans ?_
      show 1536 * ((4 * ((i 0).val / 1536) + (i 1).val / 1536) / 4) + (i 0).val % 1536 = (i 0).val
      omega
    | ⟨1, _⟩ =>
      refine (emb_col t j).trans ?_
      show 1536 * ((4 * ((i 0).val / 1536) + (i 1).val / 1536) % 4) + (i 1).val % 1536 = (i 1).val
      omega
  have h := ((cfg0.win 2).blk t).view.emb_mem_set j
  rwa [e] at h

/-- The array after the run is the product. -/
theorem final (c : Dev nD) : (dats m 0 c).arrAt 2 cfg0.N = GP m c :=
  (dats m 0 c).arrAt_eq_of_cover 2 (GP m c) (fun t _ => flushed_eq m c t) covered

end Cert.Kernel6Ideal.Vals

end
-- ==== Proof.QfRef.lean ====
/-
  The retention layer's projection: the reference's array at an index, and the equation with the kernel's.
-/
module

public import proofs.«01_k».proof.Defs
public import proofs.«01_k».proof.Proof.Gen.Reference6Ideal.Run
public import Idealize.ShloMosaic.Lib.Pipeline.ValueKit
public import proofs.«01_k».proof.Proof.QfVal

@[expose] public section

noncomputable section

namespace Cert.Reference6Ideal.Vals

open Idealize.ShloMosaic Idealize.ShloMosaic.TcCoe Idealize.ShloMosaic.Pointwise
open Cert.Reference6Ideal Cert.Reference6Ideal.Gen Cert.Reference6Ideal.Value

/-- The reference's array as a function of its arguments. -/
def pr (h : FVec Ideal S9216x1024 .bf16) (w : FVec Ideal S4x1024x1536 .bf16) : FVec Ideal S9216x6144 .bf16 :=
  truncf .bf16 (Host.dotGeneral dot_S9216x1024_S1024x6144_S9216x6144_1_0_0_1_n_n none (extf .f32 h bitsLt_bf16_f32) (shapeCast _ (transpose S1024x4x1536 [1, 0, 2] (extf .f32 w bitsLt_bf16_f32) transposes_S4x1024x1536_S1024x4x1536_1_0_2) shapeCasts_S1024x4x1536_S1024x6144)) bitsLt_bf16_f32

theorem pr_at (h : FVec Ideal S9216x1024 .bf16) (w : FVec Ideal S4x1024x1536 .bf16) (r : Fin 9216) (x : Fin 6144) :
    (pr h w (ix2 r x) : EReal) = ∑ k : Fin 1024, (h (ix2 r k) : EReal)
      * w (ix3 (⟨x.val / 1536, by omega⟩ : Fin 4) k (⟨x.val % 1536, by omega⟩ : Fin 1536)) := by
  pointwise [pr]

end Cert.Reference6Ideal.Vals

namespace Cert.Equation6

open Idealize.ShloMosaic Idealize.SL.Sem Idealize.ShloMosaic.Pointwise
open Idealize.ShloMosaic.TcCoe

theorem eqPr (m : (ℓ : Loc Cert.Kernel6Ideal.nD Cert.Kernel6Ideal.τ Cert.Kernel6Ideal.sig) → Buf (Elt Ideal) ℓ)
    (c : Dev Cert.Kernel6Ideal.nD) :
    Cert.Reference6Ideal.Vals.pr (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1)) = Cert.Kernel6Ideal.Vals.GP m c := by
  funext i
  have e : i = ix2 (n0 := 9216) (n1 := 6144) (i 0) (i 1) := eq_ix2 (n0 := 9216) (n1 := 6144) i
  rw [e]
  exact Cert.Reference6Ideal.Vals.pr_at _ _ _ _

/-- Kernel and reference leave the same product. -/
theorem algebraic : Cert.algebraic_Kernel6Ideal_Reference6Ideal := fun m g m' g' _ hagree =>
  ⟨fun c => Cert.Kernel6Ideal.Vals.GP m c,
    (θ_run Cert.Kernel6Ideal.defs _ _).mono (fun _ h c => ⟨(h c).1.trans (Cert.Kernel6Ideal.Vals.final m c), (h c).2⟩)
      (Cert.Kernel6Ideal.Value.run_blocks (F := Ideal) m g),
    (θ_run Cert.Reference6Ideal.defs _ _).mono
      (fun _ h c => ⟨(h c).1.trans (by
        have e0 := (hagree c).1
        have e1 := (hagree c).2
        show Cert.Reference6Ideal.Vals.pr _ _ = _
        rw [e0, e1]
        exact eqPr m c), (h c).2⟩)
      (Cert.Reference6Ideal.Value.run (F := Ideal) m' g')⟩

end Cert.Equation6

end
-- ==== Proof.OwVal.lean ====
/-
  The gradient of the feed-forward's second weight as the kernel computes it: each output block is the sum, over six
  blocks of 1536 rows, of the products of the rows' columns, so the array holds the sum over all 9216 rows.
-/
module

public import proofs.«01_k».proof.Proof.Gen.Kernel7Ideal.Value
public import proofs.«01_k».proof.Proof.Spec
public import Idealize.ShloMosaic.Lib.Pipeline.ValueKit
public import Idealize.ShloMosaic.Lib.Pipeline.ReadBack

@[expose] public section

noncomputable section

namespace Cert.Kernel7Ideal.Vals

open Idealize.ShloMosaic Idealize.ShloMosaic.TcCoe Idealize.ShloMosaic.Pointwise
open Cert.Kernel7Ideal.Gen Cert.Kernel7Ideal.Value Cert.Spec

variable (m : (ℓ : Loc nD τ sig) → Buf (Elt Ideal) ℓ)

/-- One block's part of the sum: over the block's 1536 rows. -/
def part (x0 : Vec Ideal S1536x1408 .bf16) (x1 : Vec Ideal S1536x1024 .bf16) : Vec Ideal S1408x1024 .f32 :=
  fun j => ∑ k : Fin 1536, (x0 (ix2 k (j 0)) : EReal) * x1 (ix2 k (j 1))

theorem pay2_eq (acc : Vec Ideal S1408x1024 .f32) (x0 : Vec Ideal S1536x1408 .bf16) (x1 : Vec Ideal S1536x1024 .bf16)
    (j : S1408x1024.Idx) : k0_pay2 acc x0 x1 j = (acc j : EReal) + part x0 x1 j := by
  rw [eq_ix2 j]
  generalize j 0 = a, j 1 = b
  unfold part
  pointwise [k0_pay2]

theorem pay1_eq (j : S1408x1024.Idx) : (k0_pay1 (F := Ideal) j : EReal) = 0 := by
  rw [eq_ix2 j]
  generalize j 0 = a, j 1 = b
  pointwise [k0_pay1]

/-- The running sum at a point that ends a run of six. -/
theorem acc_eq (c : Dev nD) (t : Fin cfg0.N) (h : t.val % 6 = 5) (j : S1408x1024.Idx) :
    ((outsAt0 m c t.val t.isLt).2 j : EReal)
      = ∑ s : Fin 6, part (iblk m c 0 ⟨6 * (t.val / 6) + s.val, Pipeline.run_point_lt_of_flush t h s⟩)
          (iblk m c 1 ⟨6 * (t.val / 6) + s.val, Pipeline.run_point_lt_of_flush t h s⟩) j := by
  rw [Pipeline.eq_sum_fin_of_reset_step_apply_of_flush (M := EReal) (fun n h => (outsAt0 m c n h).2) 6 (fun _ => 0)
    (fun t => part (iblk m c 0 t) (iblk m c 1 t))
    (fun t h j => by rw [outsAt0_A m c t h (by omega)]; frame_out; rw [pay2_eq, pay1_eq])
    (fun t h j => by
      by_cases h5 : t.val % 6 = 5
      · rw [outsAt0_C m c t h h5]; frame_out; rw [pay2_eq, read_unread_whole]
      · rw [outsAt0_B m c t h h5]; frame_out; rw [pay2_eq, read_unread_whole]) t h j, zero_add]

/-- What such a point writes back is that sum. -/
theorem out_eq (c : Dev nD) (t : Fin cfg0.N) (h : t.val % 6 = 5) (a : Fin 1408) (b : Fin 1024) :
    ((outsAt0 m c t.val t.isLt).1 (ix2 a b) : EReal) = (outsAt0 m c t.val t.isLt).2 (ix2 a b) := by
  rw [outsAt0_C m c t (by omega) h]
  frame_out
  pointwise [k0_pay3]

theorem idx0 : ∀ t : Fin cfg0.N, win0_0.index t (0 : Fin 2) = t.val % 6 ∧ win0_0.index t (1 : Fin 2) = t.val / 6 :=
  (by decide +kernel : ∀ t : Fin grid0.N, _)
theorem idx1 : ∀ t : Fin cfg0.N, win0_1.index t (0 : Fin 2) = t.val % 6 ∧ win0_1.index t (1 : Fin 2) = 0 :=
  (by decide +kernel : ∀ t : Fin grid0.N, _)

/-- The argument arrays of core `c`. -/
def aA (c : Dev nD) (r : Fin 9216) (x : Fin 2816) : EReal := m ((c : Thread nD τ).loc main_arg0) (ix2 r x)
def dA (c : Dev nD) (r : Fin 9216) (x : Fin 1024) : EReal := m ((c : Thread nD τ).loc main_arg1) (ix2 r x)

/-- The result array at an index: the sum over all rows of the one array's column times the other's. -/
theorem G2_at (c : Dev nD) (a : Fin 2816) (b : Fin 1024) :
    (G2 m c (ix2 a b) : EReal) = ∑ r : Fin 9216, aA m c r a * dA m c r b := by
  have hN : cfg0.N = 12 := N_0
  have hp : pt2Of (ix2 a b : S2816x1024.Idx) = 6 * (a.val / 1408) + 5 := by
    show 6 * (1 * (a.val / 1408 - 0) + 1 * (b.val / 1024 - 0)) + 5 = _
    omega
  have hl : loc2Of (ix2 a b : S2816x1024.Idx) = ix2 ⟨a.val % 1408, by omega⟩ b := by
    funext x; apply Fin.ext
    match x with
    | ⟨0, _⟩ => show a.val % 1408 = a.val % 1408; rfl
    | ⟨1, _⟩ => show b.val % 1024 = b.val; omega
  have ht : (6 * (a.val / 1408) + 5) % 6 = 5 := by omega
  have hd : (6 * (a.val / 1408) + 5) / 6 = a.val / 1408 := by omega
  unfold G2
  rw [dif_pos (by rw [hp]; omega), hl, fold0_congr m c _ _ _ (by omega) hp, ← outsAt0_sweep m c _ (by omega),
    out_eq m c ⟨6 * (a.val / 1408) + 5, by omega⟩ ht, acc_eq m c ⟨6 * (a.val / 1408) + 5, by omega⟩ ht]
  refine Fin.sum_mul_add_congr fun s k hl => ?_
  obtain ⟨e0, e1⟩ := idx0 ⟨6 * ((6 * (a.val / 1408) + 5) / 6) + s.val, by omega⟩
  obtain ⟨f0, f1⟩ := idx1 ⟨6 * ((6 * (a.val / 1408) + 5) / 6) + s.val, by omega⟩
  dsimp only at e0 e1 f0 f1
  unfold aA dA
  congr 1 <;> blk_ext [iblk, V, e0, e1, f0, f1]

end Cert.Kernel7Ideal.Vals

end
-- ==== Proof.OwRef.lean ====
/-
  The gradient of the feed-forward's second weight: the reference's array at an index, and the equation with the kernel's.
-/
module

public import proofs.«01_k».proof.Defs
public import proofs.«01_k».proof.Proof.Gen.Reference7Ideal.Run
public import Idealize.ShloMosaic.Lib.Pipeline.ValueKit
public import proofs.«01_k».proof.Proof.OwVal

@[expose] public section

noncomputable section

namespace Cert.Reference7Ideal.Vals

open Idealize.ShloMosaic Idealize.ShloMosaic.TcCoe Idealize.ShloMosaic.Pointwise
open Cert.Reference7Ideal Cert.Reference7Ideal.Gen Cert.Reference7Ideal.Value

/-- The reference's array as a function of its arguments. -/
def dw (x : FVec Ideal S9216x2816 .bf16) (d : FVec Ideal S9216x1024 .bf16) : FVec Ideal S2816x1024 .bf16 :=
  truncf .bf16 (transpose S2816x1024 [1, 0] (Host.dotGeneral dot_S9216x1024_S9216x2816_S1024x2816_0_0_1_1_n_n none (extf .f32 d bitsLt_bf16_f32) (extf .f32 x bitsLt_bf16_f32)) transposes_S1024x2816_S2816x1024_1_0) bitsLt_bf16_f32

theorem dw_at (x : FVec Ideal S9216x2816 .bf16) (d : FVec Ideal S9216x1024 .bf16) (a : Fin 2816) (b : Fin 1024) :
    (dw x d (ix2 a b) : EReal) = ∑ r : Fin 9216, (x (ix2 r a) : EReal) * d (ix2 r b) := by
  pointwise [dw]
  refine Finset.sum_congr rfl fun r _ => ?_
  exact mul_comm (_ : EReal) _

end Cert.Reference7Ideal.Vals

namespace Cert.Equation7

open Idealize.ShloMosaic Idealize.SL.Sem Idealize.ShloMosaic.Pointwise
open Idealize.ShloMosaic.TcCoe

theorem eqDw (m : (ℓ : Loc Cert.Kernel7Ideal.nD Cert.Kernel7Ideal.τ Cert.Kernel7Ideal.sig) → Buf (Elt Ideal) ℓ)
    (c : Dev Cert.Kernel7Ideal.nD) :
    Cert.Reference7Ideal.Vals.dw (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1)) = Cert.Kernel7Ideal.Value.G2 m c := by
  funext i
  have e : i = ix2 (n0 := 2816) (n1 := 1024) (i 0) (i 1) := eq_ix2 (n0 := 2816) (n1 := 1024) i
  rw [e]
  exact (Cert.Reference7Ideal.Vals.dw_at _ _ _ _).trans (Cert.Kernel7Ideal.Vals.G2_at m c _ _).symm

/-- Kernel and reference leave the same weight gradient. -/
theorem algebraic : Cert.algebraic_Kernel7Ideal_Reference7Ideal := fun m g m' g' _ hagree =>
  ⟨fun c => Cert.Kernel7Ideal.Value.G2 m c,
    (θ_run Cert.Kernel7Ideal.defs _ _).mono (fun _ h c => h c) (Cert.Kernel7Ideal.Value.run (F := Ideal) m g),
    (θ_run Cert.Reference7Ideal.defs _ _).mono
      (fun _ h c => ⟨(h c).1.trans (by
        have e0 := (hagree c).1
        have e1 := (hagree c).2
        show Cert.Reference7Ideal.Vals.dw _ _ = _
        rw [e0, e1]
        exact eqDw m c), (h c).2⟩)
      (Cert.Reference7Ideal.Value.run (F := Ideal) m' g')⟩

end Cert.Equation7

end
-- ==== Proof.FfVal.lean ====
/-
  The feed-forward's first product with its gate as the kernel computes them: each grid point forms, for one block of 768
  rows and 1408 columns, the rows times a gate part and times an up part of the weight, writes both, and writes the gate
  passed through x * sigmoid(x) times the up values.
-/
module

public import proofs.«01_k».proof.Proof.Gen.Kernel8Ideal.Value
public import proofs.«01_k».proof.Proof.Spec
public import Idealize.ShloMosaic.Lib.Pipeline.ValueKit
public import Idealize.ShloMosaic.Lib.Pipeline.ReadBack

@[expose] public section

noncomputable section

namespace Cert.Kernel8Ideal.Vals

open Idealize.ShloMosaic Idealize.ShloMosaic.TcCoe Idealize.ShloMosaic.Pointwise
open Cert.Kernel8Ideal.Gen Cert.Kernel8Ideal.Value Cert.Spec

variable (m : (ℓ : Loc nD τ sig) → Buf (Elt Ideal) ℓ)

/-- The gated value of a gate `g` and an up value `u`: `g * sigmoid(g) * u`. -/
def swi (g u : EReal) : EReal := g * Ideal.div 1 (1 + Ideal.exp (-g)) * u

/-- A row block times one part of the weight, at an index. -/
def bl (x0 : Vec Ideal S768x1024 .bf16) (x1 : Vec Ideal S1x1024x1408 .bf16) (a : Fin 768) (b : Fin 1408) : EReal :=
  ∑ k : Fin 1024, (x0 (ix2 a k) : EReal) * x1 (ix3 0 k b)

theorem pay3_at (x0 : Vec Ideal S768x1024 .bf16) (x1 : Vec Ideal S1x1024x1408 .bf16) (a : Fin 768) (b : Fin 1408) :
    (k0_pay3 x0 x1 (ix3 0 a b) : EReal) = bl x0 x1 a b := by
  unfold bl
  pointwise [k0_pay3, k0_pay1]

theorem pay4_at (x0 : Vec Ideal S768x1024 .bf16) (x2 : Vec Ideal S1x1024x1408 .bf16) (a : Fin 768) (b : Fin 1408) :
    (k0_pay4 x0 x2 (ix3 0 a b) : EReal) = bl x0 x2 a b := by
  unfold bl
  pointwise [k0_pay4, k0_pay2]

theorem pay5_at (x0 : Vec Ideal S768x1024 .bf16) (x1 x2 : Vec Ideal S1x1024x1408 .bf16) (a : Fin 768) (b : Fin 1408) :
    (k0_pay5 x0 x1 x2 (ix2 a b) : EReal) = swi (bl x0 x1 a b) (bl x0 x2 a b) := by
  unfold swi
  rw [← zero_sub]
  unfold bl
  pointwise [k0_pay5, k0_pay1, k0_pay2]

theorem ld_h (x0 : Vec Ideal S768x1024 .bf16) : View.ld x0 r0_0 = x0 := View.ld_unit_lit _ x0 (by decide)
theorem ld_w (x1 : Vec Ideal S1x1024x1408 .bf16) : View.ld x1 r0_1 = x1 := View.ld_unit_lit _ x1 (by decide)

theorem emb_up (a : Fin 768) (b : Fin 1408) :
    r0_3.emb (ix3 (n0 := 1) (n1 := 768) (n2 := 1408) 0 a b) = (ix3 (n0 := 2) (n1 := 768) (n2 := 1408) 1 a b) := by
  funext x; apply Fin.ext
  match x with
  | ⟨0, _⟩ => rfl
  | ⟨1, _⟩ => show 0 + 1 * a.val = a.val; omega
  | ⟨2, _⟩ => show 0 + 1 * b.val = b.val; omega

theorem emb_gate (a : Fin 768) (b : Fin 1408) :
    r0_2.emb (ix3 (n0 := 1) (n1 := 768) (n2 := 1408) 0 a b) = (ix3 (n0 := 2) (n1 := 768) (n2 := 1408) 0 a b) := by
  funext x; apply Fin.ext
  match x with
  | ⟨0, _⟩ => rfl
  | ⟨1, _⟩ => show 0 + 1 * a.val = a.val; omega
  | ⟨2, _⟩ => show 0 + 1 * b.val = b.val; omega

theorem not_up (a : Fin 768) (b : Fin 1408) : (ix3 (n0 := 2) (n1 := 768) (n2 := 1408) 0 a b) ∉ r0_3.set := by
  intro h
  obtain ⟨x, e⟩ := r0_3.exists_idx_of_mem h
  have e0 := congrArg (fun y : S2x768x1408.Idx => (y 0).val) e
  have e1 : 1 + 1 * (x 0).val = 0 := e0
  omega

/-- Two stores of one plane each: plane 1 reads the later store, -/
theorem canon_up (p q : Vec Ideal S1x768x1408 .bf16) (a : Fin 768) (b : Fin 1408) :
    View.canon ([⟨r0_3, p⟩, ⟨r0_2, q⟩] : List (View.Piece (Elt Ideal) S2x768x1408 .bf16)) (ix3 1 a b) = p (ix3 0 a b) := by
  have h := View.canon_cons_emb (Val := Elt Ideal) r0_3 p
    ([⟨r0_2, q⟩] : List (View.Piece (Elt Ideal) S2x768x1408 .bf16)) (ix3 (n0 := 1) (n1 := 768) (n2 := 1408) 0 a b)
  rwa [emb_up a b] at h

/-- and plane 0 the earlier. -/
theorem canon_gate (p q : Vec Ideal S1x768x1408 .bf16) (a : Fin 768) (b : Fin 1408) :
    View.canon ([⟨r0_3, p⟩, ⟨r0_2, q⟩] : List (View.Piece (Elt Ideal) S2x768x1408 .bf16)) (ix3 0 a b) = q (ix3 0 a b) := by
  have h := View.canon_cons_emb (Val := Elt Ideal) r0_2 q
    ([] : List (View.Piece (Elt Ideal) S2x768x1408 .bf16)) (ix3 (n0 := 1) (n1 := 768) (n2 := 1408) 0 a b)
  rw [emb_gate a b] at h
  have k := View.canon_cons_of_not_mem (Val := Elt Ideal) (⟨r0_3, p⟩ : View.Piece (Elt Ideal) S2x768x1408 .bf16)
    ([⟨r0_2, q⟩] : List (View.Piece (Elt Ideal) S2x768x1408 .bf16)) (not_up a b)
  exact k.trans h

theorem out3_up (x0 : Vec Ideal S768x1024 .bf16) (x1 x2 : Vec Ideal S1x1024x1408 .bf16) (a : Fin 768) (b : Fin 1408) :
    (out0_3 x0 x1 x2 (ix3 1 a b) : EReal) = bl x0 x2 a b := by
  unfold out0_3
  rw [ld_h, ld_w, ld_w]
  exact (canon_up (k0_pay4 x0 x2) (k0_pay3 x0 x1) a b).trans (pay4_at x0 x2 a b)

theorem out3_gate (x0 : Vec Ideal S768x1024 .bf16) (x1 x2 : Vec Ideal S1x1024x1408 .bf16) (a : Fin 768) (b : Fin 1408) :
    (out0_3 x0 x1 x2 (ix3 0 a b) : EReal) = bl x0 x1 a b := by
  unfold out0_3
  rw [ld_h, ld_w, ld_w]
  exact (canon_gate (k0_pay4 x0 x2) (k0_pay3 x0 x1) a b).trans (pay3_at x0 x1 a b)

theorem out4_at (x0 : Vec Ideal S768x1024 .bf16) (x1 x2 : Vec Ideal S1x1024x1408 .bf16) (a : Fin 768) (b : Fin 1408) :
    (out0_4 x0 x1 x2 (ix2 a b) : EReal) = swi (bl x0 x1 a b) (bl x0 x2 a b) := by
  frame_out
  exact pay5_at x0 x1 x2 a b

theorem idx0 : ∀ t : Fin cfg0.N, win0_0.index t (0 : Fin 2) = t.val / 2 ∧ win0_0.index t (1 : Fin 2) = 0 :=
  (by decide +kernel : ∀ t : Fin grid0.N, _)
theorem idx1 : ∀ t : Fin cfg0.N, win0_1.index t (0 : Fin 3) = t.val % 2 ∧ win0_1.index t (1 : Fin 3) = 0
    ∧ win0_1.index t (2 : Fin 3) = 0 :=
  (by decide +kernel : ∀ t : Fin grid0.N, _)
theorem idx2 : ∀ t : Fin cfg0.N, win0_2.index t (0 : Fin 3) = t.val % 2 + 2 ∧ win0_2.index t (1 : Fin 3) = 0
    ∧ win0_2.index t (2 : Fin 3) = 0 :=
  (by decide +kernel : ∀ t : Fin grid0.N, _)
theorem idx3 : ∀ t : Fin cfg0.N, win0_3.index t (0 : Fin 3) = 0 ∧ win0_3.index t (1 : Fin 3) = t.val / 2
    ∧ win0_3.index t (2 : Fin 3) = t.val % 2 :=
  (by decide +kernel : ∀ t : Fin grid0.N, _)
theorem idx4 : ∀ t : Fin cfg0.N, win0_4.index t (0 : Fin 2) = t.val / 2 ∧ win0_4.index t (1 : Fin 2) = t.val % 2 :=
  (by decide +kernel : ∀ t : Fin grid0.N, _)

/-- The argument arrays of core `c`. -/
def hA (c : Dev nD) (r : Fin 9216) (k : Fin 1024) : EReal := m ((c : Thread nD τ).loc main_arg0) (ix2 r k)
def wA (c : Dev nD) (p : Fin 4) (k : Fin 1024) (b : Fin 1408) : EReal := m ((c : Thread nD τ).loc main_arg1) (ix3 p k b)

/-- The product's half `q` at row `r` and column `x`: half 0 is the gate, half 1 the up values. -/
def prod (c : Dev nD) (q : Fin 2) (r : Fin 9216) (x : Fin 2816) : EReal :=
  ∑ k : Fin 1024, hA m c r k * wA m c ⟨2 * q.val + x.val / 1408, by omega⟩ k ⟨x.val % 1408, by omega⟩

/-- The two halves as an array. -/
def GU (c : Dev nD) : (⟨3, ![2, 9216, 2816]⟩ : Shape).Idx → EReal := fun i => prod m c (i 0) (i 1) (i 2)

/-- The gated values as an array. -/
def GA (c : Dev nD) : (⟨2, ![9216, 2816]⟩ : Shape).Idx → EReal :=
  fun i => swi (prod m c 0 (i 0) (i 1)) (prod m c 1 (i 0) (i 1))

theorem bl_gate (c : Dev nD) (t : Fin cfg0.N) (a : Fin 768) (b : Fin 1408) (r : Fin 9216) (x : Fin 2816)
    (hr : r.val = 768 * (t.val / 2) + a.val) (hx : x.val = 1408 * (t.val % 2) + b.val) :
    bl (iblk m c 0 t) (iblk m c 1 t) a b = prod m c 0 r x := by
  unfold bl prod
  refine Finset.sum_congr rfl fun k _ => ?_
  obtain ⟨e0, e1⟩ := idx0 t
  obtain ⟨f0, f1, f2⟩ := idx1 t
  unfold hA wA
  congr 1 <;> blk_ext [iblk, V, e0, e1, f0, f1, f2]

theorem bl_up (c : Dev nD) (t : Fin cfg0.N) (a : Fin 768) (b : Fin 1408) (r : Fin 9216) (x : Fin 2816)
    (hr : r.val = 768 * (t.val / 2) + a.val) (hx : x.val = 1408 * (t.val % 2) + b.val) :
    bl (iblk m c 0 t) (iblk m c 2 t) a b = prod m c 1 r x := by
  unfold bl prod
  refine Finset.sum_congr rfl fun k _ => ?_
  obtain ⟨e0, e1⟩ := idx0 t
  obtain ⟨f0, f1, f2⟩ := idx2 t
  unfold hA wA
  congr 1 <;> blk_ext [iblk, V, e0, e1, f0, f1, f2]

/-! The two-halves array. -/

theorem emb3_half (t : Fin cfg0.N) (j : S2x768x1408.Idx) :
    (((cfg0.win 3).blk t).view.emb j (0 : Fin 3)).val = (j 0).val := by
  obtain ⟨e0, e1, e2⟩ := idx3 t
  show win0_3.index t (0 : Fin 3) * 2 + 1 * (j 0).val = _
  omega
theorem emb3_row (t : Fin cfg0.N) (j : S2x768x1408.Idx) :
    (((cfg0.win 3).blk t).view.emb j (1 : Fin 3)).val = 768 * (t.val / 2) + (j 1).val := by
  obtain ⟨e0, e1, e2⟩ := idx3 t
  show win0_3.index t (1 : Fin 3) * 768 + 1 * (j 1).val = _
  omega
theorem emb3_col (t : Fin cfg0.N) (j : S2x768x1408.Idx) :
    (((cfg0.win 3).blk t).view.emb j (2 : Fin 3)).val = 1408 * (t.val % 2) + (j 2).val := by
  obtain ⟨e0, e1, e2⟩ := idx3 t
  show win0_3.index t (2 : Fin 3) * 1408 + 1 * (j 2).val = _
  omega

theorem blk3_at (c : Dev nD) (t : Fin cfg0.N) (q : Fin 2) (a : Fin 768) (b : Fin 1408) (q' : Fin 2) (r : Fin 9216)
    (x : Fin 2816) (hq : q'.val = q.val) (hr : r.val = 768 * (t.val / 2) + a.val)
    (hx : x.val = 1408 * (t.val % 2) + b.val) :
    (out0_3 (iblk m c 0 t) (iblk m c 1 t) (iblk m c 2 t) (ix3 q a b) : EReal) = prod m c q' r x := by
  obtain rfl : q' = q := Fin.ext hq
  match q' with
  | ⟨0, _⟩ => exact (out3_gate (iblk m c 0 t) (iblk m c 1 t) (iblk m c 2 t) a b).trans (bl_gate m c t a b r x hr hx)
  | ⟨1, _⟩ => exact (out3_up (iblk m c 0 t) (iblk m c 1 t) (iblk m c 2 t) a b).trans (bl_up m c t a b r x hr hx)

theorem flushed3_eq (c : Dev nD) (t : Fin cfg0.N) :
    (dats m 0 c).flushed 3 t = ((cfg0.win 3).blk t).view.read (Elt Ideal) (GU m c) := by
  rw [flushed3 m c t]
  funext j
  show out0_3 (iblk m c 0 t) (iblk m c 1 t) (iblk m c 2 t) j = prod m c (((cfg0.win 3).blk t).view.emb j (0 : Fin 3))
    (((cfg0.win 3).blk t).view.emb j (1 : Fin 3)) (((cfg0.win 3).blk t).view.emb j (2 : Fin 3))
  rw [← blk3_at m c t (j 0) (j 1) (j 2) _ _ _ (emb3_half t j) (emb3_row t j) (emb3_col t j)]
  exact congrArg (out0_3 (iblk m c 0 t) (iblk m c 1 t) (iblk m c 2 t)) (eq_ix3 j)

theorem covered3 (i : S2x9216x2816.Idx) :
    ∃ t : Fin cfg0.N, (cfg0.win 3).flush t = true ∧ i ∈ ((cfg0.win 3).blk t).view.set := by
  have h1 : (i 1).val < 9216 := (i 1).isLt
  have h2 : (i 2).val < 2816 := (i 2).isLt
  let t : Fin cfg0.N := ⟨2 * ((i 1).val / 768) + (i 2).val / 1408, by show _ < 24; omega⟩
  refine ⟨t, flush0_3 t, ?_⟩
  let j : S2x768x1408.Idx :=
    ix3 (i 0) ⟨(i 1).val % 768, Nat.mod_lt _ (by decide)⟩ ⟨(i 2).val % 1408, Nat.mod_lt _ (by decide)⟩
  have e : ((cfg0.win 3).blk t).view.emb j = i := by
    funext a
    apply Fin.ext
    match a with
    | ⟨0, _⟩ => exact emb3_half t j
    | ⟨1, _⟩ =>
      refine (emb3_row t j).trans ?_
      show 768 * ((2 * ((i 1).val / 768) + (i 2).val / 1408) / 2) + (i 1).val % 768 = (i 1).val
      omega
    | ⟨2, _⟩ =>
      refine (emb3_col t j).trans ?_
      show 1408 * ((2 * ((i 1).val / 768) + (i 2).val / 1408) % 2) + (i 2).val % 1408 = (i 2).val
      omega
  have h := ((cfg0.win 3).blk t).view.emb_mem_set j
  rwa [e] at h

/-- The first array after the run is the two halves. -/
theorem final3 (c : Dev nD) : (dats m 0 c).arrAt 3 cfg0.N = GU m c :=
  (dats m 0 c).arrAt_eq_of_cover 3 (GU m c) (fun t _ => flushed3_eq m c t) covered3

/-! The gated array. -/

theorem emb4_row (t : Fin cfg0.N) (j : S768x1408.Idx) :
    (((cfg0.win 4).blk t).view.emb j (0 : Fin 2)).val = 768 * (t.val / 2) + (j 0).val := by
  obtain ⟨e0, e1⟩ := idx4 t
  show win0_4.index t (0 : Fin 2) * 768 + 1 * (j 0).val = _
  omega
theorem emb4_col (t : Fin cfg0.N) (j : S768x1408.Idx) :
    (((cfg0.win 4).blk t).view.emb j (1 : Fin 2)).val = 1408 * (t.val % 2) + (j 1).val := by
  obtain ⟨e0, e1⟩ := idx4 t
  show win0_4.index t (1 : Fin 2) * 1408 + 1 * (j 1).val = _
  omega

theorem blk4_at (c : Dev nD) (t : Fin cfg0.N) (a : Fin 768) (b : Fin 1408) (r : Fin 9216) (x : Fin 2816)
    (hr : r.val = 768 * (t.val / 2) + a.val) (hx : x.val = 1408 * (t.val % 2) + b.val) :
    (out0_4 (iblk m c 0 t) (iblk m c 1 t) (iblk m c 2 t) (ix2 a b) : EReal)
      = swi (prod m c 0 r x) (prod m c 1 r x) := by
  refine (out4_at (iblk m c 0 t) (iblk m c 1 t) (iblk m c 2 t) a b).trans ?_
  rw [bl_gate m c t a b r x hr hx, bl_up m c t a b r x hr hx]

theorem flushed4_eq (c : Dev nD) (t : Fin cfg0.N) :
    (dats m 0 c).flushed 4 t = ((cfg0.win 4).blk t).view.read (Elt Ideal) (GA m c) := by
  rw [flushed4 m c t]
  funext j
  show out0_4 (iblk m c 0 t) (iblk m c 1 t) (iblk m c 2 t) j
    = swi (prod m c 0 (((cfg0.win 4).blk t).view.emb j (0 : Fin 2)) (((cfg0.win 4).blk t).view.emb j (1 : Fin 2)))
      (prod m c 1 (((cfg0.win 4).blk t).view.emb j (0 : Fin 2)) (((cfg0.win 4).blk t).view.emb j (1 : Fin 2)))
  rw [← blk4_at m c t (j 0) (j 1) _ _ (emb4_row t j) (emb4_col t j)]
  exact congrArg (out0_4 (iblk m c 0 t) (iblk m c 1 t) (iblk m c 2 t)) (eq_ix2 j)

theorem covered4 (i : S9216x2816.Idx) :
    ∃ t : Fin cfg0.N, (cfg0.win 4).flush t = true ∧ i ∈ ((cfg0.win 4).blk t).view.set := by
  have h1 : (i 0).val < 9216 := (i 0).isLt
  have h2 : (i 1).val < 2816 := (i 1).isLt
  let t : Fin cfg0.N := ⟨2 * ((i 0).val / 768) + (i 1).val / 1408, by show _ < 24; omega⟩
  refine ⟨t, flush0_4 t, ?_⟩
  let j : S768x1408.Idx :=
    ix2 ⟨(i 0).val % 768, Nat.mod_lt _ (by decide)⟩ ⟨(i 1).val % 1408, Nat.mod_lt _ (by decide)⟩
  have e : ((cfg0.win 4).blk t).view.emb j = i := by
    funext a
    apply Fin.ext
    match a with
    | ⟨0, _⟩ =>
      refine (emb4_row t j).trans ?_
      show 768 * ((2 * ((i 0).val / 768) + (i 1).val / 1408) / 2) + (i 0).val % 768 = (i 0).val
      omega
    | ⟨1, _⟩ =>
      refine (emb4_col t j).trans ?_
      show 1408 * ((2 * ((i 0).val / 768) + (i 1).val / 1408) % 2) + (i 1).val % 1408 = (i 1).val
      omega
  have h := ((cfg0.win 4).blk t).view.emb_mem_set j
  rwa [e] at h

/-- The second array after the run is the gated values. -/
theorem final4 (c : Dev nD) : (dats m 0 c).arrAt 4 cfg0.N = GA m c :=
  (dats m 0 c).arrAt_eq_of_cover 4 (GA m c) (fun t _ => flushed4_eq m c t) covered4

end Cert.Kernel8Ideal.Vals

end
-- ==== Proof.FfRef.lean ====
/-
  The feed-forward's first product with its gate: the reference's arrays at an index, and the equation with the kernel's.
-/
module

public import proofs.«01_k».proof.Defs
public import proofs.«01_k».proof.Proof.Gen.Reference8Ideal.Run
public import Idealize.ShloMosaic.Lib.Pipeline.ValueKit
public import proofs.«01_k».proof.Proof.FfVal

@[expose] public section

noncomputable section

namespace Cert.Reference8Ideal.Vals

open Idealize.ShloMosaic Idealize.ShloMosaic.TcCoe Idealize.ShloMosaic.Pointwise
open Cert.Reference8Ideal Cert.Reference8Ideal.Gen Cert.Reference8Ideal.Value

/-- The reference's product as a function of its arguments: gate columns first, then up columns. -/
def pr (h : FVec Ideal S9216x1024 .bf16) (w : FVec Ideal S4x1024x1408 .bf16) : FVec Ideal S9216x5632 .f32 :=
  Host.dotGeneral dot_S9216x1024_S1024x5632_S9216x5632_1_0_0_1_n_n none (extf .f32 h bitsLt_bf16_f32) (shapeCast _ (transpose S1024x4x1408 [1, 0, 2] (extf .f32 w bitsLt_bf16_f32) transposes_S4x1024x1408_S1024x4x1408_1_0_2) shapeCasts_S1024x4x1408_S1024x5632)

/-- The reference's two-halves array. -/
def gu (h : FVec Ideal S9216x1024 .bf16) (w : FVec Ideal S4x1024x1408 .bf16) : FVec Ideal S2x9216x2816 .bf16 :=
  truncf .bf16 (concatenate S2x9216x2816 0 [⟨S1x9216x2816, (broadcastInDim S1x9216x2816 ![1, 2] bcast_S9216x2816_S1x9216x2816_1_2 (extractStridedSlice S9216x2816 ![0, 0] (pr h w) slices_S9216x5632_S9216x2816_0_0))⟩, ⟨S1x9216x2816, (broadcastInDim S1x9216x2816 ![1, 2] bcast_S9216x2816_S1x9216x2816_1_2 (extractStridedSlice S9216x2816 ![0, 2816] (pr h w) slices_S9216x5632_S9216x2816_0_2816))⟩] concatenates_S1x9216x2816_S1x9216x2816_S2x9216x2816_d0) bitsLt_bf16_f32

/-- The reference's gated array. -/
def ga (h : FVec Ideal S9216x1024 .bf16) (w : FVec Ideal S4x1024x1408 .bf16) : FVec Ideal S9216x2816 .bf16 :=
  truncf .bf16 (mulf (mulf (extractStridedSlice S9216x2816 ![0, 0] (pr h w) slices_S9216x5632_S9216x2816_0_0) (Host.divf (broadcastInDim S9216x2816 ![] bcast_S_S9216x2816 (constant S_ .f32 0x3F800000#32)) (addf (broadcastInDim S9216x2816 ![] bcast_S_S9216x2816 (constant S_ .f32 0x3F800000#32)) (Host.exp (Host.negf (extractStridedSlice S9216x2816 ![0, 0] (pr h w) slices_S9216x5632_S9216x2816_0_0)))))) (extractStridedSlice S9216x2816 ![0, 2816] (pr h w) slices_S9216x5632_S9216x2816_0_2816)) bitsLt_bf16_f32

/-- The product's half `q` at row `r` and column `x`. -/
def hf (h : FVec Ideal S9216x1024 .bf16) (w : FVec Ideal S4x1024x1408 .bf16) (q : Fin 2) (r : Fin 9216) (x : Fin 2816) : EReal :=
  ∑ k : Fin 1024, (h (ix2 r k) : EReal)
    * w (ix3 (⟨2 * q.val + x.val / 1408, by omega⟩ : Fin 4) k (⟨x.val % 1408, by omega⟩ : Fin 1408))

theorem pr_at (h : FVec Ideal S9216x1024 .bf16) (w : FVec Ideal S4x1024x1408 .bf16) (r : Fin 9216) (x : Fin 5632) :
    (pr h w (ix2 r x) : EReal) = ∑ k : Fin 1024, (h (ix2 r k) : EReal)
      * w (ix3 (⟨x.val / 1408, by omega⟩ : Fin 4) k (⟨x.val % 1408, by omega⟩ : Fin 1408)) := by
  pointwise [pr]

theorem pr_half (h : FVec Ideal S9216x1024 .bf16) (w : FVec Ideal S4x1024x1408 .bf16) (q : Fin 2) (r : Fin 9216)
    (x : Fin 2816) (y : Fin 5632) (hy : y.val = 2816 * q.val + x.val) : (pr h w (ix2 r y) : EReal) = hf h w q r x := by
  refine (pr_at h w r y).trans ?_
  unfold hf
  refine Finset.sum_congr rfl fun k _ => ?_
  have e0 : (⟨y.val / 1408, by omega⟩ : Fin 4) = ⟨2 * q.val + x.val / 1408, by omega⟩ := Fin.ext (by
    show y.val / 1408 = 2 * q.val + x.val / 1408
    omega)
  have e1 : (⟨y.val % 1408, by omega⟩ : Fin 1408) = ⟨x.val % 1408, by omega⟩ := Fin.ext (by
    show y.val % 1408 = x.val % 1408
    omega)
  rw [e0, e1]

theorem gu_gate (h : FVec Ideal S9216x1024 .bf16) (w : FVec Ideal S4x1024x1408 .bf16) (r : Fin 9216) (x : Fin 2816) :
    (gu h w (ix3 0 r x) : EReal) = pr h w (ix2 r (⟨x.val, by omega⟩ : Fin 5632)) := by
  pointwise [gu]

theorem gu_up (h : FVec Ideal S9216x1024 .bf16) (w : FVec Ideal S4x1024x1408 .bf16) (r : Fin 9216) (x : Fin 2816) :
    (gu h w (ix3 1 r x) : EReal) = pr h w (ix2 r (⟨2816 + x.val, by omega⟩ : Fin 5632)) := by
  pointwise [gu]

theorem ga_at (h : FVec Ideal S9216x1024 .bf16) (w : FVec Ideal S4x1024x1408 .bf16) (r : Fin 9216) (x : Fin 2816) :
    (ga h w (ix2 r x) : EReal) = Cert.Kernel8Ideal.Vals.swi (pr h w (ix2 r (⟨x.val, by omega⟩ : Fin 5632)))
      (pr h w (ix2 r (⟨2816 + x.val, by omega⟩ : Fin 5632))) := by
  unfold Cert.Kernel8Ideal.Vals.swi
  pointwise [ga]

end Cert.Reference8Ideal.Vals

namespace Cert.Equation8

open Idealize.ShloMosaic Idealize.SL.Sem Idealize.ShloMosaic.Pointwise
open Idealize.ShloMosaic.TcCoe
open Cert.Reference8Ideal.Vals

theorem eqGu (m : (ℓ : Loc Cert.Kernel8Ideal.nD Cert.Kernel8Ideal.τ Cert.Kernel8Ideal.sig) → Buf (Elt Ideal) ℓ)
    (c : Dev Cert.Kernel8Ideal.nD) :
    gu (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1)) = Cert.Kernel8Ideal.Vals.GU m c := by
  funext i
  have e : i = ix3 (n0 := 2) (n1 := 9216) (n2 := 2816) (i 0) (i 1) (i 2) := eq_ix3 (n0 := 2) (n1 := 9216) (n2 := 2816) i
  rw [e]
  generalize i 0 = q, i 1 = r, i 2 = x
  match q with
  | ⟨0, _⟩ => exact (gu_gate _ _ r x).trans (pr_half _ _ 0 r x _ (by show x.val = 2816 * 0 + x.val; omega))
  | ⟨1, _⟩ => exact (gu_up _ _ r x).trans (pr_half _ _ 1 r x _ (by show 2816 + x.val = 2816 * 1 + x.val; omega))

theorem eqGa (m : (ℓ : Loc Cert.Kernel8Ideal.nD Cert.Kernel8Ideal.τ Cert.Kernel8Ideal.sig) → Buf (Elt Ideal) ℓ)
    (c : Dev Cert.Kernel8Ideal.nD) :
    ga (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1)) = Cert.Kernel8Ideal.Vals.GA m c := by
  funext i
  have e : i = ix2 (n0 := 9216) (n1 := 2816) (i 0) (i 1) := eq_ix2 (n0 := 9216) (n1 := 2816) i
  rw [e]
  generalize i 0 = r, i 1 = x
  refine (ga_at _ _ r x).trans ?_
  rw [pr_half _ _ 0 r x _ (by show x.val = 2816 * 0 + x.val; omega),
    pr_half _ _ 1 r x _ (by show 2816 + x.val = 2816 * 1 + x.val; omega)]
  rfl

/-- Kernel and reference leave the same two halves and the same gated values. -/
theorem algebraic : Cert.algebraic_Kernel8Ideal_Reference8Ideal := fun m g m' g' _ hagree =>
  ⟨fun c => Cert.Kernel8Ideal.Vals.GU m c, fun c => Cert.Kernel8Ideal.Vals.GA m c,
    (θ_run Cert.Kernel8Ideal.defs _ _).mono
      (fun _ h c => ⟨(h c).1.trans (Cert.Kernel8Ideal.Vals.final3 m c),
        (h c).2.1.trans (Cert.Kernel8Ideal.Vals.final4 m c), (h c).2.2⟩)
      (Cert.Kernel8Ideal.Value.run_blocks (F := Ideal) m g),
    (θ_run Cert.Reference8Ideal.defs _ _).mono
      (fun _ h c => ⟨(h c).1.trans (by
        have e0 := (hagree c).1
        have e1 := (hagree c).2
        show gu _ _ = _
        rw [e0, e1]
        exact eqGu m c), (h c).2.1.trans (by
        have e0 := (hagree c).1
        have e1 := (hagree c).2
        show ga _ _ = _
        rw [e0, e1]
        exact eqGa m c), (h c).2.2⟩)
      (Cert.Reference8Ideal.Value.run (F := Ideal) m' g')⟩

end Cert.Equation8

end
-- ==== Proof.lean ====
/-
  The claims, for each of eight calls of the step: kernel, idealised kernel and reference end without fault with their
  arguments unchanged, the idealised kernel is the kernel read over the extended reals, and kernel and reference compute
  the same arrays.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.RefRun
public import proofs.«01_k».proof.Proof.Equation
public import proofs.«01_k».proof.Proof.Gen.Kernel2
public import proofs.«01_k».proof.Proof.Gen.Kernel3
public import proofs.«01_k».proof.Proof.Gen.Kernel2.Frame
public import proofs.«01_k».proof.Proof.Gen.Kernel3.Frame
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Run
public import proofs.«01_k».proof.Proof.DwRef
public import proofs.«01_k».proof.Proof.DxRef
public import proofs.«01_k».proof.Proof.QwRef
public import proofs.«01_k».proof.Proof.QxRef
public import proofs.«01_k».proof.Proof.QfRef
public import proofs.«01_k».proof.Proof.OwRef
public import proofs.«01_k».proof.Proof.FfRef
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The two programs run the same functions at their labels. -/
theorem labels_eq : Cert.KernelIdeal.defs₀ (F := Bits) = Cert.Kernel.defs₀ (F := Bits) := by
  unfold Cert.KernelIdeal.defs₀ Cert.Kernel.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.KernelIdeal.defs (F := Bits) = Cert.Kernel.defs (F := Bits) :=
  congrArg (Pipeline.defs Cert.KernelIdeal.pcfgs) labels_eq

/-- The kernel as it runs: it ends, with its arguments unchanged and every counter at zero. -/
theorem frame_kernel : Cert.quiescent_Kernel := fun m ρ _ => by
  have h := (θ_run (Cert.KernelIdeal.defs (F := Bits)) (onTc (τ := Cert.KernelIdeal.τ) (Cert.KernelIdeal.main (F := Bits))) ⟨m, fun _ => 0, ρ⟩).mono
    (fun r h => (⟨fun c => ⟨Cert.KernelIdeal.Steps.final_arg0 h.1 c, Cert.KernelIdeal.Steps.final_arg1 h.1 c,
      Cert.KernelIdeal.Steps.final_arg2 h.1 c⟩, h.2⟩ : (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0))
    (Cert.KernelIdeal.Steps.run_main (F := Bits) m ρ)
  rw [defs_eq] at h
  exact h

/-- The same over the extended reals. -/
theorem frame_kernelideal : Cert.quiescent_KernelIdeal := fun m ρ _ =>
  (θ_run Cert.KernelIdeal.defs _ _).mono
    (fun _ h => ⟨fun c => ⟨Cert.KernelIdeal.Steps.final_arg0 h.1 c, Cert.KernelIdeal.Steps.final_arg1 h.1 c,
      Cert.KernelIdeal.Steps.final_arg2 h.1 c⟩, h.2⟩)
    (Cert.KernelIdeal.Steps.run_main (F := Ideal) m ρ)

/-- The reference ends with its arguments unchanged. -/
theorem frame_reference : Cert.quiescent_ReferenceIdeal := fun m ρ _ =>
  (θ_run Cert.ReferenceIdeal.defs _ _).mono
    (fun r h => ⟨fun c =>
      ⟨(h.1 c Cert.ReferenceIdeal.main_arg0 rfl).trans (Cert.ReferenceIdeal.Run.fin_keep m c (by decide +kernel) (by decide +kernel) (by decide +kernel) (by decide +kernel) (by decide +kernel) (by decide +kernel) (by decide +kernel)),
       (h.1 c Cert.ReferenceIdeal.main_arg1 rfl).trans (Cert.ReferenceIdeal.Run.fin_keep m c (by decide +kernel) (by decide +kernel) (by decide +kernel) (by decide +kernel) (by decide +kernel) (by decide +kernel) (by decide +kernel)),
       (h.1 c Cert.ReferenceIdeal.main_arg2 rfl).trans (Cert.ReferenceIdeal.Run.fin_keep m c (by decide +kernel) (by decide +kernel) (by decide +kernel) (by decide +kernel) (by decide +kernel) (by decide +kernel) (by decide +kernel))⟩, h.2⟩)
    (Cert.ReferenceIdeal.Run.run_ref m ρ)

/-- Kernel and reference leave the same three arrays. -/
theorem algebraic : Cert.algebraic_KernelIdeal_ReferenceIdeal := Cert.Equation.algebraic

/-- The weight-gradient kernel as it runs, over the extended reals, and its reference: each ends with its arguments unchanged. -/
theorem frame_kernel2 : Cert.quiescent_Kernel2 := fun m ρ _ => Cert.Kernel2.Gen.frame m ρ
theorem frame_kernel2ideal : Cert.quiescent_Kernel2Ideal := fun m ρ _ => Cert.Kernel2Ideal.Gen.frame m ρ
theorem frame_reference2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The row-gradient kernel as it runs, over the extended reals, and its reference: each ends with its arguments unchanged. -/
theorem frame_kernel3 : Cert.quiescent_Kernel3 := fun m ρ _ => Cert.Kernel3.Gen.frame m ρ
theorem frame_kernel3ideal : Cert.quiescent_Kernel3Ideal := fun m ρ _ => Cert.Kernel3Ideal.Gen.frame m ρ
theorem frame_reference3 : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The retention projection's weight gradient: the kernel as it runs, over the extended reals, and its reference: each ends with its arguments unchanged. -/
theorem frame_kernel4 : Cert.quiescent_Kernel4 := fun m ρ _ => Cert.Kernel4.Gen.frame m ρ
theorem frame_kernel4ideal : Cert.quiescent_Kernel4Ideal := fun m ρ _ => Cert.Kernel4Ideal.Gen.frame m ρ
theorem frame_reference4 : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- The retention projection's row gradient: the kernel as it runs, over the extended reals, and its reference: each ends with its arguments unchanged. -/
theorem frame_kernel5 : Cert.quiescent_Kernel5 := fun m ρ _ => Cert.Kernel5.Gen.frame m ρ
theorem frame_kernel5ideal : Cert.quiescent_Kernel5Ideal := fun m ρ _ => Cert.Kernel5Ideal.Gen.frame m ρ
theorem frame_reference5 : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- The retention's projection: the kernel as it runs, over the extended reals, and its reference: each ends with its arguments unchanged. -/
theorem frame_kernel6 : Cert.quiescent_Kernel6 := fun m ρ _ => Cert.Kernel6.Gen.frame m ρ
theorem frame_kernel6ideal : Cert.quiescent_Kernel6Ideal := fun m ρ _ => Cert.Kernel6Ideal.Gen.frame m ρ
theorem frame_reference6 : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- The feed-forward's second weight gradient: the kernel as it runs, over the extended reals, and its reference: each ends with its arguments unchanged. -/
theorem frame_kernel7 : Cert.quiescent_Kernel7 := fun m ρ _ => Cert.Kernel7.Gen.frame m ρ
theorem frame_kernel7ideal : Cert.quiescent_Kernel7Ideal := fun m ρ _ => Cert.Kernel7Ideal.Gen.frame m ρ
theorem frame_reference7 : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run (F := Ideal) m ρ)

/-- The feed-forward's first product with its gate: the kernel as it runs, over the extended reals, and its reference: each ends with its arguments unchanged. -/
theorem frame_kernel8 : Cert.quiescent_Kernel8 := fun m ρ _ => Cert.Kernel8.Gen.frame m ρ
theorem frame_kernel8ideal : Cert.quiescent_Kernel8Ideal := fun m ρ _ => Cert.Kernel8Ideal.Gen.frame m ρ
theorem frame_reference8 : Cert.quiescent_Reference8Ideal := fun m ρ _ =>
  (θ_run Cert.Reference8Ideal.defs _ _).mono
    (fun r h => ⟨fun c => (h c).2.2, sem_eq_zero_of_no_sems (by decide) r.2⟩)
    (Cert.Reference8Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  frame_kernel, frame_kernelideal, frame_reference,
  frame_kernel2, frame_kernel2ideal, frame_reference2,
  frame_kernel3, frame_kernel3ideal, frame_reference3,
  frame_kernel4, frame_kernel4ideal, frame_reference4,
  frame_kernel5, frame_kernel5ideal, frame_reference5,
  frame_kernel6, frame_kernel6ideal, frame_reference6,
  frame_kernel7, frame_kernel7ideal, frame_reference7,
  frame_kernel8, frame_kernel8ideal, frame_reference8,
  trivial, algebraic,
  trivial, Cert.Equation2.algebraic,
  trivial, Cert.Equation3.algebraic,
  trivial, Cert.Equation4.algebraic,
  trivial, Cert.Equation5.algebraic,
  trivial, Cert.Equation6.algebraic,
  trivial, Cert.Equation7.algebraic,
  trivial, Cert.Equation8.algebraic⟩

end Cert.Proof

end
